-- ==== Defs.lean ====
def Pre_MemNorm (m : (ℓ : Loc Cert.MemNorm.nD Cert.MemNorm.τ Cert.MemNorm.sig) → Buf (Elt Bits) ℓ) : Prop :=
  True

def Pre_MemNormIdeal (m : (ℓ : Loc Cert.MemNormIdeal.nD Cert.MemNormIdeal.τ Cert.MemNormIdeal.sig) → Buf (Elt Ideal) ℓ) : Prop :=
  True

def Pre_MemNormRefIdeal (m : (ℓ : Loc Cert.MemNormRefIdeal.nD Cert.MemNormRefIdeal.τ Cert.MemNormRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_cross_finite [hPre_cross_finite : Cert.Pre_cross_finite.Facts] (m : (ℓ : Loc Cert.CrossIdeal.nD Cert.CrossIdeal.τ Cert.CrossIdeal.sig) → Buf (Elt Ideal) ℓ) : Prop :=
  ∀ c : Dev Cert.CrossIdeal.nD,
    (Cert.Pre_cross_finite.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2))).1 = (fun _ => 1#1)
    ∧ (Cert.Pre_cross_finite.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2))).2.1 = (fun _ => 1#1)
    ∧ (Cert.Pre_cross_finite.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2))).2.2 = (fun _ => 1#1)

def Pre_CrossRefIdeal (m : (ℓ : Loc Cert.CrossRefIdeal.nD Cert.CrossRefIdeal.τ Cert.CrossRefIdeal.sig) → Buf (Elt Ideal) ℓ) : Prop :=
  True

def Pre_CrossRefIdeal_cross_finite [hPre_cross_finite : Cert.Pre_cross_finite.Facts] (m : (ℓ : Loc Cert.CrossRefIdeal.nD Cert.CrossRefIdeal.τ Cert.CrossRefIdeal.sig) → Buf (Elt Ideal) ℓ) : Prop :=
  ∀ c : Dev Cert.CrossRefIdeal.nD,
    (Cert.Pre_cross_finite.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2))).1 = (fun _ => 1#1)
    ∧ (Cert.Pre_cross_finite.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2))).2.1 = (fun _ => 1#1)
    ∧ (Cert.Pre_cross_finite.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2))).2.2 = (fun _ => 1#1)

def Pre_ShortConv (m : (ℓ : Loc Cert.ShortConv.nD Cert.ShortConv.τ Cert.ShortConv.sig) → Buf (Elt Bits) ℓ) : Prop :=
  True

def Pre_ShortConvIdeal (m : (ℓ : Loc Cert.ShortConvIdeal.nD Cert.ShortConvIdeal.τ Cert.ShortConvIdeal.sig) → Buf (Elt Ideal) ℓ) : Prop :=
  True

def Pre_ShortConvRefIdeal (m : (ℓ : Loc Cert.ShortConvRefIdeal.nD Cert.ShortConvRefIdeal.τ Cert.ShortConvRefIdeal.sig) → Buf (Elt Ideal) ℓ) : Prop :=
  True

def Pre_NormEven (m : (ℓ : Loc Cert.NormEven.nD Cert.NormEven.τ Cert.NormEven.sig) → Buf (Elt Bits) ℓ) : Prop :=
  True

def Pre_NormEvenIdeal (m : (ℓ : Loc Cert.NormEvenIdeal.nD Cert.NormEvenIdeal.τ Cert.NormEvenIdeal.sig) → Buf (Elt Ideal) ℓ) : Prop :=
  True

def Pre_NormEvenRefIdeal (m : (ℓ : Loc Cert.NormEvenRefIdeal.nD Cert.NormEvenRefIdeal.τ Cert.NormEvenRefIdeal.sig) → Buf (Elt Ideal) ℓ) : Prop :=
  True

def Pre_NormOdd (m : (ℓ : Loc Cert.NormOdd.nD Cert.NormOdd.τ Cert.NormOdd.sig) → Buf (Elt Bits) ℓ) : Prop :=
  True

def Pre_NormOddIdeal (m : (ℓ : Loc Cert.NormOddIdeal.nD Cert.NormOddIdeal.τ Cert.NormOddIdeal.sig) → Buf (Elt Ideal) ℓ) : Prop :=
  True

def Pre_NormOddRefIdeal (m : (ℓ : Loc Cert.NormOddRefIdeal.nD Cert.NormOddRefIdeal.τ Cert.NormOddRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.2 = (fun _ => 1#1)

def Pre_CrossFwd (m : (ℓ : Loc Cert.CrossFwd.nD Cert.CrossFwd.τ Cert.CrossFwd.sig) → Buf (Elt Bits) ℓ) : Prop :=
  True

def Pre_CrossFwdIdeal (m : (ℓ : Loc Cert.CrossFwdIdeal.nD Cert.CrossFwdIdeal.τ Cert.CrossFwdIdeal.sig) → Buf (Elt Ideal) ℓ) : Prop :=
  True

def Pre_CrossFwdIdeal_cross_fwd_finite [hPre_cross_fwd_finite : Cert.Pre_cross_fwd_finite.Facts] (m : (ℓ : Loc Cert.CrossFwdIdeal.nD Cert.CrossFwdIdeal.τ Cert.CrossFwdIdeal.sig) → Buf (Elt Ideal) ℓ) : Prop :=
  ∀ c : Dev Cert.CrossFwdIdeal.nD,
    (Cert.Pre_cross_fwd_finite.fn (F := Ideal) (m ((c.tc : Thread Cert.CrossFwdIdeal.nD Cert.CrossFwdIdeal.τ).loc Cert.CrossFwdIdeal.main_arg0)) (m ((c.tc : Thread Cert.CrossFwdIdeal.nD Cert.CrossFwdIdeal.τ).loc Cert.CrossFwdIdeal.main_arg1)) (m ((c.tc : Thread Cert.CrossFwdIdeal.nD Cert.CrossFwdIdeal.τ).loc Cert.CrossFwdIdeal.main_arg2)) (m ((c.tc : Thread Cert.CrossFwdIdeal.nD Cert.CrossFwdIdeal.τ).loc Cert.CrossFwdIdeal.main_arg3)) (m ((c.tc : Thread Cert.CrossFwdIdeal.nD Cert.CrossFwdIdeal.τ).loc Cert.CrossFwdIdeal.main_arg4))).1 = (fun _ => 1#1)
    ∧ (Cert.Pre_cross_fwd_finite.fn (F := Ideal) (m ((c.tc : Thread Cert.CrossFwdIdeal.nD Cert.CrossFwdIdeal.τ).loc Cert.CrossFwdIdeal.main_arg0)) (m ((c.tc : Thread Cert.CrossFwdIdeal.nD Cert.CrossFwdIdeal.τ).loc Cert.CrossFwdIdeal.main_arg1)) (m ((c.tc : Thread Cert.CrossFwdIdeal.nD Cert.CrossFwdIdeal.τ).loc Cert.CrossFwdIdeal.main_arg2)) (m ((c.tc : Thread Cert.CrossFwdIdeal.nD Cert.CrossFwdIdeal.τ).loc Cert.CrossFwdIdeal.main_arg3)) (m ((c.tc : Thread Cert.CrossFwdIdeal.nD Cert.CrossFwdIdeal.τ).loc Cert.CrossFwdIdeal.main_arg4))).2.1 = (fun _ => 1#1)
    ∧ (Cert.Pre_cross_fwd_finite.fn (F := Ideal) (m ((c.tc : Thread Cert.CrossFwdIdeal.nD Cert.CrossFwdIdeal.τ).loc Cert.CrossFwdIdeal.main_arg0)) (m ((c.tc : Thread Cert.CrossFwdIdeal.nD Cert.CrossFwdIdeal.τ).loc Cert.CrossFwdIdeal.main_arg1)) (m ((c.tc : Thread Cert.CrossFwdIdeal.nD Cert.CrossFwdIdeal.τ).loc Cert.CrossFwdIdeal.main_arg2)) (m ((c.tc : Thread Cert.CrossFwdIdeal.nD Cert.CrossFwdIdeal.τ).loc Cert.CrossFwdIdeal.main_arg3)) (m ((c.tc : Thread Cert.CrossFwdIdeal.nD Cert.CrossFwdIdeal.τ).loc Cert.CrossFwdIdeal.main_arg4))).2.2 = (fun _ => 1#1)

def Pre_CrossFwdRefIdeal (m : (ℓ : Loc Cert.CrossFwdRefIdeal.nD Cert.CrossFwdRefIdeal.τ Cert.CrossFwdRefIdeal.sig) → Buf (Elt Ideal) ℓ) : Prop :=
  True

def Pre_CrossFwdRefIdeal_cross_fwd_finite [hPre_cross_fwd_finite : Cert.Pre_cross_fwd_finite.Facts] (m : (ℓ : Loc Cert.CrossFwdRefIdeal.nD Cert.CrossFwdRefIdeal.τ Cert.CrossFwdRefIdeal.sig) → Buf (Elt Ideal) ℓ) : Prop :=
  ∀ c : Dev Cert.CrossFwdRefIdeal.nD,
    (Cert.Pre_cross_fwd_finite.fn (F := Ideal) (m ((c.tc : Thread Cert.CrossFwdRefIdeal.nD Cert.CrossFwdRefIdeal.τ).loc Cert.CrossFwdRefIdeal.main_arg0)) (m ((c.tc : Thread Cert.CrossFwdRefIdeal.nD Cert.CrossFwdRefIdeal.τ).loc Cert.CrossFwdRefIdeal.main_arg1)) (m ((c.tc : Thread Cert.CrossFwdRefIdeal.nD Cert.CrossFwdRefIdeal.τ).loc Cert.CrossFwdRefIdeal.main_arg2)) (m ((c.tc : Thread Cert.CrossFwdRefIdeal.nD Cert.CrossFwdRefIdeal.τ).loc Cert.CrossFwdRefIdeal.main_arg3)) (m ((c.tc : Thread Cert.CrossFwdRefIdeal.nD Cert.CrossFwdRefIdeal.τ).loc Cert.CrossFwdRefIdeal.main_arg4))).1 = (fun _ => 1#1)
    ∧ (Cert.Pre_cross_fwd_finite.fn (F := Ideal) (m ((c.tc : Thread Cert.CrossFwdRefIdeal.nD Cert.CrossFwdRefIdeal.τ).loc Cert.CrossFwdRefIdeal.main_arg0)) (m ((c.tc : Thread Cert.CrossFwdRefIdeal.nD Cert.CrossFwdRefIdeal.τ).loc Cert.CrossFwdRefIdeal.main_arg1)) (m ((c.tc : Thread Cert.CrossFwdRefIdeal.nD Cert.CrossFwdRefIdeal.τ).loc Cert.CrossFwdRefIdeal.main_arg2)) (m ((c.tc : Thread Cert.CrossFwdRefIdeal.nD Cert.CrossFwdRefIdeal.τ).loc Cert.CrossFwdRefIdeal.main_arg3)) (m ((c.tc : Thread Cert.CrossFwdRefIdeal.nD Cert.CrossFwdRefIdeal.τ).loc Cert.CrossFwdRefIdeal.main_arg4))).2.1 = (fun _ => 1#1)
    ∧ (Cert.Pre_cross_fwd_finite.fn (F := Ideal) (m ((c.tc : Thread Cert.CrossFwdRefIdeal.nD Cert.CrossFwdRefIdeal.τ).loc Cert.CrossFwdRefIdeal.main_arg0)) (m ((c.tc : Thread Cert.CrossFwdRefIdeal.nD Cert.CrossFwdRefIdeal.τ).loc Cert.CrossFwdRefIdeal.main_arg1)) (m ((c.tc : Thread Cert.CrossFwdRefIdeal.nD Cert.CrossFwdRefIdeal.τ).loc Cert.CrossFwdRefIdeal.main_arg2)) (m ((c.tc : Thread Cert.CrossFwdRefIdeal.nD Cert.CrossFwdRefIdeal.τ).loc Cert.CrossFwdRefIdeal.main_arg3)) (m ((c.tc : Thread Cert.CrossFwdRefIdeal.nD Cert.CrossFwdRefIdeal.τ).loc Cert.CrossFwdRefIdeal.main_arg4))).2.2 = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_ShortConvFwd (m : (ℓ : Loc Cert.ShortConvFwd.nD Cert.ShortConvFwd.τ Cert.ShortConvFwd.sig) → Buf (Elt Bits) ℓ) : Prop :=
  True

def Pre_ShortConvFwdIdeal (m : (ℓ : Loc Cert.ShortConvFwdIdeal.nD Cert.ShortConvFwdIdeal.τ Cert.ShortConvFwdIdeal.sig) → Buf (Elt Ideal) ℓ) : Prop :=
  True

def Pre_ShortConvFwdRefIdeal (m : (ℓ : Loc Cert.ShortConvFwdRefIdeal.nD Cert.ShortConvFwdRefIdeal.τ Cert.ShortConvFwdRefIdeal.sig) → Buf (Elt Ideal) ℓ) : Prop :=
  True

def Pre_MemNormFwd (m : (ℓ : Loc Cert.MemNormFwd.nD Cert.MemNormFwd.τ Cert.MemNormFwd.sig) → Buf (Elt Bits) ℓ) : Prop :=
  True

def Pre_MemNormFwdIdeal (m : (ℓ : Loc Cert.MemNormFwdIdeal.nD Cert.MemNormFwdIdeal.τ Cert.MemNormFwdIdeal.sig) → Buf (Elt Ideal) ℓ) : Prop :=
  True

def Pre_MemNormFwdRefIdeal (m : (ℓ : Loc Cert.MemNormFwdRefIdeal.nD Cert.MemNormFwdRefIdeal.τ Cert.MemNormFwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_WindowFwd (m : (ℓ : Loc Cert.WindowFwd.nD Cert.WindowFwd.τ Cert.WindowFwd.sig) → Buf (Elt Bits) ℓ) : Prop :=
  True

def Pre_WindowFwdIdeal (m : (ℓ : Loc Cert.WindowFwdIdeal.nD Cert.WindowFwdIdeal.τ Cert.WindowFwdIdeal.sig) → Buf (Elt Ideal) ℓ) : Prop :=
  True

def Pre_WindowFwdIdeal_window_fwd_finite [hPre_window_fwd_finite : Cert.Pre_window_fwd_finite.Facts] (m : (ℓ : Loc Cert.WindowFwdIdeal.nD Cert.WindowFwdIdeal.τ Cert.WindowFwdIdeal.sig) → Buf (Elt Ideal) ℓ) : Prop :=
  ∀ c : Dev Cert.WindowFwdIdeal.nD,
    (Cert.Pre_window_fwd_finite.fn (F := Ideal) (m ((c.tc : Thread Cert.WindowFwdIdeal.nD Cert.WindowFwdIdeal.τ).loc Cert.WindowFwdIdeal.main_arg0)) (m ((c.tc : Thread Cert.WindowFwdIdeal.nD Cert.WindowFwdIdeal.τ).loc Cert.WindowFwdIdeal.main_arg1)) (m ((c.tc : Thread Cert.WindowFwdIdeal.nD Cert.WindowFwdIdeal.τ).loc Cert.WindowFwdIdeal.main_arg2))).1 = (fun _ => 1#1)
    ∧ (Cert.Pre_window_fwd_finite.fn (F := Ideal) (m ((c.tc : Thread Cert.WindowFwdIdeal.nD Cert.WindowFwdIdeal.τ).loc Cert.WindowFwdIdeal.main_arg0)) (m ((c.tc : Thread Cert.WindowFwdIdeal.nD Cert.WindowFwdIdeal.τ).loc Cert.WindowFwdIdeal.main_arg1)) (m ((c.tc : Thread Cert.WindowFwdIdeal.nD Cert.WindowFwdIdeal.τ).loc Cert.WindowFwdIdeal.main_arg2))).2 = (fun _ => 1#1)

def Pre_WindowFwdRefIdeal (m : (ℓ : Loc Cert.WindowFwdRefIdeal.nD Cert.WindowFwdRefIdeal.τ Cert.WindowFwdRefIdeal.sig) → Buf (Elt Ideal) ℓ) : Prop :=
  True

def Pre_WindowFwdRefIdeal_window_fwd_finite [hPre_window_fwd_finite : Cert.Pre_window_fwd_finite.Facts] (m : (ℓ : Loc Cert.WindowFwdRefIdeal.nD Cert.WindowFwdRefIdeal.τ Cert.WindowFwdRefIdeal.sig) → Buf (Elt Ideal) ℓ) : Prop :=
  ∀ c : Dev Cert.WindowFwdRefIdeal.nD,
    (Cert.Pre_window_fwd_finite.fn (F := Ideal) (m ((c.tc : Thread Cert.WindowFwdRefIdeal.nD Cert.WindowFwdRefIdeal.τ).loc Cert.WindowFwdRefIdeal.main_arg0)) (m ((c.tc : Thread Cert.WindowFwdRefIdeal.nD Cert.WindowFwdRefIdeal.τ).loc Cert.WindowFwdRefIdeal.main_arg1)) (m ((c.tc : Thread Cert.WindowFwdRefIdeal.nD Cert.WindowFwdRefIdeal.τ).loc Cert.WindowFwdRefIdeal.main_arg2))).1 = (fun _ => 1#1)
    ∧ (Cert.Pre_window_fwd_finite.fn (F := Ideal) (m ((c.tc : Thread Cert.WindowFwdRefIdeal.nD Cert.WindowFwdRefIdeal.τ).loc Cert.WindowFwdRefIdeal.main_arg0)) (m ((c.tc : Thread Cert.WindowFwdRefIdeal.nD Cert.WindowFwdRefIdeal.τ).loc Cert.WindowFwdRefIdeal.main_arg1)) (m ((c.tc : Thread Cert.WindowFwdRefIdeal.nD Cert.WindowFwdRefIdeal.τ).loc Cert.WindowFwdRefIdeal.main_arg2))).2 = (fun _ => 1#1)

def Pre_Product (m : (ℓ : Loc Cert.Product.nD Cert.Product.τ Cert.Product.sig) → Buf (Elt Bits) ℓ) : Prop :=
  True

def Pre_ProductIdeal (m : (ℓ : Loc Cert.ProductIdeal.nD Cert.ProductIdeal.τ Cert.ProductIdeal.sig) → Buf (Elt Ideal) ℓ) : Prop :=
  True

def Pre_ProductRefIdeal (m : (ℓ : Loc Cert.ProductRefIdeal.nD Cert.ProductRefIdeal.τ Cert.ProductRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_ChipSum [hPre_chip_of_four : Cert.Pre_chip_of_four.Facts] (m : (ℓ : Loc Cert.ChipSum.nD Cert.ChipSum.τ Cert.ChipSum.sig) → Buf (Elt Bits) ℓ) : Prop :=
  ∀ c : Dev Cert.ChipSum.nD,
    (Cert.Pre_chip_of_four.fn (F := Bits) (m ((c.tc : Thread Cert.ChipSum.nD Cert.ChipSum.τ).loc Cert.ChipSum.main_arg0)) (m ((c.tc : Thread Cert.ChipSum.nD Cert.ChipSum.τ).loc Cert.ChipSum.main_arg1)) (m ((c.tc : Thread Cert.ChipSum.nD Cert.ChipSum.τ).loc Cert.ChipSum.main_arg2))).1 = (fun _ => 1#1)
    ∧ (Cert.Pre_chip_of_four.fn (F := Bits) (m ((c.tc : Thread Cert.ChipSum.nD Cert.ChipSum.τ).loc Cert.ChipSum.main_arg0)) (m ((c.tc : Thread Cert.ChipSum.nD Cert.ChipSum.τ).loc Cert.ChipSum.main_arg1)) (m ((c.tc : Thread Cert.ChipSum.nD Cert.ChipSum.τ).loc Cert.ChipSum.main_arg2))).2 = (fun _ => 1#1)

def Pre_ChipSumIdeal [hPre_chip_of_four : Cert.Pre_chip_of_four.Facts] (m : (ℓ : Loc Cert.ChipSumIdeal.nD Cert.ChipSumIdeal.τ Cert.ChipSumIdeal.sig) → Buf (Elt Ideal) ℓ) : Prop :=
  ∀ c : Dev Cert.ChipSumIdeal.nD,
    (Cert.Pre_chip_of_four.fn (F := Ideal) (m ((c.tc : Thread Cert.ChipSumIdeal.nD Cert.ChipSumIdeal.τ).loc Cert.ChipSumIdeal.main_arg0)) (m ((c.tc : Thread Cert.ChipSumIdeal.nD Cert.ChipSumIdeal.τ).loc Cert.ChipSumIdeal.main_arg1)) (m ((c.tc : Thread Cert.ChipSumIdeal.nD Cert.ChipSumIdeal.τ).loc Cert.ChipSumIdeal.main_arg2))).1 = (fun _ => 1#1)
    ∧ (Cert.Pre_chip_of_four.fn (F := Ideal) (m ((c.tc : Thread Cert.ChipSumIdeal.nD Cert.ChipSumIdeal.τ).loc Cert.ChipSumIdeal.main_arg0)) (m ((c.tc : Thread Cert.ChipSumIdeal.nD Cert.ChipSumIdeal.τ).loc Cert.ChipSumIdeal.main_arg1)) (m ((c.tc : Thread Cert.ChipSumIdeal.nD Cert.ChipSumIdeal.τ).loc Cert.ChipSumIdeal.main_arg2))).2 = (fun _ => 1#1)

def Pre_ChipSumRefIdeal (m : (ℓ : Loc Cert.ChipSumRefIdeal.nD Cert.ChipSumRefIdeal.τ Cert.ChipSumRefIdeal.sig) → Buf (Elt Ideal) ℓ) : Prop :=
  True

def Pre_ChipSumRefIdeal_chip_of_four [hPre_chip_of_four : Cert.Pre_chip_of_four.Facts] (m : (ℓ : Loc Cert.ChipSumRefIdeal.nD Cert.ChipSumRefIdeal.τ Cert.ChipSumRefIdeal.sig) → Buf (Elt Ideal) ℓ) : Prop :=
  ∀ c : Dev Cert.ChipSumRefIdeal.nD,
    (Cert.Pre_chip_of_four.fn (F := Ideal) (m ((c.tc : Thread Cert.ChipSumRefIdeal.nD Cert.ChipSumRefIdeal.τ).loc Cert.ChipSumRefIdeal.main_arg0)) (m ((c.tc : Thread Cert.ChipSumRefIdeal.nD Cert.ChipSumRefIdeal.τ).loc Cert.ChipSumRefIdeal.main_arg1)) (m ((c.tc : Thread Cert.ChipSumRefIdeal.nD Cert.ChipSumRefIdeal.τ).loc Cert.ChipSumRefIdeal.main_arg2))).1 = (fun _ => 1#1)
    ∧ (Cert.Pre_chip_of_four.fn (F := Ideal) (m ((c.tc : Thread Cert.ChipSumRefIdeal.nD Cert.ChipSumRefIdeal.τ).loc Cert.ChipSumRefIdeal.main_arg0)) (m ((c.tc : Thread Cert.ChipSumRefIdeal.nD Cert.ChipSumRefIdeal.τ).loc Cert.ChipSumRefIdeal.main_arg1)) (m ((c.tc : Thread Cert.ChipSumRefIdeal.nD Cert.ChipSumRefIdeal.τ).loc Cert.ChipSumRefIdeal.main_arg2))).2 = (fun _ => 1#1)

def Pre_ConvAFwd (m : (ℓ : Loc Cert.ConvAFwd.nD Cert.ConvAFwd.τ Cert.ConvAFwd.sig) → Buf (Elt Bits) ℓ) : Prop :=
  True

def Pre_ConvAFwdIdeal (m : (ℓ : Loc Cert.ConvAFwdIdeal.nD Cert.ConvAFwdIdeal.τ Cert.ConvAFwdIdeal.sig) → Buf (Elt Ideal) ℓ) : Prop :=
  True

def Pre_ConvAFwdRefIdeal (m : (ℓ : Loc Cert.ConvAFwdRefIdeal.nD Cert.ConvAFwdRefIdeal.τ Cert.ConvAFwdRefIdeal.sig) → Buf (Elt Ideal) ℓ) : Prop :=
  True

def Pre_ConvA (m : (ℓ : Loc Cert.ConvA.nD Cert.ConvA.τ Cert.ConvA.sig) → Buf (Elt Bits) ℓ) : Prop :=
  True

def Pre_ConvAIdeal (m : (ℓ : Loc Cert.ConvAIdeal.nD Cert.ConvAIdeal.τ Cert.ConvAIdeal.sig) → Buf (Elt Ideal) ℓ) : Prop :=
  True

def Pre_ConvAIdeal_conv_a_finite [hPre_conv_a_finite : Cert.Pre_conv_a_finite.Facts] (m : (ℓ : Loc Cert.ConvAIdeal.nD Cert.ConvAIdeal.τ Cert.ConvAIdeal.sig) → Buf (Elt Ideal) ℓ) : Prop :=
  ∀ c : Dev Cert.ConvAIdeal.nD,
    (Cert.Pre_conv_a_finite.fn (F := Ideal) (m ((c.tc : Thread Cert.ConvAIdeal.nD Cert.ConvAIdeal.τ).loc Cert.ConvAIdeal.main_arg0)) (m ((c.tc : Thread Cert.ConvAIdeal.nD Cert.ConvAIdeal.τ).loc Cert.ConvAIdeal.main_arg1)) (m ((c.tc : Thread Cert.ConvAIdeal.nD Cert.ConvAIdeal.τ).loc Cert.ConvAIdeal.main_arg2)) (m ((c.tc : Thread Cert.ConvAIdeal.nD Cert.ConvAIdeal.τ).loc Cert.ConvAIdeal.main_arg3)) (m ((c.tc : Thread Cert.ConvAIdeal.nD Cert.ConvAIdeal.τ).loc Cert.ConvAIdeal.main_arg4)) (m ((c.tc : Thread Cert.ConvAIdeal.nD Cert.ConvAIdeal.τ).loc Cert.ConvAIdeal.main_arg5))).1 = (fun _ => 1#1)
    ∧ (Cert.Pre_conv_a_finite.fn (F := Ideal) (m ((c.tc : Thread Cert.ConvAIdeal.nD Cert.ConvAIdeal.τ).loc Cert.ConvAIdeal.main_arg0)) (m ((c.tc : Thread Cert.ConvAIdeal.nD Cert.ConvAIdeal.τ).loc Cert.ConvAIdeal.main_arg1)) (m ((c.tc : Thread Cert.ConvAIdeal.nD Cert.ConvAIdeal.τ).loc Cert.ConvAIdeal.main_arg2)) (m ((c.tc : Thread Cert.ConvAIdeal.nD Cert.ConvAIdeal.τ).loc Cert.ConvAIdeal.main_arg3)) (m ((c.tc : Thread Cert.ConvAIdeal.nD Cert.ConvAIdeal.τ).loc Cert.ConvAIdeal.main_arg4)) (m ((c.tc : Thread Cert.ConvAIdeal.nD Cert.ConvAIdeal.τ).loc Cert.ConvAIdeal.main_arg5))).2 = (fun _ => 1#1)

def Pre_ConvARefIdeal (m : (ℓ : Loc Cert.ConvARefIdeal.nD Cert.ConvARefIdeal.τ Cert.ConvARefIdeal.sig) → Buf (Elt Ideal) ℓ) : Prop :=
  True

def Pre_ConvARefIdeal_conv_a_finite [hPre_conv_a_finite : Cert.Pre_conv_a_finite.Facts] (m : (ℓ : Loc Cert.ConvARefIdeal.nD Cert.ConvARefIdeal.τ Cert.ConvARefIdeal.sig) → Buf (Elt Ideal) ℓ) : Prop :=
  ∀ c : Dev Cert.ConvARefIdeal.nD,
    (Cert.Pre_conv_a_finite.fn (F := Ideal) (m ((c.tc : Thread Cert.ConvARefIdeal.nD Cert.ConvARefIdeal.τ).loc Cert.ConvARefIdeal.main_arg0)) (m ((c.tc : Thread Cert.ConvARefIdeal.nD Cert.ConvARefIdeal.τ).loc Cert.ConvARefIdeal.main_arg1)) (m ((c.tc : Thread Cert.ConvARefIdeal.nD Cert.ConvARefIdeal.τ).loc Cert.ConvARefIdeal.main_arg2)) (m ((c.tc : Thread Cert.ConvARefIdeal.nD Cert.ConvARefIdeal.τ).loc Cert.ConvARefIdeal.main_arg3)) (m ((c.tc : Thread Cert.ConvARefIdeal.nD Cert.ConvARefIdeal.τ).loc Cert.ConvARefIdeal.main_arg4)) (m ((c.tc : Thread Cert.ConvARefIdeal.nD Cert.ConvARefIdeal.τ).loc Cert.ConvARefIdeal.main_arg5))).1 = (fun _ => 1#1)
    ∧ (Cert.Pre_conv_a_finite.fn (F := Ideal) (m ((c.tc : Thread Cert.ConvARefIdeal.nD Cert.ConvARefIdeal.τ).loc Cert.ConvARefIdeal.main_arg0)) (m ((c.tc : Thread Cert.ConvARefIdeal.nD Cert.ConvARefIdeal.τ).loc Cert.ConvARefIdeal.main_arg1)) (m ((c.tc : Thread Cert.ConvARefIdeal.nD Cert.ConvARefIdeal.τ).loc Cert.ConvARefIdeal.main_arg2)) (m ((c.tc : Thread Cert.ConvARefIdeal.nD Cert.ConvARefIdeal.τ).loc Cert.ConvARefIdeal.main_arg3)) (m ((c.tc : Thread Cert.ConvARefIdeal.nD Cert.ConvARefIdeal.τ).loc Cert.ConvARefIdeal.main_arg4)) (m ((c.tc : Thread Cert.ConvARefIdeal.nD Cert.ConvARefIdeal.τ).loc Cert.ConvARefIdeal.main_arg5))).2 = (fun _ => 1#1)

def Pre_Window (m : (ℓ : Loc Cert.Window.nD Cert.Window.τ Cert.Window.sig) → Buf (Elt Bits) ℓ) : Prop :=
  True

def Pre_WindowIdeal (m : (ℓ : Loc Cert.WindowIdeal.nD Cert.WindowIdeal.τ Cert.WindowIdeal.sig) → Buf (Elt Ideal) ℓ) : Prop :=
  True

def Pre_WindowRefIdeal (m : (ℓ : Loc Cert.WindowRefIdeal.nD Cert.WindowRefIdeal.τ Cert.WindowRefIdeal.sig) → Buf (Elt Ideal) ℓ) : Prop :=
  True

def Pre_Place [hPre_place_of_four : Cert.Pre_place_of_four.Facts] (m : (ℓ : Loc Cert.Place.nD Cert.Place.τ Cert.Place.sig) → Buf (Elt Bits) ℓ) : Prop :=
  ∀ c : Dev Cert.Place.nD,
    (Cert.Pre_place_of_four.fn (F := Bits) (m ((c.tc : Thread Cert.Place.nD Cert.Place.τ).loc Cert.Place.main_arg0)) (m ((c.tc : Thread Cert.Place.nD Cert.Place.τ).loc Cert.Place.main_arg1))).1 = (fun _ => 1#1)
    ∧ (Cert.Pre_place_of_four.fn (F := Bits) (m ((c.tc : Thread Cert.Place.nD Cert.Place.τ).loc Cert.Place.main_arg0)) (m ((c.tc : Thread Cert.Place.nD Cert.Place.τ).loc Cert.Place.main_arg1))).2 = (fun _ => 1#1)

def Pre_PlaceIdeal [hPre_place_of_four : Cert.Pre_place_of_four.Facts] (m : (ℓ : Loc Cert.PlaceIdeal.nD Cert.PlaceIdeal.τ Cert.PlaceIdeal.sig) → Buf (Elt Ideal) ℓ) : Prop :=
  ∀ c : Dev Cert.PlaceIdeal.nD,
    (Cert.Pre_place_of_four.fn (F := Ideal) (m ((c.tc : Thread Cert.PlaceIdeal.nD Cert.PlaceIdeal.τ).loc Cert.PlaceIdeal.main_arg0)) (m ((c.tc : Thread Cert.PlaceIdeal.nD Cert.PlaceIdeal.τ).loc Cert.PlaceIdeal.main_arg1))).1 = (fun _ => 1#1)
    ∧ (Cert.Pre_place_of_four.fn (F := Ideal) (m ((c.tc : Thread Cert.PlaceIdeal.nD Cert.PlaceIdeal.τ).loc Cert.PlaceIdeal.main_arg0)) (m ((c.tc : Thread Cert.PlaceIdeal.nD Cert.PlaceIdeal.τ).loc Cert.PlaceIdeal.main_arg1))).2 = (fun _ => 1#1)

def Pre_PlaceRefIdeal (m : (ℓ : Loc Cert.PlaceRefIdeal.nD Cert.PlaceRefIdeal.τ Cert.PlaceRefIdeal.sig) → Buf (Elt Ideal) ℓ) : Prop :=
  True

def Pre_PlaceRefIdeal_place_of_four [hPre_place_of_four : Cert.Pre_place_of_four.Facts] (m : (ℓ : Loc Cert.PlaceRefIdeal.nD Cert.PlaceRefIdeal.τ Cert.PlaceRefIdeal.sig) → Buf (Elt Ideal) ℓ) : Prop :=
  ∀ c : Dev Cert.PlaceRefIdeal.nD,
    (Cert.Pre_place_of_four.fn (F := Ideal) (m ((c.tc : Thread Cert.PlaceRefIdeal.nD Cert.PlaceRefIdeal.τ).loc Cert.PlaceRefIdeal.main_arg0)) (m ((c.tc : Thread Cert.PlaceRefIdeal.nD Cert.PlaceRefIdeal.τ).loc Cert.PlaceRefIdeal.main_arg1))).1 = (fun _ => 1#1)
    ∧ (Cert.Pre_place_of_four.fn (F := Ideal) (m ((c.tc : Thread Cert.PlaceRefIdeal.nD Cert.PlaceRefIdeal.τ).loc Cert.PlaceRefIdeal.main_arg0)) (m ((c.tc : Thread Cert.PlaceRefIdeal.nD Cert.PlaceRefIdeal.τ).loc Cert.PlaceRefIdeal.main_arg1))).2 = (fun _ => 1#1)

def quiescent_MemNorm [hMemNorm : Cert.MemNorm.Facts] : Prop :=
  ∀ (m : (ℓ : Loc Cert.MemNorm.nD Cert.MemNorm.τ Cert.MemNorm.sig) → Buf (Elt Bits) ℓ) (g : Dev Cert.MemNorm.nD → PrngReg), Pre_MemNorm m →
    θ_run (Cert.MemNorm.defs (F := Bits)) (onTc (τ := Cert.MemNorm.τ) (Cert.MemNorm.main (F := Bits))) ⟨m, fun _ => 0, g⟩ (fun r => (∀ c : Dev Cert.MemNorm.nD,
      r.2.mem ((c.tc : Thread Cert.MemNorm.nD Cert.MemNorm.τ).loc Cert.MemNorm.main_arg0) = m ((c.tc : Thread Cert.MemNorm.nD Cert.MemNorm.τ).loc Cert.MemNorm.main_arg0)
      ∧ r.2.mem ((c.tc : Thread Cert.MemNorm.nD Cert.MemNorm.τ).loc Cert.MemNorm.main_arg1) = m ((c.tc : Thread Cert.MemNorm.nD Cert.MemNorm.τ).loc Cert.MemNorm.main_arg1)
      ∧ r.2.mem ((c.tc : Thread Cert.MemNorm.nD Cert.MemNorm.τ).loc Cert.MemNorm.main_arg2) = m ((c.tc : Thread Cert.MemNorm.nD Cert.MemNorm.τ).loc Cert.MemNorm.main_arg2))
      ∧ r.2.sem = fun _ => 0)

def quiescent_MemNormIdeal [hMemNormIdeal : Cert.MemNormIdeal.Facts] : Prop :=
  ∀ (m : (ℓ : Loc Cert.MemNormIdeal.nD Cert.MemNormIdeal.τ Cert.MemNormIdeal.sig) → Buf (Elt Ideal) ℓ) (g : Dev Cert.MemNormIdeal.nD → PrngReg), Pre_MemNormIdeal m →
    θ_run (Cert.MemNormIdeal.defs (F := Ideal)) (onTc (τ := Cert.MemNormIdeal.τ) (Cert.MemNormIdeal.main (F := Ideal))) ⟨m, fun _ => 0, g⟩ (fun r => (∀ c : Dev Cert.MemNormIdeal.nD,
      r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
      ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1)
      ∧ r.2.mem ((c.tc : Thread Cert.MemNormIdeal.nD Cert.MemNormIdeal.τ).loc Cert.MemNormIdeal.main_arg2) = m ((c.tc : Thread Cert.MemNormIdeal.nD Cert.MemNormIdeal.τ).loc Cert.MemNormIdeal.main_arg2))
      ∧ r.2.sem = fun _ => 0)

def quiescent_MemNormRefIdeal [hMemNormRefIdeal : Cert.MemNormRefIdeal.Facts] : Prop :=
  ∀ (m : (ℓ : Loc Cert.MemNormRefIdeal.nD Cert.MemNormRefIdeal.τ Cert.MemNormRefIdeal.sig) → Buf (Elt Ideal) ℓ) (g : Dev Cert.MemNormRefIdeal.nD → PrngReg), Pre_MemNormRefIdeal m →
    θ_run (Cert.MemNormRefIdeal.defs (F := Ideal)) (onTc (τ := Cert.MemNormRefIdeal.τ) (Cert.MemNormRefIdeal.main (F := Ideal))) ⟨m, fun _ => 0, g⟩ (fun r => (∀ c : Dev Cert.MemNormRefIdeal.nD,
      r.2.mem ((c.tc : Thread Cert.MemNormRefIdeal.nD Cert.MemNormRefIdeal.τ).loc Cert.MemNormRefIdeal.main_arg0) = m ((c.tc : Thread Cert.MemNormRefIdeal.nD Cert.MemNormRefIdeal.τ).loc Cert.MemNormRefIdeal.main_arg0)
      ∧ r.2.mem ((c.tc : Thread Cert.MemNormRefIdeal.nD Cert.MemNormRefIdeal.τ).loc Cert.MemNormRefIdeal.main_arg1) = m ((c.tc : Thread Cert.MemNormRefIdeal.nD Cert.MemNormRefIdeal.τ).loc Cert.MemNormRefIdeal.main_arg1)
      ∧ r.2.mem ((c.tc : Thread Cert.MemNormRefIdeal.nD Cert.MemNormRefIdeal.τ).loc Cert.MemNormRefIdeal.main_arg2) = m ((c.tc : Thread Cert.MemNormRefIdeal.nD Cert.MemNormRefIdeal.τ).loc Cert.MemNormRefIdeal.main_arg2))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2))
      ∧ r.2.sem = fun _ => 0)

def quiescent_CrossIdeal_pre_cross_finite [hCrossIdeal : Cert.CrossIdeal.Facts] [hPre_cross_finite : Cert.Pre_cross_finite.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_cross_finite m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2))
      ∧ r.2.sem = fun _ => 0)

def quiescent_CrossRefIdeal_pre_cross_finite [hCrossRefIdeal : Cert.CrossRefIdeal.Facts] [hPre_cross_finite : Cert.Pre_cross_finite.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal_cross_finite m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2))
      ∧ r.2.sem = fun _ => 0)

def quiescent_ShortConv [hShortConv : Cert.ShortConv.Facts] : Prop :=
  ∀ (m : (ℓ : Loc Cert.ShortConv.nD Cert.ShortConv.τ Cert.ShortConv.sig) → Buf (Elt Bits) ℓ) (g : Dev Cert.ShortConv.nD → PrngReg), Pre_ShortConv m →
    θ_run (Cert.ShortConv.defs (F := Bits)) (onTc (τ := Cert.ShortConv.τ) (Cert.ShortConv.main (F := Bits))) ⟨m, fun _ => 0, g⟩ (fun r => (∀ c : Dev Cert.ShortConv.nD,
      r.2.mem ((c.tc : Thread Cert.ShortConv.nD Cert.ShortConv.τ).loc Cert.ShortConv.main_arg0) = m ((c.tc : Thread Cert.ShortConv.nD Cert.ShortConv.τ).loc Cert.ShortConv.main_arg0)
      ∧ r.2.mem ((c.tc : Thread Cert.ShortConv.nD Cert.ShortConv.τ).loc Cert.ShortConv.main_arg1) = m ((c.tc : Thread Cert.ShortConv.nD Cert.ShortConv.τ).loc Cert.ShortConv.main_arg1)
      ∧ r.2.mem ((c.tc : Thread Cert.ShortConv.nD Cert.ShortConv.τ).loc Cert.ShortConv.main_arg2) = m ((c.tc : Thread Cert.ShortConv.nD Cert.ShortConv.τ).loc Cert.ShortConv.main_arg2))
      ∧ r.2.sem = fun _ => 0)

def quiescent_ShortConvIdeal [hShortConvIdeal : Cert.ShortConvIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg), Pre_ShortConvIdeal m →
    θ_run (Cert.ShortConvIdeal.defs (F := Ideal)) (onTc (τ := Cert.ShortConvIdeal.τ) (Cert.ShortConvIdeal.main (F := Ideal))) ⟨m, fun _ => 0, g⟩ (fun r => (∀ c : Dev Cert.ShortConvIdeal.nD,
      r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
      ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1)
      ∧ r.2.mem ((c.tc : Thread Cert.ShortConvIdeal.nD Cert.ShortConvIdeal.τ).loc Cert.ShortConvIdeal.main_arg2) = m ((c.tc : Thread Cert.ShortConvIdeal.nD Cert.ShortConvIdeal.τ).loc Cert.ShortConvIdeal.main_arg2))
      ∧ r.2.sem = fun _ => 0)

def quiescent_ShortConvRefIdeal [hShortConvRefIdeal : Cert.ShortConvRefIdeal.Facts] : Prop :=
  ∀ (m : (ℓ : Loc Cert.ShortConvRefIdeal.nD Cert.ShortConvRefIdeal.τ Cert.ShortConvRefIdeal.sig) → Buf (Elt Ideal) ℓ) (g : Dev Cert.ShortConvRefIdeal.nD → PrngReg), Pre_ShortConvRefIdeal m →
    θ_run (Cert.ShortConvRefIdeal.defs (F := Ideal)) (onTc (τ := Cert.ShortConvRefIdeal.τ) (Cert.ShortConvRefIdeal.main (F := Ideal))) ⟨m, fun _ => 0, g⟩ (fun r => (∀ c : Dev Cert.ShortConvRefIdeal.nD,
      r.2.mem ((c.tc : Thread Cert.ShortConvRefIdeal.nD Cert.ShortConvRefIdeal.τ).loc Cert.ShortConvRefIdeal.main_arg0) = m ((c.tc : Thread Cert.ShortConvRefIdeal.nD Cert.ShortConvRefIdeal.τ).loc Cert.ShortConvRefIdeal.main_arg0)
      ∧ r.2.mem ((c.tc : Thread Cert.ShortConvRefIdeal.nD Cert.ShortConvRefIdeal.τ).loc Cert.ShortConvRefIdeal.main_arg1) = m ((c.tc : Thread Cert.ShortConvRefIdeal.nD Cert.ShortConvRefIdeal.τ).loc Cert.ShortConvRefIdeal.main_arg1)
      ∧ r.2.mem ((c.tc : Thread Cert.ShortConvRefIdeal.nD Cert.ShortConvRefIdeal.τ).loc Cert.ShortConvRefIdeal.main_arg2) = m ((c.tc : Thread Cert.ShortConvRefIdeal.nD Cert.ShortConvRefIdeal.τ).loc Cert.ShortConvRefIdeal.main_arg2))
      ∧ r.2.sem = fun _ => 0)

def quiescent_NormEven [hNormEven : Cert.NormEven.Facts] : Prop :=
  ∀ (m : (ℓ : Loc Cert.NormEven.nD Cert.NormEven.τ Cert.NormEven.sig) → Buf (Elt Bits) ℓ) (g : Dev Cert.NormEven.nD → PrngReg), Pre_NormEven m →
    θ_run (Cert.NormEven.defs (F := Bits)) (onTc (τ := Cert.NormEven.τ) (Cert.NormEven.main (F := Bits))) ⟨m, fun _ => 0, g⟩ (fun r => (∀ c : Dev Cert.NormEven.nD,
      r.2.mem ((c.tc : Thread Cert.NormEven.nD Cert.NormEven.τ).loc Cert.NormEven.main_arg0) = m ((c.tc : Thread Cert.NormEven.nD Cert.NormEven.τ).loc Cert.NormEven.main_arg0)
      ∧ r.2.mem ((c.tc : Thread Cert.NormEven.nD Cert.NormEven.τ).loc Cert.NormEven.main_arg1) = m ((c.tc : Thread Cert.NormEven.nD Cert.NormEven.τ).loc Cert.NormEven.main_arg1)
      ∧ r.2.mem ((c.tc : Thread Cert.NormEven.nD Cert.NormEven.τ).loc Cert.NormEven.main_arg2) = m ((c.tc : Thread Cert.NormEven.nD Cert.NormEven.τ).loc Cert.NormEven.main_arg2)
      ∧ r.2.mem ((c.tc : Thread Cert.NormEven.nD Cert.NormEven.τ).loc Cert.NormEven.main_arg3) = m ((c.tc : Thread Cert.NormEven.nD Cert.NormEven.τ).loc Cert.NormEven.main_arg3)
      ∧ r.2.mem ((c.tc : Thread Cert.NormEven.nD Cert.NormEven.τ).loc Cert.NormEven.main_arg4) = m ((c.tc : Thread Cert.NormEven.nD Cert.NormEven.τ).loc Cert.NormEven.main_arg4))
      ∧ r.2.sem = fun _ => 0)

def quiescent_NormEvenIdeal [hNormEvenIdeal : Cert.NormEvenIdeal.Facts] : Prop :=
  ∀ (m : (ℓ : Loc Cert.NormEvenIdeal.nD Cert.NormEvenIdeal.τ Cert.NormEvenIdeal.sig) → Buf (Elt Ideal) ℓ) (g : Dev Cert.NormEvenIdeal.nD → PrngReg), Pre_NormEvenIdeal m →
    θ_run (Cert.NormEvenIdeal.defs (F := Ideal)) (onTc (τ := Cert.NormEvenIdeal.τ) (Cert.NormEvenIdeal.main (F := Ideal))) ⟨m, fun _ => 0, g⟩ (fun r => (∀ c : Dev Cert.NormEvenIdeal.nD,
      r.2.mem ((c.tc : Thread Cert.NormEvenIdeal.nD Cert.NormEvenIdeal.τ).loc Cert.NormEvenIdeal.main_arg0) = m ((c.tc : Thread Cert.NormEvenIdeal.nD Cert.NormEvenIdeal.τ).loc Cert.NormEvenIdeal.main_arg0)
      ∧ r.2.mem ((c.tc : Thread Cert.NormEvenIdeal.nD Cert.NormEvenIdeal.τ).loc Cert.NormEvenIdeal.main_arg1) = m ((c.tc : Thread Cert.NormEvenIdeal.nD Cert.NormEvenIdeal.τ).loc Cert.NormEvenIdeal.main_arg1)
      ∧ r.2.mem ((c.tc : Thread Cert.NormEvenIdeal.nD Cert.NormEvenIdeal.τ).loc Cert.NormEvenIdeal.main_arg2) = m ((c.tc : Thread Cert.NormEvenIdeal.nD Cert.NormEvenIdeal.τ).loc Cert.NormEvenIdeal.main_arg2)
      ∧ r.2.mem ((c.tc : Thread Cert.NormEvenIdeal.nD Cert.NormEvenIdeal.τ).loc Cert.NormEvenIdeal.main_arg3) = m ((c.tc : Thread Cert.NormEvenIdeal.nD Cert.NormEvenIdeal.τ).loc Cert.NormEvenIdeal.main_arg3)
      ∧ r.2.mem ((c.tc : Thread Cert.NormEvenIdeal.nD Cert.NormEvenIdeal.τ).loc Cert.NormEvenIdeal.main_arg4) = m ((c.tc : Thread Cert.NormEvenIdeal.nD Cert.NormEvenIdeal.τ).loc Cert.NormEvenIdeal.main_arg4))
      ∧ r.2.sem = fun _ => 0)

def quiescent_NormEvenRefIdeal [hNormEvenRefIdeal : Cert.NormEvenRefIdeal.Facts] : Prop :=
  ∀ (m : (ℓ : Loc Cert.NormEvenRefIdeal.nD Cert.NormEvenRefIdeal.τ Cert.NormEvenRefIdeal.sig) → Buf (Elt Ideal) ℓ) (g : Dev Cert.NormEvenRefIdeal.nD → PrngReg), Pre_NormEvenRefIdeal m →
    θ_run (Cert.NormEvenRefIdeal.defs (F := Ideal)) (onTc (τ := Cert.NormEvenRefIdeal.τ) (Cert.NormEvenRefIdeal.main (F := Ideal))) ⟨m, fun _ => 0, g⟩ (fun r => (∀ c : Dev Cert.NormEvenRefIdeal.nD,
      r.2.mem ((c.tc : Thread Cert.NormEvenRefIdeal.nD Cert.NormEvenRefIdeal.τ).loc Cert.NormEvenRefIdeal.main_arg0) = m ((c.tc : Thread Cert.NormEvenRefIdeal.nD Cert.NormEvenRefIdeal.τ).loc Cert.NormEvenRefIdeal.main_arg0)
      ∧ r.2.mem ((c.tc : Thread Cert.NormEvenRefIdeal.nD Cert.NormEvenRefIdeal.τ).loc Cert.NormEvenRefIdeal.main_arg1) = m ((c.tc : Thread Cert.NormEvenRefIdeal.nD Cert.NormEvenRefIdeal.τ).loc Cert.NormEvenRefIdeal.main_arg1)
      ∧ r.2.mem ((c.tc : Thread Cert.NormEvenRefIdeal.nD Cert.NormEvenRefIdeal.τ).loc Cert.NormEvenRefIdeal.main_arg2) = m ((c.tc : Thread Cert.NormEvenRefIdeal.nD Cert.NormEvenRefIdeal.τ).loc Cert.NormEvenRefIdeal.main_arg2)
      ∧ r.2.mem ((c.tc : Thread Cert.NormEvenRefIdeal.nD Cert.NormEvenRefIdeal.τ).loc Cert.NormEvenRefIdeal.main_arg3) = m ((c.tc : Thread Cert.NormEvenRefIdeal.nD Cert.NormEvenRefIdeal.τ).loc Cert.NormEvenRefIdeal.main_arg3)
      ∧ r.2.mem ((c.tc : Thread Cert.NormEvenRefIdeal.nD Cert.NormEvenRefIdeal.τ).loc Cert.NormEvenRefIdeal.main_arg4) = m ((c.tc : Thread Cert.NormEvenRefIdeal.nD Cert.NormEvenRefIdeal.τ).loc Cert.NormEvenRefIdeal.main_arg4))
      ∧ r.2.sem = fun _ => 0)

def quiescent_NormOdd [hNormOdd : Cert.NormOdd.Facts] : Prop :=
  ∀ (m : (ℓ : Loc Cert.NormOdd.nD Cert.NormOdd.τ Cert.NormOdd.sig) → Buf (Elt Bits) ℓ) (g : Dev Cert.NormOdd.nD → PrngReg), Pre_NormOdd m →
    θ_run (Cert.NormOdd.defs (F := Bits)) (onTc (τ := Cert.NormOdd.τ) (Cert.NormOdd.main (F := Bits))) ⟨m, fun _ => 0, g⟩ (fun r => (∀ c : Dev Cert.NormOdd.nD,
      r.2.mem ((c.tc : Thread Cert.NormOdd.nD Cert.NormOdd.τ).loc Cert.NormOdd.main_arg0) = m ((c.tc : Thread Cert.NormOdd.nD Cert.NormOdd.τ).loc Cert.NormOdd.main_arg0)
      ∧ r.2.mem ((c.tc : Thread Cert.NormOdd.nD Cert.NormOdd.τ).loc Cert.NormOdd.main_arg1) = m ((c.tc : Thread Cert.NormOdd.nD Cert.NormOdd.τ).loc Cert.NormOdd.main_arg1)
      ∧ r.2.mem ((c.tc : Thread Cert.NormOdd.nD Cert.NormOdd.τ).loc Cert.NormOdd.main_arg2) = m ((c.tc : Thread Cert.NormOdd.nD Cert.NormOdd.τ).loc Cert.NormOdd.main_arg2)
      ∧ r.2.mem ((c.tc : Thread Cert.NormOdd.nD Cert.NormOdd.τ).loc Cert.NormOdd.main_arg3) = m ((c.tc : Thread Cert.NormOdd.nD Cert.NormOdd.τ).loc Cert.NormOdd.main_arg3)
      ∧ r.2.mem ((c.tc : Thread Cert.NormOdd.nD Cert.NormOdd.τ).loc Cert.NormOdd.main_arg4) = m ((c.tc : Thread Cert.NormOdd.nD Cert.NormOdd.τ).loc Cert.NormOdd.main_arg4))
      ∧ r.2.sem = fun _ => 0)

def quiescent_NormOddIdeal [hNormOddIdeal : Cert.NormOddIdeal.Facts] : Prop :=
  ∀ (m : (ℓ : Loc Cert.NormOddIdeal.nD Cert.NormOddIdeal.τ Cert.NormOddIdeal.sig) → Buf (Elt Ideal) ℓ) (g : Dev Cert.NormOddIdeal.nD → PrngReg), Pre_NormOddIdeal m →
    θ_run (Cert.NormOddIdeal.defs (F := Ideal)) (onTc (τ := Cert.NormOddIdeal.τ) (Cert.NormOddIdeal.main (F := Ideal))) ⟨m, fun _ => 0, g⟩ (fun r => (∀ c : Dev Cert.NormOddIdeal.nD,
      r.2.mem ((c.tc : Thread Cert.NormOddIdeal.nD Cert.NormOddIdeal.τ).loc Cert.NormOddIdeal.main_arg0) = m ((c.tc : Thread Cert.NormOddIdeal.nD Cert.NormOddIdeal.τ).loc Cert.NormOddIdeal.main_arg0)
      ∧ r.2.mem ((c.tc : Thread Cert.NormOddIdeal.nD Cert.NormOddIdeal.τ).loc Cert.NormOddIdeal.main_arg1) = m ((c.tc : Thread Cert.NormOddIdeal.nD Cert.NormOddIdeal.τ).loc Cert.NormOddIdeal.main_arg1)
      ∧ r.2.mem ((c.tc : Thread Cert.NormOddIdeal.nD Cert.NormOddIdeal.τ).loc Cert.NormOddIdeal.main_arg2) = m ((c.tc : Thread Cert.NormOddIdeal.nD Cert.NormOddIdeal.τ).loc Cert.NormOddIdeal.main_arg2)
      ∧ r.2.mem ((c.tc : Thread Cert.NormOddIdeal.nD Cert.NormOddIdeal.τ).loc Cert.NormOddIdeal.main_arg3) = m ((c.tc : Thread Cert.NormOddIdeal.nD Cert.NormOddIdeal.τ).loc Cert.NormOddIdeal.main_arg3)
      ∧ r.2.mem ((c.tc : Thread Cert.NormOddIdeal.nD Cert.NormOddIdeal.τ).loc Cert.NormOddIdeal.main_arg4) = m ((c.tc : Thread Cert.NormOddIdeal.nD Cert.NormOddIdeal.τ).loc Cert.NormOddIdeal.main_arg4))
      ∧ r.2.sem = fun _ => 0)

def quiescent_NormOddRefIdeal [hNormOddRefIdeal : Cert.NormOddRefIdeal.Facts] : Prop :=
  ∀ (m : (ℓ : Loc Cert.NormOddRefIdeal.nD Cert.NormOddRefIdeal.τ Cert.NormOddRefIdeal.sig) → Buf (Elt Ideal) ℓ) (g : Dev Cert.NormOddRefIdeal.nD → PrngReg), Pre_NormOddRefIdeal m →
    θ_run (Cert.NormOddRefIdeal.defs (F := Ideal)) (onTc (τ := Cert.NormOddRefIdeal.τ) (Cert.NormOddRefIdeal.main (F := Ideal))) ⟨m, fun _ => 0, g⟩ (fun r => (∀ c : Dev Cert.NormOddRefIdeal.nD,
      r.2.mem ((c.tc : Thread Cert.NormOddRefIdeal.nD Cert.NormOddRefIdeal.τ).loc Cert.NormOddRefIdeal.main_arg0) = m ((c.tc : Thread Cert.NormOddRefIdeal.nD Cert.NormOddRefIdeal.τ).loc Cert.NormOddRefIdeal.main_arg0)
      ∧ r.2.mem ((c.tc : Thread Cert.NormOddRefIdeal.nD Cert.NormOddRefIdeal.τ).loc Cert.NormOddRefIdeal.main_arg1) = m ((c.tc : Thread Cert.NormOddRefIdeal.nD Cert.NormOddRefIdeal.τ).loc Cert.NormOddRefIdeal.main_arg1)
      ∧ r.2.mem ((c.tc : Thread Cert.NormOddRefIdeal.nD Cert.NormOddRefIdeal.τ).loc Cert.NormOddRefIdeal.main_arg2) = m ((c.tc : Thread Cert.NormOddRefIdeal.nD Cert.NormOddRefIdeal.τ).loc Cert.NormOddRefIdeal.main_arg2)
      ∧ r.2.mem ((c.tc : Thread Cert.NormOddRefIdeal.nD Cert.NormOddRefIdeal.τ).loc Cert.NormOddRefIdeal.main_arg3) = m ((c.tc : Thread Cert.NormOddRefIdeal.nD Cert.NormOddRefIdeal.τ).loc Cert.NormOddRefIdeal.main_arg3)
      ∧ r.2.mem ((c.tc : Thread Cert.NormOddRefIdeal.nD Cert.NormOddRefIdeal.τ).loc Cert.NormOddRefIdeal.main_arg4) = m ((c.tc : Thread Cert.NormOddRefIdeal.nD Cert.NormOddRefIdeal.τ).loc Cert.NormOddRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_CrossFwd [hCrossFwd : Cert.CrossFwd.Facts] : Prop :=
  ∀ (m : (ℓ : Loc Cert.CrossFwd.nD Cert.CrossFwd.τ Cert.CrossFwd.sig) → Buf (Elt Bits) ℓ) (g : Dev Cert.CrossFwd.nD → PrngReg), Pre_CrossFwd m →
    θ_run (Cert.CrossFwd.defs (F := Bits)) (onTc (τ := Cert.CrossFwd.τ) (Cert.CrossFwd.main (F := Bits))) ⟨m, fun _ => 0, g⟩ (fun r => (∀ c : Dev Cert.CrossFwd.nD,
      r.2.mem ((c.tc : Thread Cert.CrossFwd.nD Cert.CrossFwd.τ).loc Cert.CrossFwd.main_arg0) = m ((c.tc : Thread Cert.CrossFwd.nD Cert.CrossFwd.τ).loc Cert.CrossFwd.main_arg0)
      ∧ r.2.mem ((c.tc : Thread Cert.CrossFwd.nD Cert.CrossFwd.τ).loc Cert.CrossFwd.main_arg1) = m ((c.tc : Thread Cert.CrossFwd.nD Cert.CrossFwd.τ).loc Cert.CrossFwd.main_arg1)
      ∧ r.2.mem ((c.tc : Thread Cert.CrossFwd.nD Cert.CrossFwd.τ).loc Cert.CrossFwd.main_arg2) = m ((c.tc : Thread Cert.CrossFwd.nD Cert.CrossFwd.τ).loc Cert.CrossFwd.main_arg2)
      ∧ r.2.mem ((c.tc : Thread Cert.CrossFwd.nD Cert.CrossFwd.τ).loc Cert.CrossFwd.main_arg3) = m ((c.tc : Thread Cert.CrossFwd.nD Cert.CrossFwd.τ).loc Cert.CrossFwd.main_arg3)
      ∧ r.2.mem ((c.tc : Thread Cert.CrossFwd.nD Cert.CrossFwd.τ).loc Cert.CrossFwd.main_arg4) = m ((c.tc : Thread Cert.CrossFwd.nD Cert.CrossFwd.τ).loc Cert.CrossFwd.main_arg4))
      ∧ r.2.sem = fun _ => 0)

def quiescent_CrossFwdIdeal [hCrossFwdIdeal : Cert.CrossFwdIdeal.Facts] : Prop :=
  ∀ (m : (ℓ : Loc Cert.CrossFwdIdeal.nD Cert.CrossFwdIdeal.τ Cert.CrossFwdIdeal.sig) → Buf (Elt Ideal) ℓ) (g : Dev Cert.CrossFwdIdeal.nD → PrngReg), Pre_CrossFwdIdeal m →
    θ_run (Cert.CrossFwdIdeal.defs (F := Ideal)) (onTc (τ := Cert.CrossFwdIdeal.τ) (Cert.CrossFwdIdeal.main (F := Ideal))) ⟨m, fun _ => 0, g⟩ (fun r => (∀ c : Dev Cert.CrossFwdIdeal.nD,
      r.2.mem ((c.tc : Thread Cert.CrossFwdIdeal.nD Cert.CrossFwdIdeal.τ).loc Cert.CrossFwdIdeal.main_arg0) = m ((c.tc : Thread Cert.CrossFwdIdeal.nD Cert.CrossFwdIdeal.τ).loc Cert.CrossFwdIdeal.main_arg0)
      ∧ r.2.mem ((c.tc : Thread Cert.CrossFwdIdeal.nD Cert.CrossFwdIdeal.τ).loc Cert.CrossFwdIdeal.main_arg1) = m ((c.tc : Thread Cert.CrossFwdIdeal.nD Cert.CrossFwdIdeal.τ).loc Cert.CrossFwdIdeal.main_arg1)
      ∧ r.2.mem ((c.tc : Thread Cert.CrossFwdIdeal.nD Cert.CrossFwdIdeal.τ).loc Cert.CrossFwdIdeal.main_arg2) = m ((c.tc : Thread Cert.CrossFwdIdeal.nD Cert.CrossFwdIdeal.τ).loc Cert.CrossFwdIdeal.main_arg2)
      ∧ r.2.mem ((c.tc : Thread Cert.CrossFwdIdeal.nD Cert.CrossFwdIdeal.τ).loc Cert.CrossFwdIdeal.main_arg3) = m ((c.tc : Thread Cert.CrossFwdIdeal.nD Cert.CrossFwdIdeal.τ).loc Cert.CrossFwdIdeal.main_arg3)
      ∧ r.2.mem ((c.tc : Thread Cert.CrossFwdIdeal.nD Cert.CrossFwdIdeal.τ).loc Cert.CrossFwdIdeal.main_arg4) = m ((c.tc : Thread Cert.CrossFwdIdeal.nD Cert.CrossFwdIdeal.τ).loc Cert.CrossFwdIdeal.main_arg4))
      ∧ r.2.sem = fun _ => 0)

def quiescent_CrossFwdIdeal_pre_cross_fwd_finite [hCrossFwdIdeal : Cert.CrossFwdIdeal.Facts] [hPre_cross_fwd_finite : Cert.Pre_cross_fwd_finite.Facts] : Prop :=
  ∀ (m : (ℓ : Loc Cert.CrossFwdIdeal.nD Cert.CrossFwdIdeal.τ Cert.CrossFwdIdeal.sig) → Buf (Elt Ideal) ℓ) (g : Dev Cert.CrossFwdIdeal.nD → PrngReg), Pre_CrossFwdIdeal_cross_fwd_finite m →
    θ_run (Cert.CrossFwdIdeal.defs (F := Ideal)) (onTc (τ := Cert.CrossFwdIdeal.τ) (Cert.CrossFwdIdeal.main (F := Ideal))) ⟨m, fun _ => 0, g⟩ (fun r => (∀ c : Dev Cert.CrossFwdIdeal.nD,
      r.2.mem ((c.tc : Thread Cert.CrossFwdIdeal.nD Cert.CrossFwdIdeal.τ).loc Cert.CrossFwdIdeal.main_arg0) = m ((c.tc : Thread Cert.CrossFwdIdeal.nD Cert.CrossFwdIdeal.τ).loc Cert.CrossFwdIdeal.main_arg0)
      ∧ r.2.mem ((c.tc : Thread Cert.CrossFwdIdeal.nD Cert.CrossFwdIdeal.τ).loc Cert.CrossFwdIdeal.main_arg1) = m ((c.tc : Thread Cert.CrossFwdIdeal.nD Cert.CrossFwdIdeal.τ).loc Cert.CrossFwdIdeal.main_arg1)
      ∧ r.2.mem ((c.tc : Thread Cert.CrossFwdIdeal.nD Cert.CrossFwdIdeal.τ).loc Cert.CrossFwdIdeal.main_arg2) = m ((c.tc : Thread Cert.CrossFwdIdeal.nD Cert.CrossFwdIdeal.τ).loc Cert.CrossFwdIdeal.main_arg2)
      ∧ r.2.mem ((c.tc : Thread Cert.CrossFwdIdeal.nD Cert.CrossFwdIdeal.τ).loc Cert.CrossFwdIdeal.main_arg3) = m ((c.tc : Thread Cert.CrossFwdIdeal.nD Cert.CrossFwdIdeal.τ).loc Cert.CrossFwdIdeal.main_arg3)
      ∧ r.2.mem ((c.tc : Thread Cert.CrossFwdIdeal.nD Cert.CrossFwdIdeal.τ).loc Cert.CrossFwdIdeal.main_arg4) = m ((c.tc : Thread Cert.CrossFwdIdeal.nD Cert.CrossFwdIdeal.τ).loc Cert.CrossFwdIdeal.main_arg4))
      ∧ r.2.sem = fun _ => 0)

def quiescent_CrossFwdRefIdeal [hCrossFwdRefIdeal : Cert.CrossFwdRefIdeal.Facts] : Prop :=
  ∀ (m : (ℓ : Loc Cert.CrossFwdRefIdeal.nD Cert.CrossFwdRefIdeal.τ Cert.CrossFwdRefIdeal.sig) → Buf (Elt Ideal) ℓ) (g : Dev Cert.CrossFwdRefIdeal.nD → PrngReg), Pre_CrossFwdRefIdeal m →
    θ_run (Cert.CrossFwdRefIdeal.defs (F := Ideal)) (onTc (τ := Cert.CrossFwdRefIdeal.τ) (Cert.CrossFwdRefIdeal.main (F := Ideal))) ⟨m, fun _ => 0, g⟩ (fun r => (∀ c : Dev Cert.CrossFwdRefIdeal.nD,
      r.2.mem ((c.tc : Thread Cert.CrossFwdRefIdeal.nD Cert.CrossFwdRefIdeal.τ).loc Cert.CrossFwdRefIdeal.main_arg0) = m ((c.tc : Thread Cert.CrossFwdRefIdeal.nD Cert.CrossFwdRefIdeal.τ).loc Cert.CrossFwdRefIdeal.main_arg0)
      ∧ r.2.mem ((c.tc : Thread Cert.CrossFwdRefIdeal.nD Cert.CrossFwdRefIdeal.τ).loc Cert.CrossFwdRefIdeal.main_arg1) = m ((c.tc : Thread Cert.CrossFwdRefIdeal.nD Cert.CrossFwdRefIdeal.τ).loc Cert.CrossFwdRefIdeal.main_arg1)
      ∧ r.2.mem ((c.tc : Thread Cert.CrossFwdRefIdeal.nD Cert.CrossFwdRefIdeal.τ).loc Cert.CrossFwdRefIdeal.main_arg2) = m ((c.tc : Thread Cert.CrossFwdRefIdeal.nD Cert.CrossFwdRefIdeal.τ).loc Cert.CrossFwdRefIdeal.main_arg2)
      ∧ r.2.mem ((c.tc : Thread Cert.CrossFwdRefIdeal.nD Cert.CrossFwdRefIdeal.τ).loc Cert.CrossFwdRefIdeal.main_arg3) = m ((c.tc : Thread Cert.CrossFwdRefIdeal.nD Cert.CrossFwdRefIdeal.τ).loc Cert.CrossFwdRefIdeal.main_arg3)
      ∧ r.2.mem ((c.tc : Thread Cert.CrossFwdRefIdeal.nD Cert.CrossFwdRefIdeal.τ).loc Cert.CrossFwdRefIdeal.main_arg4) = m ((c.tc : Thread Cert.CrossFwdRefIdeal.nD Cert.CrossFwdRefIdeal.τ).loc Cert.CrossFwdRefIdeal.main_arg4))
      ∧ r.2.sem = fun _ => 0)

def quiescent_CrossFwdRefIdeal_pre_cross_fwd_finite [hCrossFwdRefIdeal : Cert.CrossFwdRefIdeal.Facts] [hPre_cross_fwd_finite : Cert.Pre_cross_fwd_finite.Facts] : Prop :=
  ∀ (m : (ℓ : Loc Cert.CrossFwdRefIdeal.nD Cert.CrossFwdRefIdeal.τ Cert.CrossFwdRefIdeal.sig) → Buf (Elt Ideal) ℓ) (g : Dev Cert.CrossFwdRefIdeal.nD → PrngReg), Pre_CrossFwdRefIdeal_cross_fwd_finite m →
    θ_run (Cert.CrossFwdRefIdeal.defs (F := Ideal)) (onTc (τ := Cert.CrossFwdRefIdeal.τ) (Cert.CrossFwdRefIdeal.main (F := Ideal))) ⟨m, fun _ => 0, g⟩ (fun r => (∀ c : Dev Cert.CrossFwdRefIdeal.nD,
      r.2.mem ((c.tc : Thread Cert.CrossFwdRefIdeal.nD Cert.CrossFwdRefIdeal.τ).loc Cert.CrossFwdRefIdeal.main_arg0) = m ((c.tc : Thread Cert.CrossFwdRefIdeal.nD Cert.CrossFwdRefIdeal.τ).loc Cert.CrossFwdRefIdeal.main_arg0)
      ∧ r.2.mem ((c.tc : Thread Cert.CrossFwdRefIdeal.nD Cert.CrossFwdRefIdeal.τ).loc Cert.CrossFwdRefIdeal.main_arg1) = m ((c.tc : Thread Cert.CrossFwdRefIdeal.nD Cert.CrossFwdRefIdeal.τ).loc Cert.CrossFwdRefIdeal.main_arg1)
      ∧ r.2.mem ((c.tc : Thread Cert.CrossFwdRefIdeal.nD Cert.CrossFwdRefIdeal.τ).loc Cert.CrossFwdRefIdeal.main_arg2) = m ((c.tc : Thread Cert.CrossFwdRefIdeal.nD Cert.CrossFwdRefIdeal.τ).loc Cert.CrossFwdRefIdeal.main_arg2)
      ∧ r.2.mem ((c.tc : Thread Cert.CrossFwdRefIdeal.nD Cert.CrossFwdRefIdeal.τ).loc Cert.CrossFwdRefIdeal.main_arg3) = m ((c.tc : Thread Cert.CrossFwdRefIdeal.nD Cert.CrossFwdRefIdeal.τ).loc Cert.CrossFwdRefIdeal.main_arg3)
      ∧ r.2.mem ((c.tc : Thread Cert.CrossFwdRefIdeal.nD Cert.CrossFwdRefIdeal.τ).loc Cert.CrossFwdRefIdeal.main_arg4) = m ((c.tc : Thread Cert.CrossFwdRefIdeal.nD Cert.CrossFwdRefIdeal.τ).loc Cert.CrossFwdRefIdeal.main_arg4))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3))
      ∧ r.2.sem = fun _ => 0)

def quiescent_ShortConvFwd [hShortConvFwd : Cert.ShortConvFwd.Facts] : Prop :=
  ∀ (m : (ℓ : Loc Cert.ShortConvFwd.nD Cert.ShortConvFwd.τ Cert.ShortConvFwd.sig) → Buf (Elt Bits) ℓ) (g : Dev Cert.ShortConvFwd.nD → PrngReg), Pre_ShortConvFwd m →
    θ_run (Cert.ShortConvFwd.defs (F := Bits)) (onTc (τ := Cert.ShortConvFwd.τ) (Cert.ShortConvFwd.main (F := Bits))) ⟨m, fun _ => 0, g⟩ (fun r => (∀ c : Dev Cert.ShortConvFwd.nD,
      r.2.mem ((c.tc : Thread Cert.ShortConvFwd.nD Cert.ShortConvFwd.τ).loc Cert.ShortConvFwd.main_arg0) = m ((c.tc : Thread Cert.ShortConvFwd.nD Cert.ShortConvFwd.τ).loc Cert.ShortConvFwd.main_arg0)
      ∧ r.2.mem ((c.tc : Thread Cert.ShortConvFwd.nD Cert.ShortConvFwd.τ).loc Cert.ShortConvFwd.main_arg1) = m ((c.tc : Thread Cert.ShortConvFwd.nD Cert.ShortConvFwd.τ).loc Cert.ShortConvFwd.main_arg1))
      ∧ r.2.sem = fun _ => 0)

def quiescent_ShortConvFwdIdeal [hShortConvFwdIdeal : Cert.ShortConvFwdIdeal.Facts] : Prop :=
  ∀ (m : (ℓ : Loc Cert.ShortConvFwdIdeal.nD Cert.ShortConvFwdIdeal.τ Cert.ShortConvFwdIdeal.sig) → Buf (Elt Ideal) ℓ) (g : Dev Cert.ShortConvFwdIdeal.nD → PrngReg), Pre_ShortConvFwdIdeal m →
    θ_run (Cert.ShortConvFwdIdeal.defs (F := Ideal)) (onTc (τ := Cert.ShortConvFwdIdeal.τ) (Cert.ShortConvFwdIdeal.main (F := Ideal))) ⟨m, fun _ => 0, g⟩ (fun r => (∀ c : Dev Cert.ShortConvFwdIdeal.nD,
      r.2.mem ((c.tc : Thread Cert.ShortConvFwdIdeal.nD Cert.ShortConvFwdIdeal.τ).loc Cert.ShortConvFwdIdeal.main_arg0) = m ((c.tc : Thread Cert.ShortConvFwdIdeal.nD Cert.ShortConvFwdIdeal.τ).loc Cert.ShortConvFwdIdeal.main_arg0)
      ∧ r.2.mem ((c.tc : Thread Cert.ShortConvFwdIdeal.nD Cert.ShortConvFwdIdeal.τ).loc Cert.ShortConvFwdIdeal.main_arg1) = m ((c.tc : Thread Cert.ShortConvFwdIdeal.nD Cert.ShortConvFwdIdeal.τ).loc Cert.ShortConvFwdIdeal.main_arg1))
      ∧ r.2.sem = fun _ => 0)

def quiescent_ShortConvFwdRefIdeal [hShortConvFwdRefIdeal : Cert.ShortConvFwdRefIdeal.Facts] : Prop :=
  ∀ (m : (ℓ : Loc Cert.ShortConvFwdRefIdeal.nD Cert.ShortConvFwdRefIdeal.τ Cert.ShortConvFwdRefIdeal.sig) → Buf (Elt Ideal) ℓ) (g : Dev Cert.ShortConvFwdRefIdeal.nD → PrngReg), Pre_ShortConvFwdRefIdeal m →
    θ_run (Cert.ShortConvFwdRefIdeal.defs (F := Ideal)) (onTc (τ := Cert.ShortConvFwdRefIdeal.τ) (Cert.ShortConvFwdRefIdeal.main (F := Ideal))) ⟨m, fun _ => 0, g⟩ (fun r => (∀ c : Dev Cert.ShortConvFwdRefIdeal.nD,
      r.2.mem ((c.tc : Thread Cert.ShortConvFwdRefIdeal.nD Cert.ShortConvFwdRefIdeal.τ).loc Cert.ShortConvFwdRefIdeal.main_arg0) = m ((c.tc : Thread Cert.ShortConvFwdRefIdeal.nD Cert.ShortConvFwdRefIdeal.τ).loc Cert.ShortConvFwdRefIdeal.main_arg0)
      ∧ r.2.mem ((c.tc : Thread Cert.ShortConvFwdRefIdeal.nD Cert.ShortConvFwdRefIdeal.τ).loc Cert.ShortConvFwdRefIdeal.main_arg1) = m ((c.tc : Thread Cert.ShortConvFwdRefIdeal.nD Cert.ShortConvFwdRefIdeal.τ).loc Cert.ShortConvFwdRefIdeal.main_arg1))
      ∧ r.2.sem = fun _ => 0)

def quiescent_MemNormFwd [hMemNormFwd : Cert.MemNormFwd.Facts] : Prop :=
  ∀ (m : (ℓ : Loc Cert.MemNormFwd.nD Cert.MemNormFwd.τ Cert.MemNormFwd.sig) → Buf (Elt Bits) ℓ) (g : Dev Cert.MemNormFwd.nD → PrngReg), Pre_MemNormFwd m →
    θ_run (Cert.MemNormFwd.defs (F := Bits)) (onTc (τ := Cert.MemNormFwd.τ) (Cert.MemNormFwd.main (F := Bits))) ⟨m, fun _ => 0, g⟩ (fun r => (∀ c : Dev Cert.MemNormFwd.nD,
      r.2.mem ((c.tc : Thread Cert.MemNormFwd.nD Cert.MemNormFwd.τ).loc Cert.MemNormFwd.main_arg0) = m ((c.tc : Thread Cert.MemNormFwd.nD Cert.MemNormFwd.τ).loc Cert.MemNormFwd.main_arg0)
      ∧ r.2.mem ((c.tc : Thread Cert.MemNormFwd.nD Cert.MemNormFwd.τ).loc Cert.MemNormFwd.main_arg1) = m ((c.tc : Thread Cert.MemNormFwd.nD Cert.MemNormFwd.τ).loc Cert.MemNormFwd.main_arg1))
      ∧ r.2.sem = fun _ => 0)

def quiescent_MemNormFwdIdeal [hMemNormFwdIdeal : Cert.MemNormFwdIdeal.Facts] : Prop :=
  ∀ (m : (ℓ : Loc Cert.MemNormFwdIdeal.nD Cert.MemNormFwdIdeal.τ Cert.MemNormFwdIdeal.sig) → Buf (Elt Ideal) ℓ) (g : Dev Cert.MemNormFwdIdeal.nD → PrngReg), Pre_MemNormFwdIdeal m →
    θ_run (Cert.MemNormFwdIdeal.defs (F := Ideal)) (onTc (τ := Cert.MemNormFwdIdeal.τ) (Cert.MemNormFwdIdeal.main (F := Ideal))) ⟨m, fun _ => 0, g⟩ (fun r => (∀ c : Dev Cert.MemNormFwdIdeal.nD,
      r.2.mem ((c.tc : Thread Cert.MemNormFwdIdeal.nD Cert.MemNormFwdIdeal.τ).loc Cert.MemNormFwdIdeal.main_arg0) = m ((c.tc : Thread Cert.MemNormFwdIdeal.nD Cert.MemNormFwdIdeal.τ).loc Cert.MemNormFwdIdeal.main_arg0)
      ∧ r.2.mem ((c.tc : Thread Cert.MemNormFwdIdeal.nD Cert.MemNormFwdIdeal.τ).loc Cert.MemNormFwdIdeal.main_arg1) = m ((c.tc : Thread Cert.MemNormFwdIdeal.nD Cert.MemNormFwdIdeal.τ).loc Cert.MemNormFwdIdeal.main_arg1))
      ∧ r.2.sem = fun _ => 0)

def quiescent_MemNormFwdRefIdeal [hMemNormFwdRefIdeal : Cert.MemNormFwdRefIdeal.Facts] : Prop :=
  ∀ (m : (ℓ : Loc Cert.MemNormFwdRefIdeal.nD Cert.MemNormFwdRefIdeal.τ Cert.MemNormFwdRefIdeal.sig) → Buf (Elt Ideal) ℓ) (g : Dev Cert.MemNormFwdRefIdeal.nD → PrngReg), Pre_MemNormFwdRefIdeal m →
    θ_run (Cert.MemNormFwdRefIdeal.defs (F := Ideal)) (onTc (τ := Cert.MemNormFwdRefIdeal.τ) (Cert.MemNormFwdRefIdeal.main (F := Ideal))) ⟨m, fun _ => 0, g⟩ (fun r => (∀ c : Dev Cert.MemNormFwdRefIdeal.nD,
      r.2.mem ((c.tc : Thread Cert.MemNormFwdRefIdeal.nD Cert.MemNormFwdRefIdeal.τ).loc Cert.MemNormFwdRefIdeal.main_arg0) = m ((c.tc : Thread Cert.MemNormFwdRefIdeal.nD Cert.MemNormFwdRefIdeal.τ).loc Cert.MemNormFwdRefIdeal.main_arg0)
      ∧ r.2.mem ((c.tc : Thread Cert.MemNormFwdRefIdeal.nD Cert.MemNormFwdRefIdeal.τ).loc Cert.MemNormFwdRefIdeal.main_arg1) = m ((c.tc : Thread Cert.MemNormFwdRefIdeal.nD Cert.MemNormFwdRefIdeal.τ).loc Cert.MemNormFwdRefIdeal.main_arg1))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1)
      ∧ r.2.mem ((c.tc : Thread Cert.NormFwd.nD Cert.NormFwd.τ).loc Cert.NormFwd.main_arg2) = m ((c.tc : Thread Cert.NormFwd.nD Cert.NormFwd.τ).loc Cert.NormFwd.main_arg2))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1)
      ∧ r.2.mem ((c.tc : Thread Cert.NormFwdRefIdeal.nD Cert.NormFwdRefIdeal.τ).loc Cert.NormFwdRefIdeal.main_arg2) = m ((c.tc : Thread Cert.NormFwdRefIdeal.nD Cert.NormFwdRefIdeal.τ).loc Cert.NormFwdRefIdeal.main_arg2))
      ∧ r.2.sem = fun _ => 0)

def quiescent_WindowFwd [hWindowFwd : Cert.WindowFwd.Facts] : Prop :=
  ∀ (m : (ℓ : Loc Cert.WindowFwd.nD Cert.WindowFwd.τ Cert.WindowFwd.sig) → Buf (Elt Bits) ℓ) (g : Dev Cert.WindowFwd.nD → PrngReg), Pre_WindowFwd m →
    θ_run (Cert.WindowFwd.defs (F := Bits)) (onTc (τ := Cert.WindowFwd.τ) (Cert.WindowFwd.main (F := Bits))) ⟨m, fun _ => 0, g⟩ (fun r => (∀ c : Dev Cert.WindowFwd.nD,
      r.2.mem ((c.tc : Thread Cert.WindowFwd.nD Cert.WindowFwd.τ).loc Cert.WindowFwd.main_arg0) = m ((c.tc : Thread Cert.WindowFwd.nD Cert.WindowFwd.τ).loc Cert.WindowFwd.main_arg0)
      ∧ r.2.mem ((c.tc : Thread Cert.WindowFwd.nD Cert.WindowFwd.τ).loc Cert.WindowFwd.main_arg1) = m ((c.tc : Thread Cert.WindowFwd.nD Cert.WindowFwd.τ).loc Cert.WindowFwd.main_arg1)
      ∧ r.2.mem ((c.tc : Thread Cert.WindowFwd.nD Cert.WindowFwd.τ).loc Cert.WindowFwd.main_arg2) = m ((c.tc : Thread Cert.WindowFwd.nD Cert.WindowFwd.τ).loc Cert.WindowFwd.main_arg2))
      ∧ r.2.sem = fun _ => 0)

def quiescent_WindowFwdIdeal [hWindowFwdIdeal : Cert.WindowFwdIdeal.Facts] : Prop :=
  ∀ (m : (ℓ : Loc Cert.WindowFwdIdeal.nD Cert.WindowFwdIdeal.τ Cert.WindowFwdIdeal.sig) → Buf (Elt Ideal) ℓ) (g : Dev Cert.WindowFwdIdeal.nD → PrngReg), Pre_WindowFwdIdeal m →
    θ_run (Cert.WindowFwdIdeal.defs (F := Ideal)) (onTc (τ := Cert.WindowFwdIdeal.τ) (Cert.WindowFwdIdeal.main (F := Ideal))) ⟨m, fun _ => 0, g⟩ (fun r => (∀ c : Dev Cert.WindowFwdIdeal.nD,
      r.2.mem ((c.tc : Thread Cert.WindowFwdIdeal.nD Cert.WindowFwdIdeal.τ).loc Cert.WindowFwdIdeal.main_arg0) = m ((c.tc : Thread Cert.WindowFwdIdeal.nD Cert.WindowFwdIdeal.τ).loc Cert.WindowFwdIdeal.main_arg0)
      ∧ r.2.mem ((c.tc : Thread Cert.WindowFwdIdeal.nD Cert.WindowFwdIdeal.τ).loc Cert.WindowFwdIdeal.main_arg1) = m ((c.tc : Thread Cert.WindowFwdIdeal.nD Cert.WindowFwdIdeal.τ).loc Cert.WindowFwdIdeal.main_arg1)
      ∧ r.2.mem ((c.tc : Thread Cert.WindowFwdIdeal.nD Cert.WindowFwdIdeal.τ).loc Cert.WindowFwdIdeal.main_arg2) = m ((c.tc : Thread Cert.WindowFwdIdeal.nD Cert.WindowFwdIdeal.τ).loc Cert.WindowFwdIdeal.main_arg2))
      ∧ r.2.sem = fun _ => 0)

def quiescent_WindowFwdIdeal_pre_window_fwd_finite [hWindowFwdIdeal : Cert.WindowFwdIdeal.Facts] [hPre_window_fwd_finite : Cert.Pre_window_fwd_finite.Facts] : Prop :=
  ∀ (m : (ℓ : Loc Cert.WindowFwdIdeal.nD Cert.WindowFwdIdeal.τ Cert.WindowFwdIdeal.sig) → Buf (Elt Ideal) ℓ) (g : Dev Cert.WindowFwdIdeal.nD → PrngReg), Pre_WindowFwdIdeal_window_fwd_finite m →
    θ_run (Cert.WindowFwdIdeal.defs (F := Ideal)) (onTc (τ := Cert.WindowFwdIdeal.τ) (Cert.WindowFwdIdeal.main (F := Ideal))) ⟨m, fun _ => 0, g⟩ (fun r => (∀ c : Dev Cert.WindowFwdIdeal.nD,
      r.2.mem ((c.tc : Thread Cert.WindowFwdIdeal.nD Cert.WindowFwdIdeal.τ).loc Cert.WindowFwdIdeal.main_arg0) = m ((c.tc : Thread Cert.WindowFwdIdeal.nD Cert.WindowFwdIdeal.τ).loc Cert.WindowFwdIdeal.main_arg0)
      ∧ r.2.mem ((c.tc : Thread Cert.WindowFwdIdeal.nD Cert.WindowFwdIdeal.τ).loc Cert.WindowFwdIdeal.main_arg1) = m ((c.tc : Thread Cert.WindowFwdIdeal.nD Cert.WindowFwdIdeal.τ).loc Cert.WindowFwdIdeal.main_arg1)
      ∧ r.2.mem ((c.tc : Thread Cert.WindowFwdIdeal.nD Cert.WindowFwdIdeal.τ).loc Cert.WindowFwdIdeal.main_arg2) = m ((c.tc : Thread Cert.WindowFwdIdeal.nD Cert.WindowFwdIdeal.τ).loc Cert.WindowFwdIdeal.main_arg2))
      ∧ r.2.sem = fun _ => 0)

def quiescent_WindowFwdRefIdeal [hWindowFwdRefIdeal : Cert.WindowFwdRefIdeal.Facts] : Prop :=
  ∀ (m : (ℓ : Loc Cert.WindowFwdRefIdeal.nD Cert.WindowFwdRefIdeal.τ Cert.WindowFwdRefIdeal.sig) → Buf (Elt Ideal) ℓ) (g : Dev Cert.WindowFwdRefIdeal.nD → PrngReg), Pre_WindowFwdRefIdeal m →
    θ_run (Cert.WindowFwdRefIdeal.defs (F := Ideal)) (onTc (τ := Cert.WindowFwdRefIdeal.τ) (Cert.WindowFwdRefIdeal.main (F := Ideal))) ⟨m, fun _ => 0, g⟩ (fun r => (∀ c : Dev Cert.WindowFwdRefIdeal.nD,
      r.2.mem ((c.tc : Thread Cert.WindowFwdRefIdeal.nD Cert.WindowFwdRefIdeal.τ).loc Cert.WindowFwdRefIdeal.main_arg0) = m ((c.tc : Thread Cert.WindowFwdRefIdeal.nD Cert.WindowFwdRefIdeal.τ).loc Cert.WindowFwdRefIdeal.main_arg0)
      ∧ r.2.mem ((c.tc : Thread Cert.WindowFwdRefIdeal.nD Cert.WindowFwdRefIdeal.τ).loc Cert.WindowFwdRefIdeal.main_arg1) = m ((c.tc : Thread Cert.WindowFwdRefIdeal.nD Cert.WindowFwdRefIdeal.τ).loc Cert.WindowFwdRefIdeal.main_arg1)
      ∧ r.2.mem ((c.tc : Thread Cert.WindowFwdRefIdeal.nD Cert.WindowFwdRefIdeal.τ).loc Cert.WindowFwdRefIdeal.main_arg2) = m ((c.tc : Thread Cert.WindowFwdRefIdeal.nD Cert.WindowFwdRefIdeal.τ).loc Cert.WindowFwdRefIdeal.main_arg2))
      ∧ r.2.sem = fun _ => 0)

def quiescent_WindowFwdRefIdeal_pre_window_fwd_finite [hWindowFwdRefIdeal : Cert.WindowFwdRefIdeal.Facts] [hPre_window_fwd_finite : Cert.Pre_window_fwd_finite.Facts] : Prop :=
  ∀ (m : (ℓ : Loc Cert.WindowFwdRefIdeal.nD Cert.WindowFwdRefIdeal.τ Cert.WindowFwdRefIdeal.sig) → Buf (Elt Ideal) ℓ) (g : Dev Cert.WindowFwdRefIdeal.nD → PrngReg), Pre_WindowFwdRefIdeal_window_fwd_finite m →
    θ_run (Cert.WindowFwdRefIdeal.defs (F := Ideal)) (onTc (τ := Cert.WindowFwdRefIdeal.τ) (Cert.WindowFwdRefIdeal.main (F := Ideal))) ⟨m, fun _ => 0, g⟩ (fun r => (∀ c : Dev Cert.WindowFwdRefIdeal.nD,
      r.2.mem ((c.tc : Thread Cert.WindowFwdRefIdeal.nD Cert.WindowFwdRefIdeal.τ).loc Cert.WindowFwdRefIdeal.main_arg0) = m ((c.tc : Thread Cert.WindowFwdRefIdeal.nD Cert.WindowFwdRefIdeal.τ).loc Cert.WindowFwdRefIdeal.main_arg0)
      ∧ r.2.mem ((c.tc : Thread Cert.WindowFwdRefIdeal.nD Cert.WindowFwdRefIdeal.τ).loc Cert.WindowFwdRefIdeal.main_arg1) = m ((c.tc : Thread Cert.WindowFwdRefIdeal.nD Cert.WindowFwdRefIdeal.τ).loc Cert.WindowFwdRefIdeal.main_arg1)
      ∧ r.2.mem ((c.tc : Thread Cert.WindowFwdRefIdeal.nD Cert.WindowFwdRefIdeal.τ).loc Cert.WindowFwdRefIdeal.main_arg2) = m ((c.tc : Thread Cert.WindowFwdRefIdeal.nD Cert.WindowFwdRefIdeal.τ).loc Cert.WindowFwdRefIdeal.main_arg2))
      ∧ r.2.sem = fun _ => 0)

def quiescent_Product [hProduct : Cert.Product.Facts] : Prop :=
  ∀ (m : (ℓ : Loc Cert.Product.nD Cert.Product.τ Cert.Product.sig) → Buf (Elt Bits) ℓ) (g : Dev Cert.Product.nD → PrngReg), Pre_Product m →
    θ_run (Cert.Product.defs (F := Bits)) (onTc (τ := Cert.Product.τ) (Cert.Product.main (F := Bits))) ⟨m, fun _ => 0, g⟩ (fun r => (∀ c : Dev Cert.Product.nD,
      r.2.mem ((c.tc : Thread Cert.Product.nD Cert.Product.τ).loc Cert.Product.main_arg0) = m ((c.tc : Thread Cert.Product.nD Cert.Product.τ).loc Cert.Product.main_arg0)
      ∧ r.2.mem ((c.tc : Thread Cert.Product.nD Cert.Product.τ).loc Cert.Product.main_arg1) = m ((c.tc : Thread Cert.Product.nD Cert.Product.τ).loc Cert.Product.main_arg1))
      ∧ r.2.sem = fun _ => 0)

def quiescent_ProductIdeal [hProductIdeal : Cert.ProductIdeal.Facts] : Prop :=
  ∀ (m : (ℓ : Loc Cert.ProductIdeal.nD Cert.ProductIdeal.τ Cert.ProductIdeal.sig) → Buf (Elt Ideal) ℓ) (g : Dev Cert.ProductIdeal.nD → PrngReg), Pre_ProductIdeal m →
    θ_run (Cert.ProductIdeal.defs (F := Ideal)) (onTc (τ := Cert.ProductIdeal.τ) (Cert.ProductIdeal.main (F := Ideal))) ⟨m, fun _ => 0, g⟩ (fun r => (∀ c : Dev Cert.ProductIdeal.nD,
      r.2.mem ((c.tc : Thread Cert.ProductIdeal.nD Cert.ProductIdeal.τ).loc Cert.ProductIdeal.main_arg0) = m ((c.tc : Thread Cert.ProductIdeal.nD Cert.ProductIdeal.τ).loc Cert.ProductIdeal.main_arg0)
      ∧ r.2.mem ((c.tc : Thread Cert.ProductIdeal.nD Cert.ProductIdeal.τ).loc Cert.ProductIdeal.main_arg1) = m ((c.tc : Thread Cert.ProductIdeal.nD Cert.ProductIdeal.τ).loc Cert.ProductIdeal.main_arg1))
      ∧ r.2.sem = fun _ => 0)

def quiescent_ProductRefIdeal [hProductRefIdeal : Cert.ProductRefIdeal.Facts] : Prop :=
  ∀ (m : (ℓ : Loc Cert.ProductRefIdeal.nD Cert.ProductRefIdeal.τ Cert.ProductRefIdeal.sig) → Buf (Elt Ideal) ℓ) (g : Dev Cert.ProductRefIdeal.nD → PrngReg), Pre_ProductRefIdeal m →
    θ_run (Cert.ProductRefIdeal.defs (F := Ideal)) (onTc (τ := Cert.ProductRefIdeal.τ) (Cert.ProductRefIdeal.main (F := Ideal))) ⟨m, fun _ => 0, g⟩ (fun r => (∀ c : Dev Cert.ProductRefIdeal.nD,
      r.2.mem ((c.tc : Thread Cert.ProductRefIdeal.nD Cert.ProductRefIdeal.τ).loc Cert.ProductRefIdeal.main_arg0) = m ((c.tc : Thread Cert.ProductRefIdeal.nD Cert.ProductRefIdeal.τ).loc Cert.ProductRefIdeal.main_arg0)
      ∧ r.2.mem ((c.tc : Thread Cert.ProductRefIdeal.nD Cert.ProductRefIdeal.τ).loc Cert.ProductRefIdeal.main_arg1) = m ((c.tc : Thread Cert.ProductRefIdeal.nD Cert.ProductRefIdeal.τ).loc Cert.ProductRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4)
      ∧ r.2.mem ((c.tc : Thread Cert.Adam.nD Cert.Adam.τ).loc Cert.Adam.main_arg5) = m ((c.tc : Thread Cert.Adam.nD Cert.Adam.τ).loc Cert.Adam.main_arg5)
      ∧ r.2.mem ((c.tc : Thread Cert.Adam.nD Cert.Adam.τ).loc Cert.Adam.main_arg6) = m ((c.tc : Thread Cert.Adam.nD Cert.Adam.τ).loc Cert.Adam.main_arg6))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
      ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
      ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4)
      ∧ r.2.mem ((c.tc : Thread Cert.AdamRefIdeal.nD Cert.AdamRefIdeal.τ).loc Cert.AdamRefIdeal.main_arg5) = m ((c.tc : Thread Cert.AdamRefIdeal.nD Cert.AdamRefIdeal.τ).loc Cert.AdamRefIdeal.main_arg5)
      ∧ r.2.mem ((c.tc : Thread Cert.AdamRefIdeal.nD Cert.AdamRefIdeal.τ).loc Cert.AdamRefIdeal.main_arg6) = m ((c.tc : Thread Cert.AdamRefIdeal.nD Cert.AdamRefIdeal.τ).loc Cert.AdamRefIdeal.main_arg6))
      ∧ r.2.sem = fun _ => 0)

def quiescent_ChipSum [hChipSum : Cert.ChipSum.Facts] [hPre_chip_of_four : Cert.Pre_chip_of_four.Facts] : Prop :=
  ∀ (m : (ℓ : Loc Cert.ChipSum.nD Cert.ChipSum.τ Cert.ChipSum.sig) → Buf (Elt Bits) ℓ) (g : Dev Cert.ChipSum.nD → PrngReg), Pre_ChipSum m →
    θ_run (Cert.ChipSum.defs (F := Bits)) (onTc (τ := Cert.ChipSum.τ) (Cert.ChipSum.main (F := Bits))) ⟨m, fun _ => 0, g⟩ (fun r => (∀ c : Dev Cert.ChipSum.nD,
      r.2.mem ((c.tc : Thread Cert.ChipSum.nD Cert.ChipSum.τ).loc Cert.ChipSum.main_arg0) = m ((c.tc : Thread Cert.ChipSum.nD Cert.ChipSum.τ).loc Cert.ChipSum.main_arg0)
      ∧ r.2.mem ((c.tc : Thread Cert.ChipSum.nD Cert.ChipSum.τ).loc Cert.ChipSum.main_arg1) = m ((c.tc : Thread Cert.ChipSum.nD Cert.ChipSum.τ).loc Cert.ChipSum.main_arg1)
      ∧ r.2.mem ((c.tc : Thread Cert.ChipSum.nD Cert.ChipSum.τ).loc Cert.ChipSum.main_arg2) = m ((c.tc : Thread Cert.ChipSum.nD Cert.ChipSum.τ).loc Cert.ChipSum.main_arg2))
      ∧ r.2.sem = fun _ => 0)

def quiescent_ChipSumIdeal [hChipSumIdeal : Cert.ChipSumIdeal.Facts] [hPre_chip_of_four : Cert.Pre_chip_of_four.Facts] : Prop :=
  ∀ (m : (ℓ : Loc Cert.ChipSumIdeal.nD Cert.ChipSumIdeal.τ Cert.ChipSumIdeal.sig) → Buf (Elt Ideal) ℓ) (g : Dev Cert.ChipSumIdeal.nD → PrngReg), Pre_ChipSumIdeal m →
    θ_run (Cert.ChipSumIdeal.defs (F := Ideal)) (onTc (τ := Cert.ChipSumIdeal.τ) (Cert.ChipSumIdeal.main (F := Ideal))) ⟨m, fun _ => 0, g⟩ (fun r => (∀ c : Dev Cert.ChipSumIdeal.nD,
      r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0)
      ∧ r.2.mem ((c.tc : Thread Cert.ChipSumIdeal.nD Cert.ChipSumIdeal.τ).loc Cert.ChipSumIdeal.main_arg1) = m ((c.tc : Thread Cert.ChipSumIdeal.nD Cert.ChipSumIdeal.τ).loc Cert.ChipSumIdeal.main_arg1)
      ∧ r.2.mem ((c.tc : Thread Cert.ChipSumIdeal.nD Cert.ChipSumIdeal.τ).loc Cert.ChipSumIdeal.main_arg2) = m ((c.tc : Thread Cert.ChipSumIdeal.nD Cert.ChipSumIdeal.τ).loc Cert.ChipSumIdeal.main_arg2))
      ∧ r.2.sem = fun _ => 0)

def quiescent_ChipSumRefIdeal [hChipSumRefIdeal : Cert.ChipSumRefIdeal.Facts] : Prop :=
  ∀ (m : (ℓ : Loc Cert.ChipSumRefIdeal.nD Cert.ChipSumRefIdeal.τ Cert.ChipSumRefIdeal.sig) → Buf (Elt Ideal) ℓ) (g : Dev Cert.ChipSumRefIdeal.nD → PrngReg), Pre_ChipSumRefIdeal m →
    θ_run (Cert.ChipSumRefIdeal.defs (F := Ideal)) (onTc (τ := Cert.ChipSumRefIdeal.τ) (Cert.ChipSumRefIdeal.main (F := Ideal))) ⟨m, fun _ => 0, g⟩ (fun r => (∀ c : Dev Cert.ChipSumRefIdeal.nD,
      r.2.mem ((c.tc : Thread Cert.ChipSumRefIdeal.nD Cert.ChipSumRefIdeal.τ).loc Cert.ChipSumRefIdeal.main_arg0) = m ((c.tc : Thread Cert.ChipSumRefIdeal.nD Cert.ChipSumRefIdeal.τ).loc Cert.ChipSumRefIdeal.main_arg0)
      ∧ r.2.mem ((c.tc : Thread Cert.ChipSumRefIdeal.nD Cert.ChipSumRefIdeal.τ).loc Cert.ChipSumRefIdeal.main_arg1) = m ((c.tc : Thread Cert.ChipSumRefIdeal.nD Cert.ChipSumRefIdeal.τ).loc Cert.ChipSumRefIdeal.main_arg1)
      ∧ r.2.mem ((c.tc : Thread Cert.ChipSumRefIdeal.nD Cert.ChipSumRefIdeal.τ).loc Cert.ChipSumRefIdeal.main_arg2) = m ((c.tc : Thread Cert.ChipSumRefIdeal.nD Cert.ChipSumRefIdeal.τ).loc Cert.ChipSumRefIdeal.main_arg2))
      ∧ r.2.sem = fun _ => 0)

def quiescent_ChipSumRefIdeal_pre_chip_of_four [hChipSumRefIdeal : Cert.ChipSumRefIdeal.Facts] [hPre_chip_of_four : Cert.Pre_chip_of_four.Facts] : Prop :=
  ∀ (m : (ℓ : Loc Cert.ChipSumRefIdeal.nD Cert.ChipSumRefIdeal.τ Cert.ChipSumRefIdeal.sig) → Buf (Elt Ideal) ℓ) (g : Dev Cert.ChipSumRefIdeal.nD → PrngReg), Pre_ChipSumRefIdeal_chip_of_four m →
    θ_run (Cert.ChipSumRefIdeal.defs (F := Ideal)) (onTc (τ := Cert.ChipSumRefIdeal.τ) (Cert.ChipSumRefIdeal.main (F := Ideal))) ⟨m, fun _ => 0, g⟩ (fun r => (∀ c : Dev Cert.ChipSumRefIdeal.nD,
      r.2.mem ((c.tc : Thread Cert.ChipSumRefIdeal.nD Cert.ChipSumRefIdeal.τ).loc Cert.ChipSumRefIdeal.main_arg0) = m ((c.tc : Thread Cert.ChipSumRefIdeal.nD Cert.ChipSumRefIdeal.τ).loc Cert.ChipSumRefIdeal.main_arg0)
      ∧ r.2.mem ((c.tc : Thread Cert.ChipSumRefIdeal.nD Cert.ChipSumRefIdeal.τ).loc Cert.ChipSumRefIdeal.main_arg1) = m ((c.tc : Thread Cert.ChipSumRefIdeal.nD Cert.ChipSumRefIdeal.τ).loc Cert.ChipSumRefIdeal.main_arg1)
      ∧ r.2.mem ((c.tc : Thread Cert.ChipSumRefIdeal.nD Cert.ChipSumRefIdeal.τ).loc Cert.ChipSumRefIdeal.main_arg2) = m ((c.tc : Thread Cert.ChipSumRefIdeal.nD Cert.ChipSumRefIdeal.τ).loc Cert.ChipSumRefIdeal.main_arg2))
      ∧ r.2.sem = fun _ => 0)

def quiescent_ConvAFwd [hConvAFwd : Cert.ConvAFwd.Facts] : Prop :=
  ∀ (m : (ℓ : Loc Cert.ConvAFwd.nD Cert.ConvAFwd.τ Cert.ConvAFwd.sig) → Buf (Elt Bits) ℓ) (g : Dev Cert.ConvAFwd.nD → PrngReg), Pre_ConvAFwd m →
    θ_run (Cert.ConvAFwd.defs (F := Bits)) (onTc (τ := Cert.ConvAFwd.τ) (Cert.ConvAFwd.main (F := Bits))) ⟨m, fun _ => 0, g⟩ (fun r => (∀ c : Dev Cert.ConvAFwd.nD,
      r.2.mem ((c.tc : Thread Cert.ConvAFwd.nD Cert.ConvAFwd.τ).loc Cert.ConvAFwd.main_arg0) = m ((c.tc : Thread Cert.ConvAFwd.nD Cert.ConvAFwd.τ).loc Cert.ConvAFwd.main_arg0)
      ∧ r.2.mem ((c.tc : Thread Cert.ConvAFwd.nD Cert.ConvAFwd.τ).loc Cert.ConvAFwd.main_arg1) = m ((c.tc : Thread Cert.ConvAFwd.nD Cert.ConvAFwd.τ).loc Cert.ConvAFwd.main_arg1)
      ∧ r.2.mem ((c.tc : Thread Cert.ConvAFwd.nD Cert.ConvAFwd.τ).loc Cert.ConvAFwd.main_arg2) = m ((c.tc : Thread Cert.ConvAFwd.nD Cert.ConvAFwd.τ).loc Cert.ConvAFwd.main_arg2)
      ∧ r.2.mem ((c.tc : Thread Cert.ConvAFwd.nD Cert.ConvAFwd.τ).loc Cert.ConvAFwd.main_arg3) = m ((c.tc : Thread Cert.ConvAFwd.nD Cert.ConvAFwd.τ).loc Cert.ConvAFwd.main_arg3)
      ∧ r.2.mem ((c.tc : Thread Cert.ConvAFwd.nD Cert.ConvAFwd.τ).loc Cert.ConvAFwd.main_arg4) = m ((c.tc : Thread Cert.ConvAFwd.nD Cert.ConvAFwd.τ).loc Cert.ConvAFwd.main_arg4))
      ∧ r.2.sem = fun _ => 0)

def quiescent_ConvAFwdIdeal [hConvAFwdIdeal : Cert.ConvAFwdIdeal.Facts] : Prop :=
  ∀ (m : (ℓ : Loc Cert.ConvAFwdIdeal.nD Cert.ConvAFwdIdeal.τ Cert.ConvAFwdIdeal.sig) → Buf (Elt Ideal) ℓ) (g : Dev Cert.ConvAFwdIdeal.nD → PrngReg), Pre_ConvAFwdIdeal m →
    θ_run (Cert.ConvAFwdIdeal.defs (F := Ideal)) (onTc (τ := Cert.ConvAFwdIdeal.τ) (Cert.ConvAFwdIdeal.main (F := Ideal))) ⟨m, fun _ => 0, g⟩ (fun r => (∀ c : Dev Cert.ConvAFwdIdeal.nD,
      r.2.mem ((c.tc : Thread Cert.ConvAFwdIdeal.nD Cert.ConvAFwdIdeal.τ).loc Cert.ConvAFwdIdeal.main_arg0) = m ((c.tc : Thread Cert.ConvAFwdIdeal.nD Cert.ConvAFwdIdeal.τ).loc Cert.ConvAFwdIdeal.main_arg0)
      ∧ r.2.mem ((c.tc : Thread Cert.ConvAFwdIdeal.nD Cert.ConvAFwdIdeal.τ).loc Cert.ConvAFwdIdeal.main_arg1) = m ((c.tc : Thread Cert.ConvAFwdIdeal.nD Cert.ConvAFwdIdeal.τ).loc Cert.ConvAFwdIdeal.main_arg1)
      ∧ r.2.mem ((c.tc : Thread Cert.ConvAFwdIdeal.nD Cert.ConvAFwdIdeal.τ).loc Cert.ConvAFwdIdeal.main_arg2) = m ((c.tc : Thread Cert.ConvAFwdIdeal.nD Cert.ConvAFwdIdeal.τ).loc Cert.ConvAFwdIdeal.main_arg2)
      ∧ r.2.mem ((c.tc : Thread Cert.ConvAFwdIdeal.nD Cert.ConvAFwdIdeal.τ).loc Cert.ConvAFwdIdeal.main_arg3) = m ((c.tc : Thread Cert.ConvAFwdIdeal.nD Cert.ConvAFwdIdeal.τ).loc Cert.ConvAFwdIdeal.main_arg3)
      ∧ r.2.mem ((c.tc : Thread Cert.ConvAFwdIdeal.nD Cert.ConvAFwdIdeal.τ).loc Cert.ConvAFwdIdeal.main_arg4) = m ((c.tc : Thread Cert.ConvAFwdIdeal.nD Cert.ConvAFwdIdeal.τ).loc Cert.ConvAFwdIdeal.main_arg4))
      ∧ r.2.sem = fun _ => 0)

def quiescent_ConvAFwdRefIdeal [hConvAFwdRefIdeal : Cert.ConvAFwdRefIdeal.Facts] : Prop :=
  ∀ (m : (ℓ : Loc Cert.ConvAFwdRefIdeal.nD Cert.ConvAFwdRefIdeal.τ Cert.ConvAFwdRefIdeal.sig) → Buf (Elt Ideal) ℓ) (g : Dev Cert.ConvAFwdRefIdeal.nD → PrngReg), Pre_ConvAFwdRefIdeal m →
    θ_run (Cert.ConvAFwdRefIdeal.defs (F := Ideal)) (onTc (τ := Cert.ConvAFwdRefIdeal.τ) (Cert.ConvAFwdRefIdeal.main (F := Ideal))) ⟨m, fun _ => 0, g⟩ (fun r => (∀ c : Dev Cert.ConvAFwdRefIdeal.nD,
      r.2.mem ((c.tc : Thread Cert.ConvAFwdRefIdeal.nD Cert.ConvAFwdRefIdeal.τ).loc Cert.ConvAFwdRefIdeal.main_arg0) = m ((c.tc : Thread Cert.ConvAFwdRefIdeal.nD Cert.ConvAFwdRefIdeal.τ).loc Cert.ConvAFwdRefIdeal.main_arg0)
      ∧ r.2.mem ((c.tc : Thread Cert.ConvAFwdRefIdeal.nD Cert.ConvAFwdRefIdeal.τ).loc Cert.ConvAFwdRefIdeal.main_arg1) = m ((c.tc : Thread Cert.ConvAFwdRefIdeal.nD Cert.ConvAFwdRefIdeal.τ).loc Cert.ConvAFwdRefIdeal.main_arg1)
      ∧ r.2.mem ((c.tc : Thread Cert.ConvAFwdRefIdeal.nD Cert.ConvAFwdRefIdeal.τ).loc Cert.ConvAFwdRefIdeal.main_arg2) = m ((c.tc : Thread Cert.ConvAFwdRefIdeal.nD Cert.ConvAFwdRefIdeal.τ).loc Cert.ConvAFwdRefIdeal.main_arg2)
      ∧ r.2.mem ((c.tc : Thread Cert.ConvAFwdRefIdeal.nD Cert.ConvAFwdRefIdeal.τ).loc Cert.ConvAFwdRefIdeal.main_arg3) = m ((c.tc : Thread Cert.ConvAFwdRefIdeal.nD Cert.ConvAFwdRefIdeal.τ).loc Cert.ConvAFwdRefIdeal.main_arg3)
      ∧ r.2.mem ((c.tc : Thread Cert.ConvAFwdRefIdeal.nD Cert.ConvAFwdRefIdeal.τ).loc Cert.ConvAFwdRefIdeal.main_arg4) = m ((c.tc : Thread Cert.ConvAFwdRefIdeal.nD Cert.ConvAFwdRefIdeal.τ).loc Cert.ConvAFwdRefIdeal.main_arg4))
      ∧ r.2.sem = fun _ => 0)

def quiescent_ConvA [hConvA : Cert.ConvA.Facts] : Prop :=
  ∀ (m : (ℓ : Loc Cert.ConvA.nD Cert.ConvA.τ Cert.ConvA.sig) → Buf (Elt Bits) ℓ) (g : Dev Cert.ConvA.nD → PrngReg), Pre_ConvA m →
    θ_run (Cert.ConvA.defs (F := Bits)) (onTc (τ := Cert.ConvA.τ) (Cert.ConvA.main (F := Bits))) ⟨m, fun _ => 0, g⟩ (fun r => (∀ c : Dev Cert.ConvA.nD,
      r.2.mem ((c.tc : Thread Cert.ConvA.nD Cert.ConvA.τ).loc Cert.ConvA.main_arg0) = m ((c.tc : Thread Cert.ConvA.nD Cert.ConvA.τ).loc Cert.ConvA.main_arg0)
      ∧ r.2.mem ((c.tc : Thread Cert.ConvA.nD Cert.ConvA.τ).loc Cert.ConvA.main_arg1) = m ((c.tc : Thread Cert.ConvA.nD Cert.ConvA.τ).loc Cert.ConvA.main_arg1)
      ∧ r.2.mem ((c.tc : Thread Cert.ConvA.nD Cert.ConvA.τ).loc Cert.ConvA.main_arg2) = m ((c.tc : Thread Cert.ConvA.nD Cert.ConvA.τ).loc Cert.ConvA.main_arg2)
      ∧ r.2.mem ((c.tc : Thread Cert.ConvA.nD Cert.ConvA.τ).loc Cert.ConvA.main_arg3) = m ((c.tc : Thread Cert.ConvA.nD Cert.ConvA.τ).loc Cert.ConvA.main_arg3)
      ∧ r.2.mem ((c.tc : Thread Cert.ConvA.nD Cert.ConvA.τ).loc Cert.ConvA.main_arg4) = m ((c.tc : Thread Cert.ConvA.nD Cert.ConvA.τ).loc Cert.ConvA.main_arg4)
      ∧ r.2.mem ((c.tc : Thread Cert.ConvA.nD Cert.ConvA.τ).loc Cert.ConvA.main_arg5) = m ((c.tc : Thread Cert.ConvA.nD Cert.ConvA.τ).loc Cert.ConvA.main_arg5))
      ∧ r.2.sem = fun _ => 0)

def quiescent_ConvAIdeal [hConvAIdeal : Cert.ConvAIdeal.Facts] : Prop :=
  ∀ (m : (ℓ : Loc Cert.ConvAIdeal.nD Cert.ConvAIdeal.τ Cert.ConvAIdeal.sig) → Buf (Elt Ideal) ℓ) (g : Dev Cert.ConvAIdeal.nD → PrngReg), Pre_ConvAIdeal m →
    θ_run (Cert.ConvAIdeal.defs (F := Ideal)) (onTc (τ := Cert.ConvAIdeal.τ) (Cert.ConvAIdeal.main (F := Ideal))) ⟨m, fun _ => 0, g⟩ (fun r => (∀ c : Dev Cert.ConvAIdeal.nD,
      r.2.mem ((c.tc : Thread Cert.ConvAIdeal.nD Cert.ConvAIdeal.τ).loc Cert.ConvAIdeal.main_arg0) = m ((c.tc : Thread Cert.ConvAIdeal.nD Cert.ConvAIdeal.τ).loc Cert.ConvAIdeal.main_arg0)
      ∧ r.2.mem ((c.tc : Thread Cert.ConvAIdeal.nD Cert.ConvAIdeal.τ).loc Cert.ConvAIdeal.main_arg1) = m ((c.tc : Thread Cert.ConvAIdeal.nD Cert.ConvAIdeal.τ).loc Cert.ConvAIdeal.main_arg1)
      ∧ r.2.mem ((c.tc : Thread Cert.ConvAIdeal.nD Cert.ConvAIdeal.τ).loc Cert.ConvAIdeal.main_arg2) = m ((c.tc : Thread Cert.ConvAIdeal.nD Cert.ConvAIdeal.τ).loc Cert.ConvAIdeal.main_arg2)
      ∧ r.2.mem ((c.tc : Thread Cert.ConvAIdeal.nD Cert.ConvAIdeal.τ).loc Cert.ConvAIdeal.main_arg3) = m ((c.tc : Thread Cert.ConvAIdeal.nD Cert.ConvAIdeal.τ).loc Cert.ConvAIdeal.main_arg3)
      ∧ r.2.mem ((c.tc : Thread Cert.ConvAIdeal.nD Cert.ConvAIdeal.τ).loc Cert.ConvAIdeal.main_arg4) = m ((c.tc : Thread Cert.ConvAIdeal.nD Cert.ConvAIdeal.τ).loc Cert.ConvAIdeal.main_arg4)
      ∧ r.2.mem ((c.tc : Thread Cert.ConvAIdeal.nD Cert.ConvAIdeal.τ).loc Cert.ConvAIdeal.main_arg5) = m ((c.tc : Thread Cert.ConvAIdeal.nD Cert.ConvAIdeal.τ).loc Cert.ConvAIdeal.main_arg5))
      ∧ r.2.sem = fun _ => 0)

def quiescent_ConvAIdeal_pre_conv_a_finite [hConvAIdeal : Cert.ConvAIdeal.Facts] [hPre_conv_a_finite : Cert.Pre_conv_a_finite.Facts] : Prop :=
  ∀ (m : (ℓ : Loc Cert.ConvAIdeal.nD Cert.ConvAIdeal.τ Cert.ConvAIdeal.sig) → Buf (Elt Ideal) ℓ) (g : Dev Cert.ConvAIdeal.nD → PrngReg), Pre_ConvAIdeal_conv_a_finite m →
    θ_run (Cert.ConvAIdeal.defs (F := Ideal)) (onTc (τ := Cert.ConvAIdeal.τ) (Cert.ConvAIdeal.main (F := Ideal))) ⟨m, fun _ => 0, g⟩ (fun r => (∀ c : Dev Cert.ConvAIdeal.nD,
      r.2.mem ((c.tc : Thread Cert.ConvAIdeal.nD Cert.ConvAIdeal.τ).loc Cert.ConvAIdeal.main_arg0) = m ((c.tc : Thread Cert.ConvAIdeal.nD Cert.ConvAIdeal.τ).loc Cert.ConvAIdeal.main_arg0)
      ∧ r.2.mem ((c.tc : Thread Cert.ConvAIdeal.nD Cert.ConvAIdeal.τ).loc Cert.ConvAIdeal.main_arg1) = m ((c.tc : Thread Cert.ConvAIdeal.nD Cert.ConvAIdeal.τ).loc Cert.ConvAIdeal.main_arg1)
      ∧ r.2.mem ((c.tc : Thread Cert.ConvAIdeal.nD Cert.ConvAIdeal.τ).loc Cert.ConvAIdeal.main_arg2) = m ((c.tc : Thread Cert.ConvAIdeal.nD Cert.ConvAIdeal.τ).loc Cert.ConvAIdeal.main_arg2)
      ∧ r.2.mem ((c.tc : Thread Cert.ConvAIdeal.nD Cert.ConvAIdeal.τ).loc Cert.ConvAIdeal.main_arg3) = m ((c.tc : Thread Cert.ConvAIdeal.nD Cert.ConvAIdeal.τ).loc Cert.ConvAIdeal.main_arg3)
      ∧ r.2.mem ((c.tc : Thread Cert.ConvAIdeal.nD Cert.ConvAIdeal.τ).loc Cert.ConvAIdeal.main_arg4) = m ((c.tc : Thread Cert.ConvAIdeal.nD Cert.ConvAIdeal.τ).loc Cert.ConvAIdeal.main_arg4)
      ∧ r.2.mem ((c.tc : Thread Cert.ConvAIdeal.nD Cert.ConvAIdeal.τ).loc Cert.ConvAIdeal.main_arg5) = m ((c.tc : Thread Cert.ConvAIdeal.nD Cert.ConvAIdeal.τ).loc Cert.ConvAIdeal.main_arg5))
      ∧ r.2.sem = fun _ => 0)

def quiescent_ConvARefIdeal [hConvARefIdeal : Cert.ConvARefIdeal.Facts] : Prop :=
  ∀ (m : (ℓ : Loc Cert.ConvARefIdeal.nD Cert.ConvARefIdeal.τ Cert.ConvARefIdeal.sig) → Buf (Elt Ideal) ℓ) (g : Dev Cert.ConvARefIdeal.nD → PrngReg), Pre_ConvARefIdeal m →
    θ_run (Cert.ConvARefIdeal.defs (F := Ideal)) (onTc (τ := Cert.ConvARefIdeal.τ) (Cert.ConvARefIdeal.main (F := Ideal))) ⟨m, fun _ => 0, g⟩ (fun r => (∀ c : Dev Cert.ConvARefIdeal.nD,
      r.2.mem ((c.tc : Thread Cert.ConvARefIdeal.nD Cert.ConvARefIdeal.τ).loc Cert.ConvARefIdeal.main_arg0) = m ((c.tc : Thread Cert.ConvARefIdeal.nD Cert.ConvARefIdeal.τ).loc Cert.ConvARefIdeal.main_arg0)
      ∧ r.2.mem ((c.tc : Thread Cert.ConvARefIdeal.nD Cert.ConvARefIdeal.τ).loc Cert.ConvARefIdeal.main_arg1) = m ((c.tc : Thread Cert.ConvARefIdeal.nD Cert.ConvARefIdeal.τ).loc Cert.ConvARefIdeal.main_arg1)
      ∧ r.2.mem ((c.tc : Thread Cert.ConvARefIdeal.nD Cert.ConvARefIdeal.τ).loc Cert.ConvARefIdeal.main_arg2) = m ((c.tc : Thread Cert.ConvARefIdeal.nD Cert.ConvARefIdeal.τ).loc Cert.ConvARefIdeal.main_arg2)
      ∧ r.2.mem ((c.tc : Thread Cert.ConvARefIdeal.nD Cert.ConvARefIdeal.τ).loc Cert.ConvARefIdeal.main_arg3) = m ((c.tc : Thread Cert.ConvARefIdeal.nD Cert.ConvARefIdeal.τ).loc Cert.ConvARefIdeal.main_arg3)
      ∧ r.2.mem ((c.tc : Thread Cert.ConvARefIdeal.nD Cert.ConvARefIdeal.τ).loc Cert.ConvARefIdeal.main_arg4) = m ((c.tc : Thread Cert.ConvARefIdeal.nD Cert.ConvARefIdeal.τ).loc Cert.ConvARefIdeal.main_arg4)
      ∧ r.2.mem ((c.tc : Thread Cert.ConvARefIdeal.nD Cert.ConvARefIdeal.τ).loc Cert.ConvARefIdeal.main_arg5) = m ((c.tc : Thread Cert.ConvARefIdeal.nD Cert.ConvARefIdeal.τ).loc Cert.ConvARefIdeal.main_arg5))
      ∧ r.2.sem = fun _ => 0)

def quiescent_ConvARefIdeal_pre_conv_a_finite [hConvARefIdeal : Cert.ConvARefIdeal.Facts] [hPre_conv_a_finite : Cert.Pre_conv_a_finite.Facts] : Prop :=
  ∀ (m : (ℓ : Loc Cert.ConvARefIdeal.nD Cert.ConvARefIdeal.τ Cert.ConvARefIdeal.sig) → Buf (Elt Ideal) ℓ) (g : Dev Cert.ConvARefIdeal.nD → PrngReg), Pre_ConvARefIdeal_conv_a_finite m →
    θ_run (Cert.ConvARefIdeal.defs (F := Ideal)) (onTc (τ := Cert.ConvARefIdeal.τ) (Cert.ConvARefIdeal.main (F := Ideal))) ⟨m, fun _ => 0, g⟩ (fun r => (∀ c : Dev Cert.ConvARefIdeal.nD,
      r.2.mem ((c.tc : Thread Cert.ConvARefIdeal.nD Cert.ConvARefIdeal.τ).loc Cert.ConvARefIdeal.main_arg0) = m ((c.tc : Thread Cert.ConvARefIdeal.nD Cert.ConvARefIdeal.τ).loc Cert.ConvARefIdeal.main_arg0)
      ∧ r.2.mem ((c.tc : Thread Cert.ConvARefIdeal.nD Cert.ConvARefIdeal.τ).loc Cert.ConvARefIdeal.main_arg1) = m ((c.tc : Thread Cert.ConvARefIdeal.nD Cert.ConvARefIdeal.τ).loc Cert.ConvARefIdeal.main_arg1)
      ∧ r.2.mem ((c.tc : Thread Cert.ConvARefIdeal.nD Cert.ConvARefIdeal.τ).loc Cert.ConvARefIdeal.main_arg2) = m ((c.tc : Thread Cert.ConvARefIdeal.nD Cert.ConvARefIdeal.τ).loc Cert.ConvARefIdeal.main_arg2)
      ∧ r.2.mem ((c.tc : Thread Cert.ConvARefIdeal.nD Cert.ConvARefIdeal.τ).loc Cert.ConvARefIdeal.main_arg3) = m ((c.tc : Thread Cert.ConvARefIdeal.nD Cert.ConvARefIdeal.τ).loc Cert.ConvARefIdeal.main_arg3)
      ∧ r.2.mem ((c.tc : Thread Cert.ConvARefIdeal.nD Cert.ConvARefIdeal.τ).loc Cert.ConvARefIdeal.main_arg4) = m ((c.tc : Thread Cert.ConvARefIdeal.nD Cert.ConvARefIdeal.τ).loc Cert.ConvARefIdeal.main_arg4)
      ∧ r.2.mem ((c.tc : Thread Cert.ConvARefIdeal.nD Cert.ConvARefIdeal.τ).loc Cert.ConvARefIdeal.main_arg5) = m ((c.tc : Thread Cert.ConvARefIdeal.nD Cert.ConvARefIdeal.τ).loc Cert.ConvARefIdeal.main_arg5))
      ∧ r.2.sem = fun _ => 0)

def quiescent_Window [hWindow : Cert.Window.Facts] : Prop :=
  ∀ (m : (ℓ : Loc Cert.Window.nD Cert.Window.τ Cert.Window.sig) → Buf (Elt Bits) ℓ) (g : Dev Cert.Window.nD → PrngReg), Pre_Window m →
    θ_run (Cert.Window.defs (F := Bits)) (onTc (τ := Cert.Window.τ) (Cert.Window.main (F := Bits))) ⟨m, fun _ => 0, g⟩ (fun r => (∀ c : Dev Cert.Window.nD,
      r.2.mem ((c.tc : Thread Cert.Window.nD Cert.Window.τ).loc Cert.Window.main_arg0) = m ((c.tc : Thread Cert.Window.nD Cert.Window.τ).loc Cert.Window.main_arg0)
      ∧ r.2.mem ((c.tc : Thread Cert.Window.nD Cert.Window.τ).loc Cert.Window.main_arg1) = m ((c.tc : Thread Cert.Window.nD Cert.Window.τ).loc Cert.Window.main_arg1)
      ∧ r.2.mem ((c.tc : Thread Cert.Window.nD Cert.Window.τ).loc Cert.Window.main_arg2) = m ((c.tc : Thread Cert.Window.nD Cert.Window.τ).loc Cert.Window.main_arg2))
      ∧ r.2.sem = fun _ => 0)

def quiescent_WindowIdeal [hWindowIdeal : Cert.WindowIdeal.Facts] : Prop :=
  ∀ (m : (ℓ : Loc Cert.WindowIdeal.nD Cert.WindowIdeal.τ Cert.WindowIdeal.sig) → Buf (Elt Ideal) ℓ) (g : Dev Cert.WindowIdeal.nD → PrngReg), Pre_WindowIdeal m →
    θ_run (Cert.WindowIdeal.defs (F := Ideal)) (onTc (τ := Cert.WindowIdeal.τ) (Cert.WindowIdeal.main (F := Ideal))) ⟨m, fun _ => 0, g⟩ (fun r => (∀ c : Dev Cert.WindowIdeal.nD,
      r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
      ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1)
      ∧ r.2.mem ((c.tc : Thread Cert.WindowIdeal.nD Cert.WindowIdeal.τ).loc Cert.WindowIdeal.main_arg2) = m ((c.tc : Thread Cert.WindowIdeal.nD Cert.WindowIdeal.τ).loc Cert.WindowIdeal.main_arg2))
      ∧ r.2.sem = fun _ => 0)

def quiescent_WindowRefIdeal [hWindowRefIdeal : Cert.WindowRefIdeal.Facts] : Prop :=
  ∀ (m : (ℓ : Loc Cert.WindowRefIdeal.nD Cert.WindowRefIdeal.τ Cert.WindowRefIdeal.sig) → Buf (Elt Ideal) ℓ) (g : Dev Cert.WindowRefIdeal.nD → PrngReg), Pre_WindowRefIdeal m →
    θ_run (Cert.WindowRefIdeal.defs (F := Ideal)) (onTc (τ := Cert.WindowRefIdeal.τ) (Cert.WindowRefIdeal.main (F := Ideal))) ⟨m, fun _ => 0, g⟩ (fun r => (∀ c : Dev Cert.WindowRefIdeal.nD,
      r.2.mem ((c.tc : Thread Cert.WindowRefIdeal.nD Cert.WindowRefIdeal.τ).loc Cert.WindowRefIdeal.main_arg0) = m ((c.tc : Thread Cert.WindowRefIdeal.nD Cert.WindowRefIdeal.τ).loc Cert.WindowRefIdeal.main_arg0)
      ∧ r.2.mem ((c.tc : Thread Cert.WindowRefIdeal.nD Cert.WindowRefIdeal.τ).loc Cert.WindowRefIdeal.main_arg1) = m ((c.tc : Thread Cert.WindowRefIdeal.nD Cert.WindowRefIdeal.τ).loc Cert.WindowRefIdeal.main_arg1)
      ∧ r.2.mem ((c.tc : Thread Cert.WindowRefIdeal.nD Cert.WindowRefIdeal.τ).loc Cert.WindowRefIdeal.main_arg2) = m ((c.tc : Thread Cert.WindowRefIdeal.nD Cert.WindowRefIdeal.τ).loc Cert.WindowRefIdeal.main_arg2))
      ∧ r.2.sem = fun _ => 0)

def quiescent_Place [hPlace : Cert.Place.Facts] [hPre_place_of_four : Cert.Pre_place_of_four.Facts] : Prop :=
  ∀ (m : (ℓ : Loc Cert.Place.nD Cert.Place.τ Cert.Place.sig) → Buf (Elt Bits) ℓ) (g : Dev Cert.Place.nD → PrngReg), Pre_Place m →
    θ_run (Cert.Place.defs (F := Bits)) (onTc (τ := Cert.Place.τ) (Cert.Place.main (F := Bits))) ⟨m, fun _ => 0, g⟩ (fun r => (∀ c : Dev Cert.Place.nD,
      r.2.mem ((c.tc : Thread Cert.Place.nD Cert.Place.τ).loc Cert.Place.main_arg0) = m ((c.tc : Thread Cert.Place.nD Cert.Place.τ).loc Cert.Place.main_arg0)
      ∧ r.2.mem ((c.tc : Thread Cert.Place.nD Cert.Place.τ).loc Cert.Place.main_arg1) = m ((c.tc : Thread Cert.Place.nD Cert.Place.τ).loc Cert.Place.main_arg1))
      ∧ r.2.sem = fun _ => 0)

def quiescent_PlaceIdeal [hPlaceIdeal : Cert.PlaceIdeal.Facts] [hPre_place_of_four : Cert.Pre_place_of_four.Facts] : Prop :=
  ∀ (m : (ℓ : Loc Cert.PlaceIdeal.nD Cert.PlaceIdeal.τ Cert.PlaceIdeal.sig) → Buf (Elt Ideal) ℓ) (g : Dev Cert.PlaceIdeal.nD → PrngReg), Pre_PlaceIdeal m →
    θ_run (Cert.PlaceIdeal.defs (F := Ideal)) (onTc (τ := Cert.PlaceIdeal.τ) (Cert.PlaceIdeal.main (F := Ideal))) ⟨m, fun _ => 0, g⟩ (fun r => (∀ c : Dev Cert.PlaceIdeal.nD,
      r.2.mem ((c.tc : Thread Cert.PlaceIdeal.nD Cert.PlaceIdeal.τ).loc Cert.PlaceIdeal.main_arg0) = m ((c.tc : Thread Cert.PlaceIdeal.nD Cert.PlaceIdeal.τ).loc Cert.PlaceIdeal.main_arg0)
      ∧ r.2.mem ((c.tc : Thread Cert.PlaceIdeal.nD Cert.PlaceIdeal.τ).loc Cert.PlaceIdeal.main_arg1) = m ((c.tc : Thread Cert.PlaceIdeal.nD Cert.PlaceIdeal.τ).loc Cert.PlaceIdeal.main_arg1))
      ∧ r.2.sem = fun _ => 0)

def quiescent_PlaceRefIdeal [hPlaceRefIdeal : Cert.PlaceRefIdeal.Facts] : Prop :=
  ∀ (m : (ℓ : Loc Cert.PlaceRefIdeal.nD Cert.PlaceRefIdeal.τ Cert.PlaceRefIdeal.sig) → Buf (Elt Ideal) ℓ) (g : Dev Cert.PlaceRefIdeal.nD → PrngReg), Pre_PlaceRefIdeal m →
    θ_run (Cert.PlaceRefIdeal.defs (F := Ideal)) (onTc (τ := Cert.PlaceRefIdeal.τ) (Cert.PlaceRefIdeal.main (F := Ideal))) ⟨m, fun _ => 0, g⟩ (fun r => (∀ c : Dev Cert.PlaceRefIdeal.nD,
      r.2.mem ((c.tc : Thread Cert.PlaceRefIdeal.nD Cert.PlaceRefIdeal.τ).loc Cert.PlaceRefIdeal.main_arg0) = m ((c.tc : Thread Cert.PlaceRefIdeal.nD Cert.PlaceRefIdeal.τ).loc Cert.PlaceRefIdeal.main_arg0)
      ∧ r.2.mem ((c.tc : Thread Cert.PlaceRefIdeal.nD Cert.PlaceRefIdeal.τ).loc Cert.PlaceRefIdeal.main_arg1) = m ((c.tc : Thread Cert.PlaceRefIdeal.nD Cert.PlaceRefIdeal.τ).loc Cert.PlaceRefIdeal.main_arg1))
      ∧ r.2.sem = fun _ => 0)

def quiescent_PlaceRefIdeal_pre_place_of_four [hPlaceRefIdeal : Cert.PlaceRefIdeal.Facts] [hPre_place_of_four : Cert.Pre_place_of_four.Facts] : Prop :=
  ∀ (m : (ℓ : Loc Cert.PlaceRefIdeal.nD Cert.PlaceRefIdeal.τ Cert.PlaceRefIdeal.sig) → Buf (Elt Ideal) ℓ) (g : Dev Cert.PlaceRefIdeal.nD → PrngReg), Pre_PlaceRefIdeal_place_of_four m →
    θ_run (Cert.PlaceRefIdeal.defs (F := Ideal)) (onTc (τ := Cert.PlaceRefIdeal.τ) (Cert.PlaceRefIdeal.main (F := Ideal))) ⟨m, fun _ => 0, g⟩ (fun r => (∀ c : Dev Cert.PlaceRefIdeal.nD,
      r.2.mem ((c.tc : Thread Cert.PlaceRefIdeal.nD Cert.PlaceRefIdeal.τ).loc Cert.PlaceRefIdeal.main_arg0) = m ((c.tc : Thread Cert.PlaceRefIdeal.nD Cert.PlaceRefIdeal.τ).loc Cert.PlaceRefIdeal.main_arg0)
      ∧ r.2.mem ((c.tc : Thread Cert.PlaceRefIdeal.nD Cert.PlaceRefIdeal.τ).loc Cert.PlaceRefIdeal.main_arg1) = m ((c.tc : Thread Cert.PlaceRefIdeal.nD Cert.PlaceRefIdeal.τ).loc Cert.PlaceRefIdeal.main_arg1))
      ∧ r.2.sem = fun _ => 0)

def preserves_MemNorm_MemNormIdeal : Prop :=
  True

def algebraic_MemNormIdeal_MemNormRefIdeal [hMemNormIdeal : Cert.MemNormIdeal.Facts] [hMemNormRefIdeal : Cert.MemNormRefIdeal.Facts] : Prop :=
  ∀ (m : (ℓ : Loc Cert.MemNormIdeal.nD Cert.MemNormIdeal.τ Cert.MemNormIdeal.sig) → Buf (Elt Ideal) ℓ) (g : Dev Cert.MemNormIdeal.nD → PrngReg)
    (m' : (ℓ : Loc Cert.MemNormRefIdeal.nD Cert.MemNormRefIdeal.τ Cert.MemNormRefIdeal.sig) → Buf (Elt Ideal) ℓ) (g' : Dev Cert.MemNormRefIdeal.nD → PrngReg), Pre_MemNormIdeal m →
    (∀ c : Dev Cert.MemNormIdeal.nD,
      m' ((c.tc : Thread Cert.MemNormRefIdeal.nD Cert.MemNormRefIdeal.τ).loc Cert.MemNormRefIdeal.main_arg0) = m ((c.tc : Thread Cert.MemNormIdeal.nD Cert.MemNormIdeal.τ).loc Cert.MemNormIdeal.main_arg0)
      ∧ m' ((c.tc : Thread Cert.MemNormRefIdeal.nD Cert.MemNormRefIdeal.τ).loc Cert.MemNormRefIdeal.main_arg1) = m ((c.tc : Thread Cert.MemNormIdeal.nD Cert.MemNormIdeal.τ).loc Cert.MemNormIdeal.main_arg1)
      ∧ m' ((c.tc : Thread Cert.MemNormRefIdeal.nD Cert.MemNormRefIdeal.τ).loc Cert.MemNormRefIdeal.main_arg2) = m ((c.tc : Thread Cert.MemNormIdeal.nD Cert.MemNormIdeal.τ).loc Cert.MemNormIdeal.main_arg2)) →
    ∃ (v0 : (c : Dev Cert.MemNormIdeal.nD) → Buf (Elt Ideal) ((c.tc : Thread Cert.MemNormIdeal.nD Cert.MemNormIdeal.τ).loc Cert.MemNormIdeal.main_v1)),
      θ_run (Cert.MemNormIdeal.defs (F := Ideal)) (onTc (τ := Cert.MemNormIdeal.τ) (Cert.MemNormIdeal.main (F := Ideal))) ⟨m, fun _ => 0, g⟩ (fun r => ∀ c : Dev Cert.MemNormIdeal.nD,
          r.2.mem ((c.tc : Thread Cert.MemNormIdeal.nD Cert.MemNormIdeal.τ).loc Cert.MemNormIdeal.main_v1) = v0 c
          ∧ r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
          ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1)
          ∧ r.2.mem ((c.tc : Thread Cert.MemNormIdeal.nD Cert.MemNormIdeal.τ).loc Cert.MemNormIdeal.main_arg2) = m ((c.tc : Thread Cert.MemNormIdeal.nD Cert.MemNormIdeal.τ).loc Cert.MemNormIdeal.main_arg2))
      ∧ θ_run (Cert.MemNormRefIdeal.defs (F := Ideal)) (onTc (τ := Cert.MemNormRefIdeal.τ) (Cert.MemNormRefIdeal.main (F := Ideal))) ⟨m', fun _ => 0, g'⟩ (fun r => ∀ c : Dev Cert.MemNormRefIdeal.nD,
          r.2.mem ((c.tc : Thread Cert.MemNormRefIdeal.nD Cert.MemNormRefIdeal.τ).loc Cert.MemNormRefIdeal.main_v17) = v0 c
          ∧ r.2.mem ((c.tc : Thread Cert.MemNormRefIdeal.nD Cert.MemNormRefIdeal.τ).loc Cert.MemNormRefIdeal.main_arg0) = m' ((c.tc : Thread Cert.MemNormRefIdeal.nD Cert.MemNormRefIdeal.τ).loc Cert.MemNormRefIdeal.main_arg0)
          ∧ r.2.mem ((c.tc : Thread Cert.MemNormRefIdeal.nD Cert.MemNormRefIdeal.τ).loc Cert.MemNormRefIdeal.main_arg1) = m' ((c.tc : Thread Cert.MemNormRefIdeal.nD Cert.MemNormRefIdeal.τ).loc Cert.MemNormRefIdeal.main_arg1)
          ∧ r.2.mem ((c.tc : Thread Cert.MemNormRefIdeal.nD Cert.MemNormRefIdeal.τ).loc Cert.MemNormRefIdeal.main_arg2) = m' ((c.tc : Thread Cert.MemNormRefIdeal.nD Cert.MemNormRefIdeal.τ).loc Cert.MemNormRefIdeal.main_arg2))

def preserves_Cross_CrossIdeal : Prop :=
  True

def algebraic_CrossIdeal_CrossRefIdeal_pre_cross_finite [hCrossIdeal : Cert.CrossIdeal.Facts] [hCrossRefIdeal : Cert.CrossRefIdeal.Facts] [hPre_cross_finite : Cert.Pre_cross_finite.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal_cross_finite m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)) →
    ∃ (v0 : (c : Dev Cert.CrossIdeal.nD) → Buf (Elt Ideal) ((c.tc : Thread Cert.CrossIdeal.nD Cert.CrossIdeal.τ).loc Cert.CrossIdeal.main_v3_0)) (v1 : (c : Dev Cert.CrossIdeal.nD) → Buf (Elt Ideal) ((c.tc : Thread Cert.CrossIdeal.nD Cert.CrossIdeal.τ).loc Cert.CrossIdeal.main_v3_1)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v3_0) = v0 c
          ∧ r.2.mem ((c.tc : Thread Cert.CrossIdeal.nD Cert.CrossIdeal.τ).loc Cert.CrossIdeal.main_v3_1) = v1 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v68) = v0 c
          ∧ r.2.mem ((c.tc : Thread Cert.CrossRefIdeal.nD Cert.CrossRefIdeal.τ).loc Cert.CrossRefIdeal.main_v66) = v1 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2))

def preserves_ShortConv_ShortConvIdeal : Prop :=
  True

def algebraic_ShortConvIdeal_ShortConvRefIdeal [hShortConvIdeal : Cert.ShortConvIdeal.Facts] [hShortConvRefIdeal : Cert.ShortConvRefIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg)
    (m' : (ℓ : Loc Cert.ShortConvRefIdeal.nD Cert.ShortConvRefIdeal.τ Cert.ShortConvRefIdeal.sig) → Buf (Elt Ideal) ℓ) (g' : Dev Cert.ShortConvRefIdeal.nD → PrngReg), Pre_ShortConvIdeal m →
    (∀ c : Dev Cert.ShortConvIdeal.nD,
      m' ((c.tc : Thread Cert.ShortConvRefIdeal.nD Cert.ShortConvRefIdeal.τ).loc Cert.ShortConvRefIdeal.main_arg0) = m ((c.tc : Thread Cert.ShortConvIdeal.nD Cert.ShortConvIdeal.τ).loc Cert.ShortConvIdeal.main_arg0)
      ∧ m' ((c.tc : Thread Cert.ShortConvRefIdeal.nD Cert.ShortConvRefIdeal.τ).loc Cert.ShortConvRefIdeal.main_arg1) = m ((c.tc : Thread Cert.ShortConvIdeal.nD Cert.ShortConvIdeal.τ).loc Cert.ShortConvIdeal.main_arg1)
      ∧ m' ((c.tc : Thread Cert.ShortConvRefIdeal.nD Cert.ShortConvRefIdeal.τ).loc Cert.ShortConvRefIdeal.main_arg2) = m ((c.tc : Thread Cert.ShortConvIdeal.nD Cert.ShortConvIdeal.τ).loc Cert.ShortConvIdeal.main_arg2)) →
    ∃ (v0 : (c : Dev Cert.ShortConvIdeal.nD) → Buf (Elt Ideal) ((c.tc : Thread Cert.ShortConvIdeal.nD Cert.ShortConvIdeal.τ).loc Cert.ShortConvIdeal.main_v31_0)) (v1 : (c : Dev Cert.ShortConvIdeal.nD) → Buf (Elt Ideal) ((c.tc : Thread Cert.ShortConvIdeal.nD Cert.ShortConvIdeal.τ).loc Cert.ShortConvIdeal.main_v31_1)),
      θ_run (Cert.ShortConvIdeal.defs (F := Ideal)) (onTc (τ := Cert.ShortConvIdeal.τ) (Cert.ShortConvIdeal.main (F := Ideal))) ⟨m, fun _ => 0, g⟩ (fun r => ∀ c : Dev Cert.ShortConvIdeal.nD,
          r.2.mem ((c.tc : Thread Cert.ShortConvIdeal.nD Cert.ShortConvIdeal.τ).loc Cert.ShortConvIdeal.main_v31_0) = v0 c
          ∧ r.2.mem ((c.tc : Thread Cert.ShortConvIdeal.nD Cert.ShortConvIdeal.τ).loc Cert.ShortConvIdeal.main_v31_1) = v1 c
          ∧ r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
          ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1)
          ∧ r.2.mem ((c.tc : Thread Cert.ShortConvIdeal.nD Cert.ShortConvIdeal.τ).loc Cert.ShortConvIdeal.main_arg2) = m ((c.tc : Thread Cert.ShortConvIdeal.nD Cert.ShortConvIdeal.τ).loc Cert.ShortConvIdeal.main_arg2))
      ∧ θ_run (Cert.ShortConvRefIdeal.defs (F := Ideal)) (onTc (τ := Cert.ShortConvRefIdeal.τ) (Cert.ShortConvRefIdeal.main (F := Ideal))) ⟨m', fun _ => 0, g'⟩ (fun r => ∀ c : Dev Cert.ShortConvRefIdeal.nD,
          r.2.mem ((c.tc : Thread Cert.ShortConvRefIdeal.nD Cert.ShortConvRefIdeal.τ).loc Cert.ShortConvRefIdeal.main_v72) = v0 c
          ∧ r.2.mem ((c.tc : Thread Cert.ShortConvRefIdeal.nD Cert.ShortConvRefIdeal.τ).loc Cert.ShortConvRefIdeal.main_v73) = v1 c
          ∧ r.2.mem ((c.tc : Thread Cert.ShortConvRefIdeal.nD Cert.ShortConvRefIdeal.τ).loc Cert.ShortConvRefIdeal.main_arg0) = m' ((c.tc : Thread Cert.ShortConvRefIdeal.nD Cert.ShortConvRefIdeal.τ).loc Cert.ShortConvRefIdeal.main_arg0)
          ∧ r.2.mem ((c.tc : Thread Cert.ShortConvRefIdeal.nD Cert.ShortConvRefIdeal.τ).loc Cert.ShortConvRefIdeal.main_arg1) = m' ((c.tc : Thread Cert.ShortConvRefIdeal.nD Cert.ShortConvRefIdeal.τ).loc Cert.ShortConvRefIdeal.main_arg1)
          ∧ r.2.mem ((c.tc : Thread Cert.ShortConvRefIdeal.nD Cert.ShortConvRefIdeal.τ).loc Cert.ShortConvRefIdeal.main_arg2) = m' ((c.tc : Thread Cert.ShortConvRefIdeal.nD Cert.ShortConvRefIdeal.τ).loc Cert.ShortConvRefIdeal.main_arg2))

def preserves_NormEven_NormEvenIdeal : Prop :=
  True

def algebraic_NormEvenIdeal_NormEvenRefIdeal [hNormEvenIdeal : Cert.NormEvenIdeal.Facts] [hNormEvenRefIdeal : Cert.NormEvenRefIdeal.Facts] : Prop :=
  ∀ (m : (ℓ : Loc Cert.NormEvenIdeal.nD Cert.NormEvenIdeal.τ Cert.NormEvenIdeal.sig) → Buf (Elt Ideal) ℓ) (g : Dev Cert.NormEvenIdeal.nD → PrngReg)
    (m' : (ℓ : Loc Cert.NormEvenRefIdeal.nD Cert.NormEvenRefIdeal.τ Cert.NormEvenRefIdeal.sig) → Buf (Elt Ideal) ℓ) (g' : Dev Cert.NormEvenRefIdeal.nD → PrngReg), Pre_NormEvenIdeal m →
    (∀ c : Dev Cert.NormEvenIdeal.nD,
      m' ((c.tc : Thread Cert.NormEvenRefIdeal.nD Cert.NormEvenRefIdeal.τ).loc Cert.NormEvenRefIdeal.main_arg0) = m ((c.tc : Thread Cert.NormEvenIdeal.nD Cert.NormEvenIdeal.τ).loc Cert.NormEvenIdeal.main_arg0)
      ∧ m' ((c.tc : Thread Cert.NormEvenRefIdeal.nD Cert.NormEvenRefIdeal.τ).loc Cert.NormEvenRefIdeal.main_arg1) = m ((c.tc : Thread Cert.NormEvenIdeal.nD Cert.NormEvenIdeal.τ).loc Cert.NormEvenIdeal.main_arg1)
      ∧ m' ((c.tc : Thread Cert.NormEvenRefIdeal.nD Cert.NormEvenRefIdeal.τ).loc Cert.NormEvenRefIdeal.main_arg2) = m ((c.tc : Thread Cert.NormEvenIdeal.nD Cert.NormEvenIdeal.τ).loc Cert.NormEvenIdeal.main_arg2)
      ∧ m' ((c.tc : Thread Cert.NormEvenRefIdeal.nD Cert.NormEvenRefIdeal.τ).loc Cert.NormEvenRefIdeal.main_arg3) = m ((c.tc : Thread Cert.NormEvenIdeal.nD Cert.NormEvenIdeal.τ).loc Cert.NormEvenIdeal.main_arg3)
      ∧ m' ((c.tc : Thread Cert.NormEvenRefIdeal.nD Cert.NormEvenRefIdeal.τ).loc Cert.NormEvenRefIdeal.main_arg4) = m ((c.tc : Thread Cert.NormEvenIdeal.nD Cert.NormEvenIdeal.τ).loc Cert.NormEvenIdeal.main_arg4)) →
    ∃ (v0 : (c : Dev Cert.NormEvenIdeal.nD) → Buf (Elt Ideal) ((c.tc : Thread Cert.NormEvenIdeal.nD Cert.NormEvenIdeal.τ).loc Cert.NormEvenIdeal.main_v4_0)) (v1 : (c : Dev Cert.NormEvenIdeal.nD) → Buf (Elt Ideal) ((c.tc : Thread Cert.NormEvenIdeal.nD Cert.NormEvenIdeal.τ).loc Cert.NormEvenIdeal.main_v4_1)),
      θ_run (Cert.NormEvenIdeal.defs (F := Ideal)) (onTc (τ := Cert.NormEvenIdeal.τ) (Cert.NormEvenIdeal.main (F := Ideal))) ⟨m, fun _ => 0, g⟩ (fun r => ∀ c : Dev Cert.NormEvenIdeal.nD,
          r.2.mem ((c.tc : Thread Cert.NormEvenIdeal.nD Cert.NormEvenIdeal.τ).loc Cert.NormEvenIdeal.main_v4_0) = v0 c
          ∧ r.2.mem ((c.tc : Thread Cert.NormEvenIdeal.nD Cert.NormEvenIdeal.τ).loc Cert.NormEvenIdeal.main_v4_1) = v1 c
          ∧ r.2.mem ((c.tc : Thread Cert.NormEvenIdeal.nD Cert.NormEvenIdeal.τ).loc Cert.NormEvenIdeal.main_arg0) = m ((c.tc : Thread Cert.NormEvenIdeal.nD Cert.NormEvenIdeal.τ).loc Cert.NormEvenIdeal.main_arg0)
          ∧ r.2.mem ((c.tc : Thread Cert.NormEvenIdeal.nD Cert.NormEvenIdeal.τ).loc Cert.NormEvenIdeal.main_arg1) = m ((c.tc : Thread Cert.NormEvenIdeal.nD Cert.NormEvenIdeal.τ).loc Cert.NormEvenIdeal.main_arg1)
          ∧ r.2.mem ((c.tc : Thread Cert.NormEvenIdeal.nD Cert.NormEvenIdeal.τ).loc Cert.NormEvenIdeal.main_arg2) = m ((c.tc : Thread Cert.NormEvenIdeal.nD Cert.NormEvenIdeal.τ).loc Cert.NormEvenIdeal.main_arg2)
          ∧ r.2.mem ((c.tc : Thread Cert.NormEvenIdeal.nD Cert.NormEvenIdeal.τ).loc Cert.NormEvenIdeal.main_arg3) = m ((c.tc : Thread Cert.NormEvenIdeal.nD Cert.NormEvenIdeal.τ).loc Cert.NormEvenIdeal.main_arg3)
          ∧ r.2.mem ((c.tc : Thread Cert.NormEvenIdeal.nD Cert.NormEvenIdeal.τ).loc Cert.NormEvenIdeal.main_arg4) = m ((c.tc : Thread Cert.NormEvenIdeal.nD Cert.NormEvenIdeal.τ).loc Cert.NormEvenIdeal.main_arg4))
      ∧ θ_run (Cert.NormEvenRefIdeal.defs (F := Ideal)) (onTc (τ := Cert.NormEvenRefIdeal.τ) (Cert.NormEvenRefIdeal.main (F := Ideal))) ⟨m', fun _ => 0, g'⟩ (fun r => ∀ c : Dev Cert.NormEvenRefIdeal.nD,
          r.2.mem ((c.tc : Thread Cert.NormEvenRefIdeal.nD Cert.NormEvenRefIdeal.τ).loc Cert.NormEvenRefIdeal.main_v38) = v0 c
          ∧ r.2.mem ((c.tc : Thread Cert.NormEvenRefIdeal.nD Cert.NormEvenRefIdeal.τ).loc Cert.NormEvenRefIdeal.main_v39) = v1 c
          ∧ r.2.mem ((c.tc : Thread Cert.NormEvenRefIdeal.nD Cert.NormEvenRefIdeal.τ).loc Cert.NormEvenRefIdeal.main_arg0) = m' ((c.tc : Thread Cert.NormEvenRefIdeal.nD Cert.NormEvenRefIdeal.τ).loc Cert.NormEvenRefIdeal.main_arg0)
          ∧ r.2.mem ((c.tc : Thread Cert.NormEvenRefIdeal.nD Cert.NormEvenRefIdeal.τ).loc Cert.NormEvenRefIdeal.main_arg1) = m' ((c.tc : Thread Cert.NormEvenRefIdeal.nD Cert.NormEvenRefIdeal.τ).loc Cert.NormEvenRefIdeal.main_arg1)
          ∧ r.2.mem ((c.tc : Thread Cert.NormEvenRefIdeal.nD Cert.NormEvenRefIdeal.τ).loc Cert.NormEvenRefIdeal.main_arg2) = m' ((c.tc : Thread Cert.NormEvenRefIdeal.nD Cert.NormEvenRefIdeal.τ).loc Cert.NormEvenRefIdeal.main_arg2)
          ∧ r.2.mem ((c.tc : Thread Cert.NormEvenRefIdeal.nD Cert.NormEvenRefIdeal.τ).loc Cert.NormEvenRefIdeal.main_arg3) = m' ((c.tc : Thread Cert.NormEvenRefIdeal.nD Cert.NormEvenRefIdeal.τ).loc Cert.NormEvenRefIdeal.main_arg3)
          ∧ r.2.mem ((c.tc : Thread Cert.NormEvenRefIdeal.nD Cert.NormEvenRefIdeal.τ).loc Cert.NormEvenRefIdeal.main_arg4) = m' ((c.tc : Thread Cert.NormEvenRefIdeal.nD Cert.NormEvenRefIdeal.τ).loc Cert.NormEvenRefIdeal.main_arg4))

def preserves_NormOdd_NormOddIdeal : Prop :=
  True

def algebraic_NormOddIdeal_NormOddRefIdeal [hNormOddIdeal : Cert.NormOddIdeal.Facts] [hNormOddRefIdeal : Cert.NormOddRefIdeal.Facts] : Prop :=
  ∀ (m : (ℓ : Loc Cert.NormOddIdeal.nD Cert.NormOddIdeal.τ Cert.NormOddIdeal.sig) → Buf (Elt Ideal) ℓ) (g : Dev Cert.NormOddIdeal.nD → PrngReg)
    (m' : (ℓ : Loc Cert.NormOddRefIdeal.nD Cert.NormOddRefIdeal.τ Cert.NormOddRefIdeal.sig) → Buf (Elt Ideal) ℓ) (g' : Dev Cert.NormOddRefIdeal.nD → PrngReg), Pre_NormOddIdeal m →
    (∀ c : Dev Cert.NormOddIdeal.nD,
      m' ((c.tc : Thread Cert.NormOddRefIdeal.nD Cert.NormOddRefIdeal.τ).loc Cert.NormOddRefIdeal.main_arg0) = m ((c.tc : Thread Cert.NormOddIdeal.nD Cert.NormOddIdeal.τ).loc Cert.NormOddIdeal.main_arg0)
      ∧ m' ((c.tc : Thread Cert.NormOddRefIdeal.nD Cert.NormOddRefIdeal.τ).loc Cert.NormOddRefIdeal.main_arg1) = m ((c.tc : Thread Cert.NormOddIdeal.nD Cert.NormOddIdeal.τ).loc Cert.NormOddIdeal.main_arg1)
      ∧ m' ((c.tc : Thread Cert.NormOddRefIdeal.nD Cert.NormOddRefIdeal.τ).loc Cert.NormOddRefIdeal.main_arg2) = m ((c.tc : Thread Cert.NormOddIdeal.nD Cert.NormOddIdeal.τ).loc Cert.NormOddIdeal.main_arg2)
      ∧ m' ((c.tc : Thread Cert.NormOddRefIdeal.nD Cert.NormOddRefIdeal.τ).loc Cert.NormOddRefIdeal.main_arg3) = m ((c.tc : Thread Cert.NormOddIdeal.nD Cert.NormOddIdeal.τ).loc Cert.NormOddIdeal.main_arg3)
      ∧ m' ((c.tc : Thread Cert.NormOddRefIdeal.nD Cert.NormOddRefIdeal.τ).loc Cert.NormOddRefIdeal.main_arg4) = m ((c.tc : Thread Cert.NormOddIdeal.nD Cert.NormOddIdeal.τ).loc Cert.NormOddIdeal.main_arg4)) →
    ∃ (v0 : (c : Dev Cert.NormOddIdeal.nD) → Buf (Elt Ideal) ((c.tc : Thread Cert.NormOddIdeal.nD Cert.NormOddIdeal.τ).loc Cert.NormOddIdeal.main_v4_0)) (v1 : (c : Dev Cert.NormOddIdeal.nD) → Buf (Elt Ideal) ((c.tc : Thread Cert.NormOddIdeal.nD Cert.NormOddIdeal.τ).loc Cert.NormOddIdeal.main_v4_1)),
      θ_run (Cert.NormOddIdeal.defs (F := Ideal)) (onTc (τ := Cert.NormOddIdeal.τ) (Cert.NormOddIdeal.main (F := Ideal))) ⟨m, fun _ => 0, g⟩ (fun r => ∀ c : Dev Cert.NormOddIdeal.nD,
          r.2.mem ((c.tc : Thread Cert.NormOddIdeal.nD Cert.NormOddIdeal.τ).loc Cert.NormOddIdeal.main_v4_0) = v0 c
          ∧ r.2.mem ((c.tc : Thread Cert.NormOddIdeal.nD Cert.NormOddIdeal.τ).loc Cert.NormOddIdeal.main_v4_1) = v1 c
          ∧ r.2.mem ((c.tc : Thread Cert.NormOddIdeal.nD Cert.NormOddIdeal.τ).loc Cert.NormOddIdeal.main_arg0) = m ((c.tc : Thread Cert.NormOddIdeal.nD Cert.NormOddIdeal.τ).loc Cert.NormOddIdeal.main_arg0)
          ∧ r.2.mem ((c.tc : Thread Cert.NormOddIdeal.nD Cert.NormOddIdeal.τ).loc Cert.NormOddIdeal.main_arg1) = m ((c.tc : Thread Cert.NormOddIdeal.nD Cert.NormOddIdeal.τ).loc Cert.NormOddIdeal.main_arg1)
          ∧ r.2.mem ((c.tc : Thread Cert.NormOddIdeal.nD Cert.NormOddIdeal.τ).loc Cert.NormOddIdeal.main_arg2) = m ((c.tc : Thread Cert.NormOddIdeal.nD Cert.NormOddIdeal.τ).loc Cert.NormOddIdeal.main_arg2)
          ∧ r.2.mem ((c.tc : Thread Cert.NormOddIdeal.nD Cert.NormOddIdeal.τ).loc Cert.NormOddIdeal.main_arg3) = m ((c.tc : Thread Cert.NormOddIdeal.nD Cert.NormOddIdeal.τ).loc Cert.NormOddIdeal.main_arg3)
          ∧ r.2.mem ((c.tc : Thread Cert.NormOddIdeal.nD Cert.NormOddIdeal.τ).loc Cert.NormOddIdeal.main_arg4) = m ((c.tc : Thread Cert.NormOddIdeal.nD Cert.NormOddIdeal.τ).loc Cert.NormOddIdeal.main_arg4))
      ∧ θ_run (Cert.NormOddRefIdeal.defs (F := Ideal)) (onTc (τ := Cert.NormOddRefIdeal.τ) (Cert.NormOddRefIdeal.main (F := Ideal))) ⟨m', fun _ => 0, g'⟩ (fun r => ∀ c : Dev Cert.NormOddRefIdeal.nD,
          r.2.mem ((c.tc : Thread Cert.NormOddRefIdeal.nD Cert.NormOddRefIdeal.τ).loc Cert.NormOddRefIdeal.main_v38) = v0 c
          ∧ r.2.mem ((c.tc : Thread Cert.NormOddRefIdeal.nD Cert.NormOddRefIdeal.τ).loc Cert.NormOddRefIdeal.main_v39) = v1 c
          ∧ r.2.mem ((c.tc : Thread Cert.NormOddRefIdeal.nD Cert.NormOddRefIdeal.τ).loc Cert.NormOddRefIdeal.main_arg0) = m' ((c.tc : Thread Cert.NormOddRefIdeal.nD Cert.NormOddRefIdeal.τ).loc Cert.NormOddRefIdeal.main_arg0)
          ∧ r.2.mem ((c.tc : Thread Cert.NormOddRefIdeal.nD Cert.NormOddRefIdeal.τ).loc Cert.NormOddRefIdeal.main_arg1) = m' ((c.tc : Thread Cert.NormOddRefIdeal.nD Cert.NormOddRefIdeal.τ).loc Cert.NormOddRefIdeal.main_arg1)
          ∧ r.2.mem ((c.tc : Thread Cert.NormOddRefIdeal.nD Cert.NormOddRefIdeal.τ).loc Cert.NormOddRefIdeal.main_arg2) = m' ((c.tc : Thread Cert.NormOddRefIdeal.nD Cert.NormOddRefIdeal.τ).loc Cert.NormOddRefIdeal.main_arg2)
          ∧ r.2.mem ((c.tc : Thread Cert.NormOddRefIdeal.nD Cert.NormOddRefIdeal.τ).loc Cert.NormOddRefIdeal.main_arg3) = m' ((c.tc : Thread Cert.NormOddRefIdeal.nD Cert.NormOddRefIdeal.τ).loc Cert.NormOddRefIdeal.main_arg3)
          ∧ r.2.mem ((c.tc : Thread Cert.NormOddRefIdeal.nD Cert.NormOddRefIdeal.τ).loc Cert.NormOddRefIdeal.main_arg4) = m' ((c.tc : Thread Cert.NormOddRefIdeal.nD Cert.NormOddRefIdeal.τ).loc Cert.NormOddRefIdeal.main_arg4))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v23_0)) (v1 : (c : Dev Cert.FfnIdeal.nD) → Buf (Elt Ideal) ((c.tc : Thread Cert.FfnIdeal.nD Cert.FfnIdeal.τ).loc Cert.FfnIdeal.main_v23_1)) (v2 : (c : Dev Cert.FfnIdeal.nD) → Buf (Elt Ideal) ((c.tc : Thread Cert.FfnIdeal.nD Cert.FfnIdeal.τ).loc Cert.FfnIdeal.main_v23_2)) (v3 : (c : Dev Cert.FfnIdeal.nD) → Buf (Elt Ideal) ((c.tc : Thread Cert.FfnIdeal.nD Cert.FfnIdeal.τ).loc Cert.FfnIdeal.main_v23_3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v23_0) = v0 c
          ∧ r.2.mem ((c.tc : Thread Cert.FfnIdeal.nD Cert.FfnIdeal.τ).loc Cert.FfnIdeal.main_v23_1) = v1 c
          ∧ r.2.mem ((c.tc : Thread Cert.FfnIdeal.nD Cert.FfnIdeal.τ).loc Cert.FfnIdeal.main_v23_2) = v2 c
          ∧ r.2.mem ((c.tc : Thread Cert.FfnIdeal.nD Cert.FfnIdeal.τ).loc Cert.FfnIdeal.main_v23_3) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v54) = v0 c
          ∧ r.2.mem ((c.tc : Thread Cert.FfnRefIdeal.nD Cert.FfnRefIdeal.τ).loc Cert.FfnRefIdeal.main_v55) = v1 c
          ∧ r.2.mem ((c.tc : Thread Cert.FfnRefIdeal.nD Cert.FfnRefIdeal.τ).loc Cert.FfnRefIdeal.main_v57) = v2 c
          ∧ r.2.mem ((c.tc : Thread Cert.FfnRefIdeal.nD Cert.FfnRefIdeal.τ).loc Cert.FfnRefIdeal.main_v59) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_CrossFwd_CrossFwdIdeal : Prop :=
  True

def algebraic_CrossFwdIdeal_CrossFwdRefIdeal_pre_cross_fwd_finite [hCrossFwdIdeal : Cert.CrossFwdIdeal.Facts] [hCrossFwdRefIdeal : Cert.CrossFwdRefIdeal.Facts] [hPre_cross_fwd_finite : Cert.Pre_cross_fwd_finite.Facts] : Prop :=
  ∀ (m : (ℓ : Loc Cert.CrossFwdIdeal.nD Cert.CrossFwdIdeal.τ Cert.CrossFwdIdeal.sig) → Buf (Elt Ideal) ℓ) (g : Dev Cert.CrossFwdIdeal.nD → PrngReg)
    (m' : (ℓ : Loc Cert.CrossFwdRefIdeal.nD Cert.CrossFwdRefIdeal.τ Cert.CrossFwdRefIdeal.sig) → Buf (Elt Ideal) ℓ) (g' : Dev Cert.CrossFwdRefIdeal.nD → PrngReg), Pre_CrossFwdIdeal_cross_fwd_finite m →
    (∀ c : Dev Cert.CrossFwdIdeal.nD,
      m' ((c.tc : Thread Cert.CrossFwdRefIdeal.nD Cert.CrossFwdRefIdeal.τ).loc Cert.CrossFwdRefIdeal.main_arg0) = m ((c.tc : Thread Cert.CrossFwdIdeal.nD Cert.CrossFwdIdeal.τ).loc Cert.CrossFwdIdeal.main_arg0)
      ∧ m' ((c.tc : Thread Cert.CrossFwdRefIdeal.nD Cert.CrossFwdRefIdeal.τ).loc Cert.CrossFwdRefIdeal.main_arg1) = m ((c.tc : Thread Cert.CrossFwdIdeal.nD Cert.CrossFwdIdeal.τ).loc Cert.CrossFwdIdeal.main_arg1)
      ∧ m' ((c.tc : Thread Cert.CrossFwdRefIdeal.nD Cert.CrossFwdRefIdeal.τ).loc Cert.CrossFwdRefIdeal.main_arg2) = m ((c.tc : Thread Cert.CrossFwdIdeal.nD Cert.CrossFwdIdeal.τ).loc Cert.CrossFwdIdeal.main_arg2)
      ∧ m' ((c.tc : Thread Cert.CrossFwdRefIdeal.nD Cert.CrossFwdRefIdeal.τ).loc Cert.CrossFwdRefIdeal.main_arg3) = m ((c.tc : Thread Cert.CrossFwdIdeal.nD Cert.CrossFwdIdeal.τ).loc Cert.CrossFwdIdeal.main_arg3)
      ∧ m' ((c.tc : Thread Cert.CrossFwdRefIdeal.nD Cert.CrossFwdRefIdeal.τ).loc Cert.CrossFwdRefIdeal.main_arg4) = m ((c.tc : Thread Cert.CrossFwdIdeal.nD Cert.CrossFwdIdeal.τ).loc Cert.CrossFwdIdeal.main_arg4)) →
    ∃ (v0 : (c : Dev Cert.CrossFwdIdeal.nD) → Buf (Elt Ideal) ((c.tc : Thread Cert.CrossFwdIdeal.nD Cert.CrossFwdIdeal.τ).loc Cert.CrossFwdIdeal.main_v6_0)) (v1 : (c : Dev Cert.CrossFwdIdeal.nD) → Buf (Elt Ideal) ((c.tc : Thread Cert.CrossFwdIdeal.nD Cert.CrossFwdIdeal.τ).loc Cert.CrossFwdIdeal.main_v6_1)) (v2 : (c : Dev Cert.CrossFwdIdeal.nD) → Buf (Elt Ideal) ((c.tc : Thread Cert.CrossFwdIdeal.nD Cert.CrossFwdIdeal.τ).loc Cert.CrossFwdIdeal.main_v6_2)) (v3 : (c : Dev Cert.CrossFwdIdeal.nD) → Buf (Elt Ideal) ((c.tc : Thread Cert.CrossFwdIdeal.nD Cert.CrossFwdIdeal.τ).loc Cert.CrossFwdIdeal.main_v6_3)),
      θ_run (Cert.CrossFwdIdeal.defs (F := Ideal)) (onTc (τ := Cert.CrossFwdIdeal.τ) (Cert.CrossFwdIdeal.main (F := Ideal))) ⟨m, fun _ => 0, g⟩ (fun r => ∀ c : Dev Cert.CrossFwdIdeal.nD,
          r.2.mem ((c.tc : Thread Cert.CrossFwdIdeal.nD Cert.CrossFwdIdeal.τ).loc Cert.CrossFwdIdeal.main_v6_0) = v0 c
          ∧ r.2.mem ((c.tc : Thread Cert.CrossFwdIdeal.nD Cert.CrossFwdIdeal.τ).loc Cert.CrossFwdIdeal.main_v6_1) = v1 c
          ∧ r.2.mem ((c.tc : Thread Cert.CrossFwdIdeal.nD Cert.CrossFwdIdeal.τ).loc Cert.CrossFwdIdeal.main_v6_2) = v2 c
          ∧ r.2.mem ((c.tc : Thread Cert.CrossFwdIdeal.nD Cert.CrossFwdIdeal.τ).loc Cert.CrossFwdIdeal.main_v6_3) = v3 c
          ∧ r.2.mem ((c.tc : Thread Cert.CrossFwdIdeal.nD Cert.CrossFwdIdeal.τ).loc Cert.CrossFwdIdeal.main_arg0) = m ((c.tc : Thread Cert.CrossFwdIdeal.nD Cert.CrossFwdIdeal.τ).loc Cert.CrossFwdIdeal.main_arg0)
          ∧ r.2.mem ((c.tc : Thread Cert.CrossFwdIdeal.nD Cert.CrossFwdIdeal.τ).loc Cert.CrossFwdIdeal.main_arg1) = m ((c.tc : Thread Cert.CrossFwdIdeal.nD Cert.CrossFwdIdeal.τ).loc Cert.CrossFwdIdeal.main_arg1)
          ∧ r.2.mem ((c.tc : Thread Cert.CrossFwdIdeal.nD Cert.CrossFwdIdeal.τ).loc Cert.CrossFwdIdeal.main_arg2) = m ((c.tc : Thread Cert.CrossFwdIdeal.nD Cert.CrossFwdIdeal.τ).loc Cert.CrossFwdIdeal.main_arg2)
          ∧ r.2.mem ((c.tc : Thread Cert.CrossFwdIdeal.nD Cert.CrossFwdIdeal.τ).loc Cert.CrossFwdIdeal.main_arg3) = m ((c.tc : Thread Cert.CrossFwdIdeal.nD Cert.CrossFwdIdeal.τ).loc Cert.CrossFwdIdeal.main_arg3)
          ∧ r.2.mem ((c.tc : Thread Cert.CrossFwdIdeal.nD Cert.CrossFwdIdeal.τ).loc Cert.CrossFwdIdeal.main_arg4) = m ((c.tc : Thread Cert.CrossFwdIdeal.nD Cert.CrossFwdIdeal.τ).loc Cert.CrossFwdIdeal.main_arg4))
      ∧ θ_run (Cert.CrossFwdRefIdeal.defs (F := Ideal)) (onTc (τ := Cert.CrossFwdRefIdeal.τ) (Cert.CrossFwdRefIdeal.main (F := Ideal))) ⟨m', fun _ => 0, g'⟩ (fun r => ∀ c : Dev Cert.CrossFwdRefIdeal.nD,
          r.2.mem ((c.tc : Thread Cert.CrossFwdRefIdeal.nD Cert.CrossFwdRefIdeal.τ).loc Cert.CrossFwdRefIdeal.main_v37) = v0 c
          ∧ r.2.mem ((c.tc : Thread Cert.CrossFwdRefIdeal.nD Cert.CrossFwdRefIdeal.τ).loc Cert.CrossFwdRefIdeal.main_v38) = v1 c
          ∧ r.2.mem ((c.tc : Thread Cert.CrossFwdRefIdeal.nD Cert.CrossFwdRefIdeal.τ).loc Cert.CrossFwdRefIdeal.main_v39) = v2 c
          ∧ r.2.mem ((c.tc : Thread Cert.CrossFwdRefIdeal.nD Cert.CrossFwdRefIdeal.τ).loc Cert.CrossFwdRefIdeal.main_v40) = v3 c
          ∧ r.2.mem ((c.tc : Thread Cert.CrossFwdRefIdeal.nD Cert.CrossFwdRefIdeal.τ).loc Cert.CrossFwdRefIdeal.main_arg0) = m' ((c.tc : Thread Cert.CrossFwdRefIdeal.nD Cert.CrossFwdRefIdeal.τ).loc Cert.CrossFwdRefIdeal.main_arg0)
          ∧ r.2.mem ((c.tc : Thread Cert.CrossFwdRefIdeal.nD Cert.CrossFwdRefIdeal.τ).loc Cert.CrossFwdRefIdeal.main_arg1) = m' ((c.tc : Thread Cert.CrossFwdRefIdeal.nD Cert.CrossFwdRefIdeal.τ).loc Cert.CrossFwdRefIdeal.main_arg1)
          ∧ r.2.mem ((c.tc : Thread Cert.CrossFwdRefIdeal.nD Cert.CrossFwdRefIdeal.τ).loc Cert.CrossFwdRefIdeal.main_arg2) = m' ((c.tc : Thread Cert.CrossFwdRefIdeal.nD Cert.CrossFwdRefIdeal.τ).loc Cert.CrossFwdRefIdeal.main_arg2)
          ∧ r.2.mem ((c.tc : Thread Cert.CrossFwdRefIdeal.nD Cert.CrossFwdRefIdeal.τ).loc Cert.CrossFwdRefIdeal.main_arg3) = m' ((c.tc : Thread Cert.CrossFwdRefIdeal.nD Cert.CrossFwdRefIdeal.τ).loc Cert.CrossFwdRefIdeal.main_arg3)
          ∧ r.2.mem ((c.tc : Thread Cert.CrossFwdRefIdeal.nD Cert.CrossFwdRefIdeal.τ).loc Cert.CrossFwdRefIdeal.main_arg4) = m' ((c.tc : Thread Cert.CrossFwdRefIdeal.nD Cert.CrossFwdRefIdeal.τ).loc Cert.CrossFwdRefIdeal.main_arg4))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)) →
    ∃ (v0 : (c : Dev Cert.FfnFwdIdeal.nD) → Buf (Elt Ideal) ((c.tc : Thread Cert.FfnFwdIdeal.nD Cert.FfnFwdIdeal.τ).loc Cert.FfnFwdIdeal.main_v5_0)) (v1 : (c : Dev Cert.FfnFwdIdeal.nD) → Buf (Elt Ideal) ((c.tc : Thread Cert.FfnFwdIdeal.nD Cert.FfnFwdIdeal.τ).loc Cert.FfnFwdIdeal.main_v5_1)) (v2 : (c : Dev Cert.FfnFwdIdeal.nD) → Buf (Elt Ideal) ((c.tc : Thread Cert.FfnFwdIdeal.nD Cert.FfnFwdIdeal.τ).loc Cert.FfnFwdIdeal.main_v5_2)) (v3 : (c : Dev Cert.FfnFwdIdeal.nD) → Buf (Elt Ideal) ((c.tc : Thread Cert.FfnFwdIdeal.nD Cert.FfnFwdIdeal.τ).loc Cert.FfnFwdIdeal.main_v5_3)) (v4 : (c : Dev Cert.FfnFwdIdeal.nD) → Buf (Elt Ideal) ((c.tc : Thread Cert.FfnFwdIdeal.nD Cert.FfnFwdIdeal.τ).loc Cert.FfnFwdIdeal.main_v5_4)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v5_0) = v0 c
          ∧ r.2.mem ((c.tc : Thread Cert.FfnFwdIdeal.nD Cert.FfnFwdIdeal.τ).loc Cert.FfnFwdIdeal.main_v5_1) = v1 c
          ∧ r.2.mem ((c.tc : Thread Cert.FfnFwdIdeal.nD Cert.FfnFwdIdeal.τ).loc Cert.FfnFwdIdeal.main_v5_2) = v2 c
          ∧ r.2.mem ((c.tc : Thread Cert.FfnFwdIdeal.nD Cert.FfnFwdIdeal.τ).loc Cert.FfnFwdIdeal.main_v5_3) = v3 c
          ∧ r.2.mem ((c.tc : Thread Cert.FfnFwdIdeal.nD Cert.FfnFwdIdeal.τ).loc Cert.FfnFwdIdeal.main_v5_4) = v4 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v21) = v0 c
          ∧ r.2.mem ((c.tc : Thread Cert.FfnFwdRefIdeal.nD Cert.FfnFwdRefIdeal.τ).loc Cert.FfnFwdRefIdeal.main_v22) = v1 c
          ∧ r.2.mem ((c.tc : Thread Cert.FfnFwdRefIdeal.nD Cert.FfnFwdRefIdeal.τ).loc Cert.FfnFwdRefIdeal.main_v23) = v2 c
          ∧ r.2.mem ((c.tc : Thread Cert.FfnFwdRefIdeal.nD Cert.FfnFwdRefIdeal.τ).loc Cert.FfnFwdRefIdeal.main_v24) = v3 c
          ∧ r.2.mem ((c.tc : Thread Cert.FfnFwdRefIdeal.nD Cert.FfnFwdRefIdeal.τ).loc Cert.FfnFwdRefIdeal.main_v25) = v4 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3))

def preserves_ShortConvFwd_ShortConvFwdIdeal : Prop :=
  True

def algebraic_ShortConvFwdIdeal_ShortConvFwdRefIdeal [hShortConvFwdIdeal : Cert.ShortConvFwdIdeal.Facts] [hShortConvFwdRefIdeal : Cert.ShortConvFwdRefIdeal.Facts] : Prop :=
  ∀ (m : (ℓ : Loc Cert.ShortConvFwdIdeal.nD Cert.ShortConvFwdIdeal.τ Cert.ShortConvFwdIdeal.sig) → Buf (Elt Ideal) ℓ) (g : Dev Cert.ShortConvFwdIdeal.nD → PrngReg)
    (m' : (ℓ : Loc Cert.ShortConvFwdRefIdeal.nD Cert.ShortConvFwdRefIdeal.τ Cert.ShortConvFwdRefIdeal.sig) → Buf (Elt Ideal) ℓ) (g' : Dev Cert.ShortConvFwdRefIdeal.nD → PrngReg), Pre_ShortConvFwdIdeal m →
    (∀ c : Dev Cert.ShortConvFwdIdeal.nD,
      m' ((c.tc : Thread Cert.ShortConvFwdRefIdeal.nD Cert.ShortConvFwdRefIdeal.τ).loc Cert.ShortConvFwdRefIdeal.main_arg0) = m ((c.tc : Thread Cert.ShortConvFwdIdeal.nD Cert.ShortConvFwdIdeal.τ).loc Cert.ShortConvFwdIdeal.main_arg0)
      ∧ m' ((c.tc : Thread Cert.ShortConvFwdRefIdeal.nD Cert.ShortConvFwdRefIdeal.τ).loc Cert.ShortConvFwdRefIdeal.main_arg1) = m ((c.tc : Thread Cert.ShortConvFwdIdeal.nD Cert.ShortConvFwdIdeal.τ).loc Cert.ShortConvFwdIdeal.main_arg1)) →
    ∃ (v0 : (c : Dev Cert.ShortConvFwdIdeal.nD) → Buf (Elt Ideal) ((c.tc : Thread Cert.ShortConvFwdIdeal.nD Cert.ShortConvFwdIdeal.τ).loc Cert.ShortConvFwdIdeal.main_v2_0)) (v1 : (c : Dev Cert.ShortConvFwdIdeal.nD) → Buf (Elt Ideal) ((c.tc : Thread Cert.ShortConvFwdIdeal.nD Cert.ShortConvFwdIdeal.τ).loc Cert.ShortConvFwdIdeal.main_v2_1)),
      θ_run (Cert.ShortConvFwdIdeal.defs (F := Ideal)) (onTc (τ := Cert.ShortConvFwdIdeal.τ) (Cert.ShortConvFwdIdeal.main (F := Ideal))) ⟨m, fun _ => 0, g⟩ (fun r => ∀ c : Dev Cert.ShortConvFwdIdeal.nD,
          r.2.mem ((c.tc : Thread Cert.ShortConvFwdIdeal.nD Cert.ShortConvFwdIdeal.τ).loc Cert.ShortConvFwdIdeal.main_v2_0) = v0 c
          ∧ r.2.mem ((c.tc : Thread Cert.ShortConvFwdIdeal.nD Cert.ShortConvFwdIdeal.τ).loc Cert.ShortConvFwdIdeal.main_v2_1) = v1 c
          ∧ r.2.mem ((c.tc : Thread Cert.ShortConvFwdIdeal.nD Cert.ShortConvFwdIdeal.τ).loc Cert.ShortConvFwdIdeal.main_arg0) = m ((c.tc : Thread Cert.ShortConvFwdIdeal.nD Cert.ShortConvFwdIdeal.τ).loc Cert.ShortConvFwdIdeal.main_arg0)
          ∧ r.2.mem ((c.tc : Thread Cert.ShortConvFwdIdeal.nD Cert.ShortConvFwdIdeal.τ).loc Cert.ShortConvFwdIdeal.main_arg1) = m ((c.tc : Thread Cert.ShortConvFwdIdeal.nD Cert.ShortConvFwdIdeal.τ).loc Cert.ShortConvFwdIdeal.main_arg1))
      ∧ θ_run (Cert.ShortConvFwdRefIdeal.defs (F := Ideal)) (onTc (τ := Cert.ShortConvFwdRefIdeal.τ) (Cert.ShortConvFwdRefIdeal.main (F := Ideal))) ⟨m', fun _ => 0, g'⟩ (fun r => ∀ c : Dev Cert.ShortConvFwdRefIdeal.nD,
          r.2.mem ((c.tc : Thread Cert.ShortConvFwdRefIdeal.nD Cert.ShortConvFwdRefIdeal.τ).loc Cert.ShortConvFwdRefIdeal.main_v29) = v0 c
          ∧ r.2.mem ((c.tc : Thread Cert.ShortConvFwdRefIdeal.nD Cert.ShortConvFwdRefIdeal.τ).loc Cert.ShortConvFwdRefIdeal.main_v30) = v1 c
          ∧ r.2.mem ((c.tc : Thread Cert.ShortConvFwdRefIdeal.nD Cert.ShortConvFwdRefIdeal.τ).loc Cert.ShortConvFwdRefIdeal.main_arg0) = m' ((c.tc : Thread Cert.ShortConvFwdRefIdeal.nD Cert.ShortConvFwdRefIdeal.τ).loc Cert.ShortConvFwdRefIdeal.main_arg0)
          ∧ r.2.mem ((c.tc : Thread Cert.ShortConvFwdRefIdeal.nD Cert.ShortConvFwdRefIdeal.τ).loc Cert.ShortConvFwdRefIdeal.main_arg1) = m' ((c.tc : Thread Cert.ShortConvFwdRefIdeal.nD Cert.ShortConvFwdRefIdeal.τ).loc Cert.ShortConvFwdRefIdeal.main_arg1))

def preserves_MemNormFwd_MemNormFwdIdeal : Prop :=
  True

def algebraic_MemNormFwdIdeal_MemNormFwdRefIdeal [hMemNormFwdIdeal : Cert.MemNormFwdIdeal.Facts] [hMemNormFwdRefIdeal : Cert.MemNormFwdRefIdeal.Facts] : Prop :=
  ∀ (m : (ℓ : Loc Cert.MemNormFwdIdeal.nD Cert.MemNormFwdIdeal.τ Cert.MemNormFwdIdeal.sig) → Buf (Elt Ideal) ℓ) (g : Dev Cert.MemNormFwdIdeal.nD → PrngReg)
    (m' : (ℓ : Loc Cert.MemNormFwdRefIdeal.nD Cert.MemNormFwdRefIdeal.τ Cert.MemNormFwdRefIdeal.sig) → Buf (Elt Ideal) ℓ) (g' : Dev Cert.MemNormFwdRefIdeal.nD → PrngReg), Pre_MemNormFwdIdeal m →
    (∀ c : Dev Cert.MemNormFwdIdeal.nD,
      m' ((c.tc : Thread Cert.MemNormFwdRefIdeal.nD Cert.MemNormFwdRefIdeal.τ).loc Cert.MemNormFwdRefIdeal.main_arg0) = m ((c.tc : Thread Cert.MemNormFwdIdeal.nD Cert.MemNormFwdIdeal.τ).loc Cert.MemNormFwdIdeal.main_arg0)
      ∧ m' ((c.tc : Thread Cert.MemNormFwdRefIdeal.nD Cert.MemNormFwdRefIdeal.τ).loc Cert.MemNormFwdRefIdeal.main_arg1) = m ((c.tc : Thread Cert.MemNormFwdIdeal.nD Cert.MemNormFwdIdeal.τ).loc Cert.MemNormFwdIdeal.main_arg1)) →
    ∃ (v0 : (c : Dev Cert.MemNormFwdIdeal.nD) → Buf (Elt Ideal) ((c.tc : Thread Cert.MemNormFwdIdeal.nD Cert.MemNormFwdIdeal.τ).loc Cert.MemNormFwdIdeal.main_v1)),
      θ_run (Cert.MemNormFwdIdeal.defs (F := Ideal)) (onTc (τ := Cert.MemNormFwdIdeal.τ) (Cert.MemNormFwdIdeal.main (F := Ideal))) ⟨m, fun _ => 0, g⟩ (fun r => ∀ c : Dev Cert.MemNormFwdIdeal.nD,
          r.2.mem ((c.tc : Thread Cert.MemNormFwdIdeal.nD Cert.MemNormFwdIdeal.τ).loc Cert.MemNormFwdIdeal.main_v1) = v0 c
          ∧ r.2.mem ((c.tc : Thread Cert.MemNormFwdIdeal.nD Cert.MemNormFwdIdeal.τ).loc Cert.MemNormFwdIdeal.main_arg0) = m ((c.tc : Thread Cert.MemNormFwdIdeal.nD Cert.MemNormFwdIdeal.τ).loc Cert.MemNormFwdIdeal.main_arg0)
          ∧ r.2.mem ((c.tc : Thread Cert.MemNormFwdIdeal.nD Cert.MemNormFwdIdeal.τ).loc Cert.MemNormFwdIdeal.main_arg1) = m ((c.tc : Thread Cert.MemNormFwdIdeal.nD Cert.MemNormFwdIdeal.τ).loc Cert.MemNormFwdIdeal.main_arg1))
      ∧ θ_run (Cert.MemNormFwdRefIdeal.defs (F := Ideal)) (onTc (τ := Cert.MemNormFwdRefIdeal.τ) (Cert.MemNormFwdRefIdeal.main (F := Ideal))) ⟨m', fun _ => 0, g'⟩ (fun r => ∀ c : Dev Cert.MemNormFwdRefIdeal.nD,
          r.2.mem ((c.tc : Thread Cert.MemNormFwdRefIdeal.nD Cert.MemNormFwdRefIdeal.τ).loc Cert.MemNormFwdRefIdeal.main_v13) = v0 c
          ∧ r.2.mem ((c.tc : Thread Cert.MemNormFwdRefIdeal.nD Cert.MemNormFwdRefIdeal.τ).loc Cert.MemNormFwdRefIdeal.main_arg0) = m' ((c.tc : Thread Cert.MemNormFwdRefIdeal.nD Cert.MemNormFwdRefIdeal.τ).loc Cert.MemNormFwdRefIdeal.main_arg0)
          ∧ r.2.mem ((c.tc : Thread Cert.MemNormFwdRefIdeal.nD Cert.MemNormFwdRefIdeal.τ).loc Cert.MemNormFwdRefIdeal.main_arg1) = m' ((c.tc : Thread Cert.MemNormFwdRefIdeal.nD Cert.MemNormFwdRefIdeal.τ).loc Cert.MemNormFwdRefIdeal.main_arg1))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)
      ∧ m' ((c.tc : Thread Cert.NormFwdRefIdeal.nD Cert.NormFwdRefIdeal.τ).loc Cert.NormFwdRefIdeal.main_arg2) = m ((c.tc : Thread Cert.NormFwdIdeal.nD Cert.NormFwdIdeal.τ).loc Cert.NormFwdIdeal.main_arg2)) →
    ∃ (v0 : (c : Dev Cert.NormFwdIdeal.nD) → Buf (Elt Ideal) ((c.tc : Thread Cert.NormFwdIdeal.nD Cert.NormFwdIdeal.τ).loc Cert.NormFwdIdeal.main_v3_0)) (v1 : (c : Dev Cert.NormFwdIdeal.nD) → Buf (Elt Ideal) ((c.tc : Thread Cert.NormFwdIdeal.nD Cert.NormFwdIdeal.τ).loc Cert.NormFwdIdeal.main_v3_1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v3_0) = v0 c
          ∧ r.2.mem ((c.tc : Thread Cert.NormFwdIdeal.nD Cert.NormFwdIdeal.τ).loc Cert.NormFwdIdeal.main_v3_1) = v1 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
          ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v13) = v0 c
          ∧ r.2.mem ((c.tc : Thread Cert.NormFwdRefIdeal.nD Cert.NormFwdRefIdeal.τ).loc Cert.NormFwdRefIdeal.main_v15) = v1 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1)
          ∧ r.2.mem ((c.tc : Thread Cert.NormFwdRefIdeal.nD Cert.NormFwdRefIdeal.τ).loc Cert.NormFwdRefIdeal.main_arg2) = m' ((c.tc : Thread Cert.NormFwdRefIdeal.nD Cert.NormFwdRefIdeal.τ).loc Cert.NormFwdRefIdeal.main_arg2))

def preserves_WindowFwd_WindowFwdIdeal : Prop :=
  IdealRules.named_const.Statement Cert.WindowFwdIdeal.κ "mask" .f32 0xF149F2CA#32 ⊥

def algebraic_WindowFwdIdeal_WindowFwdRefIdeal_pre_window_fwd_finite [hWindowFwdIdeal : Cert.WindowFwdIdeal.Facts] [hWindowFwdRefIdeal : Cert.WindowFwdRefIdeal.Facts] [hPre_window_fwd_finite : Cert.Pre_window_fwd_finite.Facts] : Prop :=
  ∀ (m : (ℓ : Loc Cert.WindowFwdIdeal.nD Cert.WindowFwdIdeal.τ Cert.WindowFwdIdeal.sig) → Buf (Elt Ideal) ℓ) (g : Dev Cert.WindowFwdIdeal.nD → PrngReg)
    (m' : (ℓ : Loc Cert.WindowFwdRefIdeal.nD Cert.WindowFwdRefIdeal.τ Cert.WindowFwdRefIdeal.sig) → Buf (Elt Ideal) ℓ) (g' : Dev Cert.WindowFwdRefIdeal.nD → PrngReg), Pre_WindowFwdIdeal_window_fwd_finite m →
    (∀ c : Dev Cert.WindowFwdIdeal.nD,
      m' ((c.tc : Thread Cert.WindowFwdRefIdeal.nD Cert.WindowFwdRefIdeal.τ).loc Cert.WindowFwdRefIdeal.main_arg0) = m ((c.tc : Thread Cert.WindowFwdIdeal.nD Cert.WindowFwdIdeal.τ).loc Cert.WindowFwdIdeal.main_arg0)
      ∧ m' ((c.tc : Thread Cert.WindowFwdRefIdeal.nD Cert.WindowFwdRefIdeal.τ).loc Cert.WindowFwdRefIdeal.main_arg1) = m ((c.tc : Thread Cert.WindowFwdIdeal.nD Cert.WindowFwdIdeal.τ).loc Cert.WindowFwdIdeal.main_arg1)
      ∧ m' ((c.tc : Thread Cert.WindowFwdRefIdeal.nD Cert.WindowFwdRefIdeal.τ).loc Cert.WindowFwdRefIdeal.main_arg2) = m ((c.tc : Thread Cert.WindowFwdIdeal.nD Cert.WindowFwdIdeal.τ).loc Cert.WindowFwdIdeal.main_arg2)) →
    ∃ (v0 : (c : Dev Cert.WindowFwdIdeal.nD) → Buf (Elt Ideal) ((c.tc : Thread Cert.WindowFwdIdeal.nD Cert.WindowFwdIdeal.τ).loc Cert.WindowFwdIdeal.main_v6)),
      θ_run (Cert.WindowFwdIdeal.defs (F := Ideal)) (onTc (τ := Cert.WindowFwdIdeal.τ) (Cert.WindowFwdIdeal.main (F := Ideal))) ⟨m, fun _ => 0, g⟩ (fun r => ∀ c : Dev Cert.WindowFwdIdeal.nD,
          r.2.mem ((c.tc : Thread Cert.WindowFwdIdeal.nD Cert.WindowFwdIdeal.τ).loc Cert.WindowFwdIdeal.main_v6) = v0 c
          ∧ r.2.mem ((c.tc : Thread Cert.WindowFwdIdeal.nD Cert.WindowFwdIdeal.τ).loc Cert.WindowFwdIdeal.main_arg0) = m ((c.tc : Thread Cert.WindowFwdIdeal.nD Cert.WindowFwdIdeal.τ).loc Cert.WindowFwdIdeal.main_arg0)
          ∧ r.2.mem ((c.tc : Thread Cert.WindowFwdIdeal.nD Cert.WindowFwdIdeal.τ).loc Cert.WindowFwdIdeal.main_arg1) = m ((c.tc : Thread Cert.WindowFwdIdeal.nD Cert.WindowFwdIdeal.τ).loc Cert.WindowFwdIdeal.main_arg1)
          ∧ r.2.mem ((c.tc : Thread Cert.WindowFwdIdeal.nD Cert.WindowFwdIdeal.τ).loc Cert.WindowFwdIdeal.main_arg2) = m ((c.tc : Thread Cert.WindowFwdIdeal.nD Cert.WindowFwdIdeal.τ).loc Cert.WindowFwdIdeal.main_arg2))
      ∧ θ_run (Cert.WindowFwdRefIdeal.defs (F := Ideal)) (onTc (τ := Cert.WindowFwdRefIdeal.τ) (Cert.WindowFwdRefIdeal.main (F := Ideal))) ⟨m', fun _ => 0, g'⟩ (fun r => ∀ c : Dev Cert.WindowFwdRefIdeal.nD,
          r.2.mem ((c.tc : Thread Cert.WindowFwdRefIdeal.nD Cert.WindowFwdRefIdeal.τ).loc Cert.WindowFwdRefIdeal.main_v94) = v0 c
          ∧ r.2.mem ((c.tc : Thread Cert.WindowFwdRefIdeal.nD Cert.WindowFwdRefIdeal.τ).loc Cert.WindowFwdRefIdeal.main_arg0) = m' ((c.tc : Thread Cert.WindowFwdRefIdeal.nD Cert.WindowFwdRefIdeal.τ).loc Cert.WindowFwdRefIdeal.main_arg0)
          ∧ r.2.mem ((c.tc : Thread Cert.WindowFwdRefIdeal.nD Cert.WindowFwdRefIdeal.τ).loc Cert.WindowFwdRefIdeal.main_arg1) = m' ((c.tc : Thread Cert.WindowFwdRefIdeal.nD Cert.WindowFwdRefIdeal.τ).loc Cert.WindowFwdRefIdeal.main_arg1)
          ∧ r.2.mem ((c.tc : Thread Cert.WindowFwdRefIdeal.nD Cert.WindowFwdRefIdeal.τ).loc Cert.WindowFwdRefIdeal.main_arg2) = m' ((c.tc : Thread Cert.WindowFwdRefIdeal.nD Cert.WindowFwdRefIdeal.τ).loc Cert.WindowFwdRefIdeal.main_arg2))

def preserves_Product_ProductIdeal : Prop :=
  True

def algebraic_ProductIdeal_ProductRefIdeal [hProductIdeal : Cert.ProductIdeal.Facts] [hProductRefIdeal : Cert.ProductRefIdeal.Facts] : Prop :=
  ∀ (m : (ℓ : Loc Cert.ProductIdeal.nD Cert.ProductIdeal.τ Cert.ProductIdeal.sig) → Buf (Elt Ideal) ℓ) (g : Dev Cert.ProductIdeal.nD → PrngReg)
    (m' : (ℓ : Loc Cert.ProductRefIdeal.nD Cert.ProductRefIdeal.τ Cert.ProductRefIdeal.sig) → Buf (Elt Ideal) ℓ) (g' : Dev Cert.ProductRefIdeal.nD → PrngReg), Pre_ProductIdeal m →
    (∀ c : Dev Cert.ProductIdeal.nD,
      m' ((c.tc : Thread Cert.ProductRefIdeal.nD Cert.ProductRefIdeal.τ).loc Cert.ProductRefIdeal.main_arg0) = m ((c.tc : Thread Cert.ProductIdeal.nD Cert.ProductIdeal.τ).loc Cert.ProductIdeal.main_arg0)
      ∧ m' ((c.tc : Thread Cert.ProductRefIdeal.nD Cert.ProductRefIdeal.τ).loc Cert.ProductRefIdeal.main_arg1) = m ((c.tc : Thread Cert.ProductIdeal.nD Cert.ProductIdeal.τ).loc Cert.ProductIdeal.main_arg1)) →
    ∃ (v0 : (c : Dev Cert.ProductIdeal.nD) → Buf (Elt Ideal) ((c.tc : Thread Cert.ProductIdeal.nD Cert.ProductIdeal.τ).loc Cert.ProductIdeal.main_v1)),
      θ_run (Cert.ProductIdeal.defs (F := Ideal)) (onTc (τ := Cert.ProductIdeal.τ) (Cert.ProductIdeal.main (F := Ideal))) ⟨m, fun _ => 0, g⟩ (fun r => ∀ c : Dev Cert.ProductIdeal.nD,
          r.2.mem ((c.tc : Thread Cert.ProductIdeal.nD Cert.ProductIdeal.τ).loc Cert.ProductIdeal.main_v1) = v0 c
          ∧ r.2.mem ((c.tc : Thread Cert.ProductIdeal.nD Cert.ProductIdeal.τ).loc Cert.ProductIdeal.main_arg0) = m ((c.tc : Thread Cert.ProductIdeal.nD Cert.ProductIdeal.τ).loc Cert.ProductIdeal.main_arg0)
          ∧ r.2.mem ((c.tc : Thread Cert.ProductIdeal.nD Cert.ProductIdeal.τ).loc Cert.ProductIdeal.main_arg1) = m ((c.tc : Thread Cert.ProductIdeal.nD Cert.ProductIdeal.τ).loc Cert.ProductIdeal.main_arg1))
      ∧ θ_run (Cert.ProductRefIdeal.defs (F := Ideal)) (onTc (τ := Cert.ProductRefIdeal.τ) (Cert.ProductRefIdeal.main (F := Ideal))) ⟨m', fun _ => 0, g'⟩ (fun r => ∀ c : Dev Cert.ProductRefIdeal.nD,
          r.2.mem ((c.tc : Thread Cert.ProductRefIdeal.nD Cert.ProductRefIdeal.τ).loc Cert.ProductRefIdeal.main_v10) = v0 c
          ∧ r.2.mem ((c.tc : Thread Cert.ProductRefIdeal.nD Cert.ProductRefIdeal.τ).loc Cert.ProductRefIdeal.main_arg0) = m' ((c.tc : Thread Cert.ProductRefIdeal.nD Cert.ProductRefIdeal.τ).loc Cert.ProductRefIdeal.main_arg0)
          ∧ r.2.mem ((c.tc : Thread Cert.ProductRefIdeal.nD Cert.ProductRefIdeal.τ).loc Cert.ProductRefIdeal.main_arg1) = m' ((c.tc : Thread Cert.ProductRefIdeal.nD Cert.ProductRefIdeal.τ).loc Cert.ProductRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)
      ∧ m' ((c.tc : Thread Cert.AdamRefIdeal.nD Cert.AdamRefIdeal.τ).loc Cert.AdamRefIdeal.main_arg4) = m ((c.tc : Thread Cert.AdamIdeal.nD Cert.AdamIdeal.τ).loc Cert.AdamIdeal.main_arg4)
      ∧ m' ((c.tc : Thread Cert.AdamRefIdeal.nD Cert.AdamRefIdeal.τ).loc Cert.AdamRefIdeal.main_arg5) = m ((c.tc : Thread Cert.AdamIdeal.nD Cert.AdamIdeal.τ).loc Cert.AdamIdeal.main_arg5)
      ∧ m' ((c.tc : Thread Cert.AdamRefIdeal.nD Cert.AdamRefIdeal.τ).loc Cert.AdamRefIdeal.main_arg6) = m ((c.tc : Thread Cert.AdamIdeal.nD Cert.AdamIdeal.τ).loc Cert.AdamIdeal.main_arg6)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
          ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
          ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v2) = v0 c
          ∧ r.2.mem ((c.tc : Thread Cert.AdamRefIdeal.nD Cert.AdamRefIdeal.τ).loc Cert.AdamRefIdeal.main_v26) = v1 c
          ∧ r.2.mem ((c.tc : Thread Cert.AdamRefIdeal.nD Cert.AdamRefIdeal.τ).loc Cert.AdamRefIdeal.main_v7) = v2 c
          ∧ r.2.mem ((c.tc : Thread Cert.AdamRefIdeal.nD Cert.AdamRefIdeal.τ).loc Cert.AdamRefIdeal.main_v13) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4)
          ∧ r.2.mem ((c.tc : Thread Cert.AdamRefIdeal.nD Cert.AdamRefIdeal.τ).loc Cert.AdamRefIdeal.main_arg5) = m' ((c.tc : Thread Cert.AdamRefIdeal.nD Cert.AdamRefIdeal.τ).loc Cert.AdamRefIdeal.main_arg5)
          ∧ r.2.mem ((c.tc : Thread Cert.AdamRefIdeal.nD Cert.AdamRefIdeal.τ).loc Cert.AdamRefIdeal.main_arg6) = m' ((c.tc : Thread Cert.AdamRefIdeal.nD Cert.AdamRefIdeal.τ).loc Cert.AdamRefIdeal.main_arg6))

def preserves_ChipSum_ChipSumIdeal : Prop :=
  True

def algebraic_ChipSumIdeal_ChipSumRefIdeal [hChipSumIdeal : Cert.ChipSumIdeal.Facts] [hChipSumRefIdeal : Cert.ChipSumRefIdeal.Facts] [hPre_chip_of_four : Cert.Pre_chip_of_four.Facts] : Prop :=
  ∀ (m : (ℓ : Loc Cert.ChipSumIdeal.nD Cert.ChipSumIdeal.τ Cert.ChipSumIdeal.sig) → Buf (Elt Ideal) ℓ) (g : Dev Cert.ChipSumIdeal.nD → PrngReg)
    (m' : (ℓ : Loc Cert.ChipSumRefIdeal.nD Cert.ChipSumRefIdeal.τ Cert.ChipSumRefIdeal.sig) → Buf (Elt Ideal) ℓ) (g' : Dev Cert.ChipSumRefIdeal.nD → PrngReg), Pre_ChipSumIdeal m →
    (∀ c : Dev Cert.ChipSumIdeal.nD,
      m' ((c.tc : Thread Cert.ChipSumRefIdeal.nD Cert.ChipSumRefIdeal.τ).loc Cert.ChipSumRefIdeal.main_arg0) = m ((c.tc : Thread Cert.ChipSumIdeal.nD Cert.ChipSumIdeal.τ).loc Cert.ChipSumIdeal.main_arg0)
      ∧ m' ((c.tc : Thread Cert.ChipSumRefIdeal.nD Cert.ChipSumRefIdeal.τ).loc Cert.ChipSumRefIdeal.main_arg1) = m ((c.tc : Thread Cert.ChipSumIdeal.nD Cert.ChipSumIdeal.τ).loc Cert.ChipSumIdeal.main_arg1)
      ∧ m' ((c.tc : Thread Cert.ChipSumRefIdeal.nD Cert.ChipSumRefIdeal.τ).loc Cert.ChipSumRefIdeal.main_arg2) = m ((c.tc : Thread Cert.ChipSumIdeal.nD Cert.ChipSumIdeal.τ).loc Cert.ChipSumIdeal.main_arg2)) →
    ∃ (v0 : (c : Dev Cert.ChipSumIdeal.nD) → Buf (Elt Ideal) ((c.tc : Thread Cert.ChipSumIdeal.nD Cert.ChipSumIdeal.τ).loc Cert.ChipSumIdeal.main_v2)),
      θ_run (Cert.ChipSumIdeal.defs (F := Ideal)) (onTc (τ := Cert.ChipSumIdeal.τ) (Cert.ChipSumIdeal.main (F := Ideal))) ⟨m, fun _ => 0, g⟩ (fun r => ∀ c : Dev Cert.ChipSumIdeal.nD,
          r.2.mem ((c.tc : Thread Cert.ChipSumIdeal.nD Cert.ChipSumIdeal.τ).loc Cert.ChipSumIdeal.main_v2) = v0 c
          ∧ r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0)
          ∧ r.2.mem ((c.tc : Thread Cert.ChipSumIdeal.nD Cert.ChipSumIdeal.τ).loc Cert.ChipSumIdeal.main_arg1) = m ((c.tc : Thread Cert.ChipSumIdeal.nD Cert.ChipSumIdeal.τ).loc Cert.ChipSumIdeal.main_arg1)
          ∧ r.2.mem ((c.tc : Thread Cert.ChipSumIdeal.nD Cert.ChipSumIdeal.τ).loc Cert.ChipSumIdeal.main_arg2) = m ((c.tc : Thread Cert.ChipSumIdeal.nD Cert.ChipSumIdeal.τ).loc Cert.ChipSumIdeal.main_arg2))
      ∧ θ_run (Cert.ChipSumRefIdeal.defs (F := Ideal)) (onTc (τ := Cert.ChipSumRefIdeal.τ) (Cert.ChipSumRefIdeal.main (F := Ideal))) ⟨m', fun _ => 0, g'⟩ (fun r => ∀ c : Dev Cert.ChipSumRefIdeal.nD,
          r.2.mem ((c.tc : Thread Cert.ChipSumRefIdeal.nD Cert.ChipSumRefIdeal.τ).loc Cert.ChipSumRefIdeal.main_v13) = v0 c
          ∧ r.2.mem ((c.tc : Thread Cert.ChipSumRefIdeal.nD Cert.ChipSumRefIdeal.τ).loc Cert.ChipSumRefIdeal.main_arg0) = m' ((c.tc : Thread Cert.ChipSumRefIdeal.nD Cert.ChipSumRefIdeal.τ).loc Cert.ChipSumRefIdeal.main_arg0)
          ∧ r.2.mem ((c.tc : Thread Cert.ChipSumRefIdeal.nD Cert.ChipSumRefIdeal.τ).loc Cert.ChipSumRefIdeal.main_arg1) = m' ((c.tc : Thread Cert.ChipSumRefIdeal.nD Cert.ChipSumRefIdeal.τ).loc Cert.ChipSumRefIdeal.main_arg1)
          ∧ r.2.mem ((c.tc : Thread Cert.ChipSumRefIdeal.nD Cert.ChipSumRefIdeal.τ).loc Cert.ChipSumRefIdeal.main_arg2) = m' ((c.tc : Thread Cert.ChipSumRefIdeal.nD Cert.ChipSumRefIdeal.τ).loc Cert.ChipSumRefIdeal.main_arg2))

def preserves_ConvAFwd_ConvAFwdIdeal : Prop :=
  True

def algebraic_ConvAFwdIdeal_ConvAFwdRefIdeal [hConvAFwdIdeal : Cert.ConvAFwdIdeal.Facts] [hConvAFwdRefIdeal : Cert.ConvAFwdRefIdeal.Facts] : Prop :=
  ∀ (m : (ℓ : Loc Cert.ConvAFwdIdeal.nD Cert.ConvAFwdIdeal.τ Cert.ConvAFwdIdeal.sig) → Buf (Elt Ideal) ℓ) (g : Dev Cert.ConvAFwdIdeal.nD → PrngReg)
    (m' : (ℓ : Loc Cert.ConvAFwdRefIdeal.nD Cert.ConvAFwdRefIdeal.τ Cert.ConvAFwdRefIdeal.sig) → Buf (Elt Ideal) ℓ) (g' : Dev Cert.ConvAFwdRefIdeal.nD → PrngReg), Pre_ConvAFwdIdeal m →
    (∀ c : Dev Cert.ConvAFwdIdeal.nD,
      m' ((c.tc : Thread Cert.ConvAFwdRefIdeal.nD Cert.ConvAFwdRefIdeal.τ).loc Cert.ConvAFwdRefIdeal.main_arg0) = m ((c.tc : Thread Cert.ConvAFwdIdeal.nD Cert.ConvAFwdIdeal.τ).loc Cert.ConvAFwdIdeal.main_arg0)
      ∧ m' ((c.tc : Thread Cert.ConvAFwdRefIdeal.nD Cert.ConvAFwdRefIdeal.τ).loc Cert.ConvAFwdRefIdeal.main_arg1) = m ((c.tc : Thread Cert.ConvAFwdIdeal.nD Cert.ConvAFwdIdeal.τ).loc Cert.ConvAFwdIdeal.main_arg1)
      ∧ m' ((c.tc : Thread Cert.ConvAFwdRefIdeal.nD Cert.ConvAFwdRefIdeal.τ).loc Cert.ConvAFwdRefIdeal.main_arg2) = m ((c.tc : Thread Cert.ConvAFwdIdeal.nD Cert.ConvAFwdIdeal.τ).loc Cert.ConvAFwdIdeal.main_arg2)
      ∧ m' ((c.tc : Thread Cert.ConvAFwdRefIdeal.nD Cert.ConvAFwdRefIdeal.τ).loc Cert.ConvAFwdRefIdeal.main_arg3) = m ((c.tc : Thread Cert.ConvAFwdIdeal.nD Cert.ConvAFwdIdeal.τ).loc Cert.ConvAFwdIdeal.main_arg3)
      ∧ m' ((c.tc : Thread Cert.ConvAFwdRefIdeal.nD Cert.ConvAFwdRefIdeal.τ).loc Cert.ConvAFwdRefIdeal.main_arg4) = m ((c.tc : Thread Cert.ConvAFwdIdeal.nD Cert.ConvAFwdIdeal.τ).loc Cert.ConvAFwdIdeal.main_arg4)) →
    ∃ (v0 : (c : Dev Cert.ConvAFwdIdeal.nD) → Buf (Elt Ideal) ((c.tc : Thread Cert.ConvAFwdIdeal.nD Cert.ConvAFwdIdeal.τ).loc Cert.ConvAFwdIdeal.main_v5_0)) (v1 : (c : Dev Cert.ConvAFwdIdeal.nD) → Buf (Elt Ideal) ((c.tc : Thread Cert.ConvAFwdIdeal.nD Cert.ConvAFwdIdeal.τ).loc Cert.ConvAFwdIdeal.main_v6)),
      θ_run (Cert.ConvAFwdIdeal.defs (F := Ideal)) (onTc (τ := Cert.ConvAFwdIdeal.τ) (Cert.ConvAFwdIdeal.main (F := Ideal))) ⟨m, fun _ => 0, g⟩ (fun r => ∀ c : Dev Cert.ConvAFwdIdeal.nD,
          r.2.mem ((c.tc : Thread Cert.ConvAFwdIdeal.nD Cert.ConvAFwdIdeal.τ).loc Cert.ConvAFwdIdeal.main_v5_0) = v0 c
          ∧ r.2.mem ((c.tc : Thread Cert.ConvAFwdIdeal.nD Cert.ConvAFwdIdeal.τ).loc Cert.ConvAFwdIdeal.main_v6) = v1 c
          ∧ r.2.mem ((c.tc : Thread Cert.ConvAFwdIdeal.nD Cert.ConvAFwdIdeal.τ).loc Cert.ConvAFwdIdeal.main_arg0) = m ((c.tc : Thread Cert.ConvAFwdIdeal.nD Cert.ConvAFwdIdeal.τ).loc Cert.ConvAFwdIdeal.main_arg0)
          ∧ r.2.mem ((c.tc : Thread Cert.ConvAFwdIdeal.nD Cert.ConvAFwdIdeal.τ).loc Cert.ConvAFwdIdeal.main_arg1) = m ((c.tc : Thread Cert.ConvAFwdIdeal.nD Cert.ConvAFwdIdeal.τ).loc Cert.ConvAFwdIdeal.main_arg1)
          ∧ r.2.mem ((c.tc : Thread Cert.ConvAFwdIdeal.nD Cert.ConvAFwdIdeal.τ).loc Cert.ConvAFwdIdeal.main_arg2) = m ((c.tc : Thread Cert.ConvAFwdIdeal.nD Cert.ConvAFwdIdeal.τ).loc Cert.ConvAFwdIdeal.main_arg2)
          ∧ r.2.mem ((c.tc : Thread Cert.ConvAFwdIdeal.nD Cert.ConvAFwdIdeal.τ).loc Cert.ConvAFwdIdeal.main_arg3) = m ((c.tc : Thread Cert.ConvAFwdIdeal.nD Cert.ConvAFwdIdeal.τ).loc Cert.ConvAFwdIdeal.main_arg3)
          ∧ r.2.mem ((c.tc : Thread Cert.ConvAFwdIdeal.nD Cert.ConvAFwdIdeal.τ).loc Cert.ConvAFwdIdeal.main_arg4) = m ((c.tc : Thread Cert.ConvAFwdIdeal.nD Cert.ConvAFwdIdeal.τ).loc Cert.ConvAFwdIdeal.main_arg4))
      ∧ θ_run (Cert.ConvAFwdRefIdeal.defs (F := Ideal)) (onTc (τ := Cert.ConvAFwdRefIdeal.τ) (Cert.ConvAFwdRefIdeal.main (F := Ideal))) ⟨m', fun _ => 0, g'⟩ (fun r => ∀ c : Dev Cert.ConvAFwdRefIdeal.nD,
          r.2.mem ((c.tc : Thread Cert.ConvAFwdRefIdeal.nD Cert.ConvAFwdRefIdeal.τ).loc Cert.ConvAFwdRefIdeal.main_v231) = v0 c
          ∧ r.2.mem ((c.tc : Thread Cert.ConvAFwdRefIdeal.nD Cert.ConvAFwdRefIdeal.τ).loc Cert.ConvAFwdRefIdeal.main_v257) = v1 c
          ∧ r.2.mem ((c.tc : Thread Cert.ConvAFwdRefIdeal.nD Cert.ConvAFwdRefIdeal.τ).loc Cert.ConvAFwdRefIdeal.main_arg0) = m' ((c.tc : Thread Cert.ConvAFwdRefIdeal.nD Cert.ConvAFwdRefIdeal.τ).loc Cert.ConvAFwdRefIdeal.main_arg0)
          ∧ r.2.mem ((c.tc : Thread Cert.ConvAFwdRefIdeal.nD Cert.ConvAFwdRefIdeal.τ).loc Cert.ConvAFwdRefIdeal.main_arg1) = m' ((c.tc : Thread Cert.ConvAFwdRefIdeal.nD Cert.ConvAFwdRefIdeal.τ).loc Cert.ConvAFwdRefIdeal.main_arg1)
          ∧ r.2.mem ((c.tc : Thread Cert.ConvAFwdRefIdeal.nD Cert.ConvAFwdRefIdeal.τ).loc Cert.ConvAFwdRefIdeal.main_arg2) = m' ((c.tc : Thread Cert.ConvAFwdRefIdeal.nD Cert.ConvAFwdRefIdeal.τ).loc Cert.ConvAFwdRefIdeal.main_arg2)
          ∧ r.2.mem ((c.tc : Thread Cert.ConvAFwdRefIdeal.nD Cert.ConvAFwdRefIdeal.τ).loc Cert.ConvAFwdRefIdeal.main_arg3) = m' ((c.tc : Thread Cert.ConvAFwdRefIdeal.nD Cert.ConvAFwdRefIdeal.τ).loc Cert.ConvAFwdRefIdeal.main_arg3)
          ∧ r.2.mem ((c.tc : Thread Cert.ConvAFwdRefIdeal.nD Cert.ConvAFwdRefIdeal.τ).loc Cert.ConvAFwdRefIdeal.main_arg4) = m' ((c.tc : Thread Cert.ConvAFwdRefIdeal.nD Cert.ConvAFwdRefIdeal.τ).loc Cert.ConvAFwdRefIdeal.main_arg4))

def preserves_ConvA_ConvAIdeal : Prop :=
  True

def algebraic_ConvAIdeal_ConvARefIdeal_pre_conv_a_finite [hConvAIdeal : Cert.ConvAIdeal.Facts] [hConvARefIdeal : Cert.ConvARefIdeal.Facts] [hPre_conv_a_finite : Cert.Pre_conv_a_finite.Facts] : Prop :=
  ∀ (m : (ℓ : Loc Cert.ConvAIdeal.nD Cert.ConvAIdeal.τ Cert.ConvAIdeal.sig) → Buf (Elt Ideal) ℓ) (g : Dev Cert.ConvAIdeal.nD → PrngReg)
    (m' : (ℓ : Loc Cert.ConvARefIdeal.nD Cert.ConvARefIdeal.τ Cert.ConvARefIdeal.sig) → Buf (Elt Ideal) ℓ) (g' : Dev Cert.ConvARefIdeal.nD → PrngReg), Pre_ConvAIdeal_conv_a_finite m →
    (∀ c : Dev Cert.ConvAIdeal.nD,
      m' ((c.tc : Thread Cert.ConvARefIdeal.nD Cert.ConvARefIdeal.τ).loc Cert.ConvARefIdeal.main_arg0) = m ((c.tc : Thread Cert.ConvAIdeal.nD Cert.ConvAIdeal.τ).loc Cert.ConvAIdeal.main_arg0)
      ∧ m' ((c.tc : Thread Cert.ConvARefIdeal.nD Cert.ConvARefIdeal.τ).loc Cert.ConvARefIdeal.main_arg1) = m ((c.tc : Thread Cert.ConvAIdeal.nD Cert.ConvAIdeal.τ).loc Cert.ConvAIdeal.main_arg1)
      ∧ m' ((c.tc : Thread Cert.ConvARefIdeal.nD Cert.ConvARefIdeal.τ).loc Cert.ConvARefIdeal.main_arg2) = m ((c.tc : Thread Cert.ConvAIdeal.nD Cert.ConvAIdeal.τ).loc Cert.ConvAIdeal.main_arg2)
      ∧ m' ((c.tc : Thread Cert.ConvARefIdeal.nD Cert.ConvARefIdeal.τ).loc Cert.ConvARefIdeal.main_arg3) = m ((c.tc : Thread Cert.ConvAIdeal.nD Cert.ConvAIdeal.τ).loc Cert.ConvAIdeal.main_arg3)
      ∧ m' ((c.tc : Thread Cert.ConvARefIdeal.nD Cert.ConvARefIdeal.τ).loc Cert.ConvARefIdeal.main_arg4) = m ((c.tc : Thread Cert.ConvAIdeal.nD Cert.ConvAIdeal.τ).loc Cert.ConvAIdeal.main_arg4)
      ∧ m' ((c.tc : Thread Cert.ConvARefIdeal.nD Cert.ConvARefIdeal.τ).loc Cert.ConvARefIdeal.main_arg5) = m ((c.tc : Thread Cert.ConvAIdeal.nD Cert.ConvAIdeal.τ).loc Cert.ConvAIdeal.main_arg5)) →
    ∃ (v0 : (c : Dev Cert.ConvAIdeal.nD) → Buf (Elt Ideal) ((c.tc : Thread Cert.ConvAIdeal.nD Cert.ConvAIdeal.τ).loc Cert.ConvAIdeal.main_v238)),
      θ_run (Cert.ConvAIdeal.defs (F := Ideal)) (onTc (τ := Cert.ConvAIdeal.τ) (Cert.ConvAIdeal.main (F := Ideal))) ⟨m, fun _ => 0, g⟩ (fun r => ∀ c : Dev Cert.ConvAIdeal.nD,
          r.2.mem ((c.tc : Thread Cert.ConvAIdeal.nD Cert.ConvAIdeal.τ).loc Cert.ConvAIdeal.main_v238) = v0 c
          ∧ r.2.mem ((c.tc : Thread Cert.ConvAIdeal.nD Cert.ConvAIdeal.τ).loc Cert.ConvAIdeal.main_arg0) = m ((c.tc : Thread Cert.ConvAIdeal.nD Cert.ConvAIdeal.τ).loc Cert.ConvAIdeal.main_arg0)
          ∧ r.2.mem ((c.tc : Thread Cert.ConvAIdeal.nD Cert.ConvAIdeal.τ).loc Cert.ConvAIdeal.main_arg1) = m ((c.tc : Thread Cert.ConvAIdeal.nD Cert.ConvAIdeal.τ).loc Cert.ConvAIdeal.main_arg1)
          ∧ r.2.mem ((c.tc : Thread Cert.ConvAIdeal.nD Cert.ConvAIdeal.τ).loc Cert.ConvAIdeal.main_arg2) = m ((c.tc : Thread Cert.ConvAIdeal.nD Cert.ConvAIdeal.τ).loc Cert.ConvAIdeal.main_arg2)
          ∧ r.2.mem ((c.tc : Thread Cert.ConvAIdeal.nD Cert.ConvAIdeal.τ).loc Cert.ConvAIdeal.main_arg3) = m ((c.tc : Thread Cert.ConvAIdeal.nD Cert.ConvAIdeal.τ).loc Cert.ConvAIdeal.main_arg3)
          ∧ r.2.mem ((c.tc : Thread Cert.ConvAIdeal.nD Cert.ConvAIdeal.τ).loc Cert.ConvAIdeal.main_arg4) = m ((c.tc : Thread Cert.ConvAIdeal.nD Cert.ConvAIdeal.τ).loc Cert.ConvAIdeal.main_arg4)
          ∧ r.2.mem ((c.tc : Thread Cert.ConvAIdeal.nD Cert.ConvAIdeal.τ).loc Cert.ConvAIdeal.main_arg5) = m ((c.tc : Thread Cert.ConvAIdeal.nD Cert.ConvAIdeal.τ).loc Cert.ConvAIdeal.main_arg5))
      ∧ θ_run (Cert.ConvARefIdeal.defs (F := Ideal)) (onTc (τ := Cert.ConvARefIdeal.τ) (Cert.ConvARefIdeal.main (F := Ideal))) ⟨m', fun _ => 0, g'⟩ (fun r => ∀ c : Dev Cert.ConvARefIdeal.nD,
          r.2.mem ((c.tc : Thread Cert.ConvARefIdeal.nD Cert.ConvARefIdeal.τ).loc Cert.ConvARefIdeal.main_v303) = v0 c
          ∧ r.2.mem ((c.tc : Thread Cert.ConvARefIdeal.nD Cert.ConvARefIdeal.τ).loc Cert.ConvARefIdeal.main_arg0) = m' ((c.tc : Thread Cert.ConvARefIdeal.nD Cert.ConvARefIdeal.τ).loc Cert.ConvARefIdeal.main_arg0)
          ∧ r.2.mem ((c.tc : Thread Cert.ConvARefIdeal.nD Cert.ConvARefIdeal.τ).loc Cert.ConvARefIdeal.main_arg1) = m' ((c.tc : Thread Cert.ConvARefIdeal.nD Cert.ConvARefIdeal.τ).loc Cert.ConvARefIdeal.main_arg1)
          ∧ r.2.mem ((c.tc : Thread Cert.ConvARefIdeal.nD Cert.ConvARefIdeal.τ).loc Cert.ConvARefIdeal.main_arg2) = m' ((c.tc : Thread Cert.ConvARefIdeal.nD Cert.ConvARefIdeal.τ).loc Cert.ConvARefIdeal.main_arg2)
          ∧ r.2.mem ((c.tc : Thread Cert.ConvARefIdeal.nD Cert.ConvARefIdeal.τ).loc Cert.ConvARefIdeal.main_arg3) = m' ((c.tc : Thread Cert.ConvARefIdeal.nD Cert.ConvARefIdeal.τ).loc Cert.ConvARefIdeal.main_arg3)
          ∧ r.2.mem ((c.tc : Thread Cert.ConvARefIdeal.nD Cert.ConvARefIdeal.τ).loc Cert.ConvARefIdeal.main_arg4) = m' ((c.tc : Thread Cert.ConvARefIdeal.nD Cert.ConvARefIdeal.τ).loc Cert.ConvARefIdeal.main_arg4)
          ∧ r.2.mem ((c.tc : Thread Cert.ConvARefIdeal.nD Cert.ConvARefIdeal.τ).loc Cert.ConvARefIdeal.main_arg5) = m' ((c.tc : Thread Cert.ConvARefIdeal.nD Cert.ConvARefIdeal.τ).loc Cert.ConvARefIdeal.main_arg5))

def preserves_Window_WindowIdeal : Prop :=
  IdealRules.named_const.Statement Cert.WindowIdeal.κ "mask" .f32 0xF149F2CA#32 ⊥

def preserves_Place_PlaceIdeal : Prop :=
  True

def algebraic_PlaceIdeal_PlaceRefIdeal [hPlaceIdeal : Cert.PlaceIdeal.Facts] [hPlaceRefIdeal : Cert.PlaceRefIdeal.Facts] [hPre_place_of_four : Cert.Pre_place_of_four.Facts] : Prop :=
  ∀ (m : (ℓ : Loc Cert.PlaceIdeal.nD Cert.PlaceIdeal.τ Cert.PlaceIdeal.sig) → Buf (Elt Ideal) ℓ) (g : Dev Cert.PlaceIdeal.nD → PrngReg)
    (m' : (ℓ : Loc Cert.PlaceRefIdeal.nD Cert.PlaceRefIdeal.τ Cert.PlaceRefIdeal.sig) → Buf (Elt Ideal) ℓ) (g' : Dev Cert.PlaceRefIdeal.nD → PrngReg), Pre_PlaceIdeal m →
    (∀ c : Dev Cert.PlaceIdeal.nD,
      m' ((c.tc : Thread Cert.PlaceRefIdeal.nD Cert.PlaceRefIdeal.τ).loc Cert.PlaceRefIdeal.main_arg0) = m ((c.tc : Thread Cert.PlaceIdeal.nD Cert.PlaceIdeal.τ).loc Cert.PlaceIdeal.main_arg0)
      ∧ m' ((c.tc : Thread Cert.PlaceRefIdeal.nD Cert.PlaceRefIdeal.τ).loc Cert.PlaceRefIdeal.main_arg1) = m ((c.tc : Thread Cert.PlaceIdeal.nD Cert.PlaceIdeal.τ).loc Cert.PlaceIdeal.main_arg1)) →
    ∃ (v0 : (c : Dev Cert.PlaceIdeal.nD) → Buf (Elt Ideal) ((c.tc : Thread Cert.PlaceIdeal.nD Cert.PlaceIdeal.τ).loc Cert.PlaceIdeal.main_v13)),
      θ_run (Cert.PlaceIdeal.defs (F := Ideal)) (onTc (τ := Cert.PlaceIdeal.τ) (Cert.PlaceIdeal.main (F := Ideal))) ⟨m, fun _ => 0, g⟩ (fun r => ∀ c : Dev Cert.PlaceIdeal.nD,
          r.2.mem ((c.tc : Thread Cert.PlaceIdeal.nD Cert.PlaceIdeal.τ).loc Cert.PlaceIdeal.main_v13) = v0 c
          ∧ r.2.mem ((c.tc : Thread Cert.PlaceIdeal.nD Cert.PlaceIdeal.τ).loc Cert.PlaceIdeal.main_arg0) = m ((c.tc : Thread Cert.PlaceIdeal.nD Cert.PlaceIdeal.τ).loc Cert.PlaceIdeal.main_arg0)
          ∧ r.2.mem ((c.tc : Thread Cert.PlaceIdeal.nD Cert.PlaceIdeal.τ).loc Cert.PlaceIdeal.main_arg1) = m ((c.tc : Thread Cert.PlaceIdeal.nD Cert.PlaceIdeal.τ).loc Cert.PlaceIdeal.main_arg1))
      ∧ θ_run (Cert.PlaceRefIdeal.defs (F := Ideal)) (onTc (τ := Cert.PlaceRefIdeal.τ) (Cert.PlaceRefIdeal.main (F := Ideal))) ⟨m', fun _ => 0, g'⟩ (fun r => ∀ c : Dev Cert.PlaceRefIdeal.nD,
          r.2.mem ((c.tc : Thread Cert.PlaceRefIdeal.nD Cert.PlaceRefIdeal.τ).loc Cert.PlaceRefIdeal.main_v1) = v0 c
          ∧ r.2.mem ((c.tc : Thread Cert.PlaceRefIdeal.nD Cert.PlaceRefIdeal.τ).loc Cert.PlaceRefIdeal.main_arg0) = m' ((c.tc : Thread Cert.PlaceRefIdeal.nD Cert.PlaceRefIdeal.τ).loc Cert.PlaceRefIdeal.main_arg0)
          ∧ r.2.mem ((c.tc : Thread Cert.PlaceRefIdeal.nD Cert.PlaceRefIdeal.τ).loc Cert.PlaceRefIdeal.main_arg1) = m' ((c.tc : Thread Cert.PlaceRefIdeal.nD Cert.PlaceRefIdeal.τ).loc Cert.PlaceRefIdeal.main_arg1))

def Claim : Prop :=
  ∃ (hMemNorm : Cert.MemNorm.Facts) (hMemNormIdeal : Cert.MemNormIdeal.Facts) (hMemNormRefIdeal : Cert.MemNormRefIdeal.Facts) (hCross : Cert.Cross.Facts) (hCrossIdeal : Cert.CrossIdeal.Facts) (hCrossRefIdeal : Cert.CrossRefIdeal.Facts) (hShortConv : Cert.ShortConv.Facts) (hShortConvIdeal : Cert.ShortConvIdeal.Facts) (hShortConvRefIdeal : Cert.ShortConvRefIdeal.Facts) (hNormEven : Cert.NormEven.Facts) (hNormEvenIdeal : Cert.NormEvenIdeal.Facts) (hNormEvenRefIdeal : Cert.NormEvenRefIdeal.Facts) (hNormOdd : Cert.NormOdd.Facts) (hNormOddIdeal : Cert.NormOddIdeal.Facts) (hNormOddRefIdeal : Cert.NormOddRefIdeal.Facts) (hLoss : Cert.Loss.Facts) (hLossIdeal : Cert.LossIdeal.Facts) (hLossRefIdeal : Cert.LossRefIdeal.Facts) (hFfn : Cert.Ffn.Facts) (hFfnIdeal : Cert.FfnIdeal.Facts) (hFfnRefIdeal : Cert.FfnRefIdeal.Facts) (hCrossFwd : Cert.CrossFwd.Facts) (hCrossFwdIdeal : Cert.CrossFwdIdeal.Facts) (hCrossFwdRefIdeal : Cert.CrossFwdRefIdeal.Facts) (hFfnFwd : Cert.FfnFwd.Facts) (hFfnFwdIdeal : Cert.FfnFwdIdeal.Facts) (hFfnFwdRefIdeal : Cert.FfnFwdRefIdeal.Facts) (hShortConvFwd : Cert.ShortConvFwd.Facts) (hShortConvFwdIdeal : Cert.ShortConvFwdIdeal.Facts) (hShortConvFwdRefIdeal : Cert.ShortConvFwdRefIdeal.Facts) (hMemNormFwd : Cert.MemNormFwd.Facts) (hMemNormFwdIdeal : Cert.MemNormFwdIdeal.Facts) (hMemNormFwdRefIdeal : Cert.MemNormFwdRefIdeal.Facts) (hNormFwd : Cert.NormFwd.Facts) (hNormFwdIdeal : Cert.NormFwdIdeal.Facts) (hNormFwdRefIdeal : Cert.NormFwdRefIdeal.Facts) (hWindowFwd : Cert.WindowFwd.Facts) (hWindowFwdIdeal : Cert.WindowFwdIdeal.Facts) (hWindowFwdRefIdeal : Cert.WindowFwdRefIdeal.Facts) (hProduct : Cert.Product.Facts) (hProductIdeal : Cert.ProductIdeal.Facts) (hProductRefIdeal : Cert.ProductRefIdeal.Facts) (hAdam : Cert.Adam.Facts) (hAdamIdeal : Cert.AdamIdeal.Facts) (hAdamRefIdeal : Cert.AdamRefIdeal.Facts) (hChipSum : Cert.ChipSum.Facts) (hChipSumIdeal : Cert.ChipSumIdeal.Facts) (hChipSumRefIdeal : Cert.ChipSumRefIdeal.Facts) (hConvAFwd : Cert.ConvAFwd.Facts) (hConvAFwdIdeal : Cert.ConvAFwdIdeal.Facts) (hConvAFwdRefIdeal : Cert.ConvAFwdRefIdeal.Facts) (hConvA : Cert.ConvA.Facts) (hConvAIdeal : Cert.ConvAIdeal.Facts) (hConvARefIdeal : Cert.ConvARefIdeal.Facts) (hWindow : Cert.Window.Facts) (hWindowIdeal : Cert.WindowIdeal.Facts) (hWindowRefIdeal : Cert.WindowRefIdeal.Facts) (hPlace : Cert.Place.Facts) (hPlaceIdeal : Cert.PlaceIdeal.Facts) (hPlaceRefIdeal : Cert.PlaceRefIdeal.Facts) (hPre_cross_finite : Cert.Pre_cross_finite.Facts) (hPre_ffn_finite : Cert.Pre_ffn_finite.Facts) (hPre_cross_fwd_finite : Cert.Pre_cross_fwd_finite.Facts) (hPre_window_fwd_finite : Cert.Pre_window_fwd_finite.Facts) (hPre_chip_of_four : Cert.Pre_chip_of_four.Facts) (hPre_conv_a_finite : Cert.Pre_conv_a_finite.Facts) (hPre_place_of_four : Cert.Pre_place_of_four.Facts),
    quiescent_MemNorm (hMemNorm := hMemNorm)
    ∧ quiescent_MemNormIdeal (hMemNormIdeal := hMemNormIdeal)
    ∧ quiescent_MemNormRefIdeal (hMemNormRefIdeal := hMemNormRefIdeal)
    ∧ quiescent_Cross (hCross := hCross)
    ∧ quiescent_CrossIdeal (hCrossIdeal := hCrossIdeal)
    ∧ quiescent_CrossIdeal_pre_cross_finite (hCrossIdeal := hCrossIdeal) (hPre_cross_finite := hPre_cross_finite)
    ∧ quiescent_CrossRefIdeal (hCrossRefIdeal := hCrossRefIdeal)
    ∧ quiescent_CrossRefIdeal_pre_cross_finite (hCrossRefIdeal := hCrossRefIdeal) (hPre_cross_finite := hPre_cross_finite)
    ∧ quiescent_ShortConv (hShortConv := hShortConv)
    ∧ quiescent_ShortConvIdeal (hShortConvIdeal := hShortConvIdeal)
    ∧ quiescent_ShortConvRefIdeal (hShortConvRefIdeal := hShortConvRefIdeal)
    ∧ quiescent_NormEven (hNormEven := hNormEven)
    ∧ quiescent_NormEvenIdeal (hNormEvenIdeal := hNormEvenIdeal)
    ∧ quiescent_NormEvenRefIdeal (hNormEvenRefIdeal := hNormEvenRefIdeal)
    ∧ quiescent_NormOdd (hNormOdd := hNormOdd)
    ∧ quiescent_NormOddIdeal (hNormOddIdeal := hNormOddIdeal)
    ∧ quiescent_NormOddRefIdeal (hNormOddRefIdeal := hNormOddRefIdeal)
    ∧ quiescent_Loss (hLoss := hLoss)
    ∧ quiescent_LossIdeal (hLossIdeal := hLossIdeal)
    ∧ quiescent_LossRefIdeal (hLossRefIdeal := hLossRefIdeal)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_CrossFwd (hCrossFwd := hCrossFwd)
    ∧ quiescent_CrossFwdIdeal (hCrossFwdIdeal := hCrossFwdIdeal)
    ∧ quiescent_CrossFwdIdeal_pre_cross_fwd_finite (hCrossFwdIdeal := hCrossFwdIdeal) (hPre_cross_fwd_finite := hPre_cross_fwd_finite)
    ∧ quiescent_CrossFwdRefIdeal (hCrossFwdRefIdeal := hCrossFwdRefIdeal)
    ∧ quiescent_CrossFwdRefIdeal_pre_cross_fwd_finite (hCrossFwdRefIdeal := hCrossFwdRefIdeal) (hPre_cross_fwd_finite := hPre_cross_fwd_finite)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_ShortConvFwd (hShortConvFwd := hShortConvFwd)
    ∧ quiescent_ShortConvFwdIdeal (hShortConvFwdIdeal := hShortConvFwdIdeal)
    ∧ quiescent_ShortConvFwdRefIdeal (hShortConvFwdRefIdeal := hShortConvFwdRefIdeal)
    ∧ quiescent_MemNormFwd (hMemNormFwd := hMemNormFwd)
    ∧ quiescent_MemNormFwdIdeal (hMemNormFwdIdeal := hMemNormFwdIdeal)
    ∧ quiescent_MemNormFwdRefIdeal (hMemNormFwdRefIdeal := hMemNormFwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_WindowFwd (hWindowFwd := hWindowFwd)
    ∧ quiescent_WindowFwdIdeal (hWindowFwdIdeal := hWindowFwdIdeal)
    ∧ quiescent_WindowFwdIdeal_pre_window_fwd_finite (hWindowFwdIdeal := hWindowFwdIdeal) (hPre_window_fwd_finite := hPre_window_fwd_finite)
    ∧ quiescent_WindowFwdRefIdeal (hWindowFwdRefIdeal := hWindowFwdRefIdeal)
    ∧ quiescent_WindowFwdRefIdeal_pre_window_fwd_finite (hWindowFwdRefIdeal := hWindowFwdRefIdeal) (hPre_window_fwd_finite := hPre_window_fwd_finite)
    ∧ quiescent_Product (hProduct := hProduct)
    ∧ quiescent_ProductIdeal (hProductIdeal := hProductIdeal)
    ∧ quiescent_ProductRefIdeal (hProductRefIdeal := hProductRefIdeal)
    ∧ quiescent_Adam (hAdam := hAdam)
    ∧ quiescent_AdamIdeal (hAdamIdeal := hAdamIdeal)
    ∧ quiescent_AdamRefIdeal (hAdamRefIdeal := hAdamRefIdeal)
    ∧ quiescent_ChipSum (hChipSum := hChipSum) (hPre_chip_of_four := hPre_chip_of_four)
    ∧ quiescent_ChipSumIdeal (hChipSumIdeal := hChipSumIdeal) (hPre_chip_of_four := hPre_chip_of_four)
    ∧ quiescent_ChipSumRefIdeal (hChipSumRefIdeal := hChipSumRefIdeal)
    ∧ quiescent_ChipSumRefIdeal_pre_chip_of_four (hChipSumRefIdeal := hChipSumRefIdeal) (hPre_chip_of_four := hPre_chip_of_four)
    ∧ quiescent_ConvAFwd (hConvAFwd := hConvAFwd)
    ∧ quiescent_ConvAFwdIdeal (hConvAFwdIdeal := hConvAFwdIdeal)
    ∧ quiescent_ConvAFwdRefIdeal (hConvAFwdRefIdeal := hConvAFwdRefIdeal)
    ∧ quiescent_ConvA (hConvA := hConvA)
    ∧ quiescent_ConvAIdeal (hConvAIdeal := hConvAIdeal)
    ∧ quiescent_ConvAIdeal_pre_conv_a_finite (hConvAIdeal := hConvAIdeal) (hPre_conv_a_finite := hPre_conv_a_finite)
    ∧ quiescent_ConvARefIdeal (hConvARefIdeal := hConvARefIdeal)
    ∧ quiescent_ConvARefIdeal_pre_conv_a_finite (hConvARefIdeal := hConvARefIdeal) (hPre_conv_a_finite := hPre_conv_a_finite)
    ∧ quiescent_Window (hWindow := hWindow)
    ∧ quiescent_WindowIdeal (hWindowIdeal := hWindowIdeal)
    ∧ quiescent_WindowRefIdeal (hWindowRefIdeal := hWindowRefIdeal)
    ∧ quiescent_Place (hPlace := hPlace) (hPre_place_of_four := hPre_place_of_four)
    ∧ quiescent_PlaceIdeal (hPlaceIdeal := hPlaceIdeal) (hPre_place_of_four := hPre_place_of_four)
    ∧ quiescent_PlaceRefIdeal (hPlaceRefIdeal := hPlaceRefIdeal)
    ∧ quiescent_PlaceRefIdeal_pre_place_of_four (hPlaceRefIdeal := hPlaceRefIdeal) (hPre_place_of_four := hPre_place_of_four)
    ∧ preserves_MemNorm_MemNormIdeal
    ∧ algebraic_MemNormIdeal_MemNormRefIdeal (hMemNormIdeal := hMemNormIdeal) (hMemNormRefIdeal := hMemNormRefIdeal)
    ∧ preserves_Cross_CrossIdeal
    ∧ algebraic_CrossIdeal_CrossRefIdeal_pre_cross_finite (hCrossIdeal := hCrossIdeal) (hCrossRefIdeal := hCrossRefIdeal) (hPre_cross_finite := hPre_cross_finite)
    ∧ preserves_ShortConv_ShortConvIdeal
    ∧ algebraic_ShortConvIdeal_ShortConvRefIdeal (hShortConvIdeal := hShortConvIdeal) (hShortConvRefIdeal := hShortConvRefIdeal)
    ∧ preserves_NormEven_NormEvenIdeal
    ∧ algebraic_NormEvenIdeal_NormEvenRefIdeal (hNormEvenIdeal := hNormEvenIdeal) (hNormEvenRefIdeal := hNormEvenRefIdeal)
    ∧ preserves_NormOdd_NormOddIdeal
    ∧ algebraic_NormOddIdeal_NormOddRefIdeal (hNormOddIdeal := hNormOddIdeal) (hNormOddRefIdeal := hNormOddRefIdeal)
    ∧ preserves_Loss_LossIdeal
    ∧ algebraic_LossIdeal_LossRefIdeal (hLossIdeal := hLossIdeal) (hLossRefIdeal := hLossRefIdeal)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_CrossFwd_CrossFwdIdeal
    ∧ algebraic_CrossFwdIdeal_CrossFwdRefIdeal_pre_cross_fwd_finite (hCrossFwdIdeal := hCrossFwdIdeal) (hCrossFwdRefIdeal := hCrossFwdRefIdeal) (hPre_cross_fwd_finite := hPre_cross_fwd_finite)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_ShortConvFwd_ShortConvFwdIdeal
    ∧ algebraic_ShortConvFwdIdeal_ShortConvFwdRefIdeal (hShortConvFwdIdeal := hShortConvFwdIdeal) (hShortConvFwdRefIdeal := hShortConvFwdRefIdeal)
    ∧ preserves_MemNormFwd_MemNormFwdIdeal
    ∧ algebraic_MemNormFwdIdeal_MemNormFwdRefIdeal (hMemNormFwdIdeal := hMemNormFwdIdeal) (hMemNormFwdRefIdeal := hMemNormFwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_WindowFwd_WindowFwdIdeal
    ∧ algebraic_WindowFwdIdeal_WindowFwdRefIdeal_pre_window_fwd_finite (hWindowFwdIdeal := hWindowFwdIdeal) (hWindowFwdRefIdeal := hWindowFwdRefIdeal) (hPre_window_fwd_finite := hPre_window_fwd_finite)
    ∧ preserves_Product_ProductIdeal
    ∧ algebraic_ProductIdeal_ProductRefIdeal (hProductIdeal := hProductIdeal) (hProductRefIdeal := hProductRefIdeal)
    ∧ preserves_Adam_AdamIdeal
    ∧ algebraic_AdamIdeal_AdamRefIdeal (hAdamIdeal := hAdamIdeal) (hAdamRefIdeal := hAdamRefIdeal)
    ∧ preserves_ChipSum_ChipSumIdeal
    ∧ algebraic_ChipSumIdeal_ChipSumRefIdeal (hChipSumIdeal := hChipSumIdeal) (hChipSumRefIdeal := hChipSumRefIdeal) (hPre_chip_of_four := hPre_chip_of_four)
    ∧ preserves_ConvAFwd_ConvAFwdIdeal
    ∧ algebraic_ConvAFwdIdeal_ConvAFwdRefIdeal (hConvAFwdIdeal := hConvAFwdIdeal) (hConvAFwdRefIdeal := hConvAFwdRefIdeal)
    ∧ preserves_ConvA_ConvAIdeal
    ∧ algebraic_ConvAIdeal_ConvARefIdeal_pre_conv_a_finite (hConvAIdeal := hConvAIdeal) (hConvARefIdeal := hConvARefIdeal) (hPre_conv_a_finite := hPre_conv_a_finite)
    ∧ preserves_Window_WindowIdeal
    ∧ preserves_Place_PlaceIdeal
    ∧ algebraic_PlaceIdeal_PlaceRefIdeal (hPlaceIdeal := hPlaceIdeal) (hPlaceRefIdeal := hPlaceRefIdeal) (hPre_place_of_four := hPre_place_of_four)
-- ==== Pre_chip_of_four.lean ====
abbrev S1x1024x5632 : Shape := ⟨3, ![1, 1024, 5632]⟩
abbrev S3x1024x1408 : Shape := ⟨3, ![3, 1024, 1408]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S1x1024x5632 .f32) (main_arg1 : FVec F S3x1024x1408 .f32) (main_arg2 : IVec S1 32) : IVec S1 1 × IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 4#32
  let main_v2 : IVec S1 32 := broadcastInDim S1 ![] bcast_S_S1 main_c_0
  let main_v3 : IVec S1 1 := cmpi .slt main_arg2 main_v2
  (main_v1, main_v3)
-- ==== Pre_conv_a_finite.lean ====
abbrev S8192x1792 : Shape := ⟨2, ![8192, 1792]⟩
abbrev S31x512 : Shape := ⟨2, ![31, 512]⟩
abbrev S512 : Shape := ⟨1, ![512]⟩
abbrev S8192x1024 : Shape := ⟨2, ![8192, 1024]⟩
abbrev S8192x512 : Shape := ⟨2, ![8192, 512]⟩
abbrev S_ : Shape := ⟨0, ![]⟩

class Facts : Prop where
  slices_S8192x1024_S8192x512_0_0 : S8192x1024.Slices ![0, 0] S8192x512
  bcast_S_S8192x512 : S_.BroadcastsInDim S8192x512 (![] : Fin 0 → Fin S8192x512.rank)
  bcast_S_S512 : S_.BroadcastsInDim S512 (![] : Fin 0 → Fin S512.rank)

variable [Facts]

def fn {F : FTy → Type} [FloatOps F] (main_arg0 : FVec F S8192x1792 .f32) (main_arg1 : FVec F S31x512 .f32) (main_arg2 : FVec F S512 .f32) (main_arg3 : FVec F S512 .f32) (main_arg4 : FVec F S512 .f32) (main_arg5 : FVec F S8192x1024 .f32) : IVec S8192x512 1 × IVec S512 1 :=
  let main_v0 : FVec F S8192x512 .f32 := (extractStridedSlice S8192x512 ![0, 0] · slices_S8192x1024_S8192x512_0_0) main_arg5
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S512 .f32 := Host.absf main_arg3
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  (main_v3, main_v6)
-- ==== Pre_cross_finite.lean ====
abbrev S8192x1024 : Shape := ⟨2, ![8192, 1024]⟩
abbrev S256x2048 : Shape := ⟨2, ![256, 2048]⟩
abbrev S_ : Shape := ⟨0, ![]⟩

class Facts : Prop where
  bcast_S_S8192x1024 : S_.BroadcastsInDim S8192x1024 (![] : Fin 0 → Fin S8192x1024.rank)
  bcast_S_S256x2048 : S_.BroadcastsInDim S256x2048 (![] : Fin 0 → Fin S256x2048.rank)

variable [Facts]

def fn {F : FTy → Type} [FloatOps F] (main_arg0 : FVec F S8192x1024 .f32) (main_arg1 : FVec F S256x2048 .f32) (main_arg2 : FVec F S8192x1024 .f32) : IVec S8192x1024 1 × IVec S256x2048 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S256x2048 .f32 := Host.absf main_arg1
  let main_cst_0 : FVec F S_ .f32 := constant S_ .f32 0x7F800000#32
  let main_v4 : FVec F S256x2048 .f32 := broadcastInDim S256x2048 ![] bcast_S_S256x2048 main_cst_0
  let main_v5 : IVec S256x2048 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Pre_cross_fwd_finite.lean ====
abbrev S8192x1024 : Shape := ⟨2, ![8192, 1024]⟩
abbrev S1024 : Shape := ⟨1, ![1024]⟩
abbrev S1024x1024 : Shape := ⟨2, ![1024, 1024]⟩
abbrev S256x2048 : Shape := ⟨2, ![256, 2048]⟩
abbrev S_ : Shape := ⟨0, ![]⟩
abbrev S256x1024 : Shape := ⟨2, ![256, 1024]⟩

class Facts : Prop where
  bcast_S_S1024 : S_.BroadcastsInDim S1024 (![] : Fin 0 → Fin S1024.rank)
  bcast_S_S1024x1024 : S_.BroadcastsInDim S1024x1024 (![] : Fin 0 → Fin S1024x1024.rank)
  slices_S256x2048_S256x1024_0_0 : S256x2048.Slices ![0, 0] S256x1024
  bcast_S_S256x1024 : S_.BroadcastsInDim S256x1024 (![] : Fin 0 → Fin S256x1024.rank)

variable [Facts]

def fn {F : FTy → Type} [FloatOps F] (main_arg0 : FVec F S8192x1024 .f32) (main_arg1 : FVec F S1024 .f32) (main_arg2 : FVec F S1024x1024 .f32) (main_arg3 : FVec F S1024x1024 .f32) (main_arg4 : FVec F S256x2048 .f32) : IVec S1024 1 × IVec S1024x1024 1 × IVec S256x1024 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x1024 .f32 := Host.absf main_arg2
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S256x1024 .f32 := (extractStridedSlice S256x1024 ![0, 0] · slices_S256x2048_S256x1024_0_0) main_arg4
  let main_v7 : FVec F S256x1024 .f32 := Host.absf main_v6
  let main_cst_1 : FVec F S_ .f32 := constant S_ .f32 0x7F800000#32
  let main_v8 : FVec F S256x1024 .f32 := broadcastInDim S256x1024 ![] bcast_S_S256x1024 main_cst_1
  let main_v9 : IVec S256x1024 1 := cmpf .olt main_v7 main_v8
  (main_v2, main_v5, main_v9)
-- ==== Pre_ffn_finite.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S8192x1024 .f32) (main_arg2 : FVec F S1024 .f32) (main_arg3 : FVec F S1024x5632 .f32) (main_arg4 : FVec F S2816x1024 .f32) : IVec S8192x1024 1 × IVec S1024 1 × IVec S1024x5632 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg2
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg3
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S2816x1024 .f32 := Host.absf main_arg4
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  (main_v2, main_v5, main_v8, main_v11)
-- ==== Pre_place_of_four.lean ====
abbrev S2x1024x1408 : Shape := ⟨3, ![2, 1024, 1408]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S2x1024x1408 .f32) (main_arg1 : IVec S1 32) : IVec S1 1 × IVec S1 1 :=
  let main_c : IVec S_ 32 := constantI S_ 32 0#32
  let main_v0 : IVec S1 32 := broadcastInDim S1 ![] bcast_S_S1 main_c
  let main_v1 : IVec S1 1 := cmpi .sge main_arg1 main_v0
  let main_c_0 : IVec S_ 32 := constantI S_ 32 4#32
  let main_v2 : IVec S1 32 := broadcastInDim S1 ![] bcast_S_S1 main_c_0
  let main_v3 : IVec S1 1 := cmpi .slt main_arg1 main_v2
  (main_v1, main_v3)
-- ==== Pre_window_fwd_finite.lean ====
abbrev S8192x1792 : Shape := ⟨2, ![8192, 1792]⟩
abbrev S8 : Shape := ⟨1, ![8]⟩
abbrev S8192x1024 : Shape := ⟨2, ![8192, 1024]⟩
abbrev S8192x640 : Shape := ⟨2, ![8192, 640]⟩
abbrev S_ : Shape := ⟨0, ![]⟩

class Facts : Prop where
  slices_S8192x1792_S8192x640_0_1024 : S8192x1792.Slices ![0, 1024] S8192x640
  bcast_S_S8192x640 : S_.BroadcastsInDim S8192x640 (![] : Fin 0 → Fin S8192x640.rank)
  bcast_S_S8 : S_.BroadcastsInDim S8 (![] : Fin 0 → Fin S8.rank)

variable [Facts]

def fn {F : FTy → Type} [FloatOps F] (main_arg0 : FVec F S8192x1792 .f32) (main_arg1 : FVec F S8 .f32) (main_arg2 : FVec F S8192x1024 .f32) : IVec S8192x640 1 × IVec S8 1 :=
  let main_v0 : FVec F S8192x640 .f32 := (extractStridedSlice S8192x640 ![0, 1024] · slices_S8192x1792_S8192x640_0_1024) main_arg0
  let main_v1 : FVec F S8192x640 .f32 := Host.absf main_v0
  let main_cst : FVec F S_ .f32 := constant S_ .f32 0x7F800000#32
  let main_v2 : FVec F S8192x640 .f32 := broadcastInDim S8192x640 ![] bcast_S_S8192x640 main_cst
  let main_v3 : IVec S8192x640 1 := cmpf .olt main_v1 main_v2
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  (main_v3, main_v6)
-- ==== MemNorm.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 5
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S1x1024, .f32⟩
  | .hbm, ⟨4, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_6 : BitVec 32 := 0#32
  let v17 : BitVec 1 := Scalar.cmpi .ne v16 c0_i32_6
  v17

def k0_cond2 (i : grid0.Coords) : BitVec 1 :=
  let arg0 : BitVec 32 := BitVec.ofNat 32 (i 0).val
  let c0_i32_7 : BitVec 32 := 0#32
  let v18 : BitVec 1 := Scalar.cmpi .sgt arg0 c0_i32_7
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== MemNormRefIdeal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S1024, .f32⟩
  | .hbm, ⟨22, _⟩ => ⟨S1x1024, .f32⟩
  | .hbm, ⟨23, _⟩ => ⟨S_, .f32⟩
  | .hbm, ⟨24, _⟩ => ⟨S1024, .f32⟩
  | .hbm, ⟨25, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Cross.lean ====
abbrev S8192x1024 : Shape := ⟨2, ![8192, 1024]⟩
abbrev S256x2048 : Shape := ⟨2, ![256, 2048]⟩
abbrev S512x1024 : Shape := ⟨2, ![512, 1024]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S256x2048, .f32⟩
  | .hbm, ⟨2, _⟩ => ⟨S8192x1024, .f32⟩
  | .hbm, ⟨3, _⟩ => ⟨S8192x1024, .bf16⟩
  | .hbm, ⟨4, _⟩ => ⟨S256x2048, .bf16⟩
  | .hbm, ⟨5, _⟩ => ⟨S8192x1024, .bf16⟩
  | .hbm, ⟨6, _⟩ => ⟨S8192x1024, .bf16⟩
  | .hbm, ⟨7, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S256x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== CrossRefIdeal.lean ====
abbrev S8192x1024 : Shape := ⟨2, ![8192, 1024]⟩
abbrev S256x2048 : Shape := ⟨2, ![256, 2048]⟩
abbrev S8192x4x256 : Shape := ⟨3, ![8192, 4, 256]⟩
abbrev S256x1024 : Shape := ⟨2, ![256, 1024]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩

abbrev nBuf : Space → Nat
  | .hbm => 88
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x2048, .f32⟩
  | .hbm, ⟨2, _⟩ => ⟨S8192x1024, .f32⟩
  | .hbm, ⟨3, _⟩ => ⟨S8192x4x256, .f32⟩
  | .hbm, ⟨4, _⟩ => ⟨S256x1024, .f32⟩
  | .hbm, ⟨5, _⟩ => ⟨S256x4x256, .f32⟩
  | .hbm, ⟨6, _⟩ => ⟨S256x1024, .f32⟩
  | .hbm, ⟨7, _⟩ => ⟨S256x4x256, .f32⟩
  | .hbm, ⟨8, _⟩ => ⟨S4x8192x256, .f32⟩
  | .hbm, ⟨9, _⟩ => ⟨S_, .f32⟩
  | .hbm, ⟨10, _⟩ => ⟨S4x8192x256, .f32⟩
  | .hbm, ⟨11, _⟩ => ⟨S4x8192x256, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S4x8192x256, .f32⟩
  | .hbm, ⟨16, _⟩ => ⟨S4x8192x256, .i1⟩
  | .hbm, ⟨17, _⟩ => ⟨S4x8192x256, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S4x8192, .i1⟩
  | .hbm, ⟨26, _⟩ => ⟨S_, .f32⟩
  | .hbm, ⟨27, _⟩ => ⟨S4x8192, .f32⟩
  | .hbm, ⟨28, _⟩ => ⟨S4x8192, .i1⟩
  | .hbm, ⟨29, _⟩ => ⟨S_, .f32⟩
  | .hbm, ⟨30, _⟩ => ⟨S4x8192, .f32⟩
  | .hbm, ⟨31, _⟩ => ⟨S_, .f32⟩
  | .hbm, ⟨32, _⟩ => ⟨S4x8192, .f32⟩
  | .hbm, ⟨33, _⟩ => ⟨S_, .f32⟩
  | .hbm, ⟨34, _⟩ => ⟨S4x8192, .f32⟩
  | .hbm, ⟨35, _⟩ => ⟨S4x8192, .f32⟩
  | .hbm, ⟨36, _⟩ => ⟨S4x8192, .f32⟩
  | .hbm, ⟨37, _⟩ => ⟨S4x8192x1, .f32⟩
  | .hbm, ⟨38, _⟩ => ⟨S4x8192x256, .f32⟩
  | .hbm, ⟨39, _⟩ => ⟨S4x8192x256, .f32⟩
  | .hbm, ⟨40, _⟩ => ⟨S4x8192x256, .f32⟩
  | .hbm, ⟨41, _⟩ => ⟨S_, .f32⟩
  | .hbm, ⟨42, _⟩ => ⟨S4x8192, .f32⟩
  | .hbm, ⟨43, _⟩ => ⟨S4x8192x1, .f32⟩
  | .hbm, ⟨44, _⟩ => ⟨S4x8192x256, .f32⟩
  | .hbm, ⟨45, _⟩ => ⟨S4x8192x256, .f32⟩
  | .hbm, ⟨46, _⟩ => ⟨S4x8192x1, .f32⟩
  | .hbm, ⟨47, _⟩ => ⟨S_, .f32⟩
  | .hbm, ⟨48, _⟩ => ⟨S4x8192x1, .f32⟩
  | .hbm, ⟨49, _⟩ => ⟨S4x8192x1, .f32⟩
  | .hbm, ⟨50, _⟩ => ⟨S4x256x8192, .f32⟩
  | .hbm, ⟨51, _⟩ => ⟨S8192x4x256, .f32⟩
  | .hbm, ⟨52, _⟩ => ⟨S8192x1024, .f32⟩
  | .hbm, ⟨53, _⟩ => ⟨S8192x4x256, .f32⟩
  | .hbm, ⟨54, _⟩ => ⟨S4x256x8192, .f32⟩
  | .hbm, ⟨55, _⟩ => ⟨S4x8192x256, .f32⟩
  | .hbm, ⟨56, _⟩ => ⟨S4x256x256, .f32⟩
  | .hbm, ⟨57, _⟩ => ⟨S256x4x256, .f32⟩
  | .hbm, ⟨58, _⟩ => ⟨S4x8192x256, .f32⟩
  | .hbm, ⟨59, _⟩ => ⟨S4x8192x256, .f32⟩
  | .hbm, ⟨60, _⟩ => ⟨S4x8192x256, .f32⟩
  | .hbm, ⟨61, _⟩ => ⟨S_, .f32⟩
  | .hbm, ⟨62, _⟩ => ⟨S4x8192, .f32⟩
  | .hbm, ⟨63, _⟩ => ⟨S4x8192x1, .f32⟩
  | .hbm, ⟨64, _⟩ => ⟨S4x8192x1, .f32⟩
  | .hbm, ⟨65, _⟩ => ⟨S4x8192x256, .f32⟩
  | .hbm, ⟨66, _⟩ => ⟨S4x8192x256, .f32⟩
  | .hbm, ⟨67, _⟩ => ⟨S_, .f32⟩
  | .hbm, ⟨68, _⟩ => ⟨S4x8192, .f32⟩
  | .hbm, ⟨69, _⟩ => ⟨S4x8192x256, .f32⟩
  | .hbm, ⟨70, _⟩ => ⟨S4x8192x256, .f32⟩
  | .hbm, ⟨71, _⟩ => ⟨S4x8192x256, .f32⟩
  | .hbm, ⟨72, _⟩ => ⟨S_, .f32⟩
  | .hbm, ⟨73, _⟩ => ⟨S4x8192x256, .f32⟩
  | .hbm, ⟨74, _⟩ => ⟨S4x8192x256, .f32⟩
  | .hbm, ⟨75, _⟩ => ⟨S4x256x256, .f32⟩
  | .hbm, ⟨76, _⟩ => ⟨S256x4x256, .f32⟩
  | .hbm, ⟨77, _⟩ => ⟨S4x8192x256, .f32⟩
  | .hbm, ⟨78, _⟩ => ⟨S8192x4x256, .f32⟩
  | .hbm, ⟨79, _⟩ => ⟨S256x1024, .f32⟩
  | .hbm, ⟨80, _⟩ => ⟨S_, .f32⟩
  | .hbm, ⟨81, _⟩ => ⟨S256x2048, .f32⟩
  | .hbm, ⟨82, _⟩ => ⟨S256x1024, .f32⟩
  | .hbm, ⟨83, _⟩ => ⟨S_, .f32⟩
  | .hbm, ⟨84, _⟩ => ⟨S256x2048, .f32⟩
  | .hbm, ⟨85, _⟩ => ⟨S256x2048, .f32⟩
  | .hbm, ⟨86, _⟩ => ⟨S8192x1024, .f32⟩
  | .hbm, ⟨87, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_10 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_11 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_12 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_13 : Ref sig .tc := ⟨.hbm, 80, rfl⟩
abbrev main_v63 : Ref sig .tc := ⟨.hbm, 81, rfl⟩
abbrev main_v64 : Ref sig .tc := ⟨.hbm, 82, rfl⟩
abbrev main_cst_14 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== ShortConv.lean ====
abbrev S8192x3072 : Shape := ⟨2, ![8192, 3072]⟩
abbrev S3x1024 : Shape := ⟨2, ![3, 1024]⟩
abbrev S8192x1024 : Shape := ⟨2, ![8192, 1024]⟩
abbrev S_ : Shape := ⟨0, ![]⟩
abbrev S2x1024 : Shape := ⟨2, ![2, 1024]⟩
abbrev S8194x1024 : Shape := ⟨2, ![8194, 1024]⟩
abbrev S1x1024 : Shape := ⟨2, ![1, 1024]⟩
abbrev S1024 : Shape := ⟨1, ![1024]⟩
abbrev S8x1024 : Shape := ⟨2, ![8, 1024]⟩
abbrev S256x1024 : Shape := ⟨2, ![256, 1024]⟩
abbrev S256x3072 : Shape := ⟨2, ![256, 3072]⟩
abbrev S264x1024 : Shape := ⟨2, ![264, 1024]⟩

abbrev nBuf : Space → Nat
  | .hbm => 40
  | .vmem => 15
  | .smem => 0
  | _ => 0

abbrev bufTy : (tb : Table) → Fin (tcTables nBuf tb) → BufTy
  | .hbm, ⟨0, _⟩ => ⟨S8192x3072, .f32⟩
  | .hbm, ⟨1, _⟩ => ⟨S3x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S2x1024, .f32⟩
  | .hbm, ⟨8, _⟩ => ⟨S8194x1024, .f32⟩
  | .hbm, ⟨9, _⟩ => ⟨S1x1024, .f32⟩
  | .hbm, ⟨10, _⟩ => ⟨S1024, .f32⟩
  | .hbm, ⟨11, _⟩ => ⟨S8192x1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x3072, .bf16⟩
  | .hbm, ⟨33, _⟩ => ⟨S8192x1024, .bf16⟩
  | .hbm, ⟨34, _⟩ => ⟨S8192x1024, .bf16⟩
  | .hbm, ⟨35, _⟩ => ⟨S_, .i32⟩
  | .hbm, ⟨36, _⟩ => ⟨S_, .f32⟩
  | .hbm, ⟨37, _⟩ => ⟨S8x1024, .f32⟩
  | .hbm, ⟨38, _⟩ => ⟨S8192x3072, .bf16⟩
  | .hbm, ⟨39, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S8x1024, .f32⟩
  | .local _ .vmem, ⟨11, _⟩ => ⟨S256x3072, .bf16⟩
  | .local _ .vmem, ⟨12, _⟩ => ⟨S256x3072, .bf16⟩
  | .local _ .vmem, ⟨13, _⟩ => ⟨S8x1024, .f32⟩
  | .local _ .vmem, ⟨14, _⟩ => ⟨S264x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_c : Ref sig .tc := ⟨.hbm, 35, rfl⟩
abbrev main_call0_v0 : Ref sig .tc := ⟨.hbm, 36, rfl⟩
abbrev main_v30 : Ref sig .tc := ⟨.hbm, 37, rfl⟩
abbrev main_v31_0 : Ref sig .tc := ⟨.hbm, 38, rfl⟩
abbrev main_v31_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ShortConvRefIdeal.lean ====
abbrev S8192x3072 : Shape := ⟨2, ![8192, 3072]⟩
abbrev S3x1024 : Shape := ⟨2, ![3, 1024]⟩
abbrev S8192x1024 : Shape := ⟨2, ![8192, 1024]⟩
abbrev S_ : Shape := ⟨0, ![]⟩
abbrev S2x1024 : Shape := ⟨2, ![2, 1024]⟩
abbrev S8194x1024 : Shape := ⟨2, ![8194, 1024]⟩
abbrev S1x1024 : Shape := ⟨2, ![1, 1024]⟩
abbrev S1024 : Shape := ⟨1, ![1024]⟩
abbrev S8x1024 : Shape := ⟨2, ![8, 1024]⟩

abbrev nBuf : Space → Nat
  | .hbm => 97
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S3x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S2x1024, .f32⟩
  | .hbm, ⟨9, _⟩ => ⟨S8194x1024, .f32⟩
  | .hbm, ⟨10, _⟩ => ⟨S_, .f32⟩
  | .hbm, ⟨11, _⟩ => ⟨S2x1024, .f32⟩
  | .hbm, ⟨12, _⟩ => ⟨S1x1024, .f32⟩
  | .hbm, ⟨13, _⟩ => ⟨S1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S1024, .f32⟩
  | .hbm, ⟨46, _⟩ => ⟨S_, .f32⟩
  | .hbm, ⟨47, _⟩ => ⟨S8194x1024, .f32⟩
  | .hbm, ⟨48, _⟩ => ⟨S1x1024, .f32⟩
  | .hbm, ⟨49, _⟩ => ⟨S_, .f32⟩
  | .hbm, ⟨50, _⟩ => ⟨S3x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S_, .f32⟩
  | .hbm, ⟨60, _⟩ => ⟨S8194x1024, .f32⟩
  | .hbm, ⟨61, _⟩ => ⟨S8194x1024, .f32⟩
  | .hbm, ⟨62, _⟩ => ⟨S1x1024, .f32⟩
  | .hbm, ⟨63, _⟩ => ⟨S_, .f32⟩
  | .hbm, ⟨64, _⟩ => ⟨S3x1024, .f32⟩
  | .hbm, ⟨65, _⟩ => ⟨S3x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S_, .f32⟩
  | .hbm, ⟨73, _⟩ => ⟨S1024, .f32⟩
  | .hbm, ⟨74, _⟩ => ⟨S_, .f32⟩
  | .hbm, ⟨75, _⟩ => ⟨S8194x1024, .f32⟩
  | .hbm, ⟨76, _⟩ => ⟨S8194x1024, .f32⟩
  | .hbm, ⟨77, _⟩ => ⟨S1x1024, .f32⟩
  | .hbm, ⟨78, _⟩ => ⟨S_, .f32⟩
  | .hbm, ⟨79, _⟩ => ⟨S3x1024, .f32⟩
  | .hbm, ⟨80, _⟩ => ⟨S3x1024, .f32⟩
  | .hbm, ⟨81, _⟩ => ⟨S2x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S8192x3072, .f32⟩
  | .hbm, ⟨87, _⟩ => ⟨S_, .f32⟩
  | .hbm, ⟨88, _⟩ => ⟨S8192x3072, .f32⟩
  | .hbm, ⟨89, _⟩ => ⟨S8192x3072, .f32⟩
  | .hbm, ⟨90, _⟩ => ⟨S_, .f32⟩
  | .hbm, ⟨91, _⟩ => ⟨S8192x3072, .f32⟩
  | .hbm, ⟨92, _⟩ => ⟨S8192x3072, .f32⟩
  | .hbm, ⟨93, _⟩ => ⟨S8192x3072, .bf16⟩
  | .hbm, ⟨94, _⟩ => ⟨S_, .i32⟩
  | .hbm, ⟨95, _⟩ => ⟨S_, .f32⟩
  | .hbm, ⟨96, _⟩ => ⟨S8x1024, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_9 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_13 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_14 : Ref sig .tc := ⟨.hbm, 85, rfl⟩
abbrev main_v67 : Ref sig .tc := ⟨.hbm, 86, rfl⟩
abbrev main_cst_15 : Ref sig .tc := ⟨.hbm, 87, rfl⟩
abbrev main_v68 : Ref sig .tc := ⟨.hbm, 88, rfl⟩
abbrev main_v69 : Ref sig .tc := ⟨.hbm, 89, rfl⟩
abbrev main_cst_16 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_c : Ref sig .tc := ⟨.hbm, 94, rfl⟩
abbrev main_call0_v0 : Ref sig .tc := ⟨.hbm, 95, rfl⟩
abbrev main_v73 : Ref sig .tc := ⟨.hbm, 96, rfl⟩

abbrev nD : Nat := 1
abbrev τ : Topo := Topo.v7x

variable {F : FTy → Type} [FloatOps F]
-- ==== NormEven.lean ====
abbrev S8192x1792 : Shape := ⟨2, ![8192, 1792]⟩
abbrev S1024x1792 : Shape := ⟨2, ![1024, 1792]⟩
abbrev S8192x1024 : Shape := ⟨2, ![8192, 1024]⟩
abbrev S1024 : Shape := ⟨1, ![1024]⟩
abbrev S1x1024x1792 : Shape := ⟨3, ![1, 1024, 1792]⟩
abbrev S1x1024 : Shape := ⟨2, ![1, 1024]⟩
abbrev S1024x1024 : Shape := ⟨2, ![1024, 1024]⟩
abbrev S256x1792 : Shape := ⟨2, ![256, 1792]⟩
abbrev S256x1024 : Shape := ⟨2, ![256, 1024]⟩
abbrev S256 : Shape := ⟨1, ![256]⟩
abbrev S256x1 : Shape := ⟨2, ![256, 1]⟩

abbrev nBuf : Space → Nat
  | .hbm => 11
  | .vmem => 12
  | .smem => 0
  | _ => 0

abbrev bufTy : (tb : Table) → Fin (tcTables nBuf tb) → BufTy
  | .hbm, ⟨0, _⟩ => ⟨S8192x1792, .f32⟩
  | .hbm, ⟨1, _⟩ => ⟨S1024x1792, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1792, .bf16⟩
  | .hbm, ⟨6, _⟩ => ⟨S1024x1792, .bf16⟩
  | .hbm, ⟨7, _⟩ => ⟨S1x1024x1792, .bf16⟩
  | .hbm, ⟨8, _⟩ => ⟨S1x1024, .f32⟩
  | .hbm, ⟨9, _⟩ => ⟨S8192x1024, .f32⟩
  | .hbm, ⟨10, _⟩ => ⟨S1x1024, .f32⟩
  | .local _ .vmem, ⟨0, _⟩ => ⟨S1024x1792, .bf16⟩
  | .local _ .vmem, ⟨1, _⟩ => ⟨S1024x1792, .bf16⟩
  | .local _ .vmem, ⟨2, _⟩ => ⟨S1x1024x1792, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg0 : BitVec 32 := BitVec.ofNat 32 (i 0).val
  let c0_i32 : BitVec 32 := 0#32
  let v149 : BitVec 1 := Scalar.cmpi .eq arg0 c0_i32
  let v150 : BitVec 32 := Scalar.extui v149
  let c0_i32_76 : BitVec 32 := 0#32
  let v151 : BitVec 1 := Scalar.cmpi .ne v150 c0_i32_76
  v151

def k0_cond2 (i : grid0.Coords) : BitVec 1 :=
  let arg0 : BitVec 32 := BitVec.ofNat 32 (i 0).val
  let c0_i32_77 : BitVec 32 := 0#32
  let v152 : BitVec 1 := Scalar.cmpi .sgt arg0 c0_i32_77
  let v153 : BitVec 32 := Scalar.extui v152
  let c0_i32_78 : BitVec 32 := 0#32
  let v154 : BitVec 1 := Scalar.cmpi .ne v153 c0_i32_78
  v154

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== NormEvenRefIdeal.lean ====
abbrev S8192x1792 : Shape := ⟨2, ![8192, 1792]⟩
abbrev S1024x1792 : Shape := ⟨2, ![1024, 1792]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1792, .f32⟩
  | .hbm, ⟨1, _⟩ => ⟨S1024x1792, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1792, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== NormOdd.lean ====
abbrev S8192x3072 : Shape := ⟨2, ![8192, 3072]⟩
abbrev S1024x3072 : Shape := ⟨2, ![1024, 3072]⟩
abbrev S8192x1024 : Shape := ⟨2, ![8192, 1024]⟩
abbrev S1024 : Shape := ⟨1, ![1024]⟩
abbrev S1x1024x3072 : Shape := ⟨3, ![1, 1024, 3072]⟩
abbrev S1x1024 : Shape := ⟨2, ![1, 1024]⟩
abbrev S1024x1024 : Shape := ⟨2, ![1024, 1024]⟩
abbrev S1x1024x1024 : Shape := ⟨3, ![1, 1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x3072, .f32⟩
  | .hbm, ⟨1, _⟩ => ⟨S1024x3072, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x3072, .bf16⟩
  | .hbm, ⟨6, _⟩ => ⟨S1024x3072, .bf16⟩
  | .hbm, ⟨7, _⟩ => ⟨S1x1024x3072, .bf16⟩
  | .hbm, ⟨8, _⟩ => ⟨S1x1024, .f32⟩
  | .hbm, ⟨9, _⟩ => ⟨S8192x1024, .f32⟩
  | .hbm, ⟨10, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 3], ![false, false]⟩

def k0_cond3 (i : grid0.Coords) : BitVec 1 :=
  let arg1 : BitVec 32 := BitVec.ofNat 32 (i 1).val
  let c2_i32 : BitVec 32 := 2#32
  let v11 : BitVec 1 := Scalar.cmpi .eq arg1 c2_i32
  let v12 : BitVec 32 := Scalar.extui v11
  let c0_i32_7 : BitVec 32 := 0#32
  let v13 : BitVec 1 := Scalar.cmpi .ne v12 c0_i32_7
  v13

def k0_cond4 (i : grid0.Coords) : BitVec 1 :=
  let arg0 : BitVec 32 := BitVec.ofNat 32 (i 0).val
  let c0_i32_70 : BitVec 32 := 0#32
  let v147 : BitVec 1 := Scalar.cmpi .eq arg0 c0_i32_70
  let v148 : BitVec 32 := Scalar.extui v147
  let c0_i32_71 : BitVec 32 := 0#32
  let v149 : BitVec 1 := Scalar.cmpi .ne v148 c0_i32_71
  v149

def k0_cond5 (i : grid0.Coords) : BitVec 1 :=
  let arg0 : BitVec 32 := BitVec.ofNat 32 (i 0).val
  let c0_i32_72 : BitVec 32 := 0#32
  let v150 : BitVec 1 := Scalar.cmpi .sgt arg0 c0_i32_72
  let v151 : BitVec 32 := Scalar.extui v150
  let c0_i32_73 : BitVec 32 := 0#32
  let v152 : BitVec 1 := Scalar.cmpi .ne v151 c0_i32_73
  v152

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== NormOddRefIdeal.lean ====
abbrev S8192x3072 : Shape := ⟨2, ![8192, 3072]⟩
abbrev S1024x3072 : Shape := ⟨2, ![1024, 3072]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S1024x3072, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x3072, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Loss.lean ====
abbrev S8192x1024 : Shape := ⟨2, ![8192, 1024]⟩
abbrev S1024 : Shape := ⟨1, ![1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8x128, .f32⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_13 : BitVec 32 := 0#32
  let v33 : BitVec 1 := Scalar.cmpi .ne v32 c0_i32_13
  v33

def k0_cond2 (i : grid0.Coords) : BitVec 1 :=
  let arg0 : BitVec 32 := BitVec.ofNat 32 (i 0).val
  let c0_i32_14 : BitVec 32 := 0#32
  let v34 : BitVec 1 := Scalar.cmpi .sgt arg0 c0_i32_14
  let v35 : BitVec 32 := Scalar.extui v34
  let c0_i32_15 : BitVec 32 := 0#32
  let v36 : BitVec 1 := Scalar.cmpi .ne v35 c0_i32_15
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8x128, .f32⟩
  | .hbm, ⟨72, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Ffn.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S1x1024x5632 : Shape := ⟨3, ![1, 1024, 5632]⟩
abbrev S1x2816x1024 : Shape := ⟨3, ![1, 2816, 1024]⟩
abbrev S256x1024 : Shape := ⟨2, ![256, 1024]⟩
abbrev S256x2816 : Shape := ⟨2, ![256, 2816]⟩
abbrev S1x768x1024 : Shape := ⟨3, ![1, 768, 1024]⟩
abbrev S768x1024 : Shape := ⟨2, ![768, 1024]⟩
abbrev S256x768 : Shape := ⟨2, ![256, 768]⟩
abbrev S1x1024x768 : Shape := ⟨3, ![1, 1024, 768]⟩
abbrev S1024x768 : Shape := ⟨2, ![1024, 768]⟩
abbrev S1x512x1024 : Shape := ⟨3, ![1, 512, 1024]⟩
abbrev S512x1024 : Shape := ⟨2, ![512, 1024]⟩
abbrev S256x512 : Shape := ⟨2, ![256, 512]⟩
abbrev S1x1024x512 : Shape := ⟨3, ![1, 1024, 512]⟩
abbrev S1024x512 : Shape := ⟨2, ![1024, 512]⟩
abbrev S256 : Shape := ⟨1, ![256]⟩
abbrev S256x1 : Shape := ⟨2, ![256, 1]⟩

abbrev nBuf : Space → Nat
  | .hbm => 35
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x5632, .f32⟩
  | .hbm, ⟨22, _⟩ => ⟨S1x1024, .f32⟩
  | .hbm, ⟨23, _⟩ => ⟨S8192x2816, .f32⟩
  | .hbm, ⟨24, _⟩ => ⟨S8192x2816, .bf16⟩
  | .hbm, ⟨25, _⟩ => ⟨S8192x2816, .f32⟩
  | .hbm, ⟨26, _⟩ => ⟨S8192x2816, .bf16⟩
  | .hbm, ⟨27, _⟩ => ⟨S1024x5632, .bf16⟩
  | .hbm, ⟨28, _⟩ => ⟨S1x1024x5632, .bf16⟩
  | .hbm, ⟨29, _⟩ => ⟨S2816x1024, .bf16⟩
  | .hbm, ⟨30, _⟩ => ⟨S1x2816x1024, .bf16⟩
  | .hbm, ⟨31, _⟩ => ⟨S8192x1024, .f32⟩
  | .hbm, ⟨32, _⟩ => ⟨S1x1024, .f32⟩
  | .hbm, ⟨33, _⟩ => ⟨S8192x2816, .bf16⟩
  | .hbm, ⟨34, _⟩ => ⟨S8192x2816, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S1x1024x5632, .bf16⟩
  | .local _ .vmem, ⟨10, _⟩ => ⟨S1x2816x1024, .bf16⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev main_v23_2 : Ref sig .tc := ⟨.hbm, 33, rfl⟩
abbrev main_v23_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v185 : BitVec 1 := Scalar.cmpi .eq arg0 c0_i32
  let v186 : BitVec 32 := Scalar.extui v185
  let c0_i32_106 : BitVec 32 := 0#32
  let v187 : BitVec 1 := Scalar.cmpi .ne v186 c0_i32_106
  v187

def k0_cond2 (i : grid0.Coords) : BitVec 1 :=
  let arg0 : BitVec 32 := BitVec.ofNat 32 (i 0).val
  let c0_i32_107 : BitVec 32 := 0#32
  let v188 : BitVec 1 := Scalar.cmpi .sgt arg0 c0_i32_107
  let v189 : BitVec 32 := Scalar.extui v188
  let c0_i32_108 : BitVec 32 := 0#32
  let v190 : BitVec 1 := Scalar.cmpi .ne v189 c0_i32_108
  v190

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FfnRefIdeal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x5632, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S_, .f32⟩
  | .hbm, ⟨53, _⟩ => ⟨S8192x5632, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S_, .f32⟩
  | .hbm, ⟨59, _⟩ => ⟨S8192x5632, .f32⟩
  | .hbm, ⟨60, _⟩ => ⟨S8192x5632, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S1024, .f32⟩
  | .hbm, ⟨70, _⟩ => ⟨S8192x1024, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S1x1024, .f32⟩
  | .hbm, ⟨89, _⟩ => ⟨S8192x2816, .f32⟩
  | .hbm, ⟨90, _⟩ => ⟨S8192x2816, .bf16⟩
  | .hbm, ⟨91, _⟩ => ⟨S8192x2816, .f32⟩
  | .hbm, ⟨92, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_5 : Ref sig .tc := ⟨.hbm, 52, rfl⟩
abbrev main_v29 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v30 : Ref sig .tc := ⟨.hbm, 57, rfl⟩
abbrev main_cst_6 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_7 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_8 : Ref sig .tc := ⟨.hbm, 68, rfl⟩
abbrev main_v39 : Ref sig .tc := ⟨.hbm, 69, rfl⟩
abbrev main_v40 : Ref sig .tc := ⟨.hbm, 70, rfl⟩
abbrev main_cst_9 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_10 : Ref sig .tc := ⟨.hbm, 78, rfl⟩
abbrev main_v47 : Ref sig .tc := ⟨.hbm, 79, rfl⟩
abbrev main_v48 : Ref sig .tc := ⟨.hbm, 80, rfl⟩
abbrev main_cst_11 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩

abbrev nD : Nat := 1
abbrev τ : Topo := Topo.v7x

variable {F : FTy → Type} [FloatOps F]
-- ==== CrossFwd.lean ====
abbrev S8192x1024 : Shape := ⟨2, ![8192, 1024]⟩
abbrev S1024 : Shape := ⟨1, ![1024]⟩
abbrev S1024x1024 : Shape := ⟨2, ![1024, 1024]⟩
abbrev S256x2048 : Shape := ⟨2, ![256, 2048]⟩
abbrev S1x1024 : Shape := ⟨2, ![1, 1024]⟩
abbrev S1x1024x1024 : Shape := ⟨3, ![1, 1024, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩

abbrev nBuf : Space → Nat
  | .hbm => 15
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S256x2048, .f32⟩
  | .hbm, ⟨5, _⟩ => ⟨S1x1024, .f32⟩
  | .hbm, ⟨6, _⟩ => ⟨S1024x1024, .bf16⟩
  | .hbm, ⟨7, _⟩ => ⟨S1x1024x1024, .bf16⟩
  | .hbm, ⟨8, _⟩ => ⟨S1024x1024, .bf16⟩
  | .hbm, ⟨9, _⟩ => ⟨S1x1024x1024, .bf16⟩
  | .hbm, ⟨10, _⟩ => ⟨S256x2048, .bf16⟩
  | .hbm, ⟨11, _⟩ => ⟨S8192x1024, .f32⟩
  | .hbm, ⟨12, _⟩ => ⟨S8192x1024, .bf16⟩
  | .hbm, ⟨13, _⟩ => ⟨S8192x1024, .bf16⟩
  | .hbm, ⟨14, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S256x1024, .bf16⟩
  | .local _ .vmem, ⟨6, _⟩ => ⟨S256x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== CrossFwdRefIdeal.lean ====
abbrev S8192x1024 : Shape := ⟨2, ![8192, 1024]⟩
abbrev S1024 : Shape := ⟨1, ![1024]⟩
abbrev S1024x1024 : Shape := ⟨2, ![1024, 1024]⟩
abbrev S256x2048 : Shape := ⟨2, ![256, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S256x1024 : Shape := ⟨2, ![256, 1024]⟩
abbrev S256x4x256 : Shape := ⟨3, ![256, 4, 256]⟩
abbrev S8192x4x256 : Shape := ⟨3, ![8192, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S256x2048, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S256x1024, .f32⟩
  | .hbm, ⟨23, _⟩ => ⟨S256x4x256, .f32⟩
  | .hbm, ⟨24, _⟩ => ⟨S256x1024, .f32⟩
  | .hbm, ⟨25, _⟩ => ⟨S256x4x256, .f32⟩
  | .hbm, ⟨26, _⟩ => ⟨S8192x4x256, .f32⟩
  | .hbm, ⟨27, _⟩ => ⟨S4x8192x256, .f32⟩
  | .hbm, ⟨28, _⟩ => ⟨S_, .f32⟩
  | .hbm, ⟨29, _⟩ => ⟨S4x8192x256, .f32⟩
  | .hbm, ⟨30, _⟩ => ⟨S4x8192x256, .f32⟩
  | .hbm, ⟨31, _⟩ => ⟨S_, .f32⟩
  | .hbm, ⟨32, _⟩ => ⟨S4x8192, .f32⟩
  | .hbm, ⟨33, _⟩ => ⟨S_, .f32⟩
  | .hbm, ⟨34, _⟩ => ⟨S4x8192, .f32⟩
  | .hbm, ⟨35, _⟩ => ⟨S4x8192, .f32⟩
  | .hbm, ⟨36, _⟩ => ⟨S4x8192x1, .f32⟩
  | .hbm, ⟨37, _⟩ => ⟨S4x8192x256, .f32⟩
  | .hbm, ⟨38, _⟩ => ⟨S4x8192x256, .f32⟩
  | .hbm, ⟨39, _⟩ => ⟨S4x8192x256, .f32⟩
  | .hbm, ⟨40, _⟩ => ⟨S_, .f32⟩
  | .hbm, ⟨41, _⟩ => ⟨S4x8192, .f32⟩
  | .hbm, ⟨42, _⟩ => ⟨S4x8192x1, .f32⟩
  | .hbm, ⟨43, _⟩ => ⟨S4x8192x256, .f32⟩
  | .hbm, ⟨44, _⟩ => ⟨S4x8192x256, .f32⟩
  | .hbm, ⟨45, _⟩ => ⟨S4x256x8192, .f32⟩
  | .hbm, ⟨46, _⟩ => ⟨S8192x4x256, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .bf16⟩
  | .hbm, ⟨51, _⟩ => ⟨S8192x1024, .bf16⟩
  | .hbm, ⟨52, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== FfnFwd.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1x1024x1408 : Shape := ⟨3, ![1, 1024, 1408]⟩
abbrev S1024x1408 : Shape := ⟨2, ![1024, 1408]⟩
abbrev S256x1408 : Shape := ⟨2, ![256, 1408]⟩
abbrev S1x1408x1024 : Shape := ⟨3, ![1, 1408, 1024]⟩
abbrev S1408x1024 : Shape := ⟨2, ![1408, 1024]⟩

abbrev nBuf : Space → Nat
  | .hbm => 14
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S1024x5632, .bf16⟩
  | .hbm, ⟨6, _⟩ => ⟨S1x1024x5632, .bf16⟩
  | .hbm, ⟨7, _⟩ => ⟨S2816x1024, .bf16⟩
  | .hbm, ⟨8, _⟩ => ⟨S1x2816x1024, .bf16⟩
  | .hbm, ⟨9, _⟩ => ⟨S8192x1024, .f32⟩
  | .hbm, ⟨10, _⟩ => ⟨S8192x1024, .bf16⟩
  | .hbm, ⟨11, _⟩ => ⟨S8192x2816, .bf16⟩
  | .hbm, ⟨12, _⟩ => ⟨S8192x2816, .bf16⟩
  | .hbm, ⟨13, _⟩ => ⟨S8192x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v5_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnFwdRefIdeal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x5632, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .bf16⟩
  | .hbm, ⟨39, _⟩ => ⟨S8192x2816, .bf16⟩
  | .hbm, ⟨40, _⟩ => ⟨S8192x2816, .bf16⟩
  | .hbm, ⟨41, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== ShortConvFwd.lean ====
abbrev S8192x3072 : Shape := ⟨2, ![8192, 3072]⟩
abbrev S3x1024 : Shape := ⟨2, ![3, 1024]⟩
abbrev S_ : Shape := ⟨0, ![]⟩
abbrev S8x1024 : Shape := ⟨2, ![8, 1024]⟩
abbrev S8192x1024 : Shape := ⟨2, ![8192, 1024]⟩
abbrev S256x1024 : Shape := ⟨2, ![256, 1024]⟩
abbrev S264x1024 : Shape := ⟨2, ![264, 1024]⟩
abbrev S1x1024 : Shape := ⟨2, ![1, 1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x3072, .f32⟩
  | .hbm, ⟨1, _⟩ => ⟨S3x1024, .f32⟩
  | .hbm, ⟨2, _⟩ => ⟨S8192x3072, .bf16⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S8192x1024, .bf16⟩
  | .hbm, ⟨7, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S8x1024, .f32⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S264x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ShortConvFwdRefIdeal.lean ====
abbrev S8192x3072 : Shape := ⟨2, ![8192, 3072]⟩
abbrev S3x1024 : Shape := ⟨2, ![3, 1024]⟩
abbrev S8192x1024 : Shape := ⟨2, ![8192, 1024]⟩
abbrev S_ : Shape := ⟨0, ![]⟩
abbrev S2x1024 : Shape := ⟨2, ![2, 1024]⟩
abbrev S8194x1024 : Shape := ⟨2, ![8194, 1024]⟩
abbrev S1x1024 : Shape := ⟨2, ![1, 1024]⟩
abbrev S1024 : Shape := ⟨1, ![1024]⟩

abbrev nBuf : Space → Nat
  | .hbm => 35
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S3x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S2x1024, .f32⟩
  | .hbm, ⟨8, _⟩ => ⟨S8194x1024, .f32⟩
  | .hbm, ⟨9, _⟩ => ⟨S1x1024, .f32⟩
  | .hbm, ⟨10, _⟩ => ⟨S1024, .f32⟩
  | .hbm, ⟨11, _⟩ => ⟨S8192x1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .bf16⟩
  | .hbm, ⟨34, _⟩ => ⟨S8192x1024, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]
-- ==== MemNormFwd.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1x1024, .f32⟩
  | .hbm, ⟨3, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== MemNormFwdRefIdeal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S1x1024, .f32⟩
  | .hbm, ⟨16, _⟩ => ⟨S256x1024, .f32⟩
  | .hbm, ⟨17, _⟩ => ⟨S256x1024, .f32⟩
  | .hbm, ⟨18, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormFwd.lean ====
abbrev S8192x1024 : Shape := ⟨2, ![8192, 1024]⟩
abbrev S1024 : Shape := ⟨1, ![1024]⟩
abbrev S1024x3072 : Shape := ⟨2, ![1024, 3072]⟩
abbrev S1x1024 : Shape := ⟨2, ![1, 1024]⟩
abbrev S1x1024x3072 : Shape := ⟨3, ![1, 1024, 3072]⟩
abbrev S8192x3072 : Shape := ⟨2, ![8192, 3072]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S256x3072 : Shape := ⟨2, ![256, 3072]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S1x1024, .f32⟩
  | .hbm, ⟨4, _⟩ => ⟨S1024x3072, .bf16⟩
  | .hbm, ⟨5, _⟩ => ⟨S1x1024x3072, .bf16⟩
  | .hbm, ⟨6, _⟩ => ⟨S8192x1024, .bf16⟩
  | .hbm, ⟨7, _⟩ => ⟨S8192x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x3072, .bf16⟩
  | .local _ .vmem, ⟨4, _⟩ => ⟨S1024x1024, .bf16⟩
  | .local _ .vmem, ⟨5, _⟩ => ⟨S1024x1024, .bf16⟩
  | .local _ .vmem, ⟨6, _⟩ => ⟨S1024x3072, .bf16⟩
  | .local _ .vmem, ⟨7, _⟩ => ⟨S1024x3072, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormFwdRefIdeal.lean ====
abbrev S8192x1024 : Shape := ⟨2, ![8192, 1024]⟩
abbrev S1024 : Shape := ⟨1, ![1024]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x3072, .f32⟩
  | .hbm, ⟨21, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== WindowFwd.lean ====
abbrev S8192x1792 : Shape := ⟨2, ![8192, 1792]⟩
abbrev S8 : Shape := ⟨1, ![8]⟩
abbrev S8192x1024 : Shape := ⟨2, ![8192, 1024]⟩
abbrev S8192x128 : Shape := ⟨2, ![8192, 128]⟩
abbrev S_ : Shape := ⟨0, ![]⟩
abbrev S8320x128 : Shape := ⟨2, ![8320, 128]⟩
abbrev S256x512 : Shape := ⟨2, ![256, 512]⟩
abbrev S512x256 : Shape := ⟨2, ![512, 256]⟩
abbrev S512x1 : Shape := ⟨2, ![512, 1]⟩
abbrev S1 : Shape := ⟨1, ![1]⟩
abbrev S256x64 : Shape := ⟨2, ![256, 64]⟩
abbrev S128x64 : Shape := ⟨2, ![128, 64]⟩
abbrev S512x64 : Shape := ⟨2, ![512, 64]⟩
abbrev S512 : Shape := ⟨1, ![512]⟩

abbrev nBuf : Space → Nat
  | .hbm => 14
  | .vmem => 6
  | .smem => 1
  | _ => 0

abbrev bufTy : (tb : Table) → Fin (tcTables nBuf tb) → BufTy
  | .hbm, ⟨0, _⟩ => ⟨S8192x1792, .f32⟩
  | .hbm, ⟨1, _⟩ => ⟨S8, .f32⟩
  | .hbm, ⟨2, _⟩ => ⟨S8192x1024, .f32⟩
  | .hbm, ⟨3, _⟩ => ⟨S8192x1792, .bf16⟩
  | .hbm, ⟨4, _⟩ => ⟨S8192x128, .bf16⟩
  | .hbm, ⟨5, _⟩ => ⟨S_, .i32⟩
  | .hbm, ⟨6, _⟩ => ⟨S_, .bf16⟩
  | .hbm, ⟨7, _⟩ => ⟨S8320x128, .bf16⟩
  | .hbm, ⟨8, _⟩ => ⟨S8192x128, .bf16⟩
  | .hbm, ⟨9, _⟩ => ⟨S_, .i32⟩
  | .hbm, ⟨10, _⟩ => ⟨S_, .bf16⟩
  | .hbm, ⟨11, _⟩ => ⟨S8320x128, .bf16⟩
  | .hbm, ⟨12, _⟩ => ⟨S8192x1024, .bf16⟩
  | .hbm, ⟨13, _⟩ => ⟨S8192x1024, .bf16⟩
  | .local _ .vmem, ⟨0, _⟩ => ⟨S256x512, .bf16⟩
  | .local _ .vmem, ⟨1, _⟩ => ⟨S256x512, .bf16⟩
  | .local _ .vmem, ⟨2, _⟩ => ⟨S8320x128, .bf16⟩
  | .local _ .vmem, ⟨3, _⟩ => ⟨S8320x128, .bf16⟩
  | .local _ .vmem, ⟨4, _⟩ => ⟨S256x512, .bf16⟩
  | .local _ .vmem, ⟨5, _⟩ => ⟨S256x512, .bf16⟩
  | .local _ .smem, ⟨0, _⟩ => ⟨S8, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c2_i32_15 : BitVec 32 := 2#32
  let v68 : BitVec 32 := Scalar.muli arg0 c2_i32_15
  let c0_i32_16 : BitVec 32 := 0#32
  let v69 : BitVec 32 := Scalar.addi v68 c0_i32_16
  let c128_i32_17 : BitVec 32 := 128#32
  let v70 : BitVec 32 := Scalar.muli v69 c128_i32_17
  v70
def k0_off1 (i : grid0.Coords) (c0_i32_16 : BitVec 32) : Fin 2 → Nat :=
  let arg0 : BitVec 32 := BitVec.ofNat 32 (i 0).val
  let c2_i32_15 : BitVec 32 := 2#32
  let v68 : BitVec 32 := Scalar.muli arg0 c2_i32_15
  let v69 : BitVec 32 := Scalar.addi v68 c0_i32_16
  let c128_i32_17 : BitVec 32 := 128#32
  let v70 : BitVec 32 := Scalar.muli v69 c128_i32_17
  let v71 : BitVec 32 := v70
  let v78 : Index := Scalar.indexCast v71
  let c0_20 : Index := 0#32
  ![v78.toNat, 0]
def k0_mult2 (i : grid0.Coords) : BitVec 32 :=
  let arg0 : BitVec 32 := BitVec.ofNat 32 (i 0).val
  let c2_i32_41 : BitVec 32 := 2#32
  let v125 : BitVec 32 := Scalar.muli arg0 c2_i32_41
  let c1_i32_42 : BitVec 32 := 1#32
  let v126 : BitVec 32 := Scalar.addi v125 c1_i32_42
  let c128_i32_43 : BitVec 32 := 128#32
  let v127 : BitVec 32 := Scalar.muli v126 c128_i32_43
  v127
def k0_mult3 (i : grid0.Coords) : BitVec 32 :=
  let arg0 : BitVec 32 := BitVec.ofNat 32 (i 0).val
  let c2_i32_80 : BitVec 32 := 2#32
  let v212 : BitVec 32 := Scalar.muli arg0 c2_i32_80
  let c0_i32_81 : BitVec 32 := 0#32
  let v213 : BitVec 32 := Scalar.addi v212 c0_i32_81
  let c128_i32_82 : BitVec 32 := 128#32
  let v214 : BitVec 32 := Scalar.muli v213 c128_i32_82
  v214
def k0_off2 (i : grid0.Coords) (c0_i32_81 : BitVec 32) : Fin 2 → Nat :=
  let arg0 : BitVec 32 := BitVec.ofNat 32 (i 0).val
  let c2_i32_80 : BitVec 32 := 2#32
  let v212 : BitVec 32 := Scalar.muli arg0 c2_i32_80
  let v213 : BitVec 32 := Scalar.addi v212 c0_i32_81
  let c128_i32_82 : BitVec 32 := 128#32
  let v214 : BitVec 32 := Scalar.muli v213 c128_i32_82
  let v215 : BitVec 32 := v214
  let v222 : Index := Scalar.indexCast v215
  let c64_85 : Index := 64#32
  ![v222.toNat, 64]
def k0_mult4 (i : grid0.Coords) : BitVec 32 :=
  let arg0 : BitVec 32 := BitVec.ofNat 32 (i 0).val
  let c2_i32_105 : BitVec 32 := 2#32
  let v269 : BitVec 32 := Scalar.muli arg0 c2_i32_105
  let c1_i32_106 : BitVec 32 := 1#32
  let v270 : BitVec 32 := Scalar.addi v269 c1_i32_106
  let c128_i32_107 : BitVec 32 := 128#32
  let v271 : BitVec 32 := Scalar.muli v270 c128_i32_107
  v271
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8320x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8320x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== WindowFwdIdeal.lean ====
variable {F : FTy → Type} [FloatOps F] [Named F]
def κ : String → Option EReal := fun
  | "mask" => some ⊥
  | _ => none
-- ==== WindowFwdRefIdeal.lean ====
abbrev S8192x1792 : Shape := ⟨2, ![8192, 1792]⟩
abbrev S8 : Shape := ⟨1, ![8]⟩
abbrev S8192x1024 : Shape := ⟨2, ![8192, 1024]⟩
abbrev S8192x512 : Shape := ⟨2, ![8192, 512]⟩
abbrev S8192x2x4x64 : Shape := ⟨4, ![8192, 2, 4, 64]⟩
abbrev S8192x128 : Shape := ⟨2, ![8192, 128]⟩
abbrev S8192x2x64 : Shape := ⟨3, ![8192, 2, 64]⟩
abbrev S64x128x2x4x64 : Shape := ⟨5, ![64, 128, 2, 4, 64]⟩
abbrev S64x128x2x64 : Shape := ⟨4, ![64, 128, 2, 64]⟩
abbrev S_ : Shape := ⟨0, ![]⟩
abbrev S1x128x2x64 : Shape := ⟨4, ![1, 128, 2, 64]⟩
abbrev S63x128x2x64 : Shape := ⟨4, ![63, 128, 2, 64]⟩
abbrev S64x256x2x64 : Shape := ⟨4, ![64, 256, 2, 64]⟩
abbrev S64x2x256x128x4 : Shape := ⟨5, ![64, 2, 256, 128, 4]⟩
abbrev S64x2x4x128x256 : Shape := ⟨5, ![64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S2x4 : Shape := ⟨2, ![2, 4]⟩
abbrev S2x4x1x1 : Shape := ⟨4, ![2, 4, 1, 1]⟩
abbrev S1x1x128x256 : Shape := ⟨4, ![1, 1, 128, 256]⟩
abbrev S2x4x128x256 : Shape := ⟨4, ![2, 4, 128, 256]⟩
abbrev S1x2x4x128x256 : Shape := ⟨5, ![1, 2, 4, 128, 256]⟩
abbrev S64x1x1x128x256 : Shape := ⟨5, ![64, 1, 1, 128, 256]⟩
abbrev S1x2x4x1x1 : Shape := ⟨5, ![1, 2, 4, 1, 1]⟩
abbrev S64x2x4x128x1 : Shape := ⟨5, ![64, 2, 4, 128, 1]⟩
abbrev S64x2x4x128x257 : Shape := ⟨5, ![64, 2, 4, 128, 257]⟩
abbrev S64x2x4x128 : Shape := ⟨4, ![64, 2, 4, 128]⟩
abbrev S64x2x64x4x128 : Shape := ⟨5, ![64, 2, 64, 4, 128]⟩

abbrev nBuf : Space → Nat
  | .hbm => 117
  | .vmem => 0
  | .smem => 0
  | _ => 0

abbrev bufTy : (tb : Table) → Fin (tcTables nBuf tb) → BufTy
  | .hbm, ⟨0, _⟩ => ⟨S8192x1792, .f32⟩
  | .hbm, ⟨1, _⟩ => ⟨S8, .f32⟩
  | .hbm, ⟨2, _⟩ => ⟨S8192x1024, .f32⟩
  | .hbm, ⟨3, _⟩ => ⟨S8192x512, .f32⟩
  | .hbm, ⟨4, _⟩ => ⟨S8192x2x4x64, .f32⟩
  | .hbm, ⟨5, _⟩ => ⟨S8192x128, .f32⟩
  | .hbm, ⟨6, _⟩ => ⟨S8192x2x64, .f32⟩
  | .hbm, ⟨7, _⟩ => ⟨S8192x128, .f32⟩
  | .hbm, ⟨8, _⟩ => ⟨S8192x2x64, .f32⟩
  | .hbm, ⟨9, _⟩ => ⟨S64x128x2x4x64, .f32⟩
  | .hbm, ⟨10, _⟩ => ⟨S64x128x2x64, .f32⟩
  | .hbm, ⟨11, _⟩ => ⟨S64x128x2x64, .f32⟩
  | .hbm, ⟨12, _⟩ => ⟨S_, .f32⟩
  | .hbm, ⟨13, _⟩ => ⟨S1x128x2x64, .f32⟩
  | .hbm, ⟨14, _⟩ => ⟨S63x128x2x64, .f32⟩
  | .hbm, ⟨15, _⟩ => ⟨S64x128x2x64, .f32⟩
  | .hbm, ⟨16, _⟩ => ⟨S64x256x2x64, .f32⟩
  | .hbm, ⟨17, _⟩ => ⟨S63x128x2x64, .f32⟩
  | .hbm, ⟨18, _⟩ => ⟨S64x128x2x64, .f32⟩
  | .hbm, ⟨19, _⟩ => ⟨S64x256x2x64, .f32⟩
  | .hbm, ⟨20, _⟩ => ⟨S64x2x256x128x4, .f32⟩
  | .hbm, ⟨21, _⟩ => ⟨S64x2x4x128x256, .f32⟩
  | .hbm, ⟨22, _⟩ => ⟨S_, .f32⟩
  | .hbm, ⟨23, _⟩ => ⟨S64x2x4x128x256, .f32⟩
  | .hbm, ⟨24, _⟩ => ⟨S64x2x4x128x256, .f32⟩
  | .hbm, ⟨25, _⟩ => ⟨S128, .i32⟩
  | .hbm, ⟨26, _⟩ => ⟨S128x1, .i32⟩
  | .hbm, ⟨27, _⟩ => ⟨S_, .i32⟩
  | .hbm, ⟨28, _⟩ => ⟨S128x1, .i32⟩
  | .hbm, ⟨29, _⟩ => ⟨S128x1, .i32⟩
  | .hbm, ⟨30, _⟩ => ⟨S256, .i32⟩
  | .hbm, ⟨31, _⟩ => ⟨S1x256, .i32⟩
  | .hbm, ⟨32, _⟩ => ⟨S128x256, .i32⟩
  | .hbm, ⟨33, _⟩ => ⟨S128x256, .i32⟩
  | .hbm, ⟨34, _⟩ => ⟨S128x256, .i32⟩
  | .hbm, ⟨35, _⟩ => ⟨S64, .i32⟩
  | .hbm, ⟨36, _⟩ => ⟨S64x1, .i32⟩
  | .hbm, ⟨37, _⟩ => ⟨S_, .i32⟩
  | .hbm, ⟨38, _⟩ => ⟨S64x1, .i32⟩
  | .hbm, ⟨39, _⟩ => ⟨S64x1, .i32⟩
  | .hbm, ⟨40, _⟩ => ⟨S_, .i32⟩
  | .hbm, ⟨41, _⟩ => ⟨S64x1, .i32⟩
  | .hbm, ⟨42, _⟩ => ⟨S64x1, .i32⟩
  | .hbm, ⟨43, _⟩ => ⟨S256, .i32⟩
  | .hbm, ⟨44, _⟩ => ⟨S1x256, .i32⟩
  | .hbm, ⟨45, _⟩ => ⟨S64x256, .i32⟩
  | .hbm, ⟨46, _⟩ => ⟨S64x256, .i32⟩
  | .hbm, ⟨47, _⟩ => ⟨S64x256, .i32⟩
  | .hbm, ⟨48, _⟩ => ⟨S_, .i32⟩
  | .hbm, ⟨49, _⟩ => ⟨S128x256, .i32⟩
  | .hbm, ⟨50, _⟩ => ⟨S128x256, .i1⟩
  | .hbm, ⟨51, _⟩ => ⟨S_, .i32⟩
  | .hbm, ⟨52, _⟩ => ⟨S128x256, .i32⟩
  | .hbm, ⟨53, _⟩ => ⟨S128x256, .i1⟩
  | .hbm, ⟨54, _⟩ => ⟨S128x256, .i1⟩
  | .hbm, ⟨55, _⟩ => ⟨S1x128x256, .i1⟩
  | .hbm, ⟨56, _⟩ => ⟨S_, .i32⟩
  | .hbm, ⟨57, _⟩ => ⟨S64x256, .i32⟩
  | .hbm, ⟨58, _⟩ => ⟨S64x256, .i1⟩
  | .hbm, ⟨59, _⟩ => ⟨S64x1x256, .i1⟩
  | .hbm, ⟨60, _⟩ => ⟨S64x128x256, .i1⟩
  | .hbm, ⟨61, _⟩ => ⟨S64x128x256, .i1⟩
  | .hbm, ⟨62, _⟩ => ⟨S64x128x256, .i1⟩
  | .hbm, ⟨63, _⟩ => ⟨S8, .f32⟩
  | .hbm, ⟨64, _⟩ => ⟨S_, .f32⟩
  | .hbm, ⟨65, _⟩ => ⟨S8, .f32⟩
  | .hbm, ⟨66, _⟩ => ⟨S8, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S_, .f32⟩
  | .hbm, ⟨71, _⟩ => ⟨S8, .f32⟩
  | .hbm, ⟨72, _⟩ => ⟨S8, .f32⟩
  | .hbm, ⟨73, _⟩ => ⟨S_, .f32⟩
  | .hbm, ⟨74, _⟩ => ⟨S8, .f32⟩
  | .hbm, ⟨75, _⟩ => ⟨S8, .f32⟩
  | .hbm, ⟨76, _⟩ => ⟨S2x4, .f32⟩
  | .hbm, ⟨77, _⟩ => ⟨S2x4x1x1, .f32⟩
  | .hbm, ⟨78, _⟩ => ⟨S128x256, .f32⟩
  | .hbm, ⟨79, _⟩ => ⟨S1x1x128x256, .f32⟩
  | .hbm, ⟨80, _⟩ => ⟨S2x4x128x256, .f32⟩
  | .hbm, ⟨81, _⟩ => ⟨S2x4x128x256, .f32⟩
  | .hbm, ⟨82, _⟩ => ⟨S2x4x128x256, .f32⟩
  | .hbm, ⟨83, _⟩ => ⟨S1x2x4x128x256, .f32⟩
  | .hbm, ⟨84, _⟩ => ⟨S64x2x4x128x256, .f32⟩
  | .hbm, ⟨85, _⟩ => ⟨S64x2x4x128x256, .f32⟩
  | .hbm, ⟨86, _⟩ => ⟨S64x1x1x128x256, .i1⟩
  | .hbm, ⟨87, _⟩ => ⟨S_, .f32⟩
  | .hbm, ⟨88, _⟩ => ⟨S_, .f32⟩
  | .hbm, ⟨89, _⟩ => ⟨S64x2x4x128x256, .i1⟩
  | .hbm, ⟨90, _⟩ => ⟨S64x2x4x128x256, .f32⟩
  | .hbm, ⟨91, _⟩ => ⟨S64x2x4x128x256, .f32⟩
  | .hbm, ⟨92, _⟩ => ⟨S2x4, .f32⟩
  | .hbm, ⟨93, _⟩ => ⟨S1x2x4x1x1, .f32⟩
  | .hbm, ⟨94, _⟩ => ⟨S64x2x4x128x1, .f32⟩
  | .hbm, ⟨95, _⟩ => ⟨S64x2x4x128x257, .f32⟩
  | .hbm, ⟨96, _⟩ => ⟨S_, .f32⟩
  | .hbm, ⟨97, _⟩ => ⟨S64x2x4x128, .f32⟩
  | .hbm, ⟨98, _⟩ => ⟨S_, .f32⟩
  | .hbm, ⟨99, _⟩ => ⟨S64x2x4x128, .f32⟩
  | .hbm, ⟨100, _⟩ => ⟨S64x2x4x128, .f32⟩
  | .hbm, ⟨101, _⟩ => ⟨S64x2x4x128x1, .f32⟩
  | .hbm, ⟨102, _⟩ => ⟨S64x2x4x128x257, .f32⟩
  | .hbm, ⟨103, _⟩ => ⟨S64x2x4x128x257, .f32⟩
  | .hbm, ⟨104, _⟩ => ⟨S64x2x4x128x257, .f32⟩
  | .hbm, ⟨105, _⟩ => ⟨S_, .f32⟩
  | .hbm, ⟨106, _⟩ => ⟨S64x2x4x128, .f32⟩
  | .hbm, ⟨107, _⟩ => ⟨S64x2x4x128x1, .f32⟩
  | .hbm, ⟨108, _⟩ => ⟨S64x2x4x128x257, .f32⟩
  | .hbm, ⟨109, _⟩ => ⟨S64x2x4x128x257, .f32⟩
  | .hbm, ⟨110, _⟩ => ⟨S64x2x4x128x256, .f32⟩
  | .hbm, ⟨111, _⟩ => ⟨S64x2x64x4x128, .f32⟩
  | .hbm, ⟨112, _⟩ => ⟨S64x128x2x4x64, .f32⟩
  | .hbm, ⟨113, _⟩ => ⟨S8192x512, .f32⟩
  | .hbm, ⟨114, _⟩ => ⟨S8192x512, .f32⟩
  | .hbm, ⟨115, _⟩ => ⟨S8192x1024, .f32⟩
  | .hbm, ⟨116, _⟩ => ⟨S8192x1024, .bf16⟩
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_c_1 : Ref sig .tc := ⟨.hbm, 37, rfl⟩
abbrev main_v31 : Ref sig .tc := ⟨.hbm, 38, rfl⟩
abbrev main_v32 : Ref sig .tc := ⟨.hbm, 39, rfl⟩
abbrev main_c_2 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_c_3 : Ref sig .tc := ⟨.hbm, 48, rfl⟩
abbrev main_v40 : Ref sig .tc := ⟨.hbm, 49, rfl⟩
abbrev main_v41 : Ref sig .tc := ⟨.hbm, 50, rfl⟩
abbrev main_c_4 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_c_5 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_6 : Ref sig .tc := ⟨.hbm, 64, rfl⟩
abbrev main_v53 : Ref sig .tc := ⟨.hbm, 65, rfl⟩
abbrev main_v54 : Ref sig .tc := ⟨.hbm, 66, rfl⟩
abbrev main_cst_7 : Ref sig .tc := ⟨.hbm, 67, rfl⟩
abbrev main_v55 : Ref sig .tc := ⟨.hbm, 68, rfl⟩
abbrev main_v56 : Ref sig .tc := ⟨.hbm, 69, rfl⟩
abbrev main_cst_8 : Ref sig .tc := ⟨.hbm, 70, rfl⟩
abbrev main_v57 : Ref sig .tc := ⟨.hbm, 71, rfl⟩
abbrev main_v58 : Ref sig .tc := ⟨.hbm, 72, rfl⟩
abbrev main_cst_9 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_10 : Ref sig .tc := ⟨.hbm, 87, rfl⟩
abbrev main_call0_v0 : Ref sig .tc := ⟨.hbm, 88, rfl⟩
abbrev main_call0_v1 : Ref sig .tc := ⟨.hbm, 89, rfl⟩
abbrev main_call0_v2 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_11 : Ref sig .tc := ⟨.hbm, 96, rfl⟩
abbrev main_v77 : Ref sig .tc := ⟨.hbm, 97, rfl⟩
abbrev main_cst_12 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_13 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩

abbrev nD : Nat := 1
abbrev τ : Topo := Topo.v7x

variable {F : FTy → Type} [FloatOps F]
-- ==== Product.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 16
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x2816, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S1024x2816, .f32⟩
  | .hbm, ⟨14, _⟩ => ⟨S2816x1024, .f32⟩
  | .hbm, ⟨15, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Adam.lean ====
abbrev S2x1024x1408 : Shape := ⟨3, ![2, 1024, 1408]⟩
abbrev S1x1024x1408 : Shape := ⟨3, ![1, 1024, 1408]⟩
abbrev S1x256x1408 : Shape := ⟨3, ![1, 256, 1408]⟩
abbrev S256x1408 : Shape := ⟨2, ![256, 1408]⟩

abbrev nBuf : Space → Nat
  | .hbm => 11
  | .vmem => 22
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S1x1024x1408, .f32⟩
  | .hbm, ⟨4, _⟩ => ⟨S1x1024x1408, .f32⟩
  | .hbm, ⟨5, _⟩ => ⟨S1x1024x1408, .f32⟩
  | .hbm, ⟨6, _⟩ => ⟨S1x1024x1408, .f32⟩
  | .hbm, ⟨7, _⟩ => ⟨S2x1024x1408, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .vmem, ⟨18, _⟩ => ⟨S1x256x1408, .f32⟩
  | .local _ .vmem, ⟨19, _⟩ => ⟨S1x256x1408, .f32⟩
  | .local _ .vmem, ⟨20, _⟩ => ⟨S1x256x1408, .f32⟩
  | .local _ .vmem, ⟨21, _⟩ => ⟨S1x256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c3_i32 : BitVec 32 := 3#32
  let c0_i32_1 : BitVec 32 := 0#32
  let v2 : BitVec 32 := Scalar.select v1 c3_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c3_i32 : BitVec 32 := 3#32
  let c0_i32_1 : BitVec 32 := 0#32
  let v2 : BitVec 32 := Scalar.select v1 c3_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c3_i32 : BitVec 32 := 3#32
  let c0_i32 : BitVec 32 := 0#32
  let v2 : BitVec 32 := Scalar.select v1 c3_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c3_i32 : BitVec 32 := 3#32
  let c0_i32 : BitVec 32 := 0#32
  let v2 : BitVec 32 := Scalar.select v1 c3_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamRefIdeal.lean ====
abbrev S2x1024x1408 : Shape := ⟨3, ![2, 1024, 1408]⟩
abbrev S1x1024x1408 : Shape := ⟨3, ![1, 1024, 1408]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S1x1024x1408, .f32⟩
  | .hbm, ⟨4, _⟩ => ⟨S1x1024x1408, .f32⟩
  | .hbm, ⟨5, _⟩ => ⟨S1x1024x1408, .f32⟩
  | .hbm, ⟨6, _⟩ => ⟨S1x1024x1408, .f32⟩
  | .hbm, ⟨7, _⟩ => ⟨S1x1024x1408, .f32⟩
  | .hbm, ⟨8, _⟩ => ⟨S1x1024x1408, .f32⟩
  | .hbm, ⟨9, _⟩ => ⟨S2x1024x1408, .f32⟩
  | .hbm, ⟨10, _⟩ => ⟨S_, .f32⟩
  | .hbm, ⟨11, _⟩ => ⟨S2x1024x1408, .f32⟩
  | .hbm, ⟨12, _⟩ => ⟨S2x1024x1408, .f32⟩
  | .hbm, ⟨13, _⟩ => ⟨S_, .f32⟩
  | .hbm, ⟨14, _⟩ => ⟨S2x1024x1408, .f32⟩
  | .hbm, ⟨15, _⟩ => ⟨S2x1024x1408, .f32⟩
  | .hbm, ⟨16, _⟩ => ⟨S2x1024x1408, .f32⟩
  | .hbm, ⟨17, _⟩ => ⟨S_, .f32⟩
  | .hbm, ⟨18, _⟩ => ⟨S2x1024x1408, .f32⟩
  | .hbm, ⟨19, _⟩ => ⟨S2x1024x1408, .f32⟩
  | .hbm, ⟨20, _⟩ => ⟨S2x1024x1408, .f32⟩
  | .hbm, ⟨21, _⟩ => ⟨S_, .f32⟩
  | .hbm, ⟨22, _⟩ => ⟨S2x1024x1408, .f32⟩
  | .hbm, ⟨23, _⟩ => ⟨S2x1024x1408, .f32⟩
  | .hbm, ⟨24, _⟩ => ⟨S2x1024x1408, .f32⟩
  | .hbm, ⟨25, _⟩ => ⟨S_, .f32⟩
  | .hbm, ⟨26, _⟩ => ⟨S2x1024x1408, .f32⟩
  | .hbm, ⟨27, _⟩ => ⟨S2x1024x1408, .f32⟩
  | .hbm, ⟨28, _⟩ => ⟨S_, .f32⟩
  | .hbm, ⟨29, _⟩ => ⟨S2x1024x1408, .f32⟩
  | .hbm, ⟨30, _⟩ => ⟨S2x1024x1408, .f32⟩
  | .hbm, ⟨31, _⟩ => ⟨S2x1024x1408, .f32⟩
  | .hbm, ⟨32, _⟩ => ⟨S_, .f32⟩
  | .hbm, ⟨33, _⟩ => ⟨S2x1024x1408, .f32⟩
  | .hbm, ⟨34, _⟩ => ⟨S2x1024x1408, .f32⟩
  | .hbm, ⟨35, _⟩ => ⟨S2x1024x1408, .f32⟩
  | .hbm, ⟨36, _⟩ => ⟨S_, .f32⟩
  | .hbm, ⟨37, _⟩ => ⟨S2x1024x1408, .f32⟩
  | .hbm, ⟨38, _⟩ => ⟨S2x1024x1408, .f32⟩
  | .hbm, ⟨39, _⟩ => ⟨S2x1024x1408, .f32⟩
  | .hbm, ⟨40, _⟩ => ⟨S_, .f32⟩
  | .hbm, ⟨41, _⟩ => ⟨S2x1024x1408, .f32⟩
  | .hbm, ⟨42, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]
-- ==== ChipSum.lean ====
abbrev S1x1024x5632 : Shape := ⟨3, ![1, 1024, 5632]⟩
abbrev S3x1024x1408 : Shape := ⟨3, ![3, 1024, 1408]⟩
abbrev S1 : Shape := ⟨1, ![1]⟩
abbrev S1x1024x1408 : Shape := ⟨3, ![1, 1024, 1408]⟩
abbrev S1x256x1408 : Shape := ⟨3, ![1, 256, 1408]⟩
abbrev S3x256x1408 : Shape := ⟨3, ![3, 256, 1408]⟩
abbrev S256x1408 : Shape := ⟨2, ![256, 1408]⟩

abbrev nBuf : Space → Nat
  | .hbm => 5
  | .vmem => 6
  | .smem => 1
  | _ => 0

abbrev bufTy : (tb : Table) → Fin (tcTables nBuf tb) → BufTy
  | .hbm, ⟨0, _⟩ => ⟨S1x1024x5632, .f32⟩
  | .hbm, ⟨1, _⟩ => ⟨S3x1024x1408, .f32⟩
  | .hbm, ⟨2, _⟩ => ⟨S1x1024x5632, .bf16⟩
  | .hbm, ⟨3, _⟩ => ⟨S3x1024x1408, .bf16⟩
  | .hbm, ⟨4, _⟩ => ⟨S1x1024x1408, .f32⟩
  | .local _ .vmem, ⟨0, _⟩ => ⟨S1x256x1408, .bf16⟩
  | .local _ .vmem, ⟨1, _⟩ => ⟨S1x256x1408, .bf16⟩
  | .local _ .vmem, ⟨2, _⟩ => ⟨S3x256x1408, .bf16⟩
  | .local _ .vmem, ⟨3, _⟩ => ⟨S3x256x1408, .bf16⟩
  | .local _ .vmem, ⟨4, _⟩ => ⟨S1x256x1408, .f32⟩
  | .local _ .vmem, ⟨5, _⟩ => ⟨S1x256x1408, .f32⟩
  | .local _ .smem, ⟨0, _⟩ => ⟨S1, .i32⟩
  | _, _ => ⟨S1x1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![c0_i32.toNat, arg0.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ChipSumRefIdeal.lean ====
abbrev S1x1024x5632 : Shape := ⟨3, ![1, 1024, 5632]⟩
abbrev S3x1024x1408 : Shape := ⟨3, ![3, 1024, 1408]⟩
abbrev S1 : Shape := ⟨1, ![1]⟩
abbrev S1x1024x4x1408 : Shape := ⟨4, ![1, 1024, 4, 1408]⟩
abbrev S4 : Shape := ⟨1, ![4]⟩
abbrev S1x1x4x1 : Shape := ⟨4, ![1, 1, 4, 1]⟩
abbrev S_ : Shape := ⟨0, ![]⟩
abbrev S1x1024x1408 : Shape := ⟨3, ![1, 1024, 1408]⟩
abbrev S1024x1408 : Shape := ⟨2, ![1024, 1408]⟩

abbrev nBuf : Space → Nat
  | .hbm => 23
  | .vmem => 0
  | .smem => 0
  | _ => 0

abbrev bufTy : (tb : Table) → Fin (tcTables nBuf tb) → BufTy
  | .hbm, ⟨0, _⟩ => ⟨S1x1024x5632, .f32⟩
  | .hbm, ⟨1, _⟩ => ⟨S3x1024x1408, .f32⟩
  | .hbm, ⟨2, _⟩ => ⟨S1, .i32⟩
  | .hbm, ⟨3, _⟩ => ⟨S1x1024x5632, .bf16⟩
  | .hbm, ⟨4, _⟩ => ⟨S1x1024x5632, .f32⟩
  | .hbm, ⟨5, _⟩ => ⟨S1x1024x4x1408, .f32⟩
  | .hbm, ⟨6, _⟩ => ⟨S4, .i32⟩
  | .hbm, ⟨7, _⟩ => ⟨S4, .i32⟩
  | .hbm, ⟨8, _⟩ => ⟨S4, .i1⟩
  | .hbm, ⟨9, _⟩ => ⟨S1x1x4x1, .i1⟩
  | .hbm, ⟨10, _⟩ => ⟨S_, .f32⟩
  | .hbm, ⟨11, _⟩ => ⟨S_, .f32⟩
  | .hbm, ⟨12, _⟩ => ⟨S1x1024x4x1408, .i1⟩
  | .hbm, ⟨13, _⟩ => ⟨S1x1024x4x1408, .f32⟩
  | .hbm, ⟨14, _⟩ => ⟨S1x1024x4x1408, .f32⟩
  | .hbm, ⟨15, _⟩ => ⟨S_, .f32⟩
  | .hbm, ⟨16, _⟩ => ⟨S1x1024x1408, .f32⟩
  | .hbm, ⟨17, _⟩ => ⟨S3x1024x1408, .bf16⟩
  | .hbm, ⟨18, _⟩ => ⟨S3x1024x1408, .f32⟩
  | .hbm, ⟨19, _⟩ => ⟨S_, .f32⟩
  | .hbm, ⟨20, _⟩ => ⟨S1024x1408, .f32⟩
  | .hbm, ⟨21, _⟩ => ⟨S1x1024x1408, .f32⟩
  | .hbm, ⟨22, _⟩ => ⟨S1x1024x1408, .f32⟩
  | _, _ => ⟨S1x1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== ConvAFwd.lean ====
abbrev S8192x1792 : Shape := ⟨2, ![8192, 1792]⟩
abbrev S31x512 : Shape := ⟨2, ![31, 512]⟩
abbrev S512 : Shape := ⟨1, ![512]⟩
abbrev S_ : Shape := ⟨0, ![]⟩
abbrev S32x512 : Shape := ⟨2, ![32, 512]⟩
abbrev S1x512 : Shape := ⟨2, ![1, 512]⟩
abbrev S8192x512 : Shape := ⟨2, ![8192, 512]⟩
abbrev S8192x1024 : Shape := ⟨2, ![8192, 1024]⟩
abbrev S256x512 : Shape := ⟨2, ![256, 512]⟩
abbrev S288x512 : Shape := ⟨2, ![288, 512]⟩
abbrev S7x280x512 : Shape := ⟨3, ![7, 280, 512]⟩
abbrev S280x512 : Shape := ⟨2, ![280, 512]⟩
abbrev S1x280x512 : Shape := ⟨3, ![1, 280, 512]⟩
abbrev S1x128 : Shape := ⟨2, ![1, 128]⟩
abbrev S128x128 : Shape := ⟨2, ![128, 128]⟩
abbrev S1x128x128 : Shape := ⟨3, ![1, 128, 128]⟩
abbrev S256 : Shape := ⟨1, ![256]⟩
abbrev S256x1 : Shape := ⟨2, ![256, 1]⟩

abbrev nBuf : Space → Nat
  | .hbm => 15
  | .vmem => 14
  | .smem => 0
  | _ => 0

abbrev bufTy : (tb : Table) → Fin (tcTables nBuf tb) → BufTy
  | .hbm, ⟨0, _⟩ => ⟨S8192x1792, .f32⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S8192x1792, .bf16⟩
  | .hbm, ⟨6, _⟩ => ⟨S_, .i32⟩
  | .hbm, ⟨7, _⟩ => ⟨S_, .f32⟩
  | .hbm, ⟨8, _⟩ => ⟨S32x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S8192x512, .f32⟩
  | .hbm, ⟨13, _⟩ => ⟨S8192x1024, .bf16⟩
  | .hbm, ⟨14, _⟩ => ⟨S8192x512, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S32x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S256x512, .f32⟩
  | .local _ .vmem, ⟨9, _⟩ => ⟨S256x512, .f32⟩
  | .local _ .vmem, ⟨10, _⟩ => ⟨S256x512, .bf16⟩
  | .local _ .vmem, ⟨11, _⟩ => ⟨S256x512, .bf16⟩
  | .local _ .vmem, ⟨12, _⟩ => ⟨S288x512, .f32⟩
  | .local _ .vmem, ⟨13, _⟩ => ⟨S7x280x512, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConvAFwdRefIdeal.lean ====
abbrev S8192x1792 : Shape := ⟨2, ![8192, 1792]⟩
abbrev S31x512 : Shape := ⟨2, ![31, 512]⟩
abbrev S512 : Shape := ⟨1, ![512]⟩
abbrev S8192x512 : Shape := ⟨2, ![8192, 512]⟩
abbrev S_ : Shape := ⟨0, ![]⟩
abbrev S30x512 : Shape := ⟨2, ![30, 512]⟩
abbrev S8222x512 : Shape := ⟨2, ![8222, 512]⟩
abbrev S1x512 : Shape := ⟨2, ![1, 512]⟩
abbrev S8192 : Shape := ⟨1, ![8192]⟩
abbrev S8192x1 : Shape := ⟨2, ![8192, 1]⟩

abbrev nBuf : Space → Nat
  | .hbm => 280
  | .vmem => 0
  | .smem => 0
  | _ => 0

abbrev hbmTy0_0 (i : Nat) : BufTy := match i % 128 with
  | 0 => ⟨S8192x1792, .f32⟩
  | 1 => ⟨S31x512, .f32⟩
  | 2 => ⟨S512, .f32⟩
  | 3 => ⟨S512, .f32⟩
  | 4 => ⟨S512, .f32⟩
  | 5 => ⟨S8192x512, .f32⟩
  | 6 => ⟨S8192x512, .f32⟩
  | 7 => ⟨S8192x512, .f32⟩
  | 8 => ⟨S8192x512, .f32⟩
  | 9 => ⟨S_, .f32⟩
  | 10 => ⟨S8192x512, .f32⟩
  | 11 => ⟨S8192x512, .f32⟩
  | 12 => ⟨S_, .f32⟩
  | 13 => ⟨S8192x512, .f32⟩
  | 14 => ⟨S8192x512, .f32⟩
  | 15 => ⟨S8192x512, .f32⟩
  | 16 => ⟨S_, .f32⟩
  | 17 => ⟨S30x512, .f32⟩
  | 18 => ⟨S8222x512, .f32⟩
  | 19 => ⟨S1x512, .f32⟩
  | 20 => ⟨S512, .f32⟩
  | 21 => ⟨S8192x512, .f32⟩
  | 22 => ⟨S1x512, .f32⟩
  | 23 => ⟨S8192x512, .f32⟩
  | 24 => ⟨S8192x512, .f32⟩
  | 25 => ⟨S_, .f32⟩
  | 26 => ⟨S8192x512, .f32⟩
  | 27 => ⟨S8192x512, .f32⟩
  | 28 => ⟨S1x512, .f32⟩
  | 29 => ⟨S512, .f32⟩
  | 30 => ⟨S8192x512, .f32⟩
  | 31 => ⟨S1x512, .f32⟩
  | 32 => ⟨S8192x512, .f32⟩
  | 33 => ⟨S8192x512, .f32⟩
  | 34 => ⟨S8192x512, .f32⟩
  | 35 => ⟨S1x512, .f32⟩
  | 36 => ⟨S512, .f32⟩
  | 37 => ⟨S8192x512, .f32⟩
  | 38 => ⟨S1x512, .f32⟩
  | 39 => ⟨S8192x512, .f32⟩
  | 40 => ⟨S8192x512, .f32⟩
  | 41 => ⟨S8192x512, .f32⟩
  | 42 => ⟨S1x512, .f32⟩
  | 43 => ⟨S512, .f32⟩
  | 44 => ⟨S8192x512, .f32⟩
  | 45 => ⟨S1x512, .f32⟩
  | 46 => ⟨S8192x512, .f32⟩
  | 47 => ⟨S8192x512, .f32⟩
  | 48 => ⟨S8192x512, .f32⟩
  | 49 => ⟨S1x512, .f32⟩
  | 50 => ⟨S512, .f32⟩
  | 51 => ⟨S8192x512, .f32⟩
  | 52 => ⟨S1x512, .f32⟩
  | 53 => ⟨S8192x512, .f32⟩
  | 54 => ⟨S8192x512, .f32⟩
  | 55 => ⟨S8192x512, .f32⟩
  | 56 => ⟨S1x512, .f32⟩
  | 57 => ⟨S512, .f32⟩
  | 58 => ⟨S8192x512, .f32⟩
  | 59 => ⟨S1x512, .f32⟩
  | 60 => ⟨S8192x512, .f32⟩
  | 61 => ⟨S8192x512, .f32⟩
  | 62 => ⟨S8192x512, .f32⟩
  | 63 => ⟨S1x512, .f32⟩
  | 64 => ⟨S512, .f32⟩
  | 65 => ⟨S8192x512, .f32⟩
  | 66 => ⟨S1x512, .f32⟩
  | 67 => ⟨S8192x512, .f32⟩
  | 68 => ⟨S8192x512, .f32⟩
  | 69 => ⟨S8192x512, .f32⟩
  | 70 => ⟨S1x512, .f32⟩
  | 71 => ⟨S512, .f32⟩
  | 72 => ⟨S8192x512, .f32⟩
  | 73 => ⟨S1x512, .f32⟩
  | 74 => ⟨S8192x512, .f32⟩
  | 75 => ⟨S8192x512, .f32⟩
  | 76 => ⟨S8192x512, .f32⟩
  | 77 => ⟨S1x512, .f32⟩
  | 78 => ⟨S512, .f32⟩
  | 79 => ⟨S8192x512, .f32⟩
  | 80 => ⟨S1x512, .f32⟩
  | 81 => ⟨S8192x512, .f32⟩
  | 82 => ⟨S8192x512, .f32⟩
  | 83 => ⟨S8192x512, .f32⟩
  | 84 => ⟨S1x512, .f32⟩
  | 85 => ⟨S512, .f32⟩
  | 86 => ⟨S8192x512, .f32⟩
  | 87 => ⟨S1x512, .f32⟩
  | 88 => ⟨S8192x512, .f32⟩
  | 89 => ⟨S8192x512, .f32⟩
  | 90 => ⟨S8192x512, .f32⟩
  | 91 => ⟨S1x512, .f32⟩
  | 92 => ⟨S512, .f32⟩
  | 93 => ⟨S8192x512, .f32⟩
  | 94 => ⟨S1x512, .f32⟩
  | 95 => ⟨S8192x512, .f32⟩
  | 96 => ⟨S8192x512, .f32⟩
  | 97 => ⟨S8192x512, .f32⟩
  | 98 => ⟨S1x512, .f32⟩
  | 99 => ⟨S512, .f32⟩
  | 100 => ⟨S8192x512, .f32⟩
  | 101 => ⟨S1x512, .f32⟩
  | 102 => ⟨S8192x512, .f32⟩
  | 103 => ⟨S8192x512, .f32⟩
  | 104 => ⟨S8192x512, .f32⟩
  | 105 => ⟨S1x512, .f32⟩
  | 106 => ⟨S512, .f32⟩
  | 107 => ⟨S8192x512, .f32⟩
  | 108 => ⟨S1x512, .f32⟩
  | 109 => ⟨S8192x512, .f32⟩
  | 110 => ⟨S8192x512, .f32⟩
  | 111 => ⟨S8192x512, .f32⟩
  | 112 => ⟨S1x512, .f32⟩
  | 113 => ⟨S512, .f32⟩
  | 114 => ⟨S8192x512, .f32⟩
  | 115 => ⟨S1x512, .f32⟩
  | 116 => ⟨S8192x512, .f32⟩
  | 117 => ⟨S8192x512, .f32⟩
  | 118 => ⟨S8192x512, .f32⟩
  | 119 => ⟨S1x512, .f32⟩
  | 120 => ⟨S512, .f32⟩
  | 121 => ⟨S8192x512, .f32⟩
  | 122 => ⟨S1x512, .f32⟩
  | 123 => ⟨S8192x512, .f32⟩
  | 124 => ⟨S8192x512, .f32⟩
  | 125 => ⟨S8192x512, .f32⟩
  | 126 => ⟨S1x512, .f32⟩
  | 127 => ⟨S512, .f32⟩
  | _ => ⟨S8192x1792, .f32⟩

abbrev hbmTy0_1 (i : Nat) : BufTy := match i % 128 with
  | 0 => ⟨S8192x512, .f32⟩
  | 1 => ⟨S1x512, .f32⟩
  | 2 => ⟨S8192x512, .f32⟩
  | 3 => ⟨S8192x512, .f32⟩
  | 4 => ⟨S8192x512, .f32⟩
  | 5 => ⟨S1x512, .f32⟩
  | 6 => ⟨S512, .f32⟩
  | 7 => ⟨S8192x512, .f32⟩
  | 8 => ⟨S1x512, .f32⟩
  | 9 => ⟨S8192x512, .f32⟩
  | 10 => ⟨S8192x512, .f32⟩
  | 11 => ⟨S8192x512, .f32⟩
  | 12 => ⟨S1x512, .f32⟩
  | 13 => ⟨S512, .f32⟩
  | 14 => ⟨S8192x512, .f32⟩
  | 15 => ⟨S1x512, .f32⟩
  | 16 => ⟨S8192x512, .f32⟩
  | 17 => ⟨S8192x512, .f32⟩
  | 18 => ⟨S8192x512, .f32⟩
  | 19 => ⟨S1x512, .f32⟩
  | 20 => ⟨S512, .f32⟩
  | 21 => ⟨S8192x512, .f32⟩
  | 22 => ⟨S1x512, .f32⟩
  | 23 => ⟨S8192x512, .f32⟩
  | 24 => ⟨S8192x512, .f32⟩
  | 25 => ⟨S8192x512, .f32⟩
  | 26 => ⟨S1x512, .f32⟩
  | 27 => ⟨S512, .f32⟩
  | 28 => ⟨S8192x512, .f32⟩
  | 29 => ⟨S1x512, .f32⟩
  | 30 => ⟨S8192x512, .f32⟩
  | 31 => ⟨S8192x512, .f32⟩
  | 32 => ⟨S8192x512, .f32⟩
  | 33 => ⟨S1x512, .f32⟩
  | 34 => ⟨S512, .f32⟩
  | 35 => ⟨S8192x512, .f32⟩
  | 36 => ⟨S1x512, .f32⟩
  | 37 => ⟨S8192x512, .f32⟩
  | 38 => ⟨S8192x512, .f32⟩
  | 39 => ⟨S8192x512, .f32⟩
  | 40 => ⟨S1x512, .f32⟩
  | 41 => ⟨S512, .f32⟩
  | 42 => ⟨S8192x512, .f32⟩
  | 43 => ⟨S1x512, .f32⟩
  | 44 => ⟨S8192x512, .f32⟩
  | 45 => ⟨S8192x512, .f32⟩
  | 46 => ⟨S8192x512, .f32⟩
  | 47 => ⟨S1x512, .f32⟩
  | 48 => ⟨S512, .f32⟩
  | 49 => ⟨S8192x512, .f32⟩
  | 50 => ⟨S1x512, .f32⟩
  | 51 => ⟨S8192x512, .f32⟩
  | 52 => ⟨S8192x512, .f32⟩
  | 53 => ⟨S8192x512, .f32⟩
  | 54 => ⟨S1x512, .f32⟩
  | 55 => ⟨S512, .f32⟩
  | 56 => ⟨S8192x512, .f32⟩
  | 57 => ⟨S1x512, .f32⟩
  | 58 => ⟨S8192x512, .f32⟩
  | 59 => ⟨S8192x512, .f32⟩
  | 60 => ⟨S8192x512, .f32⟩
  | 61 => ⟨S1x512, .f32⟩
  | 62 => ⟨S512, .f32⟩
  | 63 => ⟨S8192x512, .f32⟩
  | 64 => ⟨S1x512, .f32⟩
  | 65 => ⟨S8192x512, .f32⟩
  | 66 => ⟨S8192x512, .f32⟩
  | 67 => ⟨S8192x512, .f32⟩
  | 68 => ⟨S1x512, .f32⟩
  | 69 => ⟨S512, .f32⟩
  | 70 => ⟨S8192x512, .f32⟩
  | 71 => ⟨S1x512, .f32⟩
  | 72 => ⟨S8192x512, .f32⟩
  | 73 => ⟨S8192x512, .f32⟩
  | 74 => ⟨S8192x512, .f32⟩
  | 75 => ⟨S1x512, .f32⟩
  | 76 => ⟨S512, .f32⟩
  | 77 => ⟨S8192x512, .f32⟩
  | 78 => ⟨S1x512, .f32⟩
  | 79 => ⟨S8192x512, .f32⟩
  | 80 => ⟨S8192x512, .f32⟩
  | 81 => ⟨S8192x512, .f32⟩
  | 82 => ⟨S1x512, .f32⟩
  | 83 => ⟨S512, .f32⟩
  | 84 => ⟨S8192x512, .f32⟩
  | 85 => ⟨S1x512, .f32⟩
  | 86 => ⟨S8192x512, .f32⟩
  | 87 => ⟨S8192x512, .f32⟩
  | 88 => ⟨S8192x512, .f32⟩
  | 89 => ⟨S1x512, .f32⟩
  | 90 => ⟨S512, .f32⟩
  | 91 => ⟨S8192x512, .f32⟩
  | 92 => ⟨S1x512, .f32⟩
  | 93 => ⟨S8192x512, .f32⟩
  | 94 => ⟨S8192x512, .f32⟩
  | 95 => ⟨S8192x512, .f32⟩
  | 96 => ⟨S1x512, .f32⟩
  | 97 => ⟨S512, .f32⟩
  | 98 => ⟨S8192x512, .f32⟩
  | 99 => ⟨S1x512, .f32⟩
  | 100 => ⟨S8192x512, .f32⟩
  | 101 => ⟨S8192x512, .f32⟩
  | 102 => ⟨S8192x512, .f32⟩
  | 103 => ⟨S1x512, .f32⟩
  | 104 => ⟨S512, .f32⟩
  | 105 => ⟨S8192x512, .f32⟩
  | 106 => ⟨S1x512, .f32⟩
  | 107 => ⟨S8192x512, .f32⟩
  | 108 => ⟨S8192x512, .f32⟩
  | 109 => ⟨S8192x512, .f32⟩
  | 110 => ⟨S1x512, .f32⟩
  | 111 => ⟨S8192x512, .f32⟩
  | 112 => ⟨S8192x512, .f32⟩
  | 113 => ⟨S_, .f32⟩
  | 114 => ⟨S8192, .f32⟩
  | 115 => ⟨S8192x1, .f32⟩
  | 116 => ⟨S_, .f32⟩
  | 117 => ⟨S8192x1, .f32⟩
  | 118 => ⟨S8192x1, .f32⟩
  | 119 => ⟨S8192x512, .f32⟩
  | 120 => ⟨S8192x512, .f32⟩
  | 121 => ⟨S8192x512, .f32⟩
  | 122 => ⟨S_, .f32⟩
  | 123 => ⟨S8192, .f32⟩
  | 124 => ⟨S8192x1, .f32⟩
  | 125 => ⟨S_, .f32⟩
  | 126 => ⟨S8192x1, .f32⟩
  | 127 => ⟨S8192x1, .f32⟩
  | _ => ⟨S8192x1792, .f32⟩

abbrev hbmTy0_2 (i : Nat) : BufTy := match i % 128 with
  | 0 => ⟨S8192x512, .f32⟩
  | 1 => ⟨S8192x512, .f32⟩
  | 2 => ⟨S_, .f32⟩
  | 3 => ⟨S8192x1, .f32⟩
  | 4 => ⟨S8192x1, .f32⟩
  | 5 => ⟨S8192x1, .f32⟩
  | 6 => ⟨S8192x512, .f32⟩
  | 7 => ⟨S8192x512, .f32⟩
  | 8 => ⟨S1x512, .f32⟩
  | 9 => ⟨S8192x512, .f32⟩
  | 10 => ⟨S8192x512, .f32⟩
  | 11 => ⟨S1x512, .f32⟩
  | 12 => ⟨S8192x512, .f32⟩
  | 13 => ⟨S8192x512, .f32⟩
  | 14 => ⟨S8192x512, .f32⟩
  | 15 => ⟨S8192x512, .f32⟩
  | 16 => ⟨S_, .f32⟩
  | 17 => ⟨S8192x512, .f32⟩
  | 18 => ⟨S8192x512, .f32⟩
  | 19 => ⟨S_, .f32⟩
  | 20 => ⟨S8192x512, .f32⟩
  | 21 => ⟨S8192x512, .f32⟩
  | 22 => ⟨S8192x512, .f32⟩
  | 23 => ⟨S8192x512, .bf16⟩
  | _ => ⟨S8192x1792, .f32⟩

abbrev hbmTy (i : Nat) : BufTy := match i / 128 with
  | 0 => hbmTy0_0 i
  | 1 => hbmTy0_1 i
  | 2 => hbmTy0_2 i
  | _ => ⟨S8192x1792, .f32⟩

abbrev bufTy : (tb : Table) → Fin (tcTables nBuf tb) → BufTy
  | .hbm, ⟨i, _⟩ => hbmTy i
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_cst_3 : Ref sig .tc := ⟨.hbm, 241, rfl⟩
abbrev main_v232 : Ref sig .tc := ⟨.hbm, 242, rfl⟩
abbrev main_v233 : Ref sig .tc := ⟨.hbm, 243, rfl⟩
abbrev main_cst_4 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_cst_5 : Ref sig .tc := ⟨.hbm, 250, rfl⟩
abbrev main_v239 : Ref sig .tc := ⟨.hbm, 251, rfl⟩
abbrev main_v240 : Ref sig .tc := ⟨.hbm, 252, rfl⟩
abbrev main_cst_6 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_cst_7 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_call0_v0 : Ref sig .tc := ⟨.hbm, 270, rfl⟩
abbrev main_call0_v1 : Ref sig .tc := ⟨.hbm, 271, rfl⟩
abbrev main_call0_cst : Ref sig .tc := ⟨.hbm, 272, rfl⟩
abbrev main_call0_v2 : Ref sig .tc := ⟨.hbm, 273, rfl⟩
abbrev main_call0_v3 : Ref sig .tc := ⟨.hbm, 274, rfl⟩
abbrev main_call0_cst_0 : Ref sig .tc := ⟨.hbm, 275, rfl⟩
abbrev main_call0_v4 : Ref sig .tc := ⟨.hbm, 276, rfl⟩
abbrev main_call0_v5 : Ref sig .tc := ⟨.hbm, 277, rfl⟩
abbrev main_v256 : Ref sig .tc := ⟨.hbm, 278, rfl⟩
abbrev main_v257 : Ref sig .tc := ⟨.hbm, 279, rfl⟩

abbrev nD : Nat := 1
abbrev τ : Topo := Topo.v7x

variable {F : FTy → Type} [FloatOps F]
-- ==== ConvA.lean ====
abbrev S8192x1792 : Shape := ⟨2, ![8192, 1792]⟩
abbrev S31x512 : Shape := ⟨2, ![31, 512]⟩
abbrev S512 : Shape := ⟨1, ![512]⟩
abbrev S8192x1024 : Shape := ⟨2, ![8192, 1024]⟩
abbrev S8192x512 : Shape := ⟨2, ![8192, 512]⟩
abbrev S_ : Shape := ⟨0, ![]⟩
abbrev S30x512 : Shape := ⟨2, ![30, 512]⟩
abbrev S8222x512 : Shape := ⟨2, ![8222, 512]⟩
abbrev S1x512 : Shape := ⟨2, ![1, 512]⟩
abbrev S32x512 : Shape := ⟨2, ![32, 512]⟩
abbrev S40x512 : Shape := ⟨2, ![40, 512]⟩
abbrev S256x512 : Shape := ⟨2, ![256, 512]⟩
abbrev S256x1024 : Shape := ⟨2, ![256, 1024]⟩
abbrev S288x512 : Shape := ⟨2, ![288, 512]⟩
abbrev S7x280x512 : Shape := ⟨3, ![7, 280, 512]⟩
abbrev S256 : Shape := ⟨1, ![256]⟩
abbrev S256x1 : Shape := ⟨2, ![256, 1]⟩
abbrev S280x512 : Shape := ⟨2, ![280, 512]⟩
abbrev S1x280x512 : Shape := ⟨3, ![1, 280, 512]⟩
abbrev S128x128 : Shape := ⟨2, ![128, 128]⟩
abbrev S1x128x128 : Shape := ⟨3, ![1, 128, 128]⟩
abbrev S1x128 : Shape := ⟨2, ![1, 128]⟩
abbrev S8x128 : Shape := ⟨2, ![8, 128]⟩
abbrev S8x512 : Shape := ⟨2, ![8, 512]⟩
abbrev S3x512 : Shape := ⟨2, ![3, 512]⟩

abbrev nBuf : Space → Nat
  | .hbm => 252
  | .vmem => 19
  | .smem => 0
  | _ => 0

abbrev hbmTy0_0 (i : Nat) : BufTy := match i % 128 with
  | 0 => ⟨S8192x1792, .f32⟩
  | 1 => ⟨S31x512, .f32⟩
  | 2 => ⟨S512, .f32⟩
  | 3 => ⟨S512, .f32⟩
  | 4 => ⟨S512, .f32⟩
  | 5 => ⟨S8192x1024, .f32⟩
  | 6 => ⟨S8192x512, .f32⟩
  | 7 => ⟨S8192x512, .f32⟩
  | 8 => ⟨S8192x512, .f32⟩
  | 9 => ⟨S8192x512, .f32⟩
  | 10 => ⟨S_, .f32⟩
  | 11 => ⟨S8192x512, .f32⟩
  | 12 => ⟨S8192x512, .f32⟩
  | 13 => ⟨S_, .f32⟩
  | 14 => ⟨S8192x512, .f32⟩
  | 15 => ⟨S8192x512, .f32⟩
  | 16 => ⟨S8192x512, .f32⟩
  | 17 => ⟨S_, .f32⟩
  | 18 => ⟨S30x512, .f32⟩
  | 19 => ⟨S8222x512, .f32⟩
  | 20 => ⟨S1x512, .f32⟩
  | 21 => ⟨S512, .f32⟩
  | 22 => ⟨S8192x512, .f32⟩
  | 23 => ⟨S1x512, .f32⟩
  | 24 => ⟨S8192x512, .f32⟩
  | 25 => ⟨S8192x512, .f32⟩
  | 26 => ⟨S_, .f32⟩
  | 27 => ⟨S8192x512, .f32⟩
  | 28 => ⟨S8192x512, .f32⟩
  | 29 => ⟨S1x512, .f32⟩
  | 30 => ⟨S512, .f32⟩
  | 31 => ⟨S8192x512, .f32⟩
  | 32 => ⟨S1x512, .f32⟩
  | 33 => ⟨S8192x512, .f32⟩
  | 34 => ⟨S8192x512, .f32⟩
  | 35 => ⟨S8192x512, .f32⟩
  | 36 => ⟨S1x512, .f32⟩
  | 37 => ⟨S512, .f32⟩
  | 38 => ⟨S8192x512, .f32⟩
  | 39 => ⟨S1x512, .f32⟩
  | 40 => ⟨S8192x512, .f32⟩
  | 41 => ⟨S8192x512, .f32⟩
  | 42 => ⟨S8192x512, .f32⟩
  | 43 => ⟨S1x512, .f32⟩
  | 44 => ⟨S512, .f32⟩
  | 45 => ⟨S8192x512, .f32⟩
  | 46 => ⟨S1x512, .f32⟩
  | 47 => ⟨S8192x512, .f32⟩
  | 48 => ⟨S8192x512, .f32⟩
  | 49 => ⟨S8192x512, .f32⟩
  | 50 => ⟨S1x512, .f32⟩
  | 51 => ⟨S512, .f32⟩
  | 52 => ⟨S8192x512, .f32⟩
  | 53 => ⟨S1x512, .f32⟩
  | 54 => ⟨S8192x512, .f32⟩
  | 55 => ⟨S8192x512, .f32⟩
  | 56 => ⟨S8192x512, .f32⟩
  | 57 => ⟨S1x512, .f32⟩
  | 58 => ⟨S512, .f32⟩
  | 59 => ⟨S8192x512, .f32⟩
  | 60 => ⟨S1x512, .f32⟩
  | 61 => ⟨S8192x512, .f32⟩
  | 62 => ⟨S8192x512, .f32⟩
  | 63 => ⟨S8192x512, .f32⟩
  | 64 => ⟨S1x512, .f32⟩
  | 65 => ⟨S512, .f32⟩
  | 66 => ⟨S8192x512, .f32⟩
  | 67 => ⟨S1x512, .f32⟩
  | 68 => ⟨S8192x512, .f32⟩
  | 69 => ⟨S8192x512, .f32⟩
  | 70 => ⟨S8192x512, .f32⟩
  | 71 => ⟨S1x512, .f32⟩
  | 72 => ⟨S512, .f32⟩
  | 73 => ⟨S8192x512, .f32⟩
  | 74 => ⟨S1x512, .f32⟩
  | 75 => ⟨S8192x512, .f32⟩
  | 76 => ⟨S8192x512, .f32⟩
  | 77 => ⟨S8192x512, .f32⟩
  | 78 => ⟨S1x512, .f32⟩
  | 79 => ⟨S512, .f32⟩
  | 80 => ⟨S8192x512, .f32⟩
  | 81 => ⟨S1x512, .f32⟩
  | 82 => ⟨S8192x512, .f32⟩
  | 83 => ⟨S8192x512, .f32⟩
  | 84 => ⟨S8192x512, .f32⟩
  | 85 => ⟨S1x512, .f32⟩
  | 86 => ⟨S512, .f32⟩
  | 87 => ⟨S8192x512, .f32⟩
  | 88 => ⟨S1x512, .f32⟩
  | 89 => ⟨S8192x512, .f32⟩
  | 90 => ⟨S8192x512, .f32⟩
  | 91 => ⟨S8192x512, .f32⟩
  | 92 => ⟨S1x512, .f32⟩
  | 93 => ⟨S512, .f32⟩
  | 94 => ⟨S8192x512, .f32⟩
  | 95 => ⟨S1x512, .f32⟩
  | 96 => ⟨S8192x512, .f32⟩
  | 97 => ⟨S8192x512, .f32⟩
  | 98 => ⟨S8192x512, .f32⟩
  | 99 => ⟨S1x512, .f32⟩
  | 100 => ⟨S512, .f32⟩
  | 101 => ⟨S8192x512, .f32⟩
  | 102 => ⟨S1x512, .f32⟩
  | 103 => ⟨S8192x512, .f32⟩
  | 104 => ⟨S8192x512, .f32⟩
  | 105 => ⟨S8192x512, .f32⟩
  | 106 => ⟨S1x512, .f32⟩
  | 107 => ⟨S512, .f32⟩
  | 108 => ⟨S8192x512, .f32⟩
  | 109 => ⟨S1x512, .f32⟩
  | 110 => ⟨S8192x512, .f32⟩
  | 111 => ⟨S8192x512, .f32⟩
  | 112 => ⟨S8192x512, .f32⟩
  | 113 => ⟨S1x512, .f32⟩
  | 114 => ⟨S512, .f32⟩
  | 115 => ⟨S8192x512, .f32⟩
  | 116 => ⟨S1x512, .f32⟩
  | 117 => ⟨S8192x512, .f32⟩
  | 118 => ⟨S8192x512, .f32⟩
  | 119 => ⟨S8192x512, .f32⟩
  | 120 => ⟨S1x512, .f32⟩
  | 121 => ⟨S512, .f32⟩
  | 122 => ⟨S8192x512, .f32⟩
  | 123 => ⟨S1x512, .f32⟩
  | 124 => ⟨S8192x512, .f32⟩
  | 125 => ⟨S8192x512, .f32⟩
  | 126 => ⟨S8192x512, .f32⟩
  | 127 => ⟨S1x512, .f32⟩
  | _ => ⟨S8192x1792, .f32⟩

abbrev hbmTy0_1 (i : Nat) : BufTy := match i % 128 with
  | 0 => ⟨S512, .f32⟩
  | 1 => ⟨S8192x512, .f32⟩
  | 2 => ⟨S1x512, .f32⟩
  | 3 => ⟨S8192x512, .f32⟩
  | 4 => ⟨S8192x512, .f32⟩
  | 5 => ⟨S8192x512, .f32⟩
  | 6 => ⟨S1x512, .f32⟩
  | 7 => ⟨S512, .f32⟩
  | 8 => ⟨S8192x512, .f32⟩
  | 9 => ⟨S1x512, .f32⟩
  | 10 => ⟨S8192x512, .f32⟩
  | 11 => ⟨S8192x512, .f32⟩
  | 12 => ⟨S8192x512, .f32⟩
  | 13 => ⟨S1x512, .f32⟩
  | 14 => ⟨S512, .f32⟩
  | 15 => ⟨S8192x512, .f32⟩
  | 16 => ⟨S1x512, .f32⟩
  | 17 => ⟨S8192x512, .f32⟩
  | 18 => ⟨S8192x512, .f32⟩
  | 19 => ⟨S8192x512, .f32⟩
  | 20 => ⟨S1x512, .f32⟩
  | 21 => ⟨S512, .f32⟩
  | 22 => ⟨S8192x512, .f32⟩
  | 23 => ⟨S1x512, .f32⟩
  | 24 => ⟨S8192x512, .f32⟩
  | 25 => ⟨S8192x512, .f32⟩
  | 26 => ⟨S8192x512, .f32⟩
  | 27 => ⟨S1x512, .f32⟩
  | 28 => ⟨S512, .f32⟩
  | 29 => ⟨S8192x512, .f32⟩
  | 30 => ⟨S1x512, .f32⟩
  | 31 => ⟨S8192x512, .f32⟩
  | 32 => ⟨S8192x512, .f32⟩
  | 33 => ⟨S8192x512, .f32⟩
  | 34 => ⟨S1x512, .f32⟩
  | 35 => ⟨S512, .f32⟩
  | 36 => ⟨S8192x512, .f32⟩
  | 37 => ⟨S1x512, .f32⟩
  | 38 => ⟨S8192x512, .f32⟩
  | 39 => ⟨S8192x512, .f32⟩
  | 40 => ⟨S8192x512, .f32⟩
  | 41 => ⟨S1x512, .f32⟩
  | 42 => ⟨S512, .f32⟩
  | 43 => ⟨S8192x512, .f32⟩
  | 44 => ⟨S1x512, .f32⟩
  | 45 => ⟨S8192x512, .f32⟩
  | 46 => ⟨S8192x512, .f32⟩
  | 47 => ⟨S8192x512, .f32⟩
  | 48 => ⟨S1x512, .f32⟩
  | 49 => ⟨S512, .f32⟩
  | 50 => ⟨S8192x512, .f32⟩
  | 51 => ⟨S1x512, .f32⟩
  | 52 => ⟨S8192x512, .f32⟩
  | 53 => ⟨S8192x512, .f32⟩
  | 54 => ⟨S8192x512, .f32⟩
  | 55 => ⟨S1x512, .f32⟩
  | 56 => ⟨S512, .f32⟩
  | 57 => ⟨S8192x512, .f32⟩
  | 58 => ⟨S1x512, .f32⟩
  | 59 => ⟨S8192x512, .f32⟩
  | 60 => ⟨S8192x512, .f32⟩
  | 61 => ⟨S8192x512, .f32⟩
  | 62 => ⟨S1x512, .f32⟩
  | 63 => ⟨S512, .f32⟩
  | 64 => ⟨S8192x512, .f32⟩
  | 65 => ⟨S1x512, .f32⟩
  | 66 => ⟨S8192x512, .f32⟩
  | 67 => ⟨S8192x512, .f32⟩
  | 68 => ⟨S8192x512, .f32⟩
  | 69 => ⟨S1x512, .f32⟩
  | 70 => ⟨S512, .f32⟩
  | 71 => ⟨S8192x512, .f32⟩
  | 72 => ⟨S1x512, .f32⟩
  | 73 => ⟨S8192x512, .f32⟩
  | 74 => ⟨S8192x512, .f32⟩
  | 75 => ⟨S8192x512, .f32⟩
  | 76 => ⟨S1x512, .f32⟩
  | 77 => ⟨S512, .f32⟩
  | 78 => ⟨S8192x512, .f32⟩
  | 79 => ⟨S1x512, .f32⟩
  | 80 => ⟨S8192x512, .f32⟩
  | 81 => ⟨S8192x512, .f32⟩
  | 82 => ⟨S8192x512, .f32⟩
  | 83 => ⟨S1x512, .f32⟩
  | 84 => ⟨S512, .f32⟩
  | 85 => ⟨S8192x512, .f32⟩
  | 86 => ⟨S1x512, .f32⟩
  | 87 => ⟨S8192x512, .f32⟩
  | 88 => ⟨S8192x512, .f32⟩
  | 89 => ⟨S8192x512, .f32⟩
  | 90 => ⟨S1x512, .f32⟩
  | 91 => ⟨S512, .f32⟩
  | 92 => ⟨S8192x512, .f32⟩
  | 93 => ⟨S1x512, .f32⟩
  | 94 => ⟨S8192x512, .f32⟩
  | 95 => ⟨S8192x512, .f32⟩
  | 96 => ⟨S8192x512, .f32⟩
  | 97 => ⟨S1x512, .f32⟩
  | 98 => ⟨S512, .f32⟩
  | 99 => ⟨S8192x512, .f32⟩
  | 100 => ⟨S1x512, .f32⟩
  | 101 => ⟨S8192x512, .f32⟩
  | 102 => ⟨S8192x512, .f32⟩
  | 103 => ⟨S8192x512, .f32⟩
  | 104 => ⟨S1x512, .f32⟩
  | 105 => ⟨S512, .f32⟩
  | 106 => ⟨S8192x512, .f32⟩
  | 107 => ⟨S1x512, .f32⟩
  | 108 => ⟨S8192x512, .f32⟩
  | 109 => ⟨S8192x512, .f32⟩
  | 110 => ⟨S8192x512, .f32⟩
  | 111 => ⟨S1x512, .f32⟩
  | 112 => ⟨S8192x512, .f32⟩
  | 113 => ⟨S8192x512, .f32⟩
  | 114 => ⟨S8192x1792, .bf16⟩
  | 115 => ⟨S8192x1024, .bf16⟩
  | 116 => ⟨S_, .i32⟩
  | 117 => ⟨S_, .f32⟩
  | 118 => ⟨S32x512, .f32⟩
  | 119 => ⟨S1x512, .f32⟩
  | 120 => ⟨S1x512, .f32⟩
  | 121 => ⟨S8192x1024, .bf16⟩
  | 122 => ⟨S40x512, .f32⟩
  | 123 => ⟨S3x512, .f32⟩
  | _ => ⟨S8192x1792, .f32⟩

abbrev hbmTy (i : Nat) : BufTy := match i / 128 with
  | 0 => hbmTy0_0 i
  | 1 => hbmTy0_1 i
  | _ => ⟨S8192x1792, .f32⟩

abbrev bufTy : (tb : Table) → Fin (tcTables nBuf tb) → BufTy
  | .hbm, ⟨i, _⟩ => hbmTy i
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .f32⟩
  | .local _ .vmem, ⟨5, _⟩ => ⟨S256x512, .f32⟩
  | .local _ .vmem, ⟨6, _⟩ => ⟨S256x512, .bf16⟩
  | .local _ .vmem, ⟨7, _⟩ => ⟨S256x512, .bf16⟩
  | .local _ .vmem, ⟨8, _⟩ => ⟨S32x512, .f32⟩
  | .local _ .vmem, ⟨9, _⟩ => ⟨S1x512, .f32⟩
  | .local _ .vmem, ⟨10, _⟩ => ⟨S1x512, .f32⟩
  | .local _ .vmem, ⟨11, _⟩ => ⟨S256x1024, .bf16⟩
  | .local _ .vmem, ⟨12, _⟩ => ⟨S256x1024, .bf16⟩
  | .local _ .vmem, ⟨13, _⟩ => ⟨S40x512, .f32⟩
  | .local _ .vmem, ⟨14, _⟩ => ⟨S288x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S7x280x512, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_c : Ref sig .tc := ⟨.hbm, 244, rfl⟩
abbrev main_call0_v0 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237_0 : Ref sig .tc := ⟨.hbm, 249, rfl⟩
abbrev main_v237_1 : Ref sig .tc := ⟨.hbm, 250, rfl⟩
abbrev main_v238 : Ref sig .tc := ⟨.hbm, 251, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S40x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ConvARefIdeal.lean ====
abbrev S8192x1792 : Shape := ⟨2, ![8192, 1792]⟩
abbrev S31x512 : Shape := ⟨2, ![31, 512]⟩
abbrev S512 : Shape := ⟨1, ![512]⟩
abbrev S8192x1024 : Shape := ⟨2, ![8192, 1024]⟩
abbrev S8192x512 : Shape := ⟨2, ![8192, 512]⟩
abbrev S_ : Shape := ⟨0, ![]⟩
abbrev S30x512 : Shape := ⟨2, ![30, 512]⟩
abbrev S8222x512 : Shape := ⟨2, ![8222, 512]⟩
abbrev S1x512 : Shape := ⟨2, ![1, 512]⟩
abbrev S8192 : Shape := ⟨1, ![8192]⟩
abbrev S8192x1 : Shape := ⟨2, ![8192, 1]⟩
abbrev S3x512 : Shape := ⟨2, ![3, 512]⟩

abbrev nBuf : Space → Nat
  | .hbm => 349
  | .vmem => 0
  | .smem => 0
  | _ => 0

abbrev hbmTy0_0 (i : Nat) : BufTy := match i % 128 with
  | 0 => ⟨S8192x1792, .f32⟩
  | 1 => ⟨S31x512, .f32⟩
  | 2 => ⟨S512, .f32⟩
  | 3 => ⟨S512, .f32⟩
  | 4 => ⟨S512, .f32⟩
  | 5 => ⟨S8192x1024, .f32⟩
  | 6 => ⟨S8192x512, .f32⟩
  | 7 => ⟨S8192x512, .f32⟩
  | 8 => ⟨S8192x512, .f32⟩
  | 9 => ⟨S8192x512, .f32⟩
  | 10 => ⟨S_, .f32⟩
  | 11 => ⟨S8192x512, .f32⟩
  | 12 => ⟨S8192x512, .f32⟩
  | 13 => ⟨S_, .f32⟩
  | 14 => ⟨S8192x512, .f32⟩
  | 15 => ⟨S8192x512, .f32⟩
  | 16 => ⟨S8192x512, .f32⟩
  | 17 => ⟨S_, .f32⟩
  | 18 => ⟨S30x512, .f32⟩
  | 19 => ⟨S8222x512, .f32⟩
  | 20 => ⟨S1x512, .f32⟩
  | 21 => ⟨S512, .f32⟩
  | 22 => ⟨S8192x512, .f32⟩
  | 23 => ⟨S1x512, .f32⟩
  | 24 => ⟨S8192x512, .f32⟩
  | 25 => ⟨S8192x512, .f32⟩
  | 26 => ⟨S_, .f32⟩
  | 27 => ⟨S8192x512, .f32⟩
  | 28 => ⟨S8192x512, .f32⟩
  | 29 => ⟨S1x512, .f32⟩
  | 30 => ⟨S512, .f32⟩
  | 31 => ⟨S8192x512, .f32⟩
  | 32 => ⟨S1x512, .f32⟩
  | 33 => ⟨S8192x512, .f32⟩
  | 34 => ⟨S8192x512, .f32⟩
  | 35 => ⟨S8192x512, .f32⟩
  | 36 => ⟨S1x512, .f32⟩
  | 37 => ⟨S512, .f32⟩
  | 38 => ⟨S8192x512, .f32⟩
  | 39 => ⟨S1x512, .f32⟩
  | 40 => ⟨S8192x512, .f32⟩
  | 41 => ⟨S8192x512, .f32⟩
  | 42 => ⟨S8192x512, .f32⟩
  | 43 => ⟨S1x512, .f32⟩
  | 44 => ⟨S512, .f32⟩
  | 45 => ⟨S8192x512, .f32⟩
  | 46 => ⟨S1x512, .f32⟩
  | 47 => ⟨S8192x512, .f32⟩
  | 48 => ⟨S8192x512, .f32⟩
  | 49 => ⟨S8192x512, .f32⟩
  | 50 => ⟨S1x512, .f32⟩
  | 51 => ⟨S512, .f32⟩
  | 52 => ⟨S8192x512, .f32⟩
  | 53 => ⟨S1x512, .f32⟩
  | 54 => ⟨S8192x512, .f32⟩
  | 55 => ⟨S8192x512, .f32⟩
  | 56 => ⟨S8192x512, .f32⟩
  | 57 => ⟨S1x512, .f32⟩
  | 58 => ⟨S512, .f32⟩
  | 59 => ⟨S8192x512, .f32⟩
  | 60 => ⟨S1x512, .f32⟩
  | 61 => ⟨S8192x512, .f32⟩
  | 62 => ⟨S8192x512, .f32⟩
  | 63 => ⟨S8192x512, .f32⟩
  | 64 => ⟨S1x512, .f32⟩
  | 65 => ⟨S512, .f32⟩
  | 66 => ⟨S8192x512, .f32⟩
  | 67 => ⟨S1x512, .f32⟩
  | 68 => ⟨S8192x512, .f32⟩
  | 69 => ⟨S8192x512, .f32⟩
  | 70 => ⟨S8192x512, .f32⟩
  | 71 => ⟨S1x512, .f32⟩
  | 72 => ⟨S512, .f32⟩
  | 73 => ⟨S8192x512, .f32⟩
  | 74 => ⟨S1x512, .f32⟩
  | 75 => ⟨S8192x512, .f32⟩
  | 76 => ⟨S8192x512, .f32⟩
  | 77 => ⟨S8192x512, .f32⟩
  | 78 => ⟨S1x512, .f32⟩
  | 79 => ⟨S512, .f32⟩
  | 80 => ⟨S8192x512, .f32⟩
  | 81 => ⟨S1x512, .f32⟩
  | 82 => ⟨S8192x512, .f32⟩
  | 83 => ⟨S8192x512, .f32⟩
  | 84 => ⟨S8192x512, .f32⟩
  | 85 => ⟨S1x512, .f32⟩
  | 86 => ⟨S512, .f32⟩
  | 87 => ⟨S8192x512, .f32⟩
  | 88 => ⟨S1x512, .f32⟩
  | 89 => ⟨S8192x512, .f32⟩
  | 90 => ⟨S8192x512, .f32⟩
  | 91 => ⟨S8192x512, .f32⟩
  | 92 => ⟨S1x512, .f32⟩
  | 93 => ⟨S512, .f32⟩
  | 94 => ⟨S8192x512, .f32⟩
  | 95 => ⟨S1x512, .f32⟩
  | 96 => ⟨S8192x512, .f32⟩
  | 97 => ⟨S8192x512, .f32⟩
  | 98 => ⟨S8192x512, .f32⟩
  | 99 => ⟨S1x512, .f32⟩
  | 100 => ⟨S512, .f32⟩
  | 101 => ⟨S8192x512, .f32⟩
  | 102 => ⟨S1x512, .f32⟩
  | 103 => ⟨S8192x512, .f32⟩
  | 104 => ⟨S8192x512, .f32⟩
  | 105 => ⟨S8192x512, .f32⟩
  | 106 => ⟨S1x512, .f32⟩
  | 107 => ⟨S512, .f32⟩
  | 108 => ⟨S8192x512, .f32⟩
  | 109 => ⟨S1x512, .f32⟩
  | 110 => ⟨S8192x512, .f32⟩
  | 111 => ⟨S8192x512, .f32⟩
  | 112 => ⟨S8192x512, .f32⟩
  | 113 => ⟨S1x512, .f32⟩
  | 114 => ⟨S512, .f32⟩
  | 115 => ⟨S8192x512, .f32⟩
  | 116 => ⟨S1x512, .f32⟩
  | 117 => ⟨S8192x512, .f32⟩
  | 118 => ⟨S8192x512, .f32⟩
  | 119 => ⟨S8192x512, .f32⟩
  | 120 => ⟨S1x512, .f32⟩
  | 121 => ⟨S512, .f32⟩
  | 122 => ⟨S8192x512, .f32⟩
  | 123 => ⟨S1x512, .f32⟩
  | 124 => ⟨S8192x512, .f32⟩
  | 125 => ⟨S8192x512, .f32⟩
  | 126 => ⟨S8192x512, .f32⟩
  | 127 => ⟨S1x512, .f32⟩
  | _ => ⟨S8192x1792, .f32⟩

abbrev hbmTy0_1 (i : Nat) : BufTy := match i % 128 with
  | 0 => ⟨S512, .f32⟩
  | 1 => ⟨S8192x512, .f32⟩
  | 2 => ⟨S1x512, .f32⟩
  | 3 => ⟨S8192x512, .f32⟩
  | 4 => ⟨S8192x512, .f32⟩
  | 5 => ⟨S8192x512, .f32⟩
  | 6 => ⟨S1x512, .f32⟩
  | 7 => ⟨S512, .f32⟩
  | 8 => ⟨S8192x512, .f32⟩
  | 9 => ⟨S1x512, .f32⟩
  | 10 => ⟨S8192x512, .f32⟩
  | 11 => ⟨S8192x512, .f32⟩
  | 12 => ⟨S8192x512, .f32⟩
  | 13 => ⟨S1x512, .f32⟩
  | 14 => ⟨S512, .f32⟩
  | 15 => ⟨S8192x512, .f32⟩
  | 16 => ⟨S1x512, .f32⟩
  | 17 => ⟨S8192x512, .f32⟩
  | 18 => ⟨S8192x512, .f32⟩
  | 19 => ⟨S8192x512, .f32⟩
  | 20 => ⟨S1x512, .f32⟩
  | 21 => ⟨S512, .f32⟩
  | 22 => ⟨S8192x512, .f32⟩
  | 23 => ⟨S1x512, .f32⟩
  | 24 => ⟨S8192x512, .f32⟩
  | 25 => ⟨S8192x512, .f32⟩
  | 26 => ⟨S8192x512, .f32⟩
  | 27 => ⟨S1x512, .f32⟩
  | 28 => ⟨S512, .f32⟩
  | 29 => ⟨S8192x512, .f32⟩
  | 30 => ⟨S1x512, .f32⟩
  | 31 => ⟨S8192x512, .f32⟩
  | 32 => ⟨S8192x512, .f32⟩
  | 33 => ⟨S8192x512, .f32⟩
  | 34 => ⟨S1x512, .f32⟩
  | 35 => ⟨S512, .f32⟩
  | 36 => ⟨S8192x512, .f32⟩
  | 37 => ⟨S1x512, .f32⟩
  | 38 => ⟨S8192x512, .f32⟩
  | 39 => ⟨S8192x512, .f32⟩
  | 40 => ⟨S8192x512, .f32⟩
  | 41 => ⟨S1x512, .f32⟩
  | 42 => ⟨S512, .f32⟩
  | 43 => ⟨S8192x512, .f32⟩
  | 44 => ⟨S1x512, .f32⟩
  | 45 => ⟨S8192x512, .f32⟩
  | 46 => ⟨S8192x512, .f32⟩
  | 47 => ⟨S8192x512, .f32⟩
  | 48 => ⟨S1x512, .f32⟩
  | 49 => ⟨S512, .f32⟩
  | 50 => ⟨S8192x512, .f32⟩
  | 51 => ⟨S1x512, .f32⟩
  | 52 => ⟨S8192x512, .f32⟩
  | 53 => ⟨S8192x512, .f32⟩
  | 54 => ⟨S8192x512, .f32⟩
  | 55 => ⟨S1x512, .f32⟩
  | 56 => ⟨S512, .f32⟩
  | 57 => ⟨S8192x512, .f32⟩
  | 58 => ⟨S1x512, .f32⟩
  | 59 => ⟨S8192x512, .f32⟩
  | 60 => ⟨S8192x512, .f32⟩
  | 61 => ⟨S8192x512, .f32⟩
  | 62 => ⟨S1x512, .f32⟩
  | 63 => ⟨S512, .f32⟩
  | 64 => ⟨S8192x512, .f32⟩
  | 65 => ⟨S1x512, .f32⟩
  | 66 => ⟨S8192x512, .f32⟩
  | 67 => ⟨S8192x512, .f32⟩
  | 68 => ⟨S8192x512, .f32⟩
  | 69 => ⟨S1x512, .f32⟩
  | 70 => ⟨S512, .f32⟩
  | 71 => ⟨S8192x512, .f32⟩
  | 72 => ⟨S1x512, .f32⟩
  | 73 => ⟨S8192x512, .f32⟩
  | 74 => ⟨S8192x512, .f32⟩
  | 75 => ⟨S8192x512, .f32⟩
  | 76 => ⟨S1x512, .f32⟩
  | 77 => ⟨S512, .f32⟩
  | 78 => ⟨S8192x512, .f32⟩
  | 79 => ⟨S1x512, .f32⟩
  | 80 => ⟨S8192x512, .f32⟩
  | 81 => ⟨S8192x512, .f32⟩
  | 82 => ⟨S8192x512, .f32⟩
  | 83 => ⟨S1x512, .f32⟩
  | 84 => ⟨S512, .f32⟩
  | 85 => ⟨S8192x512, .f32⟩
  | 86 => ⟨S1x512, .f32⟩
  | 87 => ⟨S8192x512, .f32⟩
  | 88 => ⟨S8192x512, .f32⟩
  | 89 => ⟨S8192x512, .f32⟩
  | 90 => ⟨S1x512, .f32⟩
  | 91 => ⟨S512, .f32⟩
  | 92 => ⟨S8192x512, .f32⟩
  | 93 => ⟨S1x512, .f32⟩
  | 94 => ⟨S8192x512, .f32⟩
  | 95 => ⟨S8192x512, .f32⟩
  | 96 => ⟨S8192x512, .f32⟩
  | 97 => ⟨S1x512, .f32⟩
  | 98 => ⟨S512, .f32⟩
  | 99 => ⟨S8192x512, .f32⟩
  | 100 => ⟨S1x512, .f32⟩
  | 101 => ⟨S8192x512, .f32⟩
  | 102 => ⟨S8192x512, .f32⟩
  | 103 => ⟨S8192x512, .f32⟩
  | 104 => ⟨S1x512, .f32⟩
  | 105 => ⟨S512, .f32⟩
  | 106 => ⟨S8192x512, .f32⟩
  | 107 => ⟨S1x512, .f32⟩
  | 108 => ⟨S8192x512, .f32⟩
  | 109 => ⟨S8192x512, .f32⟩
  | 110 => ⟨S8192x512, .f32⟩
  | 111 => ⟨S1x512, .f32⟩
  | 112 => ⟨S8192x512, .f32⟩
  | 113 => ⟨S8192x512, .f32⟩
  | 114 => ⟨S_, .f32⟩
  | 115 => ⟨S8192, .f32⟩
  | 116 => ⟨S8192x1, .f32⟩
  | 117 => ⟨S_, .f32⟩
  | 118 => ⟨S8192x1, .f32⟩
  | 119 => ⟨S8192x1, .f32⟩
  | 120 => ⟨S8192x512, .f32⟩
  | 121 => ⟨S8192x512, .f32⟩
  | 122 => ⟨S8192x512, .f32⟩
  | 123 => ⟨S_, .f32⟩
  | 124 => ⟨S8192x512, .f32⟩
  | 125 => ⟨S8192x512, .f32⟩
  | 126 => ⟨S_, .f32⟩
  | 127 => ⟨S8192, .f32⟩
  | _ => ⟨S8192x1792, .f32⟩

abbrev hbmTy0_2 (i : Nat) : BufTy := match i % 128 with
  | 0 => ⟨S8192x1, .f32⟩
  | 1 => ⟨S_, .f32⟩
  | 2 => ⟨S8192x1, .f32⟩
  | 3 => ⟨S8192x1, .f32⟩
  | 4 => ⟨S8192x512, .f32⟩
  | 5 => ⟨S8192x512, .f32⟩
  | 6 => ⟨S_, .f32⟩
  | 7 => ⟨S8192x1, .f32⟩
  | 8 => ⟨S8192x1, .f32⟩
  | 9 => ⟨S8192x1, .f32⟩
  | 10 => ⟨S8192x1, .f32⟩
  | 11 => ⟨S_, .f32⟩
  | 12 => ⟨S8192x1, .f32⟩
  | 13 => ⟨S8192x1, .f32⟩
  | 14 => ⟨S8192x512, .f32⟩
  | 15 => ⟨S8192x512, .f32⟩
  | 16 => ⟨S1x512, .f32⟩
  | 17 => ⟨S8192x512, .f32⟩
  | 18 => ⟨S8192x512, .f32⟩
  | 19 => ⟨S1x512, .f32⟩
  | 20 => ⟨S8192x512, .f32⟩
  | 21 => ⟨S8192x512, .f32⟩
  | 22 => ⟨S8192x512, .f32⟩
  | 23 => ⟨S8192x512, .f32⟩
  | 24 => ⟨S_, .f32⟩
  | 25 => ⟨S8192x512, .f32⟩
  | 26 => ⟨S8192x512, .f32⟩
  | 27 => ⟨S_, .f32⟩
  | 28 => ⟨S8192x512, .f32⟩
  | 29 => ⟨S8192x512, .f32⟩
  | 30 => ⟨S_, .f32⟩
  | 31 => ⟨S8192x512, .f32⟩
  | 32 => ⟨S8192x512, .f32⟩
  | 33 => ⟨S8192x512, .f32⟩
  | 34 => ⟨S8192x512, .f32⟩
  | 35 => ⟨S8192x512, .f32⟩
  | 36 => ⟨S8192x512, .f32⟩
  | 37 => ⟨S8192x512, .f32⟩
  | 38 => ⟨S8192x512, .f32⟩
  | 39 => ⟨S8192x512, .f32⟩
  | 40 => ⟨S_, .f32⟩
  | 41 => ⟨S512, .f32⟩
  | 42 => ⟨S1x512, .f32⟩
  | 43 => ⟨S_, .f32⟩
  | 44 => ⟨S512, .f32⟩
  | 45 => ⟨S8192x512, .f32⟩
  | 46 => ⟨S_, .f32⟩
  | 47 => ⟨S512, .f32⟩
  | 48 => ⟨S1x512, .f32⟩
  | 49 => ⟨S8192x512, .f32⟩
  | 50 => ⟨S8192x512, .f32⟩
  | 51 => ⟨S_, .f32⟩
  | 52 => ⟨S512, .f32⟩
  | 53 => ⟨S8192x512, .f32⟩
  | 54 => ⟨S_, .f32⟩
  | 55 => ⟨S8192, .f32⟩
  | 56 => ⟨S8192x1, .f32⟩
  | 57 => ⟨S8192x512, .f32⟩
  | 58 => ⟨S8192x512, .f32⟩
  | 59 => ⟨S8192x1, .f32⟩
  | 60 => ⟨S8192x512, .f32⟩
  | 61 => ⟨S_, .f32⟩
  | 62 => ⟨S8192, .f32⟩
  | 63 => ⟨S8192x1, .f32⟩
  | 64 => ⟨S_, .f32⟩
  | 65 => ⟨S8192x1, .f32⟩
  | 66 => ⟨S8192x1, .f32⟩
  | 67 => ⟨S_, .f32⟩
  | 68 => ⟨S8192, .f32⟩
  | 69 => ⟨S8192x512, .f32⟩
  | 70 => ⟨S8192x512, .f32⟩
  | 71 => ⟨S8192x512, .f32⟩
  | 72 => ⟨S_, .f32⟩
  | 73 => ⟨S8192, .f32⟩
  | 74 => ⟨S8192x1, .f32⟩
  | 75 => ⟨S8192x512, .f32⟩
  | 76 => ⟨S8192x1, .f32⟩
  | 77 => ⟨S_, .f32⟩
  | 78 => ⟨S8192x1, .f32⟩
  | 79 => ⟨S8192x1, .f32⟩
  | 80 => ⟨S_, .f32⟩
  | 81 => ⟨S8192, .f32⟩
  | 82 => ⟨S8192x512, .f32⟩
  | 83 => ⟨S8192x512, .f32⟩
  | 84 => ⟨S_, .f32⟩
  | 85 => ⟨S512, .f32⟩
  | 86 => ⟨S1x512, .f32⟩
  | 87 => ⟨S_, .f32⟩
  | 88 => ⟨S512, .f32⟩
  | 89 => ⟨S1x512, .f32⟩
  | 90 => ⟨S1x512, .f32⟩
  | 91 => ⟨S1x512, .f32⟩
  | 92 => ⟨S3x512, .f32⟩
  | _ => ⟨S8192x1792, .f32⟩

abbrev hbmTy (i : Nat) : BufTy := match i / 128 with
  | 0 => hbmTy0_0 i
  | 1 => hbmTy0_1 i
  | 2 => hbmTy0_2 i
  | _ => ⟨S8192x1792, .f32⟩

abbrev bufTy : (tb : Table) → Fin (tcTables nBuf tb) → BufTy
  | .hbm, ⟨i, _⟩ => hbmTy i
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_cst_3 : Ref sig .tc := ⟨.hbm, 242, rfl⟩
abbrev main_v232 : Ref sig .tc := ⟨.hbm, 243, rfl⟩
abbrev main_v233 : Ref sig .tc := ⟨.hbm, 244, rfl⟩
abbrev main_cst_4 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_cst_5 : Ref sig .tc := ⟨.hbm, 251, rfl⟩
abbrev main_v239 : Ref sig .tc := ⟨.hbm, 252, rfl⟩
abbrev main_v240 : Ref sig .tc := ⟨.hbm, 253, rfl⟩
abbrev main_cst_6 : Ref sig .tc := ⟨.hbm, 254, rfl⟩
abbrev main_v241 : Ref sig .tc := ⟨.hbm, 255, rfl⟩
abbrev main_v242 : Ref sig .tc := ⟨.hbm, 256, rfl⟩
abbrev main_cst_7 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_cst_8 : Ref sig .tc := ⟨.hbm, 262, rfl⟩
abbrev main_v247 : Ref sig .tc := ⟨.hbm, 263, rfl⟩
abbrev main_v248 : Ref sig .tc := ⟨.hbm, 264, rfl⟩
abbrev main_v249 : Ref sig .tc := ⟨.hbm, 265, rfl⟩
abbrev main_v250 : Ref sig .tc := ⟨.hbm, 266, rfl⟩
abbrev main_cst_9 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_v257 : Ref sig .tc := ⟨.hbm, 274, rfl⟩
abbrev main_v258 : Ref sig .tc := ⟨.hbm, 275, rfl⟩
abbrev main_v259 : Ref sig .tc := ⟨.hbm, 276, rfl⟩
abbrev main_v260 : Ref sig .tc := ⟨.hbm, 277, rfl⟩
abbrev main_call0_v0 : Ref sig .tc := ⟨.hbm, 278, rfl⟩
abbrev main_call0_v1 : Ref sig .tc := ⟨.hbm, 279, rfl⟩
abbrev main_call0_cst : Ref sig .tc := ⟨.hbm, 280, rfl⟩
abbrev main_call0_v2 : Ref sig .tc := ⟨.hbm, 281, rfl⟩
abbrev main_call0_v3 : Ref sig .tc := ⟨.hbm, 282, rfl⟩
abbrev main_call0_cst_0 : Ref sig .tc := ⟨.hbm, 283, rfl⟩
abbrev main_call0_v4 : Ref sig .tc := ⟨.hbm, 284, rfl⟩
abbrev main_v261_2 : Ref sig .tc := ⟨.hbm, 285, rfl⟩
abbrev main_call0_cst_1 : Ref sig .tc := ⟨.hbm, 286, rfl⟩
abbrev main_call0_v6 : Ref sig .tc := ⟨.hbm, 287, rfl⟩
abbrev main_call0_v7 : Ref sig .tc := ⟨.hbm, 288, rfl⟩
abbrev main_v261_1 : Ref sig .tc := ⟨.hbm, 289, rfl⟩
abbrev main_v261_0 : Ref sig .tc := ⟨.hbm, 290, rfl⟩
abbrev main_v262 : Ref sig .tc := ⟨.hbm, 291, rfl⟩
abbrev main_call1_v0 : Ref sig .tc := ⟨.hbm, 292, rfl⟩
abbrev main_call1_v1 : Ref sig .tc := ⟨.hbm, 293, rfl⟩
abbrev main_call1_v2 : Ref sig .tc := ⟨.hbm, 294, rfl⟩
abbrev main_v263 : Ref sig .tc := ⟨.hbm, 295, rfl⟩
abbrev main_cst_10 : Ref sig .tc := ⟨.hbm, 296, rfl⟩
abbrev main_v264 : Ref sig .tc := ⟨.hbm, 297, rfl⟩
abbrev main_v265 : Ref sig .tc := ⟨.hbm, 298, rfl⟩
abbrev main_cst_11 : Ref sig .tc := ⟨.hbm, 299, rfl⟩
abbrev main_v266 : Ref sig .tc := ⟨.hbm, 300, rfl⟩
abbrev main_v267 : Ref sig .tc := ⟨.hbm, 301, rfl⟩
abbrev main_cst_12 : Ref sig .tc := ⟨.hbm, 302, rfl⟩
abbrev main_v268 : Ref sig .tc := ⟨.hbm, 303, rfl⟩
abbrev main_v269 : Ref sig .tc := ⟨.hbm, 304, rfl⟩
abbrev main_v270 : Ref sig .tc := ⟨.hbm, 305, rfl⟩
abbrev main_v271 : Ref sig .tc := ⟨.hbm, 306, rfl⟩
abbrev main_cst_13 : Ref sig .tc := ⟨.hbm, 307, rfl⟩
abbrev main_v272 : Ref sig .tc := ⟨.hbm, 308, rfl⟩
abbrev main_v273 : Ref sig .tc := ⟨.hbm, 309, rfl⟩
abbrev main_cst_14 : Ref sig .tc := ⟨.hbm, 310, rfl⟩
abbrev main_v274 : Ref sig .tc := ⟨.hbm, 311, rfl⟩
abbrev main_v275 : Ref sig .tc := ⟨.hbm, 312, rfl⟩
abbrev main_v276 : Ref sig .tc := ⟨.hbm, 313, rfl⟩
abbrev main_v277 : Ref sig .tc := ⟨.hbm, 314, rfl⟩
abbrev main_v278 : Ref sig .tc := ⟨.hbm, 315, rfl⟩
abbrev main_v279 : Ref sig .tc := ⟨.hbm, 316, rfl⟩
abbrev main_cst_15 : Ref sig .tc := ⟨.hbm, 317, rfl⟩
abbrev main_v280 : Ref sig .tc := ⟨.hbm, 318, rfl⟩
abbrev main_v281 : Ref sig .tc := ⟨.hbm, 319, rfl⟩
abbrev main_cst_16 : Ref sig .tc := ⟨.hbm, 320, rfl⟩
abbrev main_v282 : Ref sig .tc := ⟨.hbm, 321, rfl⟩
abbrev main_v283 : Ref sig .tc := ⟨.hbm, 322, rfl⟩
abbrev main_cst_17 : Ref sig .tc := ⟨.hbm, 323, rfl⟩
abbrev main_v284 : Ref sig .tc := ⟨.hbm, 324, rfl⟩
abbrev main_v285 : Ref sig .tc := ⟨.hbm, 325, rfl⟩
abbrev main_v286 : Ref sig .tc := ⟨.hbm, 326, rfl⟩
abbrev main_v287 : Ref sig .tc := ⟨.hbm, 327, rfl⟩
abbrev main_cst_18 : Ref sig .tc := ⟨.hbm, 328, rfl⟩
abbrev main_v288 : Ref sig .tc := ⟨.hbm, 329, rfl⟩
abbrev main_v289 : Ref sig .tc := ⟨.hbm, 330, rfl⟩
abbrev main_v290 : Ref sig .tc := ⟨.hbm, 331, rfl⟩
abbrev main_v291 : Ref sig .tc := ⟨.hbm, 332, rfl⟩
abbrev main_cst_19 : Ref sig .tc := ⟨.hbm, 333, rfl⟩
abbrev main_v292 : Ref sig .tc := ⟨.hbm, 334, rfl⟩
abbrev main_v293 : Ref sig .tc := ⟨.hbm, 335, rfl⟩
abbrev main_cst_20 : Ref sig .tc := ⟨.hbm, 336, rfl⟩
abbrev main_v294 : Ref sig .tc := ⟨.hbm, 337, rfl⟩
abbrev main_v295 : Ref sig .tc := ⟨.hbm, 338, rfl⟩
abbrev main_v296 : Ref sig .tc := ⟨.hbm, 339, rfl⟩
abbrev main_cst_21 : Ref sig .tc := ⟨.hbm, 340, rfl⟩
abbrev main_v297 : Ref sig .tc := ⟨.hbm, 341, rfl⟩
abbrev main_v298 : Ref sig .tc := ⟨.hbm, 342, rfl⟩
abbrev main_cst_22 : Ref sig .tc := ⟨.hbm, 343, rfl⟩
abbrev main_v299 : Ref sig .tc := ⟨.hbm, 344, rfl⟩
abbrev main_v300 : Ref sig .tc := ⟨.hbm, 345, rfl⟩
abbrev main_v301 : Ref sig .tc := ⟨.hbm, 346, rfl⟩
abbrev main_v302 : Ref sig .tc := ⟨.hbm, 347, rfl⟩
abbrev main_v303 : Ref sig .tc := ⟨.hbm, 348, rfl⟩

abbrev nD : Nat := 1
abbrev τ : Topo := Topo.v7x

variable {F : FTy → Type} [FloatOps F]
-- ==== Window.lean ====
abbrev S8192x1792 : Shape := ⟨2, ![8192, 1792]⟩
abbrev S8 : Shape := ⟨1, ![8]⟩
abbrev S8192x1024 : Shape := ⟨2, ![8192, 1024]⟩
abbrev S8192x128 : Shape := ⟨2, ![8192, 128]⟩
abbrev S_ : Shape := ⟨0, ![]⟩
abbrev S8320x128 : Shape := ⟨2, ![8320, 128]⟩
abbrev S8192x512 : Shape := ⟨2, ![8192, 512]⟩
abbrev S8x128 : Shape := ⟨2, ![8, 128]⟩
abbrev S256x512 : Shape := ⟨2, ![256, 512]⟩
abbrev S512x256 : Shape := ⟨2, ![512, 256]⟩
abbrev S512x1 : Shape := ⟨2, ![512, 1]⟩
abbrev S1 : Shape := ⟨1, ![1]⟩
abbrev S256x64 : Shape := ⟨2, ![256, 64]⟩
abbrev S128x64 : Shape := ⟨2, ![128, 64]⟩
abbrev S512x64 : Shape := ⟨2, ![512, 64]⟩
abbrev S512 : Shape := ⟨1, ![512]⟩
abbrev S1x128 : Shape := ⟨2, ![1, 128]⟩
abbrev S128x1 : Shape := ⟨2, ![128, 1]⟩
abbrev S1x1 : Shape := ⟨2, ![1, 1]⟩

abbrev nBuf : Space → Nat
  | .hbm => 17
  | .vmem => 11
  | .smem => 1
  | _ => 0

abbrev bufTy : (tb : Table) → Fin (tcTables nBuf tb) → BufTy
  | .hbm, ⟨0, _⟩ => ⟨S8192x1792, .f32⟩
  | .hbm, ⟨1, _⟩ => ⟨S8, .f32⟩
  | .hbm, ⟨2, _⟩ => ⟨S8192x1024, .f32⟩
  | .hbm, ⟨3, _⟩ => ⟨S8192x1792, .bf16⟩
  | .hbm, ⟨4, _⟩ => ⟨S8192x128, .bf16⟩
  | .hbm, ⟨5, _⟩ => ⟨S_, .i32⟩
  | .hbm, ⟨6, _⟩ => ⟨S_, .bf16⟩
  | .hbm, ⟨7, _⟩ => ⟨S8320x128, .bf16⟩
  | .hbm, ⟨8, _⟩ => ⟨S8192x128, .bf16⟩
  | .hbm, ⟨9, _⟩ => ⟨S_, .i32⟩
  | .hbm, ⟨10, _⟩ => ⟨S_, .bf16⟩
  | .hbm, ⟨11, _⟩ => ⟨S8320x128, .bf16⟩
  | .hbm, ⟨12, _⟩ => ⟨S8192x1024, .bf16⟩
  | .hbm, ⟨13, _⟩ => ⟨S8192x512, .bf16⟩
  | .hbm, ⟨14, _⟩ => ⟨S8320x128, .f32⟩
  | .hbm, ⟨15, _⟩ => ⟨S8320x128, .f32⟩
  | .hbm, ⟨16, _⟩ => ⟨S8x128, .f32⟩
  | .local _ .vmem, ⟨0, _⟩ => ⟨S256x512, .bf16⟩
  | .local _ .vmem, ⟨1, _⟩ => ⟨S256x512, .bf16⟩
  | .local _ .vmem, ⟨2, _⟩ => ⟨S8320x128, .bf16⟩
  | .local _ .vmem, ⟨3, _⟩ => ⟨S8320x128, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S8320x128, .f32⟩
  | .local _ .vmem, ⟨9, _⟩ => ⟨S8320x128, .f32⟩
  | .local _ .vmem, ⟨10, _⟩ => ⟨S8x128, .f32⟩
  | .local _ .smem, ⟨0, _⟩ => ⟨S8, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c2_i32_17 : BitVec 32 := 2#32
  let v71 : BitVec 32 := Scalar.muli arg0 c2_i32_17
  let c0_i32_18 : BitVec 32 := 0#32
  let v72 : BitVec 32 := Scalar.addi v71 c0_i32_18
  let c128_i32_19 : BitVec 32 := 128#32
  let v73 : BitVec 32 := Scalar.muli v72 c128_i32_19
  v73
def k0_off1 (i : grid0.Coords) (c0_i32_18 : BitVec 32) : Fin 2 → Nat :=
  let arg0 : BitVec 32 := BitVec.ofNat 32 (i 0).val
  let c2_i32_17 : BitVec 32 := 2#32
  let v71 : BitVec 32 := Scalar.muli arg0 c2_i32_17
  let v72 : BitVec 32 := Scalar.addi v71 c0_i32_18
  let c128_i32_19 : BitVec 32 := 128#32
  let v73 : BitVec 32 := Scalar.muli v72 c128_i32_19
  let v74 : BitVec 32 := v73
  let v81 : Index := Scalar.indexCast v74
  let c0_22 : Index := 0#32
  ![v81.toNat, 0]
def k0_mult2 (i : grid0.Coords) : BitVec 32 :=
  let arg0 : BitVec 32 := BitVec.ofNat 32 (i 0).val
  let c2_i32_86 : BitVec 32 := 2#32
  let v213 : BitVec 32 := Scalar.muli arg0 c2_i32_86
  let c1_i32_87 : BitVec 32 := 1#32
  let v214 : BitVec 32 := Scalar.addi v213 c1_i32_87
  let c128_i32_88 : BitVec 32 := 128#32
  let v215 : BitVec 32 := Scalar.muli v214 c128_i32_88
  v215
def k0_mult3 (i : grid0.Coords) : BitVec 32 :=
  let arg0 : BitVec 32 := BitVec.ofNat 32 (i 0).val
  let c2_i32_168 : BitVec 32 := 2#32
  let v385 : BitVec 32 := Scalar.muli arg0 c2_i32_168
  let c0_i32_169 : BitVec 32 := 0#32
  let v386 : BitVec 32 := Scalar.addi v385 c0_i32_169
  let c128_i32_170 : BitVec 32 := 128#32
  let v387 : BitVec 32 := Scalar.muli v386 c128_i32_170
  v387
def k0_off2 (i : grid0.Coords) (c0_i32_169 : BitVec 32) : Fin 2 → Nat :=
  let arg0 : BitVec 32 := BitVec.ofNat 32 (i 0).val
  let c2_i32_168 : BitVec 32 := 2#32
  let v385 : BitVec 32 := Scalar.muli arg0 c2_i32_168
  let v386 : BitVec 32 := Scalar.addi v385 c0_i32_169
  let c128_i32_170 : BitVec 32 := 128#32
  let v387 : BitVec 32 := Scalar.muli v386 c128_i32_170
  let v388 : BitVec 32 := v387
  let v395 : Index := Scalar.indexCast v388
  let c64_173 : Index := 64#32
  ![v395.toNat, 64]
def k0_mult4 (i : grid0.Coords) : BitVec 32 :=
  let arg0 : BitVec 32 := BitVec.ofNat 32 (i 0).val
  let c2_i32_236 : BitVec 32 := 2#32
  let v527 : BitVec 32 := Scalar.muli arg0 c2_i32_236
  let c1_i32_237 : BitVec 32 := 1#32
  let v528 : BitVec 32 := Scalar.addi v527 c1_i32_237
  let c128_i32_238 : BitVec 32 := 128#32
  let v529 : BitVec 32 := Scalar.muli v528 c128_i32_238
  v529
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8320x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8320x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8320x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8320x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== WindowIdeal.lean ====
variable {F : FTy → Type} [FloatOps F] [Named F]
def κ : String → Option EReal := fun
  | "mask" => some ⊥
  | _ => none
-- ==== WindowRefIdeal.lean ====
abbrev S8192x1792 : Shape := ⟨2, ![8192, 1792]⟩
abbrev S8 : Shape := ⟨1, ![8]⟩
abbrev S8192x1024 : Shape := ⟨2, ![8192, 1024]⟩
abbrev S8192x512 : Shape := ⟨2, ![8192, 512]⟩
abbrev S8192x2x4x64 : Shape := ⟨4, ![8192, 2, 4, 64]⟩
abbrev S8192x128 : Shape := ⟨2, ![8192, 128]⟩
abbrev S8192x2x64 : Shape := ⟨3, ![8192, 2, 64]⟩
abbrev S64x128x2x4x64 : Shape := ⟨5, ![64, 128, 2, 4, 64]⟩
abbrev S64x128x2x64 : Shape := ⟨4, ![64, 128, 2, 64]⟩
abbrev S_ : Shape := ⟨0, ![]⟩
abbrev S1x128x2x64 : Shape := ⟨4, ![1, 128, 2, 64]⟩
abbrev S63x128x2x64 : Shape := ⟨4, ![63, 128, 2, 64]⟩
abbrev S64x256x2x64 : Shape := ⟨4, ![64, 256, 2, 64]⟩
abbrev S64x2x256x128x4 : Shape := ⟨5, ![64, 2, 256, 128, 4]⟩
abbrev S64x2x4x128x256 : Shape := ⟨5, ![64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S2x4 : Shape := ⟨2, ![2, 4]⟩
abbrev S2x4x1x1 : Shape := ⟨4, ![2, 4, 1, 1]⟩
abbrev S1x1x128x256 : Shape := ⟨4, ![1, 1, 128, 256]⟩
abbrev S2x4x128x256 : Shape := ⟨4, ![2, 4, 128, 256]⟩
abbrev S1x2x4x128x256 : Shape := ⟨5, ![1, 2, 4, 128, 256]⟩
abbrev S64x1x1x128x256 : Shape := ⟨5, ![64, 1, 1, 128, 256]⟩
abbrev S1x2x4x1x1 : Shape := ⟨5, ![1, 2, 4, 1, 1]⟩
abbrev S64x2x4x128x1 : Shape := ⟨5, ![64, 2, 4, 128, 1]⟩
abbrev S64x2x4x128x257 : Shape := ⟨5, ![64, 2, 4, 128, 257]⟩
abbrev S64x2x4x128 : Shape := ⟨4, ![64, 2, 4, 128]⟩
abbrev S64x2x64x4x128 : Shape := ⟨5, ![64, 2, 64, 4, 128]⟩
abbrev S64x2x64x256 : Shape := ⟨4, ![64, 2, 64, 256]⟩
abbrev S64x2x128x4x64 : Shape := ⟨5, ![64, 2, 128, 4, 64]⟩
abbrev S64x2x256x64 : Shape := ⟨4, ![64, 2, 256, 64]⟩
abbrev S8320x128 : Shape := ⟨2, ![8320, 128]⟩
abbrev S8x1 : Shape := ⟨2, ![8, 1]⟩
abbrev S8x128 : Shape := ⟨2, ![8, 128]⟩

abbrev nBuf : Space → Nat
  | .hbm => 214
  | .vmem => 0
  | .smem => 0
  | _ => 0

abbrev hbmTy0_0 (i : Nat) : BufTy := match i % 128 with
  | 0 => ⟨S8192x1792, .f32⟩
  | 1 => ⟨S8, .f32⟩
  | 2 => ⟨S8192x1024, .f32⟩
  | 3 => ⟨S8192x512, .f32⟩
  | 4 => ⟨S8192x2x4x64, .f32⟩
  | 5 => ⟨S8192x128, .f32⟩
  | 6 => ⟨S8192x2x64, .f32⟩
  | 7 => ⟨S8192x128, .f32⟩
  | 8 => ⟨S8192x2x64, .f32⟩
  | 9 => ⟨S64x128x2x4x64, .f32⟩
  | 10 => ⟨S64x128x2x64, .f32⟩
  | 11 => ⟨S64x128x2x64, .f32⟩
  | 12 => ⟨S_, .f32⟩
  | 13 => ⟨S1x128x2x64, .f32⟩
  | 14 => ⟨S63x128x2x64, .f32⟩
  | 15 => ⟨S64x128x2x64, .f32⟩
  | 16 => ⟨S_, .f32⟩
  | 17 => ⟨S1x128x2x64, .f32⟩
  | 18 => ⟨S64x256x2x64, .f32⟩
  | 19 => ⟨S63x128x2x64, .f32⟩
  | 20 => ⟨S64x128x2x64, .f32⟩
  | 21 => ⟨S_, .f32⟩
  | 22 => ⟨S1x128x2x64, .f32⟩
  | 23 => ⟨S64x256x2x64, .f32⟩
  | 24 => ⟨S64x2x256x128x4, .f32⟩
  | 25 => ⟨S64x2x4x128x256, .f32⟩
  | 26 => ⟨S_, .f32⟩
  | 27 => ⟨S64x2x4x128x256, .f32⟩
  | 28 => ⟨S64x2x4x128x256, .f32⟩
  | 29 => ⟨S128, .i32⟩
  | 30 => ⟨S128x1, .i32⟩
  | 31 => ⟨S_, .i32⟩
  | 32 => ⟨S128x1, .i32⟩
  | 33 => ⟨S128x1, .i32⟩
  | 34 => ⟨S256, .i32⟩
  | 35 => ⟨S1x256, .i32⟩
  | 36 => ⟨S128x256, .i32⟩
  | 37 => ⟨S128x256, .i32⟩
  | 38 => ⟨S128x256, .i32⟩
  | 39 => ⟨S64, .i32⟩
  | 40 => ⟨S64x1, .i32⟩
  | 41 => ⟨S_, .i32⟩
  | 42 => ⟨S64x1, .i32⟩
  | 43 => ⟨S64x1, .i32⟩
  | 44 => ⟨S_, .i32⟩
  | 45 => ⟨S64x1, .i32⟩
  | 46 => ⟨S64x1, .i32⟩
  | 47 => ⟨S256, .i32⟩
  | 48 => ⟨S1x256, .i32⟩
  | 49 => ⟨S64x256, .i32⟩
  | 50 => ⟨S64x256, .i32⟩
  | 51 => ⟨S64x256, .i32⟩
  | 52 => ⟨S_, .i32⟩
  | 53 => ⟨S128x256, .i32⟩
  | 54 => ⟨S128x256, .i1⟩
  | 55 => ⟨S_, .i32⟩
  | 56 => ⟨S128x256, .i32⟩
  | 57 => ⟨S128x256, .i1⟩
  | 58 => ⟨S128x256, .i1⟩
  | 59 => ⟨S1x128x256, .i1⟩
  | 60 => ⟨S_, .i32⟩
  | 61 => ⟨S64x256, .i32⟩
  | 62 => ⟨S64x256, .i1⟩
  | 63 => ⟨S64x1x256, .i1⟩
  | 64 => ⟨S64x128x256, .i1⟩
  | 65 => ⟨S64x128x256, .i1⟩
  | 66 => ⟨S64x128x256, .i1⟩
  | 67 => ⟨S8, .f32⟩
  | 68 => ⟨S_, .f32⟩
  | 69 => ⟨S8, .f32⟩
  | 70 => ⟨S8, .f32⟩
  | 71 => ⟨S_, .f32⟩
  | 72 => ⟨S8, .f32⟩
  | 73 => ⟨S8, .f32⟩
  | 74 => ⟨S_, .f32⟩
  | 75 => ⟨S8, .f32⟩
  | 76 => ⟨S8, .f32⟩
  | 77 => ⟨S_, .f32⟩
  | 78 => ⟨S8, .f32⟩
  | 79 => ⟨S8, .f32⟩
  | 80 => ⟨S2x4, .f32⟩
  | 81 => ⟨S2x4x1x1, .f32⟩
  | 82 => ⟨S128x256, .f32⟩
  | 83 => ⟨S1x1x128x256, .f32⟩
  | 84 => ⟨S2x4x128x256, .f32⟩
  | 85 => ⟨S2x4x128x256, .f32⟩
  | 86 => ⟨S2x4x128x256, .f32⟩
  | 87 => ⟨S1x2x4x128x256, .f32⟩
  | 88 => ⟨S64x2x4x128x256, .f32⟩
  | 89 => ⟨S64x2x4x128x256, .f32⟩
  | 90 => ⟨S64x1x1x128x256, .i1⟩
  | 91 => ⟨S_, .f32⟩
  | 92 => ⟨S_, .f32⟩
  | 93 => ⟨S64x2x4x128x256, .i1⟩
  | 94 => ⟨S64x2x4x128x256, .f32⟩
  | 95 => ⟨S64x2x4x128x256, .f32⟩
  | 96 => ⟨S_, .f32⟩
  | 97 => ⟨S64x2x4x128x256, .f32⟩
  | 98 => ⟨S2x4, .f32⟩
  | 99 => ⟨S1x2x4x1x1, .f32⟩
  | 100 => ⟨S64x2x4x128x1, .f32⟩
  | 101 => ⟨S64x2x4x128x257, .f32⟩
  | 102 => ⟨S_, .f32⟩
  | 103 => ⟨S64x2x4x128, .f32⟩
  | 104 => ⟨S64x2x4x128x1, .f32⟩
  | 105 => ⟨S64x2x4x128x257, .f32⟩
  | 106 => ⟨S64x2x4x128x257, .i1⟩
  | 107 => ⟨S64x2x4x128x257, .f32⟩
  | 108 => ⟨S_, .f32⟩
  | 109 => ⟨S64x2x4x128, .f32⟩
  | 110 => ⟨S_, .f32⟩
  | 111 => ⟨S64x2x4x128, .f32⟩
  | 112 => ⟨S64x2x4x128, .f32⟩
  | 113 => ⟨S_, .f32⟩
  | 114 => ⟨S64x2x4x128, .f32⟩
  | 115 => ⟨S64x2x4x128, .i1⟩
  | 116 => ⟨S_, .f32⟩
  | 117 => ⟨S64x2x4x128, .f32⟩
  | 118 => ⟨S64x2x4x128, .i1⟩
  | 119 => ⟨S_, .f32⟩
  | 120 => ⟨S64x2x4x128, .f32⟩
  | 121 => ⟨S_, .f32⟩
  | 122 => ⟨S64x2x4x128, .f32⟩
  | 123 => ⟨S_, .f32⟩
  | 124 => ⟨S64x2x4x128, .f32⟩
  | 125 => ⟨S64x2x4x128, .f32⟩
  | 126 => ⟨S64x2x4x128, .f32⟩
  | 127 => ⟨S64x2x4x128x1, .f32⟩
  | _ => ⟨S8192x1792, .f32⟩

abbrev hbmTy0_1 (i : Nat) : BufTy := match i % 128 with
  | 0 => ⟨S64x2x4x128x257, .f32⟩
  | 1 => ⟨S64x2x4x128x257, .f32⟩
  | 2 => ⟨S64x2x4x128x257, .f32⟩
  | 3 => ⟨S_, .f32⟩
  | 4 => ⟨S64x2x4x128, .f32⟩
  | 5 => ⟨S64x2x4x128x1, .f32⟩
  | 6 => ⟨S64x2x4x128x257, .f32⟩
  | 7 => ⟨S64x2x4x128x257, .f32⟩
  | 8 => ⟨S64x2x4x128x1, .f32⟩
  | 9 => ⟨S_, .f32⟩
  | 10 => ⟨S64x2x4x128x1, .f32⟩
  | 11 => ⟨S64x2x4x128x1, .f32⟩
  | 12 => ⟨S64x2x4x128x256, .f32⟩
  | 13 => ⟨S64x2x64x4x128, .f32⟩
  | 14 => ⟨S64x128x2x4x64, .f32⟩
  | 15 => ⟨S8192x512, .f32⟩
  | 16 => ⟨S8192x512, .f32⟩
  | 17 => ⟨S64x128x2x4x64, .f32⟩
  | 18 => ⟨S64x2x64x4x128, .f32⟩
  | 19 => ⟨S64x2x4x128x256, .f32⟩
  | 20 => ⟨S64x2x64x256, .f32⟩
  | 21 => ⟨S64x256x2x64, .f32⟩
  | 22 => ⟨S_, .f32⟩
  | 23 => ⟨S64x2x4x128x257, .f32⟩
  | 24 => ⟨S64x2x4x128x257, .f32⟩
  | 25 => ⟨S64x2x4x128x257, .f32⟩
  | 26 => ⟨S64x2x4x128x257, .f32⟩
  | 27 => ⟨S_, .f32⟩
  | 28 => ⟨S64x2x4x128, .f32⟩
  | 29 => ⟨S64x2x4x128x1, .f32⟩
  | 30 => ⟨S64x2x4x128x1, .f32⟩
  | 31 => ⟨S64x2x4x128x257, .f32⟩
  | 32 => ⟨S64x2x4x128x257, .f32⟩
  | 33 => ⟨S_, .f32⟩
  | 34 => ⟨S64x2x4x128, .f32⟩
  | 35 => ⟨S64x2x4x128x257, .f32⟩
  | 36 => ⟨S64x2x4x128x257, .f32⟩
  | 37 => ⟨S64x2x4x128x257, .f32⟩
  | 38 => ⟨S64x2x4x128x256, .f32⟩
  | 39 => ⟨S64x2x4x128x1, .f32⟩
  | 40 => ⟨S_, .f32⟩
  | 41 => ⟨S2x4, .f32⟩
  | 42 => ⟨S1x2x4x1x1, .f32⟩
  | 43 => ⟨S_, .f32⟩
  | 44 => ⟨S2x4, .f32⟩
  | 45 => ⟨S8, .f32⟩
  | 46 => ⟨S_, .f32⟩
  | 47 => ⟨S64x2x4x128x256, .f32⟩
  | 48 => ⟨S64x2x4x128x256, .f32⟩
  | 49 => ⟨S_, .f32⟩
  | 50 => ⟨S64x2x4x128x256, .f32⟩
  | 51 => ⟨S64x2x4x128x256, .f32⟩
  | 52 => ⟨S64x2x256x128x4, .f32⟩
  | 53 => ⟨S64x2x128x4x64, .f32⟩
  | 54 => ⟨S64x128x2x4x64, .f32⟩
  | 55 => ⟨S64x2x256x64, .f32⟩
  | 56 => ⟨S64x256x2x64, .f32⟩
  | 57 => ⟨S64x128x2x64, .f32⟩
  | 58 => ⟨S64x128x2x64, .f32⟩
  | 59 => ⟨S1x128x2x64, .f32⟩
  | 60 => ⟨S63x128x2x64, .f32⟩
  | 61 => ⟨S_, .f32⟩
  | 62 => ⟨S64x128x2x64, .f32⟩
  | 63 => ⟨S64x128x2x64, .f32⟩
  | 64 => ⟨S64x128x2x64, .f32⟩
  | 65 => ⟨S64x128x2x64, .f32⟩
  | 66 => ⟨S1x128x2x64, .f32⟩
  | 67 => ⟨S63x128x2x64, .f32⟩
  | 68 => ⟨S_, .f32⟩
  | 69 => ⟨S64x128x2x64, .f32⟩
  | 70 => ⟨S64x128x2x64, .f32⟩
  | 71 => ⟨S8192x2x64, .f32⟩
  | 72 => ⟨S8192x2x64, .f32⟩
  | 73 => ⟨S8192x2x4x64, .f32⟩
  | 74 => ⟨S8192x128, .f32⟩
  | 75 => ⟨S_, .i32⟩
  | 76 => ⟨S_, .f32⟩
  | 77 => ⟨S8320x128, .f32⟩
  | 78 => ⟨S8192x128, .f32⟩
  | 79 => ⟨S_, .i32⟩
  | 80 => ⟨S_, .f32⟩
  | 81 => ⟨S8320x128, .f32⟩
  | 82 => ⟨S8192x512, .f32⟩
  | 83 => ⟨S8192x512, .bf16⟩
  | 84 => ⟨S8x1, .f32⟩
  | 85 => ⟨S8x128, .f32⟩
  | _ => ⟨S8192x1792, .f32⟩

abbrev hbmTy (i : Nat) : BufTy := match i / 128 with
  | 0 => hbmTy0_0 i
  | 1 => hbmTy0_1 i
  | _ => ⟨S8192x1792, .f32⟩

abbrev bufTy : (tb : Table) → Fin (tcTables nBuf tb) → BufTy
  | .hbm, ⟨i, _⟩ => hbmTy i
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_3 : Ref sig .tc := ⟨.hbm, 41, rfl⟩
abbrev main_v33 : Ref sig .tc := ⟨.hbm, 42, rfl⟩
abbrev main_v34 : Ref sig .tc := ⟨.hbm, 43, rfl⟩
abbrev main_c_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_c_5 : Ref sig .tc := ⟨.hbm, 52, rfl⟩
abbrev main_v42 : Ref sig .tc := ⟨.hbm, 53, rfl⟩
abbrev main_v43 : Ref sig .tc := ⟨.hbm, 54, rfl⟩
abbrev main_c_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_c_7 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_8 : Ref sig .tc := ⟨.hbm, 68, rfl⟩
abbrev main_v55 : Ref sig .tc := ⟨.hbm, 69, rfl⟩
abbrev main_v56 : Ref sig .tc := ⟨.hbm, 70, rfl⟩
abbrev main_cst_9 : Ref sig .tc := ⟨.hbm, 71, rfl⟩
abbrev main_v57 : Ref sig .tc := ⟨.hbm, 72, rfl⟩
abbrev main_v58 : Ref sig .tc := ⟨.hbm, 73, rfl⟩
abbrev main_cst_10 : Ref sig .tc := ⟨.hbm, 74, rfl⟩
abbrev main_v59 : Ref sig .tc := ⟨.hbm, 75, rfl⟩
abbrev main_v60 : Ref sig .tc := ⟨.hbm, 76, rfl⟩
abbrev main_cst_11 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_12 : Ref sig .tc := ⟨.hbm, 91, rfl⟩
abbrev main_call0_v0 : Ref sig .tc := ⟨.hbm, 92, rfl⟩
abbrev main_v74_1 : Ref sig .tc := ⟨.hbm, 93, rfl⟩
abbrev main_call0_v2 : Ref sig .tc := ⟨.hbm, 94, rfl⟩
abbrev main_v74_0 : Ref sig .tc := ⟨.hbm, 95, rfl⟩
abbrev main_call0_cst : Ref sig .tc := ⟨.hbm, 96, rfl⟩
abbrev main_v74_2 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_13 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_14 : Ref sig .tc := ⟨.hbm, 108, rfl⟩
abbrev main_v84 : Ref sig .tc := ⟨.hbm, 109, rfl⟩
abbrev main_cst_15 : Ref sig .tc := ⟨.hbm, 110, rfl⟩
abbrev main_v85 : Ref sig .tc := ⟨.hbm, 111, rfl⟩
abbrev main_v86 : Ref sig .tc := ⟨.hbm, 112, rfl⟩
abbrev main_cst_16 : Ref sig .tc := ⟨.hbm, 113, rfl⟩
abbrev main_v87 : Ref sig .tc := ⟨.hbm, 114, rfl⟩
abbrev main_v88 : Ref sig .tc := ⟨.hbm, 115, rfl⟩
abbrev main_cst_17 : Ref sig .tc := ⟨.hbm, 116, rfl⟩
abbrev main_v89 : Ref sig .tc := ⟨.hbm, 117, rfl⟩
abbrev main_v90 : Ref sig .tc := ⟨.hbm, 118, rfl⟩
abbrev main_cst_18 : Ref sig .tc := ⟨.hbm, 119, rfl⟩
abbrev main_v91 : Ref sig .tc := ⟨.hbm, 120, rfl⟩
abbrev main_cst_19 : Ref sig .tc := ⟨.hbm, 121, rfl⟩
abbrev main_v92 : Ref sig .tc := ⟨.hbm, 122, rfl⟩
abbrev main_cst_20 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_21 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_22 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_23 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_cst_24 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_cst_25 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_cst_26 : Ref sig .tc := ⟨.hbm, 168, rfl⟩
abbrev main_v132 : Ref sig .tc := ⟨.hbm, 169, rfl⟩
abbrev main_v133 : Ref sig .tc := ⟨.hbm, 170, rfl⟩
abbrev main_cst_27 : Ref sig .tc := ⟨.hbm, 171, rfl⟩
abbrev main_v134 : Ref sig .tc := ⟨.hbm, 172, rfl⟩
abbrev main_v135 : Ref sig .tc := ⟨.hbm, 173, rfl⟩
abbrev main_call1_cst : Ref sig .tc := ⟨.hbm, 174, rfl⟩
abbrev main_call1_v0 : Ref sig .tc := ⟨.hbm, 175, rfl⟩
abbrev main_v136 : Ref sig .tc := ⟨.hbm, 176, rfl⟩
abbrev main_cst_28 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_cst_29 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_cst_30 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_c_31 : Ref sig .tc := ⟨.hbm, 203, rfl⟩
abbrev main_call2_v0 : Ref sig .tc := ⟨.hbm, 204, rfl⟩
abbrev main_v160 : Ref sig .tc := ⟨.hbm, 205, rfl⟩
abbrev main_v161 : Ref sig .tc := ⟨.hbm, 206, rfl⟩
abbrev main_c_32 : Ref sig .tc := ⟨.hbm, 207, rfl⟩
abbrev main_call3_v0 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩

abbrev nD : Nat := 1
abbrev τ : Topo := Topo.v7x

variable {F : FTy → Type} [FloatOps F]
-- ==== Place.lean ====
abbrev S2x1024x1408 : Shape := ⟨3, ![2, 1024, 1408]⟩
abbrev S1 : Shape := ⟨1, ![1]⟩
abbrev S_ : Shape := ⟨0, ![]⟩
abbrev S1x1024x5632 : Shape := ⟨3, ![1, 1024, 5632]⟩
abbrev S1x256x1408 : Shape := ⟨3, ![1, 256, 1408]⟩
abbrev S256x1408 : Shape := ⟨2, ![256, 1408]⟩
abbrev S1x1024x1408 : Shape := ⟨3, ![1, 1024, 1408]⟩

abbrev nBuf : Space → Nat
  | .hbm => 18
  | .vmem => 4
  | .smem => 1
  | _ => 0

abbrev bufTy : (tb : Table) → Fin (tcTables nBuf tb) → BufTy
  | .hbm, ⟨0, _⟩ => ⟨S2x1024x1408, .f32⟩
  | .hbm, ⟨1, _⟩ => ⟨S_, .i32⟩
  | .hbm, ⟨2, _⟩ => ⟨S_, .i32⟩
  | .hbm, ⟨3, _⟩ => ⟨S_, .i1⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S1x1024x5632, .bf16⟩
  | .hbm, ⟨11, _⟩ => ⟨S1x1024x1408, .bf16⟩
  | .hbm, ⟨12, _⟩ => ⟨S1x1024x1408, .bf16⟩
  | .hbm, ⟨13, _⟩ => ⟨S1x1024x1408, .bf16⟩
  | .hbm, ⟨14, _⟩ => ⟨S1x1024x1408, .bf16⟩
  | .hbm, ⟨15, _⟩ => ⟨S1x1024x1408, .bf16⟩
  | .hbm, ⟨16, _⟩ => ⟨S1x1024x1408, .bf16⟩
  | .hbm, ⟨17, _⟩ => ⟨S1x1024x1408, .bf16⟩
  | .local _ .vmem, ⟨0, _⟩ => ⟨S1x256x1408, .f32⟩
  | .local _ .vmem, ⟨1, _⟩ => ⟨S1x256x1408, .f32⟩
  | .local _ .vmem, ⟨2, _⟩ => ⟨S1x256x1408, .bf16⟩
  | .local _ .vmem, ⟨3, _⟩ => ⟨S1x256x1408, .bf16⟩
  | .local _ .smem, ⟨0, _⟩ => ⟨S1, .i32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![c0_i32.toNat, arg0.toNat, v0.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PlaceRefIdeal.lean ====
abbrev S2x1024x1408 : Shape := ⟨3, ![2, 1024, 1408]⟩
abbrev S1 : Shape := ⟨1, ![1]⟩
abbrev S1x1024x1408 : Shape := ⟨3, ![1, 1024, 1408]⟩

abbrev nBuf : Space → Nat
  | .hbm => 4
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S1, .i32⟩
  | .hbm, ⟨2, _⟩ => ⟨S1x1024x1408, .f32⟩
  | .hbm, ⟨3, _⟩ => ⟨S1x1024x1408, .bf16⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.MemNormValue.lean ====
/- The gain gradient of the memory norm: the kernel's one output row is the reference's composed term. -/
module

public import proofs.«01_k».proof.Proof.Gen.MemNormIdeal.Value
public import proofs.«01_k».proof.Proof.Gen.MemNormRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MemNormIdeal.Math

open Cert.MemNormIdeal Cert.MemNormIdeal.Gen

variable (m : (ℓ : Loc nD τ sig) → Buf (Elt Ideal) ℓ)

/-- At the one grid point every window's block is its whole array. -/
theorem idx : ∀ t : Fin cfg0.N, win0_0.index t = ![0, 0] ∧ win0_1.index t = ![0, 0] ∧ win0_2.index t = ![0, 0]
    ∧ win0_3.index t = ![0, 0] :=
  (by decide +kernel : ∀ t : Fin grid0.N, _)

/-- The result array is what the body's one store writes, over the argument arrays. -/
theorem final (c : Dev nD) : (dats m 0 c).arrAt 3 (cfgs 0).N
    = k0_pay1 (F := Ideal) (m ((c : Thread nD τ).loc main_arg0)) (m ((c : Thread nD τ).loc main_arg2)) := by
  refine (dats m 0 c).arrAt_eq_of_after_last 3 t0_0 (by decide +kernel) _ fun j => ?_
  blk_simp
  rw [after0_3]
  unfold outsAt0
  frame_out
  blk_point [iblk, V, idx t0_0]

end Cert.MemNormIdeal.Math
-- ==== Proof.MemNormClaim.lean ====
/- The claims about the memory norm's gain gradient. -/
module

public import proofs.«01_k».proof.Defs
public import proofs.«01_k».proof.Proof.MemNormValue
public import proofs.«01_k».proof.Proof.Gen.MemNorm.Frame
public import proofs.«01_k».proof.Proof.Gen.MemNormRefIdeal.Run
public import Idealize.ShloMosaic.Lib.Quiescent

set_option maxRecDepth 16384

@[expose] public section
noncomputable section

open Idealize.ShloMosaic Idealize.ShloMosaic.TcCoe Idealize.SL.Sem

namespace Cert.MemNormClaim

/-- The reference runs and leaves its arguments as they were. -/
theorem refFrame : Cert.quiescent_MemNormRefIdeal (hMemNormRefIdeal := Cert.MemNormRefIdeal.Gen.facts) :=
  fun m ρ _ => (θ_run Cert.MemNormRefIdeal.defs _ _).mono
    (fun r h => ⟨fun c => (h c).2, Idealize.ShloMosaic.sem_eq_zero_of_no_sems (by decide) r.2⟩)
    (Cert.MemNormRefIdeal.Value.run (F := Ideal) m ρ)

/-- Kernel and reference end with the same gradient. -/
theorem algebraic : Cert.algebraic_MemNormIdeal_MemNormRefIdeal (hMemNormIdeal := Cert.MemNormIdeal.Gen.facts)
    (hMemNormRefIdeal := Cert.MemNormRefIdeal.Gen.facts) := by
  pair_intro
  · run_from Cert.MemNormIdeal.Gen.run_main m g
  · run_from Cert.MemNormRefIdeal.Value.run m' g'
    rw [Cert.MemNormIdeal.Math.final m c]
    funext j
    pointwise! [Cert.MemNormIdeal.Gen.k0_pay1]
    rw [Fin.sum_univ_one]
    exact Finset.sum_congr rfl fun x _ => mul_comm _ _

end Cert.MemNormClaim

end
end
-- ==== Proof.RealLift.lean ====
/- Arithmetic of the extended reals on finite values: every operation the programs use, at arguments that are real
   numbers, is the operation of the real numbers. -/
module

public import Idealize.ShloMosaic.Lib.Pointwise

@[expose] public section
noncomputable section

open Idealize.ShloMosaic

namespace Cert.RealLift

/-- A finite sum of real numbers is a real number. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The exponential of a real number. -/
theorem exp_coe (r : ℝ) : Ideal.exp ((r : ℝ) : EReal) = ((Real.exp r : ℝ) : EReal) := rfl

/-- The quotient of real numbers with a divisor other than zero. -/
theorem div_coe (a b : ℝ) (h : b ≠ 0) : Ideal.div (a : EReal) (b : EReal) = ((a / b : ℝ) : EReal) := by
  rw [Ideal.div_coe h, ← EReal.coe_mul, mul_one_div]

/-- One over a real number other than zero. -/
theorem one_div_coe (b : ℝ) (h : b ≠ 0) : Ideal.div 1 (b : EReal) = ((1 / b : ℝ) : EReal) := by
  rw [← EReal.coe_one]; exact div_coe 1 b h

/-- The reciprocal square root of a positive real number. -/
theorem rsqrt_coe (r : ℝ) (h : 0 < r) : Ideal.rsqrt (r : EReal) = (((Real.sqrt r)⁻¹ : ℝ) : EReal) := by
  show (if r < 0 then _ else if r = 0 then _ else _) = _
  rw [if_neg (not_lt.mpr h.le), if_neg h.ne']

/-- The larger of two real numbers. -/
theorem max_coe (a b : ℝ) : max (a : EReal) (b : EReal) = ((max a b : ℝ) : EReal) :=
  (EReal.coe_strictMono.monotone.map_max).symm

/-- The maximum of finitely many real numbers, at least one, started from −∞, is a real number. -/
theorem fold_max_coe {ι : Type*} (s : Finset ι) (hs : s.Nonempty) (f : ι → ℝ) :
    ∃ M : ℝ, s.fold max (⊥ : EReal) (fun i => ((f i : ℝ) : EReal)) = (M : EReal) := by
  classical
  induction hs using Finset.Nonempty.cons_induction with
  | singleton a => exact ⟨f a, by simp⟩
  | cons a s ha hs ih =>
    obtain ⟨M, hM⟩ := ih
    exact ⟨max (f a) M, by rw [Finset.fold_cons, hM, max_coe]⟩

/-- An extended real below +∞ in absolute value is a real number. -/
theorem exists_coe_of_abs_lt {x : EReal} (h : max x (-x) < ⊤) : ∃ r : ℝ, x = (r : EReal) := by
  induction x with
  | bot => simp at h
  | coe r => exact ⟨r, rfl⟩
  | top => simp at h

/-- The word of −∞. -/
theorem ofBits_negInf : Ideal.ofBits .f32 0xFF800000#32 = (⊥ : EReal) := by
  simp [Ideal.ofBits, Ideal.ieee]

/-- The word of +∞. -/
theorem ofBits_inf : Ideal.ofBits .f32 0x7F800000#32 = (⊤ : EReal) := by
  simp [Ideal.ofBits, Ideal.ieee]

/-- The word of one. -/
theorem ofBits_one : Ideal.ofBits .f32 0x3F800000#32 = ((1 : ℝ) : EReal) := by
  simp [Ideal.ofBits, Ideal.ieee, -EReal.coe_mul]; try norm_num

/-- The word of one sixteenth. -/
theorem ofBits_sixteenth : Ideal.ofBits .f32 0x3D800000#32 = ((1 / 16 : ℝ) : EReal) := by
  simp [Ideal.ofBits, Ideal.ieee, -EReal.coe_mul]; norm_num

/-- What the finiteness precondition says of one entry: it is a real number. -/
theorem exists_coe_of_cmp {x : EReal} (h : Ideal.cmp .olt (max x (-x)) (Ideal.ofBits .f32 0x7F800000#32) = 1#1) :
    ∃ r : ℝ, x = (r : EReal) := by
  rw [ofBits_inf] at h
  refine exists_coe_of_abs_lt ?_
  by_contra hn
  simp [Ideal.cmp, hn] at h

end Cert.RealLift

end
end
-- ==== Proof.CrossMath.lean ====
/- The gradient of one head of the attention over the memory, over the real numbers, at one row of queries. -/
module

public import proofs.«01_k».proof.Proof.RealLift

@[expose] public section
noncomputable section

open Idealize.ShloMosaic Cert.RealLift

namespace Cert.CrossMath

/-- Softmax of the scores `s`. -/
def prob {n : ℕ} (s : Fin n → ℝ) (k : Fin n) : ℝ := Real.exp (s k) / ∑ x, Real.exp (s x)

/-- The score's gradient: the probability times the deviation of `dp` from its mean under the probabilities. -/
def dscore {n : ℕ} (s dp : Fin n → ℝ) (k : Fin n) : ℝ := prob s k * (dp k - ∑ x, prob s x * dp x)

/-- The scaled scores of a row `q` against the keys `K`. -/
def score (q : Fin 256 → ℝ) (K : Fin 256 → Fin 256 → ℝ) (k : Fin 256) : ℝ := (∑ d, q d * K k d) * (1 / 16)

/-- The probability's gradient of a row: the cotangent row `o` against the values `V`. -/
def dprob (o : Fin 256 → ℝ) (V : Fin 256 → Fin 256 → ℝ) (k : Fin 256) : ℝ := ∑ d, o d * V k d

/-- The query's gradient of a row. -/
def dquery (q o : Fin 256 → ℝ) (K V : Fin 256 → Fin 256 → ℝ) (d : Fin 256) : ℝ :=
  (∑ k, dscore (score q K) (dprob o V) k * K k d) * (1 / 16)

theorem sum_exp_ne {n : ℕ} [NeZero n] (s : Fin n → ℝ) : ∑ x, Real.exp (s x) ≠ 0 :=
  (Finset.sum_pos (fun i _ => Real.exp_pos (s i)) Finset.univ_nonempty).ne'

/-- Subtracting one number from every score changes no probability. -/
theorem prob_shift {n : ℕ} (s : Fin n → ℝ) (M : ℝ) (k : Fin n) :
    Real.exp (s k - M) / ∑ x, Real.exp (s x - M) = prob s k := by
  unfold prob
  simp only [Real.exp_sub, ← Finset.sum_div]
  rw [div_div_div_cancel_right₀ (Real.exp_ne_zero M)]

/-- The kernel's softmax: the exponential of the score less the row's maximum, times one over the row's sum. -/
theorem kernel_prob {n : ℕ} [NeZero n] (s : Fin n → ℝ) (k : Fin n) :
    Ideal.exp ((s k : EReal) - Finset.univ.fold max (⊥ : EReal) (fun x => (s x : EReal)))
      * Ideal.div 1 (∑ y, Ideal.exp ((s y : EReal) - Finset.univ.fold max (⊥ : EReal) (fun x => (s x : EReal))))
      = ((prob s k : ℝ) : EReal) := by
  obtain ⟨M, hM⟩ := fold_max_coe Finset.univ Finset.univ_nonempty s
  rw [hM]
  simp only [← EReal.coe_sub, exp_coe, coe_sum]
  rw [one_div_coe _ (sum_exp_ne fun y => s y - M), ← EReal.coe_mul, ← prob_shift s M k]
  congr 1; ring

/-- The division form of the score's gradient is the deviation form. -/
theorem dscore_div {n : ℕ} [NeZero n] (s dp : Fin n → ℝ) (M : ℝ) (k : Fin n) :
    (dp k / (∑ x, Real.exp (s x - M))
      + -(∑ x, dp x * (1 / ((∑ x, Real.exp (s x - M)) * ∑ x, Real.exp (s x - M))) * Real.exp (s x - M)))
      * Real.exp (s k - M) = dscore s dp k := by
  unfold dscore
  simp only [← prob_shift s M]
  have hl := sum_exp_ne fun y => s y - M
  generalize (∑ x, Real.exp (s x - M)) = l at hl
  have h : ∑ x, dp x * (1 / (l * l)) * Real.exp (s x - M) = (∑ x, Real.exp (s x - M) / l * dp x) / l := by
    rw [Finset.sum_div]
    exact Finset.sum_congr rfl fun x _ => by field_simp
  rw [h]
  generalize (∑ x, Real.exp (s x - M) / l * dp x) = D
  field_simp
  ring

/-- Head `h`'s columns of a row. -/
def head (x : Fin 1024 → ℝ) (h : Fin 4) (d : Fin 256) : ℝ := x ⟨h.val * 256 + d.val, by omega⟩

/-- Head `h`'s keys. -/
def keys (kv : Fin 256 → Fin 2048 → ℝ) (h : Fin 4) (k d : Fin 256) : ℝ := kv k ⟨h.val * 256 + d.val, by omega⟩

/-- Head `h`'s values. -/
def vals (kv : Fin 256 → Fin 2048 → ℝ) (h : Fin 4) (k d : Fin 256) : ℝ := kv k ⟨1024 + (h.val * 256 + d.val), by omega⟩

variable {n : ℕ} (q o : Fin n → Fin 1024 → ℝ) (kv : Fin 256 → Fin 2048 → ℝ)

/-- The queries' gradient at row `r` and column `c`. -/
def dquer (r : Fin n) (c : Fin 1024) : ℝ :=
  dquery (head (q r) ⟨c.val / 256, by omega⟩) (head (o r) ⟨c.val / 256, by omega⟩) (keys kv ⟨c.val / 256, by omega⟩)
    (vals kv ⟨c.val / 256, by omega⟩) ⟨c.val % 256, by omega⟩

/-- Head `h`'s keys' gradient. -/
def dkeys (h : Fin 4) (k d : Fin 256) : ℝ :=
  (∑ r, dscore (score (head (q r) h) (keys kv h)) (dprob (head (o r) h) (vals kv h)) k * head (q r) h d) * (1 / 16)

/-- Head `h`'s values' gradient. -/
def dvals (h : Fin 4) (k d : Fin 256) : ℝ := ∑ r, prob (score (head (q r) h) (keys kv h)) k * head (o r) h d

/-- The memory's gradient: the keys' gradient in the columns below 1024, the values' in those from 1024. -/
def dmem (k : Fin 256) (c : Fin 2048) : ℝ :=
  if hc : c.val < 1024 then dkeys q o kv ⟨c.val / 256, by omega⟩ k ⟨c.val % 256, by omega⟩
  else dvals q o kv ⟨(c.val - 1024) / 256, by omega⟩ k ⟨(c.val - 1024) % 256, by omega⟩

variable {q o kv}

theorem dquer_head {r : Fin n} {c : Fin 1024} (h : Fin 4) (d : Fin 256) (hc : c.val = h.val * 256 + d.val) :
    dquer q o kv r c = dquery (head (q r) h) (head (o r) h) (keys kv h) (vals kv h) d := by
  have e1 : (⟨c.val / 256, by omega⟩ : Fin 4) = h := Fin.ext (show c.val / 256 = h.val by omega)
  have e2 : (⟨c.val % 256, by omega⟩ : Fin 256) = d := Fin.ext (show c.val % 256 = d.val by omega)
  unfold dquer
  rw [e1, e2]

theorem dmem_keys {k : Fin 256} {c : Fin 2048} (h : Fin 4) (d : Fin 256) (hc : c.val = h.val * 256 + d.val) :
    dmem q o kv k c = dkeys q o kv h k d := by
  have e2 : (⟨c.val % 256, by omega⟩ : Fin 256) = d := Fin.ext (show c.val % 256 = d.val by omega)
  have hl : c.val < 1024 := by omega
  have e0 : (⟨c.val / 256, by omega⟩ : Fin 4) = h := Fin.ext (show c.val / 256 = h.val by omega)
  unfold dmem
  rw [dif_pos hl, e0, e2]

theorem dmem_vals {k : Fin 256} {c : Fin 2048} (h : Fin 4) (d : Fin 256) (hc : c.val = 1024 + (h.val * 256 + d.val)) :
    dmem q o kv k c = dvals q o kv h k d := by
  have hl : ¬ c.val < 1024 := by omega
  have e1 : (⟨(c.val - 1024) / 256, by omega⟩ : Fin 4) = h := Fin.ext (show (c.val - 1024) / 256 = h.val by omega)
  have e2 : (⟨(c.val - 1024) % 256, by omega⟩ : Fin 256) = d := Fin.ext (show (c.val - 1024) % 256 = d.val by omega)
  unfold dmem
  rw [dif_neg hl, e1, e2]

/-- Row `r` of block `t` of 512 rows. -/
def row (t : Fin 16) (r : Fin 512) : Fin 8192 := ⟨t.val * 512 + r.val, by omega⟩

theorem sum_rows {M : Type} [AddCommMonoid M] (f : Fin 8192 → M) : ∑ t, ∑ r, f (row t r) = ∑ r, f r := by
  rw [← Fintype.sum_prod_type']
  refine Fintype.sum_equiv (finProdFinEquiv (m := 16) (n := 512)) _ _ fun x => congrArg f (Fin.ext ?_)
  show x.1.val * 512 + x.2.val = x.2.val + 512 * x.1.val
  omega

/-- The memory's gradient is the sum of the parts of the 16 blocks of rows. -/
theorem dmem_rows (q o : Fin 8192 → Fin 1024 → ℝ) (k : Fin 256) (c : Fin 2048) :
    ∑ t, dmem (fun r => q (row t r)) (fun r => o (row t r)) kv k c = dmem q o kv k c := by
  unfold dmem
  split
  · unfold dkeys
    rw [← Finset.sum_mul, sum_rows fun r => dscore (score (head (q r) _) (keys kv _)) (dprob (head (o r) _) (vals kv _)) _ * head (q r) _ _]
  · unfold dvals
    exact sum_rows fun r => prob (score (head (q r) _) (keys kv _)) _ * head (o r) _ _

end Cert.CrossMath

end
end
-- ==== Proof.CrossKernel.lean ====
/- The values the memory-attention gradient's kernel stores at one grid point, on real inputs. -/
module

public import proofs.«01_k».proof.Proof.Gen.CrossIdeal.Value
public import proofs.«01_k».proof.Proof.CrossMath
public import Idealize.ShloMosaic.Lib.Pipeline.ValueKit
public import Idealize.ShloMosaic.Lib.Pointwise

set_option maxRecDepth 16384

@[expose] public section
noncomputable section

open Idealize.ShloMosaic Idealize.ShloMosaic.TcCoe Idealize.SL.Sem
open Cert.CrossIdeal Cert.CrossIdeal.Gen Cert.RealLift Cert.CrossMath

namespace Cert.CrossIdeal.Math

variable {v3 : Vec Ideal S512x256 .bf16} {v5 v7 : Vec Ideal S256x256 .bf16} {v9 : Vec Ideal S512x256 .bf16}
variable {q o : Fin 512 → Fin 256 → ℝ} {K V : Fin 256 → Fin 256 → ℝ}

/-- The probabilities of a block of rows. -/
theorem pay8 (h3 : ∀ r d, v3 (ix2 r d) = (q r d : EReal)) (h5 : ∀ k d, v5 (ix2 k d) = (K k d : EReal)) (r : Fin 512) (k : Fin 256) :
    k0_pay8 (F := Ideal) v3 v5 (ix2 r k) = ((prob (score (q r) K) k : ℝ) : EReal) := by
  pointwise [k0_pay8, k0_pay5, k0_pay6]
  simp only [h3, h5, ofBits_sixteenth, ofBits_negInf, ← EReal.coe_mul, coe_sum]
  exact kernel_prob (score (q r) K) k

/-- The scores' gradients of a block of rows. -/
theorem pay9 (h3 : ∀ r d, v3 (ix2 r d) = (q r d : EReal)) (h5 : ∀ k d, v5 (ix2 k d) = (K k d : EReal))
    (h7 : ∀ k d, v7 (ix2 k d) = (V k d : EReal)) (h9 : ∀ r d, v9 (ix2 r d) = (o r d : EReal)) (r : Fin 512) (k : Fin 256) :
    k0_pay9 (F := Ideal) v3 v5 v7 v9 (ix2 r k) = ((dscore (score (q r) K) (dprob (o r) V) k : ℝ) : EReal) := by
  have h8 := pay8 h3 h5
  unfold k0_pay9
  generalize k0_pay8 v3 v5 = w at *
  pointwise [k0_pay7]
  simp only [h8, h7, h9, ← EReal.coe_mul, coe_sum, ← EReal.coe_sub]
  rfl

/-- The queries' gradients of a block of rows. -/
theorem pay10 (h3 : ∀ r d, v3 (ix2 r d) = (q r d : EReal)) (h5 : ∀ k d, v5 (ix2 k d) = (K k d : EReal))
    (h7 : ∀ k d, v7 (ix2 k d) = (V k d : EReal)) (h9 : ∀ r d, v9 (ix2 r d) = (o r d : EReal)) (r : Fin 512) (k : Fin 256) :
    k0_pay10 (F := Ideal) v3 v5 v7 v9 (ix2 r k) = ((dquery (q r) (o r) K V k : ℝ) : EReal) := by
  have hs := pay9 h3 h5 h7 h9
  unfold k0_pay10
  generalize k0_pay9 v3 v5 v7 v9 = w at *
  pointwise [k0_pay6]
  simp only [hs, h5, ofBits_sixteenth, ← EReal.coe_mul, coe_sum]
  rfl

/-- The keys' gradient gains the block of rows' part. -/
theorem pay11 (h3 : ∀ r d, v3 (ix2 r d) = (q r d : EReal)) (h5 : ∀ k d, v5 (ix2 k d) = (K k d : EReal))
    (h7 : ∀ k d, v7 (ix2 k d) = (V k d : EReal)) (h9 : ∀ r d, v9 (ix2 r d) = (o r d : EReal))
    (acc : Vec Ideal S256x256 .f32) (j d : Fin 256) :
    k0_pay11 (F := Ideal) (k0_pay5 v3) (k0_pay9 v3 v5 v7 v9) acc (ix2 j d)
      = acc (ix2 j d) + (((∑ r, dscore (score (q r) K) (dprob (o r) V) j * q r d) * (1 / 16) : ℝ) : EReal) := by
  have hs := pay9 h3 h5 h7 h9
  generalize k0_pay9 v3 v5 v7 v9 = w at *
  pointwise [k0_pay11, k0_pay5]
  simp only [hs, h3, ofBits_sixteenth, ← EReal.coe_mul, coe_sum]

/-- The values' gradient gains the block of rows' part. -/
theorem pay12 (h3 : ∀ r d, v3 (ix2 r d) = (q r d : EReal)) (h5 : ∀ k d, v5 (ix2 k d) = (K k d : EReal))
    (h9 : ∀ r d, v9 (ix2 r d) = (o r d : EReal)) (acc : Vec Ideal S256x256 .f32) (j d : Fin 256) :
    k0_pay12 (F := Ideal) (k0_pay7 v9) (k0_pay8 v3 v5) acc (ix2 j d)
      = acc (ix2 j d) + ((∑ r, prob (score (q r) K) j * o r d : ℝ) : EReal) := by
  have h8 := pay8 h3 h5
  generalize k0_pay8 v3 v5 = w at *
  pointwise [k0_pay12, k0_pay7]
  simp only [h8, h9, ← EReal.coe_mul, coe_sum]

end Cert.CrossIdeal.Math

end
end
-- ==== Proof.CrossRef.lean ====
/- The reference gradient of the attention over the memory, stage by stage on real inputs. -/
module

public import proofs.«01_k».proof.Proof.Gen.CrossRefIdeal.Read
public import proofs.«01_k».proof.Proof.CrossMath
public import Idealize.ShloMosaic.Lib.Pointwise

set_option maxRecDepth 16384

@[expose] public section
noncomputable section

open Idealize.ShloMosaic Idealize.ShloMosaic.TcCoe Idealize.SL.Sem
open Cert.CrossRefIdeal Cert.CrossRefIdeal.Gen Cert.CrossRefIdeal.Read Cert.RealLift Cert.CrossMath

namespace Cert.CrossRefIdeal.Math

variable {x0 x2 : (⟨S8192x1024, .f32⟩ : BufTy).Contents (Elt Ideal)} {x1 : (⟨S256x2048, .f32⟩ : BufTy).Contents (Elt Ideal)}
variable {q o : Fin 8192 → Fin 1024 → ℝ} {kv : Fin 256 → Fin 2048 → ℝ}

/-- The queries by head. -/
theorem v0 (h0 : ∀ r c, x0 (ix2 r c) = (q r c : EReal)) (r : Fin 8192) (h : Fin 4) (d : Fin 256) :
    val_main_v0 (F := Ideal) x0 (ix3 r h d) = (head (q r) h d : EReal) := by
  pointwise [val_main_v0]
  exact h0 _ _

/-- The keys by head. -/
theorem v2 (h1 : ∀ k c, x1 (ix2 k c) = (kv k c : EReal)) (k : Fin 256) (h : Fin 4) (d : Fin 256) :
    val_main_v2 (F := Ideal) x1 (ix3 k h d) = (keys kv h k d : EReal) := by
  pointwise [val_main_v2, val_main_v1]
  exact h1 _ _

/-- The values by head. -/
theorem v4 (h1 : ∀ k c, x1 (ix2 k c) = (kv k c : EReal)) (k : Fin 256) (h : Fin 4) (d : Fin 256) :
    val_main_v4 (F := Ideal) x1 (ix3 k h d) = (vals kv h k d : EReal) := by
  pointwise [val_main_v4, val_main_v3]
  exact h1 _ _

/-- The cotangent by head. -/
theorem v39 (h2 : ∀ r c, x2 (ix2 r c) = (o r c : EReal)) (r : Fin 8192) (h : Fin 4) (d : Fin 256) :
    val_main_v39 (F := Ideal) x2 (ix3 r h d) = (head (o r) h d : EReal) := by
  pointwise [val_main_v39]
  exact h2 _ _

/-- The scaled scores. -/
theorem v7 (h0 : ∀ r c, x0 (ix2 r c) = (q r c : EReal)) (h1 : ∀ k c, x1 (ix2 k c) = (kv k c : EReal))
    (h : Fin 4) (r : Fin 8192) (k : Fin 256) :
    val_main_v7 (F := Ideal) x0 x1 (ix3 h r k) = (score (head (q r) h) (keys kv h) k : EReal) := by
  have a0 := v0 h0
  have a2 := v2 h1
  unfold val_main_v7 val_main_v5
  generalize val_main_v0 x0 = a at *
  generalize val_main_v2 x1 = b at *
  pointwise [val_main_v6, val_main_cst]
  simp only [a0, a2, ofBits_sixteenth, ← EReal.coe_mul, coe_sum]
  rfl

/-- A row's maximum is a real number. -/
theorem v8 (h0 : ∀ r c, x0 (ix2 r c) = (q r c : EReal)) (h1 : ∀ k c, x1 (ix2 k c) = (kv k c : EReal))
    (i : S4x8192.Idx) : ∃ M : ℝ, val_main_v8 (F := Ideal) x0 x1 i = (M : EReal) := by
  have a7 : ∀ i : S4x8192x256.Idx, ∃ s : ℝ, val_main_v7 (F := Ideal) x0 x1 i = (s : EReal) := fun i =>
    ⟨_, (congrArg (val_main_v7 (F := Ideal) x0 x1) (ix3_eta i)).trans (v7 h0 h1 (i 0) (i 1) (i 2))⟩
  choose s hs using a7
  unfold val_main_v8
  generalize val_main_v7 x0 x1 = a at *
  obtain rfl : a = fun i => (s i : EReal) := funext hs
  rw [Host.reduce_eq_fold_single _ _ _ _ (by decide : S4x8192x256.Reduces [2] S4x8192)]
  have hb : val_main_cst_0 (F := Ideal) (Shape.Idx.first h_S_) = (⊥ : EReal) := ofBits_negInf
  rw [hb]
  exact fold_max_coe Finset.univ ⟨(0 : Fin 256), Finset.mem_univ _⟩ _

/-- The exponentials of the scores less the row's maximum. -/
theorem v28 (h0 : ∀ r c, x0 (ix2 r c) = (q r c : EReal)) (h1 : ∀ k c, x1 (ix2 k c) = (kv k c : EReal))
    (h : Fin 4) (r : Fin 8192) : ∃ M : ℝ, ∀ k : Fin 256,
    val_main_v28 (F := Ideal) x0 x1 (ix3 h r k) = (Real.exp (score (head (q r) h) (keys kv h) k - M) : EReal) := by
  obtain ⟨M, hM⟩ := v8 h0 h1 (idx_main_v25 (idx_main_v26 (ix3 h r 0)))
  refine ⟨M, fun k => ?_⟩
  have e : val_main_v14 (F := Ideal) (idx_main_v25 (idx_main_v26 (ix3 h r k))) = (⊥ : EReal) := ofBits_negInf
  rw [val_main_v28_apply, val_main_v27_apply, val_main_v26_apply, val_main_v25_apply, val_main_v15_apply, v7 h0 h1, e,
    show val_main_v8 (F := Ideal) x0 x1 (idx_main_v25 (idx_main_v26 (ix3 h r k))) = (M : EReal) from hM]
  have hs (a : ℝ) : Ideal.exp ((a : EReal) - max ⊥ (M : EReal)) = ((Real.exp (a - M) : ℝ) : EReal) := by
    rw [max_eq_right bot_le, ← EReal.coe_sub, exp_coe]
  exact hs _

/-- The probabilities. -/
theorem v32 (h0 : ∀ r c, x0 (ix2 r c) = (q r c : EReal)) (h1 : ∀ k c, x1 (ix2 k c) = (kv k c : EReal))
    (h : Fin 4) (r : Fin 8192) (k : Fin 256) :
    val_main_v32 (F := Ideal) x0 x1 (ix3 h r k) = (prob (score (head (q r) h) (keys kv h)) k : EReal) := by
  obtain ⟨M, hM⟩ := v28 h0 h1 h r
  unfold val_main_v32 val_main_v31 val_main_v30 val_main_v29
  generalize val_main_v28 x0 x1 = a at *
  pointwise [val_main_cst_8]
  simp only [hM, coe_sum]
  rw [div_coe _ _ (sum_exp_ne fun x => score (head (q r) h) (keys kv h) x - M), prob_shift]

/-- The probabilities' gradient. -/
theorem v41 (h1 : ∀ k c, x1 (ix2 k c) = (kv k c : EReal)) (h2 : ∀ r c, x2 (ix2 r c) = (o r c : EReal))
    (h : Fin 4) (r : Fin 8192) (k : Fin 256) :
    val_main_v41 (F := Ideal) x1 x2 (ix3 h r k) = (dprob (head (o r) h) (vals kv h) k : EReal) := by
  have a4 := v4 h1
  have a39 := v39 h2
  unfold val_main_v41 val_main_v40
  generalize val_main_v4 x1 = a at *
  generalize val_main_v39 x2 = b at *
  pointwise
  simp only [a4, a39, ← EReal.coe_mul, coe_sum]
  rfl

/-- The scores' gradient. -/
theorem v55 (h0 : ∀ r c, x0 (ix2 r c) = (q r c : EReal)) (h1 : ∀ k c, x1 (ix2 k c) = (kv k c : EReal))
    (h2 : ∀ r c, x2 (ix2 r c) = (o r c : EReal)) (h : Fin 4) (r : Fin 8192) (k : Fin 256) :
    val_main_v55 (F := Ideal) x0 x1 x2 (ix3 h r k)
      = (dscore (score (head (q r) h) (keys kv h)) (dprob (head (o r) h) (vals kv h)) k : EReal) := by
  obtain ⟨M, hM⟩ := v28 h0 h1 h r
  have a41 := v41 h1 h2
  have hl := sum_exp_ne fun x => score (head (q r) h) (keys kv h) x - M
  unfold val_main_v55 val_main_v54 val_main_v53 val_main_v52 val_main_v51 val_main_v50 val_main_v49 val_main_v48
    val_main_v47 val_main_v46 val_main_v45 val_main_v44 val_main_v35 val_main_v34 val_main_v33 val_main_v30 val_main_v29
  generalize val_main_v28 x0 x1 = a at *
  generalize val_main_v41 x1 x2 = b at *
  pointwise [val_main_cst_8, val_main_cst_9, val_main_cst_10, val_main_cst_11]
  rw [Fin.sum_univ_one]
  simp only [hM, a41, coe_sum, ← EReal.coe_mul]
  rw [one_div_coe _ (mul_ne_zero hl hl), div_coe _ _ hl]
  simp only [← EReal.coe_mul, coe_sum, ← EReal.coe_neg, ← EReal.coe_add]
  rw [dscore_div]

/-- The values' gradient, its heads side by side. -/
theorem v62 (h0 : ∀ r c, x0 (ix2 r c) = (q r c : EReal)) (h1 : ∀ k c, x1 (ix2 k c) = (kv k c : EReal))
    (h2 : ∀ r c, x2 (ix2 r c) = (o r c : EReal)) (k : Fin 256) (c : Fin 1024) :
    val_main_v62 (F := Ideal) x0 x1 x2 (ix2 k c) = (dvals q o kv ⟨c.val / 256, by omega⟩ k ⟨c.val % 256, by omega⟩ : EReal) := by
  have a32 := v32 h0 h1
  have a39 := v39 h2
  unfold val_main_v62 val_main_v43 val_main_v42 val_main_v40
  generalize val_main_v32 x0 x1 = a at *
  generalize val_main_v39 x2 = b at *
  pointwise
  simp only [a32, a39, ← EReal.coe_mul, coe_sum]
  unfold dvals
  congr 1
  exact Finset.sum_congr rfl fun x _ => mul_comm _ _

/-- The keys' gradient, its heads side by side. -/
theorem v64 (h0 : ∀ r c, x0 (ix2 r c) = (q r c : EReal)) (h1 : ∀ k c, x1 (ix2 k c) = (kv k c : EReal))
    (h2 : ∀ r c, x2 (ix2 r c) = (o r c : EReal)) (k : Fin 256) (c : Fin 1024) :
    val_main_v64 (F := Ideal) x0 x1 x2 (ix2 k c) = (dkeys q o kv ⟨c.val / 256, by omega⟩ k ⟨c.val % 256, by omega⟩ : EReal) := by
  have a55 := v55 h0 h1 h2
  have a0 := v0 h0
  unfold val_main_v64 val_main_v59 val_main_v58 val_main_v57
  generalize val_main_v55 x0 x1 x2 = a at *
  generalize val_main_v0 x0 = b at *
  pointwise [val_main_v56, val_main_cst_12]
  simp only [a55, a0, ofBits_sixteenth, ← EReal.coe_mul, coe_sum]
  unfold dkeys
  congr 1
  rw [Finset.sum_mul]
  exact Finset.sum_congr rfl fun x _ => by ring

/-- The memory's gradient: the keys' gradient, then the values'. -/
theorem v66 (h0 : ∀ r c, x0 (ix2 r c) = (q r c : EReal)) (h1 : ∀ k c, x1 (ix2 k c) = (kv k c : EReal))
    (h2 : ∀ r c, x2 (ix2 r c) = (o r c : EReal)) (k : Fin 256) (c : Fin 2048) :
    val_main_v66 (F := Ideal) x0 x1 x2 (ix2 k c) = (dmem q o kv k c : EReal) := by
  have a64 := v64 h0 h1 h2
  have a62 := v62 h0 h1 h2
  unfold val_main_v66 val_main_v65 val_main_v63
  generalize val_main_v64 x0 x1 x2 = a at *
  generalize val_main_v62 x0 x1 x2 = b at *
  pointwise [val_main_cst_13, val_main_cst_14]
  unfold dmem
  by_cases hc : c.val < 1024
  · rw [dif_neg (by omega), dif_pos hc, zero_add, a64, dif_pos hc]
  · rw [dif_pos (by omega), dif_neg hc, add_zero, a62, dif_neg hc]

/-- The queries' gradient. -/
theorem v68 (h0 : ∀ r c, x0 (ix2 r c) = (q r c : EReal)) (h1 : ∀ k c, x1 (ix2 k c) = (kv k c : EReal))
    (h2 : ∀ r c, x2 (ix2 r c) = (o r c : EReal)) (r : Fin 8192) (c : Fin 1024) :
    val_main_v68 (F := Ideal) x0 x1 x2 (ix2 r c) = (dquer q o kv r c : EReal) := by
  have a55 := v55 h0 h1 h2
  have a2 := v2 h1
  unfold val_main_v68 val_main_v67 val_main_v61 val_main_v60 val_main_v57
  generalize val_main_v55 x0 x1 x2 = a at *
  generalize val_main_v2 x1 = b at *
  pointwise [val_main_v56, val_main_cst_12]
  simp only [a55, a2, ofBits_sixteenth, ← EReal.coe_mul, coe_sum]
  unfold dquer dquery
  congr 1
  rw [Finset.sum_mul]
  exact Finset.sum_congr rfl fun x _ => by ring

end Cert.CrossRefIdeal.Math

end
end
-- ==== Proof.CrossValue.lean ====
module
public import proofs.«01_k».proof.Proof.CrossKernel
public import proofs.«01_k».proof.Proof.CrossRef
public import Idealize.ShloMosaic.Lib.Claim
public import Idealize.ShloMosaic.Lib.Pipeline.ReadBack
set_option maxRecDepth 16384
@[expose] public section
noncomputable section
open Idealize.ShloMosaic Idealize.ShloMosaic.TcCoe Idealize.SL.Sem
open Cert.CrossIdeal Cert.CrossIdeal.Gen Cert.RealLift Cert.CrossMath
namespace Cert.CrossIdeal.Math

variable (m : (ℓ : Loc nD τ sig) → Buf (Elt Ideal) ℓ) (c : Dev nD)
variable {q o : Fin 8192 → Fin 1024 → ℝ} {kv : Fin 256 → Fin 2048 → ℝ}

theorem idx : ∀ t : Fin cfg0.N, win0_0.index t = ![t.val, 0] ∧ win0_1.index t = ![0, 0] ∧ win0_2.index t = ![0, 1]
    ∧ win0_3.index t = ![t.val, 0] ∧ win0_4.index t = ![t.val, 0] ∧ win0_5.index t = ![0, 0] :=
  (by decide +kernel : ∀ t : Fin grid0.N, _)

variable (v3 : Vec Ideal S512x256 .bf16) (v5 v7 : Vec Ideal S256x256 .bf16) (v9 : Vec Ideal S512x256 .bf16)
  (a : Vec Ideal S256x256 .f32)

/-! The four heads' payloads are one function. -/

theorem pay22_eq : k0_pay22 (F := Ideal) (k0_pay14 v5) (k0_pay15 v7) (k0_pay16 v9) (k0_pay17 v3 v5) (k0_pay18 v3 v5) k0_pay19
    = k0_pay10 v3 v5 v7 v9 := rfl
theorem pay30_eq : k0_pay30 (F := Ideal) (k0_pay25 v3) (k0_pay26 v5) v7 v9 = k0_pay10 v3 v5 v7 v9 := rfl
theorem pay1_eq : k0_pay1 (F := Ideal) (k0_pay38 v3 v5 v7 v9) = k0_pay10 v3 v5 v7 v9 := rfl
theorem pay23_eq : k0_pay23 (F := Ideal) (k0_pay13 v3) (k0_pay15 v7) (k0_pay16 v9) (k0_pay17 v3 v5) (k0_pay18 v3 v5) k0_pay19 a
    = k0_pay11 (k0_pay5 v3) (k0_pay9 v3 v5 v7 v9) a := rfl
theorem pay31_eq : k0_pay31 (F := Ideal) (k0_pay25 v3) (k0_pay26 v5) v7 v9 a = k0_pay11 (k0_pay5 v3) (k0_pay9 v3 v5 v7 v9) a := rfl
theorem pay2_eq : k0_pay2 (F := Ideal) (k0_pay33 v3) (k0_pay37 v3 v5 v7 v9) a = k0_pay11 (k0_pay5 v3) (k0_pay9 v3 v5 v7 v9) a := rfl
theorem pay24_eq : k0_pay24 (F := Ideal) (k0_pay16 v9) (k0_pay17 v3 v5) (k0_pay18 v3 v5) k0_pay19 a
    = k0_pay12 (k0_pay7 v9) (k0_pay8 v3 v5) a := rfl
theorem pay32_eq : k0_pay32 (F := Ideal) (k0_pay27 v9) (k0_pay28 (k0_pay25 v3) (k0_pay26 v5)) a
    = k0_pay12 (k0_pay7 v9) (k0_pay8 v3 v5) a := rfl
theorem pay3_eq : k0_pay3 (F := Ideal) (k0_pay35 v9) (k0_pay36 v3 v5) a = k0_pay12 (k0_pay7 v9) (k0_pay8 v3 v5) a := rfl

/-- A tile of 256 columns of a block, read at its own indices, is head `h`'s columns. -/
theorem tile {n : ℕ} (X : (⟨2, ![n, 1024]⟩ : Shape).Idx → Elt Ideal .bf16) (f : Fin n → Fin 1024 → ℝ)
    (hX : ∀ r c, X (ix2 r c) = (f r c : EReal)) (off : Fin 2 → ℕ)
    (inb : ∀ a, off a + (![n, 256] : Fin 2 → ℕ) a ≤ (⟨2, ![n, 1024]⟩ : Shape).size a) (h : Fin 4) (h0 : off 0 = 0)
    (h1 : off 1 = h.val * 256) (r : Fin n) (d : Fin 256) :
    View.ld X (Rect.unit (s := ⟨2, ![n, 1024]⟩) off ![n, 256] inb) (ix2 r d) = (head (f r) h d : EReal) := by
  refine (View.ld_unit_apply_of X off _ inb (ix2 r d) (ix2 r ⟨h.val * 256 + d.val, by omega⟩) fun a => ?_).trans (hX _ _)
  match a with
  | ⟨0, _⟩ => show r.val = off 0 + r.val; omega
  | ⟨1, _⟩ => show h.val * 256 + d.val = off 1 + d.val; omega

/-- A grid point as one of 16. -/
def pt (t : Fin cfg0.N) : Fin 16 := ⟨t.val, t.isLt.trans_eq N_0⟩

section
variable (hq : ∀ r k, m ((c : Thread nD τ).loc main_arg0) (ix2 r k) = (q r k : EReal))
  (hkv : ∀ r k, m ((c : Thread nD τ).loc main_arg1) (ix2 r k) = (kv r k : EReal))
  (ho : ∀ r k, m ((c : Thread nD τ).loc main_arg2) (ix2 r k) = (o r k : EReal))

include hq in
theorem blk0 (t : Fin cfg0.N) (r : Fin 512) (k : Fin 1024) : iblk m c 0 t (ix2 r k) = (q (row (pt t) r) k : EReal) := by
  refine Eq.trans ?_ (hq _ _)
  blk_point [iblk, V, (idx t).1]
  rfl

include hkv in
theorem blk1 (t : Fin cfg0.N) (r : Fin 256) (k : Fin 1024) : iblk m c 1 t (ix2 r k) = (kv r ⟨k.val, by omega⟩ : EReal) := by
  refine Eq.trans ?_ (hkv _ _)
  blk_point [iblk, V, (idx t).2.1]

include hkv in
theorem blk2 (t : Fin cfg0.N) (r : Fin 256) (k : Fin 1024) : iblk m c 2 t (ix2 r k) = (kv r ⟨1024 + k.val, by omega⟩ : EReal) := by
  refine Eq.trans ?_ (hkv _ _)
  blk_point [iblk, V, (idx t).2.2.1]

include ho in
theorem blk3 (t : Fin cfg0.N) (r : Fin 512) (k : Fin 1024) : iblk m c 3 t (ix2 r k) = (o (row (pt t) r) k : EReal) := by
  refine Eq.trans ?_ (ho _ _)
  blk_point [iblk, V, (idx t).2.2.2.1]
  rfl

/-- One tile of the queries' gradient. -/
theorem dq_tile {i : Fin 512} {j : Fin 1024} {x : S512x256.Idx} (t : Fin cfg0.N) (h : Fin 4) {v3 : Vec Ideal S512x256 .bf16}
    {v5 v7 : Vec Ideal S256x256 .bf16} {v9 : Vec Ideal S512x256 .bf16}
    (h3 : ∀ r d, v3 (ix2 r d) = (head (q (row (pt t) r)) h d : EReal)) (h5 : ∀ r d, v5 (ix2 r d) = (keys kv h r d : EReal))
    (h7 : ∀ r d, v7 (ix2 r d) = (vals kv h r d : EReal)) (h9 : ∀ r d, v9 (ix2 r d) = (head (o (row (pt t) r)) h d : EReal))
    (y0 : i.val = (x 0).val) (y1 : j.val = h.val * 256 + (x 1).val) :
    k0_pay10 v3 v5 v7 v9 x = ((dquer q o kv (row (pt t) i) j : ℝ) : EReal) := by
  obtain ⟨a, b, rfl⟩ : ∃ a b, x = ix2 a b := ⟨x 0, x 1, eq_ix2 x⟩
  rw [dquer_head h b y1, show i = a from Fin.ext y0]
  exact pay10 h3 h5 h7 h9 a b

/-- The part of the memory's gradient one block of rows gives. -/
def part (q o : Fin 8192 → Fin 1024 → ℝ) (kv : Fin 256 → Fin 2048 → ℝ) (t : Fin 16) (i : Fin 256) (j : Fin 2048) : EReal :=
  ((dmem (fun r => q (row t r)) (fun r => o (row t r)) kv i j : ℝ) : EReal)

/-- One tile of the keys' gradient. -/
theorem dk_tile {i : Fin 256} {j : Fin 2048} {x : S256x256.Idx} (t : Fin cfg0.N) (h : Fin 4) {v3 : Vec Ideal S512x256 .bf16}
    {v5 v7 : Vec Ideal S256x256 .bf16} {v9 : Vec Ideal S512x256 .bf16} {w : Vec Ideal S256x256 .f32} {p : EReal}
    (h3 : ∀ r d, v3 (ix2 r d) = (head (q (row (pt t) r)) h d : EReal)) (h5 : ∀ r d, v5 (ix2 r d) = (keys kv h r d : EReal))
    (h7 : ∀ r d, v7 (ix2 r d) = (vals kv h r d : EReal)) (h9 : ∀ r d, v9 (ix2 r d) = (head (o (row (pt t) r)) h d : EReal))
    (hw : w x = p) (y0 : i.val = (x 0).val) (y1 : j.val = h.val * 256 + (x 1).val) :
    k0_pay11 (k0_pay5 v3) (k0_pay9 v3 v5 v7 v9) w x = p + part q o kv (pt t) i j := by
  obtain ⟨a, b, rfl⟩ : ∃ a b, x = ix2 a b := ⟨x 0, x 1, eq_ix2 x⟩
  unfold part
  rw [dmem_keys h b y1, show i = a from Fin.ext y0, ← hw]
  exact pay11 h3 h5 h7 h9 w a b

/-- One tile of the values' gradient. -/
theorem dv_tile {i : Fin 256} {j : Fin 2048} {x : S256x256.Idx} (t : Fin cfg0.N) (h : Fin 4) {v3 : Vec Ideal S512x256 .bf16}
    {v5 : Vec Ideal S256x256 .bf16} {v9 : Vec Ideal S512x256 .bf16} {w : Vec Ideal S256x256 .f32} {p : EReal}
    (h3 : ∀ r d, v3 (ix2 r d) = (head (q (row (pt t) r)) h d : EReal)) (h5 : ∀ r d, v5 (ix2 r d) = (keys kv h r d : EReal))
    (h9 : ∀ r d, v9 (ix2 r d) = (head (o (row (pt t) r)) h d : EReal))
    (hw : w x = p) (y0 : i.val = (x 0).val) (y1 : j.val = 1024 + (h.val * 256 + (x 1).val)) :
    k0_pay12 (k0_pay7 v9) (k0_pay8 v3 v5) w x = p + part q o kv (pt t) i j := by
  obtain ⟨a, b, rfl⟩ : ∃ a b, x = ix2 a b := ⟨x 0, x 1, eq_ix2 x⟩
  unfold part
  rw [dmem_vals h b y1, show i = a from Fin.ext y0, ← hw]
  exact pay12 h3 h5 h9 w a b

/-- A tile of the accumulator, read where it lies in the accumulator. -/
theorem acc_tile (X : S256x2048.Idx → Elt Ideal .f32) (off : Fin 2 → ℕ)
    (inb : ∀ a, off a + (![256, 256] : Fin 2 → ℕ) a ≤ S256x2048.size a) (o0 : off 0 = 0)
    {i : Fin 256} {j : Fin 2048} {x : S256x256.Idx} (y0 : i.val = (x 0).val) (y1 : j.val = off 1 + (x 1).val) :
    View.ld X (Rect.unit (s := S256x2048) off ![256, 256] inb) x = X (ix2 i j) :=
  View.ld_unit_apply_of X off _ inb x (ix2 i j) fun a => match a with
    | ⟨0, _⟩ => show i.val = off 0 + (x 0).val by omega
    | ⟨1, _⟩ => y1

/-- Where some piece of a list holds an index, the pieces stored before the list do not count. -/
theorem canon_append {S : Shape} {e : EltTy} (L L' : List (View.Piece (Elt Ideal) S e)) (y : S.Idx) (h : ∃ p ∈ L, y ∈ p.1.set) :
    View.canon (L ++ L') y = View.canon L y := by
  induction L with
  | nil => obtain ⟨p, hp, _⟩ := h; exact absurd hp List.not_mem_nil
  | cons p L ih =>
    by_cases hy : y ∈ p.1.set
    · obtain ⟨x, rfl⟩ := p.1.exists_idx_of_mem hy
      exact (View.canon_cons_emb p.1 p.2 (L ++ L') x).trans (View.canon_cons_emb p.1 p.2 L x).symm
    · have hL : ∃ p ∈ L, y ∈ p.1.set := by
        obtain ⟨p', hp', hy'⟩ := h
        rcases List.mem_cons.mp hp' with rfl | h'
        · exact absurd hy' hy
        · exact ⟨p', h', hy'⟩
      exact (View.canon_cons_of_not_mem p (L ++ L') hy).trans ((ih hL).trans (View.canon_cons_of_not_mem p L hy).symm)

include hq hkv ho in
theorem point4 (t : Fin cfg0.N) (i : Fin 512) (j : Fin 1024) :
    (outsAt0 m c t.val t.isLt).1 (ix2 i j) = ((dquer q o kv (row (pt t) i) j : ℝ) : EReal) := by
  have b0 := blk0 m c hq t
  have b1 := blk1 m c hkv t
  have b2 := blk2 m c hkv t
  have b3 := blk3 m c ho t
  by_cases h : t.val % 16 = 0
  · rw [outsAt0_A m c t h]; frame_out
    clear h
    canon_tiles x h
    all_goals try simp only [pay22_eq, pay30_eq, pay1_eq]
    case piece0 =>
      exact dq_tile t 3 (tile _ _ b0 _ _ 3 (by rfl) (by rfl)) (tile _ _ b1 _ _ 3 (by rfl) (by rfl))
        (tile _ _ b2 _ _ 3 (by rfl) (by rfl)) (tile _ _ b3 _ _ 3 (by rfl) (by rfl)) h0 (h1.trans (by simp))
    case piece1 =>
      exact dq_tile t 2 (tile _ _ b0 _ _ 2 (by rfl) (by rfl)) (tile _ _ b1 _ _ 2 (by rfl) (by rfl))
        (tile _ _ b2 _ _ 2 (by rfl) (by rfl)) (tile _ _ b3 _ _ 2 (by rfl) (by rfl)) h0 (h1.trans (by simp))
    case piece2 =>
      exact dq_tile t 1 (tile _ _ b0 _ _ 1 (by rfl) (by rfl)) (tile _ _ b1 _ _ 1 (by rfl) (by rfl))
        (tile _ _ b2 _ _ 1 (by rfl) (by rfl)) (tile _ _ b3 _ _ 1 (by rfl) (by rfl)) h0 (h1.trans (by simp))
    case piece3 =>
      exact dq_tile t 0 (tile _ _ b0 _ _ 0 (by rfl) (by rfl)) (tile _ _ b1 _ _ 0 (by rfl) (by rfl))
        (tile _ _ b2 _ _ 0 (by rfl) (by rfl)) (tile _ _ b3 _ _ 0 (by rfl) (by rfl)) h0 (h1.trans (by simp))
  · rw [outsAt0_B m c t h]; frame_out
    clear h
    canon_tiles x h
    all_goals try simp only [pay22_eq, pay30_eq, pay1_eq]
    case piece0 =>
      exact dq_tile t 3 (tile _ _ b0 _ _ 3 (by rfl) (by rfl)) (tile _ _ b1 _ _ 3 (by rfl) (by rfl))
        (tile _ _ b2 _ _ 3 (by rfl) (by rfl)) (tile _ _ b3 _ _ 3 (by rfl) (by rfl)) h0 (h1.trans (by simp))
    case piece1 =>
      exact dq_tile t 2 (tile _ _ b0 _ _ 2 (by rfl) (by rfl)) (tile _ _ b1 _ _ 2 (by rfl) (by rfl))
        (tile _ _ b2 _ _ 2 (by rfl) (by rfl)) (tile _ _ b3 _ _ 2 (by rfl) (by rfl)) h0 (h1.trans (by simp))
    case piece2 =>
      exact dq_tile t 1 (tile _ _ b0 _ _ 1 (by rfl) (by rfl)) (tile _ _ b1 _ _ 1 (by rfl) (by rfl))
        (tile _ _ b2 _ _ 1 (by rfl) (by rfl)) (tile _ _ b3 _ _ 1 (by rfl) (by rfl)) h0 (h1.trans (by simp))
    case piece3 =>
      exact dq_tile t 0 (tile _ _ b0 _ _ 0 (by rfl) (by rfl)) (tile _ _ b1 _ _ 0 (by rfl) (by rfl))
        (tile _ _ b2 _ _ 0 (by rfl) (by rfl)) (tile _ _ b3 _ _ 0 (by rfl) (by rfl)) h0 (h1.trans (by simp))

include hq hkv ho in
theorem point5B (t : Fin cfg0.N) (i : Fin 256) (j : Fin 2048) (h : ¬ t.val % 16 = 0) :
    (outsAt0 m c t.val t.isLt).2 (ix2 i j) = (outsAt0 m c (t.val - 1) (by omega)).2 (ix2 i j) + part q o kv (pt t) i j := by
  have b0 := blk0 m c hq t
  have b1 := blk1 m c hkv t
  have b2 := blk2 m c hkv t
  have b3 := blk3 m c ho t
  rw [outsAt0_B m c t h]; frame_out
  clear h
  canon_tiles x h
  all_goals try simp only [pay23_eq, pay24_eq, pay31_eq, pay32_eq, pay2_eq, pay3_eq]
  case piece0 =>
    exact dv_tile t 3 (tile _ _ b0 _ _ 3 (by rfl) (by rfl)) (tile _ _ b1 _ _ 3 (by rfl) (by rfl))
      (tile _ _ b3 _ _ 3 (by rfl) (by rfl)) (acc_tile _ _ _ (by rfl) h0 (h1.trans (by simp))) h0 (h1.trans (by simp <;> omega))
  case piece1 =>
    exact dk_tile t 3 (tile _ _ b0 _ _ 3 (by rfl) (by rfl)) (tile _ _ b1 _ _ 3 (by rfl) (by rfl))
      (tile _ _ b2 _ _ 3 (by rfl) (by rfl)) (tile _ _ b3 _ _ 3 (by rfl) (by rfl)) (acc_tile _ _ _ (by rfl) h0 (h1.trans (by simp))) h0 (h1.trans (by simp))
  case piece2 =>
    exact dv_tile t 2 (tile _ _ b0 _ _ 2 (by rfl) (by rfl)) (tile _ _ b1 _ _ 2 (by rfl) (by rfl))
      (tile _ _ b3 _ _ 2 (by rfl) (by rfl)) (acc_tile _ _ _ (by rfl) h0 (h1.trans (by simp))) h0 (h1.trans (by simp <;> omega))
  case piece3 =>
    exact dk_tile t 2 (tile _ _ b0 _ _ 2 (by rfl) (by rfl)) (tile _ _ b1 _ _ 2 (by rfl) (by rfl))
      (tile _ _ b2 _ _ 2 (by rfl) (by rfl)) (tile _ _ b3 _ _ 2 (by rfl) (by rfl)) (acc_tile _ _ _ (by rfl) h0 (h1.trans (by simp))) h0 (h1.trans (by simp))
  case piece4 =>
    exact dv_tile t 1 (tile _ _ b0 _ _ 1 (by rfl) (by rfl)) (tile _ _ b1 _ _ 1 (by rfl) (by rfl))
      (tile _ _ b3 _ _ 1 (by rfl) (by rfl)) (acc_tile _ _ _ (by rfl) h0 (h1.trans (by simp))) h0 (h1.trans (by simp <;> omega))
  case piece5 =>
    exact dk_tile t 1 (tile _ _ b0 _ _ 1 (by rfl) (by rfl)) (tile _ _ b1 _ _ 1 (by rfl) (by rfl))
      (tile _ _ b2 _ _ 1 (by rfl) (by rfl)) (tile _ _ b3 _ _ 1 (by rfl) (by rfl)) (acc_tile _ _ _ (by rfl) h0 (h1.trans (by simp))) h0 (h1.trans (by simp))
  case piece6 =>
    exact dv_tile t 0 (tile _ _ b0 _ _ 0 (by rfl) (by rfl)) (tile _ _ b1 _ _ 0 (by rfl) (by rfl))
      (tile _ _ b3 _ _ 0 (by rfl) (by rfl)) (acc_tile _ _ _ (by rfl) h0 (h1.trans (by simp))) h0 (h1.trans (by simp <;> omega))
  case piece7 =>
    exact dk_tile t 0 (tile _ _ b0 _ _ 0 (by rfl) (by rfl)) (tile _ _ b1 _ _ 0 (by rfl) (by rfl))
      (tile _ _ b2 _ _ 0 (by rfl) (by rfl)) (tile _ _ b3 _ _ 0 (by rfl) (by rfl)) (acc_tile _ _ _ (by rfl) h0 (h1.trans (by simp))) h0 (h1.trans (by simp))

theorem zero_pay (y : S256x2048.Idx) : k0_pay4 (F := Ideal) y = (0 : EReal) := by
  pointwise [k0_pay4]

include hq hkv ho in
theorem point5A (t : Fin cfg0.N) (i : Fin 256) (j : Fin 2048) (h : t.val % 16 = 0) :
    (outsAt0 m c t.val t.isLt).2 (ix2 i j) = 0 + part q o kv (pt t) i j := by
  have b0 := blk0 m c hq t
  have b1 := blk1 m c hkv t
  have b2 := blk2 m c hkv t
  have b3 := blk3 m c ho t
  rw [outsAt0_A m c t h]; frame_out
  clear h
  simp (disch := first | decide | rfl) only [↓View.readCov_skip, ↓View.readCov_fill]
  refine (canon_append [_, _, _, _, _, _, _, _] [_] _ ?_).trans ?_
  · exact View.cover_of_tiledL (s := S256x2048) _ S256x256.size (by sl_kernel_rfl) _
  canon_tiles x h
  all_goals try simp only [pay23_eq, pay24_eq, pay31_eq, pay32_eq, pay2_eq, pay3_eq]
  case piece0 =>
    refine dv_tile t 3 (tile _ _ b0 _ _ 3 (by rfl) (by rfl)) (tile _ _ b1 _ _ 3 (by rfl) (by rfl))
      (tile _ _ b3 _ _ 3 (by rfl) (by rfl)) ?_ h0 (h1.trans (by simp <;> omega))
    exact zero_pay _
  case piece1 =>
    refine dk_tile t 3 (tile _ _ b0 _ _ 3 (by rfl) (by rfl)) (tile _ _ b1 _ _ 3 (by rfl) (by rfl))
      (tile _ _ b2 _ _ 3 (by rfl) (by rfl)) (tile _ _ b3 _ _ 3 (by rfl) (by rfl)) ?_ h0 (h1.trans (by simp))
    exact zero_pay _
  case piece2 =>
    refine dv_tile t 2 (tile _ _ b0 _ _ 2 (by rfl) (by rfl)) (tile _ _ b1 _ _ 2 (by rfl) (by rfl))
      (tile _ _ b3 _ _ 2 (by rfl) (by rfl)) ?_ h0 (h1.trans (by simp <;> omega))
    exact zero_pay _
  case piece3 =>
    refine dk_tile t 2 (tile _ _ b0 _ _ 2 (by rfl) (by rfl)) (tile _ _ b1 _ _ 2 (by rfl) (by rfl))
      (tile _ _ b2 _ _ 2 (by rfl) (by rfl)) (tile _ _ b3 _ _ 2 (by rfl) (by rfl)) ?_ h0 (h1.trans (by simp))
    exact zero_pay _
  case piece4 =>
    refine dv_tile t 1 (tile _ _ b0 _ _ 1 (by rfl) (by rfl)) (tile _ _ b1 _ _ 1 (by rfl) (by rfl))
      (tile _ _ b3 _ _ 1 (by rfl) (by rfl)) ?_ h0 (h1.trans (by simp <;> omega))
    exact zero_pay _
  case piece5 =>
    refine dk_tile t 1 (tile _ _ b0 _ _ 1 (by rfl) (by rfl)) (tile _ _ b1 _ _ 1 (by rfl) (by rfl))
      (tile _ _ b2 _ _ 1 (by rfl) (by rfl)) (tile _ _ b3 _ _ 1 (by rfl) (by rfl)) ?_ h0 (h1.trans (by simp))
    exact zero_pay _
  case piece6 =>
    refine dv_tile t 0 (tile _ _ b0 _ _ 0 (by rfl) (by rfl)) (tile _ _ b1 _ _ 0 (by rfl) (by rfl))
      (tile _ _ b3 _ _ 0 (by rfl) (by rfl)) ?_ h0 (h1.trans (by simp <;> omega))
    exact zero_pay _
  case piece7 =>
    refine dk_tile t 0 (tile _ _ b0 _ _ 0 (by rfl) (by rfl)) (tile _ _ b1 _ _ 0 (by rfl) (by rfl))
      (tile _ _ b2 _ _ 0 (by rfl) (by rfl)) (tile _ _ b3 _ _ 0 (by rfl) (by rfl)) ?_ h0 (h1.trans (by simp))
    exact zero_pay _

include hq hkv ho in
/-- The queries' gradient after the last grid point. -/
theorem final4 : (dats m 0 c).arrAt 4 cfg0.N = fun j : S8192x1024.Idx => ((dquer q o kv (j 0) (j 1) : ℝ) : EReal) := by
  refine (dats m 0 c).arrAt_eq_of_covers 4 _ (by decide +kernel) fun t _ y => ?_
  blk_simp
  rw [after0_4]
  obtain ⟨i, j, rfl⟩ : ∃ i j, y = ix2 i j := ⟨y 0, y 1, eq_ix2 y⟩
  have e : (win0_4.blk t).view.emb (ix2 i j) = ix2 (row (pt t) i) j := by
    blk_ext [(idx t).2.2.2.2.1]
    all_goals rfl
  rw [e]
  exact point4 m c hq hkv ho t i j

include hq hkv ho in
/-- The memory's gradient after the last grid point. -/
theorem final5 : (dats m 0 c).arrAt 5 cfg0.N = fun j : S256x2048.Idx => ((dmem q o kv (j 0) (j 1) : ℝ) : EReal) := by
  refine (dats m 0 c).arrAt_eq_of_after_last 5 t0_15 (by decide +kernel) _ fun j => ?_
  blk_simp
  rw [after0_5]
  obtain ⟨i, k, rfl⟩ : ∃ i k, j = ix2 i k := ⟨j 0, j 1, eq_ix2 j⟩
  rw [Pipeline.eq_sum_fin_of_reset_step_apply_last (fun n h => (outsAt0 m c n h).2) 16 (fun _ => 0)
    (fun p j => part q o kv ⟨p % 16, Nat.mod_lt _ (by decide)⟩ (j 0) (j 1))
    (fun t h j => ?_) (fun t h j => ?_) (le_of_eq N_0) t0_15 rfl (ix2 i k)]
  · show 0 + ∑ p : Fin 16, part q o kv ⟨p.val % 16, _⟩ i k = ((dmem q o kv i k : ℝ) : EReal)
    rw [zero_add]
    unfold part
    rw [coe_sum, ← dmem_rows]
    refine congrArg _ (Finset.sum_congr rfl fun p _ => ?_)
    rw [show (⟨p.val % 16, Nat.mod_lt _ (by decide)⟩ : Fin 16) = p from Fin.ext (Nat.mod_eq_of_lt p.isLt)]
  · rw [show (⟨t.val % 16, Nat.mod_lt _ (by decide)⟩ : Fin 16) = pt t from Fin.ext (Nat.mod_eq_of_lt (pt t).isLt)]
    obtain ⟨i, k, rfl⟩ : ∃ i k, j = ix2 i k := ⟨j 0, j 1, eq_ix2 j⟩
    exact point5A m c hq hkv ho t i k h
  · rw [show (⟨t.val % 16, Nat.mod_lt _ (by decide)⟩ : Fin 16) = pt t from Fin.ext (Nat.mod_eq_of_lt (pt t).isLt)]
    obtain ⟨i, k, rfl⟩ : ∃ i k, j = ix2 i k := ⟨j 0, j 1, eq_ix2 j⟩
    exact point5B m c hq hkv ho t i k h

end
end Cert.CrossIdeal.Math
end
end
-- ==== Proof.CrossClaim.lean ====
/- The claims about the memory-attention gradient. -/
module

public import proofs.«01_k».proof.Defs
public import proofs.«01_k».proof.Proof.CrossValue
public import proofs.«01_k».proof.Proof.Gen.Cross.Frame
public import proofs.«01_k».proof.Proof.Gen.CrossRefIdeal.Run
public import Idealize.ShloMosaic.Lib.Quiescent

set_option maxRecDepth 16384

@[expose] public section
noncomputable section

open Idealize.ShloMosaic Idealize.ShloMosaic.TcCoe Idealize.SL.Sem Cert.RealLift Cert.CrossMath

namespace Cert.CrossClaim

/-- The side conditions of the precondition. -/
theorem preFacts : Cert.Pre_cross_finite.Facts where
  bcast_S_S8192x1024 := by decide
  bcast_S_S256x2048 := by decide

/-- The reference runs and leaves its arguments as they were. -/
theorem refFrame : Cert.quiescent_CrossRefIdeal (hCrossRefIdeal := Cert.CrossRefIdeal.Gen.facts) :=
  fun m ρ _ => (θ_run Cert.CrossRefIdeal.defs _ _).mono
    (fun r h => ⟨fun c => (h c).2.2, Idealize.ShloMosaic.sem_eq_zero_of_no_sems (by decide) r.2⟩)
    (Cert.CrossRefIdeal.Value.run (F := Ideal) m ρ)

/-- The precondition makes every argument an array of real numbers. -/
theorem reals (m : (ℓ : Loc Cert.CrossIdeal.nD Cert.CrossIdeal.τ Cert.CrossIdeal.sig) → Buf (Elt Ideal) ℓ)
    (h : Cert.Pre_CrossIdeal_cross_finite (hPre_cross_finite := preFacts) m) (c : Dev Cert.CrossIdeal.nD) :
    ∃ (q o : Fin 8192 → Fin 1024 → ℝ) (kv : Fin 256 → Fin 2048 → ℝ),
      (∀ r k, m ((c : Thread Cert.CrossIdeal.nD Cert.CrossIdeal.τ).loc Cert.CrossIdeal.main_arg0) (ix2 r k) = (q r k : EReal))
      ∧ (∀ r k, m ((c : Thread Cert.CrossIdeal.nD Cert.CrossIdeal.τ).loc Cert.CrossIdeal.main_arg1) (ix2 r k) = (kv r k : EReal))
      ∧ ∀ r k, m ((c : Thread Cert.CrossIdeal.nD Cert.CrossIdeal.τ).loc Cert.CrossIdeal.main_arg2) (ix2 r k) = (o r k : EReal) := by
  obtain ⟨h0, h1, h2⟩ := h c
  choose q hq using fun r k => exists_coe_of_cmp (congrFun h0 (ix2 r k))
  choose kv hkv using fun r k => exists_coe_of_cmp (congrFun h1 (ix2 r k))
  choose o ho using fun r k => exists_coe_of_cmp (congrFun h2 (ix2 r k))
  exact ⟨q, o, kv, hq, hkv, ho⟩

/-- Kernel and reference end with the same two gradients. -/
theorem algebraic : Cert.algebraic_CrossIdeal_CrossRefIdeal_pre_cross_finite (hCrossIdeal := Cert.CrossIdeal.Gen.facts)
    (hCrossRefIdeal := Cert.CrossRefIdeal.Gen.facts) (hPre_cross_finite := preFacts) := by
  pair_intro
  · run_from Cert.CrossIdeal.Gen.run_main m g
  · run_from Cert.CrossRefIdeal.Value.run m' g'
    · obtain ⟨q, o, kv, hq, hkv, ho⟩ := reals m hpre c
      rw [Cert.CrossIdeal.Math.final4 m c hq hkv ho, Cert.CrossRefIdeal.Read.val_main_v68_eq]
      funext j
      obtain ⟨r, k, rfl⟩ : ∃ r k, j = ix2 r k := ⟨j 0, j 1, eq_ix2 j⟩
      exact Cert.CrossRefIdeal.Math.v68 (fun r k => (congrFun (hagree c).1 _).trans (hq r k))
        (fun r k => (congrFun (hagree c).2.1 _).trans (hkv r k)) (fun r k => (congrFun (hagree c).2.2 _).trans (ho r k)) r k
    · obtain ⟨q, o, kv, hq, hkv, ho⟩ := reals m hpre c
      rw [Cert.CrossIdeal.Math.final5 m c hq hkv ho, Cert.CrossRefIdeal.Read.val_main_v66_eq]
      funext j
      obtain ⟨r, k, rfl⟩ : ∃ r k, j = ix2 r k := ⟨j 0, j 1, eq_ix2 j⟩
      exact Cert.CrossRefIdeal.Math.v66 (fun r k => (congrFun (hagree c).1 _).trans (hq r k))
        (fun r k => (congrFun (hagree c).2.1 _).trans (hkv r k)) (fun r k => (congrFun (hagree c).2.2 _).trans (ho r k)) r k

end Cert.CrossClaim

end
end
-- ==== Proof.ShortConvMath.lean ====
/- The gated short causal convolution and its gradient, over the extended reals. -/
module

public import proofs.«01_k».proof.Proof.RealLift

@[expose] public section
noncomputable section

namespace Cert.ShortConvMath

/-- A column continued by zeros after its last row. -/
def ext (f : Fin 8192 → EReal) (n : ℕ) : EReal := if h : n < 8192 then f ⟨n, h⟩ else 0

/-- A column `k` rows earlier, zeros before its first row. -/
def past (f : Fin 8192 → EReal) (k : ℕ) (r : Fin 8192) : EReal := if h : k ≤ r.val then f ⟨r.val - k, by omega⟩ else 0

/-- A sum against a delayed column is the sum against the other column advanced. -/
theorem sum_past (f g : Fin 8192 → EReal) (j : ℕ) : ∑ r, g r * past f j r = ∑ r, f r * ext g (j + r.val) := by
  have a : ∀ r, g r * past f j r = ∑ s : Fin 8192, if j + s.val = r.val then f s * g r else 0 := by
    intro r
    unfold past
    split
    · rename_i h
      rw [Finset.sum_eq_single_of_mem (⟨r.val - j, by omega⟩ : Fin 8192) (Finset.mem_univ _), if_pos (by show j + (r.val - j) = r.val; omega), mul_comm]
      intro s _ hs
      exact if_neg fun h' => hs (Fin.ext (by show s.val = r.val - j; omega))
    · rename_i h
      rw [mul_zero]
      exact (Finset.sum_eq_zero fun s _ => if_neg (by omega)).symm
  have b : ∀ s, f s * ext g (j + s.val) = ∑ r : Fin 8192, if j + s.val = r.val then f s * g r else 0 := by
    intro s
    unfold ext
    split
    · rename_i h
      rw [Finset.sum_eq_single_of_mem (⟨j + s.val, h⟩ : Fin 8192) (Finset.mem_univ _), if_pos rfl]
      intro r _ hr
      exact if_neg fun h' => hr (Fin.ext h'.symm)
    · rename_i h
      rw [mul_zero]
      exact (Finset.sum_eq_zero fun r _ => if_neg (by omega)).symm
  rw [Finset.sum_congr rfl fun r _ => a r, Finset.sum_congr rfl fun s _ => b s, Finset.sum_comm]

section
variable (z : Fin 8192 → Fin 3072 → EReal) (w : Fin 3 → Fin 1024 → EReal) (dy : Fin 8192 → Fin 1024 → EReal)

/-- The first gate. -/
def gateB (r : Fin 8192) (k : Fin 1024) : EReal := z r ⟨k.val, by omega⟩
/-- The second gate. -/
def gateC (r : Fin 8192) (k : Fin 1024) : EReal := z r ⟨1024 + k.val, by omega⟩
/-- The value. -/
def value (r : Fin 8192) (k : Fin 1024) : EReal := z r ⟨2048 + k.val, by omega⟩
/-- What is convolved. -/
def gated (r : Fin 8192) (k : Fin 1024) : EReal := gateC z r k * value z r k
/-- The convolution. -/
def conv (r : Fin 8192) (k : Fin 1024) : EReal :=
  0 + w 0 k * past (fun r => gated z r k) 2 r + w 1 k * past (fun r => gated z r k) 1 r + w 2 k * gated z r k
/-- The cotangent of the convolution. -/
def dconv (r : Fin 8192) (k : Fin 1024) : EReal := dy r k * gateB z r k
/-- The cotangent of what is convolved, at a row counted from the array's first. -/
def dgated (n : ℕ) (k : Fin 1024) : EReal :=
  0 + w 0 k * ext (fun r => dconv z dy r k) (2 + n) + w 1 k * ext (fun r => dconv z dy r k) (1 + n)
    + w 2 k * ext (fun r => dconv z dy r k) n
/-- The same with the nearest row first. -/
theorem dgated_eq (n : ℕ) (k : Fin 1024) : dgated z w dy n k = w 2 k * ext (fun r => dconv z dy r k) n
    + w 1 k * ext (fun r => dconv z dy r k) (1 + n) + w 0 k * ext (fun r => dconv z dy r k) (2 + n) := by
  unfold dgated
  rw [zero_add, add_comm (w 0 k * _), add_comm _ (w 2 k * _), ← add_assoc]
/-- The cotangent of gates and value side by side. -/
def dz (r : Fin 8192) (j : Fin 3072) : EReal :=
  if h : j.val < 1024 then dy r ⟨j.val, h⟩ * conv z w r ⟨j.val, h⟩
  else if h' : j.val < 2048 then dgated z w dy r.val ⟨j.val - 1024, by omega⟩ * value z r ⟨j.val - 1024, by omega⟩
  else dgated z w dy r.val ⟨j.val - 2048, by omega⟩ * gateC z r ⟨j.val - 2048, by omega⟩
/-- One row's term of the taps' cotangent: tap `i` meets the row `2 - i` rows later. -/
def dtap (i : ℕ) (r : Fin 8192) (k : Fin 1024) : EReal :=
  gated z r k * ext (fun r => dconv z dy r k) (2 - i + r.val)
/-- The taps' cotangent, with five rows of zeros below. -/
def dw (i : Fin 8) (k : Fin 1024) : EReal := if i.val < 3 then ∑ r, dtap z dy i.val r k else 0
end

end Cert.ShortConvMath

end
end
-- ==== Proof.ShortConvRef.lean ====
/- The reference gradient of the gated short causal convolution, stage by stage. -/
module

public import proofs.«01_k».proof.Proof.Gen.ShortConvRefIdeal.Read
public import proofs.«01_k».proof.Proof.ShortConvMath
public import Idealize.ShloMosaic.Lib.Pointwise
public import Idealize.ShloMosaic.Lib.Pipeline.ValueKit

set_option maxRecDepth 16384

@[expose] public section
noncomputable section

open Idealize.ShloMosaic Idealize.ShloMosaic.TcCoe Idealize.SL.Sem
open Cert.ShortConvRefIdeal Cert.ShortConvRefIdeal.Gen Cert.ShortConvRefIdeal.Read Cert.RealLift Cert.ShortConvMath

namespace Cert.ShortConvRefIdeal.Math

variable {x0 : (⟨S8192x3072, .f32⟩ : BufTy).Contents (Elt Ideal)} {x1 : (⟨S3x1024, .f32⟩ : BufTy).Contents (Elt Ideal)}
variable {x2 : (⟨S8192x1024, .f32⟩ : BufTy).Contents (Elt Ideal)}
variable {z : Fin 8192 → Fin 3072 → EReal} {w : Fin 3 → Fin 1024 → EReal} {dy : Fin 8192 → Fin 1024 → EReal}

/-- The integer zero as a float. -/
theorem sitofp_zero : FloatOps.sitofp (F := Ideal) FTy.f32 (0#32) = (0 : EReal) := by
  show (((0#32).toInt : ℝ) : EReal) = 0
  simp

section
variable (hz : ∀ r k, x0 (ix2 r k) = z r k)
include hz

theorem v0 (r : Fin 8192) (k : Fin 1024) : val_main_v0 (F := Ideal) x0 (ix2 r k) = gateB z r k := by
  pointwise [val_main_v0]
  refine Eq.trans ?_ (hz _ _)
  congr 1
theorem v1 (r : Fin 8192) (k : Fin 1024) : val_main_v1 (F := Ideal) x0 (ix2 r k) = gateC z r k := by
  pointwise [val_main_v1]
  exact hz _ _
theorem v2 (r : Fin 8192) (k : Fin 1024) : val_main_v2 (F := Ideal) x0 (ix2 r k) = value z r k := by
  pointwise [val_main_v2]
  exact hz _ _
theorem v3 (r : Fin 8192) (k : Fin 1024) : val_main_v3 (F := Ideal) x0 (ix2 r k) = gated z r k := by
  have a := v1 hz r k
  have b := v2 hz r k
  unfold val_main_v3
  generalize val_main_v1 x0 = p at *
  generalize val_main_v2 x0 = q at *
  pointwise []
  rw [a, b]; rfl
theorem v5 (n : Fin 8194) (k : Fin 1024) : val_main_v5 (F := Ideal) x0 (ix2 n k)
    = if h : 2 ≤ n.val then gated z ⟨n.val - 2, by omega⟩ k else 0 := by
  have a := v3 hz
  unfold val_main_v5
  generalize val_main_v3 x0 = p at *
  pointwise [val_main_v4, val_main_cst]
  split
  · rw [dif_neg (by omega)]
  · rw [dif_pos (by omega), a]
theorem v9 (r : Fin 8192) (k : Fin 1024) : val_main_v9 (F := Ideal) x0 (ix2 r k) = past (fun r => gated z r k) 2 r := by
  have a := v5 hz
  unfold val_main_v9
  generalize val_main_v5 x0 = p at *
  pointwise []
  exact a _ _
theorem v17 (r : Fin 8192) (k : Fin 1024) : val_main_v17 (F := Ideal) x0 (ix2 r k) = past (fun r => gated z r k) 1 r := by
  have a := v5 hz
  unfold val_main_v17
  generalize val_main_v5 x0 = p at *
  pointwise []
  rw [a]
  unfold past
  dsimp only
  split
  · rw [dif_pos (by omega)]
    congr 1; ext; show _ - 2 = _ - 1; omega
  · rw [dif_neg (by omega)]
theorem v24 (r : Fin 8192) (k : Fin 1024) : val_main_v24 (F := Ideal) x0 (ix2 r k) = gated z r k := by
  have a := v5 hz
  unfold val_main_v24
  generalize val_main_v5 x0 = p at *
  pointwise []
  rw [a]
  dsimp only
  rw [dif_pos (by omega)]
  congr 1; ext; show _ - 2 = _; omega
/-- The convolution. -/
theorem v28 (hw : ∀ r k, x1 (ix2 r k) = w r k) (r : Fin 8192) (k : Fin 1024) : val_main_v28 (F := Ideal) x0 x1 (ix2 r k) = conv z w r k := by
  have a := v9 hz r k
  have b := v17 hz r k
  have d := v24 hz r k
  unfold val_main_v28 val_main_v21 val_main_v14 val_main_v12 val_main_v20 val_main_v27
  generalize val_main_v9 x0 = p at *
  generalize val_main_v17 x0 = q at *
  generalize val_main_v24 x0 = s at *
  pointwise [val_main_v13, val_main_cst_1, val_main_v11, val_main_v10, val_main_v8, val_main_v7, val_main_v19, val_main_v18,
    val_main_v16, val_main_v15, val_main_v26, val_main_v25, val_main_v23, val_main_v22]
  rw [a, b, d, hw, hw, hw]
  exact congrArg (· + _) (congrArg (· + _) (zero_add _).symm)
theorem v30 (hy : ∀ r k, x2 (ix2 r k) = dy r k) (r : Fin 8192) (k : Fin 1024) : val_main_v30 (F := Ideal) x0 x2 (ix2 r k) = dconv z dy r k := by
  have a := v0 hz r k
  unfold val_main_v30
  generalize val_main_v0 x0 = p at *
  pointwise []
  rw [a, hy, mul_comm]; rfl
/-- The cotangent of what is convolved. -/
theorem v64 (hw : ∀ r k, x1 (ix2 r k) = w r k) (hy : ∀ r k, x2 (ix2 r k) = dy r k) (r : Fin 8192) (k : Fin 1024) :
    val_main_v64 (F := Ideal) x0 x1 x2 (ix2 r k) = dgated z w dy r.val k := by
  have a := v30 hz hy
  unfold val_main_v64 val_main_v59 val_main_v48 val_main_v38 val_main_v47 val_main_v58 val_main_v33 val_main_v42 val_main_v53
  generalize val_main_v30 x0 x2 = p at *
  pointwise [val_main_cst_4, val_main_cst_8, val_main_cst_12, val_main_v32, val_main_v25, val_main_v23, val_main_v22,
    val_main_v41, val_main_v18, val_main_v16, val_main_v15, val_main_v52, val_main_v10, val_main_v8, val_main_v7]
  simp only [a, hw]
  have e : ∀ n (h : n < 8192), ext (fun r => dconv z dy r k) n = dconv z dy ⟨n, h⟩ k := fun n h => dif_pos h
  have e' : ∀ n, ¬ n < 8192 → ext (fun r => dconv z dy r k) n = 0 := fun n h => dif_neg h
  refine Eq.trans ?_ (dgated_eq z w dy r.val k).symm
  refine congrArg₂ (· + ·) (congrArg₂ (· + ·) ?_ ?_) ?_
  · rw [e _ r.isLt]
  · by_cases h : 1 + r.val < 8192
    · refine (dif_pos (by omega)).trans ?_
      rw [e _ h]
      congr 2; ext; show 2 + r.val - 1 = 1 + r.val; omega
    · refine (dif_neg (by omega)).trans ?_
      rw [e' _ h, mul_zero]
  · by_cases h : 2 + r.val < 8192
    · refine (dif_pos h).trans ?_
      rw [e _ h]
    · refine (dif_neg h).trans ?_
      rw [e' _ h, mul_zero]
/-- The cotangent of gates and value. -/
theorem v72 (hw : ∀ r k, x1 (ix2 r k) = w r k) (hy : ∀ r k, x2 (ix2 r k) = dy r k) (i : Fin 8192) (k : Fin 3072) :
    val_main_v72 (F := Ideal) x0 x1 x2 (ix2 i k) = dz z w dy i k := by
  have a := v64 hz hw hy i
  have b := v28 hz hw i
  have d := v1 hz i
  have e := v2 hz i
  unfold val_main_v72 val_main_v71 val_main_v70 val_main_v69 val_main_v68 val_main_v67 val_main_v65 val_main_v66 val_main_v31
  generalize val_main_v64 x0 x1 x2 = p at *
  generalize val_main_v28 x0 x1 = q at *
  generalize val_main_v1 x0 = s at *
  generalize val_main_v2 x0 = t at *
  pointwise [val_main_cst_14, val_main_cst_15, val_main_cst_16]
  simp only [a, b, d, e, hy]
  unfold dz
  by_cases h : k.val < 1024
  · rw [dif_neg (by omega), dif_neg (by omega), dif_pos h, dif_pos h, zero_add, zero_add]
  · by_cases h' : k.val < 2048
    · rw [dif_neg (by omega), dif_pos (by omega), dif_neg h, dif_neg h, dif_pos h', zero_add, add_zero]
    · rw [dif_pos (by omega), dif_neg (by omega), dif_neg h, dif_neg h, dif_neg h', add_zero, add_zero, mul_comm]
/-- The cotangent of the taps. -/
theorem v73 (hy : ∀ r k, x2 (ix2 r k) = dy r k) (i : Fin 8) (k : Fin 1024) :
    val_main_v73 (F := Ideal) x0 x2 (ix2 i k) = dw z dy i k := by
  have a := v30 hz hy
  have p0 := v9 hz
  have p1 := v17 hz
  have p2 := v24 hz
  unfold val_main_v73 val_main_v62 val_main_v51 val_main_v40 val_main_v50 val_main_v61 val_main_v39 val_main_v49 val_main_v60
    val_main_v37 val_main_v36 val_main_v35 val_main_v34 val_main_v46 val_main_v45 val_main_v44 val_main_v43
    val_main_v57 val_main_v56 val_main_v55 val_main_v54
  generalize val_main_v30 x0 x2 = p at *
  generalize val_main_v9 x0 = q at *
  generalize val_main_v17 x0 = s at *
  generalize val_main_v24 x0 = t at *
  pointwise [val_main_c, val_main_call0_v0, val_main_cst_2, val_main_cst_3, val_main_cst_5, val_main_cst_6, val_main_cst_7, val_main_cst_9,
    val_main_cst_10, val_main_cst_11, val_main_cst_13]
  simp only [a, p0, p1, p2, Fin.sum_univ_one, sum_past]
  unfold dw
  by_cases h : i.val < 3
  · rw [dif_pos h, if_pos h]
    rcases (show i.val = 0 ∨ i.val = 1 ∨ i.val = 2 by omega) with h' | h' | h'
    · rw [dif_neg (by omega), dif_neg (by omega), dif_pos (by omega), zero_add, zero_add]
      unfold dtap; rw [h']
    · rw [dif_neg (by omega), dif_pos (by omega), dif_neg (by omega), zero_add, add_zero]
      unfold dtap; rw [h']
    · rw [dif_pos (by omega), dif_neg (by omega), dif_neg (by omega), add_zero, add_zero]
      unfold dtap; rw [h']
      refine Finset.sum_congr rfl fun x _ => ?_
      rw [mul_comm]
      refine congrArg _ (Eq.trans ?_ (dif_pos (show 2 - 2 + x.val < 8192 by omega)).symm)
      congr 1; ext; show x.val = 2 - 2 + x.val; omega
  · rw [dif_neg h, if_neg h]
    exact sitofp_zero
end
end Cert.ShortConvRefIdeal.Math
end
end
-- ==== Proof.ShortConvValue.lean ====
module
public import proofs.«01_k».proof.Proof.Gen.ShortConvIdeal.Value
public import proofs.«01_k».proof.Proof.ShortConvRef
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.WritesUnit
set_option maxRecDepth 16384
@[expose] public section
noncomputable section
open Idealize.ShloMosaic Idealize.ShloMosaic.TcCoe Idealize.SL.Sem
open Cert.ShortConvIdeal Cert.ShortConvIdeal.Gen Cert.RealLift Cert.ShortConvMath
namespace Cert.ShortConvIdeal.Math

/-! ## Payloads -/

section
variable (v4 v0 v1 v2 v3 : Vec Ideal S256x1024 .bf16) (a b d e : Vec Ideal S256x1024 .f32) (u u' u'' : Vec Ideal S1x1024 .f32)
  (r : Fin 256) (k : Fin 1024)

theorem pay10 : k0_pay10 v4 v0 (ix2 r k) = v4 (ix2 r k) * v0 (ix2 r k) := by
  pointwise [k0_pay10, k0_pay6]
theorem pay11 : k0_pay11 v4 v0 (ix2 r k) = v4 (ix2 r k) * v0 (ix2 r k) := by
  pointwise [k0_pay11, k0_pay7, k0_pay8]
theorem pay9 : k0_pay9 v4 v3 (ix2 r k) = v4 (ix2 r k) * v3 (ix2 r k) := by
  pointwise [k0_pay9, k0_pay6]
theorem pay1 : k0_pay1 (k0_pay8 v2) a (ix2 r k) = a (ix2 r k) * v2 (ix2 r k) := by
  pointwise [k0_pay1, k0_pay8]
theorem pay2 : k0_pay2 (k0_pay7 v2) a (ix2 r k) = a (ix2 r k) * v2 (ix2 r k) := by
  pointwise [k0_pay2, k0_pay7]
theorem pay3 (r : Fin 8) : k0_pay3 (F := Ideal) (ix2 r k) = 0 := by
  pointwise [k0_pay3]
theorem pay4 (r : Fin 8) : k0_pay4 (F := Ideal) (ix2 r k) = 0 := by
  pointwise [k0_pay4]
theorem pay5 (v : Vec Ideal S8x1024 .f32) (r : Fin 8) : k0_pay5 (F := Ideal) v (ix2 r k) = v (ix2 r k) := by
  pointwise [k0_pay5]
theorem pay15 : k0_pay15 (F := Ideal) k0_pay12 a u b u' d u'' (ix2 r k)
    = 0 + u (ix2 0 k) * a (ix2 r k) + u' (ix2 0 k) * b (ix2 r k) + u'' (ix2 0 k) * d (ix2 r k) := by
  pointwise [k0_pay15, k0_pay12]
theorem pay13 : k0_pay13 (F := Ideal) a b u (ix2 0 k) = u (ix2 0 k) + ∑ r : Fin 256, a (ix2 r k) * b (ix2 r k) := by
  pointwise [k0_pay13]
theorem pay14 : k0_pay14 (F := Ideal) a b u (ix2 0 k) = u (ix2 0 k) + ∑ r : Fin 256, a (ix2 r k) * b (ix2 r k) := by
  pointwise [k0_pay14]
theorem pay16 : k0_pay16 (F := Ideal) a b u (ix2 0 k) = u (ix2 0 k) + ∑ r : Fin 256, a (ix2 r k) * b (ix2 r k) := by
  pointwise [k0_pay16]
end

/-! ## The scratch -/

theorem scr_canon (a : Vec Ideal S256x1024 .f32) (b : Vec Ideal S8x1024 .f32) (inb inb') (n : ℕ) (hn : n < 264) (k : Fin 1024) :
    View.canon (Val := Elt Ideal) (s := S264x1024) (e := .f32) [⟨Rect.unit ![0, 0] ![256, 1024] inb, a⟩, ⟨Rect.unit ![256, 0] ![8, 1024] inb', b⟩] (ix2 ⟨n, hn⟩ k)
      = if h : n < 256 then a (ix2 ⟨n, h⟩ k) else b (ix2 ⟨n - 256, by omega⟩ k) := by
  by_cases h : n < 256
  · rw [dif_pos h]
    have e : (ix2 ⟨n, hn⟩ k : S264x1024.Idx) = (Rect.unit (s := S264x1024) ![0, 0] ![256, 1024] inb).emb (ix2 ⟨n, h⟩ k) := by
      funext a
      match a with
      | ⟨0, _⟩ => exact Fin.ext (Eq.trans (by show n = 0 + n; omega) (Rect.idx_unit_val _ _ _ _ _).symm)
      | ⟨1, _⟩ => exact Fin.ext (Eq.trans (by show k.val = 0 + k.val; omega) (Rect.idx_unit_val _ _ _ _ _).symm)
    rw [e]
    exact View.canon_cons_emb _ _ _ _
  · rw [dif_neg h]
    have e : (ix2 ⟨n, hn⟩ k : S264x1024.Idx) = (Rect.unit (s := S264x1024) ![256, 0] ![8, 1024] inb').emb (ix2 ⟨n - 256, by omega⟩ k) := by
      funext a
      match a with
      | ⟨0, _⟩ => exact Fin.ext (Eq.trans (by show n = 256 + (n - 256); omega) (Rect.idx_unit_val _ _ _ _ _).symm)
      | ⟨1, _⟩ => exact Fin.ext (Eq.trans (by show k.val = 0 + k.val; omega) (Rect.idx_unit_val _ _ _ _ _).symm)
    refine (View.canon_cons_of_not_mem _ _ ?_).trans ?_
    · intro hm
      obtain ⟨x, hx⟩ := (Rect.unit (s := S264x1024) ![0, 0] ![256, 1024] inb).exists_idx_of_mem hm
      have := congrArg (fun y : S264x1024.Idx => (y 0).val) hx
      have hx0 : (x 0).val < 256 := (x 0).isLt
      have : 0 + (x 0).val = n := (Rect.idx_unit_val _ _ _ _ _).symm.trans this
      omega
    rw [e]
    exact View.canon_cons_emb _ _ _ _

/-- A load of 256 rows of the scratch, `o` rows down. -/
theorem scr_read (L : List (View.Piece (Elt Ideal) S264x1024 .f32)) (o : ℕ) (inb) (r : Fin 256) (k : Fin 1024) (ho : o ≤ 2) :
    (View.whole cc0_scratch0).readCov L (Rect.unit (s := S264x1024) ![o, 0] ![256, 1024] inb).toLoadRect (ix2 r k)
      = View.canon (Val := Elt Ideal) (s := S264x1024) (e := .f32) L (ix2 ⟨o + r.val, by omega⟩ k) := by
  rw [View.readCov_eq_canon']
  refine congrArg (View.canon L) (funext fun a => ?_)
  match a with
  | ⟨0, _⟩ => exact Fin.ext (Rect.idx_unit_val _ _ _ _ _)
  | ⟨1, _⟩ => exact Fin.ext ((Rect.idx_unit_val _ _ _ _ _).trans (Nat.zero_add _))

/-! ## Rows of the taps' gradient -/

theorem row_emb (i : Fin 8) (inb) (k : Fin 1024) :
    (ix2 i k : S8x1024.Idx) = (Rect.unit (s := S8x1024) ![i.val, 0] ![1, 1024] inb).emb (ix2 0 k) := by
  funext a
  match a with
  | ⟨0, _⟩ => exact Fin.ext (Eq.trans (by show i.val = i.val + 0; omega) (Rect.idx_unit_val _ _ _ _ _).symm)
  | ⟨1, _⟩ => exact Fin.ext (Eq.trans (by show k.val = 0 + k.val; omega) (Rect.idx_unit_val _ _ _ _ _).symm)

theorem row_not_mem (i : Fin 8) (o : ℕ) (inb) (k : Fin 1024) (h : i.val ≠ o) :
    (ix2 i k : S8x1024.Idx) ∉ (Rect.unit (s := S8x1024) ![o, 0] ![1, 1024] inb).set := by
  intro hm
  obtain ⟨x, hx⟩ := (Rect.unit (s := S8x1024) ![o, 0] ![1, 1024] inb).exists_idx_of_mem hm
  have := congrArg (fun y : S8x1024.Idx => (y 0).val) hx
  have hx0 : (x 0).val < 1 := (x 0).isLt
  have : o + (x 0).val = i.val := (Rect.idx_unit_val _ _ _ _ _).symm.trans this
  omega

theorem row_hit (L : List (View.Piece (Elt Ideal) S8x1024 .f32)) (i : Fin 8) (o : ℕ) (inb) (u : Vec Ideal S1x1024 .f32) (k : Fin 1024) (h : i.val = o) :
    View.canon (Val := Elt Ideal) (s := S8x1024) (e := .f32) (⟨Rect.unit ![o, 0] ![1, 1024] inb, u⟩ :: L) (ix2 i k) = u (ix2 0 k) := by
  subst h
  rw [row_emb i inb k]
  exact View.canon_cons_emb _ _ _ _

theorem row_miss (L : List (View.Piece (Elt Ideal) S8x1024 .f32)) (i : Fin 8) (o : ℕ) (inb) (u : Vec Ideal S1x1024 .f32) (k : Fin 1024) (h : i.val ≠ o) :
    View.canon (Val := Elt Ideal) (s := S8x1024) (e := .f32) (⟨Rect.unit ![o, 0] ![1, 1024] inb, u⟩ :: L) (ix2 i k)
      = View.canon (Val := Elt Ideal) (s := S8x1024) (e := .f32) L (ix2 i k) :=
  View.canon_cons_of_not_mem _ _ (row_not_mem i o inb k h)

theorem row_ld (X : Vec Ideal S8x1024 .f32) (i : Fin 8) (o : ℕ) (inb) (k : Fin 1024) (h : i.val = o) :
    View.ld X (Rect.unit (s := S8x1024) ![o, 0] ![1, 1024] inb) (ix2 0 k) = X (ix2 i k) := by
  subst h
  rw [row_emb i inb k]; rfl

variable (m : (ℓ : Loc nD τ sig) → Buf (Elt Ideal) ℓ) (c : Dev nD)
variable {z : Fin 8192 → Fin 3072 → EReal} {w : Fin 3 → Fin 1024 → EReal} {dy : Fin 8192 → Fin 1024 → EReal}

theorem idx : ∀ t : Fin cfg0.N, win0_0.index t = ![31 - t.val, 0] ∧ win0_1.index t = ![31 - t.val, 1] ∧ win0_2.index t = ![31 - t.val, 2]
    ∧ win0_3.index t = ![31 - t.val, 0] ∧ win0_4.index t = ![31 - t.val, 0] ∧ win0_5.index t = ![0, 0]
    ∧ win0_6.index t = ![31 - t.val, 0] ∧ win0_7.index t = ![0, 0] :=
  (by decide +kernel : ∀ t : Fin grid0.N, _)

/-- The first row of a grid point's block. -/
def base (t : Fin cfg0.N) : ℕ := (31 - t.val) * 256
theorem base_le (t : Fin cfg0.N) : base t + 256 ≤ 8192 := by
  have := t.isLt.trans_eq N_0; unfold base; omega
/-- A row of a grid point's block. -/
def row (t : Fin cfg0.N) (r : Fin 256) : Fin 8192 := ⟨base t + r.val, by have := base_le t; omega⟩

section
variable (hz : ∀ r k, m ((c : Thread nD τ).loc main_arg0) (ix2 r k) = z r k)
  (hw : ∀ r k, m ((c : Thread nD τ).loc main_arg1) (ix2 r k) = w r k)
  (hy : ∀ r k, m ((c : Thread nD τ).loc main_arg2) (ix2 r k) = dy r k)

include hz in
theorem blk0 (t : Fin cfg0.N) (r : Fin 256) (k : Fin 1024) : iblk m c 0 t (ix2 r k) = gateB z (row t r) k := by
  refine Eq.trans ?_ (hz _ _)
  blk_point [iblk, V, (idx t).1]
  rfl
include hz in
theorem blk1 (t : Fin cfg0.N) (r : Fin 256) (k : Fin 1024) : iblk m c 1 t (ix2 r k) = gateC z (row t r) k := by
  refine Eq.trans ?_ (hz _ _)
  blk_point [iblk, V, (idx t).2.1]
  rfl
include hz in
theorem blk2 (t : Fin cfg0.N) (r : Fin 256) (k : Fin 1024) : iblk m c 2 t (ix2 r k) = value z (row t r) k := by
  refine Eq.trans ?_ (hz _ _)
  blk_point [iblk, V, (idx t).2.2.1]
  rfl
include hz hw in
/-- The convolution the kernel takes, computed on the host. -/
theorem v28 (r : Fin 8192) (k : Fin 1024) : V m c main_v28 (ix2 r k) = conv z w r k := by
  refine Eq.trans (congrFun ?_ _) (Cert.ShortConvRefIdeal.Math.v28 (x0 := m ((c : Thread nD τ).loc main_arg0))
    (x1 := m ((c : Thread nD τ).loc main_arg1)) hz hw r k)
  simp only [V, hostOps0, hostOps0_1, List.flatten_cons, List.flatten_nil, List.append_nil, List.cons_append, List.nil_append,
    StableHlo.TRef.binary, StableHlo.TRef.unary, StableHlo.TRef.toBuf, StableHlo.TRef.ofBuf, cast_eq]
  after_results_simp <;> rfl
include hw in
theorem v30 (r : Fin 8) (k : Fin 1024) (hr : r.val < 3) : V m c main_v30 (ix2 r k) = w ⟨r.val, hr⟩ k := by
  refine Eq.trans ?_ (hw _ _)
  simp only [V, hostOps0, hostOps0_1, List.flatten_cons, List.flatten_nil, List.append_nil, List.cons_append, List.nil_append,
    StableHlo.TRef.binary, StableHlo.TRef.unary, StableHlo.TRef.toBuf, StableHlo.TRef.ofBuf, cast_eq]
  after_results_simp
  generalize m _ = x
  pointwise []
  exact dif_pos hr
include hz hw in
theorem blk3 (t : Fin cfg0.N) (r : Fin 256) (k : Fin 1024) : iblk m c 3 t (ix2 r k) = conv z w (row t r) k := by
  have e : (win0_3.blk t).view.emb (ix2 r k) = ix2 (row t r) k := by
    blk_ext [(idx t).2.2.2.1]
    all_goals rfl
  blk_simp [iblk]
  rw [e]
  exact v28 m c hz hw _ _
include hy in
theorem blk4 (t : Fin cfg0.N) (r : Fin 256) (k : Fin 1024) : iblk m c 4 t (ix2 r k) = dy (row t r) k := by
  refine Eq.trans ?_ (hy _ _)
  blk_point [iblk, V, (idx t).2.2.2.2.1]
  rfl
include hw in
theorem blk5 (t : Fin cfg0.N) (r : Fin 8) (k : Fin 1024) (hr : r.val < 3) : iblk m c 5 t (ix2 r k) = w ⟨r.val, hr⟩ k := by
  have e : (win0_5.blk t).view.emb (ix2 r k) = ix2 r k := by
    blk_ext [(idx t).2.2.2.2.2.1]
  blk_simp [iblk]
  rw [e]
  exact v30 m c hw _ _ hr

/-- A column of the cotangent of the convolution, continued by zeros. -/
abbrev col (z : Fin 8192 → Fin 3072 → EReal) (dy : Fin 8192 → Fin 1024 → EReal) (k : Fin 1024) (n : ℕ) : EReal :=
  ext (fun r => dconv z dy r k) n

include hz hy in
theorem stored (t : Fin cfg0.N) (r : Fin 256) (k : Fin 1024) :
    k0_pay10 (iblk m c 4 t) (iblk m c 0 t) (ix2 r k) = col z dy k (base t + r.val) := by
  refine (pay10 _ _ r k).trans ?_
  rw [blk4 m c hy, blk0 m c hz]
  have := base_le t
  unfold col ext
  rw [dif_pos (show base t + r.val < 8192 by omega)]
  rfl

include hz hy in
theorem scratch_top (t : Fin cfg0.N) (n : ℕ) (hn : n < 256) (k : Fin 1024) :
    (outsAt0 m c t.val t.isLt).2.2 (ix2 ⟨n, by omega⟩ k) = col z dy k (base t + n) := by
  have hN := t.isLt.trans_eq N_0
  by_cases h0 : t.val % 32 = 0
  · rw [outsAt0_A m c t h0 (by omega)]; frame_out
    rw [scr_canon, dif_pos hn]
    exact stored m c hz hy t ⟨n, hn⟩ k
  · rw [outsAt0_B m c t h0 (by omega)]; frame_out
    rw [scr_canon, dif_pos hn]
    exact stored m c hz hy t ⟨n, hn⟩ k

include hz hy in
theorem scratchA (t : Fin cfg0.N) (h : t.val % 32 = 0) (inb inb') (n : ℕ) (hn : n < 264) (k : Fin 1024) :
    View.canon (Val := Elt Ideal) (s := S264x1024) (e := .f32) [⟨Rect.unit ![0, 0] ![256, 1024] inb, k0_pay10 (iblk m c 4 t) (iblk m c 0 t)⟩,
      ⟨Rect.unit ![256, 0] ![8, 1024] inb', (k0_pay3 (F := Ideal))⟩] (ix2 ⟨n, hn⟩ k) = col z dy k (base t + n) := by
  have hN := t.isLt.trans_eq N_0
  rw [scr_canon]
  split
  · exact stored m c hz hy t ⟨n, by assumption⟩ k
  · rw [pay3]
    unfold col ext
    rw [dif_neg (by unfold base; omega)]

include hz hy in
theorem scratchB (t : Fin cfg0.N) (h : ¬ t.val % 32 = 0) (inb inb' inb'') (n : ℕ) (hn : n < 264) (k : Fin 1024) :
    View.canon (Val := Elt Ideal) (s := S264x1024) (e := .f32) [⟨Rect.unit ![0, 0] ![256, 1024] inb, k0_pay10 (iblk m c 4 t) (iblk m c 0 t)⟩,
      ⟨Rect.unit ![256, 0] ![8, 1024] inb', k0_pay5 (View.ld (View.read (Elt Ideal) (View.whole cc0_scratch0)
          ((Memref.isWhole_whole cc0_scratch0).unread (outsAt0 m c (t.val - 1) (by omega)).2.2))
        (Rect.unit ![0, 0] ![8, 1024] inb''))⟩] (ix2 ⟨n, hn⟩ k) = col z dy k (base t + n) := by
  have hN := t.isLt.trans_eq N_0
  rw [scr_canon]
  split
  · exact stored m c hz hy t ⟨n, by assumption⟩ k
  · rw [pay5]
    refine (View.ld_unit_apply_of _ ![0, 0] ![8, 1024] inb'' _ (ix2 ⟨n - 256, by omega⟩ k) fun a => ?_).trans ?_
    · match a with
      | ⟨0, _⟩ => show n - 256 = 0 + (n - 256); omega
      | ⟨1, _⟩ => show k.val = 0 + k.val; omega
    rw [read_unread_whole]
    refine (scratch_top m c hz hy ⟨t.val - 1, by omega⟩ (n - 256) (by omega) k).trans ?_
    congr 1
    unfold base
    show (31 - (t.val - 1)) * 256 + (n - 256) = _
    omega

/-- What one block of rows adds to the taps' gradient. -/
def part (z : Fin 8192 → Fin 3072 → EReal) (dy : Fin 8192 → Fin 1024 → EReal) (t : Fin cfg0.N) (i : Fin 8) (k : Fin 1024) : EReal :=
  if i.val < 3 then ∑ r : Fin 256, dtap z dy i.val (row t r) k else 0

include hz in
theorem dot (t : Fin cfg0.N) (i : ℕ) (k : Fin 1024) (b : Vec Ideal S256x1024 .f32)
    (hb : ∀ r, b (ix2 r k) = col z dy k (base t + (2 - i + r.val))) :
    ∑ r : Fin 256, k0_pay11 (iblk m c 1 t) (iblk m c 2 t) (ix2 r k) * b (ix2 r k) = ∑ r : Fin 256, dtap z dy i (row t r) k := by
  refine Finset.sum_congr rfl fun r _ => ?_
  rw [pay11, blk1 m c hz, blk2 m c hz, hb]
  unfold dtap
  refine congrArg₂ (· * ·) rfl (congrArg _ ?_)
  show base t + (2 - i + r.val) = 2 - i + (base t + r.val)
  omega

include hz hy in
theorem pointA (t : Fin cfg0.N) (h : t.val % 32 = 0) (i : Fin 8) (k : Fin 1024) :
    (outsAt0 m c t.val t.isLt).2.1 (ix2 i k) = 0 + part z dy t i k := by
  have hN := t.isLt.trans_eq N_0
  rw [outsAt0_A m c t h (by omega)]; frame_out
  simp (disch := first | decide | rfl) only [↓View.readCov_skip, ↓View.readCov_fill]
  unfold part
  by_cases h2 : i.val = 2
  · rw [row_hit _ _ _ _ _ _ h2, pay16, row_ld _ i 2 _ k h2, pay4, if_pos (by omega),
      dot m c hz t 2 k _ fun r => (scr_read _ 0 _ r k (by omega)).trans ((scratchA m c hz hy t h _ _ _ _ k))]
    rw [h2]
  · rw [row_miss _ _ _ _ _ _ h2]
    by_cases h1 : i.val = 1
    · rw [row_hit _ _ _ _ _ _ h1, pay14, row_ld _ i 1 _ k h1, pay4, if_pos (by omega),
        dot m c hz t 1 k _ fun r => (scr_read _ 1 _ r k (by omega)).trans ((scratchA m c hz hy t h _ _ _ _ k))]
      rw [h1]
    · rw [row_miss _ _ _ _ _ _ h1]
      by_cases h0 : i.val = 0
      · rw [row_hit _ _ _ _ _ _ h0, pay13, row_ld _ i 0 _ k h0, pay4, if_pos (by omega),
          dot m c hz t 0 k _ fun r => (scr_read _ 2 _ r k (by omega)).trans ((scratchA m c hz hy t h _ _ _ _ k))]
        rw [h0]
      · rw [row_miss _ _ _ _ _ _ h0, if_neg (by omega)]
        refine (congrFun (View.canon_unit_zero (S := S8x1024) (off := ![0, 0]) (by decide) _ _) (ix2 i k)).trans ?_
        rw [pay4, zero_add]

/-- A row of the taps' gradient under the newest store. -/
theorem wr_hit {κ : Kind} {sp : Space} (v : View sig κ sp S8x1024 .f32) (f : v.ty.Contents (Elt Ideal)) (L : List (View.Piece (Elt Ideal) S8x1024 .f32)) (i : Fin 8) (o : ℕ) (inb)
    (u : Vec Ideal S1x1024 .f32) (k : Fin 1024) (h : i.val = o) :
    v.read (Elt Ideal) (v.writes (Elt Ideal) f (⟨Rect.unit ![o, 0] ![1, 1024] inb, u⟩ :: L)) (ix2 i k) = u (ix2 0 k) :=
  View.read_writes_cons_rows_of_mem v f inb u L (ix2 i k) (ix2 0 k) rfl h rfl

theorem wr_miss {κ : Kind} {sp : Space} (v : View sig κ sp S8x1024 .f32) (f : v.ty.Contents (Elt Ideal)) (L : List (View.Piece (Elt Ideal) S8x1024 .f32)) (i : Fin 8) (o : ℕ) (inb)
    (u : Vec Ideal S1x1024 .f32) (k : Fin 1024) (h : i.val ≠ o) :
    v.read (Elt Ideal) (v.writes (Elt Ideal) f (⟨Rect.unit ![o, 0] ![1, 1024] inb, u⟩ :: L)) (ix2 i k) = v.read (Elt Ideal) (v.writes (Elt Ideal) f L) (ix2 i k) :=
  View.read_writes_cons_rows_of_not_mem v f inb u L (ix2 i k) rfl (W := 1) rfl (by show i.val < o ∨ o + 1 ≤ i.val; omega)

include hz hy in
theorem pointB (t : Fin cfg0.N) (h : ¬ t.val % 32 = 0) (i : Fin 8) (k : Fin 1024) :
    (outsAt0 m c t.val t.isLt).2.1 (ix2 i k) = (outsAt0 m c (t.val - 1) (by omega)).2.1 (ix2 i k) + part z dy t i k := by
  have hN := t.isLt.trans_eq N_0
  rw [outsAt0_B m c t h (by omega)]; frame_out
  unfold part
  by_cases h2 : i.val = 2
  · rw [wr_hit _ _ _ _ _ _ _ _ h2, pay16, row_ld _ i 2 _ k h2, if_pos (by omega),
      dot m c hz t 2 k _ fun r => (scr_read _ 0 _ r k (by omega)).trans ((scratchB m c hz hy t h _ _ _ _ _ k))]
    rw [h2]
  · rw [wr_miss _ _ _ _ _ _ _ _ h2]
    by_cases h1 : i.val = 1
    · rw [wr_hit _ _ _ _ _ _ _ _ h1, pay14, row_ld _ i 1 _ k h1, if_pos (by omega),
        dot m c hz t 1 k _ fun r => (scr_read _ 1 _ r k (by omega)).trans ((scratchB m c hz hy t h _ _ _ _ _ k))]
      rw [h1]
    · rw [wr_miss _ _ _ _ _ _ _ _ h1]
      by_cases h0 : i.val = 0
      · rw [wr_hit _ _ _ _ _ _ _ _ h0, pay13, row_ld _ i 0 _ k h0, if_pos (by omega),
          dot m c hz t 0 k _ fun r => (scr_read _ 2 _ r k (by omega)).trans ((scratchB m c hz hy t h _ _ _ _ _ k))]
        rw [h0]
      · rw [wr_miss _ _ _ _ _ _ _ _ h0, if_neg (by omega)]
        rw [View.writes_nil, Memref.IsWhole.read_unread, add_zero]

include hz hw hy in
theorem grad_tile (t : Fin cfg0.N) (r : Fin 256) (k : Fin 1024) (a b d : Vec Ideal S256x1024 .f32) (inb0 inb1 inb2)
    (ha : a (ix2 r k) = col z dy k (base t + (2 + r.val))) (hb : b (ix2 r k) = col z dy k (base t + (1 + r.val)))
    (hd : d (ix2 r k) = col z dy k (base t + (0 + r.val))) :
    k0_pay15 k0_pay12 a (View.ld (iblk m c 5 t) (Rect.unit (s := S8x1024) ![0, 0] ![1, 1024] inb0)) b
        (View.ld (iblk m c 5 t) (Rect.unit (s := S8x1024) ![1, 0] ![1, 1024] inb1)) d
        (View.ld (iblk m c 5 t) (Rect.unit (s := S8x1024) ![2, 0] ![1, 1024] inb2)) (ix2 r k)
      = dgated z w dy (row t r).val k := by
  rw [pay15, row_ld _ 0 0 inb0 k rfl, row_ld _ 1 1 inb1 k rfl, row_ld _ 2 2 inb2 k rfl, blk5 m c hw t 0 k (by decide), blk5 m c hw t 1 k (by decide),
    blk5 m c hw t 2 k (by decide), ha, hb, hd]
  unfold dgated
  rw [show 2 + (row t r).val = base t + (2 + r.val) from (Nat.add_left_comm _ _ _),
    show 1 + (row t r).val = base t + (1 + r.val) from (Nat.add_left_comm _ _ _),
    show (row t r).val = base t + (0 + r.val) by rw [Nat.zero_add]; rfl]
  rfl

include hz hw hy in
theorem tile_value (t : Fin cfg0.N) (r : Fin 256) (k : Fin 3072) (a : Vec Ideal S256x1024 .f32)
    (ha : ∀ r k, a (ix2 r k) = dgated z w dy (row t r).val k) (x : S256x1024.Idx) (h0 : r.val = (x 0).val) (h1 : k.val = 2048 + (x 1).val) :
    k0_pay2 (k0_pay7 (iblk m c 1 t)) a x = dz z w dy (row t r) k := by
  obtain ⟨r', k', rfl⟩ : ∃ r' k', x = ix2 r' k' := ⟨x 0, x 1, eq_ix2 x⟩
  obtain rfl : r = r' := Fin.ext h0
  obtain rfl : k = ⟨2048 + k'.val, Nat.add_lt_add_left k'.isLt 2048⟩ := Fin.ext h1
  rw [pay2, ha, blk1 m c hz]
  unfold dz
  rw [dif_neg (show ¬ 2048 + k'.val < 1024 by omega), dif_neg (show ¬ 2048 + k'.val < 2048 by omega)]
  rw [show (⟨2048 + k'.val - 2048, by omega⟩ : Fin 1024) = k' from Fin.ext (Nat.add_sub_cancel_left _ _)]

include hz hw hy in
theorem tile_gate (t : Fin cfg0.N) (r : Fin 256) (k : Fin 3072) (a : Vec Ideal S256x1024 .f32)
    (ha : ∀ r k, a (ix2 r k) = dgated z w dy (row t r).val k) (x : S256x1024.Idx) (h0 : r.val = (x 0).val) (h1 : k.val = 1024 + (x 1).val) :
    k0_pay1 (k0_pay8 (iblk m c 2 t)) a x = dz z w dy (row t r) k := by
  obtain ⟨r', k', rfl⟩ : ∃ r' k', x = ix2 r' k' := ⟨x 0, x 1, eq_ix2 x⟩
  obtain rfl : r = r' := Fin.ext h0
  obtain rfl : k = ⟨1024 + k'.val, (Nat.add_lt_add_left k'.isLt 1024).trans (by decide)⟩ := Fin.ext h1
  rw [pay1, ha, blk2 m c hz]
  unfold dz
  rw [dif_neg (show ¬ 1024 + k'.val < 1024 by omega), dif_pos (show 1024 + k'.val < 2048 by omega)]
  rw [show (⟨1024 + k'.val - 1024, by omega⟩ : Fin 1024) = k' from Fin.ext (Nat.add_sub_cancel_left _ _)]

include hz hw hy in
theorem tile_first (t : Fin cfg0.N) (r : Fin 256) (k : Fin 3072) (x : S256x1024.Idx) (h0 : r.val = (x 0).val) (h1 : k.val = (x 1).val) :
    k0_pay9 (iblk m c 4 t) (iblk m c 3 t) x = dz z w dy (row t r) k := by
  obtain ⟨r', k', rfl⟩ : ∃ r' k', x = ix2 r' k' := ⟨x 0, x 1, eq_ix2 x⟩
  obtain rfl : r = r' := Fin.ext h0
  have hk : k.val < 1024 := h1.trans_lt k'.isLt
  obtain rfl : k' = ⟨k.val, hk⟩ := Fin.ext h1.symm
  rw [pay9, blk4 m c hy, blk3 m c hz hw]
  unfold dz
  rw [dif_pos hk]

include hz hw hy in
theorem point6 (t : Fin cfg0.N) (r : Fin 256) (k : Fin 3072) :
    (outsAt0 m c t.val t.isLt).1 (ix2 r k) = dz z w dy (row t r) k := by
  have hN := t.isLt.trans_eq N_0
  by_cases h : t.val % 32 = 0
  · rw [outsAt0_A m c t h (by omega)]; frame_out
    have hs := scratchA m c hz hy t h
    clear h
    canon_tiles x h
    case piece0 =>
      exact tile_value m c hz hw hy t r k _ (fun r k => grad_tile m c hz hw hy t r k _ _ _ _ _ _ ((scr_read _ 2 _ r k (by omega)).trans (hs _ _ _ _ k))
        ((scr_read _ 1 _ r k (by omega)).trans (hs _ _ _ _ k)) ((scr_read _ 0 _ r k (by omega)).trans (hs _ _ _ _ k))) x h0 h1
    case piece1 =>
      exact tile_gate m c hz hw hy t r k _ (fun r k => grad_tile m c hz hw hy t r k _ _ _ _ _ _ ((scr_read _ 2 _ r k (by omega)).trans (hs _ _ _ _ k))
        ((scr_read _ 1 _ r k (by omega)).trans (hs _ _ _ _ k)) ((scr_read _ 0 _ r k (by omega)).trans (hs _ _ _ _ k))) x h0 h1
    case piece2 =>
      exact tile_first m c hz hw hy t r k x h0 h1
  · rw [outsAt0_B m c t h (by omega)]; frame_out
    have hs := scratchB m c hz hy t h
    clear h
    canon_tiles x h
    case piece0 =>
      exact tile_value m c hz hw hy t r k _ (fun r k => grad_tile m c hz hw hy t r k _ _ _ _ _ _ ((scr_read _ 2 _ r k (by omega)).trans (hs _ _ _ _ _ k))
        ((scr_read _ 1 _ r k (by omega)).trans (hs _ _ _ _ _ k)) ((scr_read _ 0 _ r k (by omega)).trans (hs _ _ _ _ _ k))) x h0 h1
    case piece1 =>
      exact tile_gate m c hz hw hy t r k _ (fun r k => grad_tile m c hz hw hy t r k _ _ _ _ _ _ ((scr_read _ 2 _ r k (by omega)).trans (hs _ _ _ _ _ k))
        ((scr_read _ 1 _ r k (by omega)).trans (hs _ _ _ _ _ k)) ((scr_read _ 0 _ r k (by omega)).trans (hs _ _ _ _ _ k))) x h0 h1
    case piece2 =>
      exact tile_first m c hz hw hy t r k x h0 h1

include hz hw hy in
/-- The gradient of gates and value after the last grid point. -/
theorem final6 : (dats m 0 c).arrAt 6 cfg0.N = fun j : S8192x3072.Idx => dz z w dy (j 0) (j 1) := by
  refine (dats m 0 c).arrAt_eq_of_covers 6 _ (by decide +kernel) fun t _ y => ?_
  blk_simp
  rw [after0_6]
  obtain ⟨i, j, rfl⟩ : ∃ i j, y = ix2 i j := ⟨y 0, y 1, eq_ix2 y⟩
  have e : (win0_6.blk t).view.emb (ix2 i j) = ix2 (row t i) j := by
    blk_ext [(idx t).2.2.2.2.2.2.1]
    all_goals rfl
  rw [e]
  exact point6 m c hz hw hy t i j

/-- The last grid point. -/
def last : Fin cfg0.N := (31 : Fin 32).cast N_0.symm

/-- The blocks of rows, last first, make up all rows. -/
theorem sum_rows (f : Fin 8192 → EReal) : ∑ t : Fin 32, ∑ r, f (row (t.cast N_0.symm) r) = ∑ r, f r := by
  rw [← Equiv.sum_comp Fin.revPerm, ← Fintype.sum_prod_type']
  refine Fintype.sum_equiv (finProdFinEquiv (m := 32) (n := 256)) _ _ fun x => congrArg f (Fin.ext ?_)
  show (31 - (Fin.rev x.1).val) * 256 + x.2.val = x.2.val + 256 * x.1.val
  rw [Fin.val_rev]
  have := x.1.isLt
  omega

include hz hy in
/-- The taps' gradient after the last grid point. -/
theorem final7 : (dats m 0 c).arrAt 7 cfg0.N = fun j : S8x1024.Idx => dw z dy (j 0) (j 1) := by
  refine (dats m 0 c).arrAt_eq_of_after_last 7 last (by decide +kernel) _ fun j => ?_
  blk_simp
  rw [after0_7]
  obtain ⟨i, k, rfl⟩ : ∃ i k, j = ix2 i k := ⟨j 0, j 1, eq_ix2 j⟩
  rw [Pipeline.eq_sum_fin_of_reset_step_apply_last (fun n h => (outsAt0 m c n h).2.1) 32 (fun _ => 0)
    (fun p j => part z dy ⟨p % 32, (Nat.mod_lt _ (by decide)).trans_eq N_0.symm⟩ (j 0) (j 1))
    (fun t h j => ?_) (fun t h j => ?_) (le_of_eq N_0) last rfl (ix2 i k)]
  · show 0 + ∑ p : Fin 32, part z dy ⟨p.val % 32, _⟩ i k = dw z dy i k
    rw [zero_add]
    unfold part dw
    split
    · rw [← sum_rows fun r => dtap z dy i.val r k]
      refine Finset.sum_congr rfl fun p _ => ?_
      rw [show (⟨p.val % 32, (Nat.mod_lt _ (by decide)).trans_eq N_0.symm⟩ : Fin cfg0.N) = p.cast N_0.symm from Fin.ext (Nat.mod_eq_of_lt p.isLt)]
    · exact Finset.sum_const_zero
  · rw [show (⟨t.val % 32, (Nat.mod_lt _ (by decide)).trans_eq N_0.symm⟩ : Fin cfg0.N) = t from Fin.ext (Nat.mod_eq_of_lt (t.isLt.trans_eq N_0))]
    obtain ⟨i, k, rfl⟩ : ∃ i k, j = ix2 i k := ⟨j 0, j 1, eq_ix2 j⟩
    exact pointA m c hz hy t h i k
  · rw [show (⟨t.val % 32, (Nat.mod_lt _ (by decide)).trans_eq N_0.symm⟩ : Fin cfg0.N) = t from Fin.ext (Nat.mod_eq_of_lt (t.isLt.trans_eq N_0))]
    obtain ⟨i, k, rfl⟩ : ∃ i k, j = ix2 i k := ⟨j 0, j 1, eq_ix2 j⟩
    exact pointB m c hz hy t h i k

end
end Cert.ShortConvIdeal.Math
end
end
-- ==== Proof.ShortConvClaim.lean ====
/- The claims about the gated short convolution's gradient. -/
module

public import proofs.«01_k».proof.Defs
public import proofs.«01_k».proof.Proof.ShortConvValue
public import proofs.«01_k».proof.Proof.Gen.ShortConv.Frame
public import proofs.«01_k».proof.Proof.Gen.ShortConvRefIdeal.Run
public import Idealize.ShloMosaic.Lib.Quiescent

set_option maxRecDepth 16384

@[expose] public section
noncomputable section

open Idealize.ShloMosaic Idealize.ShloMosaic.TcCoe Idealize.SL.Sem

namespace Cert.ShortConvClaim

/-- The reference runs and leaves its arguments as they were. -/
theorem refFrame : Cert.quiescent_ShortConvRefIdeal (hShortConvRefIdeal := Cert.ShortConvRefIdeal.Gen.facts) :=
  fun m ρ _ => (θ_run Cert.ShortConvRefIdeal.defs _ _).mono
    (fun r h => ⟨fun c => (h c).2.2, Idealize.ShloMosaic.sem_eq_zero_of_no_sems (by decide) r.2⟩)
    (Cert.ShortConvRefIdeal.Value.run (F := Ideal) m ρ)

/-- Kernel and reference end with the same two gradients. -/
theorem algebraic : Cert.algebraic_ShortConvIdeal_ShortConvRefIdeal (hShortConvIdeal := Cert.ShortConvIdeal.Gen.facts)
    (hShortConvRefIdeal := Cert.ShortConvRefIdeal.Gen.facts) := by
  pair_intro
  · run_from Cert.ShortConvIdeal.Gen.run_main m g
    all_goals
      simp only [Cert.ShortConvIdeal.Gen.hostOps0, Cert.ShortConvIdeal.Gen.hostOps0_1, List.flatten_cons, List.flatten_nil, List.append_nil, List.cons_append,
        List.nil_append, StableHlo.TRef.binary, StableHlo.TRef.unary, StableHlo.TRef.toBuf, StableHlo.TRef.ofBuf, cast_eq]
      after_results_simp <;> rfl
  · run_from Cert.ShortConvRefIdeal.Value.run m' g'
    all_goals
      obtain ⟨z, hz⟩ : ∃ z : Fin 8192 → Fin 3072 → EReal, ∀ r k, m ((c : Thread Cert.ShortConvIdeal.nD Cert.ShortConvIdeal.τ).loc Cert.ShortConvIdeal.main_arg0) (ix2 r k) = z r k :=
        ⟨_, fun r k => rfl⟩
      obtain ⟨w, hw⟩ : ∃ w : Fin 3 → Fin 1024 → EReal, ∀ r k, m ((c : Thread Cert.ShortConvIdeal.nD Cert.ShortConvIdeal.τ).loc Cert.ShortConvIdeal.main_arg1) (ix2 r k) = w r k :=
        ⟨_, fun r k => rfl⟩
      obtain ⟨y, hy⟩ : ∃ y : Fin 8192 → Fin 1024 → EReal, ∀ r k, m ((c : Thread Cert.ShortConvIdeal.nD Cert.ShortConvIdeal.τ).loc Cert.ShortConvIdeal.main_arg2) (ix2 r k) = y r k :=
        ⟨_, fun r k => rfl⟩
    · rw [Cert.ShortConvIdeal.Math.final6 m c hz hw hy, Cert.ShortConvRefIdeal.Read.val_main_v72_eq]
      funext j
      obtain ⟨r, k, rfl⟩ : ∃ r k, j = ix2 r k := ⟨j 0, j 1, eq_ix2 j⟩
      exact Cert.ShortConvRefIdeal.Math.v72 (fun r k => (congrFun (hagree c).1 _).trans (hz r k))
        (fun r k => (congrFun (hagree c).2.1 _).trans (hw r k)) (fun r k => (congrFun (hagree c).2.2 _).trans (hy r k)) r k
    · rw [Cert.ShortConvIdeal.Math.final7 m c hz hy, Cert.ShortConvRefIdeal.Read.val_main_v73_eq]
      funext j
      obtain ⟨r, k, rfl⟩ : ∃ r k, j = ix2 r k := ⟨j 0, j 1, eq_ix2 j⟩
      exact Cert.ShortConvRefIdeal.Math.v73 hz hy r k

end Cert.ShortConvClaim

end
end
-- ==== Proof.NormMath.lean ====
/- The gradient of a row norm, for rows of any extended reals: the form with the normalised row against the chain rule's own. -/
module

public import Idealize.ShloMosaic.Lib.IdealHost
public import proofs.«01_k».proof.Proof.RealLift

@[expose] public section
noncomputable section

open Idealize.ShloMosaic Cert.RealLift

namespace Cert.NormMath

/-- The word of the row length. -/
theorem ofBits_1024 : Ideal.ofBits .f32 0x44800000#32 = ((1024 : ℝ) : EReal) := by
  simp [Ideal.ofBits, Ideal.ieee, -EReal.coe_mul]; try norm_num

/-- The word of minus one half. -/
theorem ofBits_mhalf : Ideal.ofBits .f32 0xBF000000#32 = ((-(1 / 2) : ℝ) : EReal) := by
  simp [Ideal.ofBits, Ideal.ieee, -EReal.coe_mul]; try norm_num

/-- The word added under the root is a positive real number. -/
theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

variable {n : ℕ}

/-- What stands under the root. -/
def under (x : Fin n → EReal) : EReal := Ideal.div (∑ k, x k * x k) (Ideal.ofBits .f32 0x44800000#32) + Ideal.ofBits .f32 0x358637BD#32
/-- The reciprocal root. -/
def rstd (x : Fin n → EReal) : EReal := Ideal.rsqrt (under x)
/-- The mean of the cotangent against the normalised row. -/
def along (x d : Fin n → EReal) : EReal := Ideal.div (∑ k, d k * (x k * rstd x)) (Ideal.ofBits .f32 0x44800000#32)
/-- A row's gradient, `d` the cotangent of the normalised row. -/
def drow (x d : Fin n → EReal) (j : Fin n) : EReal := rstd x * (d j - x j * rstd x * along x d)

/-- A factor at least zero and below +∞ goes through a sum. -/
theorem sum_mul_nonneg {ι : Type*} (s : Finset ι) (f : ι → EReal) (r : ℝ) (h : 0 ≤ r) : ∑ k ∈ s, f k * (r : EReal) = (∑ k ∈ s, f k) * (r : EReal) := by
  classical
  induction s using Finset.induction_on with
  | empty => simp
  | insert a s ha ih =>
    rw [Finset.sum_insert ha, Finset.sum_insert ha, ih, mul_comm (_ + _), EReal.left_distrib_of_nonneg_of_ne_top (EReal.coe_nonneg.mpr h) (EReal.coe_ne_top r),
      mul_comm _ (f a), mul_comm _ (∑ k ∈ s, f k)]

/-- A square is at least zero. -/
theorem sq_nonneg (x : EReal) : 0 ≤ x * x := by
  induction x with
  | bot => simp
  | coe r => rw [← EReal.coe_mul]; exact EReal.coe_nonneg.mpr (mul_self_nonneg r)
  | top => simp

/-- The sum of a row's squares is +∞ as soon as one entry is no real number. -/
theorem sum_sq_top (x : Fin n → EReal) (k : Fin n) (h : x k = ⊤ ∨ x k = ⊥) : ∑ k, x k * x k = ⊤ := by
  have : x k * x k = ⊤ := by rcases h with h | h <;> rw [h] <;> simp
  exact top_le_iff.mp (this ▸ Finset.single_le_sum (fun i _ => sq_nonneg (x i)) (Finset.mem_univ k))

/-- Twice an extended real. -/
theorem add_self (y : EReal) : y + y = y * ((2 : ℝ) : EReal) := by
  rw [show ((2 : ℝ) : EReal) = 1 + 1 by rw [← EReal.coe_one, ← EReal.coe_add]; norm_num, EReal.left_distrib_of_nonneg zero_le_one zero_le_one, mul_one]

/-- The chain rule through the squares, their mean and the reciprocal root gives the same row. -/
theorem drow_eq (x d : Fin n → EReal) (res : EReal) (j : Fin n) (p : EReal)
    (hp : p = Ideal.div ((∑ k, x k * d k) * (Ideal.ofBits .f32 0xBF000000#32 * Ideal.div (rstd x) (under x))) (Ideal.ofBits .f32 0x44800000#32)) :
    res + d j * rstd x + x j * p + p * x j = res + drow x d j := by
  unfold drow along
  by_cases hx : ∀ k, ∃ r : ℝ, x k = (r : EReal)
  · choose y hy using hx
    obtain ⟨e, he, hb⟩ := ofBits_eps
    have hu : under x = (((∑ k, y k * y k) / 1024 + e : ℝ) : EReal) := by
      unfold under
      rw [hb, ofBits_1024, Finset.sum_congr rfl fun k _ => show x k * x k = ((y k * y k : ℝ) : EReal) by rw [hy, EReal.coe_mul], coe_sum, div_coe _ _ (by norm_num), EReal.coe_add]
    have hv : 0 < (∑ k, y k * y k) / 1024 + e :=
      add_pos_of_nonneg_of_pos (div_nonneg (Finset.sum_nonneg fun k _ => mul_self_nonneg (y k)) (by norm_num)) he
    generalize (∑ k, y k * y k) / 1024 + e = v at hu hv
    have hr : rstd x = (((Real.sqrt v)⁻¹ : ℝ) : EReal) := by unfold rstd; rw [hu, RealLift.rsqrt_coe v hv]
    have hs : Real.sqrt v ≠ 0 := (Real.sqrt_pos.mpr hv).ne'
    have hsv : (Real.sqrt v)⁻¹ / v = (Real.sqrt v)⁻¹ * (Real.sqrt v)⁻¹ * (Real.sqrt v)⁻¹ := by
      have : v = Real.sqrt v * Real.sqrt v := (Real.mul_self_sqrt hv.le).symm
      rw [this]; simp only [Real.sqrt_mul_self (Real.sqrt_nonneg _)]; field_simp
    have h0 : 0 ≤ (Real.sqrt v)⁻¹ := inv_nonneg.mpr (Real.sqrt_nonneg v)
    rw [hr, hu, RealLift.div_coe _ _ hv.ne', hsv, ofBits_mhalf, ofBits_1024, Ideal.div_coe (by norm_num)] at hp
    rw [hr, ofBits_1024, Ideal.div_coe (by norm_num)]
    generalize (Real.sqrt v)⁻¹ = r at *
    have hS : ∑ k, d k * (x k * (r : EReal)) = (∑ k, x k * d k) * (r : EReal) := by
      rw [← sum_mul_nonneg _ _ r h0]
      exact Finset.sum_congr rfl fun k _ => by rw [← mul_assoc, mul_comm (d k)]
    rw [hS]
    generalize ∑ k, x k * d k = S at *
    rw [sub_eq_add_neg, EReal.left_distrib_of_nonneg_of_ne_top (EReal.coe_nonneg.mpr h0) (EReal.coe_ne_top r), ← add_assoc, mul_comm (r : EReal) (d j), add_assoc (res + _),
      mul_comm p, add_self, hp, hy j]
    congr 1
    rw [mul_neg, ← mul_neg_one (_ * _)]
    rw [show (-1 : EReal) = ((-1 : ℝ) : EReal) by rw [EReal.coe_neg, EReal.coe_one]]
    have l : (y j : EReal) * (S * (((-(1 / 2) : ℝ) : EReal) * ((r * r * r : ℝ) : EReal)) * ((1 / 1024 : ℝ) : EReal)) * ((2 : ℝ) : EReal)
        = S * ((y j * (-(1 / 2) * (r * r * r) * (1 / 1024)) * 2 : ℝ) : EReal) := by
      simp only [EReal.coe_mul]; ac_rfl
    have l' : (r : EReal) * ((y j : EReal) * r * (S * r * ((1 / 1024 : ℝ) : EReal))) * ((-1 : ℝ) : EReal) = S * ((r * (y j * r * (r * (1 / 1024))) * -1 : ℝ) : EReal) := by
      simp only [EReal.coe_mul]; ac_rfl
    rw [l, l']
    congr 2
    ring
  · obtain ⟨k, hk⟩ := not_forall.mp hx
    have hk' : x k = ⊤ ∨ x k = ⊥ := by
      induction h : x k with
      | bot => exact .inr rfl
      | coe r => exact absurd ⟨r, h⟩ hk
      | top => exact .inl rfl
    have hu : under x = ⊤ := by
      obtain ⟨e, he, hb⟩ := ofBits_eps
      unfold under
      rw [sum_sq_top x k hk', hb, ofBits_1024, Ideal.div_coe (by norm_num), EReal.top_mul_coe_of_pos (by norm_num), EReal.top_add_coe]
    have hr : rstd x = 0 := by unfold rstd; rw [hu]; rfl
    rw [hr, hu, Ideal.zero_div (by simp), mul_zero, mul_zero, ofBits_1024, Ideal.zero_div (by simp)] at hp
    rw [hp, hr]
    simp
end Cert.NormMath

end
end
-- ==== Proof.NormEvenRef.lean ====
/- The reference's gradient behind the projection with 1792 columns, entry by entry. -/
module

public import proofs.«01_k».proof.Proof.Gen.NormEvenRefIdeal.Read
public import proofs.«01_k».proof.Proof.NormMath
public import Idealize.ShloMosaic.Lib.Pointwise
public import Idealize.ShloMosaic.Lib.Claim

set_option maxRecDepth 16384
@[expose] public section
noncomputable section
open Idealize.ShloMosaic Idealize.ShloMosaic.TcCoe Idealize.SL.Sem
open Cert.NormEvenRefIdeal Cert.NormEvenRefIdeal.Gen Cert.NormEvenRefIdeal.Read Cert.NormMath
namespace Cert.NormEvenRefIdeal.Math

variable {x0 : (⟨S8192x1792, .f32⟩ : BufTy).Contents (Elt Ideal)} {x1 : (⟨S1024x1792, .f32⟩ : BufTy).Contents (Elt Ideal)}
  {x2 : (⟨S8192x1024, .f32⟩ : BufTy).Contents (Elt Ideal)} {x3 : (⟨S1024, .f32⟩ : BufTy).Contents (Elt Ideal)}
  {x4 : (⟨S8192x1024, .f32⟩ : BufTy).Contents (Elt Ideal)} (r : Fin 8192) (k : Fin 1024)

/-- A row of an array. -/
abbrev rowOf (x : (⟨S8192x1024, .f32⟩ : BufTy).Contents (Elt Ideal)) (r : Fin 8192) : Fin 1024 → EReal := fun k => x (ix2 r k)
/-- The cotangent of the normed array. -/
abbrev du (x0 : (⟨S8192x1792, .f32⟩ : BufTy).Contents (Elt Ideal)) (x1 : (⟨S1024x1792, .f32⟩ : BufTy).Contents (Elt Ideal)) (r : Fin 8192) (k : Fin 1024) : EReal :=
  ∑ j : Fin 1792, x0 (ix2 r j) * x1 (ix2 k j)
/-- The cotangent of the normalised row. -/
abbrev dhat (x0 : (⟨S8192x1792, .f32⟩ : BufTy).Contents (Elt Ideal)) (x1 : (⟨S1024x1792, .f32⟩ : BufTy).Contents (Elt Ideal))
    (x3 : (⟨S1024, .f32⟩ : BufTy).Contents (Elt Ideal)) (r : Fin 8192) : Fin 1024 → EReal := fun k => du x0 x1 r k * x3 (ix1 k)

theorem v6 : val_main_v6 (F := Ideal) x2 (ix2 r 0) = under (rowOf x2 r) := by
  unfold val_main_v6 val_main_v4 val_main_v2 val_main_v1 val_main_v0 val_main_v3 val_main_v5
  pointwise [val_main_cst, val_main_cst_0, val_main_cst_1]
  rfl
theorem v7 : val_main_v7 (F := Ideal) x2 (ix2 r 0) = rstd (rowOf x2 r) := by
  have a := v6 (x2 := x2) r
  unfold val_main_v7
  generalize val_main_v6 x2 = p at *
  pointwise
  rw [a]; rfl
theorem v10 : val_main_v10 (F := Ideal) x2 (ix2 r 0) = Ideal.ofBits .f32 0xBF000000#32 * Ideal.div (rstd (rowOf x2 r)) (under (rowOf x2 r)) := by
  have a := v6 (x2 := x2) r
  have b := v7 (x2 := x2) r
  unfold val_main_v10 val_main_v9 val_main_v8
  generalize val_main_v6 x2 = p at *
  generalize val_main_v7 x2 = q at *
  pointwise [val_main_cst_2]
  rw [a, b]
theorem v17 : val_main_v17 (F := Ideal) x0 x1 (ix2 r k) = du x0 x1 r k := by
  unfold val_main_v17
  pointwise
theorem v22 : val_main_v22 (F := Ideal) x0 x1 x3 (ix2 r k) = dhat x0 x1 x3 r k := by
  have a := v17 (x0 := x0) (x1 := x1) r k
  unfold val_main_v22 val_main_v21 val_main_v13
  generalize val_main_v17 x0 x1 = p at *
  pointwise
  rw [a]
theorem v34 : val_main_v34 (F := Ideal) x0 x1 x2 x3 (ix2 r k) = Ideal.div ((∑ k, rowOf x2 r k * dhat x0 x1 x3 r k)
    * (Ideal.ofBits .f32 0xBF000000#32 * Ideal.div (rstd (rowOf x2 r)) (under (rowOf x2 r)))) (Ideal.ofBits .f32 0x44800000#32) := by
  have a := v22 (x0 := x0) (x1 := x1) (x3 := x3) r
  have b := v10 (x2 := x2) r
  unfold val_main_v34 val_main_v33 val_main_v32 val_main_v31 val_main_v30 val_main_v26 val_main_v25 val_main_v24
  generalize val_main_v22 x0 x1 x3 = p at *
  generalize val_main_v10 x2 = q at *
  pointwise [val_main_cst_5, val_main_cst_6, val_main_cst_7]
  simp only [a, b, Fin.sum_univ_one]
/-- The residual's gradient. -/
theorem v38 : val_main_v38 (F := Ideal) x0 x1 x2 x3 x4 (ix2 r k) = x4 (ix2 r k) + drow (rowOf x2 r) (dhat x0 x1 x3 r) k := by
  have a := v22 (x0 := x0) (x1 := x1) (x3 := x3) r k
  have b := v7 (x2 := x2) r
  have e := v34 (x0 := x0) (x1 := x1) (x2 := x2) (x3 := x3) r k
  unfold val_main_v38 val_main_v37 val_main_v36 val_main_v35 val_main_v29 val_main_v28 val_main_v27
  generalize val_main_v22 x0 x1 x3 = p at *
  generalize val_main_v34 x0 x1 x2 x3 = q at *
  generalize val_main_v7 x2 = s at *
  pointwise
  rw [a, b]
  exact drow_eq (rowOf x2 r) (dhat x0 x1 x3 r) _ k _ e
/-- The gain's gradient. -/
theorem v39 : val_main_v39 (F := Ideal) x0 x1 x2 (ix2 0 k) = ∑ r, du x0 x1 r k * (rowOf x2 r k * rstd (rowOf x2 r)) := by
  have a := fun r => v17 (x0 := x0) (x1 := x1) r k
  have b := v7 (x2 := x2)
  unfold val_main_v39 val_main_v23 val_main_v20 val_main_v19 val_main_v18 val_main_v12 val_main_v11
  generalize val_main_v17 x0 x1 = p at *
  generalize val_main_v7 x2 = s at *
  pointwise [val_main_cst_3, val_main_cst_4]
  simp only [a, b, Fin.sum_univ_one]
  exact Finset.sum_congr rfl fun r _ => mul_comm _ _
end Cert.NormEvenRefIdeal.Math
end
end
-- ==== Proof.NormEvenValue.lean ====
/- What the kernel leaves in its two result arrays, entry by entry. -/
module

public import proofs.«01_k».proof.Proof.Gen.NormEvenIdeal.Value
public import proofs.«01_k».proof.Proof.NormEvenRef
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.StableHlo.ReadAt
set_option maxRecDepth 16384
@[expose] public section
noncomputable section
open Idealize.ShloMosaic Idealize.ShloMosaic.TcCoe Idealize.SL.Sem
open Cert.NormEvenIdeal Cert.NormEvenIdeal.Gen Cert.NormMath
namespace Cert.NormEvenIdeal.Math

/-! ## Payloads -/

section
variable (a : Vec Ideal S256x1792 .bf16) (b : Vec Ideal S1x1024x1792 .bf16) (x res : Vec Ideal S256x1024 .f32) (g v : Vec Ideal S1x1024 .f32)
  (r : Fin 256) (k : Fin 1024)

theorem pay2 : k0_pay2 a b (ix2 r k) = ∑ j : Fin 1792, a (ix2 r j) * b (ix3 0 k j) := by
  pointwise [k0_pay2]
theorem pay3 : k0_pay3 x (ix2 r 0) = rstd (fun k : Fin 1024 => x (ix2 r k)) := by
  pointwise [k0_pay3]
  rfl
theorem pay4 : k0_pay4 x (ix2 r k) = x (ix2 r k) * rstd (fun k : Fin 1024 => x (ix2 r k)) := by
  have e := pay3 x r
  unfold k0_pay4
  generalize k0_pay3 x = p at *
  pointwise
  rw [e]
theorem pay6 : k0_pay6 a b x g res (ix2 r k) = res (ix2 r k) + drow (fun k : Fin 1024 => x (ix2 r k))
    (fun k => (∑ j : Fin 1792, a (ix2 r j) * b (ix3 0 k j)) * g (ix2 0 k)) k := by
  have e := pay2 a b r
  have f := pay3 x r
  have h := pay4 x r
  unfold k0_pay6
  generalize k0_pay2 a b = p at *
  generalize k0_pay4 x = q at *
  generalize k0_pay3 x = s at *
  pointwise
  simp only [e, f, h]
  rfl
theorem pay10 : k0_pay10 v a b x (ix2 0 k) = v (ix2 0 k) + ∑ r : Fin 256, (∑ j : Fin 1792, a (ix2 r j) * b (ix3 0 k j))
    * (x (ix2 r k) * rstd (fun k : Fin 1024 => x (ix2 r k))) := by
  have e := fun r => pay2 a b r k
  have h := fun r => pay4 x r k
  unfold k0_pay10
  rw [show k0_pay7 a b = k0_pay2 a b from rfl, show k0_pay9 x = k0_pay4 x from rfl]
  generalize k0_pay2 a b = p at *
  generalize k0_pay4 x = q at *
  pointwise
  simp only [e, h]
theorem pay5 : k0_pay5 a b x (ix2 0 k) = 0 + ∑ r : Fin 256, (∑ j : Fin 1792, a (ix2 r j) * b (ix3 0 k j))
    * (x (ix2 r k) * rstd (fun k : Fin 1024 => x (ix2 r k))) := by
  have e := fun r => pay2 a b r k
  have h := fun r => pay4 x r k
  unfold k0_pay5
  generalize k0_pay2 a b = p at *
  generalize k0_pay4 x = q at *
  pointwise
  simp only [e, h]
theorem pay1 (u : Vec Ideal S1x1024 .f32) : k0_pay1 v u (ix2 0 k) = u (ix2 0 k) + v (ix2 0 k) := by
  pointwise [k0_pay1]
theorem pay11 : k0_pay11 a b x g res = k0_pay6 a b x g res := rfl
theorem pay16 : k0_pay16 a b x g res = k0_pay6 a b x g res := rfl
theorem pay21 : k0_pay21 a b x g res = k0_pay6 a b x g res := rfl
theorem pay15 : k0_pay15 v a b x = k0_pay10 v a b x := rfl
theorem pay20 : k0_pay20 v a b x = k0_pay10 v a b x := rfl
end

/-! ## The arrays and their blocks -/

theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- The array's row that is row `i` of block `t`. -/
def row (t : Fin 8) (i : Fin 1024) : Fin 8192 := ⟨t.val * 1024 + i.val, by omega⟩
/-- A grid point's block number. -/
def pt (t : Fin cfg0.N) : Fin 8 := ⟨t.val, t.isLt.trans_eq N_0⟩

variable (m : (ℓ : Loc nD τ sig) → Buf (Elt Ideal) ℓ) (c : Dev nD)
variable {dz : Fin 8192 → Fin 1792 → EReal} {w : Fin 1024 → Fin 1792 → EReal} {h : Fin 8192 → Fin 1024 → EReal} {g : Fin 1024 → EReal}
  {dh : Fin 8192 → Fin 1024 → EReal}
variable (hdz : ∀ r k, m ((c : Thread nD τ).loc main_arg0) (ix2 r k) = dz r k) (hw : ∀ r k, m ((c : Thread nD τ).loc main_arg1) (ix2 r k) = w r k)
  (hh : ∀ r k, m ((c : Thread nD τ).loc main_arg2) (ix2 r k) = h r k) (hg : ∀ k, m ((c : Thread nD τ).loc main_arg3) (ix1 k) = g k)
  (hdh : ∀ r k, m ((c : Thread nD τ).loc main_arg4) (ix2 r k) = dh r k)

include hdz in
theorem v0 (r : Fin 8192) (k : Fin 1792) : V m c main_v0 (ix2 r k) = dz r k := by
  refine Eq.trans ?_ (hdz _ _)
  simp only [V, hostOps0]
  after_results_simp
  rfl
include hw in
theorem v2 (r : Fin 1024) (k : Fin 1792) : V m c main_v2 (ix3 0 r k) = w r k := by
  refine Eq.trans ?_ (hw _ _)
  simp only [V, hostOps0]
  after_results_simp
  generalize m _ = x
  pointwise
include hg in
theorem v3 (k : Fin 1024) : V m c main_v3 (ix2 0 k) = g k := by
  refine Eq.trans ?_ (hg _)
  simp only [V, hostOps0]
  after_results_simp
  generalize m _ = x
  pointwise
include hh in
theorem kept2 (r : Fin 8192) (k : Fin 1024) : V m c main_arg2 (ix2 r k) = h r k := by
  refine Eq.trans ?_ (hh _ _)
  simp only [V, hostOps0]
  after_results_simp
include hdh in
theorem kept4 (r : Fin 8192) (k : Fin 1024) : V m c main_arg4 (ix2 r k) = dh r k := by
  refine Eq.trans ?_ (hdh _ _)
  simp only [V, hostOps0]
  after_results_simp

include hdz in
theorem blk0 (t : Fin cfg0.N) (i : Fin 1024) (k : Fin 1792) : iblk m c 0 t (ix2 i k) = dz (row (pt t) i) k := by
  refine Eq.trans ?_ (v0 m c hdz _ _)
  blk_point [iblk, V, (idx t).1]
  rfl
include hw in
theorem blk1 (t : Fin cfg0.N) (r : Fin 1024) (k : Fin 1792) : iblk m c 1 t (ix3 0 r k) = w r k := by
  refine Eq.trans ?_ (v2 m c hw _ _)
  blk_point [iblk, V, (idx t).2.1]
include hh in
theorem blk2 (t : Fin cfg0.N) (i : Fin 1024) (k : Fin 1024) : iblk m c 2 t (ix2 i k) = h (row (pt t) i) k := by
  refine Eq.trans ?_ (kept2 m c hh _ _)
  blk_point [iblk, V, (idx t).2.2.1]
  rfl
include hg in
theorem blk3 (t : Fin cfg0.N) (k : Fin 1024) : iblk m c 3 t (ix2 0 k) = g k := by
  refine Eq.trans ?_ (v3 m c hg _)
  blk_point [iblk, V, (idx t).2.2.2.1]
include hdh in
theorem blk4 (t : Fin cfg0.N) (i : Fin 1024) (k : Fin 1024) : iblk m c 4 t (ix2 i k) = dh (row (pt t) i) k := by
  refine Eq.trans ?_ (kept4 m c hdh _ _)
  blk_point [iblk, V, (idx t).2.2.2.2.1]
  rfl

/-- Reading 256 rows from `o` on reads the rows `o + r`. -/
theorem ld_rows {n : ℕ} {e : EltTy} (X : (⟨2, ![1024, n]⟩ : Shape).Idx → Elt Ideal e) (o : ℕ) (ho : o + 256 ≤ 1024)
    (inb : ∀ a, (![o, 0] : Fin 2 → ℕ) a + (![256, n] : Fin 2 → ℕ) a ≤ (⟨2, ![1024, n]⟩ : Shape).size a) (r : Fin 256) (k : Fin n) :
    View.ld X (Rect.unit ![o, 0] ![256, n] inb) (ix2 r k) = X (ix2 ⟨o + r.val, by omega⟩ k) :=
  View.ld_unit_apply_of X _ _ inb _ _ (fun a => match a with | 0 => rfl | 1 => (Nat.zero_add _).symm)

/-- The gradient before the norm, a row of the product with the weights. -/
def dx (dz : Fin 8192 → Fin 1792 → EReal) (w : Fin 1024 → Fin 1792 → EReal) (r : Fin 8192) (k : Fin 1024) : EReal := ∑ j, dz r j * w k j
/-- The first result. -/
def out (dz : Fin 8192 → Fin 1792 → EReal) (w : Fin 1024 → Fin 1792 → EReal) (h : Fin 8192 → Fin 1024 → EReal) (g : Fin 1024 → EReal)
    (dh : Fin 8192 → Fin 1024 → EReal) (r : Fin 8192) (k : Fin 1024) : EReal :=
  dh r k + drow (h r) (fun k => dx dz w r k * g k) k
/-- A row's part of the scale's gradient. -/
def term (dz : Fin 8192 → Fin 1792 → EReal) (w : Fin 1024 → Fin 1792 → EReal) (h : Fin 8192 → Fin 1024 → EReal) (k : Fin 1024) (r : Fin 8192) : EReal :=
  dx dz w r k * (h r k * rstd (h r))

section
variable (t : Fin cfg0.N) (o : ℕ) (ho : o + 256 ≤ 1024)
    (inb : ∀ a, (![o, 0] : Fin 2 → ℕ) a + (![256, 1792] : Fin 2 → ℕ) a ≤ S1024x1792.size a)
    (inb' : ∀ a, (![o, 0] : Fin 2 → ℕ) a + (![256, 1024] : Fin 2 → ℕ) a ≤ S1024x1024.size a)
include hdz in
theorem ldz (r : Fin 256) (k : Fin 1792) : View.ld (iblk m c 0 t) (Rect.unit ![o, 0] ![256, 1792] inb) (ix2 r k)
    = dz (row (pt t) ⟨o + r.val, by omega⟩) k := (ld_rows (iblk m c 0 t) o ho inb r k).trans (blk0 m c hdz t _ _)
include hh in
theorem ldh (r : Fin 256) (k : Fin 1024) : View.ld (iblk m c 2 t) (Rect.unit ![o, 0] ![256, 1024] inb') (ix2 r k)
    = h (row (pt t) ⟨o + r.val, by omega⟩) k := (ld_rows (iblk m c 2 t) o ho inb' r k).trans (blk2 m c hh t _ _)
include hdh in
theorem ldd (r : Fin 256) (k : Fin 1024) : View.ld (iblk m c 4 t) (Rect.unit ![o, 0] ![256, 1024] inb') (ix2 r k)
    = dh (row (pt t) ⟨o + r.val, by omega⟩) k := (ld_rows (iblk m c 4 t) o ho inb' r k).trans (blk4 m c hdh t _ _)
include ho hdz hw hh hg hdh in
/-- The 256 rows of the first result that are written from row `o` on. -/
theorem out_tile (i : Fin 1024) (j : Fin 1024) (x : S256x1024.Idx) (x0 : i.val = o + (x 0).val) (x1 : j.val = (x 1).val) :
    k0_pay6 (F := Ideal) (View.ld (iblk m c 0 t) (Rect.unit ![o, 0] ![256, 1792] inb)) (iblk m c 1 t)
      (View.ld (iblk m c 2 t) (Rect.unit ![o, 0] ![256, 1024] inb')) (iblk m c 3 t)
      (View.ld (iblk m c 4 t) (Rect.unit ![o, 0] ![256, 1024] inb')) x = out dz w h g dh (row (pt t) i) j := by
  obtain ⟨r, k, rfl⟩ : ∃ r k, x = ix2 r k := ⟨x 0, x 1, eq_ix2 x⟩
  obtain rfl : j = k := Fin.ext x1
  have e : (⟨o + r.val, by omega⟩ : Fin 1024) = i := Fin.ext x0.symm
  rw [pay6]
  simp only [ldz m c hdz t o ho, ldh m c hh t o ho, ldd m c hdh t o ho, e, blk1 m c hw, blk3 m c hg]
  rfl
include ho hdz hw hh in
/-- A slab's part of the scale's gradient. -/
theorem acc_tile (v : Vec Ideal S1x1024 .f32) (k : Fin 1024) :
    k0_pay10 (F := Ideal) v (View.ld (iblk m c 0 t) (Rect.unit ![o, 0] ![256, 1792] inb)) (iblk m c 1 t)
      (View.ld (iblk m c 2 t) (Rect.unit ![o, 0] ![256, 1024] inb')) (ix2 0 k)
      = v (ix2 0 k) + ∑ r : Fin 256, term dz w h k (row (pt t) ⟨o + r.val, by omega⟩) := by
  rw [pay10]
  simp only [ldz m c hdz t o ho, ldh m c hh t o ho, blk1 m c hw]
  rfl
include ho hdz hw hh in
theorem acc_tile0 (k : Fin 1024) :
    k0_pay5 (F := Ideal) (View.ld (iblk m c 0 t) (Rect.unit ![o, 0] ![256, 1792] inb)) (iblk m c 1 t)
      (View.ld (iblk m c 2 t) (Rect.unit ![o, 0] ![256, 1024] inb')) (ix2 0 k)
      = 0 + ∑ r : Fin 256, term dz w h k (row (pt t) ⟨o + r.val, by omega⟩) := by
  rw [pay5]
  simp only [ldz m c hdz t o ho, ldh m c hh t o ho, blk1 m c hw]
  rfl
end

theorem four (f : Fin 1024 → EReal) : (((0 + ∑ r : Fin 256, f ⟨0 + r.val, by omega⟩) + ∑ r : Fin 256, f ⟨256 + r.val, by omega⟩)
    + ∑ r : Fin 256, f ⟨512 + r.val, by omega⟩) + ∑ r : Fin 256, f ⟨768 + r.val, by omega⟩ = ∑ i, f i := by
  refine Eq.trans ?_ (Fintype.sum_equiv (finProdFinEquiv (m := 4) (n := 256)) (fun p : Fin 4 × Fin 256 => f ⟨p.1.val * 256 + p.2.val, by omega⟩) f
    fun x => congrArg f (Fin.ext ?_))
  · rw [Fintype.sum_prod_type, Fin.sum_univ_four, zero_add]
    rfl
  · show x.1.val * 256 + x.2.val = x.2.val + 256 * x.1.val
    omega

/-- What one grid point adds to the scale's gradient. -/
def part (dz : Fin 8192 → Fin 1792 → EReal) (w : Fin 1024 → Fin 1792 → EReal) (h : Fin 8192 → Fin 1024 → EReal) (t : Fin 8) (k : Fin 1024) : EReal :=
  ∑ i, term dz w h k (row t i)

set_option maxHeartbeats 1000000 in
include hdz hw hh hg hdh in
theorem point5 (t : Fin cfg0.N) (i : Fin 1024) (j : Fin 1024) : (outsAt0 m c t.val t.isLt).1 (ix2 i j) = out dz w h g dh (row (pt t) i) j := by
  have hN := t.isLt.trans_eq N_0
  have A : ∀ y, y = (outsAt0 m c t.val t.isLt).1 (ix2 i j) → y = out dz w h g dh (row (pt t) i) j := by
    by_cases h0 : t.val % 8 = 0
    · rw [outsAt0_A m c t h0 (by omega)]
      frame_out
      rw [pay21, pay16, pay11]
      rintro y rfl
      clear h0
      canon_tiles x h
      case piece0 => exact out_tile m c hdz hw hh hg hdh t _ (by decide) _ _ i j x h0 h1
      case piece1 => exact out_tile m c hdz hw hh hg hdh t _ (by decide) _ _ i j x h0 h1
      case piece2 => exact out_tile m c hdz hw hh hg hdh t _ (by decide) _ _ i j x h0 h1
      case piece3 => exact out_tile m c hdz hw hh hg hdh t _ (by decide) _ _ i j x (h0.trans (Nat.zero_add _).symm) h1
    · rw [outsAt0_B m c t h0 (by omega)]
      frame_out
      rw [pay21, pay16, pay11]
      rintro y rfl
      clear h0
      canon_tiles x h
      case piece0 => exact out_tile m c hdz hw hh hg hdh t _ (by decide) _ _ i j x h0 h1
      case piece1 => exact out_tile m c hdz hw hh hg hdh t _ (by decide) _ _ i j x h0 h1
      case piece2 => exact out_tile m c hdz hw hh hg hdh t _ (by decide) _ _ i j x h0 h1
      case piece3 => exact out_tile m c hdz hw hh hg hdh t _ (by decide) _ _ i j x (h0.trans (Nat.zero_add _).symm) h1
  exact A _ rfl

include hdz hw hh in
theorem point6A (t : Fin cfg0.N) (k : Fin 1024) (h0 : t.val % 8 = 0) : (outsAt0 m c t.val t.isLt).2 (ix2 0 k) = part dz w h (pt t) k := by
  have hN := t.isLt.trans_eq N_0
  rw [outsAt0_A m c t h0 (by omega)]
  frame_out
  rw [pay20, pay15, acc_tile m c hdz hw hh t _ (by decide), acc_tile m c hdz hw hh t _ (by decide), acc_tile m c hdz hw hh t _ (by decide),
    acc_tile0 m c hdz hw hh t _ (by decide)]
  exact four fun i => term dz w h k (row (pt t) i)
include hdz hw hh in
theorem point6B (t : Fin cfg0.N) (k : Fin 1024) (h0 : ¬ t.val % 8 = 0) : (outsAt0 m c t.val t.isLt).2 (ix2 0 k)
    = (outsAt0 m c (t.val - 1) (by omega)).2 (ix2 0 k) + part dz w h (pt t) k := by
  rw [outsAt0_B m c t h0 (by omega)]
  frame_out
  rw [pay1, pay20, pay15, acc_tile m c hdz hw hh t _ (by decide), acc_tile m c hdz hw hh t _ (by decide), acc_tile m c hdz hw hh t _ (by decide),
    acc_tile0 m c hdz hw hh t _ (by decide)]
  exact congrArg _ (four fun i => term dz w h k (row (pt t) i))

/-! ## The result arrays -/

include hdz hw hh hg hdh in
theorem final5 : (dats m 0 c).arrAt 5 cfg0.N = fun j : S8192x1024.Idx => out dz w h g dh (j 0) (j 1) := by
  refine (dats m 0 c).arrAt_eq_of_covers 5 _ (by decide +kernel) fun t _ y => ?_
  blk_simp
  rw [after0_5]
  obtain ⟨i, j, rfl⟩ : ∃ i j, y = ix2 i j := ⟨y 0, y 1, eq_ix2 y⟩
  have e : (win0_5.blk t).view.emb (ix2 i j) = ix2 (row (pt t) i) j := by
    blk_ext [(idx t).2.2.2.2.2.1]
    all_goals rfl
  rw [e]
  exact point5 m c hdz hw hh hg hdh t i j

include hdz hw hh in
theorem final6 : (dats m 0 c).arrAt 6 cfg0.N = fun j : S1x1024.Idx => ∑ r, term dz w h (j 1) r := by
  refine (dats m 0 c).arrAt_eq_of_after_last 6 t0_7 (by decide +kernel) _ fun j => ?_
  blk_simp
  rw [after0_6]
  obtain ⟨i, k, rfl⟩ : ∃ i k, j = ix2 i k := ⟨j 0, j 1, eq_ix2 j⟩
  obtain rfl : i = 0 := Subsingleton.elim _ _
  rw [Pipeline.eq_sum_fin_of_reset_step_apply_last (fun n h => (outsAt0 m c n h).2) 8 (fun _ => 0)
    (fun p j => part dz w h ⟨p % 8, Nat.mod_lt _ (by decide)⟩ (j 1)) (fun t h j => ?_) (fun t h j => ?_) (le_of_eq N_0) t0_7 rfl (ix2 0 k)]
  · show 0 + ∑ p : Fin 8, part dz w h ⟨p.val % 8, _⟩ k = ∑ r, term dz w h k r
    rw [zero_add]
    refine Eq.trans (Finset.sum_congr rfl fun t _ => show _ = part dz w h t k from by
      congr 1; exact Fin.ext (Nat.mod_eq_of_lt t.isLt)) ?_
    unfold part
    rw [← Fintype.sum_prod_type']
    refine Fintype.sum_equiv (finProdFinEquiv (m := 8) (n := 1024)) _ _ fun x => congrArg (term dz w h k) (Fin.ext ?_)
    show x.1.val * 1024 + x.2.val = x.2.val + 1024 * x.1.val
    omega
  · obtain ⟨i, k, rfl⟩ : ∃ i k, j = ix2 i k := ⟨j 0, j 1, eq_ix2 j⟩
    obtain rfl : i = 0 := Subsingleton.elim _ _
    rw [zero_add]
    exact (point6A m c hdz hw hh t k h).trans (congrArg (fun p => part dz w _ p k) (Fin.ext (Nat.mod_eq_of_lt (t.isLt.trans_eq N_0)).symm))
  · obtain ⟨i, k, rfl⟩ : ∃ i k, j = ix2 i k := ⟨j 0, j 1, eq_ix2 j⟩
    obtain rfl : i = 0 := Subsingleton.elim _ _
    exact (point6B m c hdz hw hh t k h).trans (congrArg (fun p => _ + part dz w _ p k) (Fin.ext (Nat.mod_eq_of_lt (t.isLt.trans_eq N_0)).symm))

end Cert.NormEvenIdeal.Math
end
end
-- ==== Proof.NormEvenClaim.lean ====
/- The claims about the gradient of a norm and the product after it. -/
module

public import proofs.«01_k».proof.Defs
public import proofs.«01_k».proof.Proof.NormEvenValue
public import proofs.«01_k».proof.Proof.Gen.NormEven.Frame
public import proofs.«01_k».proof.Proof.Gen.NormEvenRefIdeal.Run
public import Idealize.ShloMosaic.Lib.Quiescent

set_option maxRecDepth 16384

@[expose] public section
noncomputable section

open Idealize.ShloMosaic Idealize.ShloMosaic.TcCoe Idealize.SL.Sem

namespace Cert.NormEvenClaim

/-- The reference runs and leaves its arguments as they were. -/
theorem refFrame : Cert.quiescent_NormEvenRefIdeal (hNormEvenRefIdeal := Cert.NormEvenRefIdeal.Gen.facts) :=
  fun m ρ _ => (θ_run Cert.NormEvenRefIdeal.defs _ _).mono
    (fun r h => ⟨fun c => (h c).2.2, Idealize.ShloMosaic.sem_eq_zero_of_no_sems (by decide) r.2⟩)
    (Cert.NormEvenRefIdeal.Value.run (F := Ideal) m ρ)

/-- Kernel and reference end with the same two gradients. -/
theorem algebraic : Cert.algebraic_NormEvenIdeal_NormEvenRefIdeal (hNormEvenIdeal := Cert.NormEvenIdeal.Gen.facts)
    (hNormEvenRefIdeal := Cert.NormEvenRefIdeal.Gen.facts) := by
  pair_intro
  · run_from Cert.NormEvenIdeal.Gen.run_main m g
    all_goals
      simp only [Cert.NormEvenIdeal.Gen.hostOps0]
      after_results_simp <;> rfl
  · run_from Cert.NormEvenRefIdeal.Value.run m' g'
    all_goals
      obtain ⟨z, hz⟩ : ∃ z : Fin 8192 → Fin 1792 → EReal, ∀ r k, m ((c : Thread Cert.NormEvenIdeal.nD Cert.NormEvenIdeal.τ).loc Cert.NormEvenIdeal.main_arg0) (ix2 r k) = z r k :=
        ⟨_, fun r k => rfl⟩
      obtain ⟨w, hw⟩ : ∃ w : Fin 1024 → Fin 1792 → EReal, ∀ r k, m ((c : Thread Cert.NormEvenIdeal.nD Cert.NormEvenIdeal.τ).loc Cert.NormEvenIdeal.main_arg1) (ix2 r k) = w r k :=
        ⟨_, fun r k => rfl⟩
      obtain ⟨h, hh⟩ : ∃ h : Fin 8192 → Fin 1024 → EReal, ∀ r k, m ((c : Thread Cert.NormEvenIdeal.nD Cert.NormEvenIdeal.τ).loc Cert.NormEvenIdeal.main_arg2) (ix2 r k) = h r k :=
        ⟨_, fun r k => rfl⟩
      obtain ⟨s, hs⟩ : ∃ s : Fin 1024 → EReal, ∀ k, m ((c : Thread Cert.NormEvenIdeal.nD Cert.NormEvenIdeal.τ).loc Cert.NormEvenIdeal.main_arg3) (ix1 k) = s k :=
        ⟨_, fun k => rfl⟩
      obtain ⟨d, hd⟩ : ∃ d : Fin 8192 → Fin 1024 → EReal, ∀ r k, m ((c : Thread Cert.NormEvenIdeal.nD Cert.NormEvenIdeal.τ).loc Cert.NormEvenIdeal.main_arg4) (ix2 r k) = d r k :=
        ⟨_, fun r k => rfl⟩
    · rw [Cert.NormEvenIdeal.Math.final5 m c hz hw hh hs hd, Cert.NormEvenRefIdeal.Read.val_main_v38_eq]
      funext j
      obtain ⟨r, k, rfl⟩ : ∃ r k, j = ix2 r k := ⟨j 0, j 1, eq_ix2 j⟩
      rw [(hagree c).1, (hagree c).2.1, (hagree c).2.2.1, (hagree c).2.2.2.1, (hagree c).2.2.2.2]
      refine (Cert.NormEvenRefIdeal.Math.v38 ..).trans ?_
      unfold Cert.NormEvenRefIdeal.Math.dhat Cert.NormEvenRefIdeal.Math.du Cert.NormEvenRefIdeal.Math.rowOf
      simp only [hz, hw, hh, hs, hd]
      rfl
    · rw [Cert.NormEvenIdeal.Math.final6 m c hz hw hh, Cert.NormEvenRefIdeal.Read.val_main_v39_eq]
      funext j
      obtain ⟨i, k, rfl⟩ : ∃ i k, j = ix2 i k := ⟨j 0, j 1, eq_ix2 j⟩
      obtain rfl : i = 0 := Subsingleton.elim _ _
      refine (Cert.NormEvenRefIdeal.Math.v39 ..).trans ?_
      unfold Cert.NormEvenRefIdeal.Math.du Cert.NormEvenRefIdeal.Math.rowOf
      simp only [hz, hw, hh]
      rfl

end Cert.NormEvenClaim

end
end
-- ==== Proof.NormOddRef.lean ====
/- The reference's gradient behind the projection with 3072 columns, entry by entry. -/
module

public import proofs.«01_k».proof.Proof.Gen.NormOddRefIdeal.Read
public import proofs.«01_k».proof.Proof.NormMath
public import Idealize.ShloMosaic.Lib.Pointwise
public import Idealize.ShloMosaic.Lib.Claim

set_option maxRecDepth 16384
@[expose] public section
noncomputable section
open Idealize.ShloMosaic Idealize.ShloMosaic.TcCoe Idealize.SL.Sem
open Cert.NormOddRefIdeal Cert.NormOddRefIdeal.Gen Cert.NormOddRefIdeal.Read Cert.NormMath
namespace Cert.NormOddRefIdeal.Math

variable {x0 : (⟨S8192x3072, .f32⟩ : BufTy).Contents (Elt Ideal)} {x1 : (⟨S1024x3072, .f32⟩ : BufTy).Contents (Elt Ideal)}
  {x2 : (⟨S8192x1024, .f32⟩ : BufTy).Contents (Elt Ideal)} {x3 : (⟨S1024, .f32⟩ : BufTy).Contents (Elt Ideal)}
  {x4 : (⟨S8192x1024, .f32⟩ : BufTy).Contents (Elt Ideal)} (r : Fin 8192) (k : Fin 1024)

/-- A row of an array. -/
abbrev rowOf (x : (⟨S8192x1024, .f32⟩ : BufTy).Contents (Elt Ideal)) (r : Fin 8192) : Fin 1024 → EReal := fun k => x (ix2 r k)
/-- The cotangent of the normed array. -/
abbrev du (x0 : (⟨S8192x3072, .f32⟩ : BufTy).Contents (Elt Ideal)) (x1 : (⟨S1024x3072, .f32⟩ : BufTy).Contents (Elt Ideal)) (r : Fin 8192) (k : Fin 1024) : EReal :=
  ∑ j : Fin 3072, x0 (ix2 r j) * x1 (ix2 k j)
/-- The cotangent of the normalised row. -/
abbrev dhat (x0 : (⟨S8192x3072, .f32⟩ : BufTy).Contents (Elt Ideal)) (x1 : (⟨S1024x3072, .f32⟩ : BufTy).Contents (Elt Ideal))
    (x3 : (⟨S1024, .f32⟩ : BufTy).Contents (Elt Ideal)) (r : Fin 8192) : Fin 1024 → EReal := fun k => du x0 x1 r k * x3 (ix1 k)

theorem v6 : val_main_v6 (F := Ideal) x2 (ix2 r 0) = under (rowOf x2 r) := by
  unfold val_main_v6 val_main_v4 val_main_v2 val_main_v1 val_main_v0 val_main_v3 val_main_v5
  pointwise [val_main_cst, val_main_cst_0, val_main_cst_1]
  rfl
theorem v7 : val_main_v7 (F := Ideal) x2 (ix2 r 0) = rstd (rowOf x2 r) := by
  have a := v6 (x2 := x2) r
  unfold val_main_v7
  generalize val_main_v6 x2 = p at *
  pointwise
  rw [a]; rfl
theorem v10 : val_main_v10 (F := Ideal) x2 (ix2 r 0) = Ideal.ofBits .f32 0xBF000000#32 * Ideal.div (rstd (rowOf x2 r)) (under (rowOf x2 r)) := by
  have a := v6 (x2 := x2) r
  have b := v7 (x2 := x2) r
  unfold val_main_v10 val_main_v9 val_main_v8
  generalize val_main_v6 x2 = p at *
  generalize val_main_v7 x2 = q at *
  pointwise [val_main_cst_2]
  rw [a, b]
theorem v17 : val_main_v17 (F := Ideal) x0 x1 (ix2 r k) = du x0 x1 r k := by
  unfold val_main_v17
  pointwise
theorem v22 : val_main_v22 (F := Ideal) x0 x1 x3 (ix2 r k) = dhat x0 x1 x3 r k := by
  have a := v17 (x0 := x0) (x1 := x1) r k
  unfold val_main_v22 val_main_v21 val_main_v13
  generalize val_main_v17 x0 x1 = p at *
  pointwise
  rw [a]
theorem v34 : val_main_v34 (F := Ideal) x0 x1 x2 x3 (ix2 r k) = Ideal.div ((∑ k, rowOf x2 r k * dhat x0 x1 x3 r k)
    * (Ideal.ofBits .f32 0xBF000000#32 * Ideal.div (rstd (rowOf x2 r)) (under (rowOf x2 r)))) (Ideal.ofBits .f32 0x44800000#32) := by
  have a := v22 (x0 := x0) (x1 := x1) (x3 := x3) r
  have b := v10 (x2 := x2) r
  unfold val_main_v34 val_main_v33 val_main_v32 val_main_v31 val_main_v30 val_main_v26 val_main_v25 val_main_v24
  generalize val_main_v22 x0 x1 x3 = p at *
  generalize val_main_v10 x2 = q at *
  pointwise [val_main_cst_5, val_main_cst_6, val_main_cst_7]
  simp only [a, b, Fin.sum_univ_one]
/-- The residual's gradient. -/
theorem v38 : val_main_v38 (F := Ideal) x0 x1 x2 x3 x4 (ix2 r k) = x4 (ix2 r k) + drow (rowOf x2 r) (dhat x0 x1 x3 r) k := by
  have a := v22 (x0 := x0) (x1 := x1) (x3 := x3) r k
  have b := v7 (x2 := x2) r
  have e := v34 (x0 := x0) (x1 := x1) (x2 := x2) (x3 := x3) r k
  unfold val_main_v38 val_main_v37 val_main_v36 val_main_v35 val_main_v29 val_main_v28 val_main_v27
  generalize val_main_v22 x0 x1 x3 = p at *
  generalize val_main_v34 x0 x1 x2 x3 = q at *
  generalize val_main_v7 x2 = s at *
  pointwise
  rw [a, b]
  exact drow_eq (rowOf x2 r) (dhat x0 x1 x3 r) _ k _ e
/-- The gain's gradient. -/
theorem v39 : val_main_v39 (F := Ideal) x0 x1 x2 (ix2 0 k) = ∑ r, du x0 x1 r k * (rowOf x2 r k * rstd (rowOf x2 r)) := by
  have a := fun r => v17 (x0 := x0) (x1 := x1) r k
  have b := v7 (x2 := x2)
  unfold val_main_v39 val_main_v23 val_main_v20 val_main_v19 val_main_v18 val_main_v12 val_main_v11
  generalize val_main_v17 x0 x1 = p at *
  generalize val_main_v7 x2 = s at *
  pointwise [val_main_cst_3, val_main_cst_4]
  simp only [a, b, Fin.sum_univ_one]
  exact Finset.sum_congr rfl fun r _ => mul_comm _ _
end Cert.NormOddRefIdeal.Math
end
end
-- ==== Proof.NormOddValue.lean ====
/- What the kernel leaves in its two result arrays, entry by entry. -/
module

public import proofs.«01_k».proof.Proof.Gen.NormOddIdeal.Value
public import proofs.«01_k».proof.Proof.NormOddRef
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.StableHlo.ReadAt
set_option maxRecDepth 16384
@[expose] public section
noncomputable section
open Idealize.ShloMosaic Idealize.ShloMosaic.TcCoe Idealize.SL.Sem
open Cert.NormOddIdeal Cert.NormOddIdeal.Gen Cert.NormMath
namespace Cert.NormOddIdeal.Math

/-! ## Payloads -/

section
variable (y x res : Vec Ideal S256x1024 .f32) (g v u : Vec Ideal S1x1024 .f32) (r : Fin 256) (k : Fin 1024)
  (a : Vec Ideal S1024x1024 .bf16) (b : Vec Ideal S1x1024x1024 .bf16) (i : Fin 1024)

theorem pay2 : k0_pay2 a b (ix2 i k) = ∑ j : Fin 1024, a (ix2 i j) * b (ix3 0 k j) := by
  pointwise [k0_pay2, k0_pay1]
theorem pay3 (p : Vec Ideal S1024x1024 .f32) : k0_pay3 a b p (ix2 i k) = p (ix2 i k) + ∑ j : Fin 1024, a (ix2 i j) * b (ix3 0 k j) := by
  pointwise [k0_pay3, k0_pay1]
theorem pay6 : k0_pay6 x (ix2 r 0) = rstd (fun k : Fin 1024 => x (ix2 r k)) := by
  pointwise [k0_pay6]
  rfl
theorem pay7 : k0_pay7 x (ix2 r k) = x (ix2 r k) * rstd (fun k : Fin 1024 => x (ix2 r k)) := by
  have e := pay6 x r
  unfold k0_pay7
  generalize k0_pay6 x = p at *
  pointwise
  rw [e]
theorem pay9 : k0_pay9 y x g res (ix2 r k) = res (ix2 r k) + drow (fun k : Fin 1024 => x (ix2 r k)) (fun k => y (ix2 r k) * g (ix2 0 k)) k := by
  have f := pay6 x r
  have h := pay7 x r
  unfold k0_pay9
  generalize k0_pay7 x = q at *
  generalize k0_pay6 x = s at *
  pointwise
  simp only [f, h]
  rfl
theorem pay8 : k0_pay8 y x (ix2 0 k) = 0 + ∑ r : Fin 256, y (ix2 r k) * (x (ix2 r k) * rstd (fun k : Fin 1024 => x (ix2 r k))) := by
  have h := fun r => pay7 x r k
  unfold k0_pay8
  generalize k0_pay7 x = q at *
  pointwise
  simp only [h]
/-- A slab's part is added the same way in each of the other slabs. -/
theorem pay13 : k0_pay13 v y x (k0_pay10 x) (ix2 0 k) = v (ix2 0 k) + ∑ r : Fin 256, y (ix2 r k) * (x (ix2 r k) * rstd (fun k : Fin 1024 => x (ix2 r k))) := by
  have h := fun r => pay7 x r k
  unfold k0_pay13
  rw [show k0_pay12 x (k0_pay10 x) = k0_pay7 x from rfl]
  generalize k0_pay7 x = q at *
  pointwise
  simp only [h]
theorem pay5 : k0_pay5 v u (ix2 0 k) = u (ix2 0 k) + v (ix2 0 k) := by
  pointwise [k0_pay5]
theorem pay14 : k0_pay14 y x (k0_pay10 x) g res = k0_pay9 y x g res := rfl
theorem pay18 : k0_pay18 y x (k0_pay15 x) (k0_pay16 x) g res = k0_pay9 y x g res := rfl
theorem pay4 : k0_pay4 y (k0_pay19 x) (k0_pay20 x) (k0_pay22 g) res = k0_pay9 y x g res := rfl
theorem pay21 (y' x' : Vec Ideal S256x1024 .f32) : k0_pay21 v y x (k0_pay16 x) y' x' = k0_pay13 (k0_pay13 v y x (k0_pay10 x)) y' x' (k0_pay10 x') := rfl
end

/-! ## The arrays and their blocks -/

theorem idx : ∀ t : Fin cfg0.N, win0_0.index t = ![t.val / 3, t.val % 3] ∧ win0_1.index t = ![0, 0, t.val % 3] ∧ win0_2.index t = ![t.val / 3, 0]
    ∧ win0_3.index t = ![0, 0] ∧ win0_4.index t = ![t.val / 3, 0] ∧ win0_5.index t = ![t.val / 3, 0] ∧ win0_6.index t = ![0, 0] :=
  (by decide +kernel : ∀ t : Fin grid0.N, _)
/-- A block of the first result is written out at the last of its three points. -/
theorem flush5 : ∀ t : Fin cfg0.N, (cfg0.win 5).flush t = true → t.val % 3 = 2 :=
  (by decide +kernel : ∀ t : Fin grid0.N, _)

/-- The array's row that is row `i` of block `t`. -/
def row (t : Fin 8) (i : Fin 1024) : Fin 8192 := ⟨t.val * 1024 + i.val, by omega⟩
/-- A grid point's block of rows. -/
def pt (t : Fin cfg0.N) : Fin 8 := ⟨t.val / 3, by have := t.isLt.trans_eq N_0; omega⟩
/-- A grid point's third of the columns. -/
def ph (t : Fin cfg0.N) : Fin 3 := ⟨t.val % 3, Nat.mod_lt _ (by decide)⟩
/-- The column `j` of a third. -/
def col (p : Fin 3) (j : Fin 1024) : Fin 3072 := ⟨p.val * 1024 + j.val, by omega⟩

variable (m : (ℓ : Loc nD τ sig) → Buf (Elt Ideal) ℓ) (c : Dev nD)
variable {dz : Fin 8192 → Fin 3072 → EReal} {w : Fin 1024 → Fin 3072 → EReal} {h : Fin 8192 → Fin 1024 → EReal} {g : Fin 1024 → EReal}
  {dh : Fin 8192 → Fin 1024 → EReal}
variable (hdz : ∀ r k, m ((c : Thread nD τ).loc main_arg0) (ix2 r k) = dz r k) (hw : ∀ r k, m ((c : Thread nD τ).loc main_arg1) (ix2 r k) = w r k)
  (hh : ∀ r k, m ((c : Thread nD τ).loc main_arg2) (ix2 r k) = h r k) (hg : ∀ k, m ((c : Thread nD τ).loc main_arg3) (ix1 k) = g k)
  (hdh : ∀ r k, m ((c : Thread nD τ).loc main_arg4) (ix2 r k) = dh r k)

include hdz in
theorem v0 (r : Fin 8192) (k : Fin 3072) : V m c main_v0 (ix2 r k) = dz r k := by
  refine Eq.trans ?_ (hdz _ _)
  simp only [V, hostOps0]
  after_results_simp
  rfl
include hw in
theorem v2 (r : Fin 1024) (k : Fin 3072) : V m c main_v2 (ix3 0 r k) = w r k := by
  refine Eq.trans ?_ (hw _ _)
  simp only [V, hostOps0]
  after_results_simp
  generalize m _ = x
  pointwise
include hg in
theorem v3 (k : Fin 1024) : V m c main_v3 (ix2 0 k) = g k := by
  refine Eq.trans ?_ (hg _)
  simp only [V, hostOps0]
  after_results_simp
  generalize m _ = x
  pointwise
include hh in
theorem kept2 (r : Fin 8192) (k : Fin 1024) : V m c main_arg2 (ix2 r k) = h r k := by
  refine Eq.trans ?_ (hh _ _)
  simp only [V, hostOps0]
  after_results_simp
include hdh in
theorem kept4 (r : Fin 8192) (k : Fin 1024) : V m c main_arg4 (ix2 r k) = dh r k := by
  refine Eq.trans ?_ (hdh _ _)
  simp only [V, hostOps0]
  after_results_simp

include hdz in
theorem blk0 (t : Fin cfg0.N) (i : Fin 1024) (k : Fin 1024) : iblk m c 0 t (ix2 i k) = dz (row (pt t) i) (col (ph t) k) := by
  refine Eq.trans ?_ (v0 m c hdz _ _)
  blk_point [iblk, V, (idx t).1]
  all_goals rfl
include hw in
theorem blk1 (t : Fin cfg0.N) (r : Fin 1024) (k : Fin 1024) : iblk m c 1 t (ix3 0 r k) = w r (col (ph t) k) := by
  refine Eq.trans ?_ (v2 m c hw _ _)
  blk_point [iblk, V, (idx t).2.1]
  all_goals rfl
include hh in
theorem blk2 (t : Fin cfg0.N) (i : Fin 1024) (k : Fin 1024) : iblk m c 2 t (ix2 i k) = h (row (pt t) i) k := by
  refine Eq.trans ?_ (kept2 m c hh _ _)
  blk_point [iblk, V, (idx t).2.2.1]
  rfl
include hg in
theorem blk3 (t : Fin cfg0.N) (k : Fin 1024) : iblk m c 3 t (ix2 0 k) = g k := by
  refine Eq.trans ?_ (v3 m c hg _)
  blk_point [iblk, V, (idx t).2.2.2.1]
include hdh in
theorem blk4 (t : Fin cfg0.N) (i : Fin 1024) (k : Fin 1024) : iblk m c 4 t (ix2 i k) = dh (row (pt t) i) k := by
  refine Eq.trans ?_ (kept4 m c hdh _ _)
  blk_point [iblk, V, (idx t).2.2.2.2.1]
  rfl

/-- Reading 256 rows from `o` on reads the rows `o + r`. -/
theorem ld_rows {n : ℕ} {e : EltTy} (X : (⟨2, ![1024, n]⟩ : Shape).Idx → Elt Ideal e) (o : ℕ) (ho : o + 256 ≤ 1024)
    (inb : ∀ a, (![o, 0] : Fin 2 → ℕ) a + (![256, n] : Fin 2 → ℕ) a ≤ (⟨2, ![1024, n]⟩ : Shape).size a) (r : Fin 256) (k : Fin n) :
    View.ld X (Rect.unit ![o, 0] ![256, n] inb) (ix2 r k) = X (ix2 ⟨o + r.val, by omega⟩ k) :=
  View.ld_unit_apply_of X _ _ inb _ _ (fun a => match a with | 0 => rfl | 1 => (Nat.zero_add _).symm)

/-- The gradient before the norm, a row of the product with the weights. -/
def dx (dz : Fin 8192 → Fin 3072 → EReal) (w : Fin 1024 → Fin 3072 → EReal) (r : Fin 8192) (k : Fin 1024) : EReal := ∑ j, dz r j * w k j
/-- The first result. -/
def out (dz : Fin 8192 → Fin 3072 → EReal) (w : Fin 1024 → Fin 3072 → EReal) (h : Fin 8192 → Fin 1024 → EReal) (g : Fin 1024 → EReal)
    (dh : Fin 8192 → Fin 1024 → EReal) (r : Fin 8192) (k : Fin 1024) : EReal :=
  dh r k + drow (h r) (fun k => dx dz w r k * g k) k
/-- A row's part of the scale's gradient. -/
def term (dz : Fin 8192 → Fin 3072 → EReal) (w : Fin 1024 → Fin 3072 → EReal) (h : Fin 8192 → Fin 1024 → EReal) (k : Fin 1024) (r : Fin 8192) : EReal :=
  dx dz w r k * (h r k * rstd (h r))

/-- A third of the product. -/
def third (dz : Fin 8192 → Fin 3072 → EReal) (w : Fin 1024 → Fin 3072 → EReal) (p : Fin 3) (r : Fin 8192) (k : Fin 1024) : EReal :=
  ∑ j, dz r (col p j) * w k (col p j)
theorem thirds (r : Fin 8192) (k : Fin 1024) : (third dz w 0 r k + third dz w 1 r k) + third dz w 2 r k = dx dz w r k := by
  unfold third dx
  rw [← Fin.sum_univ_three (f := fun p : Fin 3 => ∑ j, dz r (col p j) * w k (col p j)), ← Fintype.sum_prod_type']
  refine Fintype.sum_equiv (finProdFinEquiv (m := 3) (n := 1024)) _ _ fun x => ?_
  have e : col x.1 x.2 = finProdFinEquiv x := Fin.ext (by show x.1.val * 1024 + x.2.val = x.2.val + 1024 * x.1.val; omega)
  rw [e]

section
variable (t : Fin cfg0.N)
include hdz hw in
theorem mm2 (i k : Fin 1024) : k0_pay2 (F := Ideal) (iblk m c 0 t) (iblk m c 1 t) (ix2 i k) = third dz w (ph t) (row (pt t) i) k := by
  rw [pay2]
  simp only [blk0 m c hdz, blk1 m c hw]
  rfl
include hdz hw in
theorem mm3 (p : Vec Ideal S1024x1024 .f32) (i k : Fin 1024) :
    k0_pay3 (F := Ideal) (iblk m c 0 t) (iblk m c 1 t) p (ix2 i k) = p (ix2 i k) + third dz w (ph t) (row (pt t) i) k := by
  rw [pay3]
  simp only [blk0 m c hdz, blk1 m c hw]
  rfl
include hdz hw in
theorem scrA (h0 : t.val % 3 = 0) (i k : Fin 1024) : (outsAt0 m c t.val t.isLt).2.2 (ix2 i k) = third dz w 0 (row (pt t) i) k := by
  rw [outsAt0_A m c t h0 (by omega) (by omega)]
  frame_out
  rw [mm2 m c hdz hw, show ph t = 0 from Fin.ext h0]
include hdz hw in
theorem scrB (h0 : t.val % 3 = 1) (i k : Fin 1024) : (outsAt0 m c t.val t.isLt).2.2 (ix2 i k)
    = third dz w 0 (row (pt t) i) k + third dz w 1 (row (pt t) i) k := by
  rw [outsAt0_B m c t (by omega) (by omega) (by omega)]
  frame_out
  rw [mm3 m c hdz hw, show ph t = 1 from Fin.ext h0, read_unread_whole]
  have e := scrA m c hdz hw ⟨t.val - 1, by omega⟩ (by show (t.val - 1) % 3 = 0; omega) i k
  rw [show pt ⟨t.val - 1, by omega⟩ = pt t from Fin.ext (by show (t.val - 1) / 3 = t.val / 3; omega)] at e
  exact congrArg (· + _) e
include hdz hw in
/-- The whole product, at the last of a block's three points. -/
theorem whole (h0 : t.val % 3 = 2) (i k : Fin 1024) :
    k0_pay3 (F := Ideal) (iblk m c 0 t) (iblk m c 1 t) (outsAt0 m c (t.val - 1) (by omega)).2.2 (ix2 i k) = dx dz w (row (pt t) i) k := by
  rw [mm3 m c hdz hw, show ph t = 2 from Fin.ext h0, ← thirds]
  have e := scrB m c hdz hw ⟨t.val - 1, by omega⟩ (by show (t.val - 1) % 3 = 1; omega) i k
  rw [show pt ⟨t.val - 1, by omega⟩ = pt t from Fin.ext (by show (t.val - 1) / 3 = t.val / 3; omega)] at e
  exact congrArg (· + _) e
end

section
variable (t : Fin cfg0.N) (o : ℕ) (ho : o + 256 ≤ 1024)
    (inb' : ∀ a, (![o, 0] : Fin 2 → ℕ) a + (![256, 1024] : Fin 2 → ℕ) a ≤ S1024x1024.size a)
    (Y : Vec Ideal S1024x1024 .f32) (hY : ∀ i k, Y (ix2 i k) = dx dz w (row (pt t) i) k)
include hY in
theorem ldy (r : Fin 256) (k : Fin 1024) : View.ld (e' := EltTy.f32) Y (Rect.unit ![o, 0] ![256, 1024] inb') (ix2 r k)
    = dx dz w (row (pt t) ⟨o + r.val, by omega⟩) k := (ld_rows Y o ho inb' r k).trans (hY _ _)
include hh in
theorem ldh (r : Fin 256) (k : Fin 1024) : View.ld (iblk m c 2 t) (Rect.unit ![o, 0] ![256, 1024] inb') (ix2 r k)
    = h (row (pt t) ⟨o + r.val, by omega⟩) k := (ld_rows (iblk m c 2 t) o ho inb' r k).trans (blk2 m c hh t _ _)
include hdh in
theorem ldd (r : Fin 256) (k : Fin 1024) : View.ld (iblk m c 4 t) (Rect.unit ![o, 0] ![256, 1024] inb') (ix2 r k)
    = dh (row (pt t) ⟨o + r.val, by omega⟩) k := (ld_rows (iblk m c 4 t) o ho inb' r k).trans (blk4 m c hdh t _ _)
include ho hY hh hg hdh in
/-- The 256 rows of the first result that are written from row `o` on. -/
theorem out_tile (i : Fin 1024) (j : Fin 1024) (x : S256x1024.Idx) (x0 : i.val = o + (x 0).val) (x1 : j.val = (x 1).val) :
    k0_pay9 (F := Ideal) (View.ld Y (Rect.unit ![o, 0] ![256, 1024] inb'))
      (View.ld (iblk m c 2 t) (Rect.unit ![o, 0] ![256, 1024] inb')) (iblk m c 3 t)
      (View.ld (iblk m c 4 t) (Rect.unit ![o, 0] ![256, 1024] inb')) x = out dz w h g dh (row (pt t) i) j := by
  obtain ⟨r, k, rfl⟩ : ∃ r k, x = ix2 r k := ⟨x 0, x 1, eq_ix2 x⟩
  obtain rfl : j = k := Fin.ext x1
  have e : (⟨o + r.val, by omega⟩ : Fin 1024) = i := Fin.ext x0.symm
  rw [pay9]
  simp only [ldy t o ho _ Y hY, ldh m c hh t o ho, ldd m c hdh t o ho, e, blk3 m c hg]
  rfl
include ho hY hh in
/-- A slab's part of the scale's gradient. -/
theorem acc_tile (v : Vec Ideal S1x1024 .f32) (k : Fin 1024) :
    k0_pay13 (F := Ideal) v (View.ld Y (Rect.unit ![o, 0] ![256, 1024] inb'))
      (View.ld (iblk m c 2 t) (Rect.unit ![o, 0] ![256, 1024] inb')) (k0_pay10 (View.ld (iblk m c 2 t) (Rect.unit ![o, 0] ![256, 1024] inb'))) (ix2 0 k)
      = v (ix2 0 k) + ∑ r : Fin 256, term dz w h k (row (pt t) ⟨o + r.val, by omega⟩) := by
  rw [pay13]
  simp only [ldy t o ho _ Y hY, ldh m c hh t o ho]
  rfl
include ho hY hh in
theorem acc_tile0 (k : Fin 1024) :
    k0_pay8 (F := Ideal) (View.ld Y (Rect.unit ![o, 0] ![256, 1024] inb'))
      (View.ld (iblk m c 2 t) (Rect.unit ![o, 0] ![256, 1024] inb')) (ix2 0 k)
      = 0 + ∑ r : Fin 256, term dz w h k (row (pt t) ⟨o + r.val, by omega⟩) := by
  rw [pay8]
  simp only [ldy t o ho _ Y hY, ldh m c hh t o ho]
  rfl
end

theorem four (f : Fin 1024 → EReal) : (((0 + ∑ r : Fin 256, f ⟨0 + r.val, by omega⟩) + ∑ r : Fin 256, f ⟨256 + r.val, by omega⟩)
    + ∑ r : Fin 256, f ⟨512 + r.val, by omega⟩) + ∑ r : Fin 256, f ⟨768 + r.val, by omega⟩ = ∑ i, f i := by
  refine Eq.trans ?_ (Fintype.sum_equiv (finProdFinEquiv (m := 4) (n := 256)) (fun p : Fin 4 × Fin 256 => f ⟨p.1.val * 256 + p.2.val, by omega⟩) f
    fun x => congrArg f (Fin.ext ?_))
  · rw [Fintype.sum_prod_type, Fin.sum_univ_four, zero_add]
    rfl
  · show x.1.val * 256 + x.2.val = x.2.val + 256 * x.1.val
    omega

/-- What one grid point adds to the scale's gradient. -/
def part (dz : Fin 8192 → Fin 3072 → EReal) (w : Fin 1024 → Fin 3072 → EReal) (h : Fin 8192 → Fin 1024 → EReal) (t : Fin 8) (k : Fin 1024) : EReal :=
  ∑ i, term dz w h k (row t i)

set_option maxHeartbeats 1000000 in
include hdz hw hh hg hdh in
theorem point5 (t : Fin cfg0.N) (h0 : t.val % 3 = 2) (i : Fin 1024) (j : Fin 1024) : (outsAt0 m c t.val t.isLt).1 (ix2 i j) = out dz w h g dh (row (pt t) i) j := by
  have hY := whole m c hdz hw t h0
  refine (?_ : ∀ y, y = (outsAt0 m c t.val t.isLt).1 (ix2 i j) → y = out dz w h g dh (row (pt t) i) j) _ rfl
  by_cases hlt : t.val < 3
  · rw [outsAt0_C m c t (by omega) (by omega) (by omega) (by omega) (by omega)]
    frame_out
    simp (disch := first | decide | rfl) only [↓View.readCov_skip, ↓View.readCov_fill, read_unread_whole]
    rw [pay14, pay18, pay4]
    rintro y rfl
    revert hY
    generalize k0_pay3 (iblk m c 0 t) (iblk m c 1 t) _ = Y
    intro hY
    clear h0 hlt
    canon_tiles x h
    case piece0 => exact out_tile m c hh hg hdh t _ (by decide) _ _ hY i j x h0 h1
    case piece1 => exact out_tile m c hh hg hdh t _ (by decide) _ _ hY i j x h0 h1
    case piece2 => exact out_tile m c hh hg hdh t _ (by decide) _ _ hY i j x h0 h1
    case piece3 => exact out_tile m c hh hg hdh t _ (by decide) _ _ hY i j x (h0.trans (Nat.zero_add _).symm) h1
  · rw [outsAt0_D m c t (by omega) (by omega) (by omega) (by omega) (by omega)]
    frame_out
    simp (disch := first | decide | rfl) only [↓View.readCov_skip, ↓View.readCov_fill, read_unread_whole]
    rw [pay14, pay18, pay4]
    rintro y rfl
    revert hY
    generalize k0_pay3 (iblk m c 0 t) (iblk m c 1 t) _ = Y
    intro hY
    clear h0 hlt
    canon_tiles x h
    case piece0 => exact out_tile m c hh hg hdh t _ (by decide) _ _ hY i j x h0 h1
    case piece1 => exact out_tile m c hh hg hdh t _ (by decide) _ _ hY i j x h0 h1
    case piece2 => exact out_tile m c hh hg hdh t _ (by decide) _ _ hY i j x h0 h1
    case piece3 => exact out_tile m c hh hg hdh t _ (by decide) _ _ hY i j x (h0.trans (Nat.zero_add _).symm) h1

include hdz hw hh in
theorem point6C (t : Fin cfg0.N) (k : Fin 1024) (h0 : t.val = 2) : (outsAt0 m c t.val t.isLt).2.1 (ix2 0 k) = part dz w h (pt t) k := by
  have hY := whole m c hdz hw t (by omega)
  rw [outsAt0_C m c t (by omega) (by omega) (by omega) (by omega) (by omega)]
  frame_out
  simp (disch := first | decide | rfl) only [↓View.readCov_skip, ↓View.readCov_fill, read_unread_whole]
  revert hY
  generalize k0_pay3 (iblk m c 0 t) (iblk m c 1 t) _ = Y
  intro hY
  rw [pay21]
  exact ((acc_tile m c hh t _ (by decide) _ Y hY _ k).trans (congrArg (· + _) ((acc_tile m c hh t _ (by decide) _ Y hY _ k).trans
    (congrArg (· + _) ((acc_tile m c hh t _ (by decide) _ Y hY _ k).trans (congrArg (· + _) (acc_tile0 m c hh t _ (by decide) _ Y hY k))))))).trans
    (four fun i => term dz w h k (row (pt t) i))
include hdz hw hh in
theorem point6D (t : Fin cfg0.N) (k : Fin 1024) (h0 : t.val % 3 = 2) (h3 : 3 ≤ t.val) : (outsAt0 m c t.val t.isLt).2.1 (ix2 0 k)
    = (outsAt0 m c (t.val - 1) (by omega)).2.1 (ix2 0 k) + part dz w h (pt t) k := by
  have hY := whole m c hdz hw t (by omega)
  rw [outsAt0_D m c t (by omega) (by omega) (by omega) (by omega) (by omega)]
  frame_out
  simp (disch := first | decide | rfl) only [↓View.readCov_skip, ↓View.readCov_fill, read_unread_whole]
  revert hY
  generalize k0_pay3 (iblk m c 0 t) (iblk m c 1 t) _ = Y
  intro hY
  rw [pay5, pay21]
  exact congrArg (_ + ·) ((((acc_tile m c hh t _ (by decide) _ Y hY _ k).trans (congrArg (· + _) ((acc_tile m c hh t _ (by decide) _ Y hY _ k).trans
    (congrArg (· + _) ((acc_tile m c hh t _ (by decide) _ Y hY _ k).trans (congrArg (· + _) (acc_tile0 m c hh t _ (by decide) _ Y hY k))))))).trans
    (four fun i => term dz w h k (row (pt t) i))))
/-- The other points leave the scale's gradient as it was. -/
theorem point6A (t : Fin cfg0.N) (h0 : t.val % 3 = 0) : (outsAt0 m c t.val t.isLt).2.1 = (outsAt0 m c (t.val - 1) (by omega)).2.1 := by
  rw [outsAt0_A m c t h0 (by omega) (by omega)]
  rfl
theorem point6B (t : Fin cfg0.N) (h0 : t.val % 3 = 1) : (outsAt0 m c t.val t.isLt).2.1 = (outsAt0 m c (t.val - 1) (by omega)).2.1 := by
  rw [outsAt0_B m c t (by omega) (by omega) (by omega)]
  rfl
theorem lt_N {n : ℕ} (h : n < 24) : n < cfg0.N := h.trans_eq N_0.symm
include hdz hw hh in
/-- The scale's gradient after the last point of a block. -/
theorem upto (k : Fin 1024) (b : ℕ) (hb : b < 8) : ∀ n (e : n = 3 * b + 2), (outsAt0 m c n (lt_N (by omega))).2.1 (ix2 0 k)
    = ∑ p : Fin (b + 1), part dz w h ⟨p.val, by omega⟩ k := by
  induction b with
  | zero =>
    intro n e
    rw [Fin.sum_univ_one]
    refine (point6C m c hdz hw hh ⟨n, lt_N (by omega)⟩ k e).trans (congrArg (fun p => part dz w h p k) (Fin.ext ?_))
    show n / 3 = 0
    omega
  | succ b ih =>
    intro n e
    rw [Fin.sum_univ_castSucc]
    refine (point6D m c hdz hw hh ⟨n, lt_N (by omega)⟩ k (by show n % 3 = 2; omega) (by show 3 ≤ n; omega)).trans ?_
    refine congrArg₂ (· + ·) ?_ (congrArg (fun p => part dz w h p k) (Fin.ext (by show n / 3 = b + 1; omega)))
    refine Eq.trans ?_ (ih (by omega) (n - 1 - 1 - 1) (by omega))
    exact congrFun ((point6B m c ⟨n - 1, lt_N (by omega)⟩ (by show (n - 1) % 3 = 1; omega)).trans
      (point6A m c ⟨n - 1 - 1, lt_N (by omega)⟩ (by show (n - 1 - 1) % 3 = 0; omega))) _

/-! ## The result arrays -/

include hdz hw hh hg hdh in
theorem final5 : (dats m 0 c).arrAt 5 cfg0.N = fun j : S8192x1024.Idx => out dz w h g dh (j 0) (j 1) := by
  refine (dats m 0 c).arrAt_eq_of_covers 5 _ (by decide +kernel) fun t hf y => ?_
  blk_simp
  rw [after0_5]
  obtain ⟨i, j, rfl⟩ : ∃ i j, y = ix2 i j := ⟨y 0, y 1, eq_ix2 y⟩
  have e : (win0_5.blk t).view.emb (ix2 i j) = ix2 (row (pt t) i) j := by
    blk_ext [(idx t).2.2.2.2.2.1]
    all_goals rfl
  rw [e]
  exact point5 m c hdz hw hh hg hdh t (flush5 t hf) i j

/-- The last grid point. -/
def last : Fin cfg0.N := (23 : Fin 24).cast N_0.symm

include hdz hw hh in
theorem final6 : (dats m 0 c).arrAt 6 cfg0.N = fun j : S1x1024.Idx => ∑ r, term dz w h (j 1) r := by
  refine (dats m 0 c).arrAt_eq_of_after_last 6 last (by decide +kernel) _ fun j => ?_
  blk_simp
  rw [after0_6]
  obtain ⟨i, k, rfl⟩ : ∃ i k, j = ix2 i k := ⟨j 0, j 1, eq_ix2 j⟩
  obtain rfl : i = 0 := Subsingleton.elim _ _
  refine (upto m c hdz hw hh k 7 (by decide) 23 rfl).trans ?_
  show ∑ p : Fin 8, part dz w h p k = ∑ r, term dz w h k r
  unfold part
  rw [← Fintype.sum_prod_type']
  refine Fintype.sum_equiv (finProdFinEquiv (m := 8) (n := 1024)) _ _ fun x => congrArg (term dz w h k) (Fin.ext ?_)
  show x.1.val * 1024 + x.2.val = x.2.val + 1024 * x.1.val
  omega

end Cert.NormOddIdeal.Math
end
end
-- ==== Proof.NormOddClaim.lean ====
/- The claims about the gradient of a norm and the product after it. -/
module

public import proofs.«01_k».proof.Defs
public import proofs.«01_k».proof.Proof.NormOddValue
public import proofs.«01_k».proof.Proof.Gen.NormOdd.Frame
public import proofs.«01_k».proof.Proof.Gen.NormOddRefIdeal.Run
public import Idealize.ShloMosaic.Lib.Quiescent

set_option maxRecDepth 16384

@[expose] public section
noncomputable section

open Idealize.ShloMosaic Idealize.ShloMosaic.TcCoe Idealize.SL.Sem

namespace Cert.NormOddClaim

/-- The reference runs and leaves its arguments as they were. -/
theorem refFrame : Cert.quiescent_NormOddRefIdeal (hNormOddRefIdeal := Cert.NormOddRefIdeal.Gen.facts) :=
  fun m ρ _ => (θ_run Cert.NormOddRefIdeal.defs _ _).mono
    (fun r h => ⟨fun c => (h c).2.2, Idealize.ShloMosaic.sem_eq_zero_of_no_sems (by decide) r.2⟩)
    (Cert.NormOddRefIdeal.Value.run (F := Ideal) m ρ)

/-- Kernel and reference end with the same two gradients. -/
theorem algebraic : Cert.algebraic_NormOddIdeal_NormOddRefIdeal (hNormOddIdeal := Cert.NormOddIdeal.Gen.facts)
    (hNormOddRefIdeal := Cert.NormOddRefIdeal.Gen.facts) := by
  pair_intro
  · run_from Cert.NormOddIdeal.Gen.run_main m g
    all_goals
      simp only [Cert.NormOddIdeal.Gen.hostOps0]
      after_results_simp <;> rfl
  · run_from Cert.NormOddRefIdeal.Value.run m' g'
    all_goals
      obtain ⟨z, hz⟩ : ∃ z : Fin 8192 → Fin 3072 → EReal, ∀ r k, m ((c : Thread Cert.NormOddIdeal.nD Cert.NormOddIdeal.τ).loc Cert.NormOddIdeal.main_arg0) (ix2 r k) = z r k :=
        ⟨_, fun r k => rfl⟩
      obtain ⟨w, hw⟩ : ∃ w : Fin 1024 → Fin 3072 → EReal, ∀ r k, m ((c : Thread Cert.NormOddIdeal.nD Cert.NormOddIdeal.τ).loc Cert.NormOddIdeal.main_arg1) (ix2 r k) = w r k :=
        ⟨_, fun r k => rfl⟩
      obtain ⟨h, hh⟩ : ∃ h : Fin 8192 → Fin 1024 → EReal, ∀ r k, m ((c : Thread Cert.NormOddIdeal.nD Cert.NormOddIdeal.τ).loc Cert.NormOddIdeal.main_arg2) (ix2 r k) = h r k :=
        ⟨_, fun r k => rfl⟩
      obtain ⟨s, hs⟩ : ∃ s : Fin 1024 → EReal, ∀ k, m ((c : Thread Cert.NormOddIdeal.nD Cert.NormOddIdeal.τ).loc Cert.NormOddIdeal.main_arg3) (ix1 k) = s k :=
        ⟨_, fun k => rfl⟩
      obtain ⟨d, hd⟩ : ∃ d : Fin 8192 → Fin 1024 → EReal, ∀ r k, m ((c : Thread Cert.NormOddIdeal.nD Cert.NormOddIdeal.τ).loc Cert.NormOddIdeal.main_arg4) (ix2 r k) = d r k :=
        ⟨_, fun r k => rfl⟩
    · rw [Cert.NormOddIdeal.Math.final5 m c hz hw hh hs hd, Cert.NormOddRefIdeal.Read.val_main_v38_eq]
      funext j
      obtain ⟨r, k, rfl⟩ : ∃ r k, j = ix2 r k := ⟨j 0, j 1, eq_ix2 j⟩
      rw [(hagree c).1, (hagree c).2.1, (hagree c).2.2.1, (hagree c).2.2.2.1, (hagree c).2.2.2.2]
      refine (Cert.NormOddRefIdeal.Math.v38 ..).trans ?_
      unfold Cert.NormOddRefIdeal.Math.dhat Cert.NormOddRefIdeal.Math.du Cert.NormOddRefIdeal.Math.rowOf
      simp only [hz, hw, hh, hs, hd]
      rfl
    · rw [Cert.NormOddIdeal.Math.final6 m c hz hw hh, Cert.NormOddRefIdeal.Read.val_main_v39_eq]
      funext j
      obtain ⟨i, k, rfl⟩ : ∃ i k, j = ix2 i k := ⟨j 0, j 1, eq_ix2 j⟩
      obtain rfl : i = 0 := Subsingleton.elim _ _
      refine (Cert.NormOddRefIdeal.Math.v39 ..).trans ?_
      unfold Cert.NormOddRefIdeal.Math.du Cert.NormOddRefIdeal.Math.rowOf
      simp only [hz, hw, hh]
      rfl

end Cert.NormOddClaim

end
end
-- ==== Proof.LossRef.lean ====
/- The reference's loss and its two gradients, entry by entry. -/
module

public import proofs.«01_k».proof.Proof.Gen.LossRefIdeal.Read
public import proofs.«01_k».proof.Proof.NormMath
public import Idealize.ShloMosaic.Lib.Pointwise
public import Idealize.ShloMosaic.Lib.Claim

set_option maxRecDepth 16384
@[expose] public section
noncomputable section
open Idealize.ShloMosaic Idealize.ShloMosaic.TcCoe Idealize.SL.Sem
open Cert.LossRefIdeal Cert.LossRefIdeal.Gen Cert.LossRefIdeal.Read Cert.NormMath
namespace Cert.LossRefIdeal.Math

/-- The words of one half and two and of the reciprocal of the row's length. -/
theorem ofBits_half : Ideal.ofBits .f32 0x3F000000#32 = ((1 / 2 : ℝ) : EReal) := by
  simp [Ideal.ofBits, Ideal.ieee, -EReal.coe_mul]; try norm_num
theorem ofBits_two : Ideal.ofBits .f32 0x40000000#32 = ((2 : ℝ) : EReal) := by
  simp [Ideal.ofBits, Ideal.ieee, -EReal.coe_mul]; try norm_num
theorem ofBits_inv : Ideal.ofBits .f32 0x3A800000#32 = ((1 / 1024 : ℝ) : EReal) := by
  simp [Ideal.ofBits, Ideal.ieee, -EReal.coe_mul]; try norm_num

/-- A row's distance from its target. -/
def err (x g t : Fin 1024 → EReal) (j : Fin 1024) : EReal := x j * rstd x * g j - t j
/-- The cotangent of the distance. -/
def dy (x g t : Fin 1024 → EReal) (j : Fin 1024) : EReal := err x g t j * Ideal.ofBits .f32 0x3A800000#32
/-- The mean of a row's squared distances. -/
def mse (x g t : Fin 1024 → EReal) : EReal := Ideal.div (∑ j, err x g t j * err x g t j) (Ideal.ofBits .f32 0x44800000#32)
/-- A factor one half before the sum and a factor two after it are the mean's factor. -/
theorem dy_eq (y : EReal) : Ideal.div (Ideal.ofBits .f32 0x3F000000#32) (Ideal.ofBits .f32 0x44800000#32)
    * (Ideal.ofBits .f32 0x40000000#32 * y) = y * Ideal.ofBits .f32 0x3A800000#32 := by
  rw [ofBits_half, ofBits_1024, ofBits_two, ofBits_inv, Ideal.div_coe (by norm_num), ← EReal.coe_mul, ← mul_assoc, ← EReal.coe_mul,
    mul_comm]
  congr 2
  norm_num

variable {x0 : (⟨S8192x1024, .f32⟩ : BufTy).Contents (Elt Ideal)} {x1 : (⟨S1024, .f32⟩ : BufTy).Contents (Elt Ideal)}
  {x2 : (⟨S8192x1024, .f32⟩ : BufTy).Contents (Elt Ideal)} (r : Fin 8192) (k : Fin 1024)
variable {h t : Fin 8192 → Fin 1024 → EReal} {g : Fin 1024 → EReal} (hh : ∀ r k, x0 (ix2 r k) = h r k) (hg : ∀ k, x1 (ix1 k) = g k) (ht : ∀ r k, x2 (ix2 r k) = t r k)

include hh in
theorem v6 : val_main_v6 (F := Ideal) x0 (ix2 r 0) = under (h r) := by
  unfold val_main_v6 val_main_v4 val_main_v2 val_main_v1 val_main_v0 val_main_v3 val_main_v5
  pointwise [val_main_cst, val_main_cst_0, val_main_cst_1]
  simp only [hh]
  rfl
include hh in
theorem v7 : val_main_v7 (F := Ideal) x0 (ix2 r 0) = rstd (h r) := by
  have a := v6 r hh
  unfold val_main_v7
  generalize val_main_v6 x0 = p at *
  pointwise
  rw [a]; rfl
include hh in
theorem v10 : val_main_v10 (F := Ideal) x0 (ix2 r 0) = Ideal.ofBits .f32 0xBF000000#32 * Ideal.div (rstd (h r)) (under (h r)) := by
  have a := v6 r hh
  have b := v7 r hh
  unfold val_main_v10 val_main_v9 val_main_v8
  generalize val_main_v6 x0 = p at *
  generalize val_main_v7 x0 = q at *
  pointwise [val_main_cst_2]
  rw [a, b]
include hh in
theorem v12 : val_main_v12 (F := Ideal) x0 (ix2 r k) = h r k * rstd (h r) := by
  have b := v7 r hh
  unfold val_main_v12 val_main_v11
  generalize val_main_v7 x0 = q at *
  pointwise
  rw [b, hh]
include hh hg ht in
theorem v16 : val_main_v16 (F := Ideal) x0 x1 x2 (ix2 r k) = err (h r) g (t r) k := by
  have b := v12 r k hh
  unfold val_main_v16 val_main_v15 val_main_v14 val_main_v13
  generalize val_main_v12 x0 = q at *
  pointwise
  rw [b, hg, ht]
  rfl
include hh hg ht in
theorem v24 : val_main_v24 (F := Ideal) x0 x1 x2 ix0 = Ideal.ofBits .f32 0x3F000000#32 * ∑ r, mse (h r) g (t r) := by
  have b := fun r k => v16 r k hh hg ht
  unfold val_main_v24 val_main_v23 val_main_v22 val_main_v21 val_main_v20 val_main_v17
  generalize val_main_v16 x0 x1 x2 = q at *
  pointwise [val_main_cst_4, val_main_cst_5, val_main_cst_6, val_main_cst_7]
  simp only [b]
  rfl
include hh hg ht in
/-- The loss, at every entry of its block. -/
theorem v51 (i : Fin 8) (j : Fin 128) : val_main_v51 (F := Ideal) x0 x1 x2 (ix2 i j) = Ideal.ofBits .f32 0x3F000000#32 * ∑ r, mse (h r) g (t r) := by
  have b := v24 hh hg ht
  unfold val_main_v51
  generalize val_main_v24 x0 x1 x2 = q at *
  pointwise
  exact b
include hh hg ht in
theorem v30 : val_main_v30 (F := Ideal) x0 x1 x2 (ix2 r k) = dy (h r) g (t r) k := by
  have b := v16 r k hh hg ht
  unfold val_main_v30 val_main_v29 val_main_v28 val_main_v27 val_main_v26 val_main_v25 val_main_v19 val_main_v18
  generalize val_main_v16 x0 x1 x2 = q at *
  pointwise [val_main_cst_8, val_main_cst_9, val_main_cst_10, val_main_cst_3]
  rw [b]
  exact dy_eq _
include hh hg ht in
/-- The scale's gradient. -/
theorem v52 : val_main_v52 (F := Ideal) x0 x1 x2 (ix2 0 k) = ∑ r, dy (h r) g (t r) k * (h r k * rstd (h r)) := by
  have a := fun r => v30 r k hh hg ht
  have b := fun r => v12 r k hh
  unfold val_main_v52 val_main_v36 val_main_v33 val_main_v32 val_main_v31
  generalize val_main_v30 x0 x1 x2 = p at *
  generalize val_main_v12 x0 = q at *
  pointwise [val_main_cst_11, val_main_cst_12]
  simp only [a, b, Fin.sum_univ_one]
  exact Finset.sum_congr rfl fun r _ => mul_comm _ _
include hh hg ht in
theorem v35 : val_main_v35 (F := Ideal) x0 x1 x2 (ix2 r k) = dy (h r) g (t r) k * g k := by
  have a := v30 r k hh hg ht
  unfold val_main_v35 val_main_v34 val_main_v13
  generalize val_main_v30 x0 x1 x2 = p at *
  pointwise
  rw [a, hg]
include hh hg ht in
theorem v46 : val_main_v46 (F := Ideal) x0 x1 x2 (ix2 r k) = Ideal.div ((∑ k, h r k * (dy (h r) g (t r) k * g k))
    * (Ideal.ofBits .f32 0xBF000000#32 * Ideal.div (rstd (h r)) (under (h r)))) (Ideal.ofBits .f32 0x44800000#32) := by
  have a := fun k => v35 r k hh hg ht
  have b := v10 r hh
  unfold val_main_v46 val_main_v45 val_main_v44 val_main_v43 val_main_v42 val_main_v39 val_main_v38 val_main_v37
  generalize val_main_v35 x0 x1 x2 = p at *
  generalize val_main_v10 x0 = q at *
  pointwise [val_main_cst_13, val_main_cst_14, val_main_cst_15]
  simp only [a, b, hh, Fin.sum_univ_one]
include hh hg ht in
/-- The gradient of the residual stream. -/
theorem v50 : val_main_v50 (F := Ideal) x0 x1 x2 (ix2 r k) = drow (h r) (fun k => dy (h r) g (t r) k * g k) k := by
  have a := v35 r k hh hg ht
  have b := v7 r hh
  have e := v46 r k hh hg ht
  unfold val_main_v50 val_main_v49 val_main_v48 val_main_v47 val_main_v41 val_main_v40
  generalize val_main_v35 x0 x1 x2 = p at *
  generalize val_main_v46 x0 x1 x2 = q at *
  generalize val_main_v7 x0 = s at *
  pointwise
  rw [a, b, hh, ← zero_add (drow _ _ _), ← drow_eq (h r) _ 0 k _ e, zero_add]
end Cert.LossRefIdeal.Math
end
end
-- ==== Proof.LossValue.lean ====
/- What the kernel leaves in its three result arrays, entry by entry. -/
module

public import proofs.«01_k».proof.Proof.Gen.LossIdeal.Value
public import proofs.«01_k».proof.Proof.LossRef
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.StableHlo.ReadAt
set_option maxRecDepth 16384
@[expose] public section
noncomputable section
open Idealize.ShloMosaic Idealize.ShloMosaic.TcCoe Idealize.SL.Sem
open Cert.LossIdeal Cert.LossIdeal.Gen Cert.NormMath Cert.LossRefIdeal.Math
namespace Cert.LossIdeal.Math

/-! ## Payloads -/

section
variable (x t : Vec Ideal S512x1024 .f32) (g : Vec Ideal S1x1024 .f32) (r : Fin 512) (k : Fin 1024)
  {X : Fin 512 → Fin 1024 → EReal} {T : Fin 512 → Fin 1024 → EReal} {G : Fin 1024 → EReal}
  (hx : ∀ r k, x (ix2 r k) = X r k) (ht : ∀ r k, t (ix2 r k) = T r k) (hg : ∀ k, g (ix2 0 k) = G k)

include hx in
theorem pay3 : k0_pay3 x (ix2 r 0) = rstd (X r) := by
  pointwise [k0_pay3]
  simp only [hx]
  rfl
include hx in
theorem pay4 : k0_pay4 x (ix2 r k) = X r k * rstd (X r) := by
  have e := pay3 x r hx
  unfold k0_pay4
  generalize k0_pay3 x = p at *
  pointwise
  rw [e, hx]
include hx ht hg in
theorem pay5 : k0_pay5 x g t (ix2 r k) = err (X r) G (T r) k := by
  have e := pay4 x r k hx
  unfold k0_pay5
  generalize k0_pay4 x = p at *
  pointwise [k0_pay2]
  rw [e, ht, hg]
  rfl
include hx ht hg in
theorem pay7 : k0_pay7 x g t (ix2 r k) = dy (X r) G (T r) k := by
  have e := pay5 x t g r k hx ht hg
  unfold k0_pay7
  generalize k0_pay5 x g t = p at *
  pointwise
  rw [e]
  rfl
include hx ht hg in
theorem pay8 : k0_pay8 x g t (ix2 0 k) = ∑ r, dy (X r) G (T r) k * (X r k * rstd (X r)) := by
  have e := fun r => pay7 x t g r k hx ht hg
  have f := fun r => pay4 x r k hx
  unfold k0_pay8
  generalize k0_pay7 x g t = p at *
  generalize k0_pay4 x = q at *
  pointwise
  simp only [e, f]
include hx ht hg in
theorem pay11 (v : Vec Ideal S1x1024 .f32) : k0_pay11 x g t v (ix2 0 k) = v (ix2 0 k) + ∑ r, dy (X r) G (T r) k * (X r k * rstd (X r)) := by
  have e := pay8 x t g k hx ht hg
  unfold k0_pay11
  generalize k0_pay8 x g t = p at *
  pointwise
  rw [e]
include hx ht hg in
theorem pay6 : k0_pay6 x g t (ix2 0 0) = Ideal.ofBits .f32 0x3F000000#32 * ∑ r, mse (X r) G (T r) := by
  have e := fun r k => pay5 x t g r k hx ht hg
  unfold k0_pay6
  generalize k0_pay5 x g t = p at *
  pointwise
  simp only [e]
  rfl
include hx ht hg in
theorem pay9 (i : Fin 8) (j : Fin 128) : k0_pay9 x g t (ix2 i j) = Ideal.ofBits .f32 0x3F000000#32 * ∑ r, mse (X r) G (T r) := by
  have e := pay6 x t g hx ht hg
  unfold k0_pay9
  generalize k0_pay6 x g t = p at *
  pointwise
  exact e
include hx ht hg in
theorem pay10 (v : Vec Ideal S8x128 .f32) (i : Fin 8) (j : Fin 128) :
    k0_pay10 x g t v (ix2 i j) = v (ix2 i j) + Ideal.ofBits .f32 0x3F000000#32 * ∑ r, mse (X r) G (T r) := by
  have e := pay6 x t g hx ht hg
  unfold k0_pay10
  generalize k0_pay6 x g t = p at *
  pointwise
  rw [e]
include hx ht hg in
theorem pay1 : k0_pay1 (k0_pay3 x) (k0_pay4 x) (k0_pay7 x g t) (k0_pay12 g) (ix2 r k) = drow (X r) (fun k => dy (X r) G (T r) k * G k) k := by
  have e := fun k => pay7 x t g r k hx ht hg
  have f := fun k => pay4 x r k hx
  have d := pay3 x r hx
  generalize k0_pay7 x g t = p at *
  generalize k0_pay4 x = q at *
  generalize k0_pay3 x = s at *
  pointwise [k0_pay1, k0_pay12, k0_pay2]
  simp only [e, f, d, hg]
  rfl
end

/-! ## The arrays and their blocks -/

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

/-- The array's row that is row `i` of block `t`. -/
def row (t : Fin 16) (i : Fin 512) : Fin 8192 := ⟨t.val * 512 + i.val, by omega⟩
/-- A grid point's block number. -/
def pt (t : Fin cfg0.N) : Fin 16 := ⟨t.val, t.isLt.trans_eq N_0⟩
/-- A sum over the rows is the sum over the blocks' rows. -/
theorem rows (f : Fin 8192 → EReal) : ∑ p : Fin 16, ∑ i, f (row p i) = ∑ r, f r := by
  rw [← Fintype.sum_prod_type']
  refine Fintype.sum_equiv (finProdFinEquiv (m := 16) (n := 512)) _ _ fun x => congrArg f (Fin.ext ?_)
  show x.1.val * 512 + x.2.val = x.2.val + 512 * x.1.val
  omega

variable (m : (ℓ : Loc nD τ sig) → Buf (Elt Ideal) ℓ) (c : Dev nD)
variable {h t : Fin 8192 → Fin 1024 → EReal} {g : Fin 1024 → EReal}
variable (hh : ∀ r k, m ((c : Thread nD τ).loc main_arg0) (ix2 r k) = h r k) (hg : ∀ k, m ((c : Thread nD τ).loc main_arg1) (ix1 k) = g k)
  (ht : ∀ r k, m ((c : Thread nD τ).loc main_arg2) (ix2 r k) = t r k)

include hg in
theorem v0 (k : Fin 1024) : V m c main_v0 (ix2 0 k) = g k := by
  refine Eq.trans ?_ (hg _)
  simp only [V, hostOps0]
  after_results_simp
  generalize m _ = x
  pointwise []
include hh in
theorem kept0 (r : Fin 8192) (k : Fin 1024) : V m c main_arg0 (ix2 r k) = h r k := by
  refine Eq.trans ?_ (hh _ _)
  simp only [V, hostOps0]
  after_results_simp
include ht in
theorem kept2 (r : Fin 8192) (k : Fin 1024) : V m c main_arg2 (ix2 r k) = t r k := by
  refine Eq.trans ?_ (ht _ _)
  simp only [V, hostOps0]
  after_results_simp

include hh in
theorem blk0 (p : Fin cfg0.N) (i : Fin 512) (k : Fin 1024) : iblk m c 0 p (ix2 i k) = h (row (pt p) i) k := by
  refine Eq.trans ?_ (kept0 m c hh _ _)
  blk_point [iblk, V, (idx p).1]
  all_goals rfl
include hg in
theorem blk1 (p : Fin cfg0.N) (k : Fin 1024) : iblk m c 1 p (ix2 0 k) = g k := by
  refine Eq.trans ?_ (v0 m c hg _)
  blk_point [iblk, V, (idx p).2.1]
  all_goals rfl
include ht in
theorem blk2 (p : Fin cfg0.N) (i : Fin 512) (k : Fin 1024) : iblk m c 2 p (ix2 i k) = t (row (pt p) i) k := by
  refine Eq.trans ?_ (kept2 m c ht _ _)
  blk_point [iblk, V, (idx p).2.2.1]
  all_goals rfl

/-- A block's part of the loss. -/
def lossPart (h t : Fin 8192 → Fin 1024 → EReal) (g : Fin 1024 → EReal) (p : Fin 16) : EReal :=
  Ideal.ofBits .f32 0x3F000000#32 * ∑ i, mse (h (row p i)) g (t (row p i))
/-- A block's part of the scale's gradient. -/
def part (h t : Fin 8192 → Fin 1024 → EReal) (g : Fin 1024 → EReal) (p : Fin 16) (k : Fin 1024) : EReal :=
  ∑ i, dy (h (row p i)) g (t (row p i)) k * (h (row p i) k * rstd (h (row p i)))

include hh hg ht in
theorem point4 (p : Fin cfg0.N) (i : Fin 512) (k : Fin 1024) : (outsAt0 m c p.val p.isLt).2.1 (ix2 i k)
    = drow (h (row (pt p) i)) (fun k => dy (h (row (pt p) i)) g (t (row (pt p) i)) k * g k) k := by
  have hN := p.isLt.trans_eq N_0
  by_cases h0 : p.val % 16 = 0
  · rw [outsAt0_A m c p h0 (by omega)]
    frame_out
    exact pay1 (X := fun i => h (row (pt p) i)) (T := fun i => t (row (pt p) i)) (G := g) _ _ _ i k (blk0 m c hh p) (blk2 m c ht p) (blk1 m c hg p)
  · rw [outsAt0_B m c p h0 (by omega)]
    frame_out
    exact pay1 (X := fun i => h (row (pt p) i)) (T := fun i => t (row (pt p) i)) (G := g) _ _ _ i k (blk0 m c hh p) (blk2 m c ht p) (blk1 m c hg p)
include hh hg ht in
theorem point3A (p : Fin cfg0.N) (h0 : p.val % 16 = 0) (i : Fin 8) (j : Fin 128) : (outsAt0 m c p.val p.isLt).1 (ix2 i j) = lossPart h t g (pt p) := by
  have hN := p.isLt.trans_eq N_0
  rw [outsAt0_A m c p h0 (by omega)]
  frame_out
  exact pay9 _ _ _ (blk0 m c hh p) (blk2 m c ht p) (blk1 m c hg p) i j
include hh hg ht in
theorem point3B (p : Fin cfg0.N) (h0 : ¬ p.val % 16 = 0) (i : Fin 8) (j : Fin 128) : (outsAt0 m c p.val p.isLt).1 (ix2 i j)
    = (outsAt0 m c (p.val - 1) (by omega)).1 (ix2 i j) + lossPart h t g (pt p) := by
  rw [outsAt0_B m c p h0 (by omega)]
  frame_out
  exact pay10 _ _ _ (blk0 m c hh p) (blk2 m c ht p) (blk1 m c hg p) _ i j
include hh hg ht in
theorem point5A (p : Fin cfg0.N) (h0 : p.val % 16 = 0) (k : Fin 1024) : (outsAt0 m c p.val p.isLt).2.2 (ix2 0 k) = part h t g (pt p) k := by
  have hN := p.isLt.trans_eq N_0
  rw [outsAt0_A m c p h0 (by omega)]
  frame_out
  exact pay8 _ _ _ k (blk0 m c hh p) (blk2 m c ht p) (blk1 m c hg p)
include hh hg ht in
theorem point5B (p : Fin cfg0.N) (h0 : ¬ p.val % 16 = 0) (k : Fin 1024) : (outsAt0 m c p.val p.isLt).2.2 (ix2 0 k)
    = (outsAt0 m c (p.val - 1) (by omega)).2.2 (ix2 0 k) + part h t g (pt p) k := by
  rw [outsAt0_B m c p h0 (by omega)]
  frame_out
  exact pay11 _ _ _ k (blk0 m c hh p) (blk2 m c ht p) (blk1 m c hg p) _

/-! ## The result arrays -/

include hh hg ht in
theorem final4 : (dats m 0 c).arrAt 4 cfg0.N = fun j : S8192x1024.Idx => drow (h (j 0)) (fun k => dy (h (j 0)) g (t (j 0)) k * g k) (j 1) := by
  refine (dats m 0 c).arrAt_eq_of_covers 4 _ (by decide +kernel) fun p _ y => ?_
  blk_simp
  rw [after0_4]
  obtain ⟨i, j, rfl⟩ : ∃ i j, y = ix2 i j := ⟨y 0, y 1, eq_ix2 y⟩
  have e : (win0_4.blk p).view.emb (ix2 i j) = ix2 (row (pt p) i) j := by
    blk_ext [(idx p).2.2.2.2.1]
    all_goals rfl
  rw [e]
  exact point4 m c hh hg ht p i j

theorem pt_mod (p : Fin cfg0.N) : pt p = ⟨p.val % 16, Nat.mod_lt _ (by decide)⟩ := Fin.ext (Nat.mod_eq_of_lt (pt p).isLt).symm
theorem mod_self (p : Fin 16) : (⟨p.val % 16, Nat.mod_lt _ (by decide)⟩ : Fin 16) = p := Fin.ext (Nat.mod_eq_of_lt p.isLt)

include hh hg ht in
theorem final3 : (dats m 0 c).arrAt 3 cfg0.N = fun _ : S8x128.Idx => Ideal.ofBits .f32 0x3F000000#32 * ∑ r, mse (h r) g (t r) := by
  refine (dats m 0 c).arrAt_eq_of_after_last 3 t0_15 (by decide +kernel) _ fun j => ?_
  blk_simp
  rw [after0_3]
  obtain ⟨i, k, rfl⟩ : ∃ i k, j = ix2 i k := ⟨j 0, j 1, eq_ix2 j⟩
  rw [Pipeline.eq_sum_fin_of_reset_step_apply_last (fun n h => (outsAt0 m c n h).1) 16 (fun _ => 0)
    (fun p _ => lossPart h t g ⟨p % 16, Nat.mod_lt _ (by decide)⟩) (fun p h j => ?_) (fun p h j => ?_) (le_of_eq N_0) t0_15 rfl (ix2 i k)]
  · show 0 + ∑ p : Fin 16, lossPart h t g ⟨p.val % 16, _⟩ = Ideal.ofBits .f32 0x3F000000#32 * ∑ r, mse (h r) g (t r)
    rw [zero_add, Finset.sum_congr rfl fun p _ => congrArg (lossPart h t g) (mod_self p)]
    unfold lossPart
    rw [ofBits_half, ← rows fun r => mse (h r) g (t r), mul_comm, ← sum_mul_nonneg _ _ _ (by norm_num)]
    exact Finset.sum_congr rfl fun p _ => mul_comm _ _
  · obtain ⟨i, k, rfl⟩ : ∃ i k, j = ix2 i k := ⟨j 0, j 1, eq_ix2 j⟩
    rw [zero_add]
    exact (point3A m c hh hg ht p h i k).trans (congrArg _ (pt_mod p))
  · obtain ⟨i, k, rfl⟩ : ∃ i k, j = ix2 i k := ⟨j 0, j 1, eq_ix2 j⟩
    exact (point3B m c hh hg ht p h i k).trans (congrArg (fun p => _ + lossPart _ t g p) (pt_mod p))

include hh hg ht in
theorem final5 : (dats m 0 c).arrAt 5 cfg0.N = fun j : S1x1024.Idx => ∑ r, dy (h r) g (t r) (j 1) * (h r (j 1) * rstd (h r)) := by
  refine (dats m 0 c).arrAt_eq_of_after_last 5 t0_15 (by decide +kernel) _ fun j => ?_
  blk_simp
  rw [after0_5]
  obtain ⟨i, k, rfl⟩ : ∃ i k, j = ix2 i k := ⟨j 0, j 1, eq_ix2 j⟩
  obtain rfl : i = 0 := Subsingleton.elim _ _
  rw [Pipeline.eq_sum_fin_of_reset_step_apply_last (fun n h => (outsAt0 m c n h).2.2) 16 (fun _ => 0)
    (fun p j => part h t g ⟨p % 16, Nat.mod_lt _ (by decide)⟩ (j 1)) (fun p h j => ?_) (fun p h j => ?_) (le_of_eq N_0) t0_15 rfl (ix2 0 k)]
  · show 0 + ∑ p : Fin 16, part h t g ⟨p.val % 16, _⟩ k = ∑ r, dy (h r) g (t r) k * (h r k * rstd (h r))
    rw [zero_add, Finset.sum_congr rfl fun p _ => congrArg (part h t g · k) (mod_self p)]
    exact rows fun r => dy (h r) g (t r) k * (h r k * rstd (h r))
  · obtain ⟨i, k, rfl⟩ : ∃ i k, j = ix2 i k := ⟨j 0, j 1, eq_ix2 j⟩
    obtain rfl : i = 0 := Subsingleton.elim _ _
    rw [zero_add]
    exact (point5A m c hh hg ht p h k).trans (congrArg (fun p => part _ t g p k) (pt_mod p))
  · obtain ⟨i, k, rfl⟩ : ∃ i k, j = ix2 i k := ⟨j 0, j 1, eq_ix2 j⟩
    obtain rfl : i = 0 := Subsingleton.elim _ _
    exact (point5B m c hh hg ht p h k).trans (congrArg (fun p => _ + part _ t g p k) (pt_mod p))

end Cert.LossIdeal.Math
end
end
-- ==== Proof.LossClaim.lean ====
/- The claims about the loss and its gradient. -/
module

public import proofs.«01_k».proof.Defs
public import proofs.«01_k».proof.Proof.LossValue
public import proofs.«01_k».proof.Proof.Gen.Loss.Frame
public import proofs.«01_k».proof.Proof.Gen.LossRefIdeal.Run
public import Idealize.ShloMosaic.Lib.Quiescent

set_option maxRecDepth 16384

@[expose] public section
noncomputable section

open Idealize.ShloMosaic Idealize.ShloMosaic.TcCoe Idealize.SL.Sem

namespace Cert.LossClaim

/-- The reference runs and leaves its arguments as they were. -/
theorem refFrame : Cert.quiescent_LossRefIdeal (hLossRefIdeal := Cert.LossRefIdeal.Gen.facts) :=
  fun m ρ _ => (θ_run Cert.LossRefIdeal.defs _ _).mono
    (fun r h => ⟨fun c => (h c).2.2.2, Idealize.ShloMosaic.sem_eq_zero_of_no_sems (by decide) r.2⟩)
    (Cert.LossRefIdeal.Value.run (F := Ideal) m ρ)

/-- Kernel and reference end with the same loss and the same two gradients. -/
theorem algebraic : Cert.algebraic_LossIdeal_LossRefIdeal (hLossIdeal := Cert.LossIdeal.Gen.facts)
    (hLossRefIdeal := Cert.LossRefIdeal.Gen.facts) := by
  pair_intro
  · run_from Cert.LossIdeal.Gen.run_main m g
    all_goals
      simp only [Cert.LossIdeal.Gen.hostOps0]
      after_results_simp <;> rfl
  · run_from Cert.LossRefIdeal.Value.run m' g'
    all_goals
      obtain ⟨h, hh⟩ : ∃ h : Fin 8192 → Fin 1024 → EReal, ∀ r k, m ((c : Thread Cert.LossIdeal.nD Cert.LossIdeal.τ).loc Cert.LossIdeal.main_arg0) (ix2 r k) = h r k :=
        ⟨_, fun r k => rfl⟩
      obtain ⟨s, hs⟩ : ∃ s : Fin 1024 → EReal, ∀ k, m ((c : Thread Cert.LossIdeal.nD Cert.LossIdeal.τ).loc Cert.LossIdeal.main_arg1) (ix1 k) = s k :=
        ⟨_, fun k => rfl⟩
      obtain ⟨d, hd⟩ : ∃ d : Fin 8192 → Fin 1024 → EReal, ∀ r k, m ((c : Thread Cert.LossIdeal.nD Cert.LossIdeal.τ).loc Cert.LossIdeal.main_arg2) (ix2 r k) = d r k :=
        ⟨_, fun r k => rfl⟩
    · rw [Cert.LossIdeal.Math.final3 m c hh hs hd, Cert.LossRefIdeal.Read.val_main_v51_eq]
      funext j
      obtain ⟨r, k, rfl⟩ : ∃ r k, j = ix2 r k := ⟨j 0, j 1, eq_ix2 j⟩
      try rw [(hagree c).1, (hagree c).2.1, (hagree c).2.2]
      exact Cert.LossRefIdeal.Math.v51 hh hs hd r k
    · rw [Cert.LossIdeal.Math.final4 m c hh hs hd, Cert.LossRefIdeal.Read.val_main_v50_eq]
      funext j
      obtain ⟨r, k, rfl⟩ : ∃ r k, j = ix2 r k := ⟨j 0, j 1, eq_ix2 j⟩
      try rw [(hagree c).1, (hagree c).2.1, (hagree c).2.2]
      exact Cert.LossRefIdeal.Math.v50 r k hh hs hd
    · rw [Cert.LossIdeal.Math.final5 m c hh hs hd, Cert.LossRefIdeal.Read.val_main_v52_eq]
      funext j
      obtain ⟨i, k, rfl⟩ : ∃ i k, j = ix2 i k := ⟨j 0, j 1, eq_ix2 j⟩
      obtain rfl : i = 0 := Subsingleton.elim _ _
      try rw [(hagree c).1, (hagree c).2.1, (hagree c).2.2]
      exact Cert.LossRefIdeal.Math.v52 k hh hs hd

end Cert.LossClaim

end
end
-- ==== Proof.FfnMath.lean ====
/- The gate of the feed-forward layer: its values, its gradient, and the rewriting of the chain rule's form for real numbers. -/
module

public import proofs.«01_k».proof.Proof.NormMath

@[expose] public section
noncomputable section

open Idealize.ShloMosaic Cert.RealLift Cert.NormMath

namespace Cert.FfnMath

/-- The word of one half. -/
theorem ofBits_half : Ideal.ofBits .f32 0x3F000000#32 = ((1 / 2 : ℝ) : EReal) := by
  simp [Ideal.ofBits, Ideal.ieee, -EReal.coe_mul]; try norm_num

/-- The logistic function. -/
def logi (x : EReal) : EReal := Ideal.div 1 (1 + Ideal.exp (-x))
/-- The gate's gradient from the cotangent `d`, the other factor `u` and the gate `t`. -/
def dgate (d u t : EReal) : EReal := d * u * logi t * (1 + t * (1 - logi t))
/-- The other factor's gradient. -/
def dup (d t : EReal) : EReal := d * t * logi t

/-- The logistic function of a real number is a real number. -/
theorem logi_coe (t : ℝ) : logi (t : EReal) = ((1 / (1 + Real.exp (-t)) : ℝ) : EReal) := by
  unfold logi
  rw [← EReal.coe_neg, exp_coe, ← EReal.coe_one, ← EReal.coe_add, div_coe _ _ (by positivity)]

/-- The chain rule's sum is the gate's gradient. -/
theorem dgate_eq (d u t : ℝ) : (d : EReal) * u * logi t + t * ((d : EReal) * u) * (logi t * (1 - logi t)) = dgate d u t := by
  unfold dgate
  rw [logi_coe]
  generalize (1 / (1 + Real.exp (-t)) : ℝ) = s
  rw [← EReal.coe_one, ← EReal.coe_sub, ← EReal.coe_mul, ← EReal.coe_mul, ← EReal.coe_mul, ← EReal.coe_mul, ← EReal.coe_mul, ← EReal.coe_mul, ← EReal.coe_add,
    ← EReal.coe_add, ← EReal.coe_mul]
  congr 1
  ring

theorem dup_eq (d t : EReal) : t * logi t * d = dup d t := by
  unfold dup
  ac_rfl

/-- An entry of a normalised row is a real number, whatever the row. -/
theorem normed_real {n : ℕ} (x : Fin n → EReal) (j : Fin n) : ∃ r : ℝ, x j * rstd x = (r : EReal) := by
  by_cases hx : ∀ k, ∃ r : ℝ, x k = (r : EReal)
  · choose y hy using hx
    obtain ⟨e, he, hb⟩ := ofBits_eps
    have hu : under x = (((∑ k, y k * y k) / 1024 + e : ℝ) : EReal) := by
      unfold under
      rw [hb, ofBits_1024, Finset.sum_congr rfl fun k _ => show x k * x k = ((y k * y k : ℝ) : EReal) by rw [hy, EReal.coe_mul], coe_sum, div_coe _ _ (by norm_num), EReal.coe_add]
    have hv : 0 < (∑ k, y k * y k) / 1024 + e :=
      add_pos_of_nonneg_of_pos (div_nonneg (Finset.sum_nonneg fun k _ => mul_self_nonneg (y k)) (by norm_num)) he
    exact ⟨y j * (Real.sqrt ((∑ k, y k * y k) / 1024 + e))⁻¹, by rw [hy j, show rstd x = _ from congrArg Ideal.rsqrt hu, rsqrt_coe _ hv, EReal.coe_mul]⟩
  · obtain ⟨k, hk⟩ := not_forall.mp hx
    have hk' : x k = ⊤ ∨ x k = ⊥ := by
      induction h : x k with
      | bot => exact .inr rfl
      | coe r => exact absurd ⟨r, h⟩ hk
      | top => exact .inl rfl
    have hu : under x = ⊤ := by
      obtain ⟨e, he, hb⟩ := ofBits_eps
      unfold under
      rw [sum_sq_top x k hk', hb, ofBits_1024, Ideal.div_coe (by norm_num), EReal.top_mul_coe_of_pos (by norm_num), EReal.top_add_coe]
    exact ⟨0, by rw [show rstd x = 0 from congrArg Ideal.rsqrt hu, mul_zero, EReal.coe_zero]⟩

variable (dh h : Fin 8192 → Fin 1024 → EReal) (g : Fin 1024 → EReal) (w : Fin 1024 → Fin 5632 → EReal) (wd : Fin 2816 → Fin 1024 → EReal)

/-- The normed array. -/
def normed (r : Fin 8192) (k : Fin 1024) : EReal := h r k * rstd (h r) * g k
/-- Its product with the weights, gate and other factor side by side. -/
def gu (r : Fin 8192) (k : Fin 5632) : EReal := ∑ j, normed h g r j * w j k
/-- A column of the gate's half. -/
def lo (k : Fin 2816) : Fin 5632 := ⟨k.val, by omega⟩
/-- A column of the other half. -/
def hi (k : Fin 2816) : Fin 5632 := ⟨2816 + k.val, by omega⟩
/-- The cotangent of the gated array. -/
def da (r : Fin 8192) (k : Fin 2816) : EReal := ∑ j, Ideal.ofBits .f32 0x3F000000#32 * dh r j * wd k j
/-- The gate's gradient. -/
def gateGrad (r : Fin 8192) (k : Fin 2816) : EReal := dgate (da dh wd r k) (gu h g w r (hi k)) (gu h g w r (lo k))
/-- The other factor's gradient. -/
def upGrad (r : Fin 8192) (k : Fin 2816) : EReal := dup (da dh wd r k) (gu h g w r (lo k))
/-- The cotangent of the normed array. -/
def du (r : Fin 8192) (k : Fin 1024) : EReal := ∑ j, gateGrad dh h g w wd r j * w k (lo j) + ∑ j, upGrad dh h g w wd r j * w k (hi j)
/-- The residual's gradient. -/
def hGrad (r : Fin 8192) (k : Fin 1024) : EReal := dh r k + drow (h r) (fun k => du dh h g w wd r k * g k) k
/-- A row's part of the scale's gradient. -/
def term (k : Fin 1024) (r : Fin 8192) : EReal := du dh h g w wd r k * (h r k * rstd (h r))

theorem gu_real (hg : ∀ k, ∃ r : ℝ, g k = r) (hw : ∀ j k, ∃ r : ℝ, w j k = r) (r : Fin 8192) (k : Fin 5632) : ∃ y : ℝ, gu h g w r k = (y : EReal) := by
  choose a ha using fun j => normed_real (h r) j
  choose b hb using hg
  choose e he using hw
  exact ⟨∑ j, a j * b j * e j k, by
    rw [← coe_sum]
    exact Finset.sum_congr rfl fun j _ => by unfold normed; rw [ha, hb, he, EReal.coe_mul, EReal.coe_mul]⟩
theorem da_real (hd : ∀ r k, ∃ y : ℝ, dh r k = y) (hw : ∀ j k, ∃ y : ℝ, wd j k = y) (r : Fin 8192) (k : Fin 2816) : ∃ y : ℝ, da dh wd r k = (y : EReal) := by
  choose a ha using hd
  choose e he using hw
  exact ⟨∑ j, 1 / 2 * a r j * e k j, by
    rw [← coe_sum]
    exact Finset.sum_congr rfl fun j _ => by rw [ofBits_half, ha, he, EReal.coe_mul, EReal.coe_mul]⟩

theorem sum_halves (f : Fin 5632 → EReal) : ∑ j, f j = ∑ j, f (lo j) + ∑ j, f (hi j) :=
  Fin.sum_univ_add (a := 2816) (b := 2816) f

/-- The columns in three pieces of 768 and one of 512. -/
theorem sum_pieces (f : Fin 2816 → EReal) : ((∑ j : Fin 768, f ⟨0 + j.val, by omega⟩ + ∑ j : Fin 768, f ⟨768 + j.val, by omega⟩)
    + ∑ j : Fin 768, f ⟨1536 + j.val, by omega⟩) + ∑ j : Fin 512, f ⟨2304 + j.val, by omega⟩ = ∑ j, f j := by
  rw [show ∑ j, f j = _ from Fin.sum_univ_add (a := 2304) (b := 512) f, Fin.sum_univ_add (a := 1536) (b := 768), Fin.sum_univ_add (a := 768) (b := 768)]
  congr 3

end Cert.FfnMath

end
end
-- ==== Proof.FfnRef.lean ====
/- The reference's gradient of the feed-forward gate with its norm, entry by entry. -/
module

public import proofs.«01_k».proof.Proof.Gen.FfnRefIdeal.Read
public import proofs.«01_k».proof.Proof.FfnMath
public import Idealize.ShloMosaic.Lib.Pointwise
public import Idealize.ShloMosaic.Lib.Claim

set_option maxRecDepth 16384
@[expose] public section
noncomputable section
open Idealize.ShloMosaic Idealize.ShloMosaic.TcCoe Idealize.SL.Sem
open Cert.FfnRefIdeal Cert.FfnRefIdeal.Gen Cert.FfnRefIdeal.Read Cert.NormMath Cert.FfnMath Cert.RealLift
namespace Cert.FfnRefIdeal.Math

variable {x0 x1 : (⟨S8192x1024, .f32⟩ : BufTy).Contents (Elt Ideal)} {x2 : (⟨S1024, .f32⟩ : BufTy).Contents (Elt Ideal)}
  {x3 : (⟨S1024x5632, .f32⟩ : BufTy).Contents (Elt Ideal)} {x4 : (⟨S2816x1024, .f32⟩ : BufTy).Contents (Elt Ideal)}
  {dh h : Fin 8192 → Fin 1024 → EReal} {g : Fin 1024 → EReal} {w : Fin 1024 → Fin 5632 → EReal} {wd : Fin 2816 → Fin 1024 → EReal}
  (hd : ∀ r k, x0 (ix2 r k) = dh r k) (hh : ∀ r k, x1 (ix2 r k) = h r k) (hg : ∀ k, x2 (ix1 k) = g k)
  (hw : ∀ r k, x3 (ix2 r k) = w r k) (hwd : ∀ r k, x4 (ix2 r k) = wd r k)
  (rd : ∀ r k, ∃ y : ℝ, dh r k = y) (rg : ∀ k, ∃ y : ℝ, g k = y) (rw' : ∀ r k, ∃ y : ℝ, w r k = y) (rwd : ∀ r k, ∃ y : ℝ, wd r k = y)

include hh in
theorem v6 (r : Fin 8192) : val_main_v6 (F := Ideal) x1 (ix2 r 0) = under (h r) := by
  unfold val_main_v6 val_main_v4 val_main_v2 val_main_v1 val_main_v0 val_main_v3 val_main_v5
  pointwise [val_main_cst, val_main_cst_0, val_main_cst_1]
  simp only [hh]
  rfl
include hh in
theorem v7 (r : Fin 8192) : val_main_v7 (F := Ideal) x1 (ix2 r 0) = rstd (h r) := by
  have a := v6 hh r
  unfold val_main_v7
  generalize val_main_v6 x1 = p at *
  pointwise
  rw [a]; rfl
include hh in
theorem v10 (r : Fin 8192) : val_main_v10 (F := Ideal) x1 (ix2 r 0) = Ideal.ofBits .f32 0xBF000000#32 * Ideal.div (rstd (h r)) (under (h r)) := by
  have a := v6 hh r
  have b := v7 hh r
  unfold val_main_v10 val_main_v9 val_main_v8
  generalize val_main_v6 x1 = p at *
  generalize val_main_v7 x1 = q at *
  pointwise [val_main_cst_2]
  rw [a, b]
include hh in
theorem v12 (r : Fin 8192) (k : Fin 1024) : val_main_v12 (F := Ideal) x1 (ix2 r k) = h r k * rstd (h r) := by
  have b := v7 hh r
  unfold val_main_v12 val_main_v11
  generalize val_main_v7 x1 = q at *
  pointwise
  rw [b, hh]
include hh hg in
theorem v15 (r : Fin 8192) (k : Fin 1024) : val_main_v15 (F := Ideal) x1 x2 (ix2 r k) = normed h g r k := by
  have b := v12 hh r k
  unfold val_main_v15 val_main_v14 val_main_v13
  generalize val_main_v12 x1 = q at *
  pointwise
  rw [b, hg]; rfl
include hh hg hw in
theorem v16 (r : Fin 8192) (k : Fin 5632) : val_main_v16 (F := Ideal) x1 x2 x3 (ix2 r k) = gu h g w r k := by
  have b := v15 hh hg r
  unfold val_main_v16
  generalize val_main_v15 x1 x2 = q at *
  pointwise
  simp only [b, hw]; rfl
include hh hg hw in
theorem v17 (r : Fin 8192) (k : Fin 2816) : val_main_v17 (F := Ideal) x1 x2 x3 (ix2 r k) = gu h g w r (lo k) := by
  have b := v16 hh hg hw r (lo k)
  unfold val_main_v17
  generalize val_main_v16 x1 x2 x3 = q at *
  pointwise
  exact b
include hh hg hw in
theorem v19 (r : Fin 8192) (k : Fin 2816) : val_main_v19 (F := Ideal) x1 x2 x3 (ix2 r k) = gu h g w r (hi k) := by
  have b := v16 hh hg hw r (hi k)
  unfold val_main_v19
  generalize val_main_v16 x1 x2 x3 = q at *
  pointwise
  exact b
include hh hg hw in
theorem s2 (r : Fin 8192) (k : Fin 2816) : val_main_v18_2 (F := Ideal) x1 x2 x3 (ix2 r k) = logi (gu h g w r (lo k)) := by
  have b := v17 hh hg hw r k
  unfold val_main_v18_2 val_main_call0_v4 val_main_call0_v3 val_main_call0_v2 val_main_call0_v1 val_main_call0_v0
  generalize val_main_v17 x1 x2 x3 = q at *
  pointwise [val_main_call0_cst, val_main_call0_cst_0]
  rw [b]; rfl
include hh hg hw in
theorem s1 (r : Fin 8192) (k : Fin 2816) : val_main_v18_1 (F := Ideal) x1 x2 x3 (ix2 r k) = logi (gu h g w r (lo k)) * (1 - logi (gu h g w r (lo k))) := by
  have b := s2 hh hg hw r k
  unfold val_main_v18_1 val_main_call0_v7 val_main_call0_v6
  generalize val_main_v18_2 x1 x2 x3 = q at *
  pointwise [val_main_call0_cst_1]
  rw [b]
include hh hg hw in
theorem s0 (r : Fin 8192) (k : Fin 2816) : val_main_v18_0 (F := Ideal) x1 x2 x3 (ix2 r k) = gu h g w r (lo k) * logi (gu h g w r (lo k)) := by
  have b := s2 hh hg hw r k
  have e := v17 hh hg hw r k
  unfold val_main_v18_0
  generalize val_main_v18_2 x1 x2 x3 = q at *
  generalize val_main_v17 x1 x2 x3 = p at *
  pointwise
  rw [b, e]
include hd hwd in
theorem v26 (r : Fin 8192) (k : Fin 2816) : val_main_v26 (F := Ideal) x0 x4 (ix2 r k) = da dh wd r k := by
  unfold val_main_v26 val_main_v25 val_main_v24
  pointwise [val_main_cst_4]
  simp only [hd, hwd]; rfl
include hd hh hg hw hwd in
theorem v27 (r : Fin 8192) (k : Fin 2816) : val_main_v27 (F := Ideal) x0 x1 x2 x3 x4 (ix2 r k) = upGrad dh h g w wd r k := by
  have b := s0 hh hg hw r k
  have e := v26 hd hwd r k
  unfold val_main_v27
  generalize val_main_v18_0 x1 x2 x3 = q at *
  generalize val_main_v26 x0 x4 = p at *
  pointwise
  rw [b, e]
  exact dup_eq _ _
include hd hh hg hw hwd rd rg rw' rwd in
theorem v30 (r : Fin 8192) (k : Fin 2816) : val_main_v30 (F := Ideal) x0 x1 x2 x3 x4 (ix2 r k) = gateGrad dh h g w wd r k := by
  have a := s1 hh hg hw r k
  have b := s2 hh hg hw r k
  have e := v26 hd hwd r k
  have f := v17 hh hg hw r k
  have u := v19 hh hg hw r k
  unfold val_main_v30 val_main_call1_v2 val_main_call1_v1 val_main_call1_v0 val_main_v28
  generalize val_main_v18_1 x1 x2 x3 = q1 at *
  generalize val_main_v18_2 x1 x2 x3 = q2 at *
  generalize val_main_v17 x1 x2 x3 = q3 at *
  generalize val_main_v19 x1 x2 x3 = q4 at *
  generalize val_main_v26 x0 x4 = p at *
  pointwise
  rw [a, b, e, f, u]
  unfold gateGrad
  obtain ⟨d, hd'⟩ := da_real dh wd rd rwd r k
  obtain ⟨t, ht⟩ := gu_real h g w rg rw' r (lo k)
  obtain ⟨v, hv⟩ := gu_real h g w rg rw' r (hi k)
  rw [hd', ht, hv]
  exact dgate_eq d v t
include hd hh hg hw hwd rd rg rw' rwd in
theorem v32lo (r : Fin 8192) (k : Fin 2816) : val_main_v32 (F := Ideal) x0 x1 x2 x3 x4 (ix2 r (lo k)) = gateGrad dh h g w wd r k := by
  have a := v30 hd hh hg hw hwd rd rg rw' rwd r
  unfold val_main_v32 val_main_v31 val_main_v29
  generalize val_main_v30 x0 x1 x2 x3 x4 = q1 at *
  generalize val_main_v27 x0 x1 x2 x3 x4 = q2 at *
  pointwise [val_main_cst_5, val_main_cst_6]
  rw [dif_neg (by show ¬ (2816 ≤ k.val ∧ _); omega)]
  exact ((congrArg (0 + ·) (dif_pos (show k.val < 2816 from k.isLt))).trans (zero_add _)).trans (a k)
include hd hh hg hw hwd in
theorem v32hi (r : Fin 8192) (k : Fin 2816) : val_main_v32 (F := Ideal) x0 x1 x2 x3 x4 (ix2 r (hi k)) = upGrad dh h g w wd r k := by
  have a := v27 hd hh hg hw hwd r
  unfold val_main_v32 val_main_v31 val_main_v29
  generalize val_main_v30 x0 x1 x2 x3 x4 = q1 at *
  generalize val_main_v27 x0 x1 x2 x3 x4 = q2 at *
  pointwise [val_main_cst_5, val_main_cst_6]
  rw [dif_pos (by show 2816 ≤ 2816 + k.val ∧ 2816 + k.val - 2816 < 2816; omega)]
  refine ((congrArg (_ + ·) (dif_neg (show ¬ (2816 + k.val < 2816) by omega))).trans (add_zero _)).trans ?_
  exact (congrArg (fun j => q2 (ix2 r j)) (Fin.ext (Nat.add_sub_cancel_left ..))).trans (a k)
include hd hh hg hw hwd rd rg rw' rwd in
theorem v33 (r : Fin 8192) (k : Fin 1024) : val_main_v33 (F := Ideal) x0 x1 x2 x3 x4 (ix2 r k) = du dh h g w wd r k := by
  have a := v32lo hd hh hg hw hwd rd rg rw' rwd r
  have b := v32hi hd hh hg hw hwd r
  unfold val_main_v33
  generalize val_main_v32 x0 x1 x2 x3 x4 = q at *
  pointwise
  rw [sum_halves]
  simp only [a, b, hw]
  rfl
include hd hh hg hw hwd rd rg rw' rwd in
theorem v38 (r : Fin 8192) (k : Fin 1024) : val_main_v38 (F := Ideal) x0 x1 x2 x3 x4 (ix2 r k) = du dh h g w wd r k * g k := by
  have a := v33 hd hh hg hw hwd rd rg rw' rwd r k
  unfold val_main_v38 val_main_v37 val_main_v13
  generalize val_main_v33 x0 x1 x2 x3 x4 = q at *
  pointwise
  rw [a, hg]
include hd hh hg hw hwd rd rg rw' rwd in
theorem v50 (r : Fin 8192) (k : Fin 1024) : val_main_v50 (F := Ideal) x0 x1 x2 x3 x4 (ix2 r k)
    = Ideal.div ((∑ k, h r k * (du dh h g w wd r k * g k))
      * (Ideal.ofBits .f32 0xBF000000#32 * Ideal.div (rstd (h r)) (under (h r)))) (Ideal.ofBits .f32 0x44800000#32) := by
  have a := v38 hd hh hg hw hwd rd rg rw' rwd r
  have b := v10 hh r
  unfold val_main_v50 val_main_v49 val_main_v48 val_main_v47 val_main_v46 val_main_v42 val_main_v41 val_main_v40
  generalize val_main_v38 x0 x1 x2 x3 x4 = q at *
  generalize val_main_v10 x1 = p at *
  pointwise [val_main_cst_9, val_main_cst_10, val_main_cst_11]
  simp only [a, b, hh, Fin.sum_univ_one]
include hd hh hg hw hwd rd rg rw' rwd in
/-- The residual's gradient. -/
theorem v54 (r : Fin 8192) (k : Fin 1024) : val_main_v54 (F := Ideal) x0 x1 x2 x3 x4 (ix2 r k) = hGrad dh h g w wd r k := by
  have a := v38 hd hh hg hw hwd rd rg rw' rwd r k
  have b := v7 hh r
  have e := v50 hd hh hg hw hwd rd rg rw' rwd r k
  unfold val_main_v54 val_main_v53 val_main_v52 val_main_v51 val_main_v45 val_main_v44 val_main_v43
  generalize val_main_v38 x0 x1 x2 x3 x4 = q at *
  generalize val_main_v50 x0 x1 x2 x3 x4 = p at *
  generalize val_main_v7 x1 = s at *
  pointwise
  rw [a, b, hh, hd]
  exact drow_eq (h r) (fun k => du dh h g w wd r k * g k) _ k _ e
include hd hh hg hw hwd rd rg rw' rwd in
/-- The scale's gradient. -/
theorem v55 (k : Fin 1024) : val_main_v55 (F := Ideal) x0 x1 x2 x3 x4 (ix2 0 k) = ∑ r, term dh h g w wd k r := by
  have a := fun r => v33 hd hh hg hw hwd rd rg rw' rwd r k
  have b := fun r => v12 hh r k
  unfold val_main_v55 val_main_v39 val_main_v36 val_main_v35 val_main_v34
  generalize val_main_v33 x0 x1 x2 x3 x4 = q at *
  generalize val_main_v12 x1 = p at *
  pointwise [val_main_cst_7, val_main_cst_8]
  simp only [a, b, Fin.sum_univ_one]
  exact Finset.sum_congr rfl fun r _ => mul_comm _ _
include hd hh hg hw hwd rd rg rw' rwd in
/-- The gate's gradient. -/
theorem v57 (r : Fin 8192) (k : Fin 2816) : val_main_v57 (F := Ideal) x0 x1 x2 x3 x4 (ix2 r k) = gateGrad dh h g w wd r k := by
  have a := v32lo hd hh hg hw hwd rd rg rw' rwd r k
  unfold val_main_v57 val_main_v56
  generalize val_main_v32 x0 x1 x2 x3 x4 = q at *
  pointwise
  exact a
include hd hh hg hw hwd in
/-- The other factor's gradient. -/
theorem v59 (r : Fin 8192) (k : Fin 2816) : val_main_v59 (F := Ideal) x0 x1 x2 x3 x4 (ix2 r k) = upGrad dh h g w wd r k := by
  have a := v32hi hd hh hg hw hwd r k
  unfold val_main_v59 val_main_v58
  generalize val_main_v32 x0 x1 x2 x3 x4 = q at *
  pointwise
  exact a
end Cert.FfnRefIdeal.Math
end
end
-- ==== Proof.FfnValue.lean ====
/- What the kernel leaves in its four result arrays, entry by entry. -/
module

public import proofs.«01_k».proof.Proof.Gen.FfnIdeal.Value
public import proofs.«01_k».proof.Proof.FfnRef
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.StableHlo.ReadAt
set_option maxRecDepth 16384
@[expose] public section
noncomputable section
open Idealize.ShloMosaic Idealize.ShloMosaic.TcCoe Idealize.SL.Sem
open Cert.FfnIdeal Cert.FfnIdeal.Gen Cert.NormMath Cert.FfnMath
namespace Cert.FfnIdeal.Math

/-! ## Payloads -/

section
variable (d x : Vec Ideal S256x1024 .f32) (a : FVec Ideal S256x1024 .bf16) (W : Vec Ideal S1x768x1024 .bf16) (T U : Vec Ideal S256x768 .bf16)
  (W' : Vec Ideal S1x512x1024 .bf16) (T' U' : Vec Ideal S256x512 .bf16) (A B : Vec Ideal S1x1024x768 .bf16) (A' B' : Vec Ideal S1x1024x512 .bf16)
  (r : Fin 256)

theorem pay3 (j : Fin 1024) : k0_pay3 d (ix2 r j) = Ideal.ofBits .f32 0x3F000000#32 * d (ix2 r j) := by
  pointwise [k0_pay3]
theorem pay13 (k : Fin 768) : k0_pay13 a W T U (ix2 r k) = dgate (∑ j : Fin 1024, a (ix2 r j) * W (ix3 0 k j)) (U (ix2 r k)) (T (ix2 r k)) := by
  pointwise [k0_pay13, k0_pay10, k0_pay11, k0_pay12]
  simp only [zero_sub]
  rfl
theorem pay14 (k : Fin 768) : k0_pay14 a W T (ix2 r k) = dup (∑ j : Fin 1024, a (ix2 r j) * W (ix3 0 k j)) (T (ix2 r k)) := by
  pointwise [k0_pay14, k0_pay10, k0_pay11, k0_pay12]
  simp only [zero_sub]
  rfl
theorem pay25 (k : Fin 512) : k0_pay25 a W' T' U' (ix2 r k) = dgate (∑ j : Fin 1024, a (ix2 r j) * W' (ix3 0 k j)) (U' (ix2 r k)) (T' (ix2 r k)) := by
  pointwise [k0_pay25, k0_pay22, k0_pay23, k0_pay24]
  simp only [zero_sub]
  rfl
theorem pay26 (k : Fin 512) : k0_pay26 (k0_pay22 a W') (k0_pay23 T') (k0_pay24 T') (ix2 r k) = dup (∑ j : Fin 1024, a (ix2 r j) * W' (ix3 0 k j)) (T' (ix2 r k)) := by
  pointwise [k0_pay26, k0_pay22, k0_pay23, k0_pay24]
  simp only [zero_sub]
  rfl
theorem pay7 : k0_pay7 d W T U = k0_pay13 (k0_pay3 d) W T U := rfl
theorem pay8 : k0_pay8 d W T = k0_pay14 (k0_pay3 d) W T := rfl
theorem pay19 : k0_pay19 a W T U = k0_pay13 a W T U := rfl
theorem pay20 : k0_pay20 a W T = k0_pay14 a W T := rfl
theorem pay9 (k : Fin 1024) : k0_pay9 T U A B (ix2 r k) = ∑ j : Fin 768, T (ix2 r j) * A (ix3 0 k j) + ∑ j : Fin 768, U (ix2 r j) * B (ix3 0 k j) := by
  pointwise [k0_pay9]
theorem pay15 (k : Fin 1024) : k0_pay15 d T U A B (ix2 r k) = d (ix2 r k) + (∑ j : Fin 768, T (ix2 r j) * A (ix3 0 k j) + ∑ j : Fin 768, U (ix2 r j) * B (ix3 0 k j)) := by
  pointwise [k0_pay15]
theorem pay21 : k0_pay21 d T U A B = k0_pay15 d T U A B := rfl
theorem pay27 (k : Fin 1024) (p q s : FVec Ideal S256x512 .f32) : k0_pay27 d p q s T' A' B' (ix2 r k)
    = d (ix2 r k) + (∑ j : Fin 512, T' (ix2 r j) * A' (ix3 0 k j) + ∑ j : Fin 512, k0_pay26 p q s (ix2 r j) * B' (ix3 0 k j)) := by
  unfold k0_pay27
  generalize k0_pay26 p q s = y
  pointwise
theorem pay28 : k0_pay28 x (ix2 r 0) = rstd (fun k : Fin 1024 => x (ix2 r k)) := by
  pointwise [k0_pay28]
  rfl
theorem pay29 (k : Fin 1024) : k0_pay29 x (ix2 r k) = x (ix2 r k) * rstd (fun k : Fin 1024 => x (ix2 r k)) := by
  have e := pay28 x r
  unfold k0_pay29
  generalize k0_pay28 x = p at *
  pointwise
  rw [e]
section
variable (p q s : FVec Ideal S256x512 .f32) (g : Vec Ideal S1x1024 .f32) (y : FVec Ideal S256x1024 .f32) (v : Vec Ideal S1x1024 .f32) (k : Fin 1024)
theorem pay30 (hy : k0_pay27 d p q s T' A' B' = y) : k0_pay30 d p q s T' A' B' x (ix2 0 k)
    = ∑ r : Fin 256, y (ix2 r k) * (x (ix2 r k) * rstd (fun k : Fin 1024 => x (ix2 r k))) := by
  have e := fun r => pay29 x r k
  unfold k0_pay30
  rw [hy]
  generalize k0_pay29 x = z at *
  pointwise
  simp only [e]
theorem pay31 (hy : k0_pay27 d p q s T' A' B' = y) : k0_pay31 d p q s T' A' B' g (ix2 r k) = y (ix2 r k) * g (ix2 0 k) := by
  unfold k0_pay31
  rw [hy]
  pointwise
theorem pay32 (hy : k0_pay27 d p q s T' A' B' = y) : k0_pay32 d p q s T' A' B' x g (ix2 r 0)
    = along (fun k : Fin 1024 => x (ix2 r k)) (fun k => y (ix2 r k) * g (ix2 0 k)) := by
  have e := pay29 x r
  have f := fun k => pay31 d T' A' B' r p q s g y k hy
  unfold k0_pay32
  generalize k0_pay31 d p q s T' A' B' g = z at *
  generalize k0_pay29 x = z' at *
  pointwise
  simp only [e, f]
  rfl
theorem pay1 (c : Vec Ideal S256x1024 .f32) (hy : k0_pay27 d p q s T' A' B' = y) :
    k0_pay1 c (k0_pay28 x) (k0_pay29 x) (k0_pay31 d p q s T' A' B' g) (k0_pay32 d p q s T' A' B' x g) (ix2 r k)
    = c (ix2 r k) + drow (fun k : Fin 1024 => x (ix2 r k)) (fun k => y (ix2 r k) * g (ix2 0 k)) k := by
  have e := pay29 x r k
  have e' := pay28 x r
  have f := pay31 d T' A' B' r p q s g y k hy
  have f' := pay32 d x T' A' B' r p q s g y hy
  generalize k0_pay31 d p q s T' A' B' g = z at *
  generalize k0_pay32 d p q s T' A' B' x g = z2 at *
  generalize k0_pay29 x = z3 at *
  generalize k0_pay28 x = z4 at *
  pointwise [k0_pay1]
  rw [e, e', f, f']
  rfl
theorem out7 (c : Vec Ideal S256x1024 .f32) {C : EReal} {X D G : Fin 1024 → EReal} (hy : ∀ k, k0_pay27 d p q s T' A' B' (ix2 r k) = D k)
    (hx : ∀ k, x (ix2 r k) = X k) (hg : ∀ k, g (ix2 0 k) = G k) (hc : c (ix2 r k) = C) :
    k0_pay1 c (k0_pay28 x) (k0_pay29 x) (k0_pay31 d p q s T' A' B' g) (k0_pay32 d p q s T' A' B' x g) (ix2 r k) = C + drow X (fun k => D k * G k) k := by
  rw [pay1 d x T' A' B' r p q s g _ k c rfl]
  simp only [hy, hx, hg, hc]
theorem out8 {X D : Fin 256 → Fin 1024 → EReal} (hy : ∀ r k, k0_pay27 d p q s T' A' B' (ix2 r k) = D r k) (hx : ∀ r k, x (ix2 r k) = X r k) :
    k0_pay30 d p q s T' A' B' x (ix2 0 k) = ∑ r, D r k * (X r k * rstd (X r)) := by
  rw [pay30 d x T' A' B' p q s _ k rfl]
  simp only [hy, hx]
theorem pay2 (u : FVec Ideal S1x1024 .f32) : k0_pay2 u v (ix2 0 k) = v (ix2 0 k) + u (ix2 0 k) := by
  pointwise [k0_pay2]
end
end

/-! ## The arrays and their blocks -/

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0, 0] ∧ win0_6.index t = ![0, 0, 0]
    ∧ win0_7.index t = ![t.val, 0] ∧ win0_8.index t = ![0, 0] ∧ win0_9.index t = ![t.val, 0] ∧ win0_10.index t = ![t.val, 0] :=
  (by decide +kernel : ∀ t : Fin grid0.N, _)

/-- The array's row that is row `i` of block `t`. -/
def row (t : Fin 32) (i : Fin 256) : Fin 8192 := ⟨t.val * 256 + i.val, by omega⟩
/-- A grid point's block number. -/
def pt (t : Fin cfg0.N) : Fin 32 := ⟨t.val, t.isLt.trans_eq N_0⟩

variable (m : (ℓ : Loc nD τ sig) → Buf (Elt Ideal) ℓ) (c : Dev nD)
variable {dh h : Fin 8192 → Fin 1024 → EReal} {g : Fin 1024 → EReal} {w : Fin 1024 → Fin 5632 → EReal} {wd : Fin 2816 → Fin 1024 → EReal}
variable (hd : ∀ r k, m ((c : Thread nD τ).loc main_arg0) (ix2 r k) = dh r k) (hh : ∀ r k, m ((c : Thread nD τ).loc main_arg1) (ix2 r k) = h r k)
  (hg : ∀ k, m ((c : Thread nD τ).loc main_arg2) (ix1 k) = g k) (hw : ∀ r k, m ((c : Thread nD τ).loc main_arg3) (ix2 r k) = w r k)
  (hwd : ∀ r k, m ((c : Thread nD τ).loc main_arg4) (ix2 r k) = wd r k)

/-- The two products the kernel is given, as the reference forms them. -/
theorem host16 : V m c main_v16 = Cert.FfnRefIdeal.Read.val_main_v17 (F := Ideal) (m ((c : Thread nD τ).loc main_arg1)) (m ((c : Thread nD τ).loc main_arg2))
    (m ((c : Thread nD τ).loc main_arg3)) := by
  simp only [V, hostOps0]
  after_results_simp
  rfl
theorem host18 : V m c main_v18 = Cert.FfnRefIdeal.Read.val_main_v19 (F := Ideal) (m ((c : Thread nD τ).loc main_arg1)) (m ((c : Thread nD τ).loc main_arg2))
    (m ((c : Thread nD τ).loc main_arg3)) := by
  simp only [V, hostOps0]
  after_results_simp
  rfl
include hh hg hw in
theorem v16 (r : Fin 8192) (k : Fin 2816) : V m c main_v16 (ix2 r k) = gu h g w r (lo k) :=
  (congrFun (host16 m c) _).trans (Cert.FfnRefIdeal.Math.v17 hh hg hw r k)
include hh hg hw in
theorem v18 (r : Fin 8192) (k : Fin 2816) : V m c main_v18 (ix2 r k) = gu h g w r (hi k) :=
  (congrFun (host18 m c) _).trans (Cert.FfnRefIdeal.Math.v19 hh hg hw r k)
include hg in
theorem v14 (k : Fin 1024) : V m c main_v14 (ix2 0 k) = g k := by
  refine Eq.trans ?_ (hg _)
  simp only [V, hostOps0]
  after_results_simp
  generalize m _ = x
  pointwise
include hw in
theorem v20 (r : Fin 1024) (k : Fin 5632) : V m c main_v20 (ix3 0 r k) = w r k := by
  refine Eq.trans ?_ (hw _ _)
  simp only [V, hostOps0]
  after_results_simp
  generalize m _ = x
  pointwise
include hwd in
theorem v22 (r : Fin 2816) (k : Fin 1024) : V m c main_v22 (ix3 0 r k) = wd r k := by
  refine Eq.trans ?_ (hwd _ _)
  simp only [V, hostOps0]
  after_results_simp
  generalize m _ = x
  pointwise
include hd in
theorem kept0 (r : Fin 8192) (k : Fin 1024) : V m c main_arg0 (ix2 r k) = dh r k := by
  refine Eq.trans ?_ (hd _ _)
  simp only [V, hostOps0]
  after_results_simp
include hh in
theorem kept1 (r : Fin 8192) (k : Fin 1024) : V m c main_arg1 (ix2 r k) = h r k := by
  refine Eq.trans ?_ (hh _ _)
  simp only [V, hostOps0]
  after_results_simp
include hd in
theorem blk0 (t : Fin cfg0.N) (i : Fin 256) (k : Fin 1024) : iblk m c 0 t (ix2 i k) = dh (row (pt t) i) k := by
  refine Eq.trans ?_ (kept0 m c hd _ _)
  blk_point [iblk, V, (idx t).1]
  rfl
include hh in
theorem blk1 (t : Fin cfg0.N) (i : Fin 256) (k : Fin 1024) : iblk m c 1 t (ix2 i k) = h (row (pt t) i) k := by
  refine Eq.trans ?_ (kept1 m c hh _ _)
  blk_point [iblk, V, (idx t).2.1]
  rfl
include hg in
theorem blk2 (t : Fin cfg0.N) (k : Fin 1024) : iblk m c 2 t (ix2 0 k) = g k := by
  refine Eq.trans ?_ (v14 m c hg _)
  blk_point [iblk, V, (idx t).2.2.1]
include hh hg hw in
theorem blk3 (t : Fin cfg0.N) (i : Fin 256) (k : Fin 2816) : iblk m c 3 t (ix2 i k) = gu h g w (row (pt t) i) (lo k) := by
  refine Eq.trans ?_ (v16 m c hh hg hw _ _)
  blk_point [iblk, V, (idx t).2.2.2.1]
  rfl
include hh hg hw in
theorem blk4 (t : Fin cfg0.N) (i : Fin 256) (k : Fin 2816) : iblk m c 4 t (ix2 i k) = gu h g w (row (pt t) i) (hi k) := by
  refine Eq.trans ?_ (v18 m c hh hg hw _ _)
  blk_point [iblk, V, (idx t).2.2.2.2.1]
  rfl
include hw in
theorem blk5 (t : Fin cfg0.N) (r : Fin 1024) (k : Fin 5632) : iblk m c 5 t (ix3 0 r k) = w r k := by
  refine Eq.trans ?_ (v20 m c hw _ _)
  blk_point [iblk, V, (idx t).2.2.2.2.2.1]
include hwd in
theorem blk6 (t : Fin cfg0.N) (r : Fin 2816) (k : Fin 1024) : iblk m c 6 t (ix3 0 r k) = wd r k := by
  refine Eq.trans ?_ (v22 m c hwd _ _)
  blk_point [iblk, V, (idx t).2.2.2.2.2.2.1]
/-- Reading columns from `o` on. -/
theorem ld_cols {a n b : ℕ} {e : EltTy} (X : (⟨2, ![a, b]⟩ : Shape).Idx → Elt Ideal e) (o : ℕ) (ho : o + n ≤ b)
    (inb : ∀ x, (![0, o] : Fin 2 → ℕ) x + (![a, n] : Fin 2 → ℕ) x ≤ (⟨2, ![a, b]⟩ : Shape).size x) (r : Fin a) (k : Fin n) :
    View.ld X (Rect.unit ![0, o] ![a, n] inb) (ix2 r k) = X (ix2 r ⟨o + k.val, by omega⟩) :=
  View.ld_unit_apply_of X _ _ inb _ _ (fun a => match a with | 0 => (Nat.zero_add _).symm | 1 => rfl)
theorem ld_cols3 {a n b : ℕ} {e : EltTy} (X : (⟨3, ![1, a, b]⟩ : Shape).Idx → Elt Ideal e) (o : ℕ) (ho : o + n ≤ b)
    (inb : ∀ x, (![0, 0, o] : Fin 3 → ℕ) x + (![1, a, n] : Fin 3 → ℕ) x ≤ (⟨3, ![1, a, b]⟩ : Shape).size x) (r : Fin a) (k : Fin n) :
    View.ld X (Rect.unit ![0, 0, o] ![1, a, n] inb) (ix3 0 r k) = X (ix3 0 r ⟨o + k.val, by omega⟩) :=
  View.ld_unit_apply_of X _ _ inb _ _ (fun a => match a with | 0 => rfl | 1 => (Nat.zero_add _).symm | 2 => rfl)
/-- Reading rows from `o` on. -/
theorem ld_rows3 {a n b : ℕ} {e : EltTy} (X : (⟨3, ![1, a, b]⟩ : Shape).Idx → Elt Ideal e) (o : ℕ) (ho : o + n ≤ a)
    (inb : ∀ x, (![0, o, 0] : Fin 3 → ℕ) x + (![1, n, b] : Fin 3 → ℕ) x ≤ (⟨3, ![1, a, b]⟩ : Shape).size x) (r : Fin n) (k : Fin b) :
    View.ld X (Rect.unit ![0, o, 0] ![1, n, b] inb) (ix3 0 r k) = X (ix3 0 ⟨o + r.val, by omega⟩ k) :=
  View.ld_unit_apply_of X _ _ inb _ _ (fun a => match a with | 0 => rfl | 1 => rfl | 2 => (Nat.zero_add _).symm)

section
variable (t : Fin cfg0.N) (n o : ℕ) (ho : o + n ≤ 2816)
    (inb : ∀ a, (![0, o] : Fin 2 → ℕ) a + (![256, n] : Fin 2 → ℕ) a ≤ S256x2816.size a)
    (inr : ∀ a, (![0, o, 0] : Fin 3 → ℕ) a + (![1, n, 1024] : Fin 3 → ℕ) a ≤ S1x2816x1024.size a)
include hh hg hw in
theorem ldt (r : Fin 256) (k : Fin n) : View.ld (iblk m c 3 t) (Rect.unit ![0, o] ![256, n] inb) (ix2 r k)
    = gu h g w (row (pt t) r) (lo ⟨o + k.val, by omega⟩) := (ld_cols (iblk m c 3 t) o ho inb r k).trans (blk3 m c hh hg hw t _ _)
include hh hg hw in
theorem ldu (r : Fin 256) (k : Fin n) : View.ld (iblk m c 4 t) (Rect.unit ![0, o] ![256, n] inb) (ix2 r k)
    = gu h g w (row (pt t) r) (hi ⟨o + k.val, by omega⟩) := (ld_cols (iblk m c 4 t) o ho inb r k).trans (blk4 m c hh hg hw t _ _)
include hwd in
theorem ldw (r : Fin n) (k : Fin 1024) : View.ld (iblk m c 6 t) (Rect.unit ![0, o, 0] ![1, n, 1024] inr) (ix3 0 r k)
    = wd ⟨o + r.val, by omega⟩ k := (ld_rows3 (iblk m c 6 t) o ho inr r k).trans (blk6 m c hwd t _ _)
include hw in
theorem ldlo (ina : ∀ a, (![0, 0, o] : Fin 3 → ℕ) a + (![1, 1024, n] : Fin 3 → ℕ) a ≤ S1x1024x5632.size a) (r : Fin 1024) (k : Fin n) :
    View.ld (iblk m c 5 t) (Rect.unit ![0, 0, o] ![1, 1024, n] ina) (ix3 0 r k)
    = w r (lo ⟨o + k.val, by omega⟩) := (ld_cols3 (iblk m c 5 t) o (by omega) ina r k).trans (blk5 m c hw t _ _)
include hw in
theorem ldhi (o' : ℕ) (e : o' = 2816 + o) (ina : ∀ a, (![0, 0, o'] : Fin 3 → ℕ) a + (![1, 1024, n] : Fin 3 → ℕ) a ≤ S1x1024x5632.size a) (r : Fin 1024) (k : Fin n) :
    View.ld (iblk m c 5 t) (Rect.unit ![0, 0, o'] ![1, 1024, n] ina) (ix3 0 r k)
    = w r (hi ⟨o + k.val, by omega⟩) :=
  ((ld_cols3 (iblk m c 5 t) o' (by omega) ina r k).trans (blk5 m c hw t _ _)).trans (congrArg (w r) (Fin.ext (by show o' + k.val = 2816 + (o + k.val); omega)))
include hd in
theorem dy (r : Fin 256) (j : Fin 1024) : k0_pay3 (F := Ideal) (iblk m c 0 t) (ix2 r j) = Ideal.ofBits .f32 0x3F000000#32 * dh (row (pt t) r) j :=
  (pay3 (iblk m c 0 t) r j).trans (congrArg _ (blk0 m c hd t r j))
end
section
variable (t : Fin cfg0.N) (o : ℕ) (ho : o + 768 ≤ 2816)
    (inb : ∀ a, (![0, o] : Fin 2 → ℕ) a + (![256, 768] : Fin 2 → ℕ) a ≤ S256x2816.size a)
    (inr : ∀ a, (![0, o, 0] : Fin 3 → ℕ) a + (![1, 768, 1024] : Fin 3 → ℕ) a ≤ S1x2816x1024.size a)
include ho hd hh hg hw hwd in
theorem gate_tile (r : Fin 256) (k : Fin 768) : k0_pay13 (F := Ideal) (k0_pay3 (iblk m c 0 t)) (View.ld (iblk m c 6 t) (Rect.unit ![0, o, 0] ![1, 768, 1024] inr))
    (View.ld (iblk m c 3 t) (Rect.unit ![0, o] ![256, 768] inb)) (View.ld (iblk m c 4 t) (Rect.unit ![0, o] ![256, 768] inb)) (ix2 r k)
    = gateGrad dh h g w wd (row (pt t) r) ⟨o + k.val, by omega⟩ := by
  rw [pay13]
  simp only [dy m c hd, ldw m c hwd t 768 o ho, ldt m c hh hg hw t 768 o ho, ldu m c hh hg hw t 768 o ho]
  rfl
include ho hd hh hg hw hwd in
theorem up_tile (r : Fin 256) (k : Fin 768) : k0_pay14 (F := Ideal) (k0_pay3 (iblk m c 0 t)) (View.ld (iblk m c 6 t) (Rect.unit ![0, o, 0] ![1, 768, 1024] inr))
    (View.ld (iblk m c 3 t) (Rect.unit ![0, o] ![256, 768] inb)) (ix2 r k)
    = upGrad dh h g w wd (row (pt t) r) ⟨o + k.val, by omega⟩ := by
  rw [pay14]
  simp only [dy m c hd, ldw m c hwd t 768 o ho, ldt m c hh hg hw t 768 o ho]
  rfl
end
section
variable (t : Fin cfg0.N) (inb : ∀ a, (![0, 2304] : Fin 2 → ℕ) a + (![256, 512] : Fin 2 → ℕ) a ≤ S256x2816.size a)
    (inr : ∀ a, (![0, 2304, 0] : Fin 3 → ℕ) a + (![1, 512, 1024] : Fin 3 → ℕ) a ≤ S1x2816x1024.size a)
include hd hh hg hw hwd in
theorem gate_last (r : Fin 256) (k : Fin 512) : k0_pay25 (F := Ideal) (k0_pay3 (iblk m c 0 t)) (View.ld (iblk m c 6 t) (Rect.unit ![0, 2304, 0] ![1, 512, 1024] inr))
    (View.ld (iblk m c 3 t) (Rect.unit ![0, 2304] ![256, 512] inb)) (View.ld (iblk m c 4 t) (Rect.unit ![0, 2304] ![256, 512] inb)) (ix2 r k)
    = gateGrad dh h g w wd (row (pt t) r) ⟨2304 + k.val, by omega⟩ := by
  rw [pay25]
  simp only [dy m c hd, ldw m c hwd t 512 2304 (by decide), ldt m c hh hg hw t 512 2304 (by decide), ldu m c hh hg hw t 512 2304 (by decide)]
  rfl
include hd hh hg hw hwd in
theorem up_last (r : Fin 256) (k : Fin 512) : k0_pay26 (F := Ideal) (k0_pay22 (k0_pay3 (iblk m c 0 t)) (View.ld (iblk m c 6 t) (Rect.unit ![0, 2304, 0] ![1, 512, 1024] inr)))
    (k0_pay23 (View.ld (iblk m c 3 t) (Rect.unit ![0, 2304] ![256, 512] inb))) (k0_pay24 (View.ld (iblk m c 3 t) (Rect.unit ![0, 2304] ![256, 512] inb))) (ix2 r k)
    = upGrad dh h g w wd (row (pt t) r) ⟨2304 + k.val, by omega⟩ := by
  rw [pay26]
  simp only [dy m c hd, ldw m c hwd t 512 2304 (by decide), ldt m c hh hg hw t 512 2304 (by decide)]
  rfl
end

/-- The four pieces of a row of columns read back. -/
theorem tiles (X : Fin 256 → Fin 2816 → EReal) (p3 : Vec Ideal S256x512 .bf16) (p2 p1 p0 : Vec Ideal S256x768 .bf16)
    (h3 : ∀ r (k : Fin 512), p3 (ix2 r k) = X r ⟨2304 + k.val, by omega⟩) (h2 : ∀ r (k : Fin 768), p2 (ix2 r k) = X r ⟨1536 + k.val, by omega⟩)
    (h1 : ∀ r (k : Fin 768), p1 (ix2 r k) = X r ⟨768 + k.val, by omega⟩) (h0 : ∀ r (k : Fin 768), p0 (ix2 r k) = X r ⟨0 + k.val, by omega⟩)
    (i3 : ∀ a, (![0, 2304] : Fin 2 → ℕ) a + (![256, 512] : Fin 2 → ℕ) a ≤ S256x2816.size a)
    (i2 : ∀ a, (![0, 1536] : Fin 2 → ℕ) a + (![256, 768] : Fin 2 → ℕ) a ≤ S256x2816.size a)
    (i1 : ∀ a, (![0, 768] : Fin 2 → ℕ) a + (![256, 768] : Fin 2 → ℕ) a ≤ S256x2816.size a)
    (i0 : ∀ a, (![0, 0] : Fin 2 → ℕ) a + (![256, 768] : Fin 2 → ℕ) a ≤ S256x2816.size a) (i : Fin 256) (j : Fin 2816) :
    View.canon (Val := Elt Ideal) (s := S256x2816) (e := .bf16) [⟨Rect.unit ![0, 2304] ![256, 512] i3, p3⟩, ⟨Rect.unit ![0, 1536] ![256, 768] i2, p2⟩,
      ⟨Rect.unit ![0, 768] ![256, 768] i1, p1⟩, ⟨Rect.unit ![0, 0] ![256, 768] i0, p0⟩] (ix2 i j) = X i j := by
  have at' : ∀ (n o : ℕ) (ho : o + n ≤ 2816) (inb : ∀ a, (![0, o] : Fin 2 → ℕ) a + (![256, n] : Fin 2 → ℕ) a ≤ S256x2816.size a) (r : Fin 256) (k : Fin n),
      (Rect.unit (s := S256x2816) ![0, o] ![256, n] inb).emb (ix2 r k) = ix2 r ⟨o + k.val, by omega⟩ := fun n o ho inb r k =>
    funext fun a => match a with
      | 0 => Fin.ext (by show 0 + 1 * r.val = r.val; omega)
      | 1 => Fin.ext (by show o + 1 * k.val = o + k.val; omega)
  refine View.canon_apply_of_pieces (Val := Elt Ideal) (S := S256x2816) (e := .bf16) (fun y => X (y 0) (y 1)) _ ?_ (ix2 i j) ?_
  · simp only [List.mem_cons, List.not_mem_nil, or_false]
    rintro p (rfl | rfl | rfl | rfl) x
    · obtain ⟨r, k, rfl⟩ : ∃ (r : Fin 256) (k : Fin 512), x = ix2 r k := ⟨x 0, x 1, eq_ix2 x⟩
      rw [at' 512 2304 (by decide)]; exact h3 r k
    · obtain ⟨r, k, rfl⟩ : ∃ (r : Fin 256) (k : Fin 768), x = ix2 r k := ⟨x 0, x 1, eq_ix2 x⟩
      rw [at' 768 1536 (by decide)]; exact h2 r k
    · obtain ⟨r, k, rfl⟩ : ∃ (r : Fin 256) (k : Fin 768), x = ix2 r k := ⟨x 0, x 1, eq_ix2 x⟩
      rw [at' 768 768 (by decide)]; exact h1 r k
    · obtain ⟨r, k, rfl⟩ : ∃ (r : Fin 256) (k : Fin 768), x = ix2 r k := ⟨x 0, x 1, eq_ix2 x⟩
      rw [at' 768 0 (by decide)]; exact h0 r k
  · have inn : ∀ (n o : ℕ) (inb : ∀ a, (![0, o] : Fin 2 → ℕ) a + (![256, n] : Fin 2 → ℕ) a ≤ S256x2816.size a), o ≤ j.val → j.val < o + n →
        ix2 i j ∈ (Rect.unit (s := S256x2816) ![0, o] ![256, n] inb).set := fun n o inb l u =>
      Rect.mem_set_unit.mpr fun a => match a with
        | 0 => ⟨Nat.zero_le _, by show i.val < 0 + 256; omega⟩
        | 1 => ⟨l, u⟩
    rcases Nat.lt_or_ge j.val 768 with l | l
    · exact ⟨_, .tail _ (.tail _ (.tail _ (.head _))), inn 768 0 i0 (Nat.zero_le _) (by omega)⟩
    rcases Nat.lt_or_ge j.val 1536 with l' | l'
    · exact ⟨_, .tail _ (.tail _ (.head _)), inn 768 768 i1 l (by omega)⟩
    rcases Nat.lt_or_ge j.val 2304 with l'' | l''
    · exact ⟨_, .tail _ (.head _), inn 768 1536 i2 l' (by omega)⟩
    · exact ⟨_, .head _, inn 512 2304 i3 l'' (by omega)⟩

include hd hh hg hw hwd in
theorem point9 (t : Fin cfg0.N) (i : Fin 256) (j : Fin 2816) : (outsAt0 m c t.val t.isLt).2.2.1 (ix2 i j) = gateGrad dh h g w wd (row (pt t) i) j := by
  have hN := t.isLt.trans_eq N_0
  by_cases h0 : t.val % 32 = 0
  · rw [outsAt0_A m c t h0 (by omega)]
    frame_out
    rw [pay19, pay7]
    exact tiles _ _ _ _ _ (gate_last m c hd hh hg hw hwd t _ _) (gate_tile m c hd hh hg hw hwd t _ (by decide) _ _)
      (gate_tile m c hd hh hg hw hwd t _ (by decide) _ _) (gate_tile m c hd hh hg hw hwd t _ (by decide) _ _) _ _ _ _ i j
  · rw [outsAt0_B m c t h0 (by omega)]
    frame_out
    rw [pay19, pay7]
    exact tiles _ _ _ _ _ (gate_last m c hd hh hg hw hwd t _ _) (gate_tile m c hd hh hg hw hwd t _ (by decide) _ _)
      (gate_tile m c hd hh hg hw hwd t _ (by decide) _ _) (gate_tile m c hd hh hg hw hwd t _ (by decide) _ _) _ _ _ _ i j
include hd hh hg hw hwd in
theorem point10 (t : Fin cfg0.N) (i : Fin 256) (j : Fin 2816) : (outsAt0 m c t.val t.isLt).2.2.2 (ix2 i j) = upGrad dh h g w wd (row (pt t) i) j := by
  have hN := t.isLt.trans_eq N_0
  by_cases h0 : t.val % 32 = 0
  · rw [outsAt0_A m c t h0 (by omega)]
    frame_out
    rw [pay20, pay8]
    exact tiles _ _ _ _ _ (up_last m c hd hh hg hw hwd t _ _) (up_tile m c hd hh hg hw hwd t _ (by decide) _ _)
      (up_tile m c hd hh hg hw hwd t _ (by decide) _ _) (up_tile m c hd hh hg hw hwd t _ (by decide) _ _) _ _ _ _ i j
  · rw [outsAt0_B m c t h0 (by omega)]
    frame_out
    rw [pay20, pay8]
    exact tiles _ _ _ _ _ (up_last m c hd hh hg hw hwd t _ _) (up_tile m c hd hh hg hw hwd t _ (by decide) _ _)
      (up_tile m c hd hh hg hw hwd t _ (by decide) _ _) (up_tile m c hd hh hg hw hwd t _ (by decide) _ _) _ _ _ _ i j

theorem add_pairs (a0 a1 a2 a3 b0 b1 b2 b3 : EReal) : ((a0 + b0 + (a1 + b1)) + (a2 + b2)) + (a3 + b3) = ((a0 + a1) + a2 + a3) + ((b0 + b1) + b2 + b3) := by
  rw [add_add_add_comm a0, add_add_add_comm (a0 + a1), add_add_add_comm (a0 + a1 + a2)]

/-- The cotangent of the normed array, from the pieces' products. -/
theorem du_at (t : Fin 32) (G0 U0 G1 U1 G2 U2 : FVec Ideal S256x768 .bf16) (G3 : FVec Ideal S256x512 .bf16) (p q s : FVec Ideal S256x512 .f32)
    (A0 B0 A1 B1 A2 B2 : Vec Ideal S1x1024x768 .bf16) (A3 B3 : Vec Ideal S1x1024x512 .bf16)
    (g0 : ∀ r (k : Fin 768), G0 (ix2 r k) = gateGrad dh h g w wd (row t r) ⟨0 + k.val, by omega⟩)
    (g1 : ∀ r (k : Fin 768), G1 (ix2 r k) = gateGrad dh h g w wd (row t r) ⟨768 + k.val, by omega⟩)
    (g2 : ∀ r (k : Fin 768), G2 (ix2 r k) = gateGrad dh h g w wd (row t r) ⟨1536 + k.val, by omega⟩)
    (g3 : ∀ r (k : Fin 512), G3 (ix2 r k) = gateGrad dh h g w wd (row t r) ⟨2304 + k.val, by omega⟩)
    (u0 : ∀ r (k : Fin 768), U0 (ix2 r k) = upGrad dh h g w wd (row t r) ⟨0 + k.val, by omega⟩)
    (u1 : ∀ r (k : Fin 768), U1 (ix2 r k) = upGrad dh h g w wd (row t r) ⟨768 + k.val, by omega⟩)
    (u2 : ∀ r (k : Fin 768), U2 (ix2 r k) = upGrad dh h g w wd (row t r) ⟨1536 + k.val, by omega⟩)
    (u3 : ∀ r (k : Fin 512), k0_pay26 p q s (ix2 r k) = upGrad dh h g w wd (row t r) ⟨2304 + k.val, by omega⟩)
    (a0 : ∀ r (k : Fin 768), A0 (ix3 0 r k) = w r (lo ⟨0 + k.val, by omega⟩)) (a1 : ∀ r (k : Fin 768), A1 (ix3 0 r k) = w r (lo ⟨768 + k.val, by omega⟩))
    (a2 : ∀ r (k : Fin 768), A2 (ix3 0 r k) = w r (lo ⟨1536 + k.val, by omega⟩)) (a3 : ∀ r (k : Fin 512), A3 (ix3 0 r k) = w r (lo ⟨2304 + k.val, by omega⟩))
    (b0 : ∀ r (k : Fin 768), B0 (ix3 0 r k) = w r (hi ⟨0 + k.val, by omega⟩)) (b1 : ∀ r (k : Fin 768), B1 (ix3 0 r k) = w r (hi ⟨768 + k.val, by omega⟩))
    (b2 : ∀ r (k : Fin 768), B2 (ix3 0 r k) = w r (hi ⟨1536 + k.val, by omega⟩)) (b3 : ∀ r (k : Fin 512), B3 (ix3 0 r k) = w r (hi ⟨2304 + k.val, by omega⟩))
    (r : Fin 256) (k : Fin 1024) :
    k0_pay27 (k0_pay15 (k0_pay15 (k0_pay9 G0 U0 A0 B0) G1 U1 A1 B1) G2 U2 A2 B2) p q s G3 A3 B3 (ix2 r k) = du dh h g w wd (row t r) k := by
  rw [pay27, pay15, pay15, pay9]
  simp only [g0, g1, g2, g3, u0, u1, u2, u3, a0, a1, a2, a3, b0, b1, b2, b3]
  unfold du
  rw [← sum_pieces fun j => gateGrad dh h g w wd (row t r) j * w k (lo j), ← sum_pieces fun j => upGrad dh h g w wd (row t r) j * w k (hi j)]
  exact add_pairs ..

set_option maxHeartbeats 1000000 in
include hd hh hg hw hwd in
theorem point7 (t : Fin cfg0.N) (i : Fin 256) (j : Fin 1024) : (outsAt0 m c t.val t.isLt).1 (ix2 i j) = hGrad dh h g w wd (row (pt t) i) j := by
  have hN := t.isLt.trans_eq N_0
  by_cases h0 : t.val % 32 = 0
  · rw [outsAt0_A m c t h0 (by omega)]
    frame_out
    rw [pay19, pay7, pay20, pay8, pay21]
    exact out7 _ _ _ _ _ i _ _ _ _ j _ (du_at (pt t) _ _ _ _ _ _ _ _ _ _ _ _ _ _ _ _ _ _
      (gate_tile m c hd hh hg hw hwd t _ (by decide) _ _) (gate_tile m c hd hh hg hw hwd t _ (by decide) _ _) (gate_tile m c hd hh hg hw hwd t _ (by decide) _ _)
      (gate_last m c hd hh hg hw hwd t _ _)
      (up_tile m c hd hh hg hw hwd t _ (by decide) _ _) (up_tile m c hd hh hg hw hwd t _ (by decide) _ _) (up_tile m c hd hh hg hw hwd t _ (by decide) _ _)
      (up_last m c hd hh hg hw hwd t _ _)
      (ldlo m c hw t _ _ (by decide) _) (ldlo m c hw t _ _ (by decide) _) (ldlo m c hw t _ _ (by decide) _) (ldlo m c hw t _ _ (by decide) _)
      (ldhi m c hw t _ _ (by decide) _ rfl _) (ldhi m c hw t _ _ (by decide) _ rfl _) (ldhi m c hw t _ _ (by decide) _ rfl _) (ldhi m c hw t _ _ (by decide) _ rfl _) i)
      (blk1 m c hh t i) (blk2 m c hg t) (blk0 m c hd t i j)
  · rw [outsAt0_B m c t h0 (by omega)]
    frame_out
    rw [pay19, pay7, pay20, pay8, pay21]
    exact out7 _ _ _ _ _ i _ _ _ _ j _ (du_at (pt t) _ _ _ _ _ _ _ _ _ _ _ _ _ _ _ _ _ _
      (gate_tile m c hd hh hg hw hwd t _ (by decide) _ _) (gate_tile m c hd hh hg hw hwd t _ (by decide) _ _) (gate_tile m c hd hh hg hw hwd t _ (by decide) _ _)
      (gate_last m c hd hh hg hw hwd t _ _)
      (up_tile m c hd hh hg hw hwd t _ (by decide) _ _) (up_tile m c hd hh hg hw hwd t _ (by decide) _ _) (up_tile m c hd hh hg hw hwd t _ (by decide) _ _)
      (up_last m c hd hh hg hw hwd t _ _)
      (ldlo m c hw t _ _ (by decide) _) (ldlo m c hw t _ _ (by decide) _) (ldlo m c hw t _ _ (by decide) _) (ldlo m c hw t _ _ (by decide) _)
      (ldhi m c hw t _ _ (by decide) _ rfl _) (ldhi m c hw t _ _ (by decide) _ rfl _) (ldhi m c hw t _ _ (by decide) _ rfl _) (ldhi m c hw t _ _ (by decide) _ rfl _) i)
      (blk1 m c hh t i) (blk2 m c hg t) (blk0 m c hd t i j)

/-- What one grid point adds to the scale's gradient. -/
def part (dh h : Fin 8192 → Fin 1024 → EReal) (g : Fin 1024 → EReal) (w : Fin 1024 → Fin 5632 → EReal) (wd : Fin 2816 → Fin 1024 → EReal)
    (t : Fin 32) (k : Fin 1024) : EReal := ∑ i, term dh h g w wd k (row t i)

set_option maxHeartbeats 1000000 in
include hd hh hg hw hwd in
theorem point8A (t : Fin cfg0.N) (j : Fin 1024) (h0 : t.val % 32 = 0) : (outsAt0 m c t.val t.isLt).2.1 (ix2 0 j) = part dh h g w wd (pt t) j := by
  have hN := t.isLt.trans_eq N_0
  rw [outsAt0_A m c t h0 (by omega)]
  frame_out
  rw [pay19, pay7, pay20, pay8, pay21]
  refine (out8 (X := fun r => h (row (pt t) r)) (D := fun r k => du dh h g w wd (row (pt t) r) k) _ _ _ _ _ _ _ _ j (du_at (pt t) _ _ _ _ _ _ _ _ _ _ _ _ _ _ _ _ _ _
      (gate_tile m c hd hh hg hw hwd t _ (by decide) _ _) (gate_tile m c hd hh hg hw hwd t _ (by decide) _ _) (gate_tile m c hd hh hg hw hwd t _ (by decide) _ _)
      (gate_last m c hd hh hg hw hwd t _ _)
      (up_tile m c hd hh hg hw hwd t _ (by decide) _ _) (up_tile m c hd hh hg hw hwd t _ (by decide) _ _) (up_tile m c hd hh hg hw hwd t _ (by decide) _ _)
      (up_last m c hd hh hg hw hwd t _ _)
      (ldlo m c hw t _ _ (by decide) _) (ldlo m c hw t _ _ (by decide) _) (ldlo m c hw t _ _ (by decide) _) (ldlo m c hw t _ _ (by decide) _)
      (ldhi m c hw t _ _ (by decide) _ rfl _) (ldhi m c hw t _ _ (by decide) _ rfl _) (ldhi m c hw t _ _ (by decide) _ rfl _) (ldhi m c hw t _ _ (by decide) _ rfl _)) (fun r => blk1 m c hh t r)).trans ?_
  rfl
set_option maxHeartbeats 1000000 in
include hd hh hg hw hwd in
theorem point8B (t : Fin cfg0.N) (j : Fin 1024) (h0 : ¬ t.val % 32 = 0) : (outsAt0 m c t.val t.isLt).2.1 (ix2 0 j)
    = (outsAt0 m c (t.val - 1) (by omega)).2.1 (ix2 0 j) + part dh h g w wd (pt t) j := by
  have hN := t.isLt.trans_eq N_0
  rw [outsAt0_B m c t h0 (by omega)]
  frame_out
  rw [pay2, pay19, pay7, pay20, pay8, pay21]
  refine congrArg _ ?_
  refine (out8 (X := fun r => h (row (pt t) r)) (D := fun r k => du dh h g w wd (row (pt t) r) k) _ _ _ _ _ _ _ _ j (du_at (pt t) _ _ _ _ _ _ _ _ _ _ _ _ _ _ _ _ _ _
      (gate_tile m c hd hh hg hw hwd t _ (by decide) _ _) (gate_tile m c hd hh hg hw hwd t _ (by decide) _ _) (gate_tile m c hd hh hg hw hwd t _ (by decide) _ _)
      (gate_last m c hd hh hg hw hwd t _ _)
      (up_tile m c hd hh hg hw hwd t _ (by decide) _ _) (up_tile m c hd hh hg hw hwd t _ (by decide) _ _) (up_tile m c hd hh hg hw hwd t _ (by decide) _ _)
      (up_last m c hd hh hg hw hwd t _ _)
      (ldlo m c hw t _ _ (by decide) _) (ldlo m c hw t _ _ (by decide) _) (ldlo m c hw t _ _ (by decide) _) (ldlo m c hw t _ _ (by decide) _)
      (ldhi m c hw t _ _ (by decide) _ rfl _) (ldhi m c hw t _ _ (by decide) _ rfl _) (ldhi m c hw t _ _ (by decide) _ rfl _) (ldhi m c hw t _ _ (by decide) _ rfl _)) (fun r => blk1 m c hh t r)).trans ?_
  rfl

/-! ## The result arrays -/

include hd hh hg hw hwd in
theorem final7 : (dats m 0 c).arrAt 7 cfg0.N = fun j : S8192x1024.Idx => hGrad dh h g w wd (j 0) (j 1) := by
  refine (dats m 0 c).arrAt_eq_of_covers 7 _ (by decide +kernel) fun t _ y => ?_
  blk_simp
  rw [after0_7]
  obtain ⟨i, j, rfl⟩ : ∃ i j, y = ix2 i j := ⟨y 0, y 1, eq_ix2 y⟩
  have e : (win0_7.blk t).view.emb (ix2 i j) = ix2 (row (pt t) i) j := by
    blk_ext [(idx t).2.2.2.2.2.2.2.1]
    all_goals rfl
  rw [e]
  exact point7 m c hd hh hg hw hwd t i j
include hd hh hg hw hwd in
theorem final9 : (dats m 0 c).arrAt 9 cfg0.N = fun j : S8192x2816.Idx => gateGrad dh h g w wd (j 0) (j 1) := by
  refine (dats m 0 c).arrAt_eq_of_covers 9 _ (by decide +kernel) fun t _ y => ?_
  blk_simp
  rw [after0_9]
  obtain ⟨i, j, rfl⟩ : ∃ i j, y = ix2 i j := ⟨y 0, y 1, eq_ix2 y⟩
  have e : (win0_9.blk t).view.emb (ix2 i j) = ix2 (row (pt t) i) j := by
    blk_ext [(idx t).2.2.2.2.2.2.2.2.2.1]
    all_goals rfl
  rw [e]
  exact point9 m c hd hh hg hw hwd t i j
include hd hh hg hw hwd in
theorem final10 : (dats m 0 c).arrAt 10 cfg0.N = fun j : S8192x2816.Idx => upGrad dh h g w wd (j 0) (j 1) := by
  refine (dats m 0 c).arrAt_eq_of_covers 10 _ (by decide +kernel) fun t _ y => ?_
  blk_simp
  rw [after0_10]
  obtain ⟨i, j, rfl⟩ : ∃ i j, y = ix2 i j := ⟨y 0, y 1, eq_ix2 y⟩
  have e : (win0_10.blk t).view.emb (ix2 i j) = ix2 (row (pt t) i) j := by
    blk_ext [(idx t).2.2.2.2.2.2.2.2.2.2]
    all_goals rfl
  rw [e]
  exact point10 m c hd hh hg hw hwd t i j

/-- The last grid point. -/
def last : Fin cfg0.N := (31 : Fin 32).cast N_0.symm

include hd hh hg hw hwd in
theorem final8 : (dats m 0 c).arrAt 8 cfg0.N = fun j : S1x1024.Idx => ∑ r, term dh h g w wd (j 1) r := by
  refine (dats m 0 c).arrAt_eq_of_after_last 8 last (by decide +kernel) _ fun j => ?_
  blk_simp
  rw [after0_8]
  obtain ⟨i, k, rfl⟩ : ∃ i k, j = ix2 i k := ⟨j 0, j 1, eq_ix2 j⟩
  obtain rfl : i = 0 := Subsingleton.elim _ _
  rw [Pipeline.eq_sum_fin_of_reset_step_apply_last (fun n h => (outsAt0 m c n h).2.1) 32 (fun _ => 0)
    (fun p j => part dh h g w wd ⟨p % 32, Nat.mod_lt _ (by decide)⟩ (j 1)) (fun t h j => ?_) (fun t h j => ?_) (le_of_eq N_0) last rfl (ix2 0 k)]
  · show 0 + ∑ p : Fin 32, part dh h g w wd ⟨p.val % 32, _⟩ k = ∑ r, term dh h g w wd k r
    rw [zero_add]
    refine Eq.trans (Finset.sum_congr rfl fun t _ => show _ = part dh h g w wd t k from by
      congr 1; exact Fin.ext (Nat.mod_eq_of_lt t.isLt)) ?_
    unfold part
    rw [← Fintype.sum_prod_type']
    refine Fintype.sum_equiv (finProdFinEquiv (m := 32) (n := 256)) _ _ fun x => congrArg (term dh h g w wd k) (Fin.ext ?_)
    show x.1.val * 256 + x.2.val = x.2.val + 256 * x.1.val
    omega
  · obtain ⟨i, k, rfl⟩ : ∃ i k, j = ix2 i k := ⟨j 0, j 1, eq_ix2 j⟩
    obtain rfl : i = 0 := Subsingleton.elim _ _
    rw [zero_add]
    exact (point8A m c hd hh hg hw hwd t k h).trans (congrArg (fun p => part dh _ g w wd p k) (Fin.ext (Nat.mod_eq_of_lt (t.isLt.trans_eq N_0)).symm))
  · obtain ⟨i, k, rfl⟩ : ∃ i k, j = ix2 i k := ⟨j 0, j 1, eq_ix2 j⟩
    obtain rfl : i = 0 := Subsingleton.elim _ _
    exact (point8B m c hd hh hg hw hwd t k h).trans (congrArg (fun p => _ + part dh _ g w wd p k) (Fin.ext (Nat.mod_eq_of_lt (t.isLt.trans_eq N_0)).symm))
end Cert.FfnIdeal.Math
end
end
-- ==== Proof.FfnClaim.lean ====
/- The claims about the gradient of the feed-forward gate with its norm. -/
module

public import proofs.«01_k».proof.Defs
public import proofs.«01_k».proof.Proof.FfnValue
public import proofs.«01_k».proof.Proof.Gen.Ffn.Frame
public import proofs.«01_k».proof.Proof.Gen.FfnRefIdeal.Run
public import Idealize.ShloMosaic.Lib.Quiescent

set_option maxRecDepth 16384

@[expose] public section
noncomputable section

open Idealize.ShloMosaic Idealize.ShloMosaic.TcCoe Idealize.SL.Sem Cert.RealLift

namespace Cert.FfnClaim

/-- The side conditions of the precondition. -/
theorem preFacts : Cert.Pre_ffn_finite.Facts where
  bcast_S_S8192x1024 := by decide
  bcast_S_S1024 := by decide
  bcast_S_S1024x5632 := by decide
  bcast_S_S2816x1024 := by decide

/-- The reference runs and leaves its arguments as they were. -/
theorem refFrame : Cert.quiescent_FfnRefIdeal (hFfnRefIdeal := Cert.FfnRefIdeal.Gen.facts) :=
  fun m ρ _ => (θ_run Cert.FfnRefIdeal.defs _ _).mono
    (fun r h => ⟨fun c => (h c).2.2.2.2, Idealize.ShloMosaic.sem_eq_zero_of_no_sems (by decide) r.2⟩)
    (Cert.FfnRefIdeal.Value.run (F := Ideal) m ρ)

/-- The precondition makes every argument but the normed array an array of real numbers. -/
theorem reals (m : (ℓ : Loc Cert.FfnIdeal.nD Cert.FfnIdeal.τ Cert.FfnIdeal.sig) → Buf (Elt Ideal) ℓ)
    (h : Cert.Pre_FfnIdeal_ffn_finite (hPre_ffn_finite := preFacts) m) (c : Dev Cert.FfnIdeal.nD) :
    (∀ (r : Fin 8192) (k : Fin 1024), ∃ y : ℝ, m ((c : Thread Cert.FfnIdeal.nD Cert.FfnIdeal.τ).loc Cert.FfnIdeal.main_arg0) (ix2 r k) = (y : EReal)) ∧ (∀ k : Fin 1024, ∃ y : ℝ, m ((c : Thread Cert.FfnIdeal.nD Cert.FfnIdeal.τ).loc Cert.FfnIdeal.main_arg2) (ix1 k) = (y : EReal))
    ∧ (∀ (r : Fin 1024) (k : Fin 5632), ∃ y : ℝ, m ((c : Thread Cert.FfnIdeal.nD Cert.FfnIdeal.τ).loc Cert.FfnIdeal.main_arg3) (ix2 r k) = (y : EReal))
    ∧ ∀ (r : Fin 2816) (k : Fin 1024), ∃ y : ℝ, m ((c : Thread Cert.FfnIdeal.nD Cert.FfnIdeal.τ).loc Cert.FfnIdeal.main_arg4) (ix2 r k) = (y : EReal) := by
  obtain ⟨h0, h1, h2, h3⟩ := h c
  exact ⟨fun r k => exists_coe_of_cmp (congrFun h0 (ix2 r k)), fun k => exists_coe_of_cmp (congrFun h1 (ix1 k)),
    fun r k => exists_coe_of_cmp (congrFun h2 (ix2 r k)), fun r k => exists_coe_of_cmp (congrFun h3 (ix2 r k))⟩

set_option maxHeartbeats 4000000 in
/-- Kernel and reference end with the same four gradients. -/
theorem algebraic : Cert.algebraic_FfnIdeal_FfnRefIdeal_pre_ffn_finite (hFfnIdeal := Cert.FfnIdeal.Gen.facts)
    (hFfnRefIdeal := Cert.FfnRefIdeal.Gen.facts) (hPre_ffn_finite := preFacts) := by
  pair_intro
  · run_from Cert.FfnIdeal.Gen.run_main m g
    all_goals
      simp only [Cert.FfnIdeal.Gen.hostOps0]
      after_results_simp <;> rfl
  · run_from Cert.FfnRefIdeal.Value.run m' g'
    all_goals
      obtain ⟨e0, e2, e3, e4⟩ := reals m hpre c
      obtain ⟨d, hd⟩ : ∃ d : Fin 8192 → Fin 1024 → EReal, ∀ r k, m ((c : Thread Cert.FfnIdeal.nD Cert.FfnIdeal.τ).loc Cert.FfnIdeal.main_arg0) (ix2 r k) = d r k := ⟨_, fun r k => rfl⟩
      obtain ⟨h, hh⟩ : ∃ h : Fin 8192 → Fin 1024 → EReal, ∀ r k, m ((c : Thread Cert.FfnIdeal.nD Cert.FfnIdeal.τ).loc Cert.FfnIdeal.main_arg1) (ix2 r k) = h r k := ⟨_, fun r k => rfl⟩
      obtain ⟨s, hs⟩ : ∃ s : Fin 1024 → EReal, ∀ k, m ((c : Thread Cert.FfnIdeal.nD Cert.FfnIdeal.τ).loc Cert.FfnIdeal.main_arg2) (ix1 k) = s k := ⟨_, fun k => rfl⟩
      obtain ⟨w, hw⟩ : ∃ w : Fin 1024 → Fin 5632 → EReal, ∀ r k, m ((c : Thread Cert.FfnIdeal.nD Cert.FfnIdeal.τ).loc Cert.FfnIdeal.main_arg3) (ix2 r k) = w r k := ⟨_, fun r k => rfl⟩
      obtain ⟨v, hv⟩ : ∃ v : Fin 2816 → Fin 1024 → EReal, ∀ r k, m ((c : Thread Cert.FfnIdeal.nD Cert.FfnIdeal.τ).loc Cert.FfnIdeal.main_arg4) (ix2 r k) = v r k := ⟨_, fun r k => rfl⟩
      simp only [hd] at e0
      simp only [hs] at e2
      simp only [hw] at e3
      simp only [hv] at e4
    · rw [Cert.FfnIdeal.Math.final7 m c hd hh hs hw hv, Cert.FfnRefIdeal.Read.val_main_v54_eq]
      funext j
      obtain ⟨i, k, rfl⟩ : ∃ i k, j = ix2 i k := ⟨j 0, j 1, eq_ix2 j⟩
      try rw [(hagree c).1, (hagree c).2.1, (hagree c).2.2.1, (hagree c).2.2.2.1, (hagree c).2.2.2.2]
      exact Cert.FfnRefIdeal.Math.v54 hd hh hs hw hv e0 e2 e3 e4 i k
    · rw [Cert.FfnIdeal.Math.final8 m c hd hh hs hw hv, Cert.FfnRefIdeal.Read.val_main_v55_eq]
      funext j
      obtain ⟨i, k, rfl⟩ : ∃ i k, j = ix2 i k := ⟨j 0, j 1, eq_ix2 j⟩
      obtain rfl : i = 0 := Subsingleton.elim _ _
      try rw [(hagree c).1, (hagree c).2.1, (hagree c).2.2.1, (hagree c).2.2.2.1, (hagree c).2.2.2.2]
      exact Cert.FfnRefIdeal.Math.v55 hd hh hs hw hv e0 e2 e3 e4 k
    · rw [Cert.FfnIdeal.Math.final9 m c hd hh hs hw hv, Cert.FfnRefIdeal.Read.val_main_v57_eq]
      funext j
      obtain ⟨i, k, rfl⟩ : ∃ i k, j = ix2 i k := ⟨j 0, j 1, eq_ix2 j⟩
      try rw [(hagree c).1, (hagree c).2.1, (hagree c).2.2.1, (hagree c).2.2.2.1, (hagree c).2.2.2.2]
      exact Cert.FfnRefIdeal.Math.v57 hd hh hs hw hv e0 e2 e3 e4 i k
    · rw [Cert.FfnIdeal.Math.final10 m c hd hh hs hw hv, Cert.FfnRefIdeal.Read.val_main_v59_eq]
      funext j
      obtain ⟨i, k, rfl⟩ : ∃ i k, j = ix2 i k := ⟨j 0, j 1, eq_ix2 j⟩
      try rw [(hagree c).1, (hagree c).2.1, (hagree c).2.2.1, (hagree c).2.2.2.1, (hagree c).2.2.2.2]
      exact Cert.FfnRefIdeal.Math.v59 hd hh hs hw hv i k

end Cert.FfnClaim

end
end
-- ==== Proof.CrossFwdMath.lean ====
/- One half-step of the attention over the memory: norm, queries, attention with real scores, output product, residual. -/
module

public import proofs.«01_k».proof.Proof.FfnMath
public import proofs.«01_k».proof.Proof.CrossMath

@[expose] public section
noncomputable section

open Idealize.ShloMosaic Cert.RealLift Cert.NormMath Cert.CrossMath

namespace Cert.CrossFwdMath

/-- The kernel divides the weighted sum of the values once; the softmax divides every weight. -/
theorem kernel_out {n : ℕ} [NeZero n] (s : Fin n → ℝ) (V : Fin n → EReal) :
    Ideal.div (∑ k, Ideal.exp ((s k : EReal) - Finset.univ.fold max (⊥ : EReal) (fun x => (s x : EReal))) * V k)
      (∑ y, Ideal.exp ((s y : EReal) - Finset.univ.fold max (⊥ : EReal) (fun x => (s x : EReal))))
      = ∑ k, ((prob s k : ℝ) : EReal) * V k := by
  obtain ⟨M, hM⟩ := fold_max_coe Finset.univ Finset.univ_nonempty s
  rw [hM]
  simp only [← EReal.coe_sub, exp_coe, coe_sum]
  have hl := sum_exp_ne fun y => s y - M
  have hp : 0 ≤ 1 / ∑ y, Real.exp (s y - M) := one_div_nonneg.mpr (Finset.sum_nonneg fun y _ => (Real.exp_pos _).le)
  rw [Ideal.div_coe hl, ← sum_mul_nonneg _ _ _ hp]
  refine Finset.sum_congr rfl fun k _ => ?_
  rw [mul_right_comm, ← EReal.coe_mul, ← prob_shift s M k, mul_one_div]

variable (h : Fin 8192 → Fin 1024 → EReal) (g : Fin 1024 → EReal) (w wo : Fin 1024 → Fin 1024 → EReal) (kv : Fin 256 → Fin 2048 → EReal)

/-- The normed array. -/
def normed (r : Fin 8192) (k : Fin 1024) : EReal := h r k * rstd (h r) * g k
/-- The queries. -/
def quer (r : Fin 8192) (c : Fin 1024) : EReal := ∑ k, normed h g r k * w k c
/-- The scores of a row of one head. -/
def sc (r : Fin 8192) (a : Fin 4) : Fin 256 → ℝ :=
  score (head (fun c => (quer h g w r c).toReal) a) (keys (fun k c => (kv k c).toReal) a)
/-- The attention's output at a head's column. -/
def att (r : Fin 8192) (a : Fin 4) (d : Fin 256) : EReal :=
  ∑ k, ((prob (sc h g w kv r a) k : ℝ) : EReal) * kv k ⟨1024 + (a.val * 256 + d.val), by omega⟩
/-- The attention's output, heads side by side. -/
def out (r : Fin 8192) (c : Fin 1024) : EReal := att h g w kv r ⟨c.val / 256, by omega⟩ ⟨c.val % 256, by omega⟩
/-- The next residual. -/
def next (r : Fin 8192) (c : Fin 1024) : EReal := h r c + ∑ k, out h g w kv r k * wo k c

variable {h g w wo kv}

theorem out_head {r : Fin 8192} {c : Fin 1024} (a : Fin 4) (d : Fin 256) (hc : c.val = a.val * 256 + d.val) :
    out h g w kv r c = att h g w kv r a d := by
  have e1 : (⟨c.val / 256, by omega⟩ : Fin 4) = a := Fin.ext (show c.val / 256 = a.val by omega)
  have e2 : (⟨c.val % 256, by omega⟩ : Fin 256) = d := Fin.ext (show c.val % 256 = d.val by omega)
  unfold out
  rw [e1, e2]

/-- A real number is its own real part. -/
theorem real_eq {x : EReal} (hx : ∃ y : ℝ, x = y) : x = (x.toReal : EReal) := by
  obtain ⟨y, rfl⟩ := hx
  rw [EReal.toReal_coe]

theorem quer_real (hg : ∀ k, ∃ y : ℝ, g k = y) (hw : ∀ j k, ∃ y : ℝ, w j k = y) (r : Fin 8192) (c : Fin 1024) :
    quer h g w r c = ((quer h g w r c).toReal : EReal) := by
  refine real_eq ?_
  choose a ha using fun j => FfnMath.normed_real (h r) j
  choose b hb using hg
  choose e he using hw
  exact ⟨∑ j, a j * b j * e j c, by
    rw [← coe_sum]
    exact Finset.sum_congr rfl fun j _ => by unfold normed; rw [ha, hb, he, EReal.coe_mul, EReal.coe_mul]⟩

/-- A head's queries are real. -/
theorem quer_head (hg : ∀ k, ∃ y : ℝ, g k = y) (hw : ∀ j k, ∃ y : ℝ, w j k = y) (r : Fin 8192) (a : Fin 4) (d : Fin 256)
    (c : Fin 1024) (hc : c.val = a.val * 256 + d.val) :
    quer h g w r c = (head (fun c => (quer h g w r c).toReal) a d : EReal) := by
  rw [show c = ⟨a.val * 256 + d.val, by omega⟩ from Fin.ext hc]
  exact quer_real hg hw r _

/-- A head's keys are real. -/
theorem keys_head (hk : ∀ (k : Fin 256) (c : Fin 2048), c.val < 1024 → ∃ y : ℝ, kv k c = y) (a : Fin 4) (k d : Fin 256)
    (c : Fin 2048) (hc : c.val = a.val * 256 + d.val) :
    kv k c = (keys (fun k c => (kv k c).toReal) a k d : EReal) := by
  rw [show c = ⟨a.val * 256 + d.val, by omega⟩ from Fin.ext hc]
  exact real_eq (hk k _ (show a.val * 256 + d.val < 1024 by omega))

end Cert.CrossFwdMath

end
end
-- ==== Proof.CrossFwdRef.lean ====
/- The reference half-step of the attention over the memory, stage by stage. -/
module

public import proofs.«01_k».proof.Proof.Gen.CrossFwdRefIdeal.Read
public import proofs.«01_k».proof.Proof.CrossFwdMath
public import Idealize.ShloMosaic.Lib.Pointwise

set_option maxRecDepth 16384

@[expose] public section
noncomputable section

open Idealize.ShloMosaic Idealize.ShloMosaic.TcCoe Idealize.SL.Sem
open Cert.CrossFwdRefIdeal Cert.CrossFwdRefIdeal.Gen Cert.CrossFwdRefIdeal.Read Cert.RealLift Cert.NormMath Cert.CrossMath Cert.CrossFwdMath

namespace Cert.CrossFwdRefIdeal.Math

variable {x0 : (⟨S8192x1024, .f32⟩ : BufTy).Contents (Elt Ideal)} {x1 : (⟨S1024, .f32⟩ : BufTy).Contents (Elt Ideal)}
variable {x2 x3 : (⟨S1024x1024, .f32⟩ : BufTy).Contents (Elt Ideal)} {x4 : (⟨S256x2048, .f32⟩ : BufTy).Contents (Elt Ideal)}
variable {h : Fin 8192 → Fin 1024 → EReal} {g : Fin 1024 → EReal} {w wo : Fin 1024 → Fin 1024 → EReal} {kv : Fin 256 → Fin 2048 → EReal}
variable (hh : ∀ r k, x0 (ix2 r k) = h r k) (hg : ∀ k, x1 (ix1 k) = g k) (hw : ∀ j k, x2 (ix2 j k) = w j k)
  (ho : ∀ j k, x3 (ix2 j k) = wo j k) (hk : ∀ k c, x4 (ix2 k c) = kv k c)
  (rg : ∀ k, ∃ y : ℝ, g k = y) (rw' : ∀ j k, ∃ y : ℝ, w j k = y)
  (rk : ∀ (k : Fin 256) (c : Fin 2048), c.val < 1024 → ∃ y : ℝ, kv k c = y)

include hh in
theorem v7 (r : Fin 8192) : val_main_v7 (F := Ideal) x0 (ix2 r 0) = rstd (h r) := by
  pointwise [val_main_v7, val_main_v6, val_main_v5, val_main_v4, val_main_v3, val_main_v2, val_main_v1, val_main_v0, val_main_cst, val_main_cst_0, val_main_cst_1]
  simp only [hh]
  rfl

include hh hg in
/-- The normed array. -/
theorem v12 (r : Fin 8192) (k : Fin 1024) : val_main_v12 (F := Ideal) x0 x1 (ix2 r k) = normed h g r k := by
  have a := v7 hh r
  unfold val_main_v12 val_main_v9 val_main_v8
  generalize val_main_v7 x0 = p at *
  pointwise [val_main_v11, val_main_v10]
  simp only [a, hh, hg]
  rfl

include hh hg hw in
/-- The queries. -/
theorem v13 (r : Fin 8192) (c : Fin 1024) : val_main_v13 (F := Ideal) x0 x1 x2 (ix2 r c) = quer h g w r c := by
  have a := v12 hh hg r
  unfold val_main_v13
  generalize val_main_v12 x0 x1 = p at *
  pointwise
  simp only [a, hw]
  rfl

include hh hg hw rg rw' in
/-- The queries by head. -/
theorem v18 (r : Fin 8192) (a : Fin 4) (d : Fin 256) :
    val_main_v18 (F := Ideal) x0 x1 x2 (ix3 r a d) = (head (fun c => (quer h g w r c).toReal) a d : EReal) := by
  have b := v13 hh hg hw r
  unfold val_main_v18
  generalize val_main_v13 x0 x1 x2 = p at *
  pointwise
  exact (b _).trans (quer_head rg rw' r a d _ rfl)

include hk rk in
/-- The keys by head. -/
theorem v15 (k : Fin 256) (a : Fin 4) (d : Fin 256) :
    val_main_v15 (F := Ideal) x4 (ix3 k a d) = (keys (fun k c => (kv k c).toReal) a k d : EReal) := by
  pointwise [val_main_v15, val_main_v14]
  exact (hk _ _).trans (keys_head rk a k d _ rfl)

include hk in
/-- The values by head. -/
theorem v17 (k : Fin 256) (a : Fin 4) (d : Fin 256) :
    val_main_v17 (F := Ideal) x4 (ix3 k a d) = kv k ⟨1024 + (a.val * 256 + d.val), by omega⟩ := by
  pointwise [val_main_v17, val_main_v16]
  exact hk _ _

include hh hg hw hk rg rw' rk in
/-- The scaled scores. -/
theorem v21 (a : Fin 4) (r : Fin 8192) (k : Fin 256) :
    val_main_v21 (F := Ideal) x0 x1 x2 x4 (ix3 a r k) = (sc h g w kv r a k : EReal) := by
  have a0 := v18 hh hg hw rg rw'
  have a2 := v15 hk rk
  unfold val_main_v21 val_main_v19
  generalize val_main_v18 x0 x1 x2 = p at *
  generalize val_main_v15 x4 = q at *
  pointwise [val_main_v20, val_main_cst_2]
  simp only [a0, a2, ofBits_sixteenth, ← EReal.coe_mul, coe_sum]
  rfl

include hh hg hw hk rg rw' rk in
/-- A row's maximum is a real number. -/
theorem v22 (i : S4x8192.Idx) : ∃ M : ℝ, val_main_v22 (F := Ideal) x0 x1 x2 x4 i = (M : EReal) := by
  have a7 : ∀ i : S4x8192x256.Idx, ∃ s : ℝ, val_main_v21 (F := Ideal) x0 x1 x2 x4 i = (s : EReal) := fun i =>
    ⟨_, (congrArg (val_main_v21 (F := Ideal) x0 x1 x2 x4) (ix3_eta i)).trans (v21 hh hg hw hk rg rw' rk (i 0) (i 1) (i 2))⟩
  choose s hs using a7
  unfold val_main_v22
  generalize val_main_v21 x0 x1 x2 x4 = a at *
  obtain rfl : a = fun i => (s i : EReal) := funext hs
  rw [Host.reduce_eq_fold_single _ _ _ _ (by decide : S4x8192x256.Reduces [2] S4x8192)]
  have hb : val_main_cst_3 (F := Ideal) (Shape.Idx.first h_S_) = (⊥ : EReal) := ofBits_negInf
  rw [hb]
  exact fold_max_coe Finset.univ ⟨(0 : Fin 256), Finset.mem_univ _⟩ _

include hh hg hw hk rg rw' rk in
/-- The exponentials of the scores less the row's maximum. -/
theorem v28 (a : Fin 4) (r : Fin 8192) : ∃ M : ℝ, ∀ k : Fin 256,
    val_main_v28 (F := Ideal) x0 x1 x2 x4 (ix3 a r k) = (Real.exp (sc h g w kv r a k - M) : EReal) := by
  obtain ⟨M, hM⟩ := v22 hh hg hw hk rg rw' rk (idx_main_v25 (idx_main_v26 (ix3 a r 0)))
  refine ⟨M, fun k => ?_⟩
  have e : val_main_v23 (F := Ideal) (idx_main_v25 (idx_main_v26 (ix3 a r k))) = (⊥ : EReal) := ofBits_negInf
  rw [val_main_v28_apply, val_main_v27_apply, val_main_v26_apply, val_main_v25_apply, val_main_v24_apply, v21 hh hg hw hk rg rw' rk, e,
    show val_main_v22 (F := Ideal) x0 x1 x2 x4 (idx_main_v25 (idx_main_v26 (ix3 a r k))) = (M : EReal) from hM]
  have hs (b : ℝ) : Ideal.exp ((b : EReal) - max ⊥ (M : EReal)) = ((Real.exp (b - M) : ℝ) : EReal) := by
    rw [max_eq_right bot_le, ← EReal.coe_sub, exp_coe]
  exact hs _

include hh hg hw hk rg rw' rk in
/-- The probabilities. -/
theorem v32 (a : Fin 4) (r : Fin 8192) (k : Fin 256) :
    val_main_v32 (F := Ideal) x0 x1 x2 x4 (ix3 a r k) = (prob (sc h g w kv r a) k : EReal) := by
  obtain ⟨M, hM⟩ := v28 hh hg hw hk rg rw' rk a r
  unfold val_main_v32 val_main_v31 val_main_v30 val_main_v29
  generalize val_main_v28 x0 x1 x2 x4 = p at *
  pointwise [val_main_cst_5]
  simp only [hM, coe_sum]
  rw [div_coe _ _ (sum_exp_ne fun x => sc h g w kv r a x - M), prob_shift]

include hh hg hw hk rg rw' rk in
/-- The attention's output. -/
theorem v35 (r : Fin 8192) (c : Fin 1024) : val_main_v35 (F := Ideal) x0 x1 x2 x4 (ix2 r c) = out h g w kv r c := by
  have a32 := v32 hh hg hw hk rg rw' rk
  have a17 := v17 hk
  unfold val_main_v35 val_main_v34 val_main_v33
  generalize val_main_v32 x0 x1 x2 x4 = p at *
  generalize val_main_v17 x4 = q at *
  pointwise
  simp only [a32, a17]
  exact Finset.sum_congr rfl fun k _ => mul_comm _ _

include hh hg hw ho hk rg rw' rk in
/-- The next residual. -/
theorem v37 (r : Fin 8192) (c : Fin 1024) : val_main_v37 (F := Ideal) x0 x1 x2 x3 x4 (ix2 r c) = next h g w wo kv r c := by
  have a := v35 hh hg hw hk rg rw' rk
  unfold val_main_v37 val_main_v36
  generalize val_main_v35 x0 x1 x2 x4 = p at *
  pointwise
  simp only [a, hh, ho]
  rfl

include hh hg in
theorem v38 (r : Fin 8192) (k : Fin 1024) : val_main_v38 (F := Ideal) x0 x1 (ix2 r k) = normed h g r k := by
  have a := v12 hh hg r k
  unfold val_main_v38
  generalize val_main_v12 x0 x1 = p at *
  pointwise
  exact a

include hh hg hw in
theorem v39 (r : Fin 8192) (c : Fin 1024) : val_main_v39 (F := Ideal) x0 x1 x2 (ix2 r c) = quer h g w r c := by
  have a := v13 hh hg hw r c
  unfold val_main_v39
  generalize val_main_v13 x0 x1 x2 = p at *
  pointwise
  exact a

include hh hg hw hk rg rw' rk in
theorem v40 (r : Fin 8192) (c : Fin 1024) : val_main_v40 (F := Ideal) x0 x1 x2 x4 (ix2 r c) = out h g w kv r c := by
  have a := v35 hh hg hw hk rg rw' rk r c
  unfold val_main_v40
  generalize val_main_v35 x0 x1 x2 x4 = p at *
  pointwise
  exact a

end Cert.CrossFwdRefIdeal.Math

end
end
-- ==== Proof.CrossFwdKernel.lean ====
/- The values the kernel of the memory attention's half-step stores for one slab of 256 rows. -/
module

public import proofs.«01_k».proof.Proof.Gen.CrossFwdIdeal.Value
public import proofs.«01_k».proof.Proof.CrossFwdMath
public import Idealize.ShloMosaic.Lib.Pipeline.ValueKit
public import Idealize.ShloMosaic.Lib.Pointwise

set_option maxRecDepth 16384

@[expose] public section
noncomputable section

open Idealize.ShloMosaic Idealize.ShloMosaic.TcCoe Idealize.SL.Sem
open Cert.CrossFwdIdeal Cert.CrossFwdIdeal.Gen Cert.RealLift Cert.NormMath Cert.CrossMath Cert.CrossFwdMath

namespace Cert.CrossFwdIdeal.Math

variable (a b v : Vec Ideal S256x256 .bf16)

/-! The four heads' payloads of both slabs are one function. -/

theorem pay6_eq : k0_pay6 (F := Ideal) (k0_pay5 a b) v = k0_pay7 a b v := rfl
theorem pay10_eq : k0_pay10 (F := Ideal) (k0_pay8 a) (k0_pay9 b) v = k0_pay7 a b v := rfl
theorem pay11_eq : k0_pay11 (F := Ideal) a b v = k0_pay7 a b v := rfl
theorem pay15_eq : k0_pay15 (F := Ideal) a b v = k0_pay7 a b v := rfl
theorem pay19_eq : k0_pay19 (F := Ideal) (k0_pay17 a b) (k0_pay18 a b) v = k0_pay7 a b v := rfl
theorem pay20_eq : k0_pay20 (F := Ideal) a b v = k0_pay7 a b v := rfl
theorem pay1_eq : k0_pay1 (F := Ideal) (k0_pay21 a b) v = k0_pay7 a b v := rfl
theorem pay13_eq (x : Vec Ideal S256x1024 .f32) (g : Vec Ideal S1x1024 .f32) : k0_pay13 (F := Ideal) x g = k0_pay3 x g := rfl
theorem pay14_eq (x : Vec Ideal S256x1024 .f32) (g : Vec Ideal S1x1024 .f32) (w : Vec Ideal S1x1024x1024 .bf16) : k0_pay14 (F := Ideal) x g w = k0_pay4 x g w := rfl
theorem pay2_eq (x : Vec Ideal S256x1024 .f32) (o : Vec Ideal S256x1024 .bf16) (w : Vec Ideal S1x1024x1024 .bf16) : k0_pay2 (F := Ideal) x o w = k0_pay12 x o w := rfl

variable {a b v}

/-- One head's output. -/
theorem pay7 {q : Fin 256 → Fin 256 → ℝ} {K : Fin 256 → Fin 256 → ℝ} {V : Fin 256 → Fin 256 → EReal}
    (ha : ∀ r d, a (ix2 r d) = (q r d : EReal)) (hb : ∀ k d, b (ix2 k d) = (K k d : EReal)) (hv : ∀ k d, v (ix2 k d) = V k d) (r d : Fin 256) :
    k0_pay7 (F := Ideal) a b v (ix2 r d) = ∑ k, ((prob (score (q r) K) k : ℝ) : EReal) * V k d := by
  pointwise [k0_pay7]
  simp only [ha, hb, hv, ofBits_sixteenth, ofBits_negInf, ← EReal.coe_mul, coe_sum]
  exact kernel_out (score (q r) K) fun k => V k d

variable {x : Vec Ideal S256x1024 .f32} {s : Vec Ideal S1x1024 .f32} {u : Vec Ideal S1x1024x1024 .bf16} {p : Vec Ideal S256x1024 .bf16}
variable {X O : Fin 256 → Fin 1024 → EReal} {g : Fin 1024 → EReal} {w : Fin 1024 → Fin 1024 → EReal}

/-- The normed rows. -/
theorem pay3 (hx : ∀ r k, x (ix2 r k) = X r k) (hs : ∀ k, s (ix2 0 k) = g k) (r : Fin 256) (k : Fin 1024) :
    k0_pay3 (F := Ideal) x s (ix2 r k) = X r k * rstd (X r) * g k := by
  pointwise [k0_pay3]
  simp only [hx, hs]
  rfl

/-- The rows' queries. -/
theorem pay4 (hx : ∀ r k, x (ix2 r k) = X r k) (hs : ∀ k, s (ix2 0 k) = g k) (hu : ∀ j k, u (ix3 0 j k) = w j k) (r : Fin 256) (c : Fin 1024) :
    k0_pay4 (F := Ideal) x s u (ix2 r c) = ∑ k, X r k * rstd (X r) * g k * w k c := by
  have h3 := pay3 hx hs
  unfold k0_pay4
  generalize k0_pay3 x s = q at *
  pointwise
  simp only [h3, hu]

/-- The rows' next residuals. -/
theorem pay12 (hx : ∀ r k, x (ix2 r k) = X r k) (hp : ∀ r k, p (ix2 r k) = O r k) (hu : ∀ j k, u (ix3 0 j k) = w j k) (r : Fin 256) (c : Fin 1024) :
    k0_pay12 (F := Ideal) x p u (ix2 r c) = X r c + ∑ k, O r k * w k c := by
  pointwise [k0_pay12]
  simp only [hx, hp, hu]

end Cert.CrossFwdIdeal.Math

end
end
-- ==== Proof.CrossFwdValue.lean ====
/- The four results of the cross attention's kernel, array by array. -/
module

public import proofs.«01_k».proof.Proof.Gen.CrossFwdIdeal.Value
public import proofs.«01_k».proof.Proof.CrossFwdRef
public import proofs.«01_k».proof.Proof.CrossFwdKernel
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.StableHlo.ReadAt
set_option maxRecDepth 16384
@[expose] public section
noncomputable section
open Idealize.ShloMosaic Idealize.ShloMosaic.TcCoe Idealize.SL.Sem
open Cert.CrossFwdIdeal Cert.CrossFwdIdeal.Gen Cert.CrossMath Cert.CrossFwdMath
namespace Cert.CrossFwdIdeal.Math

theorem idx : ∀ t : Fin cfg0.N, win0_0.index t = ![t.val, 0] ∧ win0_1.index t = ![0, 0] ∧ win0_2.index t = ![0, 0, 0] ∧ win0_3.index t = ![0, 0, 0]
    ∧ win0_4.index t = ![0, 0] ∧ win0_5.index t = ![0, 1] ∧ win0_6.index t = ![t.val, 0] ∧ win0_7.index t = ![t.val, 0] ∧ win0_8.index t = ![t.val, 0]
    ∧ win0_9.index t = ![t.val, 0] :=
  (by decide +kernel : ∀ t : Fin grid0.N, _)
/-- A point of the grid as a number below 16. -/
def pt (t : Fin cfg0.N) : Fin 16 := ⟨t.val, t.isLt.trans_eq N_0⟩

/-! ## What a grid point reads -/

variable (m : (ℓ : Loc nD τ sig) → Buf (Elt Ideal) ℓ) (c : Dev nD)
variable {h : Fin 8192 → Fin 1024 → EReal} {g : Fin 1024 → EReal} {w wo : Fin 1024 → Fin 1024 → EReal} {kv : Fin 256 → Fin 2048 → EReal}
variable (hh : ∀ r k, m ((c : Thread nD τ).loc main_arg0) (ix2 r k) = h r k) (hg : ∀ k, m ((c : Thread nD τ).loc main_arg1) (ix1 k) = g k)
  (hw : ∀ r k, m ((c : Thread nD τ).loc main_arg2) (ix2 r k) = w r k) (ho : ∀ r k, m ((c : Thread nD τ).loc main_arg3) (ix2 r k) = wo r k)
  (hk : ∀ r k, m ((c : Thread nD τ).loc main_arg4) (ix2 r k) = kv r k)

include hh in
theorem kept0 (r : Fin 8192) (k : Fin 1024) : V m c main_arg0 (ix2 r k) = h r k := by
  refine Eq.trans ?_ (hh _ _)
  simp only [V, hostOps0]
  after_results_simp
include hg in
theorem v0 (k : Fin 1024) : V m c main_v0 (ix2 0 k) = g k := by
  refine Eq.trans ?_ (hg _)
  simp only [V, hostOps0]
  after_results_simp
  generalize m _ = x
  pointwise
include hw in
theorem v2 (r k : Fin 1024) : V m c main_v2 (ix3 0 r k) = w r k := by
  refine Eq.trans ?_ (hw _ _)
  simp only [V, hostOps0]
  after_results_simp
  generalize m _ = x
  pointwise
include ho in
theorem v4 (r k : Fin 1024) : V m c main_v4 (ix3 0 r k) = wo r k := by
  refine Eq.trans ?_ (ho _ _)
  simp only [V, hostOps0]
  after_results_simp
  generalize m _ = x
  pointwise
include hk in
theorem v5 (r : Fin 256) (k : Fin 2048) : V m c main_v5 (ix2 r k) = kv r k := by
  refine Eq.trans ?_ (hk _ _)
  simp only [V, hostOps0]
  after_results_simp
  generalize m _ = x
  pointwise
include hh in
theorem blk0 (t : Fin cfg0.N) (i : Fin 512) (k : Fin 1024) : iblk m c 0 t (ix2 i k) = h (row (pt t) i) k := by
  refine Eq.trans ?_ (kept0 m c hh _ _)
  blk_point [iblk, V, (idx t).1]
  rfl
include hg in
theorem blk1 (t : Fin cfg0.N) (k : Fin 1024) : iblk m c 1 t (ix2 0 k) = g k := by
  refine Eq.trans ?_ (v0 m c hg _)
  blk_point [iblk, V, (idx t).2.1]
include hw in
theorem blk2 (t : Fin cfg0.N) (r k : Fin 1024) : iblk m c 2 t (ix3 0 r k) = w r k := by
  refine Eq.trans ?_ (v2 m c hw _ _)
  blk_point [iblk, V, (idx t).2.2.1]
include ho in
theorem blk3 (t : Fin cfg0.N) (r k : Fin 1024) : iblk m c 3 t (ix3 0 r k) = wo r k := by
  refine Eq.trans ?_ (v4 m c ho _ _)
  blk_point [iblk, V, (idx t).2.2.2.1]
include hk in
theorem blk4 (t : Fin cfg0.N) (r : Fin 256) (k : Fin 1024) : iblk m c 4 t (ix2 r k) = kv r ⟨k.val, by omega⟩ := by
  refine Eq.trans ?_ (v5 m c hk _ _)
  blk_point [iblk, V, (idx t).2.2.2.2.1]
include hk in
theorem blk5 (t : Fin cfg0.N) (r : Fin 256) (k : Fin 1024) : iblk m c 5 t (ix2 r k) = kv r ⟨1024 + k.val, by omega⟩ := by
  refine Eq.trans ?_ (v5 m c hk _ _)
  blk_point [iblk, V, (idx t).2.2.2.2.2.1]

/-! ## What a grid point writes -/

/-- A piece that holds, at each of its places, the value of `G` there. -/
def Holds {e : EltTy} (G : S512x1024.Idx → Elt Ideal e) (p : View.Piece (Elt Ideal) S512x1024 e) : Prop := ∀ x : p.1.shape.Idx, p.2 x = G (p.1.emb x)

theorem at_unit (o q a b : ℕ) (inb : ∀ x, (![o, q] : Fin 2 → ℕ) x + (![a, b] : Fin 2 → ℕ) x ≤ S512x1024.size x) (h0 : o + a ≤ 512) (h1 : q + b ≤ 1024)
    (r : Fin a) (k : Fin b) : (Rect.unit (s := S512x1024) ![o, q] ![a, b] inb).emb (ix2 r k) = ix2 ⟨o + r.val, by omega⟩ ⟨q + k.val, by omega⟩ :=
  funext fun x => match x with
    | 0 => Fin.ext (by show o + 1 * r.val = o + r.val; omega)
    | 1 => Fin.ext (by show q + 1 * k.val = q + k.val; omega)

theorem in_unit (o q a b : ℕ) (inb : ∀ x, (![o, q] : Fin 2 → ℕ) x + (![a, b] : Fin 2 → ℕ) x ≤ S512x1024.size x) {i : Fin 512} {j : Fin 1024}
    (h : o ≤ i.val ∧ i.val < o + a) (h' : q ≤ j.val ∧ j.val < q + b) : ix2 i j ∈ (Rect.unit (s := S512x1024) ![o, q] ![a, b] inb).set :=
  Rect.mem_set_unit.mpr fun x => match x with
    | 0 => h
    | 1 => h'

/-- Reading back, from pieces that hold `G`, a rectangle they cover. -/
theorem read_back {e : EltTy} {G : S512x1024.Idx → Elt Ideal e} {L : List (View.Piece (Elt Ideal) S512x1024 e)} {sp : Space}
    (v : View sig .tc sp S512x1024 e) (hL : ∀ p ∈ L, Holds G p) (o q a b : ℕ)
    (inb : ∀ x, (![o, q] : Fin 2 → ℕ) x + (![a, b] : Fin 2 → ℕ) x ≤ S512x1024.size x) (h0 : o + a ≤ 512) (h1 : q + b ≤ 1024) (r : Fin a) (k : Fin b)
    (hc : ∃ p ∈ L, (ix2 ⟨o + r.val, by omega⟩ ⟨q + k.val, by omega⟩ : S512x1024.Idx) ∈ p.1.set) :
    v.readCov L (Rect.unit (s := S512x1024) ![o, q] ![a, b] inb).toLoadRect (ix2 r k) = G (ix2 ⟨o + r.val, by omega⟩ ⟨q + k.val, by omega⟩) := by
  rw [View.readCov_eq_canon']
  have e := at_unit o q a b inb h0 h1 r k
  exact (congrArg (View.canon L) e).trans (View.canon_apply_of_pieces G L hL _ hc)

/-- Reading a rectangle of a block. -/
theorem ld_at {A B : ℕ} {e : EltTy} (X : (⟨2, ![A, B]⟩ : Shape).Idx → Elt Ideal e) (o q a b : ℕ) (h0 : o + a ≤ A) (h1 : q + b ≤ B)
    (inb : ∀ x, (![o, q] : Fin 2 → ℕ) x + (![a, b] : Fin 2 → ℕ) x ≤ (⟨2, ![A, B]⟩ : Shape).size x) (r : Fin a) (k : Fin b) :
    View.ld X (Rect.unit ![o, q] ![a, b] inb) (ix2 r k) = X (ix2 ⟨o + r.val, by omega⟩ ⟨q + k.val, by omega⟩) :=
  View.ld_unit_apply_of X _ _ inb _ _ (fun a => match a with | 0 => rfl | 1 => rfl)

variable (h g w kv wo) in
/-- What a grid point leaves of the normed rows, the queries, the attention's output and the next residual. -/
abbrev GU (t : Fin 16) : S512x1024.Idx → Elt Ideal .bf16 := fun y => normed h g (row t (y 0)) (y 1)
variable (h g w kv wo) in
abbrev GQ (t : Fin 16) : S512x1024.Idx → Elt Ideal .bf16 := fun y => quer h g w (row t (y 0)) (y 1)
variable (h g w kv wo) in
abbrev GO (t : Fin 16) : S512x1024.Idx → Elt Ideal .bf16 := fun y => out h g w kv (row t (y 0)) (y 1)
variable (h g w kv wo) in
abbrev GN (t : Fin 16) : S512x1024.Idx → Elt Ideal .f32 := fun y => next h g w wo kv (row t (y 0)) (y 1)

include hh hg in
theorem u_holds (t : Fin cfg0.N) (o : ℕ) (ho : o + 256 ≤ 512) (inb inb') :
    Holds (GU h g (pt t)) ⟨Rect.unit (s := S512x1024) ![o, 0] ![256, 1024] inb,
      k0_pay3 (F := Ideal) (View.ld (iblk m c 0 t) (Rect.unit (s := S512x1024) ![o, 0] ![256, 1024] inb')) (iblk m c 1 t)⟩ := fun x => by
  obtain ⟨r, k, rfl⟩ : ∃ (r : Fin 256) (k : Fin 1024), x = ix2 r k := ⟨x 0, x 1, eq_ix2 x⟩
  rw [at_unit o 0 256 1024 inb ho (by omega) r k]
  refine (pay3 (X := fun r => h (row (pt t) ⟨o + r.val, by omega⟩)) (fun r k => (ld_at _ o 0 256 1024 ho (by omega) inb' r k).trans ?_) (blk1 m c hg t) r k).trans ?_
  · exact (blk0 m c hh t _ _).trans (congrArg _ (Fin.ext (Nat.zero_add _)))
  · exact congrArg (normed h g _) (Fin.ext (Nat.zero_add k.val).symm)
include hh hg hw in
theorem q_holds (t : Fin cfg0.N) (o : ℕ) (ho : o + 256 ≤ 512) (inb inb') :
    Holds (GQ h g w (pt t)) ⟨Rect.unit (s := S512x1024) ![o, 0] ![256, 1024] inb,
      k0_pay4 (F := Ideal) (View.ld (iblk m c 0 t) (Rect.unit (s := S512x1024) ![o, 0] ![256, 1024] inb')) (iblk m c 1 t) (iblk m c 2 t)⟩ := fun x => by
  obtain ⟨r, k, rfl⟩ : ∃ (r : Fin 256) (k : Fin 1024), x = ix2 r k := ⟨x 0, x 1, eq_ix2 x⟩
  rw [at_unit o 0 256 1024 inb ho (by omega) r k]
  refine (pay4 (X := fun r => h (row (pt t) ⟨o + r.val, by omega⟩)) (fun r k => (ld_at _ o 0 256 1024 ho (by omega) inb' r k).trans ?_) (blk1 m c hg t)
    (blk2 m c hw t) r k).trans ?_
  · exact (blk0 m c hh t _ _).trans (congrArg _ (Fin.ext (Nat.zero_add _)))
  · exact congrArg (quer h g w _) (Fin.ext (Nat.zero_add k.val).symm)

variable (rg : ∀ k, ∃ y : ℝ, g k = y) (rw' : ∀ j k, ∃ y : ℝ, w j k = y) (rk : ∀ (k : Fin 256) (c : Fin 2048), c.val < 1024 → ∃ y : ℝ, kv k c = y)

include hk rg rw' rk in
/-- One head's tile of the attention's output, its queries read back from what was stored. -/
theorem o_holds (t : Fin cfg0.N) (o : ℕ) (ho : o + 256 ≤ 512) (a : Fin 4) (q : ℕ) (hq : q = a.val * 256) (inb inb4 inb5) {qv : Vec Ideal S256x256 .bf16}
    (hv : ∀ r d : Fin 256, qv (ix2 r d) = GQ h g w (pt t) (ix2 ⟨o + r.val, by omega⟩ ⟨q + d.val, by omega⟩)) :
    Holds (GO h g w kv (pt t)) ⟨Rect.unit (s := S512x1024) ![o, q] ![256, 256] inb,
      k0_pay7 (F := Ideal) qv (View.ld (iblk m c 4 t) (Rect.unit (s := S256x1024) ![0, q] ![256, 256] inb4))
        (View.ld (iblk m c 5 t) (Rect.unit (s := S256x1024) ![0, q] ![256, 256] inb5))⟩ := fun x => by
  obtain ⟨r, d, rfl⟩ : ∃ (r : Fin 256) (d : Fin 256), x = ix2 r d := ⟨x 0, x 1, eq_ix2 x⟩
  rw [at_unit o q 256 256 inb ho (by omega) r d]
  refine (pay7 (q := fun r => head (fun c => (quer h g w (row (pt t) ⟨o + r.val, by omega⟩) c).toReal) a)
    (K := keys (fun k c => (kv k c).toReal) a) (V := fun k d => kv k ⟨1024 + (a.val * 256 + d.val), by omega⟩) (fun r d => (hv r d).trans ?_) (fun k d => ?_)
    (fun k d => ?_) r d).trans ?_
  · exact quer_head rg rw' _ a d _ (show q + d.val = _ by omega)
  · rw [ld_at _ 0 q 256 256 (by omega) (by omega) inb4, blk4 m c hk]
    refine (congrArg (fun i => kv i _) (Fin.ext (Nat.zero_add k.val))).trans ?_
    exact keys_head rk a k d _ (show q + d.val = _ by omega)
  · rw [ld_at _ 0 q 256 256 (by omega) (by omega) inb5, blk5 m c hk]
    exact congrArg₂ kv (Fin.ext (Nat.zero_add k.val)) (Fin.ext (show 1024 + (q + d.val) = 1024 + (a.val * 256 + d.val) by omega))
  · exact (out_head a d (show q + d.val = _ by omega)).symm
include hh ho in
/-- A slab of the next residual, the attention's output read back from what was stored. -/
theorem n_holds (t : Fin cfg0.N) (o : ℕ) (hO : o + 256 ≤ 512) (inb inb') {ov : Vec Ideal S256x1024 .bf16}
    (hv : ∀ (r : Fin 256) (k : Fin 1024), ov (ix2 r k) = GO h g w kv (pt t) (ix2 ⟨o + r.val, by omega⟩ ⟨0 + k.val, by omega⟩)) :
    Holds (GN h g w wo kv (pt t)) ⟨Rect.unit (s := S512x1024) ![o, 0] ![256, 1024] inb,
      k0_pay12 (F := Ideal) (View.ld (iblk m c 0 t) (Rect.unit (s := S512x1024) ![o, 0] ![256, 1024] inb')) ov (iblk m c 3 t)⟩ := fun x => by
  obtain ⟨r, k, rfl⟩ : ∃ (r : Fin 256) (k : Fin 1024), x = ix2 r k := ⟨x 0, x 1, eq_ix2 x⟩
  rw [at_unit o 0 256 1024 inb hO (by omega) r k]
  refine (pay12 (X := fun r => h (row (pt t) ⟨o + r.val, by omega⟩)) (O := fun r => out h g w kv (row (pt t) ⟨o + r.val, by omega⟩))
    (fun r k => (ld_at _ o 0 256 1024 hO (by omega) inb' r k).trans ?_) (fun r k => (hv r k).trans ?_) (blk3 m c ho t) r k).trans ?_
  · exact (blk0 m c hh t _ _).trans (congrArg _ (Fin.ext (Nat.zero_add _)))
  · exact congrArg (out h g w kv _) (Fin.ext (Nat.zero_add k.val))
  · exact congrArg (next h g w wo kv _) (Fin.ext (Nat.zero_add k.val).symm)

include hh hg in
theorem point7 (t : Fin cfg0.N) (i : Fin 512) (j : Fin 1024) : (outsAt0 m c t).2.1 (ix2 i j) = normed h g (row (pt t) i) j := by
  unfold outsAt0
  frame_out
  rw [pay13_eq]
  refine View.canon_apply_of_pieces (GU h g (pt t)) _ ?_ (ix2 i j) (View.cover_of_tiledL (s := S512x1024) _ S256x1024.size (by sl_kernel_rfl) _)
  simp only [List.mem_cons, List.not_mem_nil, or_false]
  rintro p (rfl | rfl)
  · exact u_holds m c hh hg t 256 (by omega) _ _
  · exact u_holds m c hh hg t 0 (by omega) _ _
include hh hg hw in
theorem point8 (t : Fin cfg0.N) (i : Fin 512) (j : Fin 1024) : (outsAt0 m c t).2.2.1 (ix2 i j) = quer h g w (row (pt t) i) j := by
  unfold outsAt0
  frame_out
  rw [pay14_eq]
  refine View.canon_apply_of_pieces (GQ h g w (pt t)) _ ?_ (ix2 i j) (View.cover_of_tiledL (s := S512x1024) _ S256x1024.size (by sl_kernel_rfl) _)
  simp only [List.mem_cons, List.not_mem_nil, or_false]
  rintro p (rfl | rfl)
  · exact q_holds m c hh hg hw t 256 (by omega) _ _
  · exact q_holds m c hh hg hw t 0 (by omega) _ _

include hh hg hw in
/-- The queries of a slab read back while only that slab, or both, have been stored. -/
theorem q_read0 (t : Fin cfg0.N) {sp : Space} (v : View sig .tc sp S512x1024 .bf16) (q : ℕ) (hq : q + 256 ≤ 1024) (i0 i0' inb) (r d : Fin 256) :
    v.readCov [⟨Rect.unit (s := S512x1024) ![0, 0] ![256, 1024] i0,
        k0_pay4 (F := Ideal) (View.ld (iblk m c 0 t) (Rect.unit (s := S512x1024) ![0, 0] ![256, 1024] i0')) (iblk m c 1 t) (iblk m c 2 t)⟩]
      (Rect.unit (s := S512x1024) ![0, q] ![256, 256] inb).toLoadRect (ix2 r d) = GQ h g w (pt t) (ix2 ⟨0 + r.val, by omega⟩ ⟨q + d.val, by omega⟩) := by
  refine read_back v ?_ 0 q 256 256 inb (by omega) hq r d ⟨_, .head _, in_unit _ _ _ _ i0 ⟨Nat.zero_le _, ?_⟩ ⟨Nat.zero_le _, ?_⟩⟩
  · simp only [List.mem_cons, List.not_mem_nil, or_false]
    rintro p rfl
    exact q_holds m c hh hg hw t 0 (by omega) _ _
  · show 0 + r.val < 0 + 256; omega
  · show q + d.val < 0 + 1024; omega
include hh hg hw in
theorem q_read1 (t : Fin cfg0.N) {sp : Space} (v : View sig .tc sp S512x1024 .bf16) (q : ℕ) (hq : q + 256 ≤ 1024) (i0 i0' i1 i1' inb) (r d : Fin 256) :
    v.readCov [⟨Rect.unit (s := S512x1024) ![256, 0] ![256, 1024] i1,
        k0_pay4 (F := Ideal) (View.ld (iblk m c 0 t) (Rect.unit (s := S512x1024) ![256, 0] ![256, 1024] i1')) (iblk m c 1 t) (iblk m c 2 t)⟩,
      ⟨Rect.unit (s := S512x1024) ![0, 0] ![256, 1024] i0,
        k0_pay4 (F := Ideal) (View.ld (iblk m c 0 t) (Rect.unit (s := S512x1024) ![0, 0] ![256, 1024] i0')) (iblk m c 1 t) (iblk m c 2 t)⟩]
      (Rect.unit (s := S512x1024) ![256, q] ![256, 256] inb).toLoadRect (ix2 r d) = GQ h g w (pt t) (ix2 ⟨256 + r.val, by omega⟩ ⟨q + d.val, by omega⟩) := by
  refine read_back v ?_ 256 q 256 256 inb (by omega) hq r d ⟨_, .head _, in_unit _ _ _ _ i1 ⟨Nat.le_add_right _ _, ?_⟩ ⟨Nat.zero_le _, ?_⟩⟩
  · simp only [List.mem_cons, List.not_mem_nil, or_false]
    rintro p (rfl | rfl)
    · exact q_holds m c hh hg hw t 256 (by omega) _ _
    · exact q_holds m c hh hg hw t 0 (by omega) _ _
  · show 256 + r.val < 256 + 256; omega
  · show q + d.val < 0 + 1024; omega

/-- Four tiles side by side cover their rows. -/
theorem four (o : ℕ) {L : List (View.Piece (Elt Ideal) S512x1024 .bf16)} {i : Fin 512} {j : Fin 1024} (h : o ≤ i.val ∧ i.val < o + 256)
    (inb : ∀ q, q + 256 ≤ 1024 → ∀ x, (![o, q] : Fin 2 → ℕ) x + (![256, 256] : Fin 2 → ℕ) x ≤ S512x1024.size x)
    (h0 : ∃ x : S256x256.Idx → Elt Ideal .bf16, ⟨Rect.unit (s := S512x1024) ![o, 0] ![256, 256] (inb 0 (by omega)), x⟩ ∈ L)
    (h1 : ∃ x : S256x256.Idx → Elt Ideal .bf16, ⟨Rect.unit (s := S512x1024) ![o, 256] ![256, 256] (inb 256 (by omega)), x⟩ ∈ L)
    (h2 : ∃ x : S256x256.Idx → Elt Ideal .bf16, ⟨Rect.unit (s := S512x1024) ![o, 512] ![256, 256] (inb 512 (by omega)), x⟩ ∈ L)
    (h3 : ∃ x : S256x256.Idx → Elt Ideal .bf16, ⟨Rect.unit (s := S512x1024) ![o, 768] ![256, 256] (inb 768 (by omega)), x⟩ ∈ L) :
    ∃ p ∈ L, (ix2 i j : S512x1024.Idx) ∈ p.1.set := by
  obtain ⟨x0, m0⟩ := h0
  obtain ⟨x1, m1⟩ := h1
  obtain ⟨x2, m2⟩ := h2
  obtain ⟨x3, m3⟩ := h3
  rcases Nat.lt_or_ge j.val 256 with l | l
  · exact ⟨_, m0, in_unit o 0 256 256 (inb 0 (by omega)) h ⟨Nat.zero_le _, by omega⟩⟩
  rcases Nat.lt_or_ge j.val 512 with l' | l'
  · exact ⟨_, m1, in_unit o 256 256 256 (inb 256 (by omega)) h ⟨l, by omega⟩⟩
  rcases Nat.lt_or_ge j.val 768 with l'' | l''
  · exact ⟨_, m2, in_unit o 512 256 256 (inb 512 (by omega)) h ⟨l', by omega⟩⟩
  · exact ⟨_, m3, in_unit o 768 256 256 (inb 768 (by omega)) h ⟨l'', by omega⟩⟩

set_option maxHeartbeats 1000000 in
include hh hg hw hk rg rw' rk in
theorem point9 (t : Fin cfg0.N) (i : Fin 512) (j : Fin 1024) : (outsAt0 m c t).2.2.2 (ix2 i j) = out h g w kv (row (pt t) i) j := by
  unfold outsAt0
  frame_out
  simp only [pay14_eq, pay1_eq, pay20_eq, pay19_eq, pay15_eq, pay11_eq, pay10_eq, pay6_eq]
  refine View.canon_apply_of_pieces (GO h g w kv (pt t)) _ ?_ (ix2 i j) (View.cover_of_tiledL (s := S512x1024) _ S256x256.size (by sl_kernel_rfl) _)
  simp only [List.mem_cons, List.not_mem_nil, or_false]
  rintro p (rfl | rfl | rfl | rfl | rfl | rfl | rfl | rfl)
  · exact o_holds m c hk rg rw' rk t 256 (by omega) 3 768 rfl _ _ _ (q_read1 m c hh hg hw t _ 768 (by omega) _ _ _ _ _)
  · exact o_holds m c hk rg rw' rk t 256 (by omega) 2 512 rfl _ _ _ (q_read1 m c hh hg hw t _ 512 (by omega) _ _ _ _ _)
  · exact o_holds m c hk rg rw' rk t 256 (by omega) 1 256 rfl _ _ _ (q_read1 m c hh hg hw t _ 256 (by omega) _ _ _ _ _)
  · exact o_holds m c hk rg rw' rk t 256 (by omega) 0 0 rfl _ _ _ (q_read1 m c hh hg hw t _ 0 (by omega) _ _ _ _ _)
  · exact o_holds m c hk rg rw' rk t 0 (by omega) 3 768 rfl _ _ _ (q_read0 m c hh hg hw t _ 768 (by omega) _ _ _)
  · exact o_holds m c hk rg rw' rk t 0 (by omega) 2 512 rfl _ _ _ (q_read0 m c hh hg hw t _ 512 (by omega) _ _ _)
  · exact o_holds m c hk rg rw' rk t 0 (by omega) 1 256 rfl _ _ _ (q_read0 m c hh hg hw t _ 256 (by omega) _ _ _)
  · exact o_holds m c hk rg rw' rk t 0 (by omega) 0 0 rfl _ _ _ (q_read0 m c hh hg hw t _ 0 (by omega) _ _ _)

set_option maxHeartbeats 2000000 in
include hh hg hw ho hk rg rw' rk in
theorem point6 (t : Fin cfg0.N) (i : Fin 512) (j : Fin 1024) : (outsAt0 m c t).1 (ix2 i j) = next h g w wo kv (row (pt t) i) j := by
  have inb : ∀ o, o + 256 ≤ 512 → ∀ q, q + 256 ≤ 1024 → ∀ x, (![o, q] : Fin 2 → ℕ) x + (![256, 256] : Fin 2 → ℕ) x ≤ S512x1024.size x := fun o ho q hq x =>
    match x with | 0 => ho | 1 => hq
  unfold outsAt0
  frame_out
  simp only [pay14_eq, pay1_eq, pay20_eq, pay19_eq, pay15_eq, pay11_eq, pay10_eq, pay6_eq, pay2_eq]
  refine View.canon_apply_of_pieces (GN h g w wo kv (pt t)) _ ?_ (ix2 i j) (View.cover_of_tiledL (s := S512x1024) _ S256x1024.size (by sl_kernel_rfl) _)
  simp only [List.mem_cons, List.not_mem_nil, or_false]
  rintro p (rfl | rfl)
  · refine n_holds m c hh ho t 256 (by omega) _ _ fun r k => read_back _ ?_ 256 0 256 1024 _ (by omega) (by omega) r k
      (View.cover_of_tiledL (s := S512x1024) _ S256x256.size (by sl_kernel_rfl) _)
    simp only [List.mem_cons, List.not_mem_nil, or_false]
    rintro p (rfl | rfl | rfl | rfl | rfl | rfl | rfl | rfl)
    · exact o_holds m c hk rg rw' rk t 256 (by omega) 3 768 rfl _ _ _ (q_read1 m c hh hg hw t _ 768 (by omega) _ _ _ _ _)
    · exact o_holds m c hk rg rw' rk t 256 (by omega) 2 512 rfl _ _ _ (q_read1 m c hh hg hw t _ 512 (by omega) _ _ _ _ _)
    · exact o_holds m c hk rg rw' rk t 256 (by omega) 1 256 rfl _ _ _ (q_read1 m c hh hg hw t _ 256 (by omega) _ _ _ _ _)
    · exact o_holds m c hk rg rw' rk t 256 (by omega) 0 0 rfl _ _ _ (q_read1 m c hh hg hw t _ 0 (by omega) _ _ _ _ _)
    · exact o_holds m c hk rg rw' rk t 0 (by omega) 3 768 rfl _ _ _ (q_read0 m c hh hg hw t _ 768 (by omega) _ _ _)
    · exact o_holds m c hk rg rw' rk t 0 (by omega) 2 512 rfl _ _ _ (q_read0 m c hh hg hw t _ 512 (by omega) _ _ _)
    · exact o_holds m c hk rg rw' rk t 0 (by omega) 1 256 rfl _ _ _ (q_read0 m c hh hg hw t _ 256 (by omega) _ _ _)
    · exact o_holds m c hk rg rw' rk t 0 (by omega) 0 0 rfl _ _ _ (q_read0 m c hh hg hw t _ 0 (by omega) _ _ _)
  · refine n_holds m c hh ho t 0 (by omega) _ _ fun r k => read_back _ ?_ 0 0 256 1024 _ (by omega) (by omega) r k
      (four 0 ⟨Nat.zero_le _, by show 0 + r.val < 0 + 256; omega⟩ (inb 0 (by omega)) ⟨_, .tail _ (.tail _ (.tail _ (.head _)))⟩ ⟨_, .tail _ (.tail _ (.head _))⟩
        ⟨_, .tail _ (.head _)⟩ ⟨_, .head _⟩)
    simp only [List.mem_cons, List.not_mem_nil, or_false]
    rintro p (rfl | rfl | rfl | rfl)
    · exact o_holds m c hk rg rw' rk t 0 (by omega) 3 768 rfl _ _ _ (q_read0 m c hh hg hw t _ 768 (by omega) _ _ _)
    · exact o_holds m c hk rg rw' rk t 0 (by omega) 2 512 rfl _ _ _ (q_read0 m c hh hg hw t _ 512 (by omega) _ _ _)
    · exact o_holds m c hk rg rw' rk t 0 (by omega) 1 256 rfl _ _ _ (q_read0 m c hh hg hw t _ 256 (by omega) _ _ _)
    · exact o_holds m c hk rg rw' rk t 0 (by omega) 0 0 rfl _ _ _ (q_read0 m c hh hg hw t _ 0 (by omega) _ _ _)

/-! ## The result arrays -/

include hh hg hw ho hk rg rw' rk in
theorem final6 : (dats m 0 c).arrAt 6 cfg0.N = fun j : S8192x1024.Idx => next h g w wo kv (j 0) (j 1) := by
  refine (dats m 0 c).arrAt_eq_of_covers 6 _ (by decide +kernel) fun t _ y => ?_
  blk_simp
  rw [after0_6]
  obtain ⟨i, j, rfl⟩ : ∃ i j, y = ix2 i j := ⟨y 0, y 1, eq_ix2 y⟩
  have e : (win0_6.blk t).view.emb (ix2 i j) = ix2 (row (pt t) i) j := by
    blk_ext [(idx t).2.2.2.2.2.2.1]
    all_goals rfl
  rw [e]
  exact point6 m c hh hg hw ho hk rg rw' rk t i j
include hh hg in
theorem final7 : (dats m 0 c).arrAt 7 cfg0.N = fun j : S8192x1024.Idx => normed h g (j 0) (j 1) := by
  refine (dats m 0 c).arrAt_eq_of_covers 7 _ (by decide +kernel) fun t _ y => ?_
  blk_simp
  rw [after0_7]
  obtain ⟨i, j, rfl⟩ : ∃ i j, y = ix2 i j := ⟨y 0, y 1, eq_ix2 y⟩
  have e : (win0_7.blk t).view.emb (ix2 i j) = ix2 (row (pt t) i) j := by
    blk_ext [(idx t).2.2.2.2.2.2.2.1]
    all_goals rfl
  rw [e]
  exact point7 m c hh hg t i j
include hh hg hw in
theorem final8 : (dats m 0 c).arrAt 8 cfg0.N = fun j : S8192x1024.Idx => quer h g w (j 0) (j 1) := by
  refine (dats m 0 c).arrAt_eq_of_covers 8 _ (by decide +kernel) fun t _ y => ?_
  blk_simp
  rw [after0_8]
  obtain ⟨i, j, rfl⟩ : ∃ i j, y = ix2 i j := ⟨y 0, y 1, eq_ix2 y⟩
  have e : (win0_8.blk t).view.emb (ix2 i j) = ix2 (row (pt t) i) j := by
    blk_ext [(idx t).2.2.2.2.2.2.2.2.1]
    all_goals rfl
  rw [e]
  exact point8 m c hh hg hw t i j
include hh hg hw hk rg rw' rk in
theorem final9 : (dats m 0 c).arrAt 9 cfg0.N = fun j : S8192x1024.Idx => out h g w kv (j 0) (j 1) := by
  refine (dats m 0 c).arrAt_eq_of_covers 9 _ (by decide +kernel) fun t _ y => ?_
  blk_simp
  rw [after0_9]
  obtain ⟨i, j, rfl⟩ : ∃ i j, y = ix2 i j := ⟨y 0, y 1, eq_ix2 y⟩
  have e : (win0_9.blk t).view.emb (ix2 i j) = ix2 (row (pt t) i) j := by
    blk_ext [(idx t).2.2.2.2.2.2.2.2.2]
    all_goals rfl
  rw [e]
  exact point9 m c hh hg hw hk rg rw' rk t i j
end Cert.CrossFwdIdeal.Math
end
end
-- ==== Proof.CrossFwdClaim.lean ====
/- The claims about the memory attention's forward call, with the norm before it and the projection after it. -/
module

public import proofs.«01_k».proof.Defs
public import proofs.«01_k».proof.Proof.CrossFwdValue
public import proofs.«01_k».proof.Proof.Gen.CrossFwd.Frame
public import proofs.«01_k».proof.Proof.Gen.CrossFwdRefIdeal.Run
public import Idealize.ShloMosaic.Lib.Quiescent

set_option maxRecDepth 16384

@[expose] public section
noncomputable section

open Idealize.ShloMosaic Idealize.ShloMosaic.TcCoe Idealize.SL.Sem Cert.RealLift

namespace Cert.CrossFwdClaim

/-- The side conditions of the precondition. -/
theorem preFacts : Cert.Pre_cross_fwd_finite.Facts where
  bcast_S_S1024 := by decide
  bcast_S_S1024x1024 := by decide
  slices_S256x2048_S256x1024_0_0 := by decide
  bcast_S_S256x1024 := by decide

/-- The reference runs and leaves its arguments as they were. -/
theorem refFrame : Cert.quiescent_CrossFwdRefIdeal (hCrossFwdRefIdeal := Cert.CrossFwdRefIdeal.Gen.facts) :=
  fun m ρ _ => (θ_run Cert.CrossFwdRefIdeal.defs _ _).mono
    (fun r h => ⟨fun c => (h c).2.2.2.2, Idealize.ShloMosaic.sem_eq_zero_of_no_sems (by decide) r.2⟩)
    (Cert.CrossFwdRefIdeal.Value.run (F := Ideal) m ρ)

/-- The precondition makes the gain, the query weights and the keys arrays of real numbers. -/
theorem reals (m : (ℓ : Loc Cert.CrossFwdIdeal.nD Cert.CrossFwdIdeal.τ Cert.CrossFwdIdeal.sig) → Buf (Elt Ideal) ℓ)
    (h : Cert.Pre_CrossFwdIdeal_cross_fwd_finite (hPre_cross_fwd_finite := preFacts) m) (c : Dev Cert.CrossFwdIdeal.nD) :
    (∀ k : Fin 1024, ∃ y : ℝ, m ((c : Thread Cert.CrossFwdIdeal.nD Cert.CrossFwdIdeal.τ).loc Cert.CrossFwdIdeal.main_arg1) (ix1 k) = (y : EReal))
    ∧ (∀ (r k : Fin 1024), ∃ y : ℝ, m ((c : Thread Cert.CrossFwdIdeal.nD Cert.CrossFwdIdeal.τ).loc Cert.CrossFwdIdeal.main_arg2) (ix2 r k) = (y : EReal))
    ∧ ∀ (r : Fin 256) (k : Fin 2048), k.val < 1024 → ∃ y : ℝ, m ((c : Thread Cert.CrossFwdIdeal.nD Cert.CrossFwdIdeal.τ).loc Cert.CrossFwdIdeal.main_arg4) (ix2 r k) = (y : EReal) := by
  obtain ⟨h0, h1, h2⟩ := h c
  refine ⟨fun k => exists_coe_of_cmp (congrFun h0 (ix1 k)), fun r k => exists_coe_of_cmp (congrFun h1 (ix2 r k)), fun r k hk => ?_⟩
  obtain ⟨y, hy⟩ := exists_coe_of_cmp (congrFun h2 (ix2 r ⟨k.val, hk⟩))
  refine ⟨y, Eq.trans ?_ hy⟩
  exact (extractStridedSlice_apply (s := Cert.Pre_cross_fwd_finite.S256x2048) _ _ _ _ _ fun a => match a with
    | 0 => (Nat.zero_add _).symm
    | 1 => (Nat.zero_add _).symm).symm

set_option maxHeartbeats 4000000 in
/-- Kernel and reference end with the same four arrays. -/
theorem algebraic : Cert.algebraic_CrossFwdIdeal_CrossFwdRefIdeal_pre_cross_fwd_finite (hCrossFwdIdeal := Cert.CrossFwdIdeal.Gen.facts)
    (hCrossFwdRefIdeal := Cert.CrossFwdRefIdeal.Gen.facts) (hPre_cross_fwd_finite := preFacts) := by
  pair_intro
  · run_from Cert.CrossFwdIdeal.Gen.run_main m g
    all_goals
      simp only [Cert.CrossFwdIdeal.Gen.hostOps0]
      after_results_simp <;> rfl
  · run_from Cert.CrossFwdRefIdeal.Value.run m' g'
    all_goals
      obtain ⟨e1, e2, e4⟩ := reals m hpre c
      obtain ⟨h, hh⟩ : ∃ h : Fin 8192 → Fin 1024 → EReal, ∀ r k, m ((c : Thread Cert.CrossFwdIdeal.nD Cert.CrossFwdIdeal.τ).loc Cert.CrossFwdIdeal.main_arg0) (ix2 r k) = h r k := ⟨_, fun r k => rfl⟩
      obtain ⟨s, hs⟩ : ∃ s : Fin 1024 → EReal, ∀ k, m ((c : Thread Cert.CrossFwdIdeal.nD Cert.CrossFwdIdeal.τ).loc Cert.CrossFwdIdeal.main_arg1) (ix1 k) = s k := ⟨_, fun k => rfl⟩
      obtain ⟨w, hw⟩ : ∃ w : Fin 1024 → Fin 1024 → EReal, ∀ r k, m ((c : Thread Cert.CrossFwdIdeal.nD Cert.CrossFwdIdeal.τ).loc Cert.CrossFwdIdeal.main_arg2) (ix2 r k) = w r k := ⟨_, fun r k => rfl⟩
      obtain ⟨o, ho⟩ : ∃ o : Fin 1024 → Fin 1024 → EReal, ∀ r k, m ((c : Thread Cert.CrossFwdIdeal.nD Cert.CrossFwdIdeal.τ).loc Cert.CrossFwdIdeal.main_arg3) (ix2 r k) = o r k := ⟨_, fun r k => rfl⟩
      obtain ⟨v, hv⟩ : ∃ v : Fin 256 → Fin 2048 → EReal, ∀ r k, m ((c : Thread Cert.CrossFwdIdeal.nD Cert.CrossFwdIdeal.τ).loc Cert.CrossFwdIdeal.main_arg4) (ix2 r k) = v r k := ⟨_, fun r k => rfl⟩
      simp only [hs] at e1
      simp only [hw] at e2
      simp only [hv] at e4
    · rw [Cert.CrossFwdIdeal.Math.final6 m c hh hs hw ho hv e1 e2 e4, Cert.CrossFwdRefIdeal.Read.val_main_v37_eq]
      funext j
      obtain ⟨i, k, rfl⟩ : ∃ i k, j = ix2 i k := ⟨j 0, j 1, eq_ix2 j⟩
      try rw [(hagree c).1, (hagree c).2.1, (hagree c).2.2.1, (hagree c).2.2.2.1, (hagree c).2.2.2.2]
      exact Cert.CrossFwdRefIdeal.Math.v37 hh hs hw ho hv e1 e2 e4 i k
    · rw [Cert.CrossFwdIdeal.Math.final7 m c hh hs, Cert.CrossFwdRefIdeal.Read.val_main_v38_eq]
      funext j
      obtain ⟨i, k, rfl⟩ : ∃ i k, j = ix2 i k := ⟨j 0, j 1, eq_ix2 j⟩
      try rw [(hagree c).1, (hagree c).2.1]
      exact Cert.CrossFwdRefIdeal.Math.v38 hh hs i k
    · rw [Cert.CrossFwdIdeal.Math.final8 m c hh hs hw, Cert.CrossFwdRefIdeal.Read.val_main_v39_eq]
      funext j
      obtain ⟨i, k, rfl⟩ : ∃ i k, j = ix2 i k := ⟨j 0, j 1, eq_ix2 j⟩
      try rw [(hagree c).1, (hagree c).2.1, (hagree c).2.2.1]
      exact Cert.CrossFwdRefIdeal.Math.v39 hh hs hw i k
    · rw [Cert.CrossFwdIdeal.Math.final9 m c hh hs hw hv e1 e2 e4, Cert.CrossFwdRefIdeal.Read.val_main_v40_eq]
      funext j
      obtain ⟨i, k, rfl⟩ : ∃ i k, j = ix2 i k := ⟨j 0, j 1, eq_ix2 j⟩
      try rw [(hagree c).1, (hagree c).2.1, (hagree c).2.2.1, (hagree c).2.2.2.2]
      exact Cert.CrossFwdRefIdeal.Math.v40 hh hs hw hv e1 e2 e4 i k

end Cert.CrossFwdClaim

end
end
-- ==== Proof.FfnFwdRef.lean ====
/- The reference's feed-forward layer with its norm, entry by entry. -/
module

public import proofs.«01_k».proof.Proof.Gen.FfnFwdRefIdeal.Read
public import proofs.«01_k».proof.Proof.FfnMath
public import Idealize.ShloMosaic.Lib.Pointwise
public import Idealize.ShloMosaic.Lib.Claim

set_option maxRecDepth 16384
@[expose] public section
noncomputable section
open Idealize.ShloMosaic Idealize.ShloMosaic.TcCoe Idealize.SL.Sem Cert.NormMath Cert.FfnMath
namespace Cert.FfnFwd.Math
variable (h : Fin 8192 → Fin 1024 → EReal) (g : Fin 1024 → EReal) (w : Fin 1024 → Fin 5632 → EReal) (v : Fin 2816 → Fin 1024 → EReal)
/-- The gated array. -/
def act (r : Fin 8192) (k : Fin 2816) : EReal := gu h g w r (lo k) * logi (gu h g w r (lo k)) * gu h g w r (hi k)
/-- The next residual. -/
def next (r : Fin 8192) (k : Fin 1024) : EReal := h r k + Ideal.ofBits .f32 0x3F000000#32 * ∑ j, act h g w r j * v j k
end Cert.FfnFwd.Math
namespace Cert.FfnFwdRefIdeal.Math
open Cert.FfnFwdRefIdeal Cert.FfnFwdRefIdeal.Gen Cert.FfnFwdRefIdeal.Read Cert.FfnFwd.Math

variable {x0 : (⟨S8192x1024, .f32⟩ : BufTy).Contents (Elt Ideal)} {x1 : (⟨S1024, .f32⟩ : BufTy).Contents (Elt Ideal)}
  {x2 : (⟨S1024x5632, .f32⟩ : BufTy).Contents (Elt Ideal)} {x3 : (⟨S2816x1024, .f32⟩ : BufTy).Contents (Elt Ideal)}
  {h : Fin 8192 → Fin 1024 → EReal} {g : Fin 1024 → EReal} {w : Fin 1024 → Fin 5632 → EReal} {v : Fin 2816 → Fin 1024 → EReal}
  (hh : ∀ r k, x0 (ix2 r k) = h r k) (hg : ∀ k, x1 (ix1 k) = g k) (hw : ∀ k j, x2 (ix2 k j) = w k j) (hv : ∀ k j, x3 (ix2 k j) = v k j)
  (r : Fin 8192)

include hh in
theorem v7 : val_main_v7 (F := Ideal) x0 (ix2 r 0) = rstd (h r) := by
  unfold val_main_v7 val_main_v6 val_main_v4 val_main_v2 val_main_v1 val_main_v0 val_main_v3 val_main_v5
  pointwise [val_main_cst, val_main_cst_0, val_main_cst_1]
  simp only [hh]
  rfl
include hh hg in
theorem v12 (k : Fin 1024) : val_main_v12 (F := Ideal) x0 x1 (ix2 r k) = normed h g r k := by
  have a := v7 hh r
  unfold val_main_v12 val_main_v11 val_main_v10 val_main_v9 val_main_v8
  generalize val_main_v7 x0 = p at *
  pointwise
  simp only [a, hh, hg]
  rfl
include hh hg hw in
theorem v13 (k : Fin 5632) : val_main_v13 (F := Ideal) x0 x1 x2 (ix2 r k) = gu h g w r k := by
  have a := v12 hh hg r
  unfold val_main_v13
  generalize val_main_v12 x0 x1 = p at *
  pointwise
  simp only [a, hw]
  rfl
include hh hg hw in
theorem v14 (k : Fin 2816) : val_main_v14 (F := Ideal) x0 x1 x2 (ix2 r k) = gu h g w r (lo k) := by
  have b := v13 hh hg hw r (lo k)
  unfold val_main_v14
  generalize val_main_v13 x0 x1 x2 = q at *
  pointwise
  exact b
include hh hg hw in
theorem v15 (k : Fin 2816) : val_main_v15 (F := Ideal) x0 x1 x2 (ix2 r k) = gu h g w r (hi k) := by
  have b := v13 hh hg hw r (hi k)
  unfold val_main_v15
  generalize val_main_v13 x0 x1 x2 = q at *
  pointwise
  exact b
include hh hg hw in
theorem v17 (k : Fin 2816) : val_main_v17 (F := Ideal) x0 x1 x2 (ix2 r k) = act h g w r k := by
  have a := v14 hh hg hw r k
  have b := v15 hh hg hw r k
  unfold val_main_v17 val_main_v16 val_main_call0_v5 val_main_call0_v4 val_main_call0_v3 val_main_call0_v2 val_main_call0_v1 val_main_call0_v0
  generalize val_main_v14 x0 x1 x2 = p at *
  generalize val_main_v15 x0 x1 x2 = q at *
  pointwise [val_main_call0_cst, val_main_call0_cst_0]
  rw [a, b]; rfl
include hh hg hw hv in
theorem v21 (k : Fin 1024) : val_main_v21 (F := Ideal) x0 x1 x2 x3 (ix2 r k) = next h g w v r k := by
  have a := v17 hh hg hw r
  unfold val_main_v21 val_main_v20 val_main_v19 val_main_v18
  generalize val_main_v17 x0 x1 x2 = p at *
  pointwise [val_main_cst_2]
  simp only [a, hh, hv]
  rfl
include hh hg in
theorem v22 (k : Fin 1024) : val_main_v22 (F := Ideal) x0 x1 (ix2 r k) = normed h g r k := v12 hh hg r k
include hh hg hw in
theorem v23 (k : Fin 2816) : val_main_v23 (F := Ideal) x0 x1 x2 (ix2 r k) = gu h g w r (lo k) := v14 hh hg hw r k
include hh hg hw in
theorem v24 (k : Fin 2816) : val_main_v24 (F := Ideal) x0 x1 x2 (ix2 r k) = gu h g w r (hi k) := v15 hh hg hw r k
include hh hg hw in
theorem v25 (k : Fin 2816) : val_main_v25 (F := Ideal) x0 x1 x2 (ix2 r k) = act h g w r k := v17 hh hg hw r k
end Cert.FfnFwdRefIdeal.Math
end
end
-- ==== Proof.Rows.lean ====
/- Reading and writing rectangles of a block of two axes. -/
module

public import Idealize.ShloMosaic.Lib.Claim
public import Idealize.ShloMosaic.Lib.Pointwise
public import Idealize.ShloMosaic.Lib.Pipeline.ValueKit
public import Idealize.ShloMosaic.Lib.Pipeline.ReadBack

@[expose] public section
noncomputable section
open Idealize.ShloMosaic Idealize.ShloMosaic.TcCoe Idealize.SL.Sem
namespace Cert.Rows

variable {A B : ℕ} {e : EltTy}

/-- A stored piece that holds the values of `G` at the places it is stored to. -/
abbrev Holds (G : (⟨2, ![A, B]⟩ : Shape).Idx → Elt Ideal e) (p : View.Piece (Elt Ideal) ⟨2, ![A, B]⟩ e) : Prop := ∀ x, p.2 x = G (p.1.emb x)

theorem at_unit (o q a b : ℕ) (inb : ∀ x, (![o, q] : Fin 2 → ℕ) x + (![a, b] : Fin 2 → ℕ) x ≤ (⟨2, ![A, B]⟩ : Shape).size x) (h0 : o + a ≤ A) (h1 : q + b ≤ B)
    (r : Fin a) (k : Fin b) : (Rect.unit (s := ⟨2, ![A, B]⟩) ![o, q] ![a, b] inb).emb (ix2 r k) = ix2 ⟨o + r.val, by omega⟩ ⟨q + k.val, by omega⟩ :=
  funext fun x => match x with
    | 0 => Fin.ext (by show o + 1 * r.val = o + r.val; omega)
    | 1 => Fin.ext (by show q + 1 * k.val = q + k.val; omega)

theorem in_unit (o q a b : ℕ) (inb : ∀ x, (![o, q] : Fin 2 → ℕ) x + (![a, b] : Fin 2 → ℕ) x ≤ (⟨2, ![A, B]⟩ : Shape).size x) {i : Fin A} {j : Fin B}
    (h : o ≤ i.val ∧ i.val < o + a) (h' : q ≤ j.val ∧ j.val < q + b) : ix2 i j ∈ (Rect.unit (s := ⟨2, ![A, B]⟩) ![o, q] ![a, b] inb).set :=
  Rect.mem_set_unit.mpr fun x => match x with
    | 0 => h
    | 1 => h'

/-- Reading back, from pieces that hold `G`, a rectangle they cover. -/
theorem read_back {G : (⟨2, ![A, B]⟩ : Shape).Idx → Elt Ideal e} {L : List (View.Piece (Elt Ideal) ⟨2, ![A, B]⟩ e)} {sp : Space} {sig : RefSig}
    (v : View sig .tc sp ⟨2, ![A, B]⟩ e) (hL : ∀ p ∈ L, Holds G p) (o q a b : ℕ)
    (inb : ∀ x, (![o, q] : Fin 2 → ℕ) x + (![a, b] : Fin 2 → ℕ) x ≤ (⟨2, ![A, B]⟩ : Shape).size x) (h0 : o + a ≤ A) (h1 : q + b ≤ B) (r : Fin a) (k : Fin b)
    (hc : ∃ p ∈ L, (ix2 ⟨o + r.val, by omega⟩ ⟨q + k.val, by omega⟩ : (⟨2, ![A, B]⟩ : Shape).Idx) ∈ p.1.set) :
    v.readCov L (Rect.unit (s := ⟨2, ![A, B]⟩) ![o, q] ![a, b] inb).toLoadRect (ix2 r k) = G (ix2 ⟨o + r.val, by omega⟩ ⟨q + k.val, by omega⟩) := by
  rw [View.readCov_eq_canon']
  exact (congrArg (View.canon L) (at_unit o q a b inb h0 h1 r k)).trans (View.canon_apply_of_pieces G L hL _ hc)

/-- Reading a rectangle of a block. -/
theorem ld_at (X : (⟨2, ![A, B]⟩ : Shape).Idx → Elt Ideal e) (o q a b : ℕ) (h0 : o + a ≤ A) (h1 : q + b ≤ B)
    (inb : ∀ x, (![o, q] : Fin 2 → ℕ) x + (![a, b] : Fin 2 → ℕ) x ≤ (⟨2, ![A, B]⟩ : Shape).size x) (r : Fin a) (k : Fin b) :
    View.ld X (Rect.unit ![o, q] ![a, b] inb) (ix2 r k) = X (ix2 ⟨o + r.val, by omega⟩ ⟨q + k.val, by omega⟩) :=
  View.ld_unit_apply_of X _ _ inb _ _ (fun a => match a with | 0 => rfl | 1 => rfl)

/-- A piece as wide as the block, rows `o` to `o + a`, that holds the rows of `f`. -/
theorem holds_rows {f : Fin A → Fin B → Elt Ideal e} {o a : ℕ} (h0 : o + a ≤ A)
    (inb : ∀ x, (![o, 0] : Fin 2 → ℕ) x + (![a, B] : Fin 2 → ℕ) x ≤ (⟨2, ![A, B]⟩ : Shape).size x) {p : (⟨2, ![a, B]⟩ : Shape).Idx → Elt Ideal e}
    (h : ∀ (r : Fin a) (k : Fin B), p (ix2 r k) = f ⟨o + r.val, by omega⟩ k) :
    Holds (A := A) (B := B) (fun y : (⟨2, ![A, B]⟩ : Shape).Idx => f (y 0) (y 1)) (⟨Rect.unit (s := ⟨2, ![A, B]⟩) ![o, 0] ![a, B] inb, p⟩ : View.Piece (Elt Ideal) ⟨2, ![A, B]⟩ e) := fun x => by
  obtain ⟨r, k, rfl⟩ : ∃ (r : Fin a) (k : Fin B), x = ix2 r k := ⟨x 0, x 1, eq_ix2 x⟩
  rw [at_unit o 0 a B inb h0 (by omega) r k]
  exact (h r k).trans (congrArg (f _) (Fin.ext (Nat.zero_add k.val).symm))
/-- Reading the rows `o` to `o + a`. -/
theorem ld_rows (X : (⟨2, ![A, B]⟩ : Shape).Idx → Elt Ideal e) (o a : ℕ) (h0 : o + a ≤ A)
    (inb : ∀ x, (![o, 0] : Fin 2 → ℕ) x + (![a, B] : Fin 2 → ℕ) x ≤ (⟨2, ![A, B]⟩ : Shape).size x) (r : Fin a) (k : Fin B) :
    View.ld X (Rect.unit ![o, 0] ![a, B] inb) (ix2 r k) = X (ix2 ⟨o + r.val, by omega⟩ k) :=
  (ld_at X o 0 a B h0 (by omega) inb r k).trans (congrArg (fun k => X (ix2 _ k)) (Fin.ext (Nat.zero_add k.val)))
end Cert.Rows
end
end
-- ==== Proof.FfnFwdValue.lean ====
/- What the feed-forward layer leaves in its five result arrays, entry by entry. -/
module

public import proofs.«01_k».proof.Proof.Gen.FfnFwdIdeal.Value
public import proofs.«01_k».proof.Proof.FfnFwdRef
public import proofs.«01_k».proof.Proof.Rows
public import Idealize.ShloMosaic.Lib.StableHlo.ReadAt
set_option maxRecDepth 16384
@[expose] public section
noncomputable section
open Idealize.ShloMosaic Idealize.ShloMosaic.TcCoe Idealize.SL.Sem
open Cert.FfnFwdIdeal Cert.FfnFwdIdeal.Gen Cert.NormMath Cert.FfnMath Cert.FfnFwd.Math Cert.Rows
namespace Cert.FfnFwdIdeal.Math

/-! ## Payloads -/

section
variable (x : Vec Ideal S256x1024 .f32) (g : Vec Ideal S1x1024 .f32) (w u : Vec Ideal S1x1024x1408 .bf16) (r : Fin 256) (k : Fin 1024) (j : Fin 1408)

theorem pay2 : k0_pay2 x g (ix2 r k) = x (ix2 r k) * rstd (fun k : Fin 1024 => x (ix2 r k)) * g (ix2 0 k) := by
  pointwise [k0_pay2]
  rfl
theorem pay10 (p : FVec Ideal S256x1024 .bf16) : k0_pay10 p w (ix2 r j) = ∑ k : Fin 1024, p (ix2 r k) * w (ix3 0 k j) := by
  pointwise [k0_pay10]
theorem pay3 : k0_pay3 x g w = k0_pay10 (k0_pay2 x g) w := rfl
theorem pay4 : k0_pay4 x g w = k0_pay10 (k0_pay2 x g) w := rfl
theorem pay5 : k0_pay5 x g w = k0_pay10 (k0_pay2 x g) w := rfl
theorem pay6 : k0_pay6 x g w = k0_pay10 (k0_pay2 x g) w := rfl
theorem pay12 (p : FVec Ideal S256x1024 .bf16) : k0_pay12 p w = k0_pay10 p w := rfl
theorem pay13 (p : FVec Ideal S256x1024 .bf16) : k0_pay13 p w = k0_pay10 p w := rfl
theorem pay14 (p : FVec Ideal S256x1024 .bf16) : k0_pay14 p w u (ix2 r j)
    = k0_pay10 p w (ix2 r j) * logi (k0_pay10 p w (ix2 r j)) * k0_pay10 p u (ix2 r j) := by
  unfold k0_pay14
  rw [show k0_pay11 p u = k0_pay10 p u from rfl]
  generalize k0_pay10 p w = a
  generalize k0_pay10 p u = b
  pointwise
  rw [zero_sub]
  rfl
theorem pay8 : k0_pay8 (k0_pay3 x g w) (k0_pay4 x g u) (k0_pay7 x g w) (Scalar.ofBits .f32 0x3F800000#32) = k0_pay14 (k0_pay2 x g) w u := rfl
theorem pay9 (v : Vec Ideal S1x1408x1024 .bf16) : k0_pay9 (k0_pay3 x g w) (k0_pay4 x g u) (k0_pay7 x g w) (Scalar.ofBits .f32 0x3F800000#32) v (ix2 r k)
    = ∑ j : Fin 1408, k0_pay14 (k0_pay2 x g) w u (ix2 r j) * v (ix3 0 j k) := by
  unfold k0_pay9
  rw [pay8]
  generalize k0_pay14 (k0_pay2 x g) w u = p
  pointwise
theorem pay1 (y : FVec Ideal S256x1024 .f32) (p : FVec Ideal S256x1408 .bf16) (v : Vec Ideal S1x1408x1024 .bf16) : k0_pay1 x y p v (ix2 r k)
    = x (ix2 r k) + Ideal.ofBits .f32 0x3F000000#32 * (y (ix2 r k) + ∑ j : Fin 1408, p (ix2 r j) * v (ix3 0 j k)) := by
  pointwise [k0_pay1]
end

/-! ## The arrays and their blocks -/

theorem idx : ∀ t : Fin cfg0.N, win0_0.index t = ![t.val, 0] ∧ win0_1.index t = ![0, 0] ∧ win0_2.index t = ![0, 0, 0] ∧ win0_3.index t = ![0, 0, 0]
    ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)
/-- The array's row that is row `i` of block `t`. -/
def row (t : Fin 32) (i : Fin 256) : Fin 8192 := ⟨t.val * 256 + i.val, by omega⟩
/-- A grid point's block of rows. -/
def pt (t : Fin cfg0.N) : Fin 32 := ⟨t.val, t.isLt.trans_eq N_0⟩

variable (m : (ℓ : Loc nD τ sig) → Buf (Elt Ideal) ℓ) (c : Dev nD)
variable {h : Fin 8192 → Fin 1024 → EReal} {g : Fin 1024 → EReal} {w : Fin 1024 → Fin 5632 → EReal} {v : Fin 2816 → Fin 1024 → EReal}
variable (hh : ∀ r k, m ((c : Thread nD τ).loc main_arg0) (ix2 r k) = h r k) (hg : ∀ k, m ((c : Thread nD τ).loc main_arg1) (ix1 k) = g k)
  (hw : ∀ k j, m ((c : Thread nD τ).loc main_arg2) (ix2 k j) = w k j) (hv : ∀ k j, m ((c : Thread nD τ).loc main_arg3) (ix2 k j) = v k j)

include hh in
theorem kept0 (r : Fin 8192) (k : Fin 1024) : V m c main_arg0 (ix2 r k) = h r k := by
  refine Eq.trans ?_ (hh _ _)
  simp only [V, hostOps0]
  after_results_simp
include hg in
theorem v0 (k : Fin 1024) : V m c (Pipeline.arrRef spec0 1) (ix2 0 k) = g k := by
  refine Eq.trans ?_ (hg _)
  simp only [V, hostOps0]
  after_results_simp
  generalize m _ = x
  pointwise
include hw in
theorem v2 (r : Fin 1024) (k : Fin 5632) : V m c (Pipeline.arrRef spec0 2) (ix3 0 r k) = w r k := by
  refine Eq.trans ?_ (hw _ _)
  simp only [V, hostOps0]
  after_results_simp
  generalize m _ = x
  pointwise
include hv in
theorem v3 (r : Fin 2816) (k : Fin 1024) : V m c (Pipeline.arrRef spec0 3) (ix3 0 r k) = v r k := by
  refine Eq.trans ?_ (hv _ _)
  simp only [V, hostOps0]
  after_results_simp
  generalize m _ = x
  pointwise

include hh in
theorem blk0 (t : Fin cfg0.N) (i : Fin 256) (k : Fin 1024) : iblk m c 0 t (ix2 i k) = h (row (pt t) i) k := by
  refine Eq.trans ?_ (kept0 m c hh _ _)
  blk_point [iblk, V, (idx t).1]
  rfl
include hg in
theorem blk1 (t : Fin cfg0.N) (k : Fin 1024) : iblk m c 1 t (ix2 0 k) = g k := by
  refine Eq.trans ?_ (v0 m c hg _)
  blk_point [iblk, V, (idx t).2.1]
include hw in
theorem blk2 (t : Fin cfg0.N) (r : Fin 1024) (k : Fin 5632) : iblk m c 2 t (ix3 0 r k) = w r k := by
  refine Eq.trans ?_ (v2 m c hw _ _)
  blk_point [iblk, V, (idx t).2.2.1]
include hv in
theorem blk3 (t : Fin cfg0.N) (r : Fin 2816) (k : Fin 1024) : iblk m c 3 t (ix3 0 r k) = v r k := by
  refine Eq.trans ?_ (v3 m c hv _ _)
  blk_point [iblk, V, (idx t).2.2.2.1]

/-- Reading columns from `o` on. -/
theorem ld_cols3 {a n b : ℕ} {e : EltTy} (X : (⟨3, ![1, a, b]⟩ : Shape).Idx → Elt Ideal e) (o : ℕ) (ho : o + n ≤ b)
    (inb : ∀ x, (![0, 0, o] : Fin 3 → ℕ) x + (![1, a, n] : Fin 3 → ℕ) x ≤ (⟨3, ![1, a, b]⟩ : Shape).size x) (r : Fin a) (k : Fin n) :
    View.ld X (Rect.unit ![0, 0, o] ![1, a, n] inb) (ix3 0 r k) = X (ix3 0 r ⟨o + k.val, by omega⟩) :=
  View.ld_unit_apply_of X _ _ inb _ _ (fun a => match a with | 0 => rfl | 1 => (Nat.zero_add _).symm | 2 => rfl)
/-- Reading rows from `o` on. -/
theorem ld_rows3 {a n b : ℕ} {e : EltTy} (X : (⟨3, ![1, a, b]⟩ : Shape).Idx → Elt Ideal e) (o : ℕ) (ho : o + n ≤ a)
    (inb : ∀ x, (![0, o, 0] : Fin 3 → ℕ) x + (![1, n, b] : Fin 3 → ℕ) x ≤ (⟨3, ![1, a, b]⟩ : Shape).size x) (r : Fin n) (k : Fin b) :
    View.ld X (Rect.unit ![0, o, 0] ![1, n, b] inb) (ix3 0 r k) = X (ix3 0 ⟨o + r.val, by omega⟩ k) :=
  View.ld_unit_apply_of X _ _ inb _ _ (fun a => match a with | 0 => rfl | 1 => rfl | 2 => (Nat.zero_add _).symm)

section
variable (t : Fin cfg0.N) (o : ℕ) (ho : o + 1408 ≤ 2816)
include hv in
theorem ldv (ina : ∀ a, (![0, o, 0] : Fin 3 → ℕ) a + (![1, 1408, 1024] : Fin 3 → ℕ) a ≤ S1x2816x1024.size a) (r : Fin 1408) (k : Fin 1024) :
    View.ld (iblk m c 3 t) (Rect.unit ![0, o, 0] ![1, 1408, 1024] ina) (ix3 0 r k)
    = v ⟨o + r.val, by omega⟩ k := (ld_rows3 (iblk m c 3 t) o ho ina r k).trans (blk3 m c hv t _ _)
include hh hg in
theorem u_at (r : Fin 256) (k : Fin 1024) : k0_pay2 (F := Ideal) (iblk m c 0 t) (iblk m c 1 t) (ix2 r k) = normed h g (row (pt t) r) k := by
  have e := blk0 m c hh t r
  rw [pay2, blk1 m c hg]
  simp only [e]
  rfl
variable (inb : ∀ a, (![0, 0, o] : Fin 3 → ℕ) a + (![1, 1024, 1408] : Fin 3 → ℕ) a ≤ S1x1024x5632.size a)
include hh hg hw ho in
theorem lo_at (r : Fin 256) (j : Fin 1408) :
    k0_pay10 (F := Ideal) (k0_pay2 (iblk m c 0 t) (iblk m c 1 t)) (View.ld (iblk m c 2 t) (Rect.unit (s := S1x1024x5632) ![0, 0, o] ![1, 1024, 1408] inb)) (ix2 r j)
      = gu h g w (row (pt t) r) (lo ⟨o + j.val, by omega⟩) := by
  have b := fun k => (ld_cols3 (iblk m c 2 t) o (by omega) inb k j).trans (blk2 m c hw t _ _)
  rw [pay10]
  exact Finset.sum_congr rfl fun k _ => congrArg₂ (· * ·) (u_at m c hh hg t r k) (b k)
variable (o' : ℕ) (e : o' = 2816 + o) (ina : ∀ a, (![0, 0, o'] : Fin 3 → ℕ) a + (![1, 1024, 1408] : Fin 3 → ℕ) a ≤ S1x1024x5632.size a)
include hh hg hw ho e in
theorem hi_at (r : Fin 256) (j : Fin 1408) :
    k0_pay10 (F := Ideal) (k0_pay2 (iblk m c 0 t) (iblk m c 1 t)) (View.ld (iblk m c 2 t) (Rect.unit (s := S1x1024x5632) ![0, 0, o'] ![1, 1024, 1408] ina)) (ix2 r j)
      = gu h g w (row (pt t) r) (hi ⟨o + j.val, by omega⟩) := by
  have b : ∀ k, View.ld (iblk m c 2 t) (Rect.unit (s := S1x1024x5632) ![0, 0, o'] ![1, 1024, 1408] ina) (ix3 0 k j) = w k (hi ⟨o + j.val, by omega⟩) := fun k =>
    ((ld_cols3 (iblk m c 2 t) o' (by omega) ina k j).trans (blk2 m c hw t _ _)).trans (congrArg (w k) (Fin.ext (by show o' + j.val = 2816 + (o + j.val); omega)))
  rw [pay10]
  exact Finset.sum_congr rfl fun k _ => congrArg₂ (· * ·) (u_at m c hh hg t r k) (b k)
include hh hg hw ho e in
theorem act_at (r : Fin 256) (j : Fin 1408) :
    k0_pay14 (F := Ideal) (k0_pay2 (iblk m c 0 t) (iblk m c 1 t)) (View.ld (iblk m c 2 t) (Rect.unit (s := S1x1024x5632) ![0, 0, o] ![1, 1024, 1408] inb))
        (View.ld (iblk m c 2 t) (Rect.unit (s := S1x1024x5632) ![0, 0, o'] ![1, 1024, 1408] ina)) (ix2 r j)
      = act h g w (row (pt t) r) ⟨o + j.val, by omega⟩ := by
  rw [pay14, lo_at m c hh hg hw t o ho inb, hi_at m c hh hg hw t o ho o' e ina]
  rfl
end

/-- A sum over the columns in two halves. -/
theorem sum_two (f : Fin 2816 → EReal) : ∑ j : Fin 1408, f ⟨0 + j.val, by omega⟩ + ∑ j : Fin 1408, f ⟨1408 + j.val, by omega⟩ = ∑ j, f j :=
  (congrArg₂ (· + ·) (Finset.sum_congr rfl fun j _ => congrArg f (Fin.ext (Nat.zero_add _))) rfl).trans (Fin.sum_univ_add (a := 1408) (b := 1408) f).symm

/-- A piece as high as the block, columns `o` to `o + n`, that holds the columns of `f`. -/
theorem holds_cols {f : Fin 256 → Fin 2816 → Elt Ideal .bf16} {o : ℕ} (ho : o + 1408 ≤ 2816)
    (inb : ∀ x, (![0, o] : Fin 2 → ℕ) x + (![256, 1408] : Fin 2 → ℕ) x ≤ S256x2816.size x) {p : (⟨2, ![256, 1408]⟩ : Shape).Idx → Elt Ideal .bf16}
    (h : ∀ (r : Fin 256) (k : Fin 1408), p (ix2 r k) = f r ⟨o + k.val, by omega⟩) :
    Holds (A := 256) (B := 2816) (fun y : S256x2816.Idx => f (y 0) (y 1)) (⟨Rect.unit (s := S256x2816) ![0, o] ![256, 1408] inb, p⟩ : View.Piece (Elt Ideal) S256x2816 .bf16) := fun x => by
  obtain ⟨r, k, rfl⟩ : ∃ (r : Fin 256) (k : Fin 1408), x = ix2 r k := ⟨x 0, x 1, eq_ix2 x⟩
  rw [at_unit 0 o 256 1408 inb (by omega) ho r k]
  exact (h r k).trans (congrArg (f · _) (Fin.ext (Nat.zero_add r.val).symm))

variable (h g w) in
/-- What a grid point leaves of the gate, of the other factor and of the gated array. -/
abbrev GLo (t : Fin 32) : S256x2816.Idx → Elt Ideal .bf16 := fun y => gu h g w (row t (y 0)) (lo (y 1))
variable (h g w) in
abbrev GHi (t : Fin 32) : S256x2816.Idx → Elt Ideal .bf16 := fun y => gu h g w (row t (y 0)) (hi (y 1))
variable (h g w) in
abbrev GA (t : Fin 32) : S256x2816.Idx → Elt Ideal .bf16 := fun y => act h g w (row t (y 0)) (y 1)

/-! ## A grid point's results -/

include hh hg hw hv in
theorem point4 (t : Fin cfg0.N) (i : Fin 256) (j : Fin 1024) : (dats m 0 c).after 4 t (ix2 i j) = next h g w v (row (pt t) i) j := by
  rw [after0_4]
  unfold out0_4 k0_pay15 k0_pay16 k0_pay17 k0_pay18
  frame_out
  rw [pay1, pay9, blk0 m c hh]
  simp only [act_at m c hh hg hw t 0 (by omega) _ 2816 rfl _, act_at m c hh hg hw t 1408 (by omega) _ 4224 rfl _,
    ldv m c hv t 0 (by omega) _, ldv m c hv t 1408 (by omega) _]
  rw [sum_two fun k => act h g w (row (pt t) i) k * v k j]
  rfl
include hh hg in
theorem point5 (t : Fin cfg0.N) (i : Fin 256) (j : Fin 1024) : (dats m 0 c).after 5 t (ix2 i j) = normed h g (row (pt t) i) j := by
  rw [after0_5]
  unfold out0_5
  frame_out
  exact u_at m c hh hg t i j
include hh hg hw in
theorem point6 (t : Fin cfg0.N) (i : Fin 256) (j : Fin 2816) : (dats m 0 c).after 6 t (ix2 i j) = gu h g w (row (pt t) i) (lo j) := by
  rw [after0_6]
  unfold out0_6 k0_pay15
  frame_out
  simp only [pay5, pay12]
  refine View.canon_apply_of_pieces (GLo h g w (pt t)) _ ?_ (ix2 i j) (View.cover_of_tiledL (s := S256x2816) _ S256x1408.size (by sl_kernel_rfl) _)
  simp only [List.mem_cons, List.not_mem_nil, or_false]
  rintro p (rfl | rfl)
  · exact holds_cols (f := fun i j => gu h g w (row (pt t) i) (lo j)) (o := 1408) (by omega) _ (lo_at m c hh hg hw t 1408 (by omega) _)
  · exact holds_cols (f := fun i j => gu h g w (row (pt t) i) (lo j)) (o := 0) (by omega) _ (lo_at m c hh hg hw t 0 (by omega) _)
include hh hg hw in
theorem point7 (t : Fin cfg0.N) (i : Fin 256) (j : Fin 2816) : (dats m 0 c).after 7 t (ix2 i j) = gu h g w (row (pt t) i) (hi j) := by
  rw [after0_7]
  unfold out0_7 k0_pay15
  frame_out
  simp only [pay6, pay13]
  refine View.canon_apply_of_pieces (GHi h g w (pt t)) _ ?_ (ix2 i j) (View.cover_of_tiledL (s := S256x2816) _ S256x1408.size (by sl_kernel_rfl) _)
  simp only [List.mem_cons, List.not_mem_nil, or_false]
  rintro p (rfl | rfl)
  · exact holds_cols (f := fun i j => gu h g w (row (pt t) i) (hi j)) (o := 1408) (by omega) _ (hi_at m c hh hg hw t 1408 (by omega) 4224 rfl _)
  · exact holds_cols (f := fun i j => gu h g w (row (pt t) i) (hi j)) (o := 0) (by omega) _ (hi_at m c hh hg hw t 0 (by omega) 2816 rfl _)
include hh hg hw in
theorem point8 (t : Fin cfg0.N) (i : Fin 256) (j : Fin 2816) : (dats m 0 c).after 8 t (ix2 i j) = act h g w (row (pt t) i) j := by
  rw [after0_8]
  unfold out0_8 k0_pay15 k0_pay16 k0_pay17 k0_pay18
  frame_out
  rw [pay8]
  refine View.canon_apply_of_pieces (GA h g w (pt t)) _ ?_ (ix2 i j) (View.cover_of_tiledL (s := S256x2816) _ S256x1408.size (by sl_kernel_rfl) _)
  simp only [List.mem_cons, List.not_mem_nil, or_false]
  rintro p (rfl | rfl)
  · exact holds_cols (f := fun i j => act h g w (row (pt t) i) j) (o := 1408) (by omega) _ (act_at m c hh hg hw t 1408 (by omega) _ 4224 rfl _)
  · exact holds_cols (f := fun i j => act h g w (row (pt t) i) j) (o := 0) (by omega) _ (act_at m c hh hg hw t 0 (by omega) _ 2816 rfl _)

/-! ## The result arrays -/

include hh hg hw hv in
theorem final4 : (dats m 0 c).arrAt 4 cfg0.N = fun j : S8192x1024.Idx => next h g w v (j 0) (j 1) := by
  refine (dats m 0 c).arrAt_eq_of_covers 4 _ (by decide +kernel) fun t _ y => ?_
  blk_simp
  obtain ⟨i, j, rfl⟩ : ∃ i j, y = ix2 i j := ⟨y 0, y 1, eq_ix2 y⟩
  have e : (win0_4.blk t).view.emb (ix2 i j) = ix2 (row (pt t) i) j := by
    blk_ext [(idx t).2.2.2.2.1]
    all_goals rfl
  rw [e]
  exact point4 m c hh hg hw hv t i j
include hh hg in
theorem final5 : (dats m 0 c).arrAt 5 cfg0.N = fun j : S8192x1024.Idx => normed h g (j 0) (j 1) := by
  refine (dats m 0 c).arrAt_eq_of_covers 5 _ (by decide +kernel) fun t _ y => ?_
  blk_simp
  obtain ⟨i, j, rfl⟩ : ∃ i j, y = ix2 i j := ⟨y 0, y 1, eq_ix2 y⟩
  have e : (win0_5.blk t).view.emb (ix2 i j) = ix2 (row (pt t) i) j := by
    blk_ext [(idx t).2.2.2.2.2.1]
    all_goals rfl
  rw [e]
  exact point5 m c hh hg t i j
include hh hg hw in
theorem final6 : (dats m 0 c).arrAt 6 cfg0.N = fun j : S8192x2816.Idx => gu h g w (j 0) (lo (j 1)) := by
  refine (dats m 0 c).arrAt_eq_of_covers 6 _ (by decide +kernel) fun t _ y => ?_
  blk_simp
  obtain ⟨i, j, rfl⟩ : ∃ i j, y = ix2 i j := ⟨y 0, y 1, eq_ix2 y⟩
  have e : (win0_6.blk t).view.emb (ix2 i j) = ix2 (row (pt t) i) j := by
    blk_ext [(idx t).2.2.2.2.2.2.1]
    all_goals rfl
  rw [e]
  exact point6 m c hh hg hw t i j
include hh hg hw in
theorem final7 : (dats m 0 c).arrAt 7 cfg0.N = fun j : S8192x2816.Idx => gu h g w (j 0) (hi (j 1)) := by
  refine (dats m 0 c).arrAt_eq_of_covers 7 _ (by decide +kernel) fun t _ y => ?_
  blk_simp
  obtain ⟨i, j, rfl⟩ : ∃ i j, y = ix2 i j := ⟨y 0, y 1, eq_ix2 y⟩
  have e : (win0_7.blk t).view.emb (ix2 i j) = ix2 (row (pt t) i) j := by
    blk_ext [(idx t).2.2.2.2.2.2.2.1]
    all_goals rfl
  rw [e]
  exact point7 m c hh hg hw t i j
include hh hg hw in
theorem final8 : (dats m 0 c).arrAt 8 cfg0.N = fun j : S8192x2816.Idx => act h g w (j 0) (j 1) := by
  refine (dats m 0 c).arrAt_eq_of_covers 8 _ (by decide +kernel) fun t _ y => ?_
  blk_simp
  obtain ⟨i, j, rfl⟩ : ∃ i j, y = ix2 i j := ⟨y 0, y 1, eq_ix2 y⟩
  have e : (win0_8.blk t).view.emb (ix2 i j) = ix2 (row (pt t) i) j := by
    blk_ext [(idx t).2.2.2.2.2.2.2.2]
    all_goals rfl
  rw [e]
  exact point8 m c hh hg hw t i j

end Cert.FfnFwdIdeal.Math
end
end
-- ==== Proof.FfnFwdClaim.lean ====
/- The claims about the forward feed-forward layer. -/
module

public import proofs.«01_k».proof.Defs
public import proofs.«01_k».proof.Proof.FfnFwdValue
public import proofs.«01_k».proof.Proof.Gen.FfnFwd.Frame
public import proofs.«01_k».proof.Proof.Gen.FfnFwdRefIdeal.Run
public import Idealize.ShloMosaic.Lib.Quiescent

set_option maxRecDepth 16384

@[expose] public section
noncomputable section

open Idealize.ShloMosaic Idealize.ShloMosaic.TcCoe Idealize.SL.Sem

namespace Cert.FfnFwdClaim

/-- The reference runs and leaves its arguments as they were. -/
theorem refFrame : Cert.quiescent_FfnFwdRefIdeal (hFfnFwdRefIdeal := Cert.FfnFwdRefIdeal.Gen.facts) :=
  fun m ρ _ => (θ_run Cert.FfnFwdRefIdeal.defs _ _).mono
    (fun r h => ⟨fun c => (h c).2.2.2.2.2, Idealize.ShloMosaic.sem_eq_zero_of_no_sems (by decide) r.2⟩)
    (Cert.FfnFwdRefIdeal.Value.run (F := Ideal) m ρ)

set_option maxHeartbeats 4000000 in
/-- Kernel and reference end with the same residual, normed rows, gate, other factor and gated array. -/
theorem algebraic : Cert.algebraic_FfnFwdIdeal_FfnFwdRefIdeal (hFfnFwdIdeal := Cert.FfnFwdIdeal.Gen.facts)
    (hFfnFwdRefIdeal := Cert.FfnFwdRefIdeal.Gen.facts) := by
  pair_intro
  · run_from Cert.FfnFwdIdeal.Gen.run_main m g
    all_goals
      simp only [Cert.FfnFwdIdeal.Gen.hostOps0]
      after_results_simp <;> rfl
  · run_from Cert.FfnFwdRefIdeal.Value.run m' g'
    all_goals
      obtain ⟨h, hh⟩ : ∃ h : Fin 8192 → Fin 1024 → EReal, ∀ r k, m ((c : Thread Cert.FfnFwdIdeal.nD Cert.FfnFwdIdeal.τ).loc Cert.FfnFwdIdeal.main_arg0) (ix2 r k) = h r k := ⟨_, fun r k => rfl⟩
      obtain ⟨g, hg⟩ : ∃ g : Fin 1024 → EReal, ∀ k, m ((c : Thread Cert.FfnFwdIdeal.nD Cert.FfnFwdIdeal.τ).loc Cert.FfnFwdIdeal.main_arg1) (ix1 k) = g k := ⟨_, fun k => rfl⟩
      obtain ⟨w, hw⟩ : ∃ w : Fin 1024 → Fin 5632 → EReal, ∀ r k, m ((c : Thread Cert.FfnFwdIdeal.nD Cert.FfnFwdIdeal.τ).loc Cert.FfnFwdIdeal.main_arg2) (ix2 r k) = w r k := ⟨_, fun r k => rfl⟩
      obtain ⟨v, hv⟩ : ∃ v : Fin 2816 → Fin 1024 → EReal, ∀ r k, m ((c : Thread Cert.FfnFwdIdeal.nD Cert.FfnFwdIdeal.τ).loc Cert.FfnFwdIdeal.main_arg3) (ix2 r k) = v r k := ⟨_, fun r k => rfl⟩
    · rw [Cert.FfnFwdIdeal.Math.final4 m c hh hg hw hv, Cert.FfnFwdRefIdeal.Read.val_main_v21_eq]
      funext j
      obtain ⟨i, k, rfl⟩ : ∃ i k, j = ix2 i k := ⟨j 0, j 1, eq_ix2 j⟩
      try rw [(hagree c).1, (hagree c).2.1, (hagree c).2.2.1, (hagree c).2.2.2]
      exact Cert.FfnFwdRefIdeal.Math.v21 hh hg hw hv i k
    · rw [Cert.FfnFwdIdeal.Math.final5 m c hh hg, Cert.FfnFwdRefIdeal.Read.val_main_v22_eq]
      funext j
      obtain ⟨i, k, rfl⟩ : ∃ i k, j = ix2 i k := ⟨j 0, j 1, eq_ix2 j⟩
      try rw [(hagree c).1, (hagree c).2.1]
      exact Cert.FfnFwdRefIdeal.Math.v22 hh hg i k
    · rw [Cert.FfnFwdIdeal.Math.final6 m c hh hg hw, Cert.FfnFwdRefIdeal.Read.val_main_v23_eq]
      funext j
      obtain ⟨i, k, rfl⟩ : ∃ i k, j = ix2 i k := ⟨j 0, j 1, eq_ix2 j⟩
      try rw [(hagree c).1, (hagree c).2.1, (hagree c).2.2.1]
      exact Cert.FfnFwdRefIdeal.Math.v23 hh hg hw i k
    · rw [Cert.FfnFwdIdeal.Math.final7 m c hh hg hw, Cert.FfnFwdRefIdeal.Read.val_main_v24_eq]
      funext j
      obtain ⟨i, k, rfl⟩ : ∃ i k, j = ix2 i k := ⟨j 0, j 1, eq_ix2 j⟩
      try rw [(hagree c).1, (hagree c).2.1, (hagree c).2.2.1]
      exact Cert.FfnFwdRefIdeal.Math.v24 hh hg hw i k
    · rw [Cert.FfnFwdIdeal.Math.final8 m c hh hg hw, Cert.FfnFwdRefIdeal.Read.val_main_v25_eq]
      funext j
      obtain ⟨i, k, rfl⟩ : ∃ i k, j = ix2 i k := ⟨j 0, j 1, eq_ix2 j⟩
      try rw [(hagree c).1, (hagree c).2.1, (hagree c).2.2.1]
      exact Cert.FfnFwdRefIdeal.Math.v25 hh hg hw i k

end Cert.FfnFwdClaim

end
end
-- ==== Proof.ShortConvFwdRef.lean ====
/- The reference: the gated short causal convolution, stage by stage. -/
module

public import proofs.«01_k».proof.Proof.Gen.ShortConvFwdRefIdeal.Read
public import proofs.«01_k».proof.Proof.ShortConvMath
public import Idealize.ShloMosaic.Lib.Pointwise
public import Idealize.ShloMosaic.Lib.Pipeline.ValueKit

set_option maxRecDepth 16384

@[expose] public section
noncomputable section

open Idealize.ShloMosaic Idealize.ShloMosaic.TcCoe Idealize.SL.Sem
open Cert.ShortConvFwdRefIdeal Cert.ShortConvFwdRefIdeal.Gen Cert.ShortConvFwdRefIdeal.Read Cert.RealLift Cert.ShortConvMath

namespace Cert.ShortConvFwdRefIdeal.Math

variable {x0 : (⟨S8192x3072, .f32⟩ : BufTy).Contents (Elt Ideal)} {x1 : (⟨S3x1024, .f32⟩ : BufTy).Contents (Elt Ideal)}
variable {x2 : (⟨S8192x1024, .f32⟩ : BufTy).Contents (Elt Ideal)}
variable {z : Fin 8192 → Fin 3072 → EReal} {w : Fin 3 → Fin 1024 → EReal} {dy : Fin 8192 → Fin 1024 → EReal}

/-- The integer zero as a float. -/
theorem sitofp_zero : FloatOps.sitofp (F := Ideal) FTy.f32 (0#32) = (0 : EReal) := by
  show (((0#32).toInt : ℝ) : EReal) = 0
  simp

section
variable (hz : ∀ r k, x0 (ix2 r k) = z r k)
include hz

theorem v0 (r : Fin 8192) (k : Fin 1024) : val_main_v0 (F := Ideal) x0 (ix2 r k) = gateB z r k := by
  pointwise [val_main_v0]
  refine Eq.trans ?_ (hz _ _)
  congr 1
theorem v1 (r : Fin 8192) (k : Fin 1024) : val_main_v1 (F := Ideal) x0 (ix2 r k) = gateC z r k := by
  pointwise [val_main_v1]
  exact hz _ _
theorem v2 (r : Fin 8192) (k : Fin 1024) : val_main_v2 (F := Ideal) x0 (ix2 r k) = value z r k := by
  pointwise [val_main_v2]
  exact hz _ _
theorem v3 (r : Fin 8192) (k : Fin 1024) : val_main_v3 (F := Ideal) x0 (ix2 r k) = gated z r k := by
  have a := v1 hz r k
  have b := v2 hz r k
  unfold val_main_v3
  generalize val_main_v1 x0 = p at *
  generalize val_main_v2 x0 = q at *
  pointwise []
  rw [a, b]; rfl
theorem v5 (n : Fin 8194) (k : Fin 1024) : val_main_v5 (F := Ideal) x0 (ix2 n k)
    = if h : 2 ≤ n.val then gated z ⟨n.val - 2, by omega⟩ k else 0 := by
  have a := v3 hz
  unfold val_main_v5
  generalize val_main_v3 x0 = p at *
  pointwise [val_main_v4, val_main_cst]
  split
  · rw [dif_neg (by omega)]
  · rw [dif_pos (by omega), a]
theorem v8 (r : Fin 8192) (k : Fin 1024) : val_main_v8 (F := Ideal) x0 (ix2 r k) = past (fun r => gated z r k) 2 r := by
  have a := v5 hz
  unfold val_main_v8
  generalize val_main_v5 x0 = p at *
  pointwise []
  exact a _ _
theorem v16 (r : Fin 8192) (k : Fin 1024) : val_main_v16 (F := Ideal) x0 (ix2 r k) = past (fun r => gated z r k) 1 r := by
  have a := v5 hz
  unfold val_main_v16
  generalize val_main_v5 x0 = p at *
  pointwise []
  rw [a]
  unfold past
  dsimp only
  split
  · rw [dif_pos (by omega)]
    congr 1; ext; show _ - 2 = _ - 1; omega
  · rw [dif_neg (by omega)]
theorem v23 (r : Fin 8192) (k : Fin 1024) : val_main_v23 (F := Ideal) x0 (ix2 r k) = gated z r k := by
  have a := v5 hz
  unfold val_main_v23
  generalize val_main_v5 x0 = p at *
  pointwise []
  rw [a]
  dsimp only
  rw [dif_pos (by omega)]
  congr 1; ext; show _ - 2 = _; omega
/-- The convolution. -/
theorem v27 (hw : ∀ r k, x1 (ix2 r k) = w r k) (r : Fin 8192) (k : Fin 1024) : val_main_v27 (F := Ideal) x0 x1 (ix2 r k) = conv z w r k := by
  have a := v8 hz r k
  have b := v16 hz r k
  have d := v23 hz r k
  unfold val_main_v27 val_main_v20 val_main_v13 val_main_v11 val_main_v19 val_main_v26
  generalize val_main_v8 x0 = p at *
  generalize val_main_v16 x0 = q at *
  generalize val_main_v23 x0 = s at *
  pointwise [val_main_v12, val_main_cst_0, val_main_v10, val_main_v9, val_main_v7, val_main_v6, val_main_v18, val_main_v17,
    val_main_v15, val_main_v14, val_main_v25, val_main_v24, val_main_v22, val_main_v21]
  rw [a, b, d, hw, hw, hw]
  exact congrArg (· + _) (congrArg (· + _) (zero_add _).symm)
theorem v30 (hw : ∀ r k, x1 (ix2 r k) = w r k) (r : Fin 8192) (k : Fin 1024) : val_main_v30 (F := Ideal) x0 x1 (ix2 r k) = conv z w r k := v27 hz hw r k
/-- The gated convolution. -/
theorem v29 (hw : ∀ r k, x1 (ix2 r k) = w r k) (r : Fin 8192) (k : Fin 1024) : val_main_v29 (F := Ideal) x0 x1 (ix2 r k) = gateB z r k * conv z w r k := by
  have a := v0 hz r k
  have b := v27 hz hw r k
  unfold val_main_v29 val_main_v28
  generalize val_main_v0 x0 = p at *
  generalize val_main_v27 x0 x1 = q at *
  pointwise []
  rw [a, b]
end
end Cert.ShortConvFwdRefIdeal.Math
end
end
-- ==== Proof.ShortConvFwdValue.lean ====
/- What the gated short convolution leaves in its two result arrays, entry by entry. -/
module

public import proofs.«01_k».proof.Proof.Gen.ShortConvFwdIdeal.Value
public import proofs.«01_k».proof.Proof.ShortConvFwdRef
public import proofs.«01_k».proof.Proof.Rows
public import Idealize.ShloMosaic.Lib.StableHlo.ReadAt
set_option maxRecDepth 16384
@[expose] public section
noncomputable section
open Idealize.ShloMosaic Idealize.ShloMosaic.TcCoe Idealize.SL.Sem
open Cert.ShortConvFwdIdeal Cert.ShortConvFwdIdeal.Gen Cert.RealLift Cert.ShortConvMath Cert.Rows
namespace Cert.ShortConvFwdIdeal.Math

/-! ## Payloads -/

section
variable (v v' : Vec Ideal S256x1024 .bf16) (a b d : Vec Ideal S256x1024 .f32) (u u' u'' : Vec Ideal S1x1024 .f32)
  (r : Fin 256) (k : Fin 1024)

theorem pay6 : k0_pay6 v v' (ix2 r k) = v (ix2 r k) * v' (ix2 r k) := by
  pointwise [k0_pay6]
theorem pay4 (r : Fin 8) : k0_pay4 (F := Ideal) (ix2 r k) = 0 := by
  pointwise [k0_pay4]
theorem pay5 (v : Vec Ideal S8x1024 .f32) (r : Fin 8) : k0_pay5 (F := Ideal) v (ix2 r k) = v (ix2 r k) := by
  pointwise [k0_pay5]
theorem pay2 : k0_pay2 (F := Ideal) (k0_pay7 u a u' b) d (k0_pay8 u'') (ix2 r k)
    = 0 + u (ix2 0 k) * a (ix2 r k) + u' (ix2 0 k) * b (ix2 r k) + u'' (ix2 0 k) * d (ix2 r k) := by
  pointwise [k0_pay2, k0_pay1, k0_pay7, k0_pay8]
theorem pay3 (p q : FVec Ideal S256x1024 .f32) : k0_pay3 p d q v (ix2 r k) = v (ix2 r k) * k0_pay2 p d q (ix2 r k) := by
  pointwise [k0_pay3, k0_pay2, k0_pay1]
end

/-! ## The scratch: eight rows of the block before, then the block's rows -/

/-- A column of what is convolved, counted from eight rows before the array's first. -/
def lag (f : Fin 8192 → EReal) (n : ℕ) : EReal := if h : 8 ≤ n ∧ n - 8 < 8192 then f ⟨n - 8, h.2⟩ else 0

theorem lag_past (f : Fin 8192 → EReal) (j : ℕ) (hj : j ≤ 8) (r : Fin 8192) : lag f (r.val + (8 - j)) = past f j r := by
  unfold lag past
  split <;> split
  · exact congrArg f (Fin.ext (by show r.val + (8 - j) - 8 = r.val - j; omega))
  · omega
  · omega
  · rfl

variable (m : (ℓ : Loc nD τ sig) → Buf (Elt Ideal) ℓ) (c : Dev nD)
variable {z : Fin 8192 → Fin 3072 → EReal} {w : Fin 3 → Fin 1024 → EReal}

theorem idx : ∀ t : Fin cfg0.N, win0_0.index t = ![t.val, 0] ∧ win0_1.index t = ![t.val, 1] ∧ win0_2.index t = ![t.val, 2]
    ∧ win0_3.index t = ![0, 0] ∧ win0_4.index t = ![t.val, 0] ∧ win0_5.index t = ![t.val, 0] :=
  (by decide +kernel : ∀ t : Fin grid0.N, _)

/-- The first row of a grid point's block. -/
def base (t : Fin cfg0.N) : ℕ := t.val * 256
theorem base_le (t : Fin cfg0.N) : base t + 256 ≤ 8192 := by
  have := t.isLt.trans_eq N_0; unfold base; omega
/-- A row of a grid point's block. -/
def row (t : Fin cfg0.N) (r : Fin 256) : Fin 8192 := ⟨base t + r.val, by have := base_le t; omega⟩

section
variable (hz : ∀ r k, m ((c : Thread nD τ).loc main_arg0) (ix2 r k) = z r k)
  (hw : ∀ r k, m ((c : Thread nD τ).loc main_arg1) (ix2 r k) = w r k)

include hz in
theorem blk0 (t : Fin cfg0.N) (r : Fin 256) (k : Fin 1024) : iblk m c 0 t (ix2 r k) = gateB z (row t r) k := by
  refine Eq.trans ?_ (hz _ _)
  blk_point [iblk, V, (idx t).1]
  rfl
include hz in
theorem blk1 (t : Fin cfg0.N) (r : Fin 256) (k : Fin 1024) : iblk m c 1 t (ix2 r k) = gateC z (row t r) k := by
  refine Eq.trans ?_ (hz _ _)
  blk_point [iblk, V, (idx t).2.1]
  rfl
include hz in
theorem blk2 (t : Fin cfg0.N) (r : Fin 256) (k : Fin 1024) : iblk m c 2 t (ix2 r k) = value z (row t r) k := by
  refine Eq.trans ?_ (hz _ _)
  blk_point [iblk, V, (idx t).2.2.1]
  rfl
include hw in
theorem v1 (r : Fin 8) (k : Fin 1024) (hr : r.val < 3) : V m c main_v1 (ix2 r k) = w ⟨r.val, hr⟩ k := by
  refine Eq.trans ?_ (hw _ _)
  simp only [V, hostOps0, hostOps0_1, List.flatten_cons, List.flatten_nil, List.append_nil, List.cons_append, List.nil_append,
    StableHlo.TRef.binary, StableHlo.TRef.unary, StableHlo.TRef.toBuf, StableHlo.TRef.ofBuf, cast_eq]
  after_results_simp
  generalize m _ = x
  pointwise []
  exact dif_pos hr
include hw in
theorem tap (t : Fin cfg0.N) (i : Fin 8) (inb) (k : Fin 1024) (hi : i.val < 3) :
    View.ld (iblk m c 3 t) (Rect.unit (s := S8x1024) ![i.val, 0] ![1, 1024] inb) (ix2 0 k) = w ⟨i.val, hi⟩ k := by
  refine (ld_rows (iblk m c 3 t) i.val 1 (by omega) inb 0 k).trans ?_
  have e : (win0_3.blk t).view.emb (ix2 (⟨i.val + 0, by omega⟩ : Fin 8) k) = ix2 i k := by
    blk_ext [(idx t).2.2.2.1]
  blk_simp [iblk]
  refine Eq.trans (congrArg _ e) ?_
  exact v1 m c hw _ _ hi

/-- The scratch at a grid point. -/
abbrev G (z : Fin 8192 → Fin 3072 → EReal) (t : Fin cfg0.N) : S264x1024.Idx → Elt Ideal .f32 := fun y => lag (fun r => gated z r (y 1)) (base t + (y 0).val)

include hz in
theorem new_holds (t : Fin cfg0.N) (inb) :
    Holds (G z t) ⟨Rect.unit (s := S264x1024) ![8, 0] ![256, 1024] inb, k0_pay6 (F := Ideal) (iblk m c 1 t) (iblk m c 2 t)⟩ :=
  holds_rows (e := .f32) (A := 264) (B := 1024) (o := 8) (a := 256) (f := fun i k => lag (fun r => gated z r k) (base t + i.val)) (by omega) inb fun r k => by
    rw [pay6, blk1 m c hz, blk2 m c hz]
    have := base_le t
    unfold lag
    rw [dif_pos ⟨by show 8 ≤ base t + (8 + r.val); omega, by show base t + (8 + r.val) - 8 < 8192; omega⟩]
    exact congrArg (fun i => gated z i k) (Fin.ext (by show base t + r.val = base t + (8 + r.val) - 8; omega))
theorem zero_holds (t : Fin cfg0.N) (h : t.val % 32 = 0) (inb) :
    Holds (G z t) ⟨Rect.unit (s := S264x1024) ![0, 0] ![8, 1024] inb, k0_pay4 (F := Ideal)⟩ :=
  holds_rows (e := .f32) (A := 264) (B := 1024) (o := 0) (a := 8) (f := fun i k => lag (fun r => gated z r k) (base t + i.val)) (by omega) inb fun r k => by
    have := t.isLt.trans_eq N_0
    rw [pay4]
    unfold lag
    rw [dif_neg (by show ¬ (8 ≤ base t + (0 + r.val) ∧ _); unfold base; omega)]

include hz in
/-- Below the first eight rows the scratch is the newest piece. -/
theorem top (t : Fin cfg0.N) (inb) (L : List (View.Piece (Elt Ideal) S264x1024 .f32)) (i : Fin 264) (hi : 8 ≤ i.val) (k : Fin 1024) :
    View.canon (Val := Elt Ideal) (s := S264x1024) (e := .f32) (⟨Rect.unit ![8, 0] ![256, 1024] inb, k0_pay6 (F := Ideal) (iblk m c 1 t) (iblk m c 2 t)⟩ :: L) (ix2 i k)
      = G z t (ix2 i k) := by
  have e : (Rect.unit (s := S264x1024) ![8, 0] ![256, 1024] inb).emb (ix2 (⟨i.val - 8, by omega⟩ : Fin 256) k) = ix2 i k :=
    (at_unit (A := 264) (B := 1024) 8 0 256 1024 inb (by omega) (by omega) _ k).trans
      (congrArg₂ ix2 (Fin.ext (by show 8 + (i.val - 8) = i.val; omega)) (Fin.ext (Nat.zero_add _)))
  rw [← e]
  exact (View.canon_cons_emb _ _ _ _).trans (new_holds m c hz t inb _)

/-- The scratch of a grid point, as pieces. -/
theorem cover (a : Vec Ideal S256x1024 .f32) (b : Vec Ideal S8x1024 .f32) (inb inb') (i : Fin 264) (k : Fin 1024) :
    ∃ p ∈ [(⟨Rect.unit (s := S264x1024) ![8, 0] ![256, 1024] inb, a⟩ : View.Piece (Elt Ideal) S264x1024 .f32), ⟨Rect.unit (s := S264x1024) ![0, 0] ![8, 1024] inb', b⟩],
      (ix2 i k : S264x1024.Idx) ∈ p.1.set := by
  by_cases h : 8 ≤ i.val
  · exact ⟨_, List.mem_cons_self, in_unit (A := 264) (B := 1024) 8 0 256 1024 inb ⟨h, by omega⟩ ⟨Nat.zero_le _, by omega⟩⟩
  · exact ⟨_, List.mem_cons_of_mem _ List.mem_cons_self, in_unit (A := 264) (B := 1024) 0 0 8 1024 inb' ⟨Nat.zero_le _, by omega⟩ ⟨Nat.zero_le _, by omega⟩⟩
theorem both {t : Fin cfg0.N} {p q : View.Piece (Elt Ideal) S264x1024 .f32} (hp : Holds (G z t) p) (hq : Holds (G z t) q) :
    ∀ x ∈ [p, q], Holds (G z t) x := by
  simp only [List.mem_cons, List.not_mem_nil, or_false]
  rintro x (rfl | rfl)
  · exact hp
  · exact hq

include hz in
/-- The scratch after a grid point. -/
theorem scratch (t : Fin cfg0.N) (i : Fin 264) (hi : 8 ≤ i.val) (k : Fin 1024) : (outsAt0 m c t.val t.isLt).2.2 (ix2 i k) = G z t (ix2 i k) := by
  have hN := t.isLt.trans_eq N_0
  by_cases h0 : t.val % 32 = 0
  · rw [outsAt0_A m c t h0 (by omega)]; frame_out
    exact top m c hz t _ _ i hi k
  · rw [outsAt0_B m c t h0 (by omega)]; frame_out
    exact top m c hz t _ _ i hi k
include hz in
theorem old_holds (t : Fin cfg0.N) (h : ¬ t.val % 32 = 0) (inb inb'') :
    Holds (G z t) ⟨Rect.unit (s := S264x1024) ![0, 0] ![8, 1024] inb, k0_pay5 (F := Ideal) (View.ld (View.read (Elt Ideal) (View.whole cc0_scratch0)
          ((Memref.isWhole_whole cc0_scratch0).unread (outsAt0 m c (t.val - 1) (by omega)).2.2))
        (Rect.unit ![256, 0] ![8, 1024] inb''))⟩ :=
  holds_rows (e := .f32) (A := 264) (B := 1024) (o := 0) (a := 8) (f := fun i k => lag (fun r => gated z r k) (base t + i.val)) (by omega) inb fun r k => by
    have := t.isLt.trans_eq N_0
    rw [pay5]
    refine (ld_rows _ 256 8 (by omega) inb'' r k).trans ?_
    rw [read_unread_whole]
    refine (scratch m c hz ⟨t.val - 1, by omega⟩ ⟨256 + r.val, by omega⟩ (by show 8 ≤ 256 + r.val; omega) k).trans ?_
    refine congrArg (lag _) ?_
    show (t.val - 1) * 256 + (256 + r.val) = t.val * 256 + (0 + r.val)
    omega

/-- A load of 256 rows of the scratch, `o` rows down. -/
theorem scr_read {t : Fin cfg0.N} {L : List (View.Piece (Elt Ideal) S264x1024 .f32)} (hL : ∀ p ∈ L, Holds (G z t) p)
    (hc : ∀ (i : Fin 264) (k : Fin 1024), ∃ p ∈ L, (ix2 i k : S264x1024.Idx) ∈ p.1.set) (j : ℕ) (hj : j ≤ 2) (o : ℕ) (ho : o = 8 - j) (inb) (r : Fin 256) (k : Fin 1024) :
    (View.whole cc0_scratch0).readCov L (Rect.unit (s := S264x1024) ![o, 0] ![256, 1024] inb).toLoadRect (ix2 r k) = past (fun r => gated z r k) j (row t r) := by
  refine (read_back (A := 264) (B := 1024) (View.whole cc0_scratch0) hL o 0 256 1024 inb (by omega) (by omega) r k (hc _ _)).trans ?_
  refine Eq.trans ?_ (lag_past _ j (by omega) _)
  show lag (fun r => gated z r ⟨0 + k.val, _⟩) (base t + (o + r.val)) = lag (fun r => gated z r k) (base t + r.val + (8 - j))
  rw [show (⟨0 + k.val, by omega⟩ : Fin 1024) = k from Fin.ext (Nat.zero_add _), show base t + (o + r.val) = base t + r.val + (8 - j) by omega]

theorem past_zero (f : Fin 8192 → EReal) (r : Fin 8192) : past f 0 r = f r := dif_pos (Nat.zero_le _)

include hz hw in
theorem tile {t : Fin cfg0.N} {L : List (View.Piece (Elt Ideal) S264x1024 .f32)} (hL : ∀ p ∈ L, Holds (G z t) p)
    (hc : ∀ (i : Fin 264) (k : Fin 1024), ∃ p ∈ L, (ix2 i k : S264x1024.Idx) ∈ p.1.set) (r : Fin 256) (k : Fin 1024) (inb0 inb1 inb2 inb6 inb7 inb8) :
    k0_pay2 (F := Ideal) (k0_pay7 (View.ld (iblk m c 3 t) (Rect.unit (s := S8x1024) ![0, 0] ![1, 1024] inb0))
          ((View.whole cc0_scratch0).readCov L (Rect.unit (s := S264x1024) ![6, 0] ![256, 1024] inb6).toLoadRect)
          (View.ld (iblk m c 3 t) (Rect.unit (s := S8x1024) ![1, 0] ![1, 1024] inb1))
          ((View.whole cc0_scratch0).readCov L (Rect.unit (s := S264x1024) ![7, 0] ![256, 1024] inb7).toLoadRect))
        ((View.whole cc0_scratch0).readCov L (Rect.unit (s := S264x1024) ![8, 0] ![256, 1024] inb8).toLoadRect)
        (k0_pay8 (View.ld (iblk m c 3 t) (Rect.unit (s := S8x1024) ![2, 0] ![1, 1024] inb2))) (ix2 r k) = conv z w (row t r) k := by
  have e0 := tap m c hw t 0 inb0 k (by decide)
  have e1 := tap m c hw t 1 inb1 k (by decide)
  have e2 := tap m c hw t 2 inb2 k (by decide)
  have a0 := scr_read hL hc 2 (by decide) 6 rfl inb6 r k
  have a1 := scr_read hL hc 1 (by decide) 7 rfl inb7 r k
  have a2 := scr_read hL hc 0 (by decide) 8 rfl inb8 r k
  rw [past_zero] at a2
  rw [pay2, a0, a1, a2]
  exact congrArg₂ (· + ·) (congrArg₂ (· + ·) (congrArg (fun x => (0 : EReal) + x * _) e0) (congrArg (· * _) e1)) (congrArg (· * _) e2)

include hz hw in
theorem point5 (t : Fin cfg0.N) (r : Fin 256) (k : Fin 1024) : (outsAt0 m c t.val t.isLt).2.1 (ix2 r k) = conv z w (row t r) k := by
  have hN := t.isLt.trans_eq N_0
  by_cases h : t.val % 32 = 0
  · rw [outsAt0_A m c t h (by omega)]; frame_out
    exact tile m c hz hw (both (new_holds m c hz t _) (zero_holds t h _)) (cover _ _ _ _) r k _ _ _ _ _ _
  · rw [outsAt0_B m c t h (by omega)]; frame_out
    exact tile m c hz hw (both (new_holds m c hz t _) (old_holds m c hz t h _ _)) (cover _ _ _ _) r k _ _ _ _ _ _
include hz hw in
theorem point4 (t : Fin cfg0.N) (r : Fin 256) (k : Fin 1024) : (outsAt0 m c t.val t.isLt).1 (ix2 r k) = gateB z (row t r) k * conv z w (row t r) k := by
  have hN := t.isLt.trans_eq N_0
  by_cases h : t.val % 32 = 0
  · rw [outsAt0_A m c t h (by omega)]; frame_out
    rw [pay3, blk0 m c hz]
    exact congrArg (_ * ·) (tile m c hz hw (both (new_holds m c hz t _) (zero_holds t h _)) (cover _ _ _ _) r k _ _ _ _ _ _)
  · rw [outsAt0_B m c t h (by omega)]; frame_out
    rw [pay3, blk0 m c hz]
    exact congrArg (_ * ·) (tile m c hz hw (both (new_holds m c hz t _) (old_holds m c hz t h _ _)) (cover _ _ _ _) r k _ _ _ _ _ _)

include hz hw in
theorem final4 : (dats m 0 c).arrAt 4 cfg0.N = fun j : S8192x1024.Idx => gateB z (j 0) (j 1) * conv z w (j 0) (j 1) := by
  refine (dats m 0 c).arrAt_eq_of_covers 4 _ (by decide +kernel) fun t _ y => ?_
  blk_simp
  rw [after0_4]
  obtain ⟨i, j, rfl⟩ : ∃ i j, y = ix2 i j := ⟨y 0, y 1, eq_ix2 y⟩
  have e : (win0_4.blk t).view.emb (ix2 i j) = ix2 (row t i) j := by
    blk_ext [(idx t).2.2.2.2.1]
    all_goals rfl
  rw [e]
  exact point4 m c hz hw t i j
include hz hw in
theorem final5 : (dats m 0 c).arrAt 5 cfg0.N = fun j : S8192x1024.Idx => conv z w (j 0) (j 1) := by
  refine (dats m 0 c).arrAt_eq_of_covers 5 _ (by decide +kernel) fun t _ y => ?_
  blk_simp
  rw [after0_5]
  obtain ⟨i, j, rfl⟩ : ∃ i j, y = ix2 i j := ⟨y 0, y 1, eq_ix2 y⟩
  have e : (win0_5.blk t).view.emb (ix2 i j) = ix2 (row t i) j := by
    blk_ext [(idx t).2.2.2.2.2]
    all_goals rfl
  rw [e]
  exact point5 m c hz hw t i j
end
end Cert.ShortConvFwdIdeal.Math
end
end
-- ==== Proof.ShortConvFwdClaim.lean ====
/- The claims about the forward short convolution. -/
module

public import proofs.«01_k».proof.Defs
public import proofs.«01_k».proof.Proof.ShortConvFwdValue
public import proofs.«01_k».proof.Proof.Gen.ShortConvFwd.Frame
public import proofs.«01_k».proof.Proof.Gen.ShortConvFwdRefIdeal.Run
public import Idealize.ShloMosaic.Lib.Quiescent

set_option maxRecDepth 16384

@[expose] public section
noncomputable section

open Idealize.ShloMosaic Idealize.ShloMosaic.TcCoe Idealize.SL.Sem

namespace Cert.ShortConvFwdClaim

/-- The reference runs and leaves its arguments as they were. -/
theorem refFrame : Cert.quiescent_ShortConvFwdRefIdeal (hShortConvFwdRefIdeal := Cert.ShortConvFwdRefIdeal.Gen.facts) :=
  fun m ρ _ => (θ_run Cert.ShortConvFwdRefIdeal.defs _ _).mono
    (fun r h => ⟨fun c => (h c).2.2, Idealize.ShloMosaic.sem_eq_zero_of_no_sems (by decide) r.2⟩)
    (Cert.ShortConvFwdRefIdeal.Value.run (F := Ideal) m ρ)

set_option maxHeartbeats 4000000 in
/-- Kernel and reference end with the same gated convolution and the same convolution. -/
theorem algebraic : Cert.algebraic_ShortConvFwdIdeal_ShortConvFwdRefIdeal (hShortConvFwdIdeal := Cert.ShortConvFwdIdeal.Gen.facts)
    (hShortConvFwdRefIdeal := Cert.ShortConvFwdRefIdeal.Gen.facts) := by
  pair_intro
  · run_from Cert.ShortConvFwdIdeal.Gen.run_main m g
    all_goals
      simp only [Cert.ShortConvFwdIdeal.Gen.hostOps0, Cert.ShortConvFwdIdeal.Gen.hostOps0_1, List.flatten_cons, List.flatten_nil, List.append_nil, List.cons_append,
        List.nil_append, StableHlo.TRef.binary, StableHlo.TRef.unary, StableHlo.TRef.toBuf, StableHlo.TRef.ofBuf, cast_eq]
      after_results_simp <;> rfl
  · run_from Cert.ShortConvFwdRefIdeal.Value.run m' g'
    all_goals
      obtain ⟨z, hz⟩ : ∃ z : Fin 8192 → Fin 3072 → EReal, ∀ r k, m ((c : Thread Cert.ShortConvFwdIdeal.nD Cert.ShortConvFwdIdeal.τ).loc Cert.ShortConvFwdIdeal.main_arg0) (ix2 r k) = z r k := ⟨_, fun r k => rfl⟩
      obtain ⟨w, hw⟩ : ∃ w : Fin 3 → Fin 1024 → EReal, ∀ r k, m ((c : Thread Cert.ShortConvFwdIdeal.nD Cert.ShortConvFwdIdeal.τ).loc Cert.ShortConvFwdIdeal.main_arg1) (ix2 r k) = w r k := ⟨_, fun r k => rfl⟩
    · rw [Cert.ShortConvFwdIdeal.Math.final4 m c hz hw, Cert.ShortConvFwdRefIdeal.Read.val_main_v29_eq]
      funext j
      obtain ⟨i, k, rfl⟩ : ∃ i k, j = ix2 i k := ⟨j 0, j 1, eq_ix2 j⟩
      try rw [(hagree c).1, (hagree c).2]
      exact Cert.ShortConvFwdRefIdeal.Math.v29 hz hw i k
    · rw [Cert.ShortConvFwdIdeal.Math.final5 m c hz hw, Cert.ShortConvFwdRefIdeal.Read.val_main_v30_eq]
      funext j
      obtain ⟨i, k, rfl⟩ : ∃ i k, j = ix2 i k := ⟨j 0, j 1, eq_ix2 j⟩
      try rw [(hagree c).1, (hagree c).2]
      exact Cert.ShortConvFwdRefIdeal.Math.v30 hz hw i k

end Cert.ShortConvFwdClaim

end
end
-- ==== Proof.MemNormFwdValue.lean ====
/- The memory norm forward: the kernel's output array is what the body's one store writes. -/
module

public import proofs.«01_k».proof.Proof.Gen.MemNormFwdIdeal.Value
public import proofs.«01_k».proof.Proof.Gen.MemNormFwdRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MemNormFwdIdeal.Math

open Cert.MemNormFwdIdeal Cert.MemNormFwdIdeal.Gen

variable (m : (ℓ : Loc nD τ sig) → Buf (Elt Ideal) ℓ)

/-- At the one grid point every window's block is its whole array. -/
theorem idx : ∀ t : Fin cfg0.N, win0_0.index t = ![0, 0] ∧ win0_1.index t = ![0, 0] ∧ win0_2.index t = ![0, 0] :=
  (by decide +kernel : ∀ t : Fin grid0.N, _)

/-- The result array is what the body's one store writes, over the argument arrays. -/
theorem final (c : Dev nD) : (dats m 0 c).arrAt 2 (cfgs 0).N
    = k0_pay1 (F := Ideal) (m ((c : Thread nD τ).loc main_arg0)) (fun j => m ((c : Thread nD τ).loc main_arg1) (ix1 (j 1))) := by
  refine (dats m 0 c).arrAt_eq_of_after_last 2 t0_0 (by decide +kernel) _ fun j => ?_
  blk_simp
  rw [after0_2]
  unfold out0_2
  frame_out
  blk_point [iblk, V, idx t0_0]

end Cert.MemNormFwdIdeal.Math
-- ==== Proof.MemNormFwdClaim.lean ====
/- The claims about the memory norm forward. -/
module

public import proofs.«01_k».proof.Defs
public import proofs.«01_k».proof.Proof.MemNormFwdValue
public import proofs.«01_k».proof.Proof.Gen.MemNormFwd.Frame
public import proofs.«01_k».proof.Proof.Gen.MemNormFwdRefIdeal.Run
public import Idealize.ShloMosaic.Lib.Quiescent

set_option maxRecDepth 16384

@[expose] public section
noncomputable section

open Idealize.ShloMosaic Idealize.ShloMosaic.TcCoe Idealize.SL.Sem

namespace Cert.MemNormFwdClaim

/-- The reference runs and leaves its arguments as they were. -/
theorem refFrame : Cert.quiescent_MemNormFwdRefIdeal (hMemNormFwdRefIdeal := Cert.MemNormFwdRefIdeal.Gen.facts) :=
  fun m ρ _ => (θ_run Cert.MemNormFwdRefIdeal.defs _ _).mono
    (fun r h => ⟨fun c => (h c).2, Idealize.ShloMosaic.sem_eq_zero_of_no_sems (by decide) r.2⟩)
    (Cert.MemNormFwdRefIdeal.Value.run (F := Ideal) m ρ)

/-- Kernel and reference end with the same normalised rows. -/
theorem algebraic : Cert.algebraic_MemNormFwdIdeal_MemNormFwdRefIdeal (hMemNormFwdIdeal := Cert.MemNormFwdIdeal.Gen.facts)
    (hMemNormFwdRefIdeal := Cert.MemNormFwdRefIdeal.Gen.facts) := by
  pair_intro
  · run_from Cert.MemNormFwdIdeal.Gen.run_main m g
  · run_from Cert.MemNormFwdRefIdeal.Value.run m' g'
    rw [Cert.MemNormFwdIdeal.Math.final m c]
    funext j
    pointwise! [Cert.MemNormFwdIdeal.Gen.k0_pay1]

end Cert.MemNormFwdClaim

end
end
-- ==== Proof.NormFwdRef.lean ====
/- The reference's normed rows and their projection, entry by entry. -/
module

public import proofs.«01_k».proof.Proof.Gen.NormFwdRefIdeal.Read
public import proofs.«01_k».proof.Proof.NormMath
public import Idealize.ShloMosaic.Lib.Pointwise
public import Idealize.ShloMosaic.Lib.Claim

set_option maxRecDepth 16384
@[expose] public section
noncomputable section
open Idealize.ShloMosaic Idealize.ShloMosaic.TcCoe Idealize.SL.Sem Cert.NormMath
namespace Cert.NormFwd.Math
/-- A normed row. -/
def unit (h : Fin 8192 → Fin 1024 → EReal) (g : Fin 1024 → EReal) (r : Fin 8192) (k : Fin 1024) : EReal := h r k * rstd (h r) * g k
/-- A row of the projection. -/
def proj (h : Fin 8192 → Fin 1024 → EReal) (g : Fin 1024 → EReal) (w : Fin 1024 → Fin 3072 → EReal) (r : Fin 8192) (j : Fin 3072) : EReal :=
  ∑ k, unit h g r k * w k j
end Cert.NormFwd.Math
namespace Cert.NormFwdRefIdeal.Math
open Cert.NormFwdRefIdeal Cert.NormFwdRefIdeal.Gen Cert.NormFwdRefIdeal.Read Cert.NormFwd.Math

variable {x0 : (⟨S8192x1024, .f32⟩ : BufTy).Contents (Elt Ideal)} {x1 : (⟨S1024, .f32⟩ : BufTy).Contents (Elt Ideal)}
  {x2 : (⟨S1024x3072, .f32⟩ : BufTy).Contents (Elt Ideal)}
  {h : Fin 8192 → Fin 1024 → EReal} {g : Fin 1024 → EReal} {w : Fin 1024 → Fin 3072 → EReal}
  (hh : ∀ r k, x0 (ix2 r k) = h r k) (hg : ∀ k, x1 (ix1 k) = g k) (hw : ∀ k j, x2 (ix2 k j) = w k j) (r : Fin 8192) (k : Fin 1024) (j : Fin 3072)

include hh in
theorem v7 : val_main_v7 (F := Ideal) x0 (ix2 r 0) = rstd (h r) := by
  unfold val_main_v7 val_main_v6 val_main_v4 val_main_v2 val_main_v1 val_main_v0 val_main_v3 val_main_v5
  pointwise [val_main_cst, val_main_cst_0, val_main_cst_1]
  simp only [hh]
  rfl
include hh hg in
theorem v12 : val_main_v12 (F := Ideal) x0 x1 (ix2 r k) = unit h g r k := by
  have a := v7 hh r
  unfold val_main_v12 val_main_v11 val_main_v10 val_main_v9 val_main_v8
  generalize val_main_v7 x0 = p at *
  pointwise
  simp only [a, hh, hg]
  rfl
include hh hg in
theorem v13 : val_main_v13 (F := Ideal) x0 x1 (ix2 r k) = unit h g r k := by
  have a := v12 hh hg r k
  unfold val_main_v13
  generalize val_main_v12 x0 x1 = p at *
  pointwise
  rw [a]
include hh hg hw in
theorem v15 : val_main_v15 (F := Ideal) x0 x1 x2 (ix2 r j) = proj h g w r j := by
  have a := v12 hh hg r
  unfold val_main_v15 val_main_v14
  generalize val_main_v12 x0 x1 = p at *
  pointwise
  simp only [a, hw]
  rfl
end Cert.NormFwdRefIdeal.Math
end
end
-- ==== Proof.NormFwdValue.lean ====
/- What the norm and its projection leave in their two result arrays, entry by entry. -/
module

public import proofs.«01_k».proof.Proof.Gen.NormFwdIdeal.Value
public import proofs.«01_k».proof.Proof.NormFwdRef
public import proofs.«01_k».proof.Proof.Rows
public import Idealize.ShloMosaic.Lib.StableHlo.ReadAt
set_option maxRecDepth 16384
@[expose] public section
noncomputable section
open Idealize.ShloMosaic Idealize.ShloMosaic.TcCoe Idealize.SL.Sem
open Cert.NormFwdIdeal Cert.NormFwdIdeal.Gen Cert.NormMath Cert.NormFwd.Math Cert.Rows
namespace Cert.NormFwdIdeal.Math

/-! ## Payloads -/

section
variable (x : Vec Ideal S256x1024 .f32) (g : Vec Ideal S1x1024 .f32) (w : Vec Ideal S1x1024x3072 .bf16) (r : Fin 256) (k : Fin 1024) (j : Fin 3072)

theorem pay1 : k0_pay1 x g (ix2 r k) = x (ix2 r k) * rstd (fun k : Fin 1024 => x (ix2 r k)) * g (ix2 0 k) := by
  pointwise [k0_pay1]
  rfl
theorem pay2 : k0_pay2 x g w (ix2 r j) = ∑ k : Fin 1024, k0_pay1 x g (ix2 r k) * w (ix3 0 k j) := by
  unfold k0_pay2
  generalize k0_pay1 x g = p
  pointwise
theorem pay3 : k0_pay3 x g = k0_pay1 x g := rfl
theorem pay9 : k0_pay9 x g = k0_pay1 x g := rfl
theorem pay7 : k0_pay7 (k0_pay5 x) (k0_pay6 g) = k0_pay1 x g := rfl
theorem pay4 : k0_pay4 x g w = k0_pay2 x g w := rfl
theorem pay10 : k0_pay10 x g w = k0_pay2 x g w := rfl
theorem pay8 : k0_pay8 (k0_pay5 x) (k0_pay6 g) w = k0_pay2 x g w := rfl
end

/-! ## The arrays and their blocks -/

theorem idx : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, _)
/-- The array's row that is row `i` of block `t`. -/
def row (t : Fin 8) (i : Fin 1024) : Fin 8192 := ⟨t.val * 1024 + i.val, by omega⟩
/-- A grid point's block of rows. -/
def pt (t : Fin cfg0.N) : Fin 8 := ⟨t.val, t.isLt.trans_eq N_0⟩

variable (m : (ℓ : Loc nD τ sig) → Buf (Elt Ideal) ℓ) (c : Dev nD)
variable {h : Fin 8192 → Fin 1024 → EReal} {g : Fin 1024 → EReal} {w : Fin 1024 → Fin 3072 → EReal}
variable (hh : ∀ r k, m ((c : Thread nD τ).loc main_arg0) (ix2 r k) = h r k) (hg : ∀ k, m ((c : Thread nD τ).loc main_arg1) (ix1 k) = g k)
  (hw : ∀ k j, m ((c : Thread nD τ).loc main_arg2) (ix2 k j) = w k j)

include hh in
theorem kept0 (r : Fin 8192) (k : Fin 1024) : V m c main_arg0 (ix2 r k) = h r k := by
  refine Eq.trans ?_ (hh _ _)
  simp only [V, hostOps0]
  after_results_simp
include hg in
theorem v0 (k : Fin 1024) : V m c (Pipeline.arrRef spec0 1) (ix2 0 k) = g k := by
  refine Eq.trans ?_ (hg _)
  simp only [V, hostOps0]
  after_results_simp
  generalize m _ = x
  pointwise
include hw in
theorem v2 (r : Fin 1024) (k : Fin 3072) : V m c (Pipeline.arrRef spec0 2) (ix3 0 r k) = w r k := by
  refine Eq.trans ?_ (hw _ _)
  simp only [V, hostOps0]
  after_results_simp
  generalize m _ = x
  pointwise

include hh in
theorem blk0 (t : Fin cfg0.N) (i : Fin 1024) (k : Fin 1024) : iblk m c 0 t (ix2 i k) = h (row (pt t) i) k := by
  refine Eq.trans ?_ (kept0 m c hh _ _)
  blk_point [iblk, V, (idx t).1]
  rfl
include hg in
theorem blk1 (t : Fin cfg0.N) (k : Fin 1024) : iblk m c 1 t (ix2 0 k) = g k := by
  refine Eq.trans ?_ (v0 m c hg _)
  blk_point [iblk, V, (idx t).2.1]
include hw in
theorem blk2 (t : Fin cfg0.N) (r : Fin 1024) (k : Fin 3072) : iblk m c 2 t (ix3 0 r k) = w r k := by
  refine Eq.trans ?_ (v2 m c hw _ _)
  blk_point [iblk, V, (idx t).2.2.1]

include hh hg in
theorem u_slab (t : Fin cfg0.N) (o : ℕ) (ho : o + 256 ≤ 1024) (inb) (r : Fin 256) (k : Fin 1024) :
    k0_pay1 (F := Ideal) (View.ld (iblk m c 0 t) (Rect.unit (s := S1024x1024) ![o, 0] ![256, 1024] inb)) (iblk m c 1 t) (ix2 r k)
      = unit h g (row (pt t) ⟨o + r.val, by omega⟩) k := by
  have e := fun k => (ld_rows (iblk m c 0 t) o 256 ho inb r k).trans (blk0 m c hh t _ k)
  rw [pay1, blk1 m c hg]
  simp only [e]
  rfl
include hh hg hw in
theorem z_slab (t : Fin cfg0.N) (o : ℕ) (ho : o + 256 ≤ 1024) (inb) (r : Fin 256) (j : Fin 3072) :
    k0_pay2 (F := Ideal) (View.ld (iblk m c 0 t) (Rect.unit (s := S1024x1024) ![o, 0] ![256, 1024] inb)) (iblk m c 1 t) (iblk m c 2 t) (ix2 r j)
      = proj h g w (row (pt t) ⟨o + r.val, by omega⟩) j := by
  rw [pay2]
  simp only [u_slab m c hh hg t o ho inb, blk2 m c hw]
  rfl

variable (h g w) in
/-- What a grid point leaves of the normed rows and of the projection. -/
abbrev GU (t : Fin 8) : S1024x1024.Idx → Elt Ideal .bf16 := fun y => unit h g (row t (y 0)) (y 1)
variable (h g w) in
abbrev GZ (t : Fin 8) : S1024x3072.Idx → Elt Ideal .bf16 := fun y => proj h g w (row t (y 0)) (y 1)

include hh hg in
theorem point3 (t : Fin cfg0.N) (i : Fin 1024) (j : Fin 1024) : (dats m 0 c).after 3 t (ix2 i j) = unit h g (row (pt t) i) j := by
  rw [after0_3]
  unfold out0_3 k0_pay11 k0_pay12
  frame_out
  simp only [pay3, pay9, pay7]
  refine View.canon_apply_of_pieces (GU h g (pt t)) _ ?_ (ix2 i j) (View.cover_of_tiledL (s := S1024x1024) _ S256x1024.size (by sl_kernel_rfl) _)
  simp only [List.mem_cons, List.not_mem_nil, or_false]
  rintro p (rfl | rfl | rfl | rfl)
  · exact holds_rows (e := .bf16) (A := 1024) (B := 1024) (o := 768) (a := 256) (f := fun i => unit h g (row (pt t) i)) (by omega) _ (u_slab m c hh hg t 768 (by omega) _)
  · exact holds_rows (e := .bf16) (A := 1024) (B := 1024) (o := 512) (a := 256) (f := fun i => unit h g (row (pt t) i)) (by omega) _ (u_slab m c hh hg t 512 (by omega) _)
  · exact holds_rows (e := .bf16) (A := 1024) (B := 1024) (o := 256) (a := 256) (f := fun i => unit h g (row (pt t) i)) (by omega) _ (u_slab m c hh hg t 256 (by omega) _)
  · exact holds_rows (e := .bf16) (A := 1024) (B := 1024) (o := 0) (a := 256) (f := fun i => unit h g (row (pt t) i)) (by omega) _ (u_slab m c hh hg t 0 (by omega) _)
include hh hg hw in
theorem point4 (t : Fin cfg0.N) (i : Fin 1024) (j : Fin 3072) : (dats m 0 c).after 4 t (ix2 i j) = proj h g w (row (pt t) i) j := by
  rw [after0_4]
  unfold out0_4 k0_pay11 k0_pay12
  frame_out
  simp only [pay4, pay10, pay8]
  refine View.canon_apply_of_pieces (GZ h g w (pt t)) _ ?_ (ix2 i j) (View.cover_of_tiledL (s := S1024x3072) _ S256x3072.size (by sl_kernel_rfl) _)
  simp only [List.mem_cons, List.not_mem_nil, or_false]
  rintro p (rfl | rfl | rfl | rfl)
  · exact holds_rows (e := .bf16) (A := 1024) (B := 3072) (o := 768) (a := 256) (f := fun i => proj h g w (row (pt t) i)) (by omega) _ (z_slab m c hh hg hw t 768 (by omega) _)
  · exact holds_rows (e := .bf16) (A := 1024) (B := 3072) (o := 512) (a := 256) (f := fun i => proj h g w (row (pt t) i)) (by omega) _ (z_slab m c hh hg hw t 512 (by omega) _)
  · exact holds_rows (e := .bf16) (A := 1024) (B := 3072) (o := 256) (a := 256) (f := fun i => proj h g w (row (pt t) i)) (by omega) _ (z_slab m c hh hg hw t 256 (by omega) _)
  · exact holds_rows (e := .bf16) (A := 1024) (B := 3072) (o := 0) (a := 256) (f := fun i => proj h g w (row (pt t) i)) (by omega) _ (z_slab m c hh hg hw t 0 (by omega) _)

/-! ## The result arrays -/

include hh hg in
theorem final3 : (dats m 0 c).arrAt 3 cfg0.N = fun j : S8192x1024.Idx => unit h g (j 0) (j 1) := by
  refine (dats m 0 c).arrAt_eq_of_covers 3 _ (by decide +kernel) fun t _ y => ?_
  blk_simp
  obtain ⟨i, j, rfl⟩ : ∃ i j, y = ix2 i j := ⟨y 0, y 1, eq_ix2 y⟩
  have e : (win0_3.blk t).view.emb (ix2 i j) = ix2 (row (pt t) i) j := by
    blk_ext [(idx t).2.2.2.1]
    all_goals rfl
  rw [e]
  exact point3 m c hh hg t i j
include hh hg hw in
theorem final4 : (dats m 0 c).arrAt 4 cfg0.N = fun j : S8192x3072.Idx => proj h g w (j 0) (j 1) := by
  refine (dats m 0 c).arrAt_eq_of_covers 4 _ (by decide +kernel) fun t _ y => ?_
  blk_simp
  obtain ⟨i, j, rfl⟩ : ∃ i j, y = ix2 i j := ⟨y 0, y 1, eq_ix2 y⟩
  have e : (win0_4.blk t).view.emb (ix2 i j) = ix2 (row (pt t) i) j := by
    blk_ext [(idx t).2.2.2.2]
    all_goals rfl
  rw [e]
  exact point4 m c hh hg hw t i j

end Cert.NormFwdIdeal.Math
end
end
-- ==== Proof.NormFwdClaim.lean ====
/- The claims about the forward norm with its projection. -/
module

public import proofs.«01_k».proof.Defs
public import proofs.«01_k».proof.Proof.NormFwdValue
public import proofs.«01_k».proof.Proof.Gen.NormFwd.Frame
public import proofs.«01_k».proof.Proof.Gen.NormFwdRefIdeal.Run
public import Idealize.ShloMosaic.Lib.Quiescent

set_option maxRecDepth 16384

@[expose] public section
noncomputable section

open Idealize.ShloMosaic Idealize.ShloMosaic.TcCoe Idealize.SL.Sem

namespace Cert.NormFwdClaim

/-- The reference runs and leaves its arguments as they were. -/
theorem refFrame : Cert.quiescent_NormFwdRefIdeal (hNormFwdRefIdeal := Cert.NormFwdRefIdeal.Gen.facts) :=
  fun m ρ _ => (θ_run Cert.NormFwdRefIdeal.defs _ _).mono
    (fun r h => ⟨fun c => (h c).2.2, Idealize.ShloMosaic.sem_eq_zero_of_no_sems (by decide) r.2⟩)
    (Cert.NormFwdRefIdeal.Value.run (F := Ideal) m ρ)

set_option maxHeartbeats 4000000 in
/-- Kernel and reference end with the same normed rows and the same projection. -/
theorem algebraic : Cert.algebraic_NormFwdIdeal_NormFwdRefIdeal (hNormFwdIdeal := Cert.NormFwdIdeal.Gen.facts)
    (hNormFwdRefIdeal := Cert.NormFwdRefIdeal.Gen.facts) := by
  pair_intro
  · run_from Cert.NormFwdIdeal.Gen.run_main m g
    all_goals
      simp only [Cert.NormFwdIdeal.Gen.hostOps0]
      after_results_simp <;> rfl
  · run_from Cert.NormFwdRefIdeal.Value.run m' g'
    all_goals
      obtain ⟨h, hh⟩ : ∃ h : Fin 8192 → Fin 1024 → EReal, ∀ r k, m ((c : Thread Cert.NormFwdIdeal.nD Cert.NormFwdIdeal.τ).loc Cert.NormFwdIdeal.main_arg0) (ix2 r k) = h r k := ⟨_, fun r k => rfl⟩
      obtain ⟨g, hg⟩ : ∃ g : Fin 1024 → EReal, ∀ k, m ((c : Thread Cert.NormFwdIdeal.nD Cert.NormFwdIdeal.τ).loc Cert.NormFwdIdeal.main_arg1) (ix1 k) = g k := ⟨_, fun k => rfl⟩
      obtain ⟨w, hw⟩ : ∃ w : Fin 1024 → Fin 3072 → EReal, ∀ r k, m ((c : Thread Cert.NormFwdIdeal.nD Cert.NormFwdIdeal.τ).loc Cert.NormFwdIdeal.main_arg2) (ix2 r k) = w r k := ⟨_, fun r k => rfl⟩
    · rw [Cert.NormFwdIdeal.Math.final3 m c hh hg, Cert.NormFwdRefIdeal.Read.val_main_v13_eq]
      funext j
      obtain ⟨i, k, rfl⟩ : ∃ i k, j = ix2 i k := ⟨j 0, j 1, eq_ix2 j⟩
      try rw [(hagree c).1, (hagree c).2.1]
      exact Cert.NormFwdRefIdeal.Math.v13 hh hg i k
    · rw [Cert.NormFwdIdeal.Math.final4 m c hh hg hw, Cert.NormFwdRefIdeal.Read.val_main_v15_eq]
      funext j
      obtain ⟨i, k, rfl⟩ : ∃ i k, j = ix2 i k := ⟨j 0, j 1, eq_ix2 j⟩
      try rw [(hagree c).1, (hagree c).2.1, (hagree c).2.2]
      exact Cert.NormFwdRefIdeal.Math.v15 hh hg hw i k

end Cert.NormFwdClaim

end
end
-- ==== Proof.WindowMath.lean ====
/- Attention over a window with a sink: weights of the scores that are allowed, as one number, however the softmax is written. -/
module

public import proofs.«01_k».proof.Proof.NormMath

@[expose] public section
noncomputable section

open Idealize.ShloMosaic Cert.RealLift

namespace Cert.WindowMath

variable {n : ℕ} (P : Fin n → Prop) [DecidablePred P] (x : Fin n → ℝ) (b : ℝ)

/-- The exponential of a score, zero where the score is not allowed. -/
def part (k : Fin n) : ℝ := if P k then Real.exp (x k) else 0
/-- The weight of a score among the allowed ones and the sink. -/
def weight (k : Fin n) : ℝ := part P x k / ((∑ y, part P x y) + Real.exp b)
/-- A score, −∞ where it is not allowed. -/
def masked (k : Fin n) : EReal := if P k then (x k : EReal) else ⊥

theorem part_nonneg (k : Fin n) : 0 ≤ part P x k := by
  unfold part
  split
  · exact (Real.exp_pos _).le
  · exact le_rfl

theorem total_pos : 0 < (∑ y, part P x y) + Real.exp b :=
  add_pos_of_nonneg_of_pos (Finset.sum_nonneg fun y _ => part_nonneg P x y) (Real.exp_pos b)

theorem exp_masked (M : ℝ) (k : Fin n) : Ideal.exp (masked P x k - (M : EReal)) = ((part P (fun k => x k - M) k : ℝ) : EReal) := by
  unfold masked part
  split
  · rw [← EReal.coe_sub, exp_coe]
  · rw [EReal.bot_sub]
    rfl

theorem part_shift (M : ℝ) (k : Fin n) : part P (fun k => x k - M) k = part P x k / Real.exp M := by
  unfold part
  split
  · exact Real.exp_sub _ _
  · exact (zero_div _).symm

/-- A shift of all scores and the sink leaves the weights. -/
theorem weight_shift (M : ℝ) (k : Fin n) :
    part P (fun k => x k - M) k / ((∑ y, part P (fun k => x k - M) y) + Real.exp (b - M)) = weight P x b k := by
  unfold weight
  simp only [part_shift, Real.exp_sub, ← Finset.sum_div, ← add_div]
  exact div_div_div_cancel_right₀ (Real.exp_ne_zero M) _ _

theorem masked_ne_top (k : Fin n) : masked P x k ≠ ⊤ := by
  unfold masked
  split
  · exact EReal.coe_ne_top _
  · exact bot_ne_top

/-- The largest of the allowed scores and the sink is a real number. -/
theorem top_real : ∃ M : ℝ, max (Finset.univ.fold max (⊥ : EReal) (fun k => masked P x k)) (b : EReal) = (M : EReal) := by
  refine ⟨EReal.toReal _, (EReal.coe_toReal ?_ ?_).symm⟩
  · exact (max_lt ((Finset.fold_max_lt _).mpr ⟨bot_lt_top, fun k _ => lt_top_iff_ne_top.mpr (masked_ne_top P x k)⟩) (EReal.coe_lt_top b)).ne
  · exact ((EReal.bot_lt_coe b).trans_le (le_max_right _ _)).ne'

/-- The weighted sum of the values divided once by the total. -/
theorem kernel_out (V : Fin n → EReal) :
    Ideal.div (∑ k, Ideal.exp (masked P x k - max (Finset.univ.fold max (⊥ : EReal) (fun k => masked P x k)) (b : EReal)) * V k)
      ((∑ y, Ideal.exp (masked P x y - max (Finset.univ.fold max (⊥ : EReal) (fun k => masked P x k)) (b : EReal)))
        + Ideal.exp ((b : EReal) - max (Finset.univ.fold max (⊥ : EReal) (fun k => masked P x k)) (b : EReal)))
      = ∑ k, ((weight P x b k : ℝ) : EReal) * V k := by
  obtain ⟨M, hM⟩ := top_real P x b
  rw [hM]
  simp only [exp_masked, ← EReal.coe_sub, exp_coe, coe_sum, ← EReal.coe_add]
  have hl := total_pos P (fun k => x k - M) (b - M)
  have hp := one_div_nonneg.mpr hl.le
  rw [Ideal.div_coe hl.ne', ← NormMath.sum_mul_nonneg _ _ _ hp]
  refine Finset.sum_congr rfl fun k _ => ?_
  rw [mul_right_comm, ← EReal.coe_mul, ← weight_shift P x b M k, mul_one_div]

/-- The softmax over the scores with the sink behind them. -/
theorem ref_weight (y : Fin (n + 1) → EReal) (hy : ∀ k, y k.castSucc = masked P x k) (hb : y (Fin.last n) = (b : EReal)) (k : Fin n) :
    Ideal.div (Ideal.exp (y k.castSucc - Finset.univ.fold max (⊥ : EReal) y)) (∑ j, Ideal.exp (y j - Finset.univ.fold max (⊥ : EReal) y))
      = ((weight P x b k : ℝ) : EReal) := by
  have e : Finset.univ.fold max (⊥ : EReal) y = max (Finset.univ.fold max (⊥ : EReal) (fun k => masked P x k)) (b : EReal) := by
    refine le_antisymm (Finset.fold_max_le _ |>.mpr ⟨bot_le, fun j _ => ?_⟩) (max_le (Finset.fold_max_le _ |>.mpr ⟨bot_le, fun k _ => ?_⟩) ?_)
    · refine Fin.lastCases ?_ (fun k => ?_) j
      · rw [hb]; exact le_max_right _ _
      · rw [hy]; exact le_max_of_le_left (Finset.le_fold_max _ |>.mpr (.inr ⟨k, Finset.mem_univ _, le_rfl⟩))
    · rw [← hy]; exact Finset.le_fold_max _ |>.mpr (.inr ⟨_, Finset.mem_univ _, le_rfl⟩)
    · rw [← hb]; exact Finset.le_fold_max _ |>.mpr (.inr ⟨_, Finset.mem_univ _, le_rfl⟩)
  obtain ⟨M, hM⟩ := top_real P x b
  rw [e, hM, Fin.sum_univ_castSucc]
  simp only [hy, hb, exp_masked, ← EReal.coe_sub, exp_coe, coe_sum, ← EReal.coe_add]
  rw [div_coe _ _ (total_pos P (fun k => x k - M) (b - M)).ne', weight_shift]

end Cert.WindowMath

end
end
-- ==== Proof.WindowFwdMath.lean ====
/- The windowed attention over blocks of 128 queries and the 256 keys around them, with a sink per head and slopes by head. -/
module

public import proofs.«01_k».proof.Proof.WindowMath

set_option maxRecDepth 16384

@[expose] public section
noncomputable section

open Idealize.ShloMosaic Cert.RealLift Cert.WindowMath

namespace Cert.WindowFwdMath

/-- How far a key lies behind a query, as the programs count it. -/
def dist (q : Fin 128) (s : Fin 256) : BitVec 32 := BitVec.ofNat 32 q.val + 128#32 - BitVec.ofNat 32 s.val
/-- Which keys a query of block `n` looks at: the 128 up to its own, and none before the sequence. -/
def allowed (n : Fin 64) (q : Fin 128) (s : Fin 256) : Prop := q.val < s.val ∧ s.val ≤ q.val + 128 ∧ (128 ≤ s.val ∨ 0 < n.val)
instance (n : Fin 64) (q : Fin 128) : DecidablePred (allowed n q) := fun s => by unfold allowed; infer_instance

/-- The slope of a head. -/
def slope (h : Fin 8) : ℝ := (2 : ℝ) ^ (-((h.val : ℝ) + 1))

theorem near : ∀ (q : Fin 128) (s : Fin 256), IntOp.andi (IntOp.cmpi .sge (dist q s) 0#32) (IntOp.cmpi .slt (dist q s) 128#32)
    = if q.val < s.val ∧ s.val ≤ q.val + 128 then 1#1 else 0#1 := by decide +kernel
theorem far : ∀ s : Fin 256, IntOp.cmpi .sge (BitVec.ofNat 32 s.val) 128#32 = if 128 ≤ s.val then 1#1 else 0#1 := by decide +kernel

theorem and_or (p q r : Prop) [Decidable p] [Decidable q] [Decidable r] :
    IntOp.andi (if p then 1#1 else 0#1) (IntOp.ori (if q then 1#1 else 0#1) (if r then 1#1 else 0#1)) = if p ∧ (q ∨ r) then 1#1 else 0#1 := by
  by_cases p <;> by_cases q <;> by_cases r <;> simp_all <;> rfl
theorem select_if {α : Type} (p : Prop) [Decidable p] (a b : α) : Scalar.select (if p then 1#1 else 0#1) a b = if p then a else b := by
  split <;> rfl

/-- The mask as the kernel forms it. -/
theorem mask (n : Fin 64) (q : Fin 128) (s : Fin 256) :
    IntOp.andi (IntOp.andi (IntOp.cmpi .sge (dist q s) 0#32) (IntOp.cmpi .slt (dist q s) 128#32))
      (IntOp.ori (IntOp.cmpi .sge (BitVec.ofNat 32 s.val) 128#32) (if 0 < n.val then 1#1 else 0#1)) = if allowed n q s then 1#1 else 0#1 := by
  rw [near, far, and_or]
  exact if_congr and_assoc rfl rfl

/-- The slope of a head as a power of one half. -/
theorem slope_eq (h : Fin 8) : slope h = (1 / 2 : ℝ) ^ (h.val + 1) := by
  unfold slope
  rw [Real.rpow_neg (by norm_num), show ((h.val : ℝ) + 1) = ((h.val + 1 : ℕ) : ℝ) by push_cast; rfl, Real.rpow_natCast, one_div, inv_pow]

section
variable (z : Fin 8192 → Fin 1792 → EReal) (b : Fin 8 → EReal)
variable (n : Fin 64) (q : Fin 128) (h : Fin 8) (kv : Fin 2) (s : Fin 256) (d : Fin 64)

/-- A query. -/
def query : ℝ := (z ⟨n.val * 128 + q.val, by omega⟩ ⟨1024 + (h.val * 64 + d.val), by omega⟩).toReal
/-- A key of the block before and the block itself, zero before the sequence. -/
def key : ℝ := if g : 128 ≤ n.val * 128 + s.val then (z ⟨n.val * 128 + s.val - 128, by omega⟩ ⟨1536 + (kv.val * 64 + d.val), by omega⟩).toReal else 0
/-- A value likewise. -/
def value : EReal := if g : 128 ≤ n.val * 128 + s.val then z ⟨n.val * 128 + s.val - 128, by omega⟩ ⟨1664 + (kv.val * 64 + d.val), by omega⟩ else 0
/-- The keys' head of a head. -/
def kvOf : Fin 2 := ⟨h.val / 4, by omega⟩
/-- A score. -/
def score : ℝ := (∑ d, query z n q h d * key z n (kvOf h) s d) * (1 / 8) - slope h * ((dist q s).toInt : ℝ)
/-- One entry of a head's output. -/
def att : EReal := ∑ s, ((weight (allowed n q) (score z n q h) (b h).toReal s : ℝ) : EReal) * value z n (kvOf h) s d
end

/-- The output, heads side by side. -/
def out (z : Fin 8192 → Fin 1792 → EReal) (b : Fin 8 → EReal) (r : Fin 8192) (c : Fin 512) : EReal :=
  att z b ⟨r.val / 128, by omega⟩ ⟨r.val % 128, by omega⟩ ⟨c.val / 64, by omega⟩ ⟨c.val % 64, by omega⟩

theorem out_at (z : Fin 8192 → Fin 1792 → EReal) (b : Fin 8 → EReal) (n : Fin 64) (q : Fin 128) (h : Fin 8) (d : Fin 64) (r : Fin 8192) (c : Fin 512)
    (hr : r.val = n.val * 128 + q.val) (hc : c.val = h.val * 64 + d.val) : out z b r c = att z b n q h d := by
  have e1 : (⟨r.val / 128, by omega⟩ : Fin 64) = n := Fin.ext (show r.val / 128 = n.val by omega)
  have e2 : (⟨r.val % 128, by omega⟩ : Fin 128) = q := Fin.ext (show r.val % 128 = q.val by omega)
  have e3 : (⟨c.val / 64, by omega⟩ : Fin 8) = h := Fin.ext (show c.val / 64 = h.val by omega)
  have e4 : (⟨c.val % 64, by omega⟩ : Fin 64) = d := Fin.ext (show c.val % 64 = d.val by omega)
  unfold out
  rw [e1, e2, e3, e4]

end Cert.WindowFwdMath

end
end
-- ==== Proof.WindowFwdKernel.lean ====
/- What the windowed attention's kernel computes of one block of queries and one key head, entry by entry. -/
module

public import proofs.«01_k».proof.Proof.Gen.WindowFwdIdeal.Value
public import proofs.«01_k».proof.Proof.WindowFwdMath
public import Idealize.ShloMosaic.Lib.Pipeline.ValueKit
public import Idealize.ShloMosaic.Lib.Pointwise
set_option maxRecDepth 16384
@[expose] public section
noncomputable section
open Idealize.ShloMosaic Idealize.ShloMosaic.TcCoe Idealize.SL.Sem
open Cert.WindowFwdIdeal Cert.WindowFwdIdeal.Gen Cert.RealLift Cert.WindowMath Cert.WindowFwdMath
namespace Cert.WindowFwdIdeal.Math

/-- A row of the four stacked heads: its head in the group, its query. -/
def stacked (g : Fin 4) (q : Fin 128) : Fin 512 := ⟨g.val * 128 + q.val, by omega⟩

theorem grp_all : ∀ r : Fin 512, k0_pay6 (ix2 r 0) = BitVec.ofNat 32 (r.val / 128) := by decide +kernel
theorem grp (g : Fin 4) (q : Fin 128) : k0_pay6 (ix2 (stacked g q) 0) = BitVec.ofNat 32 g.val :=
  (grp_all _).trans (congrArg (BitVec.ofNat 32) (show (g.val * 128 + q.val) / 128 = g.val by omega))
theorem low_all : ∀ r : Fin 512, IntOp.andi (BitVec.ofNat 32 r.val) 127#32 = BitVec.ofNat 32 (r.val % 128) := by decide +kernel
theorem pay4 (g : Fin 4) (q : Fin 128) (s : Fin 256) : k0_pay4 (ix2 (stacked g q) s) = dist q s := by
  pointwise [k0_pay4]
  rw [low_all, show (stacked g q).val % 128 = q.val from (show (g.val * 128 + q.val) % 128 = q.val by omega)]
  rfl
theorem pay7 (g : Fin 4) (q : Fin 128) (s : Fin 256) : k0_pay7 (F := Ideal) (ix2 (stacked g q) s) = (((dist q s).toInt : ℝ) : EReal) := by
  pointwise [k0_pay7]
  rw [pay4]
  rfl

/-- The mask of a block of queries. -/
def maskOf (e : BitVec 1) : IVec S512x256 1 :=
  andi k0_pay5 (ori (cmpi .sge (iota .tc S512x256 32 [1] iota_S512x256_d1_w32) (broadcast S512x256 128#32)) (broadcast S512x256 e))
theorem maskOf_at (e : BitVec 1) (n : Fin 64) (he : e = if 0 < n.val then 1#1 else 0#1) (g : Fin 4) (q : Fin 128) (s : Fin 256) :
    maskOf e (ix2 (stacked g q) s) = if allowed n q s then 1#1 else 0#1 := by
  rw [← mask]
  pointwise [maskOf, k0_pay5]
  rw [pay4, he]
  try rfl
theorem later : ∀ (i : Fin 32), Scalar.cmpi .sgt (Scalar.addi (Scalar.muli (BitVec.ofNat 32 i.val) 2#32) 0#32) 0#32 = (if 0 < i.val * 2 + 0 then 1#1 else 0#1)
    ∧ Scalar.cmpi .sgt (Scalar.addi (Scalar.muli (BitVec.ofNat 32 i.val) 2#32) 1#32) 0#32 = (if 0 < i.val * 2 + 1 then 1#1 else 0#1) := by decide +kernel

/-- Four numbers by the head in the group, as the kernel picks one. -/
theorem pick4 (f : Fin 4 → EReal) (g : Fin 4) :
    Scalar.select (IntOp.cmpi .eq (BitVec.ofNat 32 g.val) 0#32) (f 0) (Scalar.select (IntOp.cmpi .eq (BitVec.ofNat 32 g.val) 1#32) (f 1)
      (Scalar.select (IntOp.cmpi .eq (BitVec.ofNat 32 g.val) 2#32) (f 2) (f 3))) = f g := by
  fin_cases g <;> rfl
theorem sink0 (a b c d : EReal) (g : Fin 4) (q : Fin 128) : k0_pay9 (F := Ideal) k0_pay6 a b c (k0_pay8 d) 2#32 (ix2 (stacked g q) 0) = ![a, b, c, d] g := by
  pointwise [k0_pay9, k0_pay8]
  rw [grp]
  exact pick4 ![a, b, c, d] g
theorem sink1 (a b c d : EReal) (g : Fin 4) (q : Fin 128) : k0_pay28 (F := Ideal) k0_pay6 a b c d (ix2 (stacked g q) 0) = ![a, b, c, d] g := by
  pointwise [k0_pay28]
  rw [grp]
  exact pick4 ![a, b, c, d] g

theorem half (h : Fin 8) : Ideal.ofBits .f32 (![0x3F000000#32, 0x3E800000#32, 0x3E000000#32, 0x3D800000#32, 0x3D000000#32, 0x3C800000#32, 0x3C000000#32, 0x3B800000#32] h)
    = ((slope h : ℝ) : EReal) := by
  rw [slope_eq]
  fin_cases h <;> simp [Ideal.ofBits, Ideal.ieee, -EReal.coe_mul] <;> norm_num
theorem eighth : Ideal.ofBits .f32 0x3E000000#32 = ((1 / 8 : ℝ) : EReal) := by
  simp [Ideal.ofBits, Ideal.ieee, -EReal.coe_mul]; norm_num
theorem slope0 (g : Fin 4) (q : Fin 128) : k0_pay10 (F := Ideal) k0_pay6 (ix2 (stacked g q) 0) = ((slope ⟨g.val, by omega⟩ : ℝ) : EReal) := by
  pointwise [k0_pay10]
  rw [grp]
  exact (pick4 (fun g => ((slope ⟨g.val, by omega⟩ : ℝ) : EReal)) g ▸ by rw [← half, ← half, ← half, ← half]; rfl)
theorem slope1 (g : Fin 4) (q : Fin 128) : k0_pay30 (F := Ideal) k0_pay6 k0_pay29 (ix2 (stacked g q) 0) = ((slope ⟨4 + g.val, by omega⟩ : ℝ) : EReal) := by
  pointwise [k0_pay30, k0_pay29]
  rw [grp]
  exact (pick4 (fun g => ((slope ⟨4 + g.val, by omega⟩ : ℝ) : EReal)) g ▸ by rw [← half, ← half, ← half, ← half]; rfl)

/-- One of four blocks of 128 rows put on top of each other. -/
theorem stack (Q : Fin 4 → Fin 128 → Fin 64 → ℝ) (g : Fin 4) (q : Fin 128) (k : Fin 64) :
    (if h : (stacked g q).val < 128 then ((Q 0 ⟨(stacked g q).val, h⟩ k : ℝ) : EReal)
      else if h : (stacked g q).val - 128 < 128 then ((Q 1 ⟨(stacked g q).val - 128, h⟩ k : ℝ) : EReal)
      else if h : (stacked g q).val - 128 - 128 < 128 then ((Q 2 ⟨(stacked g q).val - 128 - 128, h⟩ k : ℝ) : EReal)
      else ((Q 3 ⟨(stacked g q).val - 128 - 128 - 128, by have := (stacked g q).isLt; omega⟩ k : ℝ) : EReal)) = ((Q g q k : ℝ) : EReal) := by
  have e : ∀ (i : Fin 4) (j : Fin 128), i.val = g.val → j.val = q.val → ((Q i j k : ℝ) : EReal) = ((Q g q k : ℝ) : EReal) := fun i j hi hj => by
    rw [Fin.ext hi, Fin.ext hj]
  have hs : (stacked g q).val = g.val * 128 + q.val := rfl
  have := g.isLt
  have := q.isLt
  split
  · exact e _ _ (by show 0 = g.val; omega) (by show (stacked g q).val = q.val; omega)
  split
  · exact e _ _ (by show 1 = g.val; omega) (by show (stacked g q).val - 128 = q.val; omega)
  split
  · exact e _ _ (by show 2 = g.val; omega) (by show (stacked g q).val - 128 - 128 = q.val; omega)
  · exact e _ _ (by show 3 = g.val; omega) (by show (stacked g q).val - 128 - 128 - 128 = q.val; omega)

/-- The word of the mask stands for −∞. -/
theorem mask_word : (Named.named κ "mask" 0xF149F2CA#32 : Ideal .f32) = (⊥ : EReal) := rfl

/-- One entry of a block's output: the allowed scores' weights times the values. -/
theorem att_pay (g : Fin 4) (q : Fin 128) (d : Fin 64) (v37 : FVec Ideal S512x256 .f32) (v54 : FVec Ideal S512x1 .f32) (v67 : FVec Ideal S512x1 .f32) (v77 : IVec S512x256 1)
    (v80 : FVec Ideal S256x64 .bf16) (v83 : FVec Ideal S256x64 .bf16) (v84 : Vec Ideal S128x64 .bf16) (v86 : Vec Ideal S128x64 .bf16) (v88 : Vec Ideal S128x64 .bf16) (v90 : Vec Ideal S128x64 .bf16)
    (D : Fin 256 → ℝ) (b l : ℝ) (P : Fin 256 → Prop) [DecidablePred P] (Q : Fin 4 → Fin 128 → Fin 64 → ℝ) (K : Fin 256 → Fin 64 → ℝ) (V : Fin 256 → Fin 64 → EReal)
    (h37 : ∀ s, v37 (ix2 (stacked g q) s) = (D s : EReal)) (h54 : v54 (ix2 (stacked g q) 0) = (b : EReal)) (h67 : v67 (ix2 (stacked g q) 0) = (l : EReal))
    (h77 : ∀ s, v77 (ix2 (stacked g q) s) = if P s then 1#1 else 0#1) (h80 : ∀ s k, v80 (ix2 s k) = (K s k : EReal)) (h83 : ∀ s k, v83 (ix2 s k) = V s k)
    (h84 : ∀ q k, v84 (ix2 q k) = (Q 0 q k : EReal)) (h86 : ∀ q k, v86 (ix2 q k) = (Q 1 q k : EReal)) (h88 : ∀ q k, v88 (ix2 q k) = (Q 2 q k : EReal))
    (h90 : ∀ q k, v90 (ix2 q k) = (Q 3 q k : EReal)) :
    k0_pay14 v37 v54 v67 v77 v80 v83 v84 v86 v88 v90 (ix2 (stacked g q) d)
      = ∑ s, ((weight P (fun s => (∑ k, Q g q k * K s k) * (1 / 8) - l * D s) b s : ℝ) : EReal) * V s d := by
  rw [← kernel_out]
  pointwise [k0_pay14]
  simp only [h37, h54, h67, h77, h80, h83, h84, h86, h88, h90, select_if, eighth, ofBits_negInf, stack, mask_word, ← EReal.coe_mul, coe_sum,
    ← EReal.coe_sub]
  rfl

/-! ## The same computation as it is written at the other blocks and key head -/

section
variable (a : BitVec 32) (v37 : FVec Ideal S512x256 .f32) (v54 v67 : FVec Ideal S512x1 .f32) (kk vv : Vec Ideal S256x64 .bf16) (q0 q1 q2 q3 : Vec Ideal S128x64 .bf16)

theorem first : k0_pay11 a (iota .tc S512x256 32 [1] iota_S512x256_d1_w32) k0_pay5 = maskOf (Scalar.cmpi .sgt (Scalar.addi (Scalar.muli a 2#32) 0#32) 0#32) := rfl
theorem third : k0_pay31 a (iota .tc S512x256 32 [1] iota_S512x256_d1_w32) k0_pay5 = maskOf (Scalar.cmpi .sgt (Scalar.addi (Scalar.muli a 2#32) 0#32) 0#32) := rfl
theorem second_pay : k0_pay23 v54 (k0_pay19 vv) (k0_pay20 a (iota .tc S512x256 32 [1] iota_S512x256_d1_w32) k0_pay5 v37 v67 kk q0 q1 q2 q3)
    (k0_pay21 a (iota .tc S512x256 32 [1] iota_S512x256_d1_w32) k0_pay5 v37 v54 v67 kk q0 q1 q2 q3)
    (k0_pay22 a (iota .tc S512x256 32 [1] iota_S512x256_d1_w32) k0_pay5 v37 v54 v67 kk q0 q1 q2 q3)
    = k0_pay14 v37 v54 v67 (maskOf (Scalar.cmpi .sgt (Scalar.addi (Scalar.muli a 2#32) 1#32) 0#32)) (k0_pay12 kk) (k0_pay13 vv) q0 q1 q2 q3 := rfl
theorem third_pay (w : IVec S512x256 1) : k0_pay34 v37 v54 v67 w (k0_pay32 vv) (k0_pay33 kk q0 q1 q2 q3)
    = k0_pay14 v37 v54 v67 w (k0_pay12 kk) (k0_pay13 vv) q0 q1 q2 q3 := rfl
theorem fourth_pay (e : BitVec 1) : k0_pay40 k0_pay5 v37 v54 v67 (k0_pay39 (iota .tc S512x256 32 [1] iota_S512x256_d1_w32)) e kk vv q0 q1 q2 q3
    = k0_pay14 v37 v54 v67 (maskOf e) (k0_pay12 kk) (k0_pay13 vv) q0 q1 q2 q3 := rfl
theorem keys (v : Vec Ideal S256x64 .bf16) (s : Fin 256) (k : Fin 64) : k0_pay12 (F := Ideal) v (ix2 s k) = v (ix2 s k) := by
  pointwise [k0_pay12]
theorem values (v : Vec Ideal S256x64 .bf16) (s : Fin 256) (k : Fin 64) : k0_pay13 (F := Ideal) v (ix2 s k) = v (ix2 s k) := by
  pointwise [k0_pay13]
end
end Cert.WindowFwdIdeal.Math
end
end
-- ==== Proof.WindowFwdValue.lean ====
/- What the windowed attention leaves in its result array, entry by entry: the other operator's half as it was, the heads beside it. -/
module

public import proofs.«01_k».proof.Proof.WindowFwdKernel
public import proofs.«01_k».proof.Proof.Rows
public import Idealize.ShloMosaic.Lib.StableHlo.ReadAt
set_option maxRecDepth 16384
@[expose] public section
noncomputable section
open Idealize.ShloMosaic Idealize.ShloMosaic.TcCoe Idealize.SL.Sem
open Cert.WindowFwdIdeal Cert.WindowFwdIdeal.Gen Cert.RealLift Cert.WindowMath Cert.WindowFwdMath Cert.Rows
namespace Cert.WindowFwdIdeal.Math

theorem idx : ∀ t : Fin cfg0.N, win0_0.index t = ![0] ∧ win0_1.index t = ![t.val, 2] ∧ win0_2.index t = ![0, 0]
    ∧ win0_3.index t = ![0, 0] ∧ win0_4.index t = ![t.val, 1] :=
  (by decide +kernel : ∀ t : Fin grid0.N, _)
theorem coord : ∀ t : Fin cfg0.N, (grid0.coords t 0).val = t.val :=
  (by decide +kernel : ∀ t : Fin grid0.N, _)
theorem off1 : ∀ t : Fin cfg0.N, k0_off1 (grid0.coords t) 0#32 = ![(t.val * 2 + 0) * 128, 0 * 64] ∧ k0_off1 (grid0.coords t) 1#32 = ![(t.val * 2 + 1) * 128, 0 * 64]
    ∧ k0_off2 (grid0.coords t) 0#32 = ![(t.val * 2 + 0) * 128, 1 * 64] ∧ k0_off2 (grid0.coords t) 1#32 = ![(t.val * 2 + 1) * 128, 1 * 64] :=
  (by decide +kernel : ∀ t : Fin grid0.N, _)
theorem lt32 (t : Fin cfg0.N) : t.val < 32 := t.isLt.trans_eq N_0

/-- A block of queries of a grid point. -/
def blk (t : Fin cfg0.N) (b : Fin 2) : Fin 64 := ⟨t.val * 2 + b.val, by have := lt32 t; omega⟩
/-- A head, counted through the key heads. -/
def hd (kv : Fin 2) (g : Fin 4) : Fin 8 := ⟨kv.val * 4 + g.val, by omega⟩
theorem kv_hd (kv : Fin 2) (g : Fin 4) : kvOf (hd kv g) = kv := Fin.ext (show (kv.val * 4 + g.val) / 4 = kv.val by omega)

theorem zero_int : (FloatOps.sitofp (F := Ideal) .bf16 (0#32 : BitVec 32) : EReal) = 0 := by
  show (((0#32 : BitVec 32).toInt : ℝ) : EReal) = 0
  simp
theorem pad_if {r : ℕ} (f : 128 ≤ r → EReal) (h : r < 8320) :
    (if g : 128 ≤ r ∧ r - 128 < 8192 then f g.1 else (FloatOps.sitofp (F := Ideal) .bf16 (0#32 : BitVec 32) : EReal)) = if g : 128 ≤ r then f g else 0 := by
  rw [zero_int]
  by_cases g : 128 ≤ r
  · rw [dif_pos ⟨g, by omega⟩, dif_pos g]
  · rw [dif_neg (fun k => g k.1), dif_neg g]

variable (m : (ℓ : Loc nD τ sig) → Buf (Elt Ideal) ℓ) (c : Dev nD)
variable {z : Fin 8192 → Fin 1792 → EReal} {b : Fin 8 → EReal} {e : Fin 8192 → Fin 1024 → EReal}

section
variable (hz : ∀ r k, m ((c : Thread nD τ).loc main_arg0) (ix2 r k) = z r k)
  (hb : ∀ k, m ((c : Thread nD τ).loc main_arg1) (ix1 k) = b k)
  (he : ∀ r k, m ((c : Thread nD τ).loc main_arg2) (ix2 r k) = e r k)

include hz in
theorem v0 (r : Fin 8192) (k : Fin 1792) : V m c main_v0 (ix2 r k) = z r k := by
  refine Eq.trans ?_ (hz _ _)
  simp only [V, hostOps0, hostOps0_1, hostOps0_2, hostOps0_3, hostOps0_4, List.flatten_cons, List.flatten_nil, List.append_nil, List.cons_append, List.nil_append,
    StableHlo.TRef.binary, StableHlo.TRef.unary, StableHlo.TRef.toBuf, StableHlo.TRef.ofBuf, cast_eq]
  after_results_simp
  generalize m _ = x
  pointwise
include he in
theorem v6 (r : Fin 8192) (k : Fin 1024) : V m c main_v6 (ix2 r k) = e r k := by
  refine Eq.trans ?_ (he _ _)
  simp only [V, hostOps0, hostOps0_1, hostOps0_2, hostOps0_3, hostOps0_4, List.flatten_cons, List.flatten_nil, List.append_nil, List.cons_append, List.nil_append,
    StableHlo.TRef.binary, StableHlo.TRef.unary, StableHlo.TRef.toBuf, StableHlo.TRef.ofBuf, cast_eq]
  after_results_simp
  rfl
include hz in
theorem v2 (r : Fin 8320) (k : Fin 128) : V m c main_v2 (ix2 r k) = if g : 128 ≤ r.val then z ⟨r.val - 128, by omega⟩ ⟨1536 + k.val, by omega⟩ else 0 := by
  simp only [← hz]
  simp only [V, hostOps0, hostOps0_1, hostOps0_2, hostOps0_3, hostOps0_4, List.flatten_cons, List.flatten_nil, List.append_nil, List.cons_append, List.nil_append,
    StableHlo.TRef.binary, StableHlo.TRef.unary, StableHlo.TRef.toBuf, StableHlo.TRef.ofBuf, cast_eq]
  after_results_simp
  generalize m _ = x
  pointwise []
  exact pad_if (fun g => x (ix2 ⟨r.val - 128, by omega⟩ ⟨1536 + k.val, by omega⟩)) r.isLt
include hz in
theorem v4 (r : Fin 8320) (k : Fin 128) : V m c main_v4 (ix2 r k) = if g : 128 ≤ r.val then z ⟨r.val - 128, by omega⟩ ⟨1664 + k.val, by omega⟩ else 0 := by
  simp only [← hz]
  simp only [V, hostOps0, hostOps0_1, hostOps0_2, hostOps0_3, hostOps0_4, List.flatten_cons, List.flatten_nil, List.append_nil, List.cons_append, List.nil_append,
    StableHlo.TRef.binary, StableHlo.TRef.unary, StableHlo.TRef.toBuf, StableHlo.TRef.ofBuf, cast_eq]
  after_results_simp
  generalize m _ = x
  pointwise []
  exact pad_if (fun g => x (ix2 ⟨r.val - 128, by omega⟩ ⟨1664 + k.val, by omega⟩)) r.isLt
include hb in
theorem sink_ld (t : Fin cfg0.N) (h : Fin 8) (o : ℕ) (ho : o = h.val) (inb p) :
    View.ld (iblk m c 0 t) (Rect.unit (s := S8) ![o] ![1] inb) (Shape.Idx.first p) = b h := by
  subst ho
  refine Eq.trans ?_ (hb h)
  refine (View.ld_unit_apply_of (iblk m c 0 t) _ _ inb _ (ix1 h) (fun a => match a with | 0 => rfl)).trans ?_
  blk_point [iblk, V, (idx t).1]
include hz in
theorem x1 (t : Fin cfg0.N) (r : Fin 256) (k : Fin 512) : X0_1 m c t (ix2 r k) = z ⟨t.val * 256 + r.val, by have := lt32 t; omega⟩ ⟨1024 + k.val, by omega⟩ := by
  unfold X0_1 Pipeline.Window.fill
  rw [dif_pos (moved0_1 t _)]
  refine Eq.trans ?_ (v0 m c hz _ _)
  blk_point [iblk, (idx t).2.1]

/-! ## One block of queries and one key head -/

theorem query_eq (rq : ∀ (r : Fin 8192) (k : Fin 1792), 1024 ≤ k.val → k.val < 1664 → ∃ y : ℝ, z r k = y) (r : Fin 8192) (k : Fin 1792) (h : 1024 ≤ k.val) (h' : k.val < 1664) :
    z r k = ((z r k).toReal : EReal) := by
  obtain ⟨y, hy⟩ := rq r k h h'
  rw [hy, EReal.toReal_coe]

variable (rq : ∀ (r : Fin 8192) (k : Fin 1792), 1024 ≤ k.val → k.val < 1664 → ∃ y : ℝ, z r k = y) (rb : ∀ h, ∃ y : ℝ, b h = y)

include hz rq in
theorem query_ld (t : Fin cfg0.N) (s : Fin 2) (h : Fin 8) (o p : ℕ) (ho : o = s.val * 128) (hp : p = h.val * 64) (inb) (q : Fin 128) (d : Fin 64) :
    View.ld (X0_1 m c t) (Rect.unit (s := S256x512) ![o, p] ![128, 64] inb) (ix2 q d) = ((query z (blk t s) q h d : ℝ) : EReal) := by
  have := lt32 t
  rw [ld_at (A := 256) (B := 512) (X0_1 m c t) o p 128 64 (by omega) (by omega) inb q d, x1 m c hz]
  refine (query_eq rq _ _ (Nat.le_add_right _ _) (by show 1024 + (p + d.val) < 1664; omega)).trans ?_
  unfold query
  refine congrArg (fun x : EReal => ((x.toReal : ℝ) : EReal)) (congrArg₂ z (Fin.ext ?_) (Fin.ext ?_))
  · show t.val * 256 + (o + q.val) = (t.val * 2 + s.val) * 128 + q.val; omega
  · show 1024 + (p + d.val) = 1024 + (h.val * 64 + d.val); omega
include hz in
theorem blk2 (t : Fin cfg0.N) (r : Fin 8320) (k : Fin 128) : iblk m c 2 t (ix2 r k) = if g : 128 ≤ r.val then z ⟨r.val - 128, by omega⟩ ⟨1536 + k.val, by omega⟩ else 0 := by
  refine Eq.trans ?_ (v2 m c hz _ _)
  blk_point [iblk, (idx t).2.2.1]
include hz in
theorem blk3 (t : Fin cfg0.N) (r : Fin 8320) (k : Fin 128) : iblk m c 3 t (ix2 r k) = if g : 128 ≤ r.val then z ⟨r.val - 128, by omega⟩ ⟨1664 + k.val, by omega⟩ else 0 := by
  refine Eq.trans ?_ (v4 m c hz _ _)
  blk_point [iblk, (idx t).2.2.2.1]
include hz rq in
theorem key_ld (t : Fin cfg0.N) (w kv : Fin 2) (o : Fin 2 → ℕ) (ho : o = ![(t.val * 2 + w.val) * 128, kv.val * 64]) (inb) (s : Fin 256) (d : Fin 64) :
    View.ld (iblk m c 2 t) (Rect.unit (s := S8320x128) o ![256, 64] inb) (ix2 s d) = ((key z (blk t w) kv s d : ℝ) : EReal) := by
  subst ho
  have := lt32 t
  rw [ld_at (A := 8320) (B := 128) (iblk m c 2 t) _ _ 256 64 (by omega) (by omega) inb s d, blk2 m c hz]
  unfold key
  by_cases g : 128 ≤ (t.val * 2 + w.val) * 128 + s.val
  · rw [dif_pos g, dif_pos (show 128 ≤ (blk t w).val * 128 + s.val from g)]
    exact query_eq rq _ _ (by show 1024 ≤ 1536 + (kv.val * 64 + d.val); omega) (by show 1536 + (kv.val * 64 + d.val) < 1664; omega)
  · rw [dif_neg g, dif_neg (show ¬ 128 ≤ (blk t w).val * 128 + s.val from g)]
    exact EReal.coe_zero.symm
include hz in
theorem value_ld (t : Fin cfg0.N) (w kv : Fin 2) (o : Fin 2 → ℕ) (ho : o = ![(t.val * 2 + w.val) * 128, kv.val * 64]) (inb) (s : Fin 256) (d : Fin 64) :
    View.ld (iblk m c 3 t) (Rect.unit (s := S8320x128) o ![256, 64] inb) (ix2 s d) = value z (blk t w) kv s d := by
  subst ho
  have := lt32 t
  rw [ld_at (A := 8320) (B := 128) (iblk m c 3 t) _ _ 256 64 (by omega) (by omega) inb s d, blk3 m c hz]
  rfl

include hz hb rq rb in
/-- The outputs of the four heads of one key head for one block of queries. -/
theorem att_block (t : Fin cfg0.N) (w kv : Fin 2) (o o' : Fin 2 → ℕ) (ho : o = ![(t.val * 2 + w.val) * 128, kv.val * 64]) (ho' : o' = ![(t.val * 2 + w.val) * 128, kv.val * 64])
    (inb inb') (v54 v67 : FVec Ideal S512x1 .f32) (h54 : ∀ g q, v54 (ix2 (stacked g q) 0) = b (hd kv g)) (h67 : ∀ g q, v67 (ix2 (stacked g q) 0) = ((slope (hd kv g) : ℝ) : EReal))
    (x : BitVec 1) (hx : x = if 0 < t.val * 2 + w.val then 1#1 else 0#1) (q0 q1 q2 q3 : Vec Ideal S128x64 .bf16)
    (h0 : ∀ q k, q0 (ix2 q k) = ((query z (blk t w) q (hd kv 0) k : ℝ) : EReal)) (h1 : ∀ q k, q1 (ix2 q k) = ((query z (blk t w) q (hd kv 1) k : ℝ) : EReal))
    (h2 : ∀ q k, q2 (ix2 q k) = ((query z (blk t w) q (hd kv 2) k : ℝ) : EReal)) (h3 : ∀ q k, q3 (ix2 q k) = ((query z (blk t w) q (hd kv 3) k : ℝ) : EReal))
    (g : Fin 4) (q : Fin 128) (d : Fin 64) :
    k0_pay14 (F := Ideal) k0_pay7 v54 v67 (maskOf x) (k0_pay12 (View.ld (iblk m c 2 t) (Rect.unit (s := S8320x128) o ![256, 64] inb)))
      (k0_pay13 (View.ld (iblk m c 3 t) (Rect.unit (s := S8320x128) o' ![256, 64] inb'))) q0 q1 q2 q3 (ix2 (stacked g q) d) = att z b (blk t w) q (hd kv g) d := by
  rw [att_pay g q d k0_pay7 v54 v67 (maskOf x) _ _ q0 q1 q2 q3 (fun s => ((dist q s).toInt : ℝ)) (b (hd kv g)).toReal (slope (hd kv g)) (allowed (blk t w) q)
    (fun g q k => query z (blk t w) q (hd kv g) k) (fun s k => key z (blk t w) kv s k) (fun s k => value z (blk t w) kv s k) (pay7 g q)
    ((h54 g q).trans (by obtain ⟨y, hy⟩ := rb (hd kv g); rw [hy, EReal.toReal_coe])) (h67 g q) (maskOf_at x (blk t w) hx g q)
    (fun s k => (keys _ s k).trans (key_ld m c hz rq t w kv o ho inb s k)) (fun s k => (values _ s k).trans (value_ld m c hz t w kv o' ho' inb' s k)) h0 h1 h2 h3]
  unfold att score
  rw [kv_hd]

/-- What a grid point leaves. -/
abbrev G (z : Fin 8192 → Fin 1792 → EReal) (b : Fin 8 → EReal) (t : Fin cfg0.N) : S256x512.Idx → Elt Ideal .bf16 :=
  fun y => out z b ⟨t.val * 256 + (y 0).val, by have := lt32 t; have h : (y 0).val < 256 := (y 0).isLt; omega⟩ (y 1)

/-- One head's piece of it. -/
theorem piece (t : Fin cfg0.N) (w kv : Fin 2) (A : FVec Ideal S512x64 .bf16) (hA : ∀ g q d, A (ix2 (stacked g q) d) = att z b (blk t w) q (hd kv g) d)
    (g : Fin 4) (o p off : ℕ) (ho : o = w.val * 128) (hp : p = (hd kv g).val * 64) (hoff : off = g.val * 128) (inb sl) :
    Holds (A := 256) (B := 512) (G z b t) ⟨Rect.unit (s := S256x512) ![o, p] ![128, 64] inb, extractStridedSlice S128x64 ![off, 0] A sl⟩ := fun x => by
  obtain ⟨q, d, rfl⟩ : ∃ (q : Fin 128) (d : Fin 64), x = ix2 q d := ⟨x 0, x 1, eq_ix2 x⟩
  rw [at_unit (A := 256) (B := 512) o p 128 64 inb (by omega) (by omega) q d]
  refine (extractStridedSlice_apply (s := S512x64) ![off, 0] A sl (ix2 q d) (ix2 (stacked g q) d) fun a => match a with
    | 0 => by show g.val * 128 + q.val = off + q.val; omega
    | 1 => (Nat.zero_add _).symm).trans ?_
  refine (hA g q d).trans (out_at z b (blk t w) q (hd kv g) d _ _ ?_ ?_).symm
  · show t.val * 256 + (o + q.val) = (t.val * 2 + w.val) * 128 + q.val; omega
  · show p + d.val = (hd kv g).val * 64 + d.val; omega

include hz hb rq rb in
theorem block00 (t : Fin cfg0.N) (i0 i1 i2 i3 p0 p1 p2 p3 j0 j1 j2 j3 k0 k1) (g : Fin 4) (q : Fin 128) (d : Fin 64) :
    k0_pay14 (F := Ideal) k0_pay7 (k0_pay9 k0_pay6 (View.ld (iblk m c 0 t) (Rect.unit (s := S8) ![0] ![1] i0) (Shape.Idx.first p0)) (View.ld (iblk m c 0 t) (Rect.unit (s := S8) ![1] ![1] i1) (Shape.Idx.first p1))
        (View.ld (iblk m c 0 t) (Rect.unit (s := S8) ![2] ![1] i2) (Shape.Idx.first p2)) (k0_pay8 (View.ld (iblk m c 0 t) (Rect.unit (s := S8) ![3] ![1] i3) (Shape.Idx.first p3))) 2#32) (k0_pay10 k0_pay6)
      (maskOf (Scalar.cmpi .sgt (Scalar.addi (Scalar.muli (BitVec.ofNat 32 (grid0.coords t 0).val) 2#32) 0#32) 0#32))
      (k0_pay12 (View.ld (iblk m c 2 t) (Rect.unit (s := S8320x128) (k0_off1 (grid0.coords t) 0#32) ![256, 64] k0)))
      (k0_pay13 (View.ld (iblk m c 3 t) (Rect.unit (s := S8320x128) (k0_off1 (grid0.coords t) 0#32) ![256, 64] k1)))
      (View.ld (X0_1 m c t) (Rect.unit (s := S256x512) ![0, 0] ![128, 64] j0))
      (View.ld (X0_1 m c t) (Rect.unit (s := S256x512) ![0, 64] ![128, 64] j1))
      (View.ld (X0_1 m c t) (Rect.unit (s := S256x512) ![0, 128] ![128, 64] j2))
      (View.ld (X0_1 m c t) (Rect.unit (s := S256x512) ![0, 192] ![128, 64] j3)) (ix2 (stacked g q) d)
      = att z b (blk t 0) q (hd 0 g) d :=
  att_block m c hz hb rq rb t 0 0 _ _ (off1 t).1 (off1 t).1 k0 k1 _ _
    (fun g q => (sink0 _ _ _ _ g q).trans (by
      rw [sink_ld m c hb t 0 0 rfl, sink_ld m c hb t 1 1 rfl, sink_ld m c hb t 2 2 rfl, sink_ld m c hb t 3 3 rfl]
      fin_cases g <;> rfl))
    (fun g q => (slope0 g q).trans (congrArg (fun h => ((slope h : ℝ) : EReal)) (Fin.ext (by show g.val = 0 * 4 + g.val; omega)))) _
    (by rw [coord]; exact (later ⟨t.val, lt32 t⟩).1) _ _ _ _
    (fun q k => query_ld m c hz rq t 0 (hd 0 0) 0 0 rfl rfl j0 q k) (fun q k => query_ld m c hz rq t 0 (hd 0 1) 0 64 rfl rfl j1 q k)
    (fun q k => query_ld m c hz rq t 0 (hd 0 2) 0 128 rfl rfl j2 q k) (fun q k => query_ld m c hz rq t 0 (hd 0 3) 0 192 rfl rfl j3 q k) g q d

include hz hb rq rb in
theorem block10 (t : Fin cfg0.N) (i0 i1 i2 i3 p0 p1 p2 p3 j0 j1 j2 j3 k0 k1) (g : Fin 4) (q : Fin 128) (d : Fin 64) :
    k0_pay14 (F := Ideal) k0_pay7 (k0_pay9 k0_pay6 (View.ld (iblk m c 0 t) (Rect.unit (s := S8) ![0] ![1] i0) (Shape.Idx.first p0)) (View.ld (iblk m c 0 t) (Rect.unit (s := S8) ![1] ![1] i1) (Shape.Idx.first p1))
        (View.ld (iblk m c 0 t) (Rect.unit (s := S8) ![2] ![1] i2) (Shape.Idx.first p2)) (k0_pay8 (View.ld (iblk m c 0 t) (Rect.unit (s := S8) ![3] ![1] i3) (Shape.Idx.first p3))) 2#32) (k0_pay10 k0_pay6)
      (maskOf (Scalar.cmpi .sgt (Scalar.addi (Scalar.muli (BitVec.ofNat 32 (grid0.coords t 0).val) 2#32) 1#32) 0#32))
      (k0_pay12 (View.ld (iblk m c 2 t) (Rect.unit (s := S8320x128) (k0_off1 (grid0.coords t) 1#32) ![256, 64] k0)))
      (k0_pay13 (View.ld (iblk m c 3 t) (Rect.unit (s := S8320x128) (k0_off1 (grid0.coords t) 1#32) ![256, 64] k1)))
      (View.ld (X0_1 m c t) (Rect.unit (s := S256x512) ![128, 0] ![128, 64] j0))
      (View.ld (X0_1 m c t) (Rect.unit (s := S256x512) ![128, 64] ![128, 64] j1))
      (View.ld (X0_1 m c t) (Rect.unit (s := S256x512) ![128, 128] ![128, 64] j2))
      (View.ld (X0_1 m c t) (Rect.unit (s := S256x512) ![128, 192] ![128, 64] j3)) (ix2 (stacked g q) d)
      = att z b (blk t 1) q (hd 0 g) d :=
  att_block m c hz hb rq rb t 1 0 _ _ (off1 t).2.1 (off1 t).2.1 k0 k1 _ _
    (fun g q => (sink0 _ _ _ _ g q).trans (by
      rw [sink_ld m c hb t 0 0 rfl, sink_ld m c hb t 1 1 rfl, sink_ld m c hb t 2 2 rfl, sink_ld m c hb t 3 3 rfl]
      fin_cases g <;> rfl))
    (fun g q => (slope0 g q).trans (congrArg (fun h => ((slope h : ℝ) : EReal)) (Fin.ext (by show g.val = 0 * 4 + g.val; omega)))) _
    (by rw [coord]; exact (later ⟨t.val, lt32 t⟩).2) _ _ _ _
    (fun q k => query_ld m c hz rq t 1 (hd 0 0) 128 0 rfl rfl j0 q k) (fun q k => query_ld m c hz rq t 1 (hd 0 1) 128 64 rfl rfl j1 q k)
    (fun q k => query_ld m c hz rq t 1 (hd 0 2) 128 128 rfl rfl j2 q k) (fun q k => query_ld m c hz rq t 1 (hd 0 3) 128 192 rfl rfl j3 q k) g q d

include hz hb rq rb in
theorem block01 (t : Fin cfg0.N) (i0 i1 i2 i3 p0 p1 p2 p3 j0 j1 j2 j3 k0 k1) (g : Fin 4) (q : Fin 128) (d : Fin 64) :
    k0_pay14 (F := Ideal) k0_pay7 (k0_pay28 k0_pay6 (View.ld (iblk m c 0 t) (Rect.unit (s := S8) ![4] ![1] i0) (Shape.Idx.first p0)) (View.ld (iblk m c 0 t) (Rect.unit (s := S8) ![5] ![1] i1) (Shape.Idx.first p1))
        (View.ld (iblk m c 0 t) (Rect.unit (s := S8) ![6] ![1] i2) (Shape.Idx.first p2)) (View.ld (iblk m c 0 t) (Rect.unit (s := S8) ![7] ![1] i3) (Shape.Idx.first p3))) (k0_pay30 k0_pay6 k0_pay29)
      (maskOf (Scalar.cmpi .sgt (Scalar.addi (Scalar.muli (BitVec.ofNat 32 (grid0.coords t 0).val) 2#32) 0#32) 0#32))
      (k0_pay12 (View.ld (iblk m c 2 t) (Rect.unit (s := S8320x128) (k0_off2 (grid0.coords t) 0#32) ![256, 64] k0)))
      (k0_pay13 (View.ld (iblk m c 3 t) (Rect.unit (s := S8320x128) (k0_off2 (grid0.coords t) 0#32) ![256, 64] k1)))
      (View.ld (X0_1 m c t) (Rect.unit (s := S256x512) ![0, 256] ![128, 64] j0))
      (View.ld (X0_1 m c t) (Rect.unit (s := S256x512) ![0, 320] ![128, 64] j1))
      (View.ld (X0_1 m c t) (Rect.unit (s := S256x512) ![0, 384] ![128, 64] j2))
      (View.ld (X0_1 m c t) (Rect.unit (s := S256x512) ![0, 448] ![128, 64] j3)) (ix2 (stacked g q) d)
      = att z b (blk t 0) q (hd 1 g) d :=
  att_block m c hz hb rq rb t 0 1 _ _ (off1 t).2.2.1 (off1 t).2.2.1 k0 k1 _ _
    (fun g q => (sink1 _ _ _ _ g q).trans (by
      rw [sink_ld m c hb t 4 4 rfl, sink_ld m c hb t 5 5 rfl, sink_ld m c hb t 6 6 rfl, sink_ld m c hb t 7 7 rfl]
      fin_cases g <;> rfl))
    (fun g q => (slope1 g q).trans (congrArg (fun h => ((slope h : ℝ) : EReal)) (Fin.ext (by show 4 + g.val = 1 * 4 + g.val; omega)))) _
    (by rw [coord]; exact (later ⟨t.val, lt32 t⟩).1) _ _ _ _
    (fun q k => query_ld m c hz rq t 0 (hd 1 0) 0 256 rfl rfl j0 q k) (fun q k => query_ld m c hz rq t 0 (hd 1 1) 0 320 rfl rfl j1 q k)
    (fun q k => query_ld m c hz rq t 0 (hd 1 2) 0 384 rfl rfl j2 q k) (fun q k => query_ld m c hz rq t 0 (hd 1 3) 0 448 rfl rfl j3 q k) g q d

include hz hb rq rb in
theorem block11 (t : Fin cfg0.N) (i0 i1 i2 i3 p0 p1 p2 p3 j0 j1 j2 j3 k0 k1) (g : Fin 4) (q : Fin 128) (d : Fin 64) :
    k0_pay14 (F := Ideal) k0_pay7 (k0_pay28 k0_pay6 (View.ld (iblk m c 0 t) (Rect.unit (s := S8) ![4] ![1] i0) (Shape.Idx.first p0)) (View.ld (iblk m c 0 t) (Rect.unit (s := S8) ![5] ![1] i1) (Shape.Idx.first p1))
        (View.ld (iblk m c 0 t) (Rect.unit (s := S8) ![6] ![1] i2) (Shape.Idx.first p2)) (View.ld (iblk m c 0 t) (Rect.unit (s := S8) ![7] ![1] i3) (Shape.Idx.first p3))) (k0_pay30 k0_pay6 k0_pay29)
      (maskOf (Scalar.cmpi .sgt (Scalar.addi (Scalar.muli (BitVec.ofNat 32 (grid0.coords t 0).val) 2#32) 1#32) 0#32))
      (k0_pay12 (View.ld (iblk m c 2 t) (Rect.unit (s := S8320x128) (k0_off2 (grid0.coords t) 1#32) ![256, 64] k0)))
      (k0_pay13 (View.ld (iblk m c 3 t) (Rect.unit (s := S8320x128) (k0_off2 (grid0.coords t) 1#32) ![256, 64] k1)))
      (View.ld (X0_1 m c t) (Rect.unit (s := S256x512) ![128, 256] ![128, 64] j0))
      (View.ld (X0_1 m c t) (Rect.unit (s := S256x512) ![128, 320] ![128, 64] j1))
      (View.ld (X0_1 m c t) (Rect.unit (s := S256x512) ![128, 384] ![128, 64] j2))
      (View.ld (X0_1 m c t) (Rect.unit (s := S256x512) ![128, 448] ![128, 64] j3)) (ix2 (stacked g q) d)
      = att z b (blk t 1) q (hd 1 g) d :=
  att_block m c hz hb rq rb t 1 1 _ _ (off1 t).2.2.2 (off1 t).2.2.2 k0 k1 _ _
    (fun g q => (sink1 _ _ _ _ g q).trans (by
      rw [sink_ld m c hb t 4 4 rfl, sink_ld m c hb t 5 5 rfl, sink_ld m c hb t 6 6 rfl, sink_ld m c hb t 7 7 rfl]
      fin_cases g <;> rfl))
    (fun g q => (slope1 g q).trans (congrArg (fun h => ((slope h : ℝ) : EReal)) (Fin.ext (by show 4 + g.val = 1 * 4 + g.val; omega)))) _
    (by rw [coord]; exact (later ⟨t.val, lt32 t⟩).2) _ _ _ _
    (fun q k => query_ld m c hz rq t 1 (hd 1 0) 128 256 rfl rfl j0 q k) (fun q k => query_ld m c hz rq t 1 (hd 1 1) 128 320 rfl rfl j1 q k)
    (fun q k => query_ld m c hz rq t 1 (hd 1 2) 128 384 rfl rfl j2 q k) (fun q k => query_ld m c hz rq t 1 (hd 1 3) 128 448 rfl rfl j3 q k) g q d

/-! ## The result array -/

include hz hb rq rb in
theorem point (t : Fin cfg0.N) (i : Fin 256) (j : Fin 512) : outsAt0 m c t (ix2 i j) = out z b ⟨t.val * 256 + i.val, by have := lt32 t; omega⟩ j := by
  unfold outsAt0
  frame_out
  refine View.canon_apply_of_pieces (G z b t) _ ?_ (ix2 i j) (View.cover_of_tiledL (s := S256x512) _ S128x64.size (by sl_kernel_rfl) _)
  simp only [List.mem_cons, List.not_mem_nil, or_false]
  rintro p (rfl | rfl | rfl | rfl | rfl | rfl | rfl | rfl | rfl | rfl | rfl | rfl | rfl | rfl | rfl | rfl)
  · exact piece t 1 1 _ (block11 m c hz hb rq rb t _ _ _ _ _ _ _ _ _ _ _ _ _ _) 3 _ _ 384 rfl rfl rfl _ (by decide +kernel)
  · exact piece t 1 1 _ (block11 m c hz hb rq rb t _ _ _ _ _ _ _ _ _ _ _ _ _ _) 2 _ _ 256 rfl rfl rfl _ (by decide +kernel)
  · exact piece t 1 1 _ (block11 m c hz hb rq rb t _ _ _ _ _ _ _ _ _ _ _ _ _ _) 1 _ _ 128 rfl rfl rfl _ (by decide +kernel)
  · exact piece t 1 1 _ (block11 m c hz hb rq rb t _ _ _ _ _ _ _ _ _ _ _ _ _ _) 0 _ _ 0 rfl rfl rfl _ (by decide +kernel)
  · exact piece t 0 1 _ (block01 m c hz hb rq rb t _ _ _ _ _ _ _ _ _ _ _ _ _ _) 3 _ _ 384 rfl rfl rfl _ (by decide +kernel)
  · exact piece t 0 1 _ (block01 m c hz hb rq rb t _ _ _ _ _ _ _ _ _ _ _ _ _ _) 2 _ _ 256 rfl rfl rfl _ (by decide +kernel)
  · exact piece t 0 1 _ (block01 m c hz hb rq rb t _ _ _ _ _ _ _ _ _ _ _ _ _ _) 1 _ _ 128 rfl rfl rfl _ (by decide +kernel)
  · exact piece t 0 1 _ (block01 m c hz hb rq rb t _ _ _ _ _ _ _ _ _ _ _ _ _ _) 0 _ _ 0 rfl rfl rfl _ (by decide +kernel)
  · exact piece t 1 0 _ (block10 m c hz hb rq rb t _ _ _ _ _ _ _ _ _ _ _ _ _ _) 3 _ _ 384 rfl rfl rfl _ (by decide +kernel)
  · exact piece t 1 0 _ (block10 m c hz hb rq rb t _ _ _ _ _ _ _ _ _ _ _ _ _ _) 2 _ _ 256 rfl rfl rfl _ (by decide +kernel)
  · exact piece t 1 0 _ (block10 m c hz hb rq rb t _ _ _ _ _ _ _ _ _ _ _ _ _ _) 1 _ _ 128 rfl rfl rfl _ (by decide +kernel)
  · exact piece t 1 0 _ (block10 m c hz hb rq rb t _ _ _ _ _ _ _ _ _ _ _ _ _ _) 0 _ _ 0 rfl rfl rfl _ (by decide +kernel)
  · exact piece t 0 0 _ (block00 m c hz hb rq rb t _ _ _ _ _ _ _ _ _ _ _ _ _ _) 3 _ _ 384 rfl rfl rfl _ (by decide +kernel)
  · exact piece t 0 0 _ (block00 m c hz hb rq rb t _ _ _ _ _ _ _ _ _ _ _ _ _ _) 2 _ _ 256 rfl rfl rfl _ (by decide +kernel)
  · exact piece t 0 0 _ (block00 m c hz hb rq rb t _ _ _ _ _ _ _ _ _ _ _ _ _ _) 1 _ _ 128 rfl rfl rfl _ (by decide +kernel)
  · exact piece t 0 0 _ (block00 m c hz hb rq rb t _ _ _ _ _ _ _ _ _ _ _ _ _ _) 0 _ _ 0 rfl rfl rfl _ (by decide +kernel)

theorem flush4 : ∀ t : Fin cfg0.N, (cfg0.win 4).flush t = true := by decide +kernel
include hz hb he rq rb in
theorem final (r : Fin 8192) (k : Fin 1024) : (dats m 0 c).arrAt 4 cfg0.N (ix2 r k)
    = if g : k.val < 512 then e r k else out z b r ⟨k.val - 512, by omega⟩ := by
  by_cases g : k.val < 512
  · rw [dif_pos g]
    refine (Cert.WindowFwdIdeal.Value.entry4 m c (ix2 r k) fun t _ hm => ?_).trans (v6 m c he r k)
    unfold View.set at hm
    obtain ⟨y, -, hy⟩ := Finset.mem_map.mp hm
    obtain ⟨i, j, rfl⟩ : ∃ i j, y = ix2 i j := ⟨y 0, y 1, eq_ix2 y⟩
    have e : (win0_4.blk t).view.emb (ix2 i j) = (ix2 (⟨t.val * 256 + i.val, by have := lt32 t; omega⟩ : Fin 8192) (⟨512 + j.val, by omega⟩ : Fin 1024) : S8192x1024.Idx) := by
      blk_ext [(idx t).2.2.2.2]
      all_goals rfl
    have : 512 + j.val = k.val := congrArg (fun x : S8192x1024.Idx => (x 1).val) (e.symm.trans hy)
    omega
  · rw [dif_neg g]
    have hr : r.val / 256 < cfg0.N := lt_of_lt_of_eq (by omega : r.val / 256 < 32) N_0.symm
    have h := congrFun (Cert.WindowFwdIdeal.Value.blocks4 m c ⟨r.val / 256, hr⟩ (flush4 _)) (ix2 (⟨r.val % 256, by omega⟩ : Fin 256) (⟨k.val - 512, by omega⟩ : Fin 512))
    rw [Cert.WindowFwdIdeal.Value.flushed4] at h
    blk_simp at h
    have e : (win0_4.blk ⟨r.val / 256, hr⟩).view.emb (ix2 (⟨r.val % 256, by omega⟩ : Fin 256) (⟨k.val - 512, by omega⟩ : Fin 512)) = (ix2 r k : S8192x1024.Idx) := by
      blk_ext [(idx ⟨r.val / 256, hr⟩).2.2.2.2]
    rw [e] at h
    refine h.trans ((point m c hz hb rq rb ⟨r.val / 256, hr⟩ ⟨r.val % 256, by omega⟩ ⟨k.val - 512, by omega⟩).trans ?_)
    exact congrArg₂ (out z b) (Fin.ext (show r.val / 256 * 256 + r.val % 256 = r.val by omega)) rfl
end
end Cert.WindowFwdIdeal.Math
end
end
-- ==== Proof.WindowFwdRef.lean ====
/- The reference windowed attention, stage by stage. -/
module

public import proofs.«01_k».proof.Proof.Gen.WindowFwdRefIdeal.Read
public import proofs.«01_k».proof.Proof.WindowFwdMath
public import Idealize.ShloMosaic.Lib.Pointwise

set_option maxRecDepth 16384

@[expose] public section
noncomputable section

open Idealize.ShloMosaic Idealize.ShloMosaic.TcCoe Idealize.SL.Sem
open Cert.WindowFwdRefIdeal Cert.WindowFwdRefIdeal.Gen Cert.WindowFwdRefIdeal.Read Cert.RealLift Cert.WindowMath Cert.WindowFwdMath

namespace Cert.WindowFwdRefIdeal.Math

variable {x0 : (⟨S8192x1792, .f32⟩ : BufTy).Contents (Elt Ideal)} {x1 : (⟨S8, .f32⟩ : BufTy).Contents (Elt Ideal)}
variable {x2 : (⟨S8192x1024, .f32⟩ : BufTy).Contents (Elt Ideal)}
variable {z : Fin 8192 → Fin 1792 → EReal} {b : Fin 8 → EReal} {e : Fin 8192 → Fin 1024 → EReal}
variable (hz : ∀ r k, x0 (ix2 r k) = z r k) (hb : ∀ k, x1 (ix1 k) = b k) (he : ∀ r k, x2 (ix2 r k) = e r k)
  (rq : ∀ (r : Fin 8192) (k : Fin 1792), 1024 ≤ k.val → k.val < 1664 → ∃ y : ℝ, z r k = y) (rb : ∀ h, ∃ y : ℝ, b h = y)

/-- A head, counted through the key heads. -/
def hd (kv : Fin 2) (g : Fin 4) : Fin 8 := ⟨kv.val * 4 + g.val, by omega⟩
theorem kv_hd (kv : Fin 2) (g : Fin 4) : kvOf (hd kv g) = kv := Fin.ext (show (kv.val * 4 + g.val) / 4 = kv.val by omega)

include rq in
theorem real_eq (r : Fin 8192) (k : Fin 1792) (h : 1024 ≤ k.val) (h' : k.val < 1664) : z r k = ((z r k).toReal : EReal) := by
  obtain ⟨y, hy⟩ := rq r k h h'
  rw [hy, EReal.toReal_coe]

include hz rq in
/-- The queries by block and head. -/
theorem v6 (n : Fin 64) (q : Fin 128) (kv : Fin 2) (g : Fin 4) (d : Fin 64) :
    val_main_v6 (F := Ideal) x0 (ix5 n q kv g d) = ((query z n q (hd kv g) d : ℝ) : EReal) := by
  pointwise [val_main_v6, val_main_v1, val_main_v0]
  refine (hz _ _).trans (Eq.trans ?_ (real_eq rq _ _ (Nat.le_add_right _ _) (by show 1024 + ((kv.val * 4 + g.val) * 64 + d.val) < 1664; omega)))
  exact congrArg (z _) (Fin.ext (by show 1024 + (kv.val * 256 + g.val * 64 + d.val) = 1024 + ((kv.val * 4 + g.val) * 64 + d.val); omega))

include hz in
/-- The keys' columns by block. -/
theorem v7 (n : Fin 64) (q : Fin 128) (kv : Fin 2) (d : Fin 64) :
    val_main_v7 (F := Ideal) x0 (ix4 n q kv d) = z ⟨n.val * 128 + q.val, by omega⟩ ⟨1536 + (kv.val * 64 + d.val), by omega⟩ := by
  pointwise [val_main_v7, val_main_v3, val_main_v2]
  exact hz _ _
include hz in
/-- The values' columns by block. -/
theorem v8 (n : Fin 64) (q : Fin 128) (kv : Fin 2) (d : Fin 64) :
    val_main_v8 (F := Ideal) x0 (ix4 n q kv d) = z ⟨n.val * 128 + q.val, by omega⟩ ⟨1664 + (kv.val * 64 + d.val), by omega⟩ := by
  pointwise [val_main_v8, val_main_v5, val_main_v4]
  exact hz _ _

/-- The distances. -/
theorem v28 (q : Fin 128) (s : Fin 256) : val_main_v28 (F := Ideal) (ix2 q s) = dist q s := by
  pointwise [val_main_v28, val_main_v27, val_main_v26, val_main_v25, val_main_v24, val_main_v23, val_main_v22, val_main_v21, val_main_v20]
  rfl

theorem ofNat_toInt : ∀ h : Fin 8, (BitVec.ofNat 32 h.val).toInt = (h.val : Int) := by decide +kernel
theorem pow_two (x : ℝ) : Ideal.pow ((2 : ℝ) : EReal) (x : EReal) = (((2 : ℝ) ^ x : ℝ) : EReal) := by
  rfl
theorem before : ∀ (n : Fin 64) (s : Fin 256), IntOp.cmpi .sge (IntOp.addi (IntOp.subi (IntOp.muli (BitVec.ofNat 32 n.val) 128#32) 128#32) (BitVec.ofNat 32 s.val)) 0#32
    = if 128 ≤ s.val ∨ 0 < n.val then 1#1 else 0#1 := by decide +kernel
/-- The slopes. -/
theorem v60 (h : Fin 8) : val_main_v60 (F := Ideal) (ix1 h) = ((slope h : ℝ) : EReal) := by
  pointwise [val_main_v60, val_main_v59, val_main_v58, val_main_v57, val_main_v56, val_main_v55, val_main_v54, val_main_v53, val_main_v52]
  have e1 : val_main_cst_6 (F := Ideal) ix0 = ((1 : ℝ) : EReal) := ofBits_one
  have e2 : val_main_cst_7 (F := Ideal) ix0 = ((-8 : ℝ) : EReal) := by
    show Ideal.ofBits .f32 0xC1000000#32 = _
    simp [Ideal.ofBits, Ideal.ieee, -EReal.coe_mul, -EReal.coe_neg]; norm_num
  have e3 : val_main_cst_8 (F := Ideal) ix0 = ((8 : ℝ) : EReal) := by
    show Ideal.ofBits .f32 0x41000000#32 = _
    simp [Ideal.ofBits, Ideal.ieee, -EReal.coe_mul]; norm_num
  have e4 : val_main_cst_9 (F := Ideal) ix0 = ((2 : ℝ) : EReal) := by
    show Ideal.ofBits .f32 0x40000000#32 = _
    simp [Ideal.ofBits, Ideal.ieee, -EReal.coe_mul]; norm_num
  have e5 : (FloatOps.sitofp (F := Ideal) .f32 (BitVec.ofNat 32 h.val) : EReal) = ((h.val : ℝ) : EReal) := by
    show (((BitVec.ofNat 32 h.val).toInt : ℝ) : EReal) = _
    rw [ofNat_toInt h]
    norm_num
  rw [e1, e2, e3, e4, e5, ← EReal.coe_add, ← EReal.coe_mul, div_coe _ _ (by norm_num), pow_two, show (-8 * (1 + (h.val : ℝ)) / 8) = -((h.val : ℝ) + 1) by ring]
  rfl

/-- Which keys come before the sequence. -/
theorem v47 (n : Fin 64) (s : Fin 256) : val_main_v47 (F := Ideal) (ix2 n s) = if 128 ≤ s.val ∨ 0 < n.val then 1#1 else 0#1 := by
  pointwise [val_main_v47, val_main_v46, val_main_v39, val_main_v38, val_main_v37, val_main_v36, val_main_v35, val_main_v34, val_main_v33, val_main_v32, val_main_v31, val_main_v30, val_main_v29]
  exact before n s
theorem v44 (q : Fin 128) (s : Fin 256) : val_main_v44 (F := Ideal) (ix2 q s) = if q.val < s.val ∧ s.val ≤ q.val + 128 then 1#1 else 0#1 := by
  have a := v28 q s
  unfold val_main_v44 val_main_v43 val_main_v41
  generalize val_main_v28 (F := Ideal) = p at *
  pointwise
  rw [a]
  exact near q s

/-- A block behind the block before it. -/
def behind (f : Fin 64 → Fin 128 → Fin 2 → Fin 64 → EReal) (n : Fin 64) (s : Fin 256) (kv : Fin 2) (d : Fin 64) : EReal :=
  if h : s.val < 128 then if h' : n.val < 1 then 0 else f ⟨n.val - 1, by omega⟩ ⟨s.val, h⟩ kv d else f n ⟨s.val - 128, by omega⟩ kv d
theorem pair_blocks (f : Fin 64 → Fin 128 → Fin 2 → Fin 64 → EReal) (p : (⟨S64x128x2x64, .f32⟩ : BufTy).Contents (Elt Ideal)) (hp : ∀ n q kv d, p (ix4 n q kv d) = f n q kv d)
    (n : Fin 64) (s : Fin 256) (kv : Fin 2) (d : Fin 64) :
    concatenate S64x256x2x64 1 [⟨S64x128x2x64, concatenate S64x128x2x64 0 [⟨S1x128x2x64, val_main_v9 (F := Ideal)⟩, ⟨S63x128x2x64, extractStridedSlice S63x128x2x64 ![0, 0, 0, 0] p slices_S64x128x2x64_S63x128x2x64_0_0_0_0⟩] concatenates_S1x128x2x64_S63x128x2x64_S64x128x2x64_d0⟩,
      ⟨S64x128x2x64, p⟩] concatenates_S64x128x2x64_S64x128x2x64_S64x256x2x64_d1 (ix4 n s kv d) = behind f n s kv d := by
  pointwise [val_main_v9, val_main_cst]
  simp only [hp]
  rfl
theorem behind_value (n : Fin 64) (s : Fin 256) (kv : Fin 2) (d : Fin 64) (o : ℕ) (ho : o + 128 ≤ 1792) :
    behind (fun n q kv d => z ⟨n.val * 128 + q.val, by omega⟩ ⟨o + (kv.val * 64 + d.val), by omega⟩) n s kv d
      = if g : 128 ≤ n.val * 128 + s.val then z ⟨n.val * 128 + s.val - 128, by omega⟩ ⟨o + (kv.val * 64 + d.val), by omega⟩ else 0 := by
  unfold behind
  by_cases h : s.val < 128
  · rw [dif_pos h]
    by_cases h' : n.val < 1
    · rw [dif_pos h', dif_neg (by omega)]
    · rw [dif_neg h', dif_pos (by omega)]
      exact congrArg (fun r => z r _) (Fin.ext (by show (n.val - 1) * 128 + s.val = n.val * 128 + s.val - 128; omega))
  · rw [dif_neg h, dif_pos (by omega)]
    exact congrArg (fun r => z r _) (Fin.ext (by show n.val * 128 + (s.val - 128) = n.val * 128 + s.val - 128; omega))

include hz rq in
/-- The keys of a block and the one before it. -/
theorem v12 (n : Fin 64) (s : Fin 256) (kv : Fin 2) (d : Fin 64) : val_main_v12 (F := Ideal) x0 (ix4 n s kv d) = ((key z n kv s d : ℝ) : EReal) := by
  refine (pair_blocks _ _ (v7 hz) n s kv d).trans ((behind_value n s kv d 1536 (by omega)).trans ?_)
  unfold key
  split
  · exact real_eq rq _ _ (by show 1024 ≤ 1536 + (kv.val * 64 + d.val); omega) (by show 1536 + (kv.val * 64 + d.val) < 1664; omega)
  · exact EReal.coe_zero.symm
include hz in
/-- The values of a block and the one before it. -/
theorem v15 (n : Fin 64) (s : Fin 256) (kv : Fin 2) (d : Fin 64) : val_main_v15 (F := Ideal) x0 (ix4 n s kv d) = value z n kv s d :=
  (pair_blocks _ _ (v8 hz) n s kv d).trans (behind_value n s kv d 1664 (by omega))

include hz rq in
/-- The scores before the mask. -/
theorem v70 (n : Fin 64) (kv : Fin 2) (g : Fin 4) (q : Fin 128) (s : Fin 256) :
    val_main_v70 (F := Ideal) x0 (ix5 n kv g q s) = ((score z n q (hd kv g) s : ℝ) : EReal) := by
  have a := v12 hz rq
  have b := v6 hz rq
  have c := v60
  have d := v28
  unfold val_main_v70 val_main_v69 val_main_v68 val_main_v67 val_main_v66 val_main_v65 val_main_v64 val_main_v63 val_main_v62 val_main_v61 val_main_v19 val_main_v17 val_main_v16
  generalize val_main_v12 x0 = p12 at *
  generalize val_main_v6 x0 = p6 at *
  generalize val_main_v60 (F := Ideal) = p60 at *
  generalize val_main_v28 (F := Ideal) = p28 at *
  pointwise [val_main_v18, val_main_cst_0]
  have e1 : Ideal.ofBits .f32 0x3E000000#32 = ((1 / 8 : ℝ) : EReal) := by
    simp [Ideal.ofBits, Ideal.ieee, -EReal.coe_mul]; norm_num
  have e2 : (FloatOps.sitofp (F := Ideal) .f32 (dist q s) : EReal) = (((dist q s).toInt : ℝ) : EReal) := rfl
  simp only [a, b]
  rw [c, d, e1, e2]
  simp only [← EReal.coe_mul, coe_sum, ← EReal.coe_sub]
  unfold score
  rw [kv_hd]
  refine congrArg (fun x : ℝ => ((x * (1 / 8) - slope (hd kv g) * ((dist q s).toInt : ℝ) : ℝ) : EReal)) (Finset.sum_congr rfl fun x _ => mul_comm _ _)

theorem and_if (p q : Prop) [Decidable p] [Decidable q] : IntOp.andi (if p then 1#1 else 0#1) (if q then 1#1 else 0#1) = if p ∧ q then 1#1 else 0#1 := by
  by_cases p <;> by_cases q <;> simp_all <;> rfl
include hz rq in
/-- The scores, −∞ where not allowed. -/
theorem v72 (n : Fin 64) (kv : Fin 2) (g : Fin 4) (q : Fin 128) (s : Fin 256) :
    val_main_v72 (F := Ideal) x0 (ix5 n kv g q s) = masked (allowed n q) (score z n q (hd kv g)) s := by
  have a := v70 hz rq n kv g q s
  have b := v44 q s
  have c := v47 n s
  unfold val_main_v72 val_main_call0_v1 val_main_v71 val_main_v51 val_main_v50 val_main_v49 val_main_v48 val_main_v45
  generalize val_main_v70 x0 = p70 at *
  generalize val_main_v44 (F := Ideal) = p44 at *
  generalize val_main_v47 (F := Ideal) = p47 at *
  pointwise [val_main_call0_v2, val_main_call0_v0, val_main_cst_10]
  rw [a, b, c]
  have e1 : (id (constant S_ .f32 0xFF800000#32 : FVec Ideal S_ .f32) ix0 : EReal) = ⊥ := ofBits_negInf
  rw [e1, and_if, select_if]
  exact if_congr and_assoc rfl rfl

include hz hb rq in
/-- The scores with the sink behind them. -/
theorem v76 (n : Fin 64) (kv : Fin 2) (g : Fin 4) (q : Fin 128) (s : Fin 257) :
    val_main_v76 (F := Ideal) x0 x1 (ix5 n kv g q s) = if h : s.val < 256 then masked (allowed n q) (score z n q (hd kv g)) ⟨s.val, h⟩ else b (hd kv g) := by
  have a := v72 hz rq n kv g q
  unfold val_main_v76
  generalize val_main_v72 x0 = p72 at *
  pointwise [val_main_v75, val_main_v74, val_main_v73]
  simp only [a]
  rw [hb]
  rfl

/-- The largest entry of a row. -/
theorem v79 (n : Fin 64) (kv : Fin 2) (g : Fin 4) (q : Fin 128) :
    val_main_v79 (F := Ideal) x0 x1 (ix4 n kv g q) = Finset.univ.fold max (⊥ : EReal) fun x : Fin 257 => val_main_v76 (F := Ideal) x0 x1 (ix5 n kv g q x) := by
  rw [val_main_v79_apply, show val_main_v78 (F := Ideal) (ix4 n kv g q) = (⊥ : EReal) from ofBits_negInf]
  refine (max_eq_right bot_le).trans ?_
  unfold val_main_v77
  generalize val_main_v76 x0 x1 = p
  rw [Host.reduce_eq_fold_single _ _ _ _ (by decide : S64x2x4x128x257.Reduces [4] S64x2x4x128), show val_main_cst_11 (F := Ideal) (Shape.Idx.first h_S_) = (⊥ : EReal) from ofBits_negInf]
  refine congrArg (fun f : Fin 257 → EReal => Finset.univ.fold max (⊥ : EReal) f) (funext fun x => congrArg p (funext fun a => Fin.ext ?_))
  match a with | ⟨0, _⟩ => rfl | ⟨1, _⟩ => rfl | ⟨2, _⟩ => rfl | ⟨3, _⟩ => rfl | ⟨4, _⟩ => rfl
/-- The exponentials. -/
theorem v83 (n : Fin 64) (kv : Fin 2) (g : Fin 4) (q : Fin 128) (s : Fin 257) :
    val_main_v83 (F := Ideal) x0 x1 (ix5 n kv g q s) = Ideal.exp (val_main_v76 (F := Ideal) x0 x1 (ix5 n kv g q s) - val_main_v79 (F := Ideal) x0 x1 (ix4 n kv g q)) := by
  unfold val_main_v83 val_main_v82 val_main_v81 val_main_v80
  generalize val_main_v76 x0 x1 = p at *
  generalize val_main_v79 x0 x1 = p' at *
  pointwise
/-- Their sum. -/
theorem v84 (n : Fin 64) (kv : Fin 2) (g : Fin 4) (q : Fin 128) :
    val_main_v84 (F := Ideal) x0 x1 (ix4 n kv g q) = ∑ s : Fin 257, val_main_v83 (F := Ideal) x0 x1 (ix5 n kv g q s) := by
  unfold val_main_v84
  generalize val_main_v83 x0 x1 = p at *
  pointwise [val_main_cst_13]
/-- The quotients, the sink's left out. -/
theorem v88_div (n : Fin 64) (kv : Fin 2) (g : Fin 4) (q : Fin 128) (s : Fin 256) :
    val_main_v88 (F := Ideal) x0 x1 (ix5 n kv g q s) = Ideal.div (val_main_v83 (F := Ideal) x0 x1 (ix5 n kv g q s.castSucc)) (val_main_v84 (F := Ideal) x0 x1 (ix4 n kv g q)) := by
  unfold val_main_v88 val_main_v87 val_main_v86 val_main_v85
  generalize val_main_v83 x0 x1 = p at *
  generalize val_main_v84 x0 x1 = p' at *
  pointwise
  rfl

include hz hb rq rb in
/-- The weights. -/
theorem v88 (n : Fin 64) (kv : Fin 2) (g : Fin 4) (q : Fin 128) (s : Fin 256) :
    val_main_v88 (F := Ideal) x0 x1 (ix5 n kv g q s) = ((weight (allowed n q) (score z n q (hd kv g)) (b (hd kv g)).toReal s : ℝ) : EReal) := by
  rw [v88_div, v84]
  simp only [v83]
  rw [v79]
  refine ref_weight (allowed n q) (score z n q (hd kv g)) (b (hd kv g)).toReal (fun s => val_main_v76 (F := Ideal) x0 x1 (ix5 n kv g q s)) (fun k => ?_) ?_ s
  · exact (v76 hz hb rq n kv g q k.castSucc).trans (dif_pos k.isLt)
  · refine (v76 hz hb rq n kv g q (Fin.last 256)).trans ((dif_neg (lt_irrefl _)).trans ?_)
    obtain ⟨y, hy⟩ := rb (hd kv g)
    rw [hy, EReal.toReal_coe]

include hz hb he rq rb in
/-- The result. -/
theorem v94 (r : Fin 8192) (k : Fin 1024) : val_main_v94 (F := Ideal) x0 x1 x2 (ix2 r k) = if g : k.val < 512 then e r k else out z b r ⟨k.val - 512, by omega⟩ := by
  have a := v88 hz hb rq rb
  have c := v15 hz
  unfold val_main_v94 val_main_v93 val_main_v91 val_main_v90 val_main_v89
  generalize val_main_v88 x0 x1 = p at *
  generalize val_main_v15 x0 = q at *
  pointwise [val_main_v92]
  rw [he]
  by_cases g : k.val < 512
  · rw [dif_pos g, dif_pos g]
  · rw [dif_neg g, dif_neg g]
    have h1 : (k.val - 512) / 256 < 2 := by omega
    have h2 : (k.val - 512) / 64 % 4 < 4 := by omega
    have h3 : (k.val - 512) % 64 < 64 := by omega
    refine Eq.trans ?_ (out_at z b ⟨r.val / 128, by omega⟩ ⟨r.val % 128, by omega⟩ (hd ⟨(k.val - 512) / 256, h1⟩ ⟨(k.val - 512) / 64 % 4, h2⟩) ⟨(k.val - 512) % 64, h3⟩ r ⟨k.val - 512, by omega⟩
      (by show r.val = r.val / 128 * 128 + r.val % 128; omega)
      (by show k.val - 512 = ((k.val - 512) / 256 * 4 + (k.val - 512) / 64 % 4) * 64 + (k.val - 512) % 64; omega)).symm
    unfold att
    rw [kv_hd]
    refine Finset.sum_congr rfl fun x _ => ?_
    rw [a, c]
    exact mul_comm _ _
end Cert.WindowFwdRefIdeal.Math

end
end
-- ==== Proof.WindowFwdClaim.lean ====
/- The claims about the sliding-window attention's forward call. -/
module

public import proofs.«01_k».proof.Defs
public import proofs.«01_k».proof.Proof.WindowFwdValue
public import proofs.«01_k».proof.Proof.WindowFwdRef
public import proofs.«01_k».proof.Proof.Gen.WindowFwd.Frame
public import proofs.«01_k».proof.Proof.Gen.WindowFwdRefIdeal.Run
public import Idealize.ShloMosaic.Lib.Quiescent

set_option maxRecDepth 16384

@[expose] public section
noncomputable section

open Idealize.ShloMosaic Idealize.ShloMosaic.TcCoe Idealize.SL.Sem Cert.RealLift

namespace Cert.WindowFwdClaim

/-- The side conditions of the precondition. -/
theorem preFacts : Cert.Pre_window_fwd_finite.Facts where
  slices_S8192x1792_S8192x640_0_1024 := by decide
  bcast_S_S8192x640 := by decide
  bcast_S_S8 := by decide

/-- The reference runs and leaves its arguments as they were. -/
theorem refFrame : Cert.quiescent_WindowFwdRefIdeal (hWindowFwdRefIdeal := Cert.WindowFwdRefIdeal.Gen.facts) :=
  fun m ρ _ => (θ_run Cert.WindowFwdRefIdeal.defs _ _).mono
    (fun r h => ⟨fun c => (h c).2, Idealize.ShloMosaic.sem_eq_zero_of_no_sems (by decide) r.2⟩)
    (Cert.WindowFwdRefIdeal.Value.run (F := Ideal) m ρ)

/-- The precondition makes the queries, the keys and the sinks real numbers. -/
theorem reals (m : (ℓ : Loc Cert.WindowFwdIdeal.nD Cert.WindowFwdIdeal.τ Cert.WindowFwdIdeal.sig) → Buf (Elt Ideal) ℓ)
    (h : Cert.Pre_WindowFwdIdeal_window_fwd_finite (hPre_window_fwd_finite := preFacts) m) (c : Dev Cert.WindowFwdIdeal.nD) :
    (∀ (r : Fin 8192) (k : Fin 1792), 1024 ≤ k.val → k.val < 1664 → ∃ y : ℝ, m ((c : Thread Cert.WindowFwdIdeal.nD Cert.WindowFwdIdeal.τ).loc Cert.WindowFwdIdeal.main_arg0) (ix2 r k) = (y : EReal))
    ∧ ∀ k : Fin 8, ∃ y : ℝ, m ((c : Thread Cert.WindowFwdIdeal.nD Cert.WindowFwdIdeal.τ).loc Cert.WindowFwdIdeal.main_arg1) (ix1 k) = (y : EReal) := by
  obtain ⟨h0, h1⟩ := h c
  refine ⟨fun r k hk hk' => ?_, fun k => exists_coe_of_cmp (congrFun h1 (ix1 k))⟩
  obtain ⟨y, hy⟩ := exists_coe_of_cmp (congrFun h0 (ix2 r ⟨k.val - 1024, by omega⟩))
  refine ⟨y, Eq.trans ?_ hy⟩
  exact (extractStridedSlice_apply (s := Cert.Pre_window_fwd_finite.S8192x1792) _ _ _ _ _ fun a => match a with
    | 0 => (Nat.zero_add _).symm
    | 1 => (Nat.add_sub_of_le hk).symm).symm

set_option maxHeartbeats 4000000 in
/-- Kernel and reference end with the same array. -/
theorem algebraic : Cert.algebraic_WindowFwdIdeal_WindowFwdRefIdeal_pre_window_fwd_finite (hWindowFwdIdeal := Cert.WindowFwdIdeal.Gen.facts)
    (hWindowFwdRefIdeal := Cert.WindowFwdRefIdeal.Gen.facts) (hPre_window_fwd_finite := preFacts) := by
  pair_intro
  · run_from Cert.WindowFwdIdeal.Value.run_blocks m g
  · run_from Cert.WindowFwdRefIdeal.Value.run m' g'
    all_goals
      obtain ⟨e0, e1⟩ := reals m hpre c
      obtain ⟨z, hz⟩ : ∃ z : Fin 8192 → Fin 1792 → EReal, ∀ r k, m ((c : Thread Cert.WindowFwdIdeal.nD Cert.WindowFwdIdeal.τ).loc Cert.WindowFwdIdeal.main_arg0) (ix2 r k) = z r k := ⟨_, fun r k => rfl⟩
      obtain ⟨b, hb⟩ : ∃ b : Fin 8 → EReal, ∀ k, m ((c : Thread Cert.WindowFwdIdeal.nD Cert.WindowFwdIdeal.τ).loc Cert.WindowFwdIdeal.main_arg1) (ix1 k) = b k := ⟨_, fun k => rfl⟩
      obtain ⟨e, he⟩ : ∃ e : Fin 8192 → Fin 1024 → EReal, ∀ r k, m ((c : Thread Cert.WindowFwdIdeal.nD Cert.WindowFwdIdeal.τ).loc Cert.WindowFwdIdeal.main_arg2) (ix2 r k) = e r k := ⟨_, fun r k => rfl⟩
      simp only [hz] at e0
      simp only [hb] at e1
    · rw [Cert.WindowFwdRefIdeal.Read.val_main_v94_eq]
      funext j
      obtain ⟨i, k, rfl⟩ : ∃ i k, j = ix2 i k := ⟨j 0, j 1, eq_ix2 j⟩
      refine Eq.trans ?_ (Cert.WindowFwdIdeal.Math.final m c hz hb he e0 e1 i k).symm
      try rw [(hagree c).1, (hagree c).2.1, (hagree c).2.2]
      exact Cert.WindowFwdRefIdeal.Math.v94 hz hb he e0 e1 i k

end Cert.WindowFwdClaim

end
end
-- ==== Proof.ProductMath.lean ====
/- The gradient of a weight that a scaled product multiplies: eight blocks of rows summed and scaled against the scaled rows summed. -/
module

public import Idealize.ShloMosaic.Lib.Pointwise
public import Idealize.ShloMosaic.PureOps.Ideal

@[expose] public section
noncomputable section
open Idealize.ShloMosaic
namespace Cert.ProductMath

/-- The product's scale. -/
theorem half_eq : Ideal.ofBits .f32 0x3F000000#32 = ((1 / 2 : ℝ) : EReal) := by
  simp [Ideal.ofBits, Ideal.ieee, -EReal.coe_mul]; try norm_num

/-- The scale is taken into a sum. -/
theorem half_sum {n : ℕ} (f : Fin n → EReal) : Ideal.ofBits .f32 0x3F000000#32 * ∑ r, f r = ∑ r, Ideal.ofBits .f32 0x3F000000#32 * f r := by
  rw [half_eq]
  refine Finset.induction_on (Finset.univ : Finset (Fin n)) (by simp) fun a s ha ih => ?_
  rw [Finset.sum_insert ha, Finset.sum_insert ha, EReal.left_distrib_of_nonneg_of_ne_top (by exact_mod_cast (by norm_num : (0 : ℝ) ≤ 1 / 2)) (EReal.coe_ne_top _), ih]

/-- Row `j` of the block `p`. -/
def row (p : Fin 8) (j : Fin 1024) : Fin 8192 := ⟨p.val * 1024 + j.val, by omega⟩

/-- The sum over the rows, block by block. -/
theorem sum_rows (f : Fin 8192 → EReal) : ∑ p : Fin 8, ∑ j, f (row p j) = ∑ r, f r := by
  rw [← Fintype.sum_prod_type']
  refine Fintype.sum_equiv (finProdFinEquiv (m := 8) (n := 1024)) _ _ fun x => congrArg f (Fin.ext ?_)
  show x.1.val * 1024 + x.2.val = x.2.val + 1024 * x.1.val
  omega

end Cert.ProductMath
end
end
-- ==== Proof.ProductRef.lean ====
/- The reference's gradient of the weight, entry by entry. -/
module

public import proofs.«01_k».proof.Proof.Gen.ProductRefIdeal.Read
public import proofs.«01_k».proof.Proof.ProductMath
public import Idealize.ShloMosaic.Lib.Pointwise
public import Idealize.ShloMosaic.Lib.Claim

set_option maxRecDepth 16384
@[expose] public section
noncomputable section
open Idealize.ShloMosaic Idealize.ShloMosaic.TcCoe Idealize.SL.Sem
open Cert.ProductRefIdeal Cert.ProductRefIdeal.Gen Cert.ProductRefIdeal.Read
namespace Cert.ProductRefIdeal.Math

variable {x0 : (⟨S8192x2816, .f32⟩ : BufTy).Contents (Elt Ideal)} {x1 : (⟨S8192x1024, .f32⟩ : BufTy).Contents (Elt Ideal)}

theorem v10 (i : Fin 2816) (k : Fin 1024) : val_main_v10 (F := Ideal) x0 x1 (ix2 i k)
    = ∑ r : Fin 8192, Ideal.ofBits .f32 0x3F000000#32 * x1 (ix2 r k) * x0 (ix2 r i) := by
  unfold val_main_v10 val_main_v9 val_main_v8 val_main_v7 val_main_v6 val_main_v1 val_main_v0
  pointwise [val_main_cst_1]

end Cert.ProductRefIdeal.Math
end
end
-- ==== Proof.ProductValue.lean ====
/- What the kernel leaves in its result array, entry by entry. -/
module

public import proofs.«01_k».proof.Proof.Gen.ProductIdeal.Value
public import proofs.«01_k».proof.Proof.ProductRef
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.StableHlo.ReadAt

set_option maxRecDepth 16384
@[expose] public section
noncomputable section
open Idealize.ShloMosaic Idealize.ShloMosaic.TcCoe Idealize.SL.Sem
open Cert.ProductIdeal Cert.ProductIdeal.Gen Cert.ProductMath
namespace Cert.ProductIdeal.Math

/-! ## Payloads -/

section
variable (a : Vec Ideal S1024x1408 .bf16) (b : Vec Ideal S1024x1024 .f32) (i : Fin 1408) (k : Fin 1024)

theorem pay2 : k0_pay2 a b (ix2 i k) = ∑ j : Fin 1024, a (ix2 j i) * b (ix2 j k) := by
  pointwise [k0_pay2, k0_pay1]
theorem pay3 (p : Vec Ideal S1408x1024 .f32) : k0_pay3 a b p (ix2 i k) = p (ix2 i k) + ∑ j : Fin 1024, a (ix2 j i) * b (ix2 j k) := by
  pointwise [k0_pay3, k0_pay1]
theorem pay4 (p : Vec Ideal S1408x1024 .f32) : k0_pay4 p (ix2 i k) = p (ix2 i k) * Ideal.ofBits .f32 0x3F000000#32 := by
  pointwise [k0_pay4]
  try rfl
end

/-! ## The arrays and their blocks -/

theorem idx : ∀ t : Fin cfg0.N, win0_0.index t = ![t.val % 8, t.val / 8] ∧ win0_1.index t = ![t.val % 8, 0] ∧ win0_2.index t = ![t.val / 8, 0] :=
  (by decide +kernel : ∀ t : Fin grid0.N, _)
/-- The result's block is written out at the last of its eight points. -/
theorem flush2 : ∀ t : Fin cfg0.N, (cfg0.win 2).flush t = true → t.val % 8 = 7 :=
  (by decide +kernel : ∀ t : Fin grid0.N, _)
/-- A grid point's block of rows. -/
def ph (t : Fin cfg0.N) : Fin 8 := ⟨t.val % 8, Nat.mod_lt _ (by decide)⟩
/-- A grid point's half of the result. -/
def half (t : Fin cfg0.N) : Fin 2 := ⟨t.val / 8, by have := t.isLt.trans_eq N_0; omega⟩
/-- The row of the result that is row `i` of a half. -/
def col (q : Fin 2) (i : Fin 1408) : Fin 2816 := ⟨q.val * 1408 + i.val, by omega⟩

variable (m : (ℓ : Loc nD τ sig) → Buf (Elt Ideal) ℓ) (c : Dev nD)
variable {a : Fin 8192 → Fin 2816 → EReal} {d : Fin 8192 → Fin 1024 → EReal}
variable (ha : ∀ r k, m ((c : Thread nD τ).loc main_arg0) (ix2 r k) = a r k) (hd : ∀ r k, m ((c : Thread nD τ).loc main_arg1) (ix2 r k) = d r k)

include ha in
theorem v0 (r : Fin 8192) (k : Fin 2816) : V m c main_v0 (ix2 r k) = a r k := by
  refine Eq.trans ?_ (ha _ _)
  simp only [V, hostOps0]
  after_results_simp
  rfl
include hd in
theorem kept1 (r : Fin 8192) (k : Fin 1024) : V m c main_arg1 (ix2 r k) = d r k := by
  refine Eq.trans ?_ (hd _ _)
  simp only [V, hostOps0]
  after_results_simp
include ha in
theorem blk0 (t : Fin cfg0.N) (j : Fin 1024) (i : Fin 1408) : iblk m c 0 t (ix2 j i) = a (row (ph t) j) (col (half t) i) := by
  refine Eq.trans ?_ (v0 m c ha _ _)
  blk_point [iblk, V, (idx t).1]
  all_goals rfl
include hd in
theorem blk1 (t : Fin cfg0.N) (j : Fin 1024) (k : Fin 1024) : iblk m c 1 t (ix2 j k) = d (row (ph t) j) k := by
  refine Eq.trans ?_ (kept1 m c hd _ _)
  blk_point [iblk, V, (idx t).2.1]
  all_goals rfl

/-- What a block of rows adds to the product. -/
def part (a : Fin 8192 → Fin 2816 → EReal) (d : Fin 8192 → Fin 1024 → EReal) (p : Fin 8) (i : Fin 2816) (k : Fin 1024) : EReal :=
  ∑ j, a (row p j) i * d (row p j) k
/-- The result. -/
def out (a : Fin 8192 → Fin 2816 → EReal) (d : Fin 8192 → Fin 1024 → EReal) (i : Fin 2816) (k : Fin 1024) : EReal :=
  ∑ r : Fin 8192, Ideal.ofBits .f32 0x3F000000#32 * d r k * a r i
/-- The eight parts together, scaled, are the result. -/
theorem parts (i : Fin 2816) (k : Fin 1024) : (∑ p : Fin 8, part a d p i k) * Ideal.ofBits .f32 0x3F000000#32 = out a d i k := by
  unfold part
  rw [sum_rows fun r => a r i * d r k, mul_comm, half_sum]
  exact Finset.sum_congr rfl fun r _ => by rw [mul_assoc, mul_comm (a r i)]

section
variable (t : Fin cfg0.N)
include ha hd in
theorem mm2 (i : Fin 1408) (k : Fin 1024) : k0_pay2 (F := Ideal) (iblk m c 0 t) (iblk m c 1 t) (ix2 i k) = part a d (ph t) (col (half t) i) k := by
  rw [pay2]
  simp only [blk0 m c ha, blk1 m c hd]
  rfl
include ha hd in
theorem mm3 (p : Vec Ideal S1408x1024 .f32) (i : Fin 1408) (k : Fin 1024) :
    k0_pay3 (F := Ideal) (iblk m c 0 t) (iblk m c 1 t) p (ix2 i k) = p (ix2 i k) + part a d (ph t) (col (half t) i) k := by
  rw [pay3]
  simp only [blk0 m c ha, blk1 m c hd]
  rfl
include ha hd in
theorem scrA (h0 : t.val % 8 = 0) (i : Fin 1408) (k : Fin 1024) : (outsAt0 m c t.val t.isLt).2 (ix2 i k) = part a d (ph t) (col (half t) i) k := by
  rw [outsAt0_A m c t h0 (by omega) (by omega)]
  frame_out
  rw [mm2 m c ha hd]
include ha hd in
theorem scrB (h0 : ¬t.val % 8 = 0) (i : Fin 1408) (k : Fin 1024) : (outsAt0 m c t.val t.isLt).2 (ix2 i k)
    = (outsAt0 m c (t.val - 1) (by omega)).2 (ix2 i k) + part a d (ph t) (col (half t) i) k := by
  by_cases h7 : t.val % 8 = 7
  · rw [outsAt0_C m c t (by omega) (by omega) h7]
    frame_out
    rw [mm3 m c ha hd, read_unread_whole]
  · rw [outsAt0_B m c t (by omega) (by omega) h7]
    frame_out
    rw [mm3 m c ha hd, read_unread_whole]
end

theorem lt_N {n : ℕ} (h : n < 16) : n < cfg0.N := h.trans_eq N_0.symm
include ha hd in
/-- The running sum after the block `b` of rows of the half `q`. -/
theorem upto (q : Fin 2) (i : Fin 1408) (k : Fin 1024) (b : ℕ) (hb : b < 8) : ∀ n (e : n = 8 * q.val + b), (outsAt0 m c n (lt_N (by omega))).2 (ix2 i k)
    = ∑ p : Fin (b + 1), part a d ⟨p.val, by omega⟩ (col q i) k := by
  induction b with
  | zero =>
    intro n e
    rw [Fin.sum_univ_one]
    refine (scrA m c ha hd ⟨n, lt_N (by omega)⟩ (by show n % 8 = 0; omega) i k).trans ?_
    rw [show ph ⟨n, lt_N (by omega)⟩ = ⟨0, by omega⟩ from Fin.ext (by show n % 8 = 0; omega),
      show half ⟨n, lt_N (by omega)⟩ = q from Fin.ext (by show n / 8 = q.val; omega)]
    rfl
  | succ b ih =>
    intro n e
    rw [Fin.sum_univ_castSucc]
    refine (scrB m c ha hd ⟨n, lt_N (by omega)⟩ (by show ¬n % 8 = 0; omega) i k).trans ?_
    refine congrArg₂ (· + ·) (ih (by omega) (n - 1) (by omega)) ?_
    rw [show ph ⟨n, lt_N (by omega)⟩ = ⟨b + 1, by omega⟩ from Fin.ext (by show n % 8 = b + 1; omega),
      show half ⟨n, lt_N (by omega)⟩ = q from Fin.ext (by show n / 8 = q.val; omega)]
    rfl

include ha hd in
theorem point2 (t : Fin cfg0.N) (h7 : t.val % 8 = 7) (i : Fin 1408) (k : Fin 1024) : (outsAt0 m c t.val t.isLt).1 (ix2 i k) = out a d (col (half t) i) k := by
  have hN := t.isLt.trans_eq N_0
  rw [← parts]
  have e := upto m c ha hd (half t) i k 7 (by decide) t.val (by show t.val = 8 * (t.val / 8) + 7; omega)
  refine Eq.trans ?_ (congrArg (· * Ideal.ofBits .f32 0x3F000000#32) e)
  rw [outsAt0_C m c t (by omega) (by omega) h7]
  frame_out
  rw [pay4]
  try rfl

/-! ## The result array -/

include ha hd in
theorem final2 : (dats m 0 c).arrAt 2 cfg0.N = fun j : S2816x1024.Idx => out a d (j 0) (j 1) := by
  refine (dats m 0 c).arrAt_eq_of_covers 2 _ (by decide +kernel) fun t hf y => ?_
  blk_simp
  rw [after0_2]
  obtain ⟨i, j, rfl⟩ : ∃ i j, y = ix2 i j := ⟨y 0, y 1, eq_ix2 y⟩
  have e : (win0_2.blk t).view.emb (ix2 i j) = ix2 (col (half t) i) j := by
    blk_ext [(idx t).2.2]
    all_goals rfl
  rw [e]
  exact point2 m c ha hd t (flush2 t hf) i j

end Cert.ProductIdeal.Math
end
end
-- ==== Proof.ProductClaim.lean ====
/- The claims about the plain product. -/
module

public import proofs.«01_k».proof.Defs
public import proofs.«01_k».proof.Proof.ProductValue
public import proofs.«01_k».proof.Proof.Gen.Product.Frame
public import proofs.«01_k».proof.Proof.Gen.ProductRefIdeal.Run
public import Idealize.ShloMosaic.Lib.Quiescent

set_option maxRecDepth 16384

@[expose] public section
noncomputable section

open Idealize.ShloMosaic Idealize.ShloMosaic.TcCoe Idealize.SL.Sem

namespace Cert.ProductClaim

/-- The reference runs and leaves its arguments as they were. -/
theorem refFrame : Cert.quiescent_ProductRefIdeal (hProductRefIdeal := Cert.ProductRefIdeal.Gen.facts) :=
  fun m ρ _ => (θ_run Cert.ProductRefIdeal.defs _ _).mono
    (fun r h => ⟨fun c => (h c).2, Idealize.ShloMosaic.sem_eq_zero_of_no_sems (by decide) r.2⟩)
    (Cert.ProductRefIdeal.Value.run (F := Ideal) m ρ)

set_option maxHeartbeats 4000000 in
/-- Kernel and reference end with the same gradient of the weight. -/
theorem algebraic : Cert.algebraic_ProductIdeal_ProductRefIdeal (hProductIdeal := Cert.ProductIdeal.Gen.facts)
    (hProductRefIdeal := Cert.ProductRefIdeal.Gen.facts) := by
  pair_intro
  · run_from Cert.ProductIdeal.Gen.run_main m g
    all_goals
      simp only [Cert.ProductIdeal.Gen.hostOps0]
      after_results_simp <;> rfl
  · run_from Cert.ProductRefIdeal.Value.run m' g'
    obtain ⟨a, ha⟩ : ∃ a : Fin 8192 → Fin 2816 → EReal, ∀ r k, m ((c : Thread Cert.ProductIdeal.nD Cert.ProductIdeal.τ).loc Cert.ProductIdeal.main_arg0) (ix2 r k) = a r k := ⟨_, fun r k => rfl⟩
    obtain ⟨d, hd⟩ : ∃ d : Fin 8192 → Fin 1024 → EReal, ∀ r k, m ((c : Thread Cert.ProductIdeal.nD Cert.ProductIdeal.τ).loc Cert.ProductIdeal.main_arg1) (ix2 r k) = d r k := ⟨_, fun r k => rfl⟩
    rw [Cert.ProductIdeal.Math.final2 m c ha hd, Cert.ProductRefIdeal.Read.val_main_v10_eq]
    funext j
    obtain ⟨i, k, rfl⟩ : ∃ i k, j = ix2 i k := ⟨j 0, j 1, eq_ix2 j⟩
    try rw [(hagree c).1, (hagree c).2]
    refine (Cert.ProductRefIdeal.Math.v10 i k).trans ?_
    simp only [ha, hd]
    rfl

end Cert.ProductClaim

end
end
-- ==== Proof.AdamMath.lean ====
/- One step of the optimiser on one weight. -/
module

public import Idealize.ShloMosaic.PureOps.Ideal

@[expose] public section
noncomputable section
open Idealize.ShloMosaic
namespace Cert.AdamMath

/-- The new first moment from the old one and the gradient. -/
def first (m g : EReal) : EReal := Ideal.ofBits .f32 0x3F666666#32 * m + Ideal.ofBits .f32 0x3DCCCCCD#32 * g
/-- The new second moment from the old one and the gradient. -/
def second (v g : EReal) : EReal := Ideal.ofBits .f32 0x3F7FBE77#32 * v + Ideal.ofBits .f32 0x3A83126F#32 * (g * g)
/-- The step from the weight and the new moments. -/
def step (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32) + Ideal.ofBits .f32 0x3C23D70A#32 * w)
/-- An array of one layer. -/
abbrev Part : Type := Fin 1024 → Fin 1408 → EReal
/-- An array of both layers. -/
abbrev Shard : Type := Fin 2 → Fin 1024 → Fin 1408 → EReal
/-- The gradient of both layers: the sum of each layer's two parts. -/
def grad (a b a' b' : Part) : Shard := fun l i k => if l = 1 then a' i k + b' i k else a i k + b i k

end Cert.AdamMath
end
end
-- ==== Proof.AdamRef.lean ====
/- The reference's step of the optimiser, entry by entry. -/
module

public import proofs.«01_k».proof.Proof.Gen.AdamRefIdeal.Read
public import proofs.«01_k».proof.Proof.AdamMath
public import Idealize.ShloMosaic.Lib.Pointwise
public import Idealize.ShloMosaic.Lib.Claim

set_option maxRecDepth 16384
@[expose] public section
noncomputable section
open Idealize.ShloMosaic Idealize.ShloMosaic.TcCoe Idealize.SL.Sem
open Cert.AdamRefIdeal Cert.AdamRefIdeal.Gen Cert.AdamRefIdeal.Read Cert.AdamMath
namespace Cert.AdamRefIdeal.Math

variable {x0 x1 x2 : (⟨S2x1024x1408, .f32⟩ : BufTy).Contents (Elt Ideal)} {x3 x4 x5 x6 : (⟨S1x1024x1408, .f32⟩ : BufTy).Contents (Elt Ideal)}
variable {w m v : Shard} {a b a' b' : Part}
variable (hw : ∀ l i k, x0 (ix3 l i k) = w l i k) (hm : ∀ l i k, x1 (ix3 l i k) = m l i k) (hv : ∀ l i k, x2 (ix3 l i k) = v l i k)
  (ha : ∀ i k, x3 (ix3 0 i k) = a i k) (hb : ∀ i k, x4 (ix3 0 i k) = b i k) (ha' : ∀ i k, x5 (ix3 0 i k) = a' i k) (hb' : ∀ i k, x6 (ix3 0 i k) = b' i k)
  (l : Fin 2) (i : Fin 1024) (k : Fin 1408)

include ha hb ha' hb' in
theorem v2 : val_main_v2 (F := Ideal) x3 x4 x5 x6 (ix3 l i k) = grad a b a' b' l i k := by
  unfold val_main_v2 val_main_v1 val_main_v0
  obtain rfl | rfl : l = 0 ∨ l = 1 := by omega
  · pointwise
    rw [ha, hb]
    rfl
  · pointwise
    rw [ha', hb']
    rfl
include hm ha hb ha' hb' in
theorem v7 : val_main_v7 (F := Ideal) x1 x3 x4 x5 x6 (ix3 l i k) = first (m l i k) (grad a b a' b' l i k) := by
  have e := v2 ha hb ha' hb' l i k
  unfold val_main_v7 val_main_v6 val_main_v5 val_main_v4 val_main_v3
  generalize val_main_v2 x3 x4 x5 x6 = g at *
  pointwise [val_main_cst, val_main_cst_0]
  rw [e, hm]
  rfl
include hv ha hb ha' hb' in
theorem v13 : val_main_v13 (F := Ideal) x2 x3 x4 x5 x6 (ix3 l i k) = second (v l i k) (grad a b a' b' l i k) := by
  have e := v2 ha hb ha' hb' l i k
  unfold val_main_v13 val_main_v12 val_main_v11 val_main_v10 val_main_v9 val_main_v8
  generalize val_main_v2 x3 x4 x5 x6 = g at *
  pointwise [val_main_cst_1, val_main_cst_2]
  rw [e, hv]
  rfl
include hw hm hv ha hb ha' hb' in
theorem v26 : val_main_v26 (F := Ideal) x0 x1 x2 x3 x4 x5 x6 (ix3 l i k)
    = step (w l i k) (first (m l i k) (grad a b a' b' l i k)) (second (v l i k) (grad a b a' b' l i k)) := by
  have e := v7 hm ha hb ha' hb' l i k
  have f := v13 hv ha hb ha' hb' l i k
  unfold val_main_v26 val_main_v25 val_main_v24 val_main_v23 val_main_v22 val_main_v21 val_main_v20 val_main_v19 val_main_v18 val_main_v17 val_main_v16 val_main_v15 val_main_v14
  generalize val_main_v13 x2 x3 x4 x5 x6 = q at *
  generalize val_main_v7 x1 x3 x4 x5 x6 = p at *
  pointwise [val_main_cst_3, val_main_cst_4, val_main_cst_5, val_main_cst_6, val_main_cst_7]
  rw [e, f, hw]
  rfl

end Cert.AdamRefIdeal.Math
end
end
-- ==== Proof.AdamValue.lean ====
/- What the kernel leaves in its four result arrays, entry by entry. -/
module

public import proofs.«01_k».proof.Proof.Gen.AdamIdeal.Value
public import proofs.«01_k».proof.Proof.AdamRef
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.StableHlo.ReadAt

set_option maxRecDepth 16384
@[expose] public section
noncomputable section
open Idealize.ShloMosaic Idealize.ShloMosaic.TcCoe Idealize.SL.Sem
open Cert.AdamIdeal Cert.AdamIdeal.Gen Cert.AdamMath
namespace Cert.AdamIdeal.Math

/-! ## The grid: a layer and a quarter of its rows -/

theorem idx : ∀ t : Fin cfg0.N, (win0_0.index t = ![t.val / 4, t.val % 4, 0] ∧ win0_1.index t = ![t.val / 4, t.val % 4, 0] ∧ win0_2.index t = ![t.val / 4, t.val % 4, 0])
    ∧ (win0_7.index t = ![t.val / 4, t.val % 4, 0] ∧ win0_8.index t = ![t.val / 4, t.val % 4, 0] ∧ win0_9.index t = ![t.val / 4, t.val % 4, 0] ∧ win0_10.index t = ![t.val / 4, t.val % 4, 0]) :=
  (by decide +kernel : ∀ t : Fin grid0.N, _)
/-- At the first layer its own parts are staged quarter by quarter. -/
theorem idx_low : ∀ t : Fin cfg0.N, ¬t.val / 4 = 1 → win0_3.index t = ![0, t.val % 4, 0] ∧ win0_4.index t = ![0, t.val % 4, 0] :=
  (by decide +kernel : ∀ t : Fin grid0.N, _)
/-- At the second layer the second layer's parts are. -/
theorem idx_high : ∀ t : Fin cfg0.N, t.val / 4 = 1 → win0_5.index t = ![0, t.val % 4, 0] ∧ win0_6.index t = ![0, t.val % 4, 0] :=
  (by decide +kernel : ∀ t : Fin grid0.N, _)
/-- The comparison that picks the layer. -/
theorem pick : ∀ t : Fin cfg0.N, Scalar.cmpi .eq (BitVec.ofNat 32 (grid0.coords t 0).val) 1#32 = if t.val / 4 = 1 then 1#1 else 0#1 :=
  (by decide +kernel : ∀ t : Fin grid0.N, _)
/-- A grid point's layer. -/
def lay (t : Fin cfg0.N) : Fin 2 := ⟨t.val / 4, by have := t.isLt.trans_eq N_0; omega⟩
/-- Row `i` of a grid point's quarter. -/
def row (t : Fin cfg0.N) (i : Fin 256) : Fin 1024 := ⟨t.val % 4 * 256 + i.val, by omega⟩

variable (m : (ℓ : Loc nD τ sig) → Buf (Elt Ideal) ℓ) (c : Dev nD)
variable {w mo ve : Shard} {a b a' b' : Part}
variable (hw : ∀ l i k, m ((c : Thread nD τ).loc main_arg0) (ix3 l i k) = w l i k) (hmo : ∀ l i k, m ((c : Thread nD τ).loc main_arg1) (ix3 l i k) = mo l i k)
  (hve : ∀ l i k, m ((c : Thread nD τ).loc main_arg2) (ix3 l i k) = ve l i k)
  (ha : ∀ l i k, m ((c : Thread nD τ).loc main_arg3) (ix3 l i k) = a i k) (hb : ∀ l i k, m ((c : Thread nD τ).loc main_arg4) (ix3 l i k) = b i k)
  (ha' : ∀ l i k, m ((c : Thread nD τ).loc main_arg5) (ix3 l i k) = a' i k) (hb' : ∀ l i k, m ((c : Thread nD τ).loc main_arg6) (ix3 l i k) = b' i k)
variable (t : Fin cfg0.N) (i : Fin 256) (k : Fin 1408)

include hw in
theorem blk0 : iblk m c 0 t (ix3 0 i k) = w (lay t) (row t i) k := by
  refine Eq.trans ?_ (hw _ _ _)
  blk_point [iblk, V, (idx t).1.1]
  all_goals rfl
include hmo in
theorem blk1 : iblk m c 1 t (ix3 0 i k) = mo (lay t) (row t i) k := by
  refine Eq.trans ?_ (hmo _ _ _)
  blk_point [iblk, V, (idx t).1.2.1]
  all_goals rfl
include hve in
theorem blk2 : iblk m c 2 t (ix3 0 i k) = ve (lay t) (row t i) k := by
  refine Eq.trans ?_ (hve _ _ _)
  blk_point [iblk, V, (idx t).1.2.2]
  all_goals rfl
include ha in
theorem blk3 (h : ¬t.val / 4 = 1) : iblk m c 3 t (ix3 0 i k) = a (row t i) k := by
  refine Eq.trans ?_ (ha 0 _ _)
  blk_point [iblk, V, (idx_low t h).1]
  all_goals rfl
include hb in
theorem blk4 (h : ¬t.val / 4 = 1) : iblk m c 4 t (ix3 0 i k) = b (row t i) k := by
  refine Eq.trans ?_ (hb 0 _ _)
  blk_point [iblk, V, (idx_low t h).2]
  all_goals rfl
include ha' in
theorem blk5 (h : t.val / 4 = 1) : iblk m c 5 t (ix3 0 i k) = a' (row t i) k := by
  refine Eq.trans ?_ (ha' 0 _ _)
  blk_point [iblk, V, (idx_high t h).1]
  all_goals rfl
include hb' in
theorem blk6 (h : t.val / 4 = 1) : iblk m c 6 t (ix3 0 i k) = b' (row t i) k := by
  refine Eq.trans ?_ (hb' 0 _ _)
  blk_point [iblk, V, (idx_high t h).2]
  all_goals rfl

/-! ## Payloads at a grid point -/

include ha hb ha' hb' in
/-- The gradient that is picked for the layer. -/
theorem pay5 : k0_pay5 (F := Ideal) (grid0.coords t) (iblk m c 3 t) (iblk m c 4 t) (iblk m c 5 t) (iblk m c 6 t) (ix2 i k) = grad a b a' b' (lay t) (row t i) k := by
  by_cases h : t.val / 4 = 1
  · have p := blk5 m c ha' t i k h
    have q := blk6 m c hb' t i k h
    generalize iblk m c 3 t = x3 at *
    generalize iblk m c 4 t = x4 at *
    generalize iblk m c 5 t = x5 at *
    generalize iblk m c 6 t = x6 at *
    pointwise [k0_pay5]
    rw [pick t, if_pos h, p, q, grad, if_pos (Fin.ext h)]
    rfl
  · have p := blk3 m c ha t i k h
    have q := blk4 m c hb t i k h
    generalize iblk m c 3 t = x3 at *
    generalize iblk m c 4 t = x4 at *
    generalize iblk m c 5 t = x5 at *
    generalize iblk m c 6 t = x6 at *
    pointwise [k0_pay5]
    rw [pick t, if_neg h, p, q, grad, if_neg (fun e => h (congrArg Fin.val e))]
    rfl
section
variable (x : Vec Ideal S1x256x1408 .f32) (p q r : FVec Ideal S256x1408 .f32)
theorem cast1 : k0_pay1 p (ix3 0 i k) = p (ix2 i k) := by pointwise [k0_pay1]
theorem cast3 : k0_pay3 p (ix3 0 i k) = p (ix2 i k) := by pointwise [k0_pay3]
theorem cast4 : k0_pay4 p (ix3 0 i k) = p (ix2 i k) := by pointwise [k0_pay4]
theorem cast6 : k0_pay6 x (ix2 i k) = x (ix3 0 i k) := by pointwise [k0_pay6]
theorem pay2 : k0_pay2 p q r (ix3 0 i k) = Ideal.ofBits .f32 0xBA83126F#32 * (Ideal.div (r (ix2 i k))
    (Ideal.sqrt (Ideal.div (q (ix2 i k)) (Ideal.ofBits .f32 0x3C231ACC#32)) + Ideal.ofBits .f32 0x322BCC77#32) + Ideal.ofBits .f32 0x3C23D70A#32 * p (ix2 i k)) := by
  pointwise [k0_pay2]
variable (s : grid0.Coords) (y3 y4 y5 y6 : Vec Ideal S1x256x1408 .f32)
theorem pay7 : k0_pay7 s y3 y4 y5 y6 x (ix2 i k) = first (x (ix3 0 i k)) (k0_pay5 s y3 y4 y5 y6 (ix2 i k)) := by
  unfold k0_pay7
  generalize k0_pay5 s y3 y4 y5 y6 = g
  pointwise
  rfl
theorem pay8 : k0_pay8 s y3 y4 y5 y6 x (ix2 i k) = second (x (ix3 0 i k)) (k0_pay5 s y3 y4 y5 y6 (ix2 i k)) := by
  unfold k0_pay8
  generalize k0_pay5 s y3 y4 y5 y6 = g
  pointwise
  rfl
theorem pay9 : k0_pay9 s y3 y4 y5 y6 x (ix2 i k) = Ideal.div (k0_pay7 s y3 y4 y5 y6 x (ix2 i k)) (Ideal.ofBits .f32 0x3F26BD02#32) := by
  unfold k0_pay9
  generalize k0_pay7 s y3 y4 y5 y6 x = g
  pointwise
end

/-! ## What a grid point writes -/

include ha hb ha' hb' in
theorem point7 : (dats m 0 c).after 7 t (ix3 0 i k) = grad a b a' b' (lay t) (row t i) k := by
  rw [after0_7]
  unfold out0_7
  frame_out
  rw [cast1, pay5 m c ha hb ha' hb']
include hmo ha hb ha' hb' in
theorem point9 : (dats m 0 c).after 9 t (ix3 0 i k) = first (mo (lay t) (row t i) k) (grad a b a' b' (lay t) (row t i) k) := by
  rw [after0_9]
  unfold out0_9
  frame_out
  rw [cast3, pay7, pay5 m c ha hb ha' hb', blk1 m c hmo]
include hve ha hb ha' hb' in
theorem point10 : (dats m 0 c).after 10 t (ix3 0 i k) = second (ve (lay t) (row t i) k) (grad a b a' b' (lay t) (row t i) k) := by
  rw [after0_10]
  unfold out0_10 k0_pay10
  frame_out
  rw [cast4, pay8, pay5 m c ha hb ha' hb', blk2 m c hve]
include hw hmo hve ha hb ha' hb' in
theorem point8 : (dats m 0 c).after 8 t (ix3 0 i k)
    = step (w (lay t) (row t i) k) (first (mo (lay t) (row t i) k) (grad a b a' b' (lay t) (row t i) k)) (second (ve (lay t) (row t i) k) (grad a b a' b' (lay t) (row t i) k)) := by
  rw [after0_8]
  unfold out0_8 k0_pay10
  frame_out
  rw [pay2, pay9, pay7, pay8, cast6, pay5 m c ha hb ha' hb', blk0 m c hw, blk1 m c hmo, blk2 m c hve]
  rfl

/-! ## The result arrays -/

include ha hb ha' hb' in
theorem final7 : (dats m 0 c).arrAt 7 cfg0.N = fun j : S2x1024x1408.Idx => grad a b a' b' (j 0) (j 1) (j 2) := by
  refine (dats m 0 c).arrAt_eq_of_covers 7 _ (by decide +kernel) fun t _ y => ?_
  blk_simp
  obtain ⟨z, i, k, rfl⟩ : ∃ z i k, y = ix3 z i k := ⟨y 0, y 1, y 2, eq_ix3 y⟩
  obtain rfl : z = 0 := Subsingleton.elim _ _
  have e : (win0_7.blk t).view.emb (ix3 0 i k) = ix3 (lay t) (row t i) k := by
    blk_ext [(idx t).2.1]
    all_goals rfl
  rw [e]
  exact point7 m c ha hb ha' hb' t i k
include hw hmo hve ha hb ha' hb' in
theorem final8 : (dats m 0 c).arrAt 8 cfg0.N = fun j : S2x1024x1408.Idx => step (w (j 0) (j 1) (j 2)) (first (mo (j 0) (j 1) (j 2)) (grad a b a' b' (j 0) (j 1) (j 2))) (second (ve (j 0) (j 1) (j 2)) (grad a b a' b' (j 0) (j 1) (j 2))) := by
  refine (dats m 0 c).arrAt_eq_of_covers 8 _ (by decide +kernel) fun t _ y => ?_
  blk_simp
  obtain ⟨z, i, k, rfl⟩ : ∃ z i k, y = ix3 z i k := ⟨y 0, y 1, y 2, eq_ix3 y⟩
  obtain rfl : z = 0 := Subsingleton.elim _ _
  have e : (win0_8.blk t).view.emb (ix3 0 i k) = ix3 (lay t) (row t i) k := by
    blk_ext [(idx t).2.2.1]
    all_goals rfl
  rw [e]
  exact point8 m c hw hmo hve ha hb ha' hb' t i k
include hmo ha hb ha' hb' in
theorem final9 : (dats m 0 c).arrAt 9 cfg0.N = fun j : S2x1024x1408.Idx => first (mo (j 0) (j 1) (j 2)) (grad a b a' b' (j 0) (j 1) (j 2)) := by
  refine (dats m 0 c).arrAt_eq_of_covers 9 _ (by decide +kernel) fun t _ y => ?_
  blk_simp
  obtain ⟨z, i, k, rfl⟩ : ∃ z i k, y = ix3 z i k := ⟨y 0, y 1, y 2, eq_ix3 y⟩
  obtain rfl : z = 0 := Subsingleton.elim _ _
  have e : (win0_9.blk t).view.emb (ix3 0 i k) = ix3 (lay t) (row t i) k := by
    blk_ext [(idx t).2.2.2.1]
    all_goals rfl
  rw [e]
  exact point9 m c hmo ha hb ha' hb' t i k
include hve ha hb ha' hb' in
theorem final10 : (dats m 0 c).arrAt 10 cfg0.N = fun j : S2x1024x1408.Idx => second (ve (j 0) (j 1) (j 2)) (grad a b a' b' (j 0) (j 1) (j 2)) := by
  refine (dats m 0 c).arrAt_eq_of_covers 10 _ (by decide +kernel) fun t _ y => ?_
  blk_simp
  obtain ⟨z, i, k, rfl⟩ : ∃ z i k, y = ix3 z i k := ⟨y 0, y 1, y 2, eq_ix3 y⟩
  obtain rfl : z = 0 := Subsingleton.elim _ _
  have e : (win0_10.blk t).view.emb (ix3 0 i k) = ix3 (lay t) (row t i) k := by
    blk_ext [(idx t).2.2.2.2]
    all_goals rfl
  rw [e]
  exact point10 m c hve ha hb ha' hb' t i k

end Cert.AdamIdeal.Math
end
end
-- ==== Proof.AdamClaim.lean ====
/- The claims about the optimiser's update of a large weight. -/
module

public import proofs.«01_k».proof.Defs
public import proofs.«01_k».proof.Proof.AdamValue
public import proofs.«01_k».proof.Proof.Gen.Adam.Frame
public import proofs.«01_k».proof.Proof.Gen.AdamRefIdeal.Run
public import Idealize.ShloMosaic.Lib.Quiescent

set_option maxRecDepth 16384

@[expose] public section
noncomputable section

open Idealize.ShloMosaic Idealize.ShloMosaic.TcCoe Idealize.SL.Sem

namespace Cert.AdamClaim

/-- The reference runs and leaves its arguments as they were. -/
theorem refFrame : Cert.quiescent_AdamRefIdeal (hAdamRefIdeal := Cert.AdamRefIdeal.Gen.facts) :=
  fun m ρ _ => (θ_run Cert.AdamRefIdeal.defs _ _).mono
    (fun r h => ⟨fun c => (h c).2.2.2.2, Idealize.ShloMosaic.sem_eq_zero_of_no_sems (by decide) r.2⟩)
    (Cert.AdamRefIdeal.Value.run (F := Ideal) m ρ)

set_option maxHeartbeats 4000000 in
/-- The kernel and the reference make the same step. -/
theorem algebraic : Cert.algebraic_AdamIdeal_AdamRefIdeal (hAdamIdeal := Cert.AdamIdeal.Gen.facts)
    (hAdamRefIdeal := Cert.AdamRefIdeal.Gen.facts) := by
  pair_intro
  · run_from Cert.AdamIdeal.Gen.run_main m g
    all_goals
      simp only [Cert.AdamIdeal.Gen.hostOps0]
      after_results_simp <;> rfl
  · run_from Cert.AdamRefIdeal.Value.run m' g'
    all_goals
      obtain ⟨w, hw⟩ : ∃ w : Cert.AdamMath.Shard, ∀ q r k, m ((c : Thread Cert.AdamIdeal.nD Cert.AdamIdeal.τ).loc Cert.AdamIdeal.main_arg0) (ix3 q r k) = w q r k := ⟨_, fun q r k => rfl⟩
      obtain ⟨mo, hmo⟩ : ∃ mo : Cert.AdamMath.Shard, ∀ q r k, m ((c : Thread Cert.AdamIdeal.nD Cert.AdamIdeal.τ).loc Cert.AdamIdeal.main_arg1) (ix3 q r k) = mo q r k := ⟨_, fun q r k => rfl⟩
      obtain ⟨ve, hve⟩ : ∃ ve : Cert.AdamMath.Shard, ∀ q r k, m ((c : Thread Cert.AdamIdeal.nD Cert.AdamIdeal.τ).loc Cert.AdamIdeal.main_arg2) (ix3 q r k) = ve q r k := ⟨_, fun q r k => rfl⟩
      have ha : ∀ (l : Fin 1) i k, m ((c : Thread Cert.AdamIdeal.nD Cert.AdamIdeal.τ).loc Cert.AdamIdeal.main_arg3) (ix3 l i k) = (fun i k => m ((c : Thread Cert.AdamIdeal.nD Cert.AdamIdeal.τ).loc Cert.AdamIdeal.main_arg3) (ix3 (0 : Fin 1) i k)) i k := fun l i k => by rw [Subsingleton.elim l 0]
      have hb : ∀ (l : Fin 1) i k, m ((c : Thread Cert.AdamIdeal.nD Cert.AdamIdeal.τ).loc Cert.AdamIdeal.main_arg4) (ix3 l i k) = (fun i k => m ((c : Thread Cert.AdamIdeal.nD Cert.AdamIdeal.τ).loc Cert.AdamIdeal.main_arg4) (ix3 (0 : Fin 1) i k)) i k := fun l i k => by rw [Subsingleton.elim l 0]
      have ha' : ∀ (l : Fin 1) i k, m ((c : Thread Cert.AdamIdeal.nD Cert.AdamIdeal.τ).loc Cert.AdamIdeal.main_arg5) (ix3 l i k) = (fun i k => m ((c : Thread Cert.AdamIdeal.nD Cert.AdamIdeal.τ).loc Cert.AdamIdeal.main_arg5) (ix3 (0 : Fin 1) i k)) i k := fun l i k => by rw [Subsingleton.elim l 0]
      have hb' : ∀ (l : Fin 1) i k, m ((c : Thread Cert.AdamIdeal.nD Cert.AdamIdeal.τ).loc Cert.AdamIdeal.main_arg6) (ix3 l i k) = (fun i k => m ((c : Thread Cert.AdamIdeal.nD Cert.AdamIdeal.τ).loc Cert.AdamIdeal.main_arg6) (ix3 (0 : Fin 1) i k)) i k := fun l i k => by rw [Subsingleton.elim l 0]
    · rw [Cert.AdamIdeal.Math.final7 m c ha hb ha' hb', Cert.AdamRefIdeal.Read.val_main_v2_eq]
      funext j
      obtain ⟨l, i, k, rfl⟩ : ∃ l i k, j = ix3 l i k := ⟨j 0, j 1, j 2, eq_ix3 j⟩
      rw [(hagree c).2.2.2.1, (hagree c).2.2.2.2.1, (hagree c).2.2.2.2.2.1, (hagree c).2.2.2.2.2.2]
      exact Cert.AdamRefIdeal.Math.v2 (ha 0) (hb 0) (ha' 0) (hb' 0) l i k
    · rw [Cert.AdamIdeal.Math.final8 m c hw hmo hve ha hb ha' hb', Cert.AdamRefIdeal.Read.val_main_v26_eq]
      funext j
      obtain ⟨l, i, k, rfl⟩ : ∃ l i k, j = ix3 l i k := ⟨j 0, j 1, j 2, eq_ix3 j⟩
      rw [(hagree c).2.2.2.1, (hagree c).2.2.2.2.1, (hagree c).2.2.2.2.2.1, (hagree c).2.2.2.2.2.2]
      exact Cert.AdamRefIdeal.Math.v26 hw hmo hve (ha 0) (hb 0) (ha' 0) (hb' 0) l i k
    · rw [Cert.AdamIdeal.Math.final9 m c hmo ha hb ha' hb', Cert.AdamRefIdeal.Read.val_main_v7_eq]
      funext j
      obtain ⟨l, i, k, rfl⟩ : ∃ l i k, j = ix3 l i k := ⟨j 0, j 1, j 2, eq_ix3 j⟩
      rw [(hagree c).2.2.2.1, (hagree c).2.2.2.2.1, (hagree c).2.2.2.2.2.1, (hagree c).2.2.2.2.2.2]
      exact Cert.AdamRefIdeal.Math.v7 hmo (ha 0) (hb 0) (ha' 0) (hb' 0) l i k
    · rw [Cert.AdamIdeal.Math.final10 m c hve ha hb ha' hb', Cert.AdamRefIdeal.Read.val_main_v13_eq]
      funext j
      obtain ⟨l, i, k, rfl⟩ : ∃ l i k, j = ix3 l i k := ⟨j 0, j 1, j 2, eq_ix3 j⟩
      rw [(hagree c).2.2.2.1, (hagree c).2.2.2.2.1, (hagree c).2.2.2.2.2.1, (hagree c).2.2.2.2.2.2]
      exact Cert.AdamRefIdeal.Math.v13 hve (ha 0) (hb 0) (ha' 0) (hb' 0) l i k

end Cert.AdamClaim

end
end
-- ==== Proof.ChipSumTable.lean ====
/- The chip's number is one of four, so the blocks it names lie inside the array. -/
module

public import proofs.«01_k».proof.Defs
public import proofs.«01_k».proof.Proof.Gen.ChipSum.Frame
public import proofs.«01_k».proof.Proof.Gen.ChipSumIdeal.Frame
public import proofs.«01_k».proof.Proof.Gen.Pre_chip_of_four
public import Idealize.ShloMosaic.Lib.Pointwise

set_option maxRecDepth 16384
@[expose] public section
noncomputable section
open Idealize.ShloMosaic Idealize.ShloMosaic.TcCoe Idealize.SL.Sem
namespace Cert.ChipSumTable

/-- What the precondition says of the chip's number. -/
theorem word {F : FTy → Type} [FloatOps F] (x : FVec F ⟨3, ![1, 1024, 5632]⟩ .f32) (y : FVec F ⟨3, ![3, 1024, 1408]⟩ .f32) (w : IVec ⟨1, ![1]⟩ 32)
    (h : (letI := Cert.Pre_chip_of_four.Gen.facts; (Cert.Pre_chip_of_four.fn (F := F) x y w).1 = (fun _ => 1#1) ∧ (Cert.Pre_chip_of_four.fn (F := F) x y w).2 = (fun _ => 1#1))) :
    (w (ix1 0)).toNat < 4 ∧ (w (ix1 0)).toInt = (w (ix1 0)).toNat := by
  have a := congrFun h.1 (ix1 0)
  have b := congrFun h.2 (ix1 0)
  unfold Cert.Pre_chip_of_four.fn at a b
  pointwise at a b
  generalize w (ix1 0) = v at a b ⊢
  have a' : (0#32 : BitVec 32).sle v = true := by
    cases e : (0#32 : BitVec 32).sle v
    · simp only [IntOp.cmpi, e] at a
      exact absurd a (by decide)
    · rfl
  have b' : v.slt (4#32 : BitVec 32) = true := by
    cases e : v.slt (4#32 : BitVec 32)
    · simp only [IntOp.cmpi, e] at b
      exact absurd b (by decide)
    · rfl
  rw [BitVec.sle_iff_toInt_le] at a'
  rw [BitVec.slt_iff_toInt_lt] at b'
  have h0 : (0#32 : BitVec 32).toInt = 0 := by decide
  have h4 : (4#32 : BitVec 32).toInt = 4 := by decide
  have hv := BitVec.toInt_eq_toNat_cond v
  have := v.isLt
  rw [h0] at a'
  rw [h4] at b'
  split at hv <;> omega

section ideal
open Cert.ChipSumIdeal Cert.ChipSumIdeal.Gen
variable {F : FTy → Type} [FloatOps F] (m : (ℓ : Loc nD τ sig) → Buf (Elt F) ℓ)
/-- An array of one word has one index. -/
theorem one (p q : S1.Idx) : p = q := by
  rw [eq_ix1 p, eq_ix1 q]
  exact congrArg ix1 (Subsingleton.elim (α := Fin 1) _ _)
/-- The block the index map names. -/
theorem index (i : grid0.Coords) : cc0_transform_0 Facts₀.inb_S1_S1_0 Facts₀.numel1_S1 (tbl m) i = ![0, (i 0).val, (m ((0 : Dev nD).tc.loc main_arg2) (ix1 0)).toNat] := by
  have e : (tbl m).at 0 (Rect.unit (s := S1) ![0] S1.size Facts₀.inb_S1_S1_0) Facts₀.numel1_S1 = m ((0 : Dev nD).tc.loc main_arg2) (ix1 0) :=
    (congrFun (V_main_arg2 m 0) _).trans (congrArg (m ((0 : Dev nD).tc.loc main_arg2)) (one _ _))
  have hi : (BitVec.ofNat 32 (i 0).val).toNat = (i 0).val := Nat.mod_eq_of_lt (lt_trans (i 0).isLt (by decide))
  unfold cc0_transform_0
  rw [e]
  dsimp only
  rw [hi]
  rfl
/-- Every block named lies inside the array. -/
theorem ok (h : (m ((0 : Dev nD).tc.loc main_arg2) (ix1 0)).toNat < 4) : Ok m := by
  intro i
  rw [index]
  exact (by decide +kernel : ∀ (i w : Fin 4), ∃ h : (∀ a, ((![0, i.val, w.val] : Fin 3 → Nat) a + 1) * S1x256x1408.size a ≤ S1x1024x5632.size a),
    EltTy.bits .bf16 = 32 ∨ (Rect.block (s := S1x1024x5632) S1x256x1408.size ![0, i.val, w.val] h).WholeWords (EltTy.packing .bf16)) (i 0) ⟨_, h⟩
/-- The precondition gives the region's side condition. -/
theorem ok_of_pre (m : (ℓ : Loc nD τ sig) → Buf (Elt Ideal) ℓ) (h : letI := Cert.Pre_chip_of_four.Gen.facts; Cert.Pre_ChipSumIdeal m) : Ok m :=
  ok m (word _ _ _ (h 0)).1
end ideal

/-- The same for the kernel as printed, whose index map and array are the same. -/
theorem ok_bits (m : (ℓ : Loc Cert.ChipSum.nD Cert.ChipSum.τ Cert.ChipSum.sig) → Buf (Elt Bits) ℓ) (h : letI := Cert.Pre_chip_of_four.Gen.facts; Cert.Pre_ChipSum m) : Cert.ChipSum.Gen.Ok m :=
  ok (F := Bits) m (word _ _ _ (h 0)).1

end Cert.ChipSumTable
end
end
-- ==== Proof.ChipSumRef.lean ====
/- The reference's sum over the chips, entry by entry. -/
module

public import proofs.«01_k».proof.Proof.Gen.ChipSumRefIdeal.Read
public import Idealize.ShloMosaic.Lib.Pointwise
public import Idealize.ShloMosaic.Lib.Claim

set_option maxRecDepth 16384
@[expose] public section
noncomputable section
open Idealize.ShloMosaic Idealize.ShloMosaic.TcCoe Idealize.SL.Sem
open Cert.ChipSumRefIdeal Cert.ChipSumRefIdeal.Gen Cert.ChipSumRefIdeal.Read
namespace Cert.ChipSumRefIdeal.Math

/-- A column of a chip's part. -/
def col (c : Fin 4) (k : Fin 1408) : Fin 5632 := ⟨c.val * 1408 + k.val, by omega⟩

variable {x0 : (⟨S1x1024x5632, .f32⟩ : BufTy).Contents (Elt Ideal)} {x1 : (⟨S3x1024x1408, .f32⟩ : BufTy).Contents (Elt Ideal)} {x2 : (⟨S1, .i32⟩ : BufTy).Contents (Elt Ideal)}
variable {g : Fin 1024 → Fin 5632 → EReal} {got : Fin 3 → Fin 1024 → Fin 1408 → EReal} {c : Fin 4}
variable (hg : ∀ i k, x0 (ix3 0 i k) = g i k) (hgot : ∀ j i k, x1 (ix3 j i k) = got j i k) (hc : x2 (ix1 0) = BitVec.ofNat 32 c.val)
  (i : Fin 1024) (k : Fin 1408)

include hg hc in
/-- The parts, all but the chip's own replaced by zero. -/
theorem v7 (q : Fin 4) : val_main_v7 (F := Ideal) x0 x2 (ix4 0 i q k) = if q = c then g i (col q k) else 0 := by
  unfold val_main_v7 val_main_call0_v2 val_main_call0_v1 val_main_call0_v0 val_main_v6 val_main_v5 val_main_v4 val_main_v3 val_main_v2 val_main_v1 val_main_v0
  pointwise [val_main_cst]
  rw [hc]
  have e : IntOp.cmpi .eq (BitVec.ofNat 32 q.val) (BitVec.ofNat 32 c.val) = if q = c then 1#1 else 0#1 := by
    exact (by decide : ∀ q c : Fin 4, IntOp.cmpi .eq (BitVec.ofNat 32 q.val) (BitVec.ofNat 32 c.val) = if q = c then 1#1 else 0#1) q c
  rw [e]
  by_cases h : q = c
  · rw [if_pos h, if_pos h]
    exact hg _ _
  · rw [if_neg h, if_neg h]
    exact Ideal.ofBits_zero .f32
include hg hgot hc in
theorem v13 : val_main_v13 (F := Ideal) x0 x1 x2 (ix3 0 i k) = g i (col c k) + (got 0 i k + got 1 i k + got 2 i k) := by
  have e := v7 hg hc i k
  unfold val_main_v13 val_main_v12 val_main_v11 val_main_v10 val_main_v9 val_main_v8
  generalize val_main_v7 (F := Ideal) x0 x2 = s at *
  pointwise [val_main_cst_0, val_main_cst_1]
  rw [Finset.sum_congr rfl fun q _ => e q, Finset.sum_ite_eq' Finset.univ c, if_pos (Finset.mem_univ _), Fin.sum_univ_three, hgot, hgot, hgot]

end Cert.ChipSumRefIdeal.Math
end
end
-- ==== Proof.ChipSumValue.lean ====
/- What the kernel leaves in its result array, entry by entry. -/
module

public import proofs.«01_k».proof.Proof.ChipSumTable
public import proofs.«01_k».proof.Proof.ChipSumRef
public import Idealize.ShloMosaic.Lib.Claim
public import Idealize.ShloMosaic.Lib.Pointwise
public import Idealize.ShloMosaic.Lib.Pipeline.Covers
public import Idealize.ShloMosaic.Lib.Pipeline.ValueKit
public import Idealize.ShloMosaic.Lib.Pipeline.ReadBack
public import Idealize.ShloMosaic.Lib.StableHlo.ReadAt

set_option maxRecDepth 16384
@[expose] public section
noncomputable section
open Idealize.ShloMosaic Idealize.ShloMosaic.TcCoe Idealize.SL.Sem
open Cert.ChipSumIdeal Cert.ChipSumIdeal.Gen
open Cert.ChipSumRefIdeal.Math (col)
namespace Cert.ChipSumIdeal.Math

variable (m : (ℓ : Loc nD τ sig) → Buf (Elt Ideal) ℓ) (hO : Ok m) (c : Dev nD)
variable {g : Fin 1024 → Fin 5632 → EReal} {got : Fin 3 → Fin 1024 → Fin 1408 → EReal} {n : Fin 4}
variable (hg : ∀ i k, m ((c : Thread nD τ).loc main_arg0) (ix3 0 i k) = g i k) (hgot : ∀ j i k, m ((c : Thread nD τ).loc main_arg1) (ix3 j i k) = got j i k)
  (hn : m ((0 : Dev nD).tc.loc main_arg2) (ix1 0) = BitVec.ofNat 32 n.val)

theorem coords : ∀ t : Fin grid0.N, (grid0.coords t 0).val = t.val := by decide +kernel
include hn in
theorem idx0 (t : Fin (cfgM m hO).N) : ((cfgM m hO).win 0).index t = ![0, t.val, n.val] := by
  refine (ChipSumTable.index m (grid0.coords t)).trans ?_
  rw [hn, coords t]
  congr 3
  exact Nat.mod_eq_of_lt (lt_trans n.isLt (by decide))
theorem idx12 (t : Fin (cfgM m hO).N) : ((cfgM m hO).win 1).index t = ![0, t.val, 0] ∧ ((cfgM m hO).win 2).index t = ![0, t.val, 0] :=
  (by decide +kernel : ∀ t : Fin grid0.N, cc0_transform_1 (grid0.coords t) = ![0, t.val, 0] ∧ cc0_transform_2 (grid0.coords t) = ![0, t.val, 0]) t

/-- Row `i` of a grid point's quarter. -/
def row (t : Fin (cfgM m hO).N) (i : Fin 256) : Fin 1024 := ⟨t.val * 256 + i.val, by have : t.val < 4 := t.isLt; omega⟩
variable (t : Fin (cfgM m hO).N) (i : Fin 256) (k : Fin 1408)

include hg in
theorem v0 (r : Fin 1024) (k : Fin 5632) : V m c main_v0 (ix3 0 r k) = g r k := by
  refine Eq.trans ?_ (hg _ _)
  simp only [V, hostOps0]
  after_results_simp
  rfl
include hgot in
theorem v1 (j : Fin 3) (r : Fin 1024) (k : Fin 1408) : V m c main_v1 (ix3 j r k) = got j r k := by
  refine Eq.trans ?_ (hgot _ _ _)
  simp only [V, hostOps0]
  after_results_simp
  rfl
include hg hn in
theorem blk0 : iblk m hO c 0 t (ix3 0 i k) = g (row m hO t i) (col n k) := by
  refine Eq.trans ?_ (v0 m c hg _ _)
  blk_point [iblk, V, idx0 m hO hn t]
  all_goals rfl
include hgot in
theorem blk1 (j : Fin 3) : iblk m hO c 1 t (ix3 j i k) = got j (row m hO t i) k := by
  refine Eq.trans ?_ (v1 m c hgot _ _ _)
  blk_point [iblk, V, (idx12 m hO t).1]
  all_goals rfl

theorem pay1 (x y z w : Vec Ideal S1x256x1408 .bf16) : k0_pay1 x y z w (ix3 0 i k) = x (ix3 0 i k) + y (ix3 0 i k) + z (ix3 0 i k) + w (ix3 0 i k) := by
  pointwise [k0_pay1]

/-- One of the three parts a chip receives, loaded from the staged window. -/
theorem ld_part (X : Vec Ideal S3x256x1408 .bf16) (j : Fin 3) (i : Fin 256) (k : Fin 1408) (inb) :
    View.ld X (Rect.unit ![j.val, 0, 0] ![1, 256, 1408] inb) (ix3 0 i k) = X (ix3 j i k) :=
  View.ld_unit_apply_of X _ _ inb _ _ (fun a => match a with | 0 => rfl | 1 => (Nat.zero_add _).symm | 2 => (Nat.zero_add _).symm)

/-- What the body stores, on any staging buffers: the chip's own part and the three received ones. -/
theorem stored (p : grid0.Coords) (arg2 : Memref sig .tc .vmem S1x256x1408 .bf16) (harg2 : arg2.IsWhole) (arg3 : Memref sig .tc .vmem S3x256x1408 .bf16) (harg3 : arg3.IsWhole)
    (arg4 : Memref sig .tc .vmem S1x256x1408 .f32) (harg4 : arg4.IsWhole) (x0 : Vec Ideal S1x256x1408 .bf16) (x1 : Vec Ideal S3x256x1408 .bf16) (xt : TbBuf0 (F := Ideal) c tbM0_0)
    (i : Fin 256) (k : Fin 1408) (a : EReal) (b : Fin 3 → EReal) (h0 : x0 (ix3 0 i k) = a) (h1 : ∀ j, x1 (ix3 j i k) = b j) :
    out0_A_2 c p arg2 harg2 arg3 harg3 arg4 harg4 x0 x1 xt (ix3 0 i k) = a + (b 0 + b 1 + b 2) := by
  frame_out
  rw [pay1]
  refine (congrArg₂ (· + ·) (congrArg₂ (· + ·) (congrArg₂ (· + ·) h0 ((ld_part x1 0 i k _).trans (h1 0))) ((ld_part x1 1 i k _).trans (h1 1)))
    ((ld_part x1 2 i k _).trans (h1 2))).trans ?_
  show a + b 0 + b 1 + b 2 = _
  rw [add_assoc, add_assoc, add_assoc]

include hg hgot hn in
theorem point : (dats m hO 0 c).after 2 t (ix3 0 i k) = g (row m hO t i) (col n k) + (got 0 (row m hO t i) k + got 1 (row m hO t i) k + got 2 (row m hO t i) k) := by
  rw [after0_2]
  exact stored c _ _ _ _ _ _ _ (iblk m hO c 0 t) (iblk m hO c 1 t) _ i k _ (fun j => got j (row m hO t i) k) (blk0 m hO c hg hn t i k) (blk1 m hO c hgot t i k)

/-- The result's blocks: four quarters of the rows. -/
theorem nblk : ∀ a : Fin 3, ((cfgM m hO).win 2).nblk a = ![1, 4, 1] a
  | 0 => (by decide : (1 + 1 - 1) / 1 = 1)
  | 1 => (by decide : (1024 + 256 - 1) / 256 = 4)
  | 2 => (by decide : (1408 + 1408 - 1) / 1408 = 1)
/-- The four grid points write the four quarters of the rows. -/
theorem covers : ((cfgM m hO).win 2).Covers :=
  ((cfgM m hO).win 2).covers_of_index_surj rfl (by decide : ∀ a : Fin 3, 0 < S1x256x1408.size a) fun β =>
    ⟨⟨(β (1 : Fin 3)).val, lt_of_lt_of_eq (β (1 : Fin 3)).isLt (nblk m hO 1)⟩, (fun a => by
      rw [(idx12 m hO _).2]
      exact match a with
        | 0 => (Nat.lt_one_iff.mp (lt_of_lt_of_eq (β (0 : Fin 3)).isLt (nblk m hO 0))).symm
        | 1 => rfl
        | 2 => (Nat.lt_one_iff.mp (lt_of_lt_of_eq (β (2 : Fin 3)).isLt (nblk m hO 2))).symm : ∀ a : Fin 3, _)⟩

include hg hgot hn in
theorem final : (dats m hO 0 c).arrAt 2 (cfgM m hO).N = fun j : S1x1024x1408.Idx => g (j 1) (col n (j 2)) + (got 0 (j 1) (j 2) + got 1 (j 1) (j 2) + got 2 (j 1) (j 2)) := by
  refine (dats m hO 0 c).arrAt_eq_of_covers 2 _ (covers m hO) fun t _ (y : S1x256x1408.Idx) => ?_
  blk_simp
  obtain ⟨z, i, k, rfl⟩ : ∃ z i k, y = ix3 z i k := ⟨y 0, y 1, y 2, eq_ix3 y⟩
  obtain rfl : z = 0 := Subsingleton.elim _ _
  have e : (((cfgM m hO).win 2).blk t).view.emb (ix3 0 i k) = ix3 0 (row m hO t i) k := by
    blk_ext [(idx12 m hO t).2]
    all_goals rfl
  rw [e]
  exact point m hO c hg hgot hn t i k

end Cert.ChipSumIdeal.Math
end
end
-- ==== Proof.ChipSumClaim.lean ====
/- The claims about the sum over the chips of a weight's gradient. -/
module

public import proofs.«01_k».proof.Defs
public import proofs.«01_k».proof.Proof.ChipSumValue
public import proofs.«01_k».proof.Proof.Gen.ChipSumRefIdeal.Run
public import Idealize.ShloMosaic.Lib.Quiescent

set_option maxRecDepth 16384

@[expose] public section
noncomputable section

open Idealize.ShloMosaic Idealize.ShloMosaic.TcCoe Idealize.SL.Sem

namespace Cert.ChipSumClaim

/-- The side conditions of the precondition. -/
abbrev preFacts : Cert.Pre_chip_of_four.Facts := Cert.Pre_chip_of_four.Gen.facts

/-- The kernel runs and leaves its arguments as they were. -/
theorem frame : Cert.quiescent_ChipSum (hChipSum := Cert.ChipSum.Gen.facts) (hPre_chip_of_four := preFacts) :=
  fun m ρ h => Cert.ChipSum.Gen.frame m ρ (Cert.ChipSumTable.ok_bits m h)
/-- So does its idealization. -/
theorem idealFrame : Cert.quiescent_ChipSumIdeal (hChipSumIdeal := Cert.ChipSumIdeal.Gen.facts) (hPre_chip_of_four := preFacts) :=
  fun m ρ h => Cert.ChipSumIdeal.Gen.frame m ρ (Cert.ChipSumTable.ok_of_pre m h)
/-- The reference runs and leaves its arguments as they were. -/
theorem refFrame : Cert.quiescent_ChipSumRefIdeal (hChipSumRefIdeal := Cert.ChipSumRefIdeal.Gen.facts) :=
  fun m ρ _ => (θ_run Cert.ChipSumRefIdeal.defs _ _).mono
    (fun r h => ⟨fun c => (h c).2, Idealize.ShloMosaic.sem_eq_zero_of_no_sems (by decide) r.2⟩)
    (Cert.ChipSumRefIdeal.Value.run (F := Ideal) m ρ)

section run
open Cert.ChipSumIdeal Cert.ChipSumIdeal.Gen
/-- The result: the chip's own part of the gradient and the three received ones. -/
def total (g : Vec Ideal S1x1024x5632 .f32) (got : Vec Ideal S3x1024x1408 .f32) (n : Fin 4) : Vec Ideal S1x1024x1408 .f32 := fun j =>
  g (ix3 0 (j 1) (ChipSumRefIdeal.Math.col n (j 2))) + (got (ix3 0 (j 1) (j 2)) + got (ix3 1 (j 1) (j 2)) + got (ix3 2 (j 1) (j 2)))
abbrev sum (m : (ℓ : Loc nD τ sig) → Buf (Elt Ideal) ℓ) (n : Fin 4) (c : Dev nD) : Vec Ideal S1x1024x1408 .f32 :=
  total (m ((c : Thread nD τ).loc main_arg0)) (m ((c : Thread nD τ).loc main_arg1)) n

/-- The run, with the result array named. -/
theorem run (m : (ℓ : Loc nD τ sig) → Buf (Elt Ideal) ℓ) (ρ : Dev nD → PrngReg) (hO : Ok m) (n : Fin 4)
    (hn : m ((0 : Dev nD).tc.loc main_arg2) (ix1 0) = BitVec.ofNat 32 n.val) :
    θ_run defs (onTc (τ := τ) (main (F := Ideal))) ⟨m, fun _ => 0, ρ⟩ fun r => ∀ c : Dev nD,
      r.2.mem ((c : Thread nD τ).loc main_v2) = sum m n c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 2).trans (Math.final m hO c (fun _ _ => rfl) (fun _ _ _ => rfl) hn), h.2 c⟩) (θ_run_and (run_main m ρ hO) (unchanged m ρ hO))
end run

/-- The chip's number, as one of four. -/
theorem number (w : BitVec 32) (h : w.toNat < 4) : ∃ n : Fin 4, w = BitVec.ofNat 32 n.val :=
  ⟨⟨w.toNat, h⟩, by simp⟩

/-- Kernel and reference end with the same array. -/
theorem algebraic : Cert.algebraic_ChipSumIdeal_ChipSumRefIdeal (hChipSumIdeal := Cert.ChipSumIdeal.Gen.facts)
    (hChipSumRefIdeal := Cert.ChipSumRefIdeal.Gen.facts) (hPre_chip_of_four := preFacts) := by
  intro m g m' g' hpre hagree
  obtain ⟨n, hn⟩ := number _ (Cert.ChipSumTable.word _ _ _ (hpre 0)).1
  refine ⟨sum m n, run m g (Cert.ChipSumTable.ok_of_pre m hpre) n hn, ?_⟩
  refine (θ_run Cert.ChipSumRefIdeal.defs _ _).mono (fun r h c => ⟨(h c).1.trans ?_, (h c).2⟩) (Cert.ChipSumRefIdeal.Value.run (F := Ideal) m' g')
  rw [Cert.ChipSumRefIdeal.Read.val_main_v13_eq, (hagree c).1, (hagree c).2.1, (hagree c).2.2]
  funext j
  obtain ⟨z, i, k, rfl⟩ : ∃ z i k, j = ix3 z i k := ⟨j 0, j 1, j 2, eq_ix3 j⟩
  obtain rfl : z = 0 := Subsingleton.elim _ _
  obtain rfl : c = 0 := Subsingleton.elim (α := Fin 1) _ _
  exact Cert.ChipSumRefIdeal.Math.v13 (fun _ _ => rfl) (fun _ _ _ => rfl) hn i k

end Cert.ChipSumClaim

end
end
-- ==== Proof.ConvAFwdMath.lean ====
/- The gated causal convolution of the forward pass, entry by entry. -/
module

public import proofs.«01_k».proof.Proof.FfnMath
public import Idealize.ShloMosaic.Lib.Pointwise

@[expose] public section
noncomputable section
open Idealize.ShloMosaic
namespace Cert.ConvAFwdMath

/-- The entries of a block, by the numbers of the row and of the lane. -/
def at2 {A B : ℕ} (X : (⟨2, ![A, B]⟩ : Shape).Idx → EReal) (r l : ℕ) : EReal :=
  if h : r < A ∧ l < B then X (ix2 ⟨r, h.1⟩ ⟨l, h.2⟩) else 0

theorem at2_of {A B : ℕ} (X : (⟨2, ![A, B]⟩ : Shape).Idx → EReal) {r l : ℕ} (hr : r < A) (hl : l < B) : at2 X r l = X (ix2 ⟨r, hr⟩ ⟨l, hl⟩) := dif_pos ⟨hr, hl⟩

/-- The first `n` taps on top of the bias, at row `o + r` and lane `q + l`. -/
def conv (b : ℕ → EReal) (w W : ℕ → ℕ → EReal) (o q r l : ℕ) : ℕ → EReal
  | 0 => b (l + q)
  | n + 1 => conv b w W o q r l n + w n (l + q) * W (r + (n + 2 + o)) (l + q)

theorem conv_at (b : ℕ → EReal) (w W : ℕ → ℕ → EReal) (o q r l n : ℕ) : conv b w W o q r l n = conv b w W 0 0 (r + o) (l + q) n := by
  induction n with
  | zero => rfl
  | succ n ih =>
    show conv b w W o q r l n + w n (l + q) * W (r + (n + 2 + o)) (l + q) = conv b w W 0 0 (r + o) (l + q) n + w n (l + q) * W (r + o + (n + 2 + 0)) (l + q)
    rw [ih, show r + (n + 2 + o) = r + o + (n + 2 + 0) by omega]

/-- The normalised and gated row. -/
def act (x : Fin 512 → EReal) (g b : Fin 512 → EReal) (l : Fin 512) : EReal :=
  let mu := Ideal.div (∑ k, x k) (Ideal.ofBits .f32 0x44000000#32)
  let v := Ideal.div (∑ k, (x k - mu) * (x k - mu)) (Ideal.ofBits .f32 0x44000000#32)
  let y := (x l - mu) * Ideal.rsqrt (v + Ideal.ofBits .f32 0x3727C5AC#32) * g l + b l
  y * Cert.FfnMath.logi y

/-- The values times the logistic of the gates, at row `r` and lane `l`. -/
def gated (Z : (⟨2, ![8192, 1792]⟩ : Shape).Idx → EReal) (r l : ℕ) : EReal := at2 Z r l * Cert.FfnMath.logi (at2 Z r (512 + l))

/-- The gated values below 32 rows of zeros. -/
def padded (Z : (⟨2, ![8192, 1792]⟩ : Shape).Idx → EReal) (r l : ℕ) : EReal := if r < 32 then 0 else gated Z (r - 32) l

/-- The entries of a vector, by number. -/
def at1 {A : ℕ} (X : (⟨1, ![A]⟩ : Shape).Idx → EReal) (l : ℕ) : EReal := if h : l < A then X (ix1 ⟨l, h⟩) else 0

theorem at1_of {A : ℕ} (X : (⟨1, ![A]⟩ : Shape).Idx → EReal) {l : ℕ} (h : l < A) : at1 X l = X (ix1 ⟨l, h⟩) := dif_pos h

/-- The convolution with its bias. -/
def sums (Z : (⟨2, ![8192, 1792]⟩ : Shape).Idx → EReal) (T : (⟨2, ![31, 512]⟩ : Shape).Idx → EReal) (B : (⟨1, ![512]⟩ : Shape).Idx → EReal) (r l : ℕ) : EReal :=
  conv (at1 B) (at2 T) (padded Z) 0 0 r l 31

/-- The sums of two blocks agree where their windows, taps and biases do. -/
theorem conv_congr {b b' : ℕ → EReal} {w w' W W' : ℕ → ℕ → EReal} {r r' l N : ℕ} (hb : b l = b' l) (hw : ∀ n < N, w n l = w' n l)
    (hW : ∀ n < N, W (r + (n + 2)) l = W' (r' + (n + 2)) l) : conv b w W 0 0 r l N = conv b' w' W' 0 0 r' l N := by
  induction N with
  | zero => exact hb
  | succ n ih =>
    show conv b w W 0 0 r l n + w n l * W (r + (n + 2)) l = conv b' w' W' 0 0 r' l n + w' n l * W' (r' + (n + 2)) l
    rw [ih (fun k hk => hw k (by omega)) (fun k hk => hW k (by omega)), hw n (by omega), hW n (by omega)]

/-- The bias may be added last. -/
theorem conv_bias (b : ℕ → EReal) (w W : ℕ → ℕ → EReal) (r l N : ℕ) : conv b w W 0 0 r l N = conv (fun _ => 0) w W 0 0 r l N + b l := by
  induction N with
  | zero => exact (zero_add _).symm
  | succ n ih =>
    show conv b w W 0 0 r l n + w n l * W (r + (n + 2)) l = conv (fun _ => 0) w W 0 0 r l n + w n l * W (r + (n + 2)) l + b l
    rw [ih, add_right_comm]

end Cert.ConvAFwdMath
end
end
-- ==== Proof.ConvAFwdWindow.lean ====
/- The window of the forward convolution and its seven shifted copies, as functions of a row and a lane. -/
module

public import proofs.«01_k».proof.Proof.Gen.ConvAFwdIdeal.Frame
public import proofs.«01_k».proof.Proof.ConvAFwdMath
public import Idealize.ShloMosaic.Lib.Pipeline.ValueKit
public import Idealize.ShloMosaic.Lib.Pipeline.ReadBack
public import Idealize.ShloMosaic.Lib.Pointwise

set_option maxRecDepth 16384
@[expose] public section
noncomputable section
open Idealize.ShloMosaic Idealize.ShloMosaic.TcCoe Idealize.SL.Sem
open Cert.ConvAFwdIdeal Cert.ConvAFwdIdeal.Gen
namespace Cert.ConvAFwdWindow
open Cert.ConvAFwdMath

theorem ld_at2 {A B : ℕ} (X : Vec Ideal ⟨2, ![A, B]⟩ .f32) (o q a b : ℕ) (inb : ∀ x, (![o, q] : Fin 2 → ℕ) x + (![a, b] : Fin 2 → ℕ) x ≤ (⟨2, ![A, B]⟩ : Shape).size x) :
    View.ld X (Rect.unit ![o, q] ![a, b] inb) = fun y : (⟨2, ![a, b]⟩ : Shape).Idx => at2 X ((y 0).val + o) ((y 1).val + q) := by
  funext y
  have h0 : (y 0).val < a := (y 0).isLt
  have h1 : (y 1).val < b := (y 1).isLt
  have i0 : o + a ≤ A := inb 0
  have i1 : q + b ≤ B := inb 1
  rw [at2_of X (by omega) (by omega)]
  exact View.ld_unit_apply_of X _ _ inb _ _ (fun x => match x with | 0 => Nat.add_comm _ _ | 1 => Nat.add_comm _ _)

/-- The stored pieces hold `W` and fill the window. -/
structure Fills (W : ℕ → ℕ → EReal) (L : List (View.Piece (Elt Ideal) S288x512 .f32)) : Prop where
  holds : ∀ p ∈ L, ∀ x, p.2 x = W ((p.1.emb x 0).val) ((p.1.emb x 1).val)
  covers : ∀ y : S288x512.Idx, ∃ p ∈ L, y ∈ p.1.set

theorem read_window {W : ℕ → ℕ → EReal} {L : List (View.Piece (Elt Ideal) S288x512 .f32)} (h : Fills W L) {sp : Space} {sig : RefSig} (v : View sig .tc sp S288x512 .f32)
    (o q a b : ℕ) (inb : ∀ x, (![o, q] : Fin 2 → ℕ) x + (![a, b] : Fin 2 → ℕ) x ≤ S288x512.size x) :
    v.readCov L (Rect.unit (s := S288x512) ![o, q] ![a, b] inb).toLoadRect = fun y : (⟨2, ![a, b]⟩ : Shape).Idx => W ((y 0).val + o) ((y 1).val + q) := by
  funext y
  rw [View.readCov_eq_canon']
  refine (View.canon_apply_of_pieces (fun y : S288x512.Idx => W (y 0).val (y 1).val) L h.holds _ (h.covers _)).trans ?_
  show W (o + 1 * (y 0).val) (q + 1 * (y 1).val) = _
  congr 1 <;> omega

/-- The pieces hold the window moved by one to seven rows. -/
structure Shifts (W : ℕ → ℕ → EReal) (L : List (View.Piece (Elt Ideal) S7x280x512 .f32)) : Prop where
  holds : ∀ p ∈ L, ∀ x, p.2 x = W ((p.1.emb x 1).val + ((p.1.emb x 0).val + 1)) ((p.1.emb x 2).val)
  covers : ∀ y : S7x280x512.Idx, ∃ p ∈ L, y ∈ p.1.set

theorem read_shift {W : ℕ → ℕ → EReal} {L : List (View.Piece (Elt Ideal) S7x280x512 .f32)} (h : Shifts W L) {sp : Space} {sig : RefSig} (v : View sig .tc sp S7x280x512 .f32)
    (s o q a b : ℕ) (inb : ∀ x, (![s, o, q] : Fin 3 → ℕ) x + (![1, a, b] : Fin 3 → ℕ) x ≤ S7x280x512.size x) :
    v.readCov L (Rect.unit (s := S7x280x512) ![s, o, q] ![1, a, b] inb).toLoadRect = fun y : (⟨3, ![1, a, b]⟩ : Shape).Idx => W ((y 1).val + (o + s + 1)) ((y 2).val + q) := by
  funext y
  have h0 : (y 0).val < 1 := (y 0).isLt
  rw [View.readCov_eq_canon']
  refine (View.canon_apply_of_pieces (fun y : S7x280x512.Idx => W ((y 1).val + ((y 0).val + 1)) (y 2).val) L h.holds _ (h.covers _)).trans ?_
  show W (o + 1 * (y 1).val + (s + 1 * (y 0).val + 1)) (q + 1 * (y 2).val) = _
  congr 1 <;> omega

/-- One of the shifted copies. -/
theorem shift_holds (W : ℕ → ℕ → EReal) (s : ℕ) (inb : ∀ x, (![s, 0, 0] : Fin 3 → ℕ) x + (![1, 280, 512] : Fin 3 → ℕ) x ≤ S7x280x512.size x) (hc : S280x512.ShapeCasts S1x280x512)
    (x : S1x280x512.Idx) :
    shapeCast S1x280x512 (fun y : S280x512.Idx => W ((y 0).val + (s + 1)) ((y 1).val + 0)) hc x
      = W (((Rect.unit (s := S7x280x512) ![s, 0, 0] ![1, 280, 512] inb).emb x 1).val + (((Rect.unit (s := S7x280x512) ![s, 0, 0] ![1, 280, 512] inb).emb x 0).val + 1))
          (((Rect.unit (s := S7x280x512) ![s, 0, 0] ![1, 280, 512] inb).emb x 2).val) := by
  obtain ⟨z, i, k, rfl⟩ : ∃ (z : Fin 1) (i : Fin 280) (k : Fin 512), x = ix3 z i k := ⟨x 0, x 1, x 2, eq_ix3 x⟩
  pointwise []
  have hz : z.val < 1 := z.isLt
  show W (i.val + (s + 1)) (k.val + 0) = W (0 + 1 * i.val + (s + 1 * z.val + 1)) (0 + 1 * k.val)
  congr 1 <;> omega

/-- The seven copies of the window the kernel stores. -/
theorem shifts (W : ℕ → ℕ → EReal) : Shifts W
    [⟨Rect.unit ![6, 0, 0] ![1, 280, 512] (by decide), shapeCast S1x280x512 (fun y : S280x512.Idx => W ((y 0).val + 7) ((y 1).val + 0)) shapeCasts_S280x512_S1x280x512⟩,
      ⟨Rect.unit ![5, 0, 0] ![1, 280, 512] (by decide), shapeCast S1x280x512 (fun y : S280x512.Idx => W ((y 0).val + 6) ((y 1).val + 0)) shapeCasts_S280x512_S1x280x512⟩,
      ⟨Rect.unit ![4, 0, 0] ![1, 280, 512] (by decide), shapeCast S1x280x512 (fun y : S280x512.Idx => W ((y 0).val + 5) ((y 1).val + 0)) shapeCasts_S280x512_S1x280x512⟩,
      ⟨Rect.unit ![3, 0, 0] ![1, 280, 512] (by decide), shapeCast S1x280x512 (fun y : S280x512.Idx => W ((y 0).val + 4) ((y 1).val + 0)) shapeCasts_S280x512_S1x280x512⟩,
      ⟨Rect.unit ![2, 0, 0] ![1, 280, 512] (by decide), shapeCast S1x280x512 (fun y : S280x512.Idx => W ((y 0).val + 3) ((y 1).val + 0)) shapeCasts_S280x512_S1x280x512⟩,
      ⟨Rect.unit ![1, 0, 0] ![1, 280, 512] inb_S7x280x512_S1x280x512_1_0_0, k0_pay6 (F := Ideal) (fun y : S280x512.Idx => W ((y 0).val + 2) ((y 1).val + 0))⟩,
      ⟨Rect.unit ![0, 0, 0] ![1, 280, 512] inb_S7x280x512_S1x280x512_0_0_0, k0_pay5 (F := Ideal) (fun y : S280x512.Idx => W ((y 0).val + 1) ((y 1).val + 0))⟩] where
  holds := by
    simp only [List.forall_mem_cons]
    refine ⟨?_, ?_, ?_, ?_, ?_, ?_, ?_, fun p h => absurd h (List.not_mem_nil)⟩
    · exact shift_holds W 6 _ _
    · exact shift_holds W 5 _ _
    · exact shift_holds W 4 _ _
    · exact shift_holds W 3 _ _
    · exact shift_holds W 2 _ _
    · exact shift_holds W 1 _ _
    · exact shift_holds W 0 _ _
  covers := View.cover_of_tiledL (s := S7x280x512) _ ![1, 280, 512] (by sl_kernel_rfl)

end Cert.ConvAFwdWindow
end
end
-- ==== Proof.ConvAFwdBlock.lean ====
/- What a block of the forward convolution stores. -/
module

public import proofs.«01_k».proof.Proof.ConvAFwdWindow

set_option maxRecDepth 16384
set_option maxHeartbeats 4000000
@[expose] public section
noncomputable section
open Idealize.ShloMosaic Idealize.ShloMosaic.TcCoe Idealize.SL.Sem
open Cert.ConvAFwdIdeal Cert.ConvAFwdIdeal.Gen
namespace Cert.ConvAFwdBlock
open Cert.ConvAFwdMath Cert.ConvAFwdWindow

/-- The gated values. -/
def glu (X Y : (⟨2, ![256, 512]⟩ : Shape).Idx → EReal) (r l : ℕ) : EReal := at2 X r l * Cert.FfnMath.logi (at2 Y r l)

/-- The window: 32 rows of halo, then the block's own rows. -/
def win (H g : ℕ → ℕ → EReal) (r l : ℕ) : EReal := if r < 32 then H r l else g (r - 32) l

theorem rows_hold (W : ℕ → ℕ → EReal) (o a : ℕ) (inb : ∀ x, (![o, 0] : Fin 2 → ℕ) x + (![a, 512] : Fin 2 → ℕ) x ≤ S288x512.size x) (p : (⟨2, ![a, 512]⟩ : Shape).Idx → EReal)
    (h : ∀ (i : Fin a) (k : Fin 512), p (ix2 i k) = W (o + i.val) k.val) (x : (⟨2, ![a, 512]⟩ : Shape).Idx) :
    p x = W (((Rect.unit (s := S288x512) ![o, 0] ![a, 512] inb).emb x 0).val) (((Rect.unit (s := S288x512) ![o, 0] ![a, 512] inb).emb x 1).val) := by
  obtain ⟨i, k, rfl⟩ : ∃ (i : Fin a) (k : Fin 512), x = ix2 i k := ⟨x 0, x 1, eq_ix2 x⟩
  rw [h]
  show W (o + i.val) k.val = W (o + 1 * i.val) (0 + 1 * k.val)
  congr 1 <;> omega

theorem rows_cover {p : (⟨2, ![256, 512]⟩ : Shape).Idx → EReal} {p' : (⟨2, ![32, 512]⟩ : Shape).Idx → EReal} (y : S288x512.Idx) :
    ∃ q ∈ ([⟨Rect.unit ![32, 0] ![256, 512] inb_S288x512_S256x512_32_0, p⟩, ⟨Rect.unit ![0, 0] ![32, 512] inb_S288x512_S32x512_0_0, p'⟩] : List (View.Piece (Elt Ideal) S288x512 .f32)), y ∈ q.1.set := by
  have h0 : (y 0).val < 288 := (y 0).isLt
  have h1 : (y 1).val < 512 := (y 1).isLt
  by_cases h : (y 0).val < 32
  · exact ⟨_, List.mem_cons_of_mem _ (List.mem_cons_self), Rect.mem_set_unit (inb := inb_S288x512_S32x512_0_0).mpr fun x => match x with
      | 0 => ⟨Nat.zero_le _, by show (y 0).val < 0 + 32; omega⟩
      | 1 => ⟨Nat.zero_le _, by show (y 1).val < 0 + 512; omega⟩⟩
  · exact ⟨_, List.mem_cons_self, Rect.mem_set_unit (inb := inb_S288x512_S256x512_32_0).mpr fun x => match x with
      | 0 => ⟨by show 32 ≤ (y 0).val; omega, by show (y 0).val < 32 + 256; omega⟩
      | 1 => ⟨Nat.zero_le _, by show (y 1).val < 0 + 512; omega⟩⟩

theorem own_rows (H : ℕ → ℕ → EReal) (x0 x1 : Vec Ideal S256x512 .bf16) (i : Fin 256) (k : Fin 512) :
    k0_pay4 (F := Ideal) x0 x1 (ix2 i k) = win H (glu x0 x1) (32 + i.val) k.val := by
  unfold win glu Cert.FfnMath.logi
  rw [if_neg (by omega), show 32 + i.val - 32 = i.val by omega, at2_of x0 i.isLt k.isLt, at2_of x1 i.isLt k.isLt, ← zero_sub]
  pointwise [k0_pay4]

theorem fills_first (x0 x1 : Vec Ideal S256x512 .bf16) : Fills (win (fun _ _ => 0) (glu x0 x1))
    [⟨Rect.unit ![32, 0] ![256, 512] inb_S288x512_S256x512_32_0, k0_pay4 (F := Ideal) x0 x1⟩, ⟨Rect.unit ![0, 0] ![32, 512] inb_S288x512_S32x512_0_0, k0_pay2 (F := Ideal)⟩] where
  holds := by
    simp only [List.forall_mem_cons]
    refine ⟨?_, ?_, fun p h => absurd h (List.not_mem_nil)⟩
    · exact rows_hold _ 32 256 _ _ (own_rows _ x0 x1)
    · refine rows_hold _ 0 32 _ _ fun i k => ?_
      unfold win
      rw [if_pos (by omega)]
      pointwise [k0_pay2]
  covers := rows_cover

/-- The halo of a later block: the last rows of the window before it. -/
def halo (xs : (⟨2, ![288, 512]⟩ : Shape).Idx → EReal) (r l : ℕ) : EReal := at2 xs (r + 256) l

theorem fills_next (x0 x1 : Vec Ideal S256x512 .bf16) (xs : Vec Ideal S288x512 .f32) : Fills (win (halo xs) (glu x0 x1))
    [⟨Rect.unit ![32, 0] ![256, 512] inb_S288x512_S256x512_32_0, k0_pay4 (F := Ideal) x0 x1⟩,
      ⟨Rect.unit ![0, 0] ![32, 512] inb_S288x512_S32x512_0_0, k0_pay3 (F := Ideal) (fun y => at2 xs ((y 0).val + 256) ((y 1).val + 0))⟩] where
  holds := by
    simp only [List.forall_mem_cons]
    refine ⟨?_, ?_, fun p h => absurd h (List.not_mem_nil)⟩
    · exact rows_hold _ 32 256 _ _ (own_rows _ x0 x1)
    · refine rows_hold _ 0 32 _ _ fun i k => ?_
      unfold win
      rw [if_pos (by omega), Nat.zero_add]
      pointwise [k0_pay3]
      rfl
  covers := rows_cover

/-- A stored tile of 128 rows and lanes that holds the sums of the 31 taps. -/
theorem tile_holds (b : ℕ → EReal) (w W : ℕ → ℕ → EReal) (o q : ℕ) (inb : ∀ x, (![o, q] : Fin 2 → ℕ) x + (![128, 128] : Fin 2 → ℕ) x ≤ S256x512.size x)
    (p : (⟨2, ![128, 128]⟩ : Shape).Idx → EReal) (h : ∀ i k : Fin 128, p (ix2 i k) = conv b w W o q i.val k.val 31) (x : (⟨2, ![128, 128]⟩ : Shape).Idx) :
    p x = conv b w W 0 0 (((Rect.unit (s := S256x512) ![o, q] ![128, 128] inb).emb x 0).val) (((Rect.unit (s := S256x512) ![o, q] ![128, 128] inb).emb x 1).val) 31 := by
  obtain ⟨i, k, rfl⟩ : ∃ (i k : Fin 128), x = ix2 i k := ⟨x 0, x 1, eq_ix2 x⟩
  rw [h, conv_at]
  show conv b w W 0 0 (i.val + o) (k.val + q) 31 = conv b w W 0 0 (o + 1 * i.val) (q + 1 * k.val) 31
  congr 1 <;> omega

theorem act_at (v : Vec Ideal S256x512 .f32) (x4 x5 : Vec Ideal S1x512 .f32) (r : Fin 256) (l : Fin 512) :
    k0_pay1 (F := Ideal) (k0_pay111 (k0_pay108 v) (k0_pay109 v) k0_pay110) x4 x5 (ix2 r l)
      = act (fun k => v (ix2 r k)) (fun k => x4 (ix2 0 k)) (fun k => x5 (ix2 0 k)) l := by
  unfold act Cert.FfnMath.logi
  simp only [← zero_sub]
  pointwise [k0_pay1, k0_pay111, k0_pay108, k0_pay109, k0_pay110]

section
variable (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S32x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .bf16) (harg8 : arg8.IsWhole) (arg9 : Memref sig .tc .vmem S288x512 .f32) (harg9 : arg9.IsWhole) (arg10 : Memref sig .tc .vmem S7x280x512 .f32) (harg10 : arg10.IsWhole)
  (x0 x1 : Vec Ideal S256x512 .bf16) (x2 : Vec Ideal S32x512 .f32) (x3 x4 x5 : Vec Ideal S1x512 .f32) (xs : Vec Ideal S288x512 .f32)

theorem window_A (hc0 : cond0_0 i) (hc1 : ¬cond0_1 i) (y : S288x512.Idx) : sout0_A_0 c i arg1 harg1 arg2 harg2 arg3 harg3 arg4 harg4 arg5 harg5 arg6 harg6 arg7 harg7 arg8 harg8 arg9 harg9 arg10 harg10 hc0 hc1 x0 x1 x2 x3 x4 x5 y = win (fun _ _ => 0) (glu x0 x1) (y 0).val (y 1).val := by
  frame_out

  exact View.canon_apply_of_pieces (S := S288x512) (e := .f32) (Val := Elt Ideal) (fun y : S288x512.Idx => win (fun _ _ => 0) (glu x0 x1) (y 0).val (y 1).val) _ (fills_first x0 x1).holds _ ((fills_first x0 x1).covers _)

theorem sums_A (hc0 : cond0_0 i) (hc1 : ¬cond0_1 i) (y : S256x512.Idx) : out0_A_6 c i arg1 harg1 arg2 harg2 arg3 harg3 arg4 harg4 arg5 harg5 arg6 harg6 arg7 harg7 arg8 harg8 arg9 harg9 arg10 harg10 hc0 hc1 x0 x1 x2 x3 x4 x5 y = conv (at2 x3 0) (at2 x2) (win (fun _ _ => 0) (glu x0 x1)) 0 0 (y 0).val (y 1).val 31 := by
  frame_out
  simp only [ld_at2]
  simp only [read_window (fills_first x0 x1)]
  simp only [read_shift (shifts _)]
  generalize win _ _ = W
  refine View.canon_apply_of_pieces (S := S256x512) (e := .f32) (Val := Elt Ideal) (fun y : S256x512.Idx => conv (at2 x3 0) (at2 x2) W 0 0 (y 0).val (y 1).val 31) _ ?_ _ (View.cover_of_tiledL (s := S256x512) _ ![128, 128] (by sl_kernel_rfl) _)
  simp only [List.forall_mem_cons]
  refine ⟨fun x => tile_holds _ _ _ _ _ _ _ ?_ x, fun x => tile_holds _ _ _ _ _ _ _ ?_ x, fun x => tile_holds _ _ _ _ _ _ _ ?_ x, fun x => tile_holds _ _ _ _ _ _ _ ?_ x, fun x => tile_holds _ _ _ _ _ _ _ ?_ x, fun x => tile_holds _ _ _ _ _ _ _ ?_ x, fun x => tile_holds _ _ _ _ _ _ _ ?_ x, fun x => tile_holds _ _ _ _ _ _ _ ?_ x, fun p h => absurd h (List.not_mem_nil)⟩ <;>
  · intro i k
    pointwise [k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107]
    rfl

theorem act_A (hc0 : cond0_0 i) (hc1 : ¬cond0_1 i) (r : Fin 256) (l : Fin 512) : out0_A_7 c i arg1 harg1 arg2 harg2 arg3 harg3 arg4 harg4 arg5 harg5 arg6 harg6 arg7 harg7 arg8 harg8 arg9 harg9 arg10 harg10 hc0 hc1 x0 x1 x2 x3 x4 x5 (ix2 r l)
      = act (fun k => conv (at2 x3 0) (at2 x2) (win (fun _ _ => 0) (glu x0 x1)) 0 0 r.val k.val 31) (fun k => x4 (ix2 0 k)) (fun k => x5 (ix2 0 k)) l := by
  frame_out
  simp only [ld_at2]
  simp only [read_window (fills_first x0 x1)]
  simp only [read_shift (shifts _)]
  generalize win _ _ = W
  refine (act_at _ _ _ r l).trans (congrArg (fun x => act x _ _ l) (funext fun k => ?_))
  rw [View.readCov_eq_canon']
  have e : (Rect.unit (s := S256x512) ![0, 0] S256x512.size inb_S256x512_S256x512_0_0).emb (ix2 r k) = (ix2 r k : S256x512.Idx) :=
    funext fun x => match x with
      | 0 => Fin.ext (by show 0 + 1 * r.val = r.val; omega)
      | 1 => Fin.ext (by show 0 + 1 * k.val = k.val; omega)
  refine (congrArg _ e).trans (View.canon_apply_of_pieces (S := S256x512) (e := .f32) (Val := Elt Ideal) (fun y : S256x512.Idx => conv (at2 x3 0) (at2 x2) W 0 0 (y 0).val (y 1).val 31) _ ?_ _ (View.cover_of_tiledL (s := S256x512) _ ![128, 128] (by sl_kernel_rfl) _))
  simp only [List.forall_mem_cons]
  refine ⟨fun x => tile_holds _ _ _ _ _ _ _ ?_ x, fun x => tile_holds _ _ _ _ _ _ _ ?_ x, fun x => tile_holds _ _ _ _ _ _ _ ?_ x, fun x => tile_holds _ _ _ _ _ _ _ ?_ x, fun x => tile_holds _ _ _ _ _ _ _ ?_ x, fun x => tile_holds _ _ _ _ _ _ _ ?_ x, fun x => tile_holds _ _ _ _ _ _ _ ?_ x, fun x => tile_holds _ _ _ _ _ _ _ ?_ x, fun p h => absurd h (List.not_mem_nil)⟩ <;>
  · intro i k
    pointwise [k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107]
    rfl

theorem window_B (hc0 : ¬cond0_0 i) (hc1 : cond0_1 i) (y : S288x512.Idx) : sout0_B_0 c i arg1 harg1 arg2 harg2 arg3 harg3 arg4 harg4 arg5 harg5 arg6 harg6 arg7 harg7 arg8 harg8 arg9 harg9 arg10 harg10 hc0 hc1 x0 x1 x2 x3 x4 x5 xs y = win (halo xs) (glu x0 x1) (y 0).val (y 1).val := by
  frame_out
  simp only [ld_at2]
  exact View.canon_apply_of_pieces (S := S288x512) (e := .f32) (Val := Elt Ideal) (fun y : S288x512.Idx => win (halo xs) (glu x0 x1) (y 0).val (y 1).val) _ (fills_next x0 x1 xs).holds _ ((fills_next x0 x1 xs).covers _)

theorem sums_B (hc0 : ¬cond0_0 i) (hc1 : cond0_1 i) (y : S256x512.Idx) : out0_B_6 c i arg1 harg1 arg2 harg2 arg3 harg3 arg4 harg4 arg5 harg5 arg6 harg6 arg7 harg7 arg8 harg8 arg9 harg9 arg10 harg10 hc0 hc1 x0 x1 x2 x3 x4 x5 xs y = conv (at2 x3 0) (at2 x2) (win (halo xs) (glu x0 x1)) 0 0 (y 0).val (y 1).val 31 := by
  frame_out
  simp only [ld_at2]
  simp only [read_window (fills_next x0 x1 xs)]
  simp only [read_shift (shifts _)]
  generalize win _ _ = W
  refine View.canon_apply_of_pieces (S := S256x512) (e := .f32) (Val := Elt Ideal) (fun y : S256x512.Idx => conv (at2 x3 0) (at2 x2) W 0 0 (y 0).val (y 1).val 31) _ ?_ _ (View.cover_of_tiledL (s := S256x512) _ ![128, 128] (by sl_kernel_rfl) _)
  simp only [List.forall_mem_cons]
  refine ⟨fun x => tile_holds _ _ _ _ _ _ _ ?_ x, fun x => tile_holds _ _ _ _ _ _ _ ?_ x, fun x => tile_holds _ _ _ _ _ _ _ ?_ x, fun x => tile_holds _ _ _ _ _ _ _ ?_ x, fun x => tile_holds _ _ _ _ _ _ _ ?_ x, fun x => tile_holds _ _ _ _ _ _ _ ?_ x, fun x => tile_holds _ _ _ _ _ _ _ ?_ x, fun x => tile_holds _ _ _ _ _ _ _ ?_ x, fun p h => absurd h (List.not_mem_nil)⟩ <;>
  · intro i k
    pointwise [k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107]
    rfl

theorem act_B (hc0 : ¬cond0_0 i) (hc1 : cond0_1 i) (r : Fin 256) (l : Fin 512) : out0_B_7 c i arg1 harg1 arg2 harg2 arg3 harg3 arg4 harg4 arg5 harg5 arg6 harg6 arg7 harg7 arg8 harg8 arg9 harg9 arg10 harg10 hc0 hc1 x0 x1 x2 x3 x4 x5 xs (ix2 r l)
      = act (fun k => conv (at2 x3 0) (at2 x2) (win (halo xs) (glu x0 x1)) 0 0 r.val k.val 31) (fun k => x4 (ix2 0 k)) (fun k => x5 (ix2 0 k)) l := by
  frame_out
  simp only [ld_at2]
  simp only [read_window (fills_next x0 x1 xs)]
  simp only [read_shift (shifts _)]
  generalize win _ _ = W
  refine (act_at _ _ _ r l).trans (congrArg (fun x => act x _ _ l) (funext fun k => ?_))
  rw [View.readCov_eq_canon']
  have e : (Rect.unit (s := S256x512) ![0, 0] S256x512.size inb_S256x512_S256x512_0_0).emb (ix2 r k) = (ix2 r k : S256x512.Idx) :=
    funext fun x => match x with
      | 0 => Fin.ext (by show 0 + 1 * r.val = r.val; omega)
      | 1 => Fin.ext (by show 0 + 1 * k.val = k.val; omega)
  refine (congrArg _ e).trans (View.canon_apply_of_pieces (S := S256x512) (e := .f32) (Val := Elt Ideal) (fun y : S256x512.Idx => conv (at2 x3 0) (at2 x2) W 0 0 (y 0).val (y 1).val 31) _ ?_ _ (View.cover_of_tiledL (s := S256x512) _ ![128, 128] (by sl_kernel_rfl) _))
  simp only [List.forall_mem_cons]
  refine ⟨fun x => tile_holds _ _ _ _ _ _ _ ?_ x, fun x => tile_holds _ _ _ _ _ _ _ ?_ x, fun x => tile_holds _ _ _ _ _ _ _ ?_ x, fun x => tile_holds _ _ _ _ _ _ _ ?_ x, fun x => tile_holds _ _ _ _ _ _ _ ?_ x, fun x => tile_holds _ _ _ _ _ _ _ ?_ x, fun x => tile_holds _ _ _ _ _ _ _ ?_ x, fun x => tile_holds _ _ _ _ _ _ _ ?_ x, fun p h => absurd h (List.not_mem_nil)⟩ <;>
  · intro i k
    pointwise [k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107]
    rfl

end
end Cert.ConvAFwdBlock
end
end
-- ==== Proof.ConvAFwdValue.lean ====
/- What the forward convolution leaves in its two result arrays, entry by entry. -/
module

public import proofs.«01_k».proof.Proof.ConvAFwdBlock
public import Idealize.ShloMosaic.Lib.Pipeline.Value
public import Idealize.ShloMosaic.Lib.StableHlo.ReadAt
public import Idealize.ShloMosaic.Lib.Claim

set_option maxRecDepth 16384
set_option maxHeartbeats 1000000
@[expose] public section
noncomputable section
open Idealize.ShloMosaic Idealize.ShloMosaic.TcCoe Idealize.SL.Sem
open Cert.ConvAFwdIdeal Cert.ConvAFwdIdeal.Gen Cert.ConvAFwdMath Cert.ConvAFwdBlock
namespace Cert.ConvAFwdIdeal.Math

theorem idx : ∀ t : Fin cfg0.N, win0_0.index t = ![t.val, 0] ∧ win0_1.index t = ![t.val, 1] ∧ win0_2.index t = ![0, 0]
    ∧ win0_3.index t = ![0, 0] ∧ win0_4.index t = ![0, 0] ∧ win0_5.index t = ![0, 0] ∧ win0_6.index t = ![t.val, 0] ∧ win0_7.index t = ![t.val, 0] :=
  (by decide +kernel : ∀ t : Fin grid0.N, _)
theorem lt32 (t : Fin cfg0.N) : t.val < 32 := t.isLt.trans_eq N_0

variable (m : (ℓ : Loc nD τ sig) → Buf (Elt Ideal) ℓ) (c : Dev nD)

/-- The arguments. -/
abbrev Z : (⟨2, ![8192, 1792]⟩ : Shape).Idx → EReal := m ((c : Thread nD τ).loc main_arg0)
abbrev T : (⟨2, ![31, 512]⟩ : Shape).Idx → EReal := m ((c : Thread nD τ).loc main_arg1)
abbrev B : (⟨1, ![512]⟩ : Shape).Idx → EReal := m ((c : Thread nD τ).loc main_arg2)
abbrev G : (⟨1, ![512]⟩ : Shape).Idx → EReal := m ((c : Thread nD τ).loc main_arg3)
abbrev H : (⟨1, ![512]⟩ : Shape).Idx → EReal := m ((c : Thread nD τ).loc main_arg4)

theorem v0 (r : Fin 8192) (k : Fin 1792) : V m c main_v0 (ix2 r k) = Z m c (ix2 r k) := by
  simp only [V, V0, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp
  generalize hx : m _ = x
  pointwise
  subst hx
  rfl
theorem v1 (r : Fin 32) (k : Fin 512) (h : r.val < 31) : V m c main_v1 (ix2 r k) = T m c (ix2 ⟨r.val, h⟩ k) := by
  simp only [V, V0, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp
  generalize hx : m _ = x
  pointwise
  rw [dif_pos h]
  subst hx
  rfl
theorem v2 (k : Fin 512) : V m c main_v2 (ix2 0 k) = B m c (ix1 k) := by
  simp only [V, V0, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp
  generalize hx : m _ = x
  pointwise
  subst hx
  rfl
theorem v3 (k : Fin 512) : V m c main_v3 (ix2 0 k) = G m c (ix1 k) := by
  simp only [V, V0, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp
  generalize hx : m _ = x
  pointwise
  subst hx
  rfl
theorem v4 (k : Fin 512) : V m c main_v4 (ix2 0 k) = H m c (ix1 k) := by
  simp only [V, V0, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp
  generalize hx : m _ = x
  pointwise
  subst hx
  rfl

theorem x0 (t : Fin cfg0.N) (r : Fin 256) (k : Fin 512) : X0_0 m c t (ix2 r k) = Z m c (ix2 ⟨t.val * 256 + r.val, by have := lt32 t; omega⟩ ⟨k.val, by omega⟩) := by
  unfold X0_0 Pipeline.Window.fill
  rw [dif_pos (moved0_0 t _)]
  refine Eq.trans ?_ (v0 m c _ _)
  blk_point [iblk, (idx t).1]
theorem x1 (t : Fin cfg0.N) (r : Fin 256) (k : Fin 512) : X0_1 m c t (ix2 r k) = Z m c (ix2 ⟨t.val * 256 + r.val, by have := lt32 t; omega⟩ ⟨512 + k.val, by omega⟩) := by
  unfold X0_1 Pipeline.Window.fill
  rw [dif_pos (moved0_1 t _)]
  refine Eq.trans ?_ (v0 m c _ _)
  blk_point [iblk, (idx t).2.1]
theorem blk2 (t : Fin cfg0.N) (r : Fin 32) (k : Fin 512) (h : r.val < 31) : iblk m c 2 t (ix2 r k) = T m c (ix2 ⟨r.val, h⟩ k) := by
  refine Eq.trans ?_ (v1 m c r k h)
  blk_point [iblk, (idx t).2.2.1]
theorem blk3 (t : Fin cfg0.N) (k : Fin 512) : iblk m c 3 t (ix2 0 k) = B m c (ix1 k) := by
  refine Eq.trans ?_ (v2 m c k)
  blk_point [iblk, (idx t).2.2.2.1]
theorem blk4 (t : Fin cfg0.N) (k : Fin 512) : iblk m c 4 t (ix2 0 k) = G m c (ix1 k) := by
  refine Eq.trans ?_ (v3 m c k)
  blk_point [iblk, (idx t).2.2.2.2.1]
theorem blk5 (t : Fin cfg0.N) (k : Fin 512) : iblk m c 5 t (ix2 0 k) = H m c (ix1 k) := by
  refine Eq.trans ?_ (v4 m c k)
  blk_point [iblk, (idx t).2.2.2.2.2.1]

/-! ## The window a block reads -/

theorem glu_eq (t : Fin cfg0.N) {r l : ℕ} (hr : r < 256) (hl : l < 512) : glu (X0_0 m c t) (X0_1 m c t) r l = gated (Z m c) (t.val * 256 + r) l := by
  have := lt32 t
  unfold glu gated
  rw [at2_of (A := 256) (B := 512) (X0_0 m c t) hr hl, at2_of (A := 256) (B := 512) (X0_1 m c t) hr hl, at2_of (Z m c) (by omega) (by omega), at2_of (Z m c) (by omega) (by omega)]
  exact congrArg₂ (fun x y : EReal => x * Cert.FfnMath.logi y) (x0 m c t ⟨r, hr⟩ ⟨l, hl⟩) (x1 m c t ⟨r, hr⟩ ⟨l, hl⟩)

theorem win_first (t : Fin cfg0.N) (h : t.val = 0) {r l : ℕ} (hr : r < 288) (hl : l < 512) :
    win (fun _ _ => 0) (glu (X0_0 m c t) (X0_1 m c t)) r l = padded (Z m c) (t.val * 256 + r) l := by
  unfold win padded
  by_cases g : r < 32
  · rw [if_pos g, if_pos (by omega)]
  · rw [if_neg g, if_neg (by omega), glu_eq m c t (by omega) hl, show t.val * 256 + (r - 32) = t.val * 256 + r - 32 by omega]

theorem win_next (t : Fin cfg0.N) (h : 1 ≤ t.val) (xs : Vec Ideal S288x512 .f32)
    (hx : ∀ (r : Fin 288) (l : Fin 512), xs (ix2 r l) = padded (Z m c) ((t.val - 1) * 256 + r.val) l.val) {r l : ℕ} (hr : r < 288) (hl : l < 512) :
    win (halo xs) (glu (X0_0 m c t) (X0_1 m c t)) r l = padded (Z m c) (t.val * 256 + r) l := by
  unfold win
  by_cases g : r < 32
  · rw [if_pos g]
    unfold halo
    rw [at2_of (A := 288) (B := 512) xs (by omega) hl, hx]
    exact congrArg (fun k => padded (Z m c) k l) (show (t.val - 1) * 256 + (r + 256) = t.val * 256 + r by omega)
  · rw [if_neg g, glu_eq m c t (by omega) hl]
    unfold padded
    rw [if_neg (by omega), show t.val * 256 + (r - 32) = t.val * 256 + r - 32 by omega]

theorem taps (t : Fin cfg0.N) {n l : ℕ} (hn : n < 31) (hl : l < 512) : at2 (A := 32) (B := 512) (iblk m c 2 t) n l = at2 (T m c) n l := by
  rw [at2_of _ (by omega) hl, at2_of _ hn hl]
  exact blk2 m c t ⟨n, by omega⟩ ⟨l, hl⟩ hn
theorem bias (t : Fin cfg0.N) {l : ℕ} (hl : l < 512) : at2 (A := 1) (B := 512) (iblk m c 3 t) 0 l = at1 (B m c) l := by
  rw [at2_of _ (by omega) hl, at1_of _ hl]
  exact blk3 m c t ⟨l, hl⟩

/-- The sums of a block are those of its rows of the whole. -/
theorem sums_of (t : Fin cfg0.N) {W : ℕ → ℕ → EReal} (hW : ∀ {r l : ℕ}, r < 288 → l < 512 → W r l = padded (Z m c) (t.val * 256 + r) l) {r l : ℕ} (hr : r < 256) (hl : l < 512) :
    conv (at2 (A := 1) (B := 512) (iblk m c 3 t) 0) (at2 (A := 32) (B := 512) (iblk m c 2 t)) W 0 0 r l 31 = sums (Z m c) (T m c) (B m c) (t.val * 256 + r) l :=
  conv_congr (bias m c t hl) (fun n hn => taps m c t hn hl) (fun n hn => (hW (by omega) hl).trans (by rw [Nat.add_assoc]))

/-- The window carried from a block to the next. -/
theorem carried : ∀ (n : ℕ) (hn : n < cfg0.N) (r : Fin 288) (l : Fin 512), (outsAt0 m c n hn).2.2 (ix2 r l) = padded (Z m c) (n * 256 + r.val) l.val := by
  intro n
  induction n with
  | zero =>
    intro hn r l
    refine (congrArg (fun p => p.2.2 (ix2 r l)) (outsAt0_A m c ⟨0, hn⟩ rfl (by show ¬1 ≤ 0; omega))).trans ?_
    dsimp only
    rw [window_A]
    exact win_first m c ⟨0, hn⟩ rfl r.isLt l.isLt
  | succ n ih =>
    intro hn r l
    have : n + 1 < 32 := lt32 ⟨n + 1, hn⟩
    refine (congrArg (fun p => p.2.2 (ix2 r l)) (outsAt0_B m c ⟨n + 1, hn⟩ (by show ¬(n + 1) % 32 = 0; omega) (by show 1 ≤ n + 1; omega))).trans ?_
    dsimp only
    rw [window_B]
    exact win_next m c ⟨n + 1, hn⟩ (by show 1 ≤ n + 1; omega) _ (ih _) r.isLt l.isLt

theorem block6 (t : Fin cfg0.N) (r : Fin 256) (l : Fin 512) : (outsAt0 m c t.val t.isLt).1 (ix2 r l) = sums (Z m c) (T m c) (B m c) (t.val * 256 + r.val) l.val := by
  have := lt32 t
  by_cases h : t.val = 0
  · refine (congrArg (fun p => p.1 (ix2 r l)) (outsAt0_A m c t (by omega) (by omega))).trans ?_
    dsimp only
    rw [sums_A]
    exact sums_of m c t (win_first m c t h) r.isLt l.isLt
  · refine (congrArg (fun p => p.1 (ix2 r l)) (outsAt0_B m c t (by omega) (by omega))).trans ?_
    dsimp only
    rw [sums_B]
    exact sums_of m c t (win_next m c t (by omega) _ (carried m c _ _)) r.isLt l.isLt

theorem block7 (t : Fin cfg0.N) (r : Fin 256) (l : Fin 512) : (outsAt0 m c t.val t.isLt).2.1 (ix2 r l)
    = act (fun k => sums (Z m c) (T m c) (B m c) (t.val * 256 + r.val) k.val) (fun k => G m c (ix1 k)) (fun k => H m c (ix1 k)) l := by
  have := lt32 t
  have e4 : (fun k => (iblk m c 4 t : Vec Ideal S1x512 .f32) (ix2 0 k)) = fun k => G m c (ix1 k) := funext fun k => blk4 m c t k
  have e5 : (fun k => (iblk m c 5 t : Vec Ideal S1x512 .f32) (ix2 0 k)) = fun k => H m c (ix1 k) := funext fun k => blk5 m c t k
  rw [← e4, ← e5]
  by_cases h : t.val = 0
  · refine (congrArg (fun p => p.2.1 (ix2 r l)) (outsAt0_A m c t (by omega) (by omega))).trans ?_
    dsimp only
    rw [act_A]
    exact congrArg (fun x => act x _ _ l) (funext fun k => sums_of m c t (win_first m c t h) r.isLt k.isLt)
  · refine (congrArg (fun p => p.2.1 (ix2 r l)) (outsAt0_B m c t (by omega) (by omega))).trans ?_
    dsimp only
    rw [act_B]
    exact congrArg (fun x => act x _ _ l) (funext fun k => sums_of m c t (win_next m c t (by omega) _ (carried m c _ _)) r.isLt k.isLt)

/-! ## The result arrays -/

theorem flush6 : ∀ t : Fin cfg0.N, (cfg0.win 6).flush t = true := by decide +kernel
theorem flush7 : ∀ t : Fin cfg0.N, (cfg0.win 7).flush t = true := by decide +kernel
theorem inj6 : ∀ t t' : Fin cfg0.N, win0_6.index t = win0_6.index t' → t = t' := (by decide +kernel : ∀ t t' : Fin grid0.N, _)
theorem inj7 : ∀ t t' : Fin cfg0.N, win0_7.index t = win0_7.index t' → t = t' := (by decide +kernel : ∀ t t' : Fin grid0.N, _)

theorem final6 (r : Fin 8192) (k : Fin 512) : (dats m 0 c).arrAt 6 cfg0.N (ix2 r k) = sums (Z m c) (T m c) (B m c) r.val k.val := by
  have hr : r.val / 256 < cfg0.N := lt_of_lt_of_eq (by omega : r.val / 256 < 32) N_0.symm
  have h := congrFun ((dats m 0 c).read_blk_arrAt_eq_flushed 6 (fun t t' _ _ hne => (cfg0.win 6).disjoint_blk fun e => hne (inj6 t t' e)) cfg0.N ⟨r.val / 256, hr⟩ hr (flush6 _))
    (ix2 (⟨r.val % 256, by omega⟩ : Fin 256) k)
  have f : (dats m 0 c).flushed 6 ⟨r.val / 256, hr⟩ = (cfg0.win 6).cut (grid0.coords ⟨r.val / 256, hr⟩) ((outsAt0 m c (r.val / 256) hr).1) := by
    show (cfg0.win 6).cut (grid0.coords ⟨r.val / 256, hr⟩) ((dats m 0 c).after 6 ⟨r.val / 256, hr⟩) = _
    rw [after0_6]
  rw [f] at h
  blk_simp at h
  have e : (win0_6.blk ⟨r.val / 256, hr⟩).view.emb (ix2 (⟨r.val % 256, by omega⟩ : Fin 256) k) = (ix2 r k : S8192x512.Idx) := by
    blk_ext [(idx ⟨r.val / 256, hr⟩).2.2.2.2.2.2.1]
  rw [e] at h
  refine h.trans ((block6 m c ⟨r.val / 256, hr⟩ ⟨r.val % 256, by omega⟩ k).trans ?_)
  exact congrArg (fun R => sums (Z m c) (T m c) (B m c) R k.val) (show r.val / 256 * 256 + r.val % 256 = r.val by omega)

theorem final7 (r : Fin 8192) (k : Fin 512) : (dats m 0 c).arrAt 7 cfg0.N (ix2 r (⟨k.val, by omega⟩ : Fin 1024))
    = act (fun k => sums (Z m c) (T m c) (B m c) r.val k.val) (fun k => G m c (ix1 k)) (fun k => H m c (ix1 k)) k := by
  have hr : r.val / 256 < cfg0.N := lt_of_lt_of_eq (by omega : r.val / 256 < 32) N_0.symm
  have h := congrFun ((dats m 0 c).read_blk_arrAt_eq_flushed 7 (fun t t' _ _ hne => (cfg0.win 7).disjoint_blk fun e => hne (inj7 t t' e)) cfg0.N ⟨r.val / 256, hr⟩ hr (flush7 _))
    (ix2 (⟨r.val % 256, by omega⟩ : Fin 256) k)
  have f : (dats m 0 c).flushed 7 ⟨r.val / 256, hr⟩ = (cfg0.win 7).cut (grid0.coords ⟨r.val / 256, hr⟩) ((outsAt0 m c (r.val / 256) hr).2.1) := by
    show (cfg0.win 7).cut (grid0.coords ⟨r.val / 256, hr⟩) ((dats m 0 c).after 7 ⟨r.val / 256, hr⟩) = _
    rw [after0_7]
  rw [f] at h
  blk_simp at h
  have e : (win0_7.blk ⟨r.val / 256, hr⟩).view.emb (ix2 (⟨r.val % 256, by omega⟩ : Fin 256) k) = (ix2 r (⟨k.val, by omega⟩ : Fin 1024) : S8192x1024.Idx) := by
    blk_ext [(idx ⟨r.val / 256, hr⟩).2.2.2.2.2.2.2]
  rw [e] at h
  refine h.trans ((block7 m c ⟨r.val / 256, hr⟩ ⟨r.val % 256, by omega⟩ k).trans ?_)
  exact congrArg (fun R => act (fun k => sums (Z m c) (T m c) (B m c) R k.val) _ _ k) (show r.val / 256 * 256 + r.val % 256 = r.val by omega)

/-- The host's slice after the kernel keeps the first half of the lanes. -/
theorem sliced (r : Fin 8192) (k : Fin 512) : Pipeline.afterTail₀ cfgs (dats m) 0 (V0 m) [hostOps1] c main_v6 (ix2 r k)
    = act (fun k => sums (Z m c) (T m c) (B m c) r.val k.val) (fun k => G m c (ix1 k)) (fun k => H m c (ix1 k)) k := by
  refine Eq.trans ?_ (final7 m c r k)
  unfold Pipeline.afterTail₀
  simp only [hostOps1, List.flatten_cons, List.flatten_nil, List.append_nil, List.cons_append, List.nil_append]
  after_results_simp
  rw [(dats m 0 c).withArrays_arrAt sharedIn0 (V0 m c) (A_eq m c) 7]
  pointwise

end Cert.ConvAFwdIdeal.Math
end
end
-- ==== Proof.ConvAFwdRef.lean ====
/- The reference: the gated causal convolution of the forward pass, stage by stage. -/
module

public import proofs.«01_k».proof.Proof.Gen.ConvAFwdRefIdeal.Read
public import proofs.«01_k».proof.Proof.ConvAFwdMath
public import Idealize.ShloMosaic.Lib.Pointwise
public import Idealize.ShloMosaic.Lib.Pipeline.ValueKit

set_option maxRecDepth 16384
set_option maxHeartbeats 4000000

@[expose] public section
noncomputable section

open Idealize.ShloMosaic Idealize.ShloMosaic.TcCoe Idealize.SL.Sem
open Cert.ConvAFwdRefIdeal Cert.ConvAFwdRefIdeal.Gen Cert.ConvAFwdRefIdeal.Read Cert.ConvAFwdMath

namespace Cert.ConvAFwdRefIdeal.Math

variable (x0 : (⟨S8192x1792, .f32⟩ : BufTy).Contents (Elt Ideal)) (x1 : (⟨S31x512, .f32⟩ : BufTy).Contents (Elt Ideal))
variable (x2 x3 x4 : (⟨S512, .f32⟩ : BufTy).Contents (Elt Ideal))

/-- The gated values. -/
theorem v8 (r : Fin 8192) (l : Fin 512) : val_main_v8 (F := Ideal) x0 (ix2 r l) = gated x0 r.val l.val := by
  unfold gated
  rw [at2_of (A := 8192) (B := 1792) x0 r.isLt (by omega), at2_of (A := 8192) (B := 1792) x0 r.isLt (by omega)]
  pointwise [val_main_v8, val_main_v7, val_main_v6, val_main_v5, val_main_v4, val_main_v3, val_main_v2, val_main_v1, val_main_v0, val_main_cst, val_main_cst_0]
  rfl
/-- Thirty rows of zeros before them. -/
theorem v10 (n : Fin 8222) (l : Fin 512) : val_main_v10 (F := Ideal) x0 (ix2 n l) = padded x0 (n.val + 2) l.val := by
  have a := v8 x0
  unfold val_main_v10 padded
  generalize val_main_v8 x0 = p at *
  pointwise [val_main_v9, val_main_cst_1]
  split
  · rw [if_pos (by omega)]
  · have h : ¬n.val + 2 < 32 := by omega
    exact (a _ l).trans ((congrArg (fun k => gated x0 k l.val) (show n.val - 30 = n.val + 2 - 32 by omega)).trans (if_neg h).symm)
/-- The sum of the taps. -/
theorem v228 (r : Fin 8192) (l : Fin 512) : val_main_v228 (F := Ideal) x0 x1 (ix2 r l) = conv (fun _ => 0) (at2 x1) (padded x0) 0 0 r.val l.val 31 := by
  have a := v10 x0
  pointwise [val_main_v228, val_main_v227, val_main_v226, val_main_v225, val_main_v224, val_main_v223, val_main_v222, val_main_v221, val_main_v220, val_main_v219, val_main_v218, val_main_v217, val_main_v216, val_main_v215, val_main_v214, val_main_v213, val_main_v212, val_main_v211, val_main_v210, val_main_v209, val_main_v208, val_main_v207, val_main_v206, val_main_v205, val_main_v204, val_main_v203, val_main_v202, val_main_v201, val_main_v200, val_main_v199, val_main_v198, val_main_v197, val_main_v196, val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_cst_2, val_main_v16, val_main_v15, val_main_v14, val_main_v13, val_main_v12, val_main_v11]
  have t : ∀ n : Fin 31, x1 (ix2 n l) = at2 (A := 31) (B := 512) x1 n.val l.val := fun n => (at2_of (A := 31) (B := 512) x1 n.isLt l.isLt).symm
  have b : ∀ n : ℕ, padded x0 (n + r.val + 2) l.val = padded x0 (r.val + (n + 2)) l.val := fun n => congrArg (fun k => padded x0 k l.val) (by omega)
  simp only [a, b, t, conv, zero_add]
  rfl
/-- The first result: the sum of the taps and the bias. -/
theorem v231 (r : Fin 8192) (l : Fin 512) : val_main_v231 (F := Ideal) x0 x1 x2 (ix2 r l) = sums x0 x1 x2 r.val l.val := by
  have a := v228 x0 x1 r l
  unfold sums
  rw [conv_bias, at1_of (A := 512) x2 l.isLt, ← a]
  pointwise [val_main_v231, val_main_v230, val_main_v229]
/-- The first result, normalised and weighted. -/
theorem v257 (r : Fin 8192) (l : Fin 512) : val_main_v257 (F := Ideal) x0 x1 x2 x3 x4 (ix2 r l)
    = act (fun k => sums x0 x1 x2 r.val k.val) (fun k => x3 (ix1 k)) (fun k => x4 (ix1 k)) l := by
  have a := v231 x0 x1 x2 r
  unfold act
  simp only [← a]
  pointwise [val_main_v257, val_main_v256, val_main_call0_v5, val_main_call0_v4, val_main_call0_cst_0, val_main_call0_v3, val_main_call0_v2, val_main_call0_cst, val_main_call0_v1, val_main_call0_v0, val_main_v255, val_main_v254, val_main_v253, val_main_v252, val_main_v251, val_main_v250, val_main_v249, val_main_v248, val_main_v247, val_main_v246, val_main_v245, val_main_cst_7, val_main_v244, val_main_v243, val_main_v242, val_main_v241, val_main_cst_6, val_main_v240, val_main_v239, val_main_cst_5, val_main_v238, val_main_v237, val_main_v236, val_main_v235, val_main_v234, val_main_cst_4, val_main_v233, val_main_v232, val_main_cst_3]
  rfl

end Cert.ConvAFwdRefIdeal.Math
end
end
-- ==== Proof.ConvAFwdClaim.lean ====
/- The claims about the convolution's forward call. -/
module

public import proofs.«01_k».proof.Defs
public import proofs.«01_k».proof.Proof.ConvAFwdValue
public import proofs.«01_k».proof.Proof.ConvAFwdRef
public import proofs.«01_k».proof.Proof.Gen.ConvAFwdRefIdeal.Run
public import Idealize.ShloMosaic.Lib.Quiescent

set_option maxRecDepth 16384

@[expose] public section
noncomputable section

open Idealize.ShloMosaic Idealize.ShloMosaic.TcCoe Idealize.SL.Sem Cert.ConvAFwdMath

namespace Cert.ConvAFwdClaim

/-- The reference runs and leaves its arguments as they were. -/
theorem refFrame : Cert.quiescent_ConvAFwdRefIdeal (hConvAFwdRefIdeal := Cert.ConvAFwdRefIdeal.Gen.facts) :=
  fun m ρ _ => (θ_run Cert.ConvAFwdRefIdeal.defs _ _).mono
    (fun r h => ⟨fun c => (h c).2.2, Idealize.ShloMosaic.sem_eq_zero_of_no_sems (by decide) r.2⟩)
    (Cert.ConvAFwdRefIdeal.Value.run (F := Ideal) m ρ)

section run
open Cert.ConvAFwdIdeal Cert.ConvAFwdIdeal.Gen
variable (m : (ℓ : Loc nD τ sig) → Buf (Elt Ideal) ℓ)

/-- The first result: the convolution of the gated values. -/
def first (c : Dev nD) : Vec Ideal S8192x512 .f32 := fun j => sums (Math.Z m c) (Math.T m c) (Math.B m c) (j 0).val (j 1).val
/-- The second: its normalised and gated rows. -/
def second (c : Dev nD) : Vec Ideal S8192x512 .bf16 := fun j =>
  act (fun k => sums (Math.Z m c) (Math.T m c) (Math.B m c) (j 0).val k.val) (fun k => Math.G m c (ix1 k)) (fun k => Math.H m c (ix1 k)) (j 1)

/-- The run, with the two result arrays named. -/
theorem run (ρ : Dev nD → PrngReg) :
    θ_run defs (onTc (τ := τ) (main (F := Ideal))) ⟨m, fun _ => 0, ρ⟩ fun r => ∀ c : Dev nD,
      r.2.mem ((c : Thread nD τ).loc main_v5_0) = first m c
      ∧ r.2.mem ((c : Thread nD τ).loc main_v6) = second m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ⟨((h.1 c).1 6).trans ?_, ((h.1 c).2 main_v6 (Pipeline.mem_restRefs_of main_v6 (by decide) (by decide))).trans ?_, h.2 c⟩)
    (θ_run_and (run_main m ρ) (unchanged m ρ))
  · funext j
    obtain ⟨i, k, rfl⟩ : ∃ i k, j = ix2 i k := ⟨j 0, j 1, eq_ix2 j⟩
    exact Math.final6 m c i k
  · funext j
    obtain ⟨i, k, rfl⟩ : ∃ i k, j = ix2 i k := ⟨j 0, j 1, eq_ix2 j⟩
    exact Math.sliced m c i k
end run

/-- Kernel and reference end with the same arrays. -/
theorem algebraic : Cert.algebraic_ConvAFwdIdeal_ConvAFwdRefIdeal (hConvAFwdIdeal := Cert.ConvAFwdIdeal.Gen.facts)
    (hConvAFwdRefIdeal := Cert.ConvAFwdRefIdeal.Gen.facts) := by
  intro m g m' g' hpre hagree
  refine ⟨first m, second m, run m g, ?_⟩
  refine (θ_run Cert.ConvAFwdRefIdeal.defs _ _).mono (fun r h c => ⟨(h c).1.trans ?_, (h c).2.1.trans ?_, (h c).2.2⟩) (Cert.ConvAFwdRefIdeal.Value.run (F := Ideal) m' g')
  · rw [Cert.ConvAFwdRefIdeal.Read.val_main_v231_eq]
    show Cert.ConvAFwdRefIdeal.Read.val_main_v231 (F := Ideal) (m' (c.tc.loc Cert.ConvAFwdRefIdeal.main_arg0)) (m' (c.tc.loc Cert.ConvAFwdRefIdeal.main_arg1)) (m' (c.tc.loc Cert.ConvAFwdRefIdeal.main_arg2)) = _
    rw [(hagree c).1, (hagree c).2.1, (hagree c).2.2.1]
    funext j
    obtain ⟨i, k, rfl⟩ : ∃ i k, j = ix2 i k := ⟨j 0, j 1, eq_ix2 j⟩
    exact Cert.ConvAFwdRefIdeal.Math.v231 _ _ _ i k
  · rw [Cert.ConvAFwdRefIdeal.Read.val_main_v257_eq]
    show Cert.ConvAFwdRefIdeal.Read.val_main_v257 (F := Ideal) (m' (c.tc.loc Cert.ConvAFwdRefIdeal.main_arg0)) (m' (c.tc.loc Cert.ConvAFwdRefIdeal.main_arg1)) (m' (c.tc.loc Cert.ConvAFwdRefIdeal.main_arg2)) (m' (c.tc.loc Cert.ConvAFwdRefIdeal.main_arg3)) (m' (c.tc.loc Cert.ConvAFwdRefIdeal.main_arg4)) = _
    rw [(hagree c).1, (hagree c).2.1, (hagree c).2.2.1, (hagree c).2.2.2.1, (hagree c).2.2.2.2]
    funext j
    obtain ⟨i, k, rfl⟩ : ∃ i k, j = ix2 i k := ⟨j 0, j 1, eq_ix2 j⟩
    exact Cert.ConvAFwdRefIdeal.Math.v257 _ _ _ _ _ i k

end Cert.ConvAFwdClaim

end
end
-- ==== Proof.ConvAMath.lean ====
/- The gradients of the convolution's norm: the chain rule's form and the factored one, and the sums they enter. -/
module

public import proofs.«01_k».proof.Proof.ConvAFwdMath
public import proofs.«01_k».proof.Proof.NormMath

@[expose] public section
noncomputable section
open Idealize.ShloMosaic Cert.FfnMath Cert.RealLift
namespace Cert.ConvAMath

/-- A normalised row. -/
def hat (x : Fin 512 → EReal) (l : Fin 512) : EReal :=
  let mu := Ideal.div (∑ k, x k) (Ideal.ofBits .f32 0x44000000#32)
  let v := Ideal.div (∑ k, (x k - mu) * (x k - mu)) (Ideal.ofBits .f32 0x44000000#32)
  (x l - mu) * Ideal.rsqrt (v + Ideal.ofBits .f32 0x3727C5AC#32)
/-- The row with gain and shift. -/
def pre (x g b : Fin 512 → EReal) (l : Fin 512) : EReal := hat x l * g l + b l
/-- The cotangent `d` through the gate `y * logi y`. -/
def gate (d y : EReal) : EReal := d * (logi y * (1 + y * (1 - logi y)))

theorem logi_top : logi ⊤ = 1 := by
  show Ideal.div 1 (1 + 0) = 1
  rw [add_zero, ← EReal.coe_one, div_coe _ _ one_ne_zero, div_one]
theorem logi_bot : logi ⊥ = 0 := by
  show Ideal.div 1 (1 + ⊤) = 0
  rw [← EReal.coe_one, EReal.coe_add_top]
  simp [Ideal.div]

/-- The chain rule's sum is the factored form, for a real cotangent and any argument of the gate. -/
theorem gate_eq (d : ℝ) (y : EReal) : (d : EReal) * logi y + y * d * (logi y * (1 - logi y)) = gate d y := by
  unfold gate
  induction y with
  | bot => rw [logi_bot, mul_zero, zero_mul, zero_mul, mul_zero, mul_zero, add_zero]
  | top =>
    have z : (1 : EReal) - 1 = 0 := by rw [← EReal.coe_one, ← EReal.coe_sub, sub_self, EReal.coe_zero]
    rw [logi_top, z, mul_zero, mul_zero, mul_zero, add_zero, add_zero, mul_one, mul_one, mul_one]
  | coe t =>
    rw [logi_coe]
    generalize (1 / (1 + Real.exp (-t)) : ℝ) = s
    rw [← EReal.coe_one, ← EReal.coe_sub, ← EReal.coe_mul, ← EReal.coe_mul, ← EReal.coe_mul, ← EReal.coe_mul, ← EReal.coe_mul, ← EReal.coe_add,
      ← EReal.coe_add, ← EReal.coe_mul, ← EReal.coe_mul]
    congr 1
    ring

/-- For a real cotangent it is real. -/
theorem gate_real (d : ℝ) (y : EReal) : ∃ t : ℝ, gate d y = (t : EReal) := by
  unfold gate
  induction y with
  | bot => exact ⟨0, by rw [logi_bot, zero_mul, mul_zero, EReal.coe_zero]⟩
  | top =>
    refine ⟨d, ?_⟩
    rw [logi_top, show (1 : EReal) - 1 = 0 by rw [← EReal.coe_one, ← EReal.coe_sub, sub_self, EReal.coe_zero], mul_zero, add_zero, mul_one, mul_one]
  | coe t =>
    rw [logi_coe, ← EReal.coe_one, ← EReal.coe_sub, ← EReal.coe_mul, ← EReal.coe_add, ← EReal.coe_mul, ← EReal.coe_mul]
    exact ⟨_, rfl⟩

/-! ## The gradient of a row -/

/-- A row less its mean. -/
def cen (x : Fin 512 → EReal) (l : Fin 512) : EReal := x l - Ideal.div (∑ k, x k) (Ideal.ofBits .f32 0x44000000#32)
/-- What stands under the root. -/
def under (x : Fin 512 → EReal) : EReal := Ideal.div (∑ k, cen x k * cen x k) (Ideal.ofBits .f32 0x44000000#32) + Ideal.ofBits .f32 0x3727C5AC#32
/-- The reciprocal root. -/
def root (x : Fin 512 → EReal) : EReal := Ideal.rsqrt (under x)
theorem hat_eq (x : Fin 512 → EReal) (l : Fin 512) : hat x l = cen x l * root x := rfl

/-- The gradient of a row, `w` the cotangent of the normalised row: less its mean and its part along the normalised row. -/
def dcol (x w : Fin 512 → EReal) (l : Fin 512) : EReal :=
  root x * (w l - Ideal.div (∑ k, w k) (Ideal.ofBits .f32 0x44000000#32) - hat x l * Ideal.div (∑ k, w k * hat x k) (Ideal.ofBits .f32 0x44000000#32))

/-- The chain rule's factor of the squares. -/
def fac (x w : Fin 512 → EReal) : EReal :=
  Ideal.div ((∑ k, cen x k * w k) * (Ideal.ofBits .f32 0xBF000000#32 * Ideal.div (root x) (under x))) (Ideal.ofBits .f32 0x44000000#32)
/-- Its term for one entry's square. -/
def sqr (x w : Fin 512 → EReal) (l : Fin 512) : EReal := fac x w * (Ideal.ofBits .f32 0x40000000#32 * cen x l)
/-- The chain rule through root, squares and mean. -/
def chain (x w : Fin 512 → EReal) (l : Fin 512) : EReal :=
  w l * root x + sqr x w l + Ideal.div (∑ k, -(w k * root x) + ∑ k, -sqr x w k) (Ideal.ofBits .f32 0x44000000#32)

theorem ofBits_512 : Ideal.ofBits .f32 0x44000000#32 = ((512 : ℝ) : EReal) := by
  simp [Ideal.ofBits, Ideal.ieee, -EReal.coe_mul]; try norm_num
theorem ofBits_two : Ideal.ofBits .f32 0x40000000#32 = ((2 : ℝ) : EReal) := by
  simp [Ideal.ofBits, Ideal.ieee, -EReal.coe_mul]; try norm_num
theorem ofBits_eps : ∃ e : ℝ, 0 < e ∧ Ideal.ofBits .f32 0x3727C5AC#32 = (e : EReal) := by
  refine ⟨_, ?_, by simp [Ideal.ofBits, Ideal.ieee, -EReal.coe_mul]; rfl⟩
  norm_num
theorem div_512 (a : ℝ) : Ideal.div (a : EReal) ((512 : ℝ) : EReal) = ((a / 512 : ℝ) : EReal) := div_coe a 512 (by norm_num)

/-- An infinite number stays infinite whatever is taken from it. -/
theorem sub_inf {a : EReal} (b : EReal) (h : a = ⊤ ∨ a = ⊥) : a - b = ⊤ ∨ a - b = ⊥ := by
  rcases h with rfl | rfl <;> induction b <;> simp

/-- The two forms over the real numbers. -/
theorem chain_real (c w : Fin 512 → ℝ) (r : ℝ) (h : ∑ k, c k = 0) (l : Fin 512) :
    w l * r + (∑ k, c k * w k) * (-(1 / 2) * (r * r * r)) / 512 * (2 * c l)
      + (∑ k, -(w k * r) + ∑ k, -((∑ k, c k * w k) * (-(1 / 2) * (r * r * r)) / 512 * (2 * c k))) / 512
      = r * (w l - (∑ k, w k) / 512 - c l * r * ((∑ k, w k * (c k * r)) / 512)) := by
  have a : ∑ k, w k * (c k * r) = (∑ k, c k * w k) * r := by
    rw [Finset.sum_mul]; exact Finset.sum_congr rfl fun k _ => by ring
  have b : ∑ k, -(w k * r) = -((∑ k, w k) * r) := by rw [Finset.sum_neg_distrib, Finset.sum_mul]
  rw [a, b]
  generalize ∑ k, c k * w k = S
  have e : ∑ k, -(S * (-(1 / 2) * (r * r * r)) / 512 * (2 * c k)) = 0 := by
    rw [Finset.sum_neg_distrib, ← Finset.mul_sum, ← Finset.mul_sum, h, mul_zero, mul_zero, neg_zero]
  rw [e]
  ring

/-- The chain rule gives the kernel's row, for any row and a real cotangent. -/
theorem chain_eq (x : Fin 512 → EReal) (w : Fin 512 → ℝ) (l : Fin 512) : chain x (fun k => (w k : EReal)) l = dcol x (fun k => (w k : EReal)) l := by
  obtain ⟨e, he, hb⟩ := ofBits_eps
  unfold chain dcol sqr fac
  simp only [hat_eq]
  by_cases hx : ∀ k, ∃ r : ℝ, x k = (r : EReal)
  · choose y hy using hx
    have hc : ∀ k, cen x k = ((y k - (∑ k, y k) / 512 : ℝ) : EReal) := fun k => by
      unfold cen
      simp only [hy]
      rw [ofBits_512, coe_sum, div_512, ← EReal.coe_sub]
    have h0 : ∑ k, (y k - (∑ k, y k) / 512) = 0 := by
      rw [Finset.sum_sub_distrib, Finset.sum_const, Finset.card_univ, Fintype.card_fin, nsmul_eq_mul]
      push_cast
      ring
    generalize hcc : (fun k => y k - (∑ k, y k) / 512) = c at *
    have hc' : ∀ k, cen x k = (c k : EReal) := fun k => by rw [hc, ← hcc]
    have h0' : ∑ k, c k = 0 := h0
    clear hc h0 hcc
    have hu : under x = (((∑ k, c k * c k) / 512 + e : ℝ) : EReal) := by
      unfold under
      simp only [hc', ← EReal.coe_mul]
      rw [coe_sum, ofBits_512, div_512, hb, ← EReal.coe_add]
    have hv : 0 < (∑ k, c k * c k) / 512 + e :=
      add_pos_of_nonneg_of_pos (div_nonneg (Finset.sum_nonneg fun k _ => mul_self_nonneg (c k)) (by norm_num)) he
    generalize (∑ k, c k * c k) / 512 + e = v at hu hv
    have hr : root x = (((Real.sqrt v)⁻¹ : ℝ) : EReal) := by unfold root; rw [hu, rsqrt_coe v hv]
    have hs : Real.sqrt v ≠ 0 := (Real.sqrt_pos.mpr hv).ne'
    have hsv : (Real.sqrt v)⁻¹ / v = (Real.sqrt v)⁻¹ * (Real.sqrt v)⁻¹ * (Real.sqrt v)⁻¹ := by
      have : v = Real.sqrt v * Real.sqrt v := (Real.mul_self_sqrt hv.le).symm
      rw [this]; simp only [Real.sqrt_mul_self (Real.sqrt_nonneg _)]; field_simp
    rw [hr, hu, div_coe _ _ hv.ne', hsv]
    generalize (Real.sqrt v)⁻¹ = r
    simp only [hc', ofBits_512, ofBits_two, Cert.NormMath.ofBits_mhalf, ← EReal.coe_mul, ← EReal.coe_neg, ← EReal.coe_sub, ← EReal.coe_add, coe_sum, div_512]
    exact congrArg _ (chain_real c w r h0' l)
  · obtain ⟨k, hk⟩ := not_forall.mp hx
    have hk' : x k = ⊤ ∨ x k = ⊥ := by
      induction h : x k with
      | bot => exact .inr rfl
      | coe r => exact absurd ⟨r, h⟩ hk
      | top => exact .inl rfl
    have hu : under x = ⊤ := by
      unfold under
      rw [Cert.NormMath.sum_sq_top (cen x) k (sub_inf _ hk'), hb, ofBits_512, Ideal.div_coe (by norm_num), EReal.top_mul_coe_of_pos (by norm_num), EReal.top_add_coe]
    have hr : root x = 0 := by unfold root; rw [hu]; rfl
    have hz : Ideal.div 0 ((512 : ℝ) : EReal) = 0 := by rw [← EReal.coe_zero, div_512, zero_div]
    rw [hr, hu, Ideal.zero_div (by simp), ofBits_512]
    simp [hz]

/-- A lane of the convolution among the columns of the joined cotangent. -/
abbrev lane (k : Fin 512) : Fin 1024 := ⟨k.val, k.isLt.trans (by decide)⟩

/-- What row `r` adds to lane `k` of the bias's gradient (`i = 32`), the gain's (`i = 33`) or the shift's. -/
def term (C : Fin 8192 → Fin 512 → EReal) (g b : Fin 512 → EReal) (d : Fin 8192 → Fin 512 → EReal) (i : ℕ) (k : Fin 512) (r : Fin 8192) : EReal :=
  if i = 32 then dcol (C r) (fun l => gate (d r l) (pre (C r) g b l) * g l) k
  else if i = 33 then gate (d r k) (pre (C r) g b k) * hat (C r) k else gate (d r k) (pre (C r) g b k)

end Cert.ConvAMath
end
end
-- ==== Proof.ConvARef.lean ====
/- The reference: the gradients of the convolution's bias and of the gain and shift of its norm, stage by stage. -/
module

public import proofs.«01_k».proof.Proof.Gen.ConvARefIdeal.Read
public import proofs.«01_k».proof.Proof.ConvAMath
public import Idealize.ShloMosaic.Lib.Pointwise
public import Idealize.ShloMosaic.Lib.Pipeline.ValueKit

set_option maxRecDepth 16384
set_option maxHeartbeats 4000000

@[expose] public section
noncomputable section

open Idealize.ShloMosaic Idealize.ShloMosaic.TcCoe Idealize.SL.Sem
open Cert.ConvARefIdeal Cert.ConvARefIdeal.Gen Cert.ConvARefIdeal.Read Cert.ConvAFwdMath Cert.ConvAMath

namespace Cert.ConvARefIdeal.Math

variable (x0 : (⟨S8192x1792, .f32⟩ : BufTy).Contents (Elt Ideal)) (x1 : (⟨S31x512, .f32⟩ : BufTy).Contents (Elt Ideal))
variable (x2 x3 x4 : (⟨S512, .f32⟩ : BufTy).Contents (Elt Ideal))

/-- The gated values. -/
theorem v8 (r : Fin 8192) (l : Fin 512) : val_main_v8 (F := Ideal) x0 (ix2 r l) = gated x0 r.val l.val := by
  unfold gated
  rw [at2_of (A := 8192) (B := 1792) x0 r.isLt (by omega), at2_of (A := 8192) (B := 1792) x0 r.isLt (by omega)]
  pointwise [val_main_v8, val_main_v7, val_main_v6, val_main_v5, val_main_v4, val_main_v3, val_main_v2, val_main_v1, val_main_v0, val_main_cst, val_main_cst_0]
  rfl
/-- Thirty rows of zeros before them. -/
theorem v10 (n : Fin 8222) (l : Fin 512) : val_main_v10 (F := Ideal) x0 (ix2 n l) = padded x0 (n.val + 2) l.val := by
  have a := v8 x0
  unfold val_main_v10 padded
  generalize val_main_v8 x0 = p at *
  pointwise [val_main_v9, val_main_cst_1]
  split
  · rw [if_pos (by omega)]
  · have h : ¬n.val + 2 < 32 := by omega
    exact (a _ l).trans ((congrArg (fun k => gated x0 k l.val) (show n.val - 30 = n.val + 2 - 32 by omega)).trans (if_neg h).symm)
/-- The sum of the taps. -/
theorem v228 (r : Fin 8192) (l : Fin 512) : val_main_v228 (F := Ideal) x0 x1 (ix2 r l) = conv (fun _ => 0) (at2 x1) (padded x0) 0 0 r.val l.val 31 := by
  have a := v10 x0
  pointwise [val_main_v228, val_main_v227, val_main_v226, val_main_v225, val_main_v224, val_main_v223, val_main_v222, val_main_v221, val_main_v220, val_main_v219, val_main_v218, val_main_v217, val_main_v216, val_main_v215, val_main_v214, val_main_v213, val_main_v212, val_main_v211, val_main_v210, val_main_v209, val_main_v208, val_main_v207, val_main_v206, val_main_v205, val_main_v204, val_main_v203, val_main_v202, val_main_v201, val_main_v200, val_main_v199, val_main_v198, val_main_v197, val_main_v196, val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_cst_2, val_main_v16, val_main_v15, val_main_v14, val_main_v13, val_main_v12, val_main_v11]
  have t : ∀ n : Fin 31, x1 (ix2 n l) = at2 (A := 31) (B := 512) x1 n.val l.val := fun n => (at2_of (A := 31) (B := 512) x1 n.isLt l.isLt).symm
  have b : ∀ n : ℕ, padded x0 (n + r.val + 2) l.val = padded x0 (r.val + (n + 2)) l.val := fun n => congrArg (fun k => padded x0 k l.val) (by omega)
  simp only [a, b, t, conv, zero_add]
  rfl
/-- The sum of the taps and the bias. -/
theorem v231 (r : Fin 8192) (l : Fin 512) : val_main_v231 (F := Ideal) x0 x1 x2 (ix2 r l) = sums x0 x1 x2 r.val l.val := by
  have a := v228 x0 x1 r l
  unfold sums
  rw [conv_bias, at1_of (A := 512) x2 l.isLt, ← a]
  pointwise [val_main_v231, val_main_v230, val_main_v229]
variable (x5 : (⟨S8192x1024, .f32⟩ : BufTy).Contents (Elt Ideal))

/-- Its rows less their means, for the squares and for the quotient. -/
theorem v237 (r : Fin 8192) (l : Fin 512) : val_main_v237 (F := Ideal) x0 x1 x2 (ix2 r l) = cen (fun k => sums x0 x1 x2 r.val k.val) l := by
  have a := v231 x0 x1 x2 r
  unfold cen
  simp only [← a]
  pointwise [val_main_v237, val_main_v236, val_main_v235, val_main_v234, val_main_cst_4, val_main_v233, val_main_v232, val_main_cst_3]
theorem v246 (r : Fin 8192) (l : Fin 512) : val_main_v246 (F := Ideal) x0 x1 x2 (ix2 r l) = cen (fun k => sums x0 x1 x2 r.val k.val) l := by
  have a := v231 x0 x1 x2 r
  unfold cen
  simp only [← a]
  pointwise [val_main_v246, val_main_v245, val_main_v235, val_main_v234, val_main_cst_4, val_main_v233, val_main_v232, val_main_cst_3]
/-- What stands under the root, and the root. -/
theorem v248 (r : Fin 8192) : val_main_v248 (F := Ideal) x0 x1 x2 (ix2 r 0) = under (fun k => sums x0 x1 x2 r.val k.val) := by
  have a := v237 x0 x1 x2 r
  unfold under
  simp only [← a]
  pointwise [val_main_v248, val_main_v247, val_main_cst_8, val_main_v244, val_main_v243, val_main_cst_7, val_main_v242, val_main_v241, val_main_cst_6, val_main_v238]
theorem v249 (r : Fin 8192) : val_main_v249 (F := Ideal) x0 x1 x2 (ix2 r 0) = root (fun k => sums x0 x1 x2 r.val k.val) := by
  unfold root
  rw [← v248]
  pointwise [val_main_v249]
/-- Its normalised rows. -/
theorem v254 (r : Fin 8192) (l : Fin 512) : val_main_v254 (F := Ideal) x0 x1 x2 (ix2 r l) = hat (fun k => sums x0 x1 x2 r.val k.val) l := by
  rw [hat_eq, ← v246, ← v249]
  pointwise [val_main_v254, val_main_v253]
/-- The gate's argument. -/
theorem v260 (r : Fin 8192) (l : Fin 512) : val_main_v260 (F := Ideal) x0 x1 x2 x3 x4 (ix2 r l)
    = pre (fun k => sums x0 x1 x2 r.val k.val) (fun k => x3 (ix1 k)) (fun k => x4 (ix1 k)) l := by
  have a := v254 x0 x1 x2 r l
  unfold pre
  rw [← a]
  pointwise [val_main_v260, val_main_v259, val_main_v258, val_main_v257, val_main_v256, val_main_v255]
/-- The gate's logistic. -/
theorem v261_2 (r : Fin 8192) (l : Fin 512) : val_main_v261_2 (F := Ideal) x0 x1 x2 x3 x4 (ix2 r l)
    = Cert.FfnMath.logi (val_main_v260 (F := Ideal) x0 x1 x2 x3 x4 (ix2 r l)) := by
  unfold Cert.FfnMath.logi
  pointwise [val_main_v261_2, val_main_call0_v4, val_main_call0_cst_0, val_main_call0_v3, val_main_call0_v2, val_main_call0_cst, val_main_call0_v1, val_main_call0_v0]
  try rfl

section
variable (hd : ∀ (r : Fin 8192) (k : Fin 512), ∃ y : ℝ, x5 (ix2 r (lane k)) = (y : EReal))
include hd

/-- The cotangent through the gate. -/
theorem v263 (r : Fin 8192) (l : Fin 512) :
    val_main_v263 (F := Ideal) x0 x1 x2 x3 x4 x5 (ix2 r l)
      = gate (x5 (ix2 r (lane l))) (pre (fun k => sums x0 x1 x2 r.val k.val) (fun k => x3 (ix1 k)) (fun k => x4 (ix1 k)) l) := by
  obtain ⟨d, hd⟩ := hd r l
  have a := v261_2 x0 x1 x2 x3 x4 r l
  have b := v260 x0 x1 x2 x3 x4 r l
  rw [b] at a
  rw [hd, ← gate_eq, ← a, ← b, ← hd]
  pointwise [val_main_v263, val_main_call1_v2, val_main_call1_v1, val_main_call1_v0, val_main_v262, val_main_v261_1, val_main_call0_v7, val_main_call0_v6, val_main_call0_cst_1]
  try rfl
/-- The cotangent of the normalised rows. -/
theorem v271 (r : Fin 8192) (l : Fin 512) :
    val_main_v271 (F := Ideal) x0 x1 x2 x3 x4 x5 (ix2 r l)
      = gate (x5 (ix2 r (lane l))) (pre (fun k => sums x0 x1 x2 r.val k.val) (fun k => x3 (ix1 k)) (fun k => x4 (ix1 k)) l) * x3 (ix1 l) := by
  rw [← v263 x0 x1 x2 x3 x4 x5 hd]
  pointwise [val_main_v271, val_main_v270, val_main_v255]
end

/-- The gradient of the sums' rows, in terms of the cotangent of the normalised rows. -/
theorem v283 (r : Fin 8192) : val_main_v283 (F := Ideal) x0 x1 x2 x3 x4 x5 (ix2 r 0)
    = fac (fun k => sums x0 x1 x2 r.val k.val) (fun k => val_main_v271 (F := Ideal) x0 x1 x2 x3 x4 x5 (ix2 r k)) := by
  unfold fac
  simp only [← v246, ← v248, ← v249]
  pointwise [val_main_v283, val_main_v282, val_main_cst_16, val_main_v278, val_main_v252, val_main_v251, val_main_cst_9, val_main_v250, val_main_v275, val_main_v274, val_main_cst_14, val_main_v273]
theorem v286 (r : Fin 8192) (l : Fin 512) : val_main_v286 (F := Ideal) x0 x1 x2 x3 x4 x5 (ix2 r l)
    = sqr (fun k => sums x0 x1 x2 r.val k.val) (fun k => val_main_v271 (F := Ideal) x0 x1 x2 x3 x4 x5 (ix2 r k)) l := by
  unfold sqr
  rw [← v283, ← v237]
  pointwise [val_main_v286, val_main_v285, val_main_v284, val_main_cst_17, val_main_v240, val_main_v239, val_main_cst_5]
  simp only [Fin.sum_univ_one]
  try rfl
theorem v277 (r : Fin 8192) (l : Fin 512) : val_main_v277 (F := Ideal) x0 x1 x2 x3 x4 x5 (ix2 r l)
    = val_main_v271 (F := Ideal) x0 x1 x2 x3 x4 x5 (ix2 r l) * root (fun k => sums x0 x1 x2 r.val k.val) := by
  rw [← v249]
  pointwise [val_main_v277, val_main_v276]
theorem v296 (r : Fin 8192) (l : Fin 512) : val_main_v296 (F := Ideal) x0 x1 x2 x3 x4 x5 (ix2 r l)
    = chain (fun k => sums x0 x1 x2 r.val k.val) (fun k => val_main_v271 (F := Ideal) x0 x1 x2 x3 x4 x5 (ix2 r k)) l := by
  have a := v286 x0 x1 x2 x3 x4 x5 r
  have b := v277 x0 x1 x2 x3 x4 x5 r
  unfold chain
  simp only [← a, ← b]
  pointwise [val_main_v296, val_main_v295, val_main_v294, val_main_cst_20, val_main_v293, val_main_v292, val_main_cst_19, val_main_v291, val_main_v289, val_main_v288, val_main_cst_18, val_main_v287, val_main_v281, val_main_v280, val_main_cst_15, val_main_v279, val_main_v290]
  simp only [Fin.sum_univ_one]
  try rfl

/-- The result: the bias's gradient, the gain's, the shift's. -/
theorem v303 (hd : ∀ (r : Fin 8192) (k : Fin 512), ∃ y : ℝ, x5 (ix2 r (lane k)) = (y : EReal)) (hg : ∀ k : Fin 512, ∃ y : ℝ, x3 (ix1 k) = (y : EReal))
    (i : Fin 3) (k : Fin 512) :
    val_main_v303 (F := Ideal) x0 x1 x2 x3 x4 x5 (ix2 i k)
      = ∑ r, term (fun r k => sums x0 x1 x2 r.val k.val) (fun k => x3 (ix1 k)) (fun k => x4 (ix1 k)) (fun r k => x5 (ix2 r (lane k))) (32 + i.val) k r := by
  have a := fun r => v263 x0 x1 x2 x3 x4 x5 hd r k
  have b := fun r => v254 x0 x1 x2 r k
  have e : ∀ r : Fin 8192, dcol (fun l => sums x0 x1 x2 r.val l.val) (fun l => gate (x5 (ix2 r (lane l)))
      (pre (fun k => sums x0 x1 x2 r.val k.val) (fun k => x3 (ix1 k)) (fun k => x4 (ix1 k)) l) * x3 (ix1 l)) k = val_main_v296 (F := Ideal) x0 x1 x2 x3 x4 x5 (ix2 r k) := fun r => by
    have w : ∀ l, ∃ y : ℝ, val_main_v271 (F := Ideal) x0 x1 x2 x3 x4 x5 (ix2 r l) = (y : EReal) := fun l => by
      obtain ⟨d, hd'⟩ := hd r l
      obtain ⟨s, hs⟩ := hg l
      obtain ⟨t, ht⟩ := gate_real d (pre (fun k => sums x0 x1 x2 r.val k.val) (fun k => x3 (ix1 k)) (fun k => x4 (ix1 k)) l)
      rw [v271 x0 x1 x2 x3 x4 x5 hd, hd', ht, hs, ← EReal.coe_mul]
      exact ⟨_, rfl⟩
    choose w hw using w
    rw [v296, funext hw, chain_eq, ← funext hw]
    exact congrArg (dcol _ · k) (funext fun l => (v271 x0 x1 x2 x3 x4 x5 hd r l).symm)
  unfold term
  simp only [← a, ← b, e]
  clear a b e
  pointwise [val_main_v303, val_main_v302, val_main_v301, val_main_v300, val_main_v299, val_main_cst_22, val_main_v298, val_main_v297, val_main_cst_21, val_main_v272, val_main_cst_13, val_main_v269, val_main_v268, val_main_cst_12, val_main_v267, val_main_v266, val_main_cst_11, val_main_v265, val_main_v264, val_main_cst_10]
  simp only [Fin.sum_univ_one]
  rcases (by omega : i.val = 0 ∨ i.val = 1 ∨ i.val = 2) with e | e | e <;> simp only [e]
  · rfl
  · rw [dif_neg (by decide), dif_pos (by decide)]
    refine Finset.sum_congr rfl fun r _ => ?_
    rw [if_neg (by decide), if_pos trivial, mul_comm]
  · rfl

end Cert.ConvARefIdeal.Math
end
end
-- ==== Proof.ConvAHost.lean ====
/- The arrays the convolution's gradient call takes, and its blocks, entry by entry. -/
module

public import proofs.«01_k».proof.Proof.Gen.ConvAIdeal.Frame.Runs
public import proofs.«01_k».proof.Proof.ConvARef
public import Idealize.ShloMosaic.Lib.Pointwise
public import Idealize.ShloMosaic.Lib.Pipeline.ValueKit
public import Idealize.ShloMosaic.Lib.Pipeline.Value
public import Idealize.ShloMosaic.Lib.StableHlo.ReadAt
public import Idealize.ShloMosaic.Lib.Claim

set_option maxRecDepth 16384
set_option maxHeartbeats 4000000
@[expose] public section
noncomputable section
open Idealize.ShloMosaic Idealize.ShloMosaic.TcCoe Idealize.SL.Sem
open Cert.ConvAIdeal Cert.ConvAIdeal.Gen Cert.ConvAFwdMath Cert.ConvAMath
namespace Cert.ConvAIdeal.Math

/-! ## What the body computes from its blocks -/

section
variable (v6 : Vec Ideal S256x512 .f32) (v8 v28 u : Vec Ideal S1x512 .f32) (x y s : FVec Ideal S256x512 .f32) (d : Vec Ideal S256x512 .bf16) (r : Fin 256) (k : Fin 512)

theorem pay43 : k0_pay43 v6 (ix2 r k) = hat (fun l => v6 (ix2 r l)) k := by
  unfold hat
  pointwise [k0_pay43, k0_pay42, k0_pay41]
theorem pay41 : k0_pay41 v6 (ix2 r k) = cen (fun l => v6 (ix2 r l)) k := by
  unfold cen
  pointwise [k0_pay41]
theorem pay42 : k0_pay42 v6 (ix2 r 0) = root (fun l => v6 (ix2 r l)) := by
  have a := pay41 v6 r
  unfold root under
  simp only [← a]
  pointwise [k0_pay42]
theorem pay44 : k0_pay44 v6 v8 v28 (ix2 r k) = pre (fun l => v6 (ix2 r l)) (fun l => v8 (ix2 0 l)) (fun l => v28 (ix2 0 l)) k := by
  unfold pre
  rw [← pay43]
  pointwise [k0_pay44, k0_pay40]
theorem pay45 : k0_pay45 v6 v8 v28 (ix2 r k) = Cert.FfnMath.logi (k0_pay44 v6 v8 v28 (ix2 r k)) := by
  unfold Cert.FfnMath.logi
  pointwise [k0_pay45]
  try rw [zero_sub]
theorem pay46 : k0_pay46 y s d (ix2 r k) = d (ix2 r k) * (s (ix2 r k) * (1 + y (ix2 r k) * (1 - s (ix2 r k)))) := by
  pointwise [k0_pay46]
theorem pay47 : k0_pay47 x y s d u (ix2 0 k) = u (ix2 0 k) + ∑ r : Fin 256, k0_pay46 y s d (ix2 r k) * x (ix2 r k) := by
  pointwise [k0_pay47]
theorem pay48 : k0_pay48 y s d u (ix2 0 k) = u (ix2 0 k) + ∑ r : Fin 256, k0_pay46 y s d (ix2 r k) := by
  pointwise [k0_pay48]
theorem pay49 (w : FVec Ideal S1x512 .f32) : k0_pay49 w x y s d (ix2 r k)
    = k0_pay46 y s d (ix2 r k) * w (ix2 0 k) - Ideal.div (∑ l : Fin 512, k0_pay46 y s d (ix2 r l) * w (ix2 0 l)) (Ideal.ofBits .f32 0x44000000#32)
      - x (ix2 r k) * Ideal.div (∑ l : Fin 512, k0_pay46 y s d (ix2 r l) * w (ix2 0 l) * x (ix2 r l)) (Ideal.ofBits .f32 0x44000000#32) := by
  pointwise [k0_pay49]
theorem pay52 (f : FVec Ideal S256x1 .f32) : k0_pay52 x (k0_pay50 f) u (ix2 0 k) = u (ix2 0 k) + ∑ r : Fin 256, f (ix2 r 0) * x (ix2 r k) := by
  pointwise [k0_pay52, k0_pay51, k0_pay50]
theorem pay40 : k0_pay40 v8 (ix2 0 k) = v8 (ix2 0 k) := by
  pointwise [k0_pay40]
end

/-! ## The blocks -/

theorem idx : ∀ t : Fin cfg0.N, win0_2.index t = ![31 - t.val, 0] ∧ win0_3.index t = ![31 - t.val, 0] ∧ win0_5.index t = ![0, 0] ∧ win0_6.index t = ![0, 0] :=
  (by decide +kernel : ∀ t : Fin grid0.N, _)

/-- A row of a grid point's block. -/
def row (t : Fin cfg0.N) (r : Fin 256) : Fin 8192 := ⟨(31 - t.val) * 256 + r.val, by have := t.isLt.trans_eq N_0; omega⟩

variable (m : (ℓ : Loc nD τ sig) → Buf (Elt Ideal) ℓ) (c : Dev nD)

/-- The arguments. -/
abbrev Z : (⟨2, ![8192, 1792]⟩ : Shape).Idx → EReal := m ((c : Thread nD τ).loc main_arg0)
abbrev T : (⟨2, ![31, 512]⟩ : Shape).Idx → EReal := m ((c : Thread nD τ).loc main_arg1)
abbrev B : (⟨1, ![512]⟩ : Shape).Idx → EReal := m ((c : Thread nD τ).loc main_arg2)
abbrev G : (⟨1, ![512]⟩ : Shape).Idx → EReal := m ((c : Thread nD τ).loc main_arg3)
abbrev H : (⟨1, ![512]⟩ : Shape).Idx → EReal := m ((c : Thread nD τ).loc main_arg4)
abbrev D : (⟨2, ![8192, 1024]⟩ : Shape).Idx → EReal := m ((c : Thread nD τ).loc main_arg5)

/-- The convolution. -/
def C (r : Fin 8192) (k : Fin 512) : EReal := sums (Z m c) (T m c) (B m c) r.val k.val
/-- The columns of the cotangent that belong to it. -/
def d (r : Fin 8192) (k : Fin 512) : EReal := D m c (ix2 r ⟨k.val, by omega⟩)
def g (k : Fin 512) : EReal := G m c (ix1 k)
def h (k : Fin 512) : EReal := H m c (ix1 k)

/-- The host's convolution is the reference's. -/
theorem host231 : V m c main_v231 = Cert.ConvARefIdeal.Read.val_main_v231 (F := Ideal) (m ((c : Thread nD τ).loc main_arg0)) (m ((c : Thread nD τ).loc main_arg1)) (m ((c : Thread nD τ).loc main_arg2)) := by
  sl_kernel_rfl
theorem v231 (r : Fin 8192) (k : Fin 512) : V m c main_v231 (ix2 r k) = C m c r k :=
  (congrFun (host231 m c) _).trans (Cert.ConvARefIdeal.Math.v231 _ _ _ r k)
theorem host233 : V m c main_v233 = truncf (F := Ideal) .bf16 (m ((c : Thread nD τ).loc main_arg5) : FVec Ideal S8192x1024 .f32) bitsLt_bf16_f32 := by
  sl_kernel_rfl
theorem v233 (r : Fin 8192) (k : Fin 1024) : V m c main_v233 (ix2 r k) = D m c (ix2 r k) := by
  refine (congrFun (host233 m c) _).trans ?_
  generalize hx : m _ = x
  pointwise
  subst hx
  rfl
theorem host235 : V m c main_v235 = shapeCast S1x512 (m ((c : Thread nD τ).loc main_arg3) : FVec Ideal S512 .f32) shapeCasts_S512_S1x512 := by
  sl_kernel_rfl
theorem host236 : V m c main_v236 = shapeCast S1x512 (m ((c : Thread nD τ).loc main_arg4) : FVec Ideal S512 .f32) shapeCasts_S512_S1x512 := by
  sl_kernel_rfl
theorem v235 (k : Fin 512) : V m c main_v235 (ix2 0 k) = g m c k := by
  refine (congrFun (host235 m c) _).trans ?_
  unfold g
  generalize hx : m _ = x
  pointwise
  try (subst hx; rfl)
theorem v236 (k : Fin 512) : V m c main_v236 (ix2 0 k) = h m c k := by
  refine (congrFun (host236 m c) _).trans ?_
  unfold h
  generalize hx : m _ = x
  pointwise
  try (subst hx; rfl)

theorem blk2 (t : Fin cfg0.N) (r : Fin 256) (k : Fin 512) : iblk m c 2 t (ix2 r k) = C m c (row t r) k := by
  have e : (win0_2.blk t).view.emb (ix2 r k) = ix2 (row t r) k := by
    blk_ext [(idx t).1]
    all_goals rfl
  blk_simp [iblk]
  rw [e]
  exact v231 m c _ _
theorem blk3 (t : Fin cfg0.N) (r : Fin 256) (k : Fin 512) : iblk m c 3 t (ix2 r k) = d m c (row t r) k := by
  have e : (win0_3.blk t).view.emb (ix2 r k) = ix2 (row t r) ⟨k.val, by omega⟩ := by
    blk_ext [(idx t).2.1]
    all_goals rfl
  blk_simp [iblk]
  rw [e]
  exact v233 m c _ _
theorem blk5 (t : Fin cfg0.N) (k : Fin 512) : iblk m c 5 t (ix2 0 k) = g m c k := by
  refine Eq.trans ?_ (v235 m c k)
  blk_point [iblk, (idx t).2.2.1]
theorem blk6 (t : Fin cfg0.N) (k : Fin 512) : iblk m c 6 t (ix2 0 k) = h m c k := by
  refine Eq.trans ?_ (v236 m c k)
  blk_point [iblk, (idx t).2.2.2]

/-- What one block of rows adds. -/
def part (t : Fin cfg0.N) (i : ℕ) (k : Fin 512) : EReal := ∑ r : Fin 256, term (C m c) (g m c) (h m c) (d m c) i k (row t r)

/-- The normalised rows, the gate's argument and cotangent of a block; what its three sums add. -/
theorem hat_blk (t : Fin cfg0.N) (r : Fin 256) (k : Fin 512) : k0_pay43 (iblk m c 2 t) (ix2 r k) = hat (C m c (row t r)) k := by
  refine (pay43 _ r k).trans (congrArg (fun x => hat x k) (funext fun l => ?_))
  exact blk2 m c t r l
theorem pre_blk (t : Fin cfg0.N) (r : Fin 256) (k : Fin 512) :
    k0_pay44 (iblk m c 2 t) (iblk m c 5 t) (iblk m c 6 t) (ix2 r k) = pre (C m c (row t r)) (g m c) (h m c) k := by
  refine (pay44 _ _ _ r k).trans ?_
  rw [show (fun l => (iblk m c 2 t : Vec Ideal S256x512 .f32) (ix2 r l)) = C m c (row t r) from funext fun l => blk2 m c t r l,
    show (fun l => (iblk m c 5 t : Vec Ideal S1x512 .f32) (ix2 0 l)) = g m c from funext fun l => blk5 m c t l,
    show (fun l => (iblk m c 6 t : Vec Ideal S1x512 .f32) (ix2 0 l)) = h m c from funext fun l => blk6 m c t l]
theorem gate_blk (t : Fin cfg0.N) (r : Fin 256) (k : Fin 512) :
    k0_pay46 (k0_pay44 (iblk m c 2 t) (iblk m c 5 t) (iblk m c 6 t)) (k0_pay45 (iblk m c 2 t) (iblk m c 5 t) (iblk m c 6 t)) (iblk m c 3 t) (ix2 r k)
      = gate (d m c (row t r) k) (pre (C m c (row t r)) (g m c) (h m c) k) := by
  rw [pay46, pay45, pre_blk, blk3 m c t r k]
  rfl
theorem row33 (t : Fin cfg0.N) (u : Vec Ideal S1x512 .f32) (k : Fin 512) :
    k0_pay47 (k0_pay43 (iblk m c 2 t)) (k0_pay44 (iblk m c 2 t) (iblk m c 5 t) (iblk m c 6 t)) (k0_pay45 (iblk m c 2 t) (iblk m c 5 t) (iblk m c 6 t)) (iblk m c 3 t) u (ix2 0 k)
      = u (ix2 0 k) + part m c t 33 k := by
  rw [pay47]
  refine congrArg (u (ix2 0 k) + ·) (Finset.sum_congr rfl fun r _ => ?_)
  rw [gate_blk, hat_blk]
  exact ((if_neg (by decide)).trans (if_pos rfl)).symm
theorem row34 (t : Fin cfg0.N) (u : Vec Ideal S1x512 .f32) (k : Fin 512) :
    k0_pay48 (k0_pay44 (iblk m c 2 t) (iblk m c 5 t) (iblk m c 6 t)) (k0_pay45 (iblk m c 2 t) (iblk m c 5 t) (iblk m c 6 t)) (iblk m c 3 t) u (ix2 0 k)
      = u (ix2 0 k) + part m c t 34 k := by
  rw [pay48]
  refine congrArg (u (ix2 0 k) + ·) (Finset.sum_congr rfl fun r _ => ?_)
  rw [gate_blk]
  exact ((if_neg (by decide)).trans (if_neg (by decide))).symm
theorem row32 (t : Fin cfg0.N) (u : Vec Ideal S1x512 .f32) (k : Fin 512) :
    k0_pay52 (k0_pay49 (k0_pay40 (iblk m c 5 t)) (k0_pay43 (iblk m c 2 t)) (k0_pay44 (iblk m c 2 t) (iblk m c 5 t) (iblk m c 6 t))
        (k0_pay45 (iblk m c 2 t) (iblk m c 5 t) (iblk m c 6 t)) (iblk m c 3 t)) (k0_pay50 (k0_pay42 (iblk m c 2 t))) u (ix2 0 k)
      = u (ix2 0 k) + part m c t 32 k := by
  rw [pay52]
  refine congrArg (u (ix2 0 k) + ·) (Finset.sum_congr rfl fun r _ => ?_)
  rw [pay49, pay42]
  simp only [gate_blk, hat_blk]
  refine Eq.trans ?_ (if_pos rfl).symm
  unfold dcol
  rw [show (fun l => (iblk m c 2 t : Vec Ideal S256x512 .f32) (ix2 r l)) = C m c (row t r) from funext fun l => blk2 m c t r l]
  have w : ∀ l : Fin 512, k0_pay40 (iblk m c 5 t) (ix2 0 l) = g m c l := fun l => (pay40 _ l).trans (blk5 m c t l)
  simp only [w]

end Cert.ConvAIdeal.Math
end
end
-- ==== Proof.ConvAKernel.lean ====
/- What one grid point of the convolution's gradient adds to the gradients of the bias and of the norm's gain and shift. -/
module

public import proofs.«01_k».proof.Proof.Gen.ConvAIdeal.Frame
public import proofs.«01_k».proof.Proof.ConvAHost
public import Idealize.ShloMosaic.Lib.Pipeline.ReadBack
public import Idealize.ShloMosaic.Lib.WritesUnit
public import Idealize.ShloMosaic.Lib.Pointwise
public import Idealize.ShloMosaic.Lib.Pipeline.ValueKit
public import Idealize.ShloMosaic.Lib.Pipeline.Value
public import Idealize.ShloMosaic.Lib.StableHlo.ReadAt
public import Idealize.ShloMosaic.Lib.Claim

set_option maxRecDepth 16384
set_option maxHeartbeats 4000000
@[expose] public section
noncomputable section
open Idealize.ShloMosaic Idealize.ShloMosaic.TcCoe Idealize.SL.Sem
open Cert.ConvAIdeal Cert.ConvAIdeal.Gen Cert.ConvAFwdMath Cert.ConvAMath
namespace Cert.ConvAIdeal.Math

/-! ## Rows of the packed gradients -/

theorem row_emb (i : Fin 40) (inb) (k : Fin 512) :
    (ix2 i k : S40x512.Idx) = (Rect.unit (s := S40x512) ![i.val, 0] ![1, 512] inb).emb (ix2 0 k) := by
  funext a
  match a with
  | ⟨0, _⟩ => exact Fin.ext (Eq.trans (by show i.val = i.val + 0; omega) (Rect.idx_unit_val _ _ _ _ _).symm)
  | ⟨1, _⟩ => exact Fin.ext (Eq.trans (by show k.val = 0 + k.val; omega) (Rect.idx_unit_val _ _ _ _ _).symm)

theorem row_hit (L : List (View.Piece (Elt Ideal) S40x512 .f32)) (i : Fin 40) (o : ℕ) (inb) (u : Vec Ideal S1x512 .f32) (k : Fin 512) (h : i.val = o) :
    View.canon (Val := Elt Ideal) (s := S40x512) (e := .f32) (⟨Rect.unit ![o, 0] ![1, 512] inb, u⟩ :: L) (ix2 i k) = u (ix2 0 k) := by
  subst h
  rw [row_emb i inb k]
  exact View.canon_cons_emb _ _ _ _

theorem row_miss (L : List (View.Piece (Elt Ideal) S40x512 .f32)) (i : Fin 40) (o : ℕ) (inb) (u : Vec Ideal S1x512 .f32) (k : Fin 512) (h : i.val ≠ o) :
    View.canon (Val := Elt Ideal) (s := S40x512) (e := .f32) (⟨Rect.unit ![o, 0] ![1, 512] inb, u⟩ :: L) (ix2 i k)
      = View.canon (Val := Elt Ideal) (s := S40x512) (e := .f32) L (ix2 i k) := by
  refine View.canon_cons_of_not_mem _ _ fun hm => ?_
  obtain ⟨x, hx⟩ := (Rect.unit (s := S40x512) ![o, 0] ![1, 512] inb).exists_idx_of_mem hm
  have := congrArg (fun y : S40x512.Idx => (y 0).val) hx
  have hx0 : (x 0).val < 1 := (x 0).isLt
  have : o + (x 0).val = i.val := (Rect.idx_unit_val _ _ _ _ _).symm.trans this
  omega

theorem row_ld (X : Vec Ideal S40x512 .f32) (i : Fin 40) (o : ℕ) (inb) (k : Fin 512) (h : i.val = o) :
    View.ld X (Rect.unit (s := S40x512) ![o, 0] ![1, 512] inb) (ix2 0 k) = X (ix2 i k) := by
  subst h
  rw [row_emb i inb k]; rfl

theorem wr_hit {κ : Kind} {sp : Space} (v : View sig κ sp S40x512 .f32) (f : v.ty.Contents (Elt Ideal)) (L : List (View.Piece (Elt Ideal) S40x512 .f32)) (i : Fin 40) (o : ℕ) (inb)
    (u : Vec Ideal S1x512 .f32) (k : Fin 512) (h : i.val = o) :
    v.read (Elt Ideal) (v.writes (Elt Ideal) f (⟨Rect.unit ![o, 0] ![1, 512] inb, u⟩ :: L)) (ix2 i k) = u (ix2 0 k) :=
  View.read_writes_cons_rows_of_mem v f inb u L (ix2 i k) (ix2 0 k) rfl h rfl

theorem wr_miss {κ : Kind} {sp : Space} (v : View sig κ sp S40x512 .f32) (f : v.ty.Contents (Elt Ideal)) (L : List (View.Piece (Elt Ideal) S40x512 .f32)) (i : Fin 40) (o : ℕ) (inb)
    (u : Vec Ideal S1x512 .f32) (k : Fin 512) (h : i.val ≠ o) :
    v.read (Elt Ideal) (v.writes (Elt Ideal) f (⟨Rect.unit ![o, 0] ![1, 512] inb, u⟩ :: L)) (ix2 i k) = v.read (Elt Ideal) (v.writes (Elt Ideal) f L) (ix2 i k) :=
  View.read_writes_cons_rows_of_not_mem v f inb u L (ix2 i k) rfl (W := 1) rfl (by show i.val < o ∨ o + 1 ≤ i.val; omega)

variable (m : (ℓ : Loc nD τ sig) → Buf (Elt Ideal) ℓ) (c : Dev nD)

theorem zeros (i : Fin 40) (k : Fin 512) : k0_pay37 (F := Ideal) (ix2 i k) = 0 := by
  pointwise [k0_pay37]

theorem pointA (t : Fin cfg0.N) (h0 : t.val % 32 = 0) (i : Fin 40) (hi : i = 32 ∨ i = 33 ∨ i = 34) (k : Fin 512) :
    (outsAt0 m c t.val t.isLt).2.1 (ix2 i k) = 0 + part m c t i.val k := by
  have hN := t.isLt.trans_eq N_0
  rw [outsAt0_A m c t h0 (by omega) (by omega)]; frame_out
  simp (disch := first | decide | rfl) only [↓View.readCov_skip, ↓View.readCov_fill]
  rcases hi with rfl | rfl | rfl
  · refine (row_hit _ 32 32 _ _ k rfl).trans ?_
    refine (row32 m c t _ k).trans ?_
    rw [row_ld _ 32 32 _ k rfl, zeros]
    rfl
  · refine (row_miss _ 33 32 _ _ k (by decide)).trans ((row_miss _ 33 34 _ _ k (by decide)).trans ((row_hit _ 33 33 _ _ k rfl).trans ?_))
    refine (row33 m c t _ k).trans ?_
    rw [row_ld _ 33 33 _ k rfl, zeros]
    rfl
  · refine (row_miss _ 34 32 _ _ k (by decide)).trans ((row_hit _ 34 34 _ _ k rfl).trans ?_)
    refine (row34 m c t _ k).trans ?_
    rw [row_ld _ 34 34 _ k rfl, zeros]
    rfl

theorem pointB (t : Fin cfg0.N) (h0 : ¬ t.val % 32 = 0) (i : Fin 40) (hi : i = 32 ∨ i = 33 ∨ i = 34) (k : Fin 512) :
    (outsAt0 m c t.val t.isLt).2.1 (ix2 i k) = (outsAt0 m c (t.val - 1) (by omega)).2.1 (ix2 i k) + part m c t i.val k := by
  have hN := t.isLt.trans_eq N_0
  by_cases h2 : t.val % 32 = 31
  · rw [outsAt0_C m c t h0 (by omega) h2]; frame_out
    rcases hi with rfl | rfl | rfl
    · iterate 31 refine (wr_miss _ _ _ 32 _ _ _ k (by decide)).trans ?_
      refine (wr_hit _ _ _ 32 32 _ _ k rfl).trans ((row32 m c t _ k).trans ?_)
      exact congrArg (· + part m c t 32 k) (row_ld _ 32 32 _ k rfl)
    · iterate 33 refine (wr_miss _ _ _ 33 _ _ _ k (by decide)).trans ?_
      refine (wr_hit _ _ _ 33 33 _ _ k rfl).trans ((row33 m c t _ k).trans ?_)
      exact congrArg (· + part m c t 33 k) (row_ld _ 33 33 _ k rfl)
    · iterate 32 refine (wr_miss _ _ _ 34 _ _ _ k (by decide)).trans ?_
      refine (wr_hit _ _ _ 34 34 _ _ k rfl).trans ((row34 m c t _ k).trans ?_)
      exact congrArg (· + part m c t 34 k) (row_ld _ 34 34 _ k rfl)
  · rw [outsAt0_B m c t h0 (by omega) h2]; frame_out
    rcases hi with rfl | rfl | rfl
    · refine (wr_hit _ _ _ 32 32 _ _ k rfl).trans ((row32 m c t _ k).trans ?_)
      exact congrArg (· + part m c t 32 k) (row_ld _ 32 32 _ k rfl)
    · iterate 2 refine (wr_miss _ _ _ 33 _ _ _ k (by decide)).trans ?_
      refine (wr_hit _ _ _ 33 33 _ _ k rfl).trans ((row33 m c t _ k).trans ?_)
      exact congrArg (· + part m c t 33 k) (row_ld _ 33 33 _ k rfl)
    · refine (wr_miss _ _ _ 34 _ _ _ k (by decide)).trans ?_
      refine (wr_hit _ _ _ 34 34 _ _ k rfl).trans ((row34 m c t _ k).trans ?_)
      exact congrArg (· + part m c t 34 k) (row_ld _ 34 34 _ k rfl)

/-- The last grid point. -/
def last : Fin cfg0.N := (31 : Fin 32).cast N_0.symm

/-- The blocks of rows, last first, make up all rows. -/
theorem sum_rows (f : Fin 8192 → EReal) : ∑ t : Fin 32, ∑ r, f (row (t.cast N_0.symm) r) = ∑ r, f r := by
  rw [← Equiv.sum_comp Fin.revPerm, ← Fintype.sum_prod_type']
  refine Fintype.sum_equiv (finProdFinEquiv (m := 32) (n := 256)) _ _ fun x => congrArg f (Fin.ext ?_)
  show (31 - (Fin.rev x.1).val) * 256 + x.2.val = x.2.val + 256 * x.1.val
  rw [Fin.val_rev]
  have := x.1.isLt
  omega

/-- The sums after a grid point. -/
theorem sums_at (i : Fin 40) (hi : i = 32 ∨ i = 33 ∨ i = 34) (k : Fin 512) : ∀ (n : ℕ) (hn : n < 32),
    (outsAt0 m c n (hn.trans_eq N_0.symm)).2.1 (ix2 i k) = ∑ t : Fin (n + 1), part m c ⟨t.val, (by omega : t.val < 32).trans_eq N_0.symm⟩ i.val k
  | 0, hn => by
    rw [Fin.sum_univ_one]
    exact (pointA m c ⟨0, hn.trans_eq N_0.symm⟩ rfl i hi k).trans (zero_add _)
  | n + 1, hn => by
    rw [Fin.sum_univ_castSucc]
    refine (pointB m c ⟨n + 1, hn.trans_eq N_0.symm⟩ (by show ¬ (n + 1) % 32 = 0; omega) i hi k).trans ?_
    exact congrArg₂ (· + ·) (sums_at i hi k n (by omega)) rfl

theorem total (i : Fin 40) (hi : i = 32 ∨ i = 33 ∨ i = 34) (k : Fin 512) :
    (outsAt0 m c last.val last.isLt).2.1 (ix2 i k) = ∑ r, term (C m c) (g m c) (h m c) (d m c) i.val k r :=
  (sums_at m c i hi k 31 (by decide)).trans (sum_rows fun r => term (C m c) (g m c) (h m c) (d m c) i.val k r)

/-- The packed gradients after the last grid point. -/
theorem final8 (i : Fin 40) (hi : i = 32 ∨ i = 33 ∨ i = 34) (k : Fin 512) :
    (dats m 0 c).arrAt 8 cfg0.N (ix2 i k) = ∑ r, term (C m c) (g m c) (h m c) (d m c) i.val k r := by
  have a : (dats m 0 c).arrAt 8 cfg0.N = (outsAt0 m c last.val last.isLt).2.1 := by
    refine (dats m 0 c).arrAt_eq_of_after_last 8 last (by decide +kernel) _ fun j => ?_
    blk_simp
    rw [after0_8]
  rw [a]
  exact total m c i hi k

/-- The three rows the host keeps. -/
theorem sliced (i : Fin 3) (k : Fin 512) : Pipeline.afterTail₀ cfgs (dats m) 0 (V0 m) [hostOps1] c main_v238 (ix2 i k)
    = ∑ r, term (C m c) (g m c) (h m c) (d m c) (32 + i.val) k r := by
  refine Eq.trans ?_ (final8 m c ⟨32 + i.val, by omega⟩ (by
    rcases (by omega : i.val = 0 ∨ i.val = 1 ∨ i.val = 2) with e | e | e
    · exact .inl (Fin.ext (congrArg (32 + ·) e))
    · exact .inr (.inl (Fin.ext (congrArg (32 + ·) e)))
    · exact .inr (.inr (Fin.ext (congrArg (32 + ·) e)))) k)
  unfold Pipeline.afterTail₀
  simp only [hostOps1, List.flatten_cons, List.flatten_nil, List.append_nil, List.cons_append, List.nil_append]
  after_results_simp
  rw [(dats m 0 c).withArrays_arrAt sharedIn0 (V0 m c) (A_eq m c) 8]
  pointwise

end Cert.ConvAIdeal.Math
end
end
-- ==== Proof.ConvAClaim.lean ====
/- The claims about the gradients of the bias, gain and shift in the convolution module. -/
module

public import proofs.«01_k».proof.Defs
public import proofs.«01_k».proof.Proof.ConvAKernel
public import proofs.«01_k».proof.Proof.Gen.ConvARefIdeal.Run
public import Idealize.ShloMosaic.Lib.Quiescent

set_option maxRecDepth 16384

@[expose] public section
noncomputable section

open Idealize.ShloMosaic Idealize.ShloMosaic.TcCoe Idealize.SL.Sem Cert.RealLift Cert.ConvAMath

namespace Cert.ConvAClaim

/-- The side conditions of the precondition. -/
theorem preFacts : Cert.Pre_conv_a_finite.Facts where
  slices_S8192x1024_S8192x512_0_0 := by decide
  bcast_S_S8192x512 := by decide
  bcast_S_S512 := by decide

/-- The reference runs and leaves its arguments as they were. -/
theorem refFrame : Cert.quiescent_ConvARefIdeal (hConvARefIdeal := Cert.ConvARefIdeal.Gen.facts) :=
  fun m ρ _ => (θ_run Cert.ConvARefIdeal.defs _ _).mono
    (fun r h => ⟨fun c => (h c).2, Idealize.ShloMosaic.sem_eq_zero_of_no_sems (by decide) r.2⟩)
    (Cert.ConvARefIdeal.Value.run (F := Ideal) m ρ)

/-- The precondition makes the cotangent's columns and the gain real numbers. -/
theorem reals (m : (ℓ : Loc Cert.ConvAIdeal.nD Cert.ConvAIdeal.τ Cert.ConvAIdeal.sig) → Buf (Elt Ideal) ℓ)
    (h : Cert.Pre_ConvAIdeal_conv_a_finite (hPre_conv_a_finite := preFacts) m) (c : Dev Cert.ConvAIdeal.nD) :
    (∀ (r : Fin 8192) (k : Fin 512), ∃ y : ℝ, m ((c : Thread Cert.ConvAIdeal.nD Cert.ConvAIdeal.τ).loc Cert.ConvAIdeal.main_arg5) (ix2 r ⟨k.val, by omega⟩) = (y : EReal))
    ∧ ∀ k : Fin 512, ∃ y : ℝ, m ((c : Thread Cert.ConvAIdeal.nD Cert.ConvAIdeal.τ).loc Cert.ConvAIdeal.main_arg3) (ix1 k) = (y : EReal) := by
  obtain ⟨h0, h1⟩ := h c
  refine ⟨fun r k => ?_, fun k => exists_coe_of_cmp (congrFun h1 (ix1 k))⟩
  have e := congrFun h0 (ix2 r k)
  generalize m ((c : Thread Cert.ConvAIdeal.nD Cert.ConvAIdeal.τ).loc Cert.ConvAIdeal.main_arg5) = x at e ⊢
  exact exists_coe_of_cmp (Eq.trans (by pointwise [Cert.Pre_conv_a_finite.fn]; rfl) e)

section run
open Cert.ConvAIdeal Cert.ConvAIdeal.Gen
variable (m : (ℓ : Loc nD τ sig) → Buf (Elt Ideal) ℓ)

/-- The result: the bias's gradient, the gain's, the shift's. -/
def result (c : Dev nD) : Vec Ideal S3x512 .f32 := fun j => ∑ r, term (Math.C m c) (Math.g m c) (Math.h m c) (Math.d m c) (32 + (j 0).val) (j 1) r

/-- The run, with the result array named. -/
theorem run (ρ : Dev nD → PrngReg) :
    θ_run defs (onTc (τ := τ) (main (F := Ideal))) ⟨m, fun _ => 0, ρ⟩ fun r => ∀ c : Dev nD,
      r.2.mem ((c : Thread nD τ).loc main_v238) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ⟨((h.1 c).2 main_v238 (Pipeline.mem_restRefs_of main_v238 (by decide) (by decide))).trans ?_, h.2 c⟩)
    (θ_run_and (run_main m ρ) (unchanged m ρ))
  funext j
  obtain ⟨i, k, rfl⟩ : ∃ i k, j = ix2 i k := ⟨j 0, j 1, eq_ix2 j⟩
  exact Math.sliced m c i k
end run

/-- Kernel and reference end with the same gradients. -/
theorem algebraic : Cert.algebraic_ConvAIdeal_ConvARefIdeal_pre_conv_a_finite (hConvAIdeal := Cert.ConvAIdeal.Gen.facts)
    (hConvARefIdeal := Cert.ConvARefIdeal.Gen.facts) (hPre_conv_a_finite := preFacts) := by
  intro m g m' g' hpre hagree
  refine ⟨result m, run m g, ?_⟩
  refine (θ_run Cert.ConvARefIdeal.defs _ _).mono (fun r h c => ⟨(h c).1.trans ?_, (h c).2⟩) (Cert.ConvARefIdeal.Value.run (F := Ideal) m' g')
  rw [Cert.ConvARefIdeal.Read.val_main_v303_eq]
  show Cert.ConvARefIdeal.Read.val_main_v303 (F := Ideal) (m' (c.tc.loc Cert.ConvARefIdeal.main_arg0)) (m' (c.tc.loc Cert.ConvARefIdeal.main_arg1)) (m' (c.tc.loc Cert.ConvARefIdeal.main_arg2))
    (m' (c.tc.loc Cert.ConvARefIdeal.main_arg3)) (m' (c.tc.loc Cert.ConvARefIdeal.main_arg4)) (m' (c.tc.loc Cert.ConvARefIdeal.main_arg5)) = _
  rw [(hagree c).1, (hagree c).2.1, (hagree c).2.2.1, (hagree c).2.2.2.1, (hagree c).2.2.2.2.1, (hagree c).2.2.2.2.2]
  funext j
  obtain ⟨i, k, rfl⟩ : ∃ i k, j = ix2 i k := ⟨j 0, j 1, eq_ix2 j⟩
  exact Cert.ConvARefIdeal.Math.v303 _ _ _ _ _ _ (reals m hpre c).1 (reals m hpre c).2 i k

end Cert.ConvAClaim

end
end
-- ==== Proof.WindowClaim.lean ====
/- The claim about the run of the sliding-window gradient's reference. -/
module

public import proofs.«01_k».proof.Defs
public import proofs.«01_k».proof.Proof.Gen.WindowRefIdeal.Run
public import Idealize.ShloMosaic.Lib.Quiescent

set_option maxRecDepth 16384

@[expose] public section
noncomputable section

open Idealize.ShloMosaic Idealize.ShloMosaic.TcCoe Idealize.SL.Sem

namespace Cert.WindowClaim

/-- The reference runs and leaves its arguments as they were. -/
theorem refFrame : Cert.quiescent_WindowRefIdeal (hWindowRefIdeal := Cert.WindowRefIdeal.Gen.facts) :=
  fun m ρ _ => (θ_run Cert.WindowRefIdeal.defs _ _).mono
    (fun r h => ⟨fun c => (h c).2.2.2.2, Idealize.ShloMosaic.sem_eq_zero_of_no_sems (by decide) r.2⟩)
    (Cert.WindowRefIdeal.Value.run (F := Ideal) m ρ)

end Cert.WindowClaim

end
end
-- ==== Proof.WindowIdealHandFrame.lean ====
/- The frame of the sliding-window gradient, `WindowIdeal`: from any start @main terminates, its arguments
   unchanged and every counter at zero. The body is run once from memrefs whose contents matter only
   where it reads them; of what it stores nothing is named, so all four results are forgotten. -/
module

public import proofs.«01_k».proof.Proof.Gen.WindowIdeal.Frame
public import proofs.«01_k».proof.Proof.Gen.WindowIdeal.Skeleton

@[expose] public section

set_option maxRecDepth 16384

noncomputable section

namespace Cert.WindowIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.WindowIdeal.Gen

variable {F : FTy → Type} [FloatOps F] [Named F]

local notation "𝕄" => MT nD τ sig Unit (Elt F) ℕ (UR sig nD τ) ℕ

/-- The body starts the two padded sums at the first point and adds to them at every point. -/
abbrev atStart (i : grid0.Coords) : Prop :=
  (Scalar.cmpi .ne (Scalar.extui (Scalar.cmpi .eq (BitVec.ofNat 32 (i 0).val) 0#32)) 0#32) = 1#1

set_option maxHeartbeats 3000000 in
/-- The body from any contents: the inputs come back as they were, the results at some contents. -/
theorem body_run (c : Dev nD) (i : grid0.Coords)
    (sk : Memref sig .tc .smem S8 .f32) (wsk : sk.IsWhole)
    (q : Memref sig .tc .vmem S256x512 .bf16) (wq : q.IsWhole)
    (k : Memref sig .tc .vmem S8320x128 .bf16) (wk : k.IsWhole)
    (v : Memref sig .tc .vmem S8320x128 .bf16) (wv : v.IsWhole)
    (g : Memref sig .tc .vmem S256x512 .bf16) (wg : g.IsWhole)
    (dq : Memref sig .tc .vmem S256x512 .bf16) (wdq : dq.IsWhole)
    (dk : Memref sig .tc .vmem S8320x128 .f32) (wdk : dk.IsWhole)
    (dv : Memref sig .tc .vmem S8320x128 .f32) (wdv : dv.IsWhole)
    (ds : Memref sig .tc .vmem S8x128 .f32) (wds : ds.IsWhole)
    (xs : Vec F S8 .f32) (xq : Vec F S256x512 .bf16) (xk xv : Vec F S8320x128 .bf16)
    (xg : Vec F S256x512 .bf16) (E : Set ℕ) (K : PUnit → sProp 𝕄) :
    iprop(owns (c : Thread nD τ) sk fullShare xs ∗ owns (c : Thread nD τ) q fullShare xq
        ∗ owns (c : Thread nD τ) k fullShare xk ∗ owns (c : Thread nD τ) v fullShare xv
        ∗ owns (c : Thread nD τ) g fullShare xg
        ∗ (∃ d, owns (c : Thread nD τ) dq fullShare d) ∗ (∃ d, owns (c : Thread nD τ) dk fullShare d)
        ∗ (∃ d, owns (c : Thread nD τ) dv fullShare d) ∗ (∃ d, owns (c : Thread nD τ) ds fullShare d)
        ∗ (iprop(owns (c : Thread nD τ) sk fullShare xs ∗ owns (c : Thread nD τ) q fullShare xq
            ∗ owns (c : Thread nD τ) k fullShare xk ∗ owns (c : Thread nD τ) v fullShare xv
            ∗ owns (c : Thread nD τ) g fullShare xg
            ∗ (∃ d, owns (c : Thread nD τ) dq fullShare d) ∗ (∃ d, owns (c : Thread nD τ) dk fullShare d)
            ∗ (∃ d, owns (c : Thread nD τ) dv fullShare d)
            ∗ (∃ d, owns (c : Thread nD τ) ds fullShare d)) -∗ K ⟨⟩))
      ⊢ wp frame (wpE (defs₀ (F := F)) Variants.none c none) E
          (cc0_l0_b_swa i sk wsk q wq k wk v wv g wg dq wdq dk wdk dv wdv ds wds) K := by
  simp only [cc0_l0_b_swa_eq_skeleton]; unfold cc0_l0_b_swa_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%f3, %hf3, H3⟩, ⟨%f4, %hf4, H4⟩,
    ⟨%d5, %f5, -, H5⟩, ⟨%d6, %f6, -, H6⟩, ⟨%d7, %f7, -, H7⟩, ⟨%d8, %f8, -, H8⟩, Hk⟩
  obtain rfl := wsk.eq_unread hf0; obtain rfl := wq.eq_unread hf1; obtain rfl := wk.eq_unread hf2
  obtain rfl := wv.eq_unread hf3; obtain rfl := wg.eq_unread hf4
  by_cases h : atStart i
  all_goals
    sl_exec (disch := first | sl_exact h)
    sl_step
    iapply Hk
    isplitl [H0]
    · iexists _; isplitr; · ipureintro; exact wsk.read_unread _
      iexact H0
    isplitl [H1]
    · iexists _; isplitr; · ipureintro; exact wq.read_unread _
      iexact H1
    isplitl [H2]
    · iexists _; isplitr; · ipureintro; exact wk.read_unread _
      iexact H2
    isplitl [H3]
    · iexists _; isplitr; · ipureintro; exact wv.read_unread _
      iexact H3
    isplitl [H4]
    · iexists _; isplitr; · ipureintro; exact wg.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists _, _; isplitr; swap; · iexact H8
    ipureintro; rfl

variable (m : (ℓ : Loc nD τ sig) → Buf (Elt F) ℓ) (ρ : Dev nD → PrngReg)

/-- The four results are windows 5 to 8. -/
def isResult (w : Fin 9) : Bool := decide (5 ≤ w.val)

/-- What the body leaves: each input at its block, each result at contents nothing names. -/
def data (_ : Fin 1) (c : Dev nD) : Dat τ (Elt F) Unit ℕ (UR sig nD τ) ℕ cfg0 c where
  A w := V m c (Pipeline.arrRef spec0 w)
  after w t := match w with
    | ⟨1, _⟩ => X0_1 m c t
    | ⟨0, _⟩ => iblk m c 0 t
    | ⟨2, _⟩ => iblk m c 2 t
    | ⟨3, _⟩ => iblk m c 3 t
    | ⟨4, _⟩ => iblk m c 4 t
    | ⟨n + 5, h⟩ => Dat.unnamed (cfg := cfg0) ⟨n + 5, h⟩ t
  Φ _ := Pipeline.ΦA spec0 c
  q _ := fullShare
  owed _ := 0

theorem arr_eq (c : Dev nD) (w : Fin cfg0.W) : (data m 0 c).A w = V m c (Pipeline.arrRef spec0 w) := by
  dsimp only [data]

theorem in0 (c : Dev nD) (t : Fin cfg0.N) (d) : (data m 0 c).before 0 t d = iblk m c 0 t :=
  before0_0_of m (data m 0 c) (arr_eq m c 0) (fun _ => by dsimp only [data]) t d
theorem in1 (c : Dev nD) (t : Fin cfg0.N) (d) : (data m 0 c).before 1 t d = X0_1 m c t :=
  before0_1_of m (data m 0 c) (arr_eq m c 1) (fun _ => by dsimp only [data]) t d
theorem in2 (c : Dev nD) (t : Fin cfg0.N) (d) : (data m 0 c).before 2 t d = iblk m c 2 t :=
  before0_2_of m (data m 0 c) (arr_eq m c 2) (fun _ => by dsimp only [data]) t d
theorem in3 (c : Dev nD) (t : Fin cfg0.N) (d) : (data m 0 c).before 3 t d = iblk m c 3 t :=
  before0_3_of m (data m 0 c) (arr_eq m c 3) (fun _ => by dsimp only [data]) t d
theorem in4 (c : Dev nD) (t : Fin cfg0.N) (d) : (data m 0 c).before 4 t d = iblk m c 4 t :=
  before0_4_of m (data m 0 c) (arr_eq m c 4) (fun _ => by dsimp only [data]) t d

/-- The staging buffers at point `t`, the inputs at what the region left there. -/
def given (c : Dev nD) (t : Fin cfg0.N) : sProp 𝕄 :=
  iprop((data m 0 c).Φ t.castSucc ∗ (data m 0 c).owesAt () t.castSucc
    ∗ (∃ d, owns (c : Thread nD τ) (win0_0.stage (cfg0.slots t 0)) fullShare ((data m 0 c).before 0 t d))
    ∗ (∃ d, owns (c : Thread nD τ) (win0_1.stage (cfg0.slots t 1)) fullShare ((data m 0 c).before 1 t d))
    ∗ (∃ d, owns (c : Thread nD τ) (win0_2.stage (cfg0.slots t 2)) fullShare ((data m 0 c).before 2 t d))
    ∗ (∃ d, owns (c : Thread nD τ) (win0_3.stage (cfg0.slots t 3)) fullShare ((data m 0 c).before 3 t d))
    ∗ (∃ d, owns (c : Thread nD τ) (win0_4.stage (cfg0.slots t 4)) fullShare ((data m 0 c).before 4 t d))
    ∗ (∃ d, owns (c : Thread nD τ) (win0_5.stage (cfg0.slots t 5)) fullShare d)
    ∗ (∃ d, owns (c : Thread nD τ) (win0_6.stage (cfg0.slots t 6)) fullShare d)
    ∗ (∃ d, owns (c : Thread nD τ) (win0_7.stage (cfg0.slots t 7)) fullShare d)
    ∗ (∃ d, owns (c : Thread nD τ) (win0_8.stage (cfg0.slots t 8)) fullShare d))

/-- What the body returns them at. -/
def left (c : Dev nD) (t : Fin cfg0.N) : sProp 𝕄 :=
  iprop((data m 0 c).Φ t.succ ∗ (data m 0 c).owesAt () t.succ
    ∗ owns (c : Thread nD τ) (win0_0.stage (cfg0.slots t 0)) fullShare ((data m 0 c).after 0 t)
    ∗ owns (c : Thread nD τ) (win0_1.stage (cfg0.slots t 1)) fullShare ((data m 0 c).after 1 t)
    ∗ owns (c : Thread nD τ) (win0_2.stage (cfg0.slots t 2)) fullShare ((data m 0 c).after 2 t)
    ∗ owns (c : Thread nD τ) (win0_3.stage (cfg0.slots t 3)) fullShare ((data m 0 c).after 3 t)
    ∗ owns (c : Thread nD τ) (win0_4.stage (cfg0.slots t 4)) fullShare ((data m 0 c).after 4 t)
    ∗ (∃ d, owns (c : Thread nD τ) (win0_5.stage (cfg0.slots t 5)) fullShare d)
    ∗ (∃ d, owns (c : Thread nD τ) (win0_6.stage (cfg0.slots t 6)) fullShare d)
    ∗ (∃ d, owns (c : Thread nD τ) (win0_7.stage (cfg0.slots t 7)) fullShare d)
    ∗ (∃ d, owns (c : Thread nD τ) (win0_8.stage (cfg0.slots t 8)) fullShare d))

set_option maxHeartbeats 1600000 in
theorem body_at (c : Dev nD) (t : Fin cfg0.N) :
    given m c t ⊢ wp frame (wpE (defs₀ (F := F)) Variants.none c none) Set.univ (bodyAt0 t)
      (fun _ => left m c t) := by
  unfold given left bodyAt0
  simp only [in0, in1, in2, in3, in4]
  rw [show (data m 0 c).Φ t.succ = (data m 0 c).Φ t.castSucc from rfl,
    show (data m 0 c).owesAt () t.succ = (data m 0 c).owesAt () t.castSucc from rfl,
    show (data m 0 c).after 0 t = iblk m c 0 t from rfl, show (data m 0 c).after 1 t = X0_1 m c t from rfl,
    show (data m 0 c).after 2 t = iblk m c 2 t from rfl, show (data m 0 c).after 3 t = iblk m c 3 t from rfl,
    show (data m 0 c).after 4 t = iblk m c 4 t from rfl]
  iintro ⟨HΦ, Ho, ⟨%d0, H0⟩, ⟨%d1, H1⟩, ⟨%d2, H2⟩, ⟨%d3, H3⟩, ⟨%d4, H4⟩, H5, H6, H7, H8⟩
  iapply (body_run c (grid0.coords t) _ _ _ _ _ _ _ _ _ _ _ _ _ _ _ _ _ _ (iblk m c 0 t) (X0_1 m c t)
    (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro Hout
  isplitl [HΦ]; · iexact HΦ
  isplitl [Ho]; · iexact Ho
  iexact Hout

theorem body_row (t : Fin cfg0.N) :
    defs₀ (F := F) .tc cfg0.body (cfg0.bodyArgs t (cfg0.slots t)) = bodyAt0 t := by
  unfold defs₀; rw [Defs.onTc_tc]

theorem obligation (c : Dev nD) :
    BodyObligation (data (F := F) m 0 c) (defs₀ (F := F)) Variants.none () Set.univ isResult := fun t => by
  rw [bigSep_W0, bigSep_W0, body_row]
  exact triple_restated (body_at m c t) rfl .rfl fun _ => .rfl

set_option backward.isDefEq.respectTransparency.types false in
theorem run : θ_run defs (onTc (τ := τ) (main (F := F))) ⟨m, fun _ => 0, ρ⟩ (fun r =>
    Pipeline.RDat.FramePost (cfgs 0) (fun c => (data m 0 c).toRForget isResult) (V m) r
      ∧ r.2.sem = fun _ => 0) :=
  Pipeline.θ_run_frame_forget (Q' := _) cfgs (data m) (0 : Fin 1) launch0 defs₀ Variants.none isResult m ρ main
    (hbody := fun c => (obligation m c).loose) (hshare := fun c => (data m 0 c).share_full fun _ => rfl)
    (howed := fun _ _ => rfl) (V := V m) (hmain := hmain m Variants.none) (hA := arr_eq m) (hΦ := fun _ _ => rfl)

/-- The frame, for any values: the arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c).2 main_arg0 (Pipeline.mem_restRefs_of main_arg0 (by decide) (by decide)) |>.trans (V_main_arg0 m c),
      (Pipeline.RDat.FramePost.arr_in h.1 c 0 rfl).trans ((arr_eq m c 0).trans (V_main_arg1 m c)),
      (h.1 c).2 main_arg2 (Pipeline.mem_restRefs_of main_arg2 (by decide) (by decide)) |>.trans
        (V_main_arg2 m c)⟩, h.2⟩) (run m ρ)

end Cert.WindowIdeal.Hand

end
-- ==== Proof.PlaceTable.lean ====
/- The chip's number is one of four, so the blocks it names lie inside the array. -/
module

public import proofs.«01_k».proof.Defs
public import proofs.«01_k».proof.Proof.Gen.Place.Frame
public import proofs.«01_k».proof.Proof.Gen.PlaceIdeal.Frame
public import proofs.«01_k».proof.Proof.Gen.Pre_place_of_four
public import proofs.«01_k».proof.Proof.ChipSumTable

set_option maxRecDepth 16384
@[expose] public section
noncomputable section
open Idealize.ShloMosaic Idealize.ShloMosaic.TcCoe Idealize.SL.Sem
namespace Cert.PlaceTable

/-- What the precondition says of the chip's number. -/
theorem word {F : FTy → Type} [FloatOps F] (x : FVec F ⟨3, ![2, 1024, 1408]⟩ .f32) (w : IVec ⟨1, ![1]⟩ 32)
    (h : (letI := Cert.Pre_place_of_four.Gen.facts; (Cert.Pre_place_of_four.fn (F := F) x w).1 = (fun _ => 1#1) ∧ (Cert.Pre_place_of_four.fn (F := F) x w).2 = (fun _ => 1#1))) :
    (w (ix1 0)).toNat < 4 ∧ (w (ix1 0)).toInt = (w (ix1 0)).toNat :=
  Cert.ChipSumTable.word (fun _ => x (ix3 0 0 0)) (fun _ => x (ix3 0 0 0)) w h

section ideal
open Cert.PlaceIdeal Cert.PlaceIdeal.Gen
variable {F : FTy → Type} [FloatOps F] (m : (ℓ : Loc nD τ sig) → Buf (Elt F) ℓ)
/-- The block the index map names. -/
theorem index (i : grid0.Coords) : cc0_transform_1 Facts₀.inb_S1_S1_0 Facts₀.numel1_S1 (tbl m) i = ![0, (i 0).val, (m ((0 : Dev nD).tc.loc main_arg1) (ix1 0)).toNat] := by
  have e : (tbl m).at 0 (Rect.unit (s := S1) ![0] S1.size Facts₀.inb_S1_S1_0) Facts₀.numel1_S1 = m ((0 : Dev nD).tc.loc main_arg1) (ix1 0) :=
    (congrFun (V_main_arg1 m 0) _).trans (congrArg (m ((0 : Dev nD).tc.loc main_arg1)) (ChipSumTable.one _ _))
  have hi : (BitVec.ofNat 32 (i 0).val).toNat = (i 0).val := Nat.mod_eq_of_lt (lt_trans (i 0).isLt (by decide))
  unfold cc0_transform_1
  rw [e]
  dsimp only
  rw [hi]
  rfl
/-- Every block named lies inside the array. -/
theorem ok (h : (m ((0 : Dev nD).tc.loc main_arg1) (ix1 0)).toNat < 4) : Ok m := by
  intro i
  rw [index]
  exact (by decide +kernel : ∀ (i w : Fin 4), ∃ h : (∀ a, ((![0, i.val, w.val] : Fin 3 → Nat) a + 1) * S1x256x1408.size a ≤ S1x1024x5632.size a),
    EltTy.bits .bf16 = 32 ∨ (Rect.block (s := S1x1024x5632) S1x256x1408.size ![0, i.val, w.val] h).WholeWords (EltTy.packing .bf16)) (i 0) ⟨_, h⟩
/-- The precondition gives the region's side condition. -/
theorem ok_of_pre (m : (ℓ : Loc nD τ sig) → Buf (Elt Ideal) ℓ) (h : letI := Cert.Pre_place_of_four.Gen.facts; Cert.Pre_PlaceIdeal m) : Ok m :=
  ok m (word _ _ (h 0)).1
end ideal

/-- The same for the kernel as printed, whose index map and array are the same. -/
theorem ok_bits (m : (ℓ : Loc Cert.Place.nD Cert.Place.τ Cert.Place.sig) → Buf (Elt Bits) ℓ) (h : letI := Cert.Pre_place_of_four.Gen.facts; Cert.Pre_Place m) : Cert.Place.Gen.Ok m :=
  ok (F := Bits) m (word _ _ (h 0)).1

end Cert.PlaceTable
end
end
-- ==== Proof.PlaceValue.lean ====
/- What the packing call leaves in the chip's own quarter of the placed array, entry by entry. -/
module

public import proofs.«01_k».proof.Proof.PlaceTable
public import Idealize.ShloMosaic.Lib.Claim
public import Idealize.ShloMosaic.Lib.Pointwise
public import Idealize.ShloMosaic.Lib.Pipeline.Covers
public import Idealize.ShloMosaic.Lib.Pipeline.ValueKit
public import Idealize.ShloMosaic.Lib.Pipeline.ReadBack
public import Idealize.ShloMosaic.Lib.StableHlo.ReadAt

set_option maxRecDepth 16384
@[expose] public section
noncomputable section
open Idealize.ShloMosaic Idealize.ShloMosaic.TcCoe Idealize.SL.Sem
open Cert.PlaceIdeal Cert.PlaceIdeal.Gen
namespace Cert.PlaceIdeal.Math

/-- A column of a chip's quarter. -/
def col (c : Fin 4) (k : Fin 1408) : Fin 5632 := ⟨c.val * 1408 + k.val, by omega⟩

variable (m : (ℓ : Loc nD τ sig) → Buf (Elt Ideal) ℓ) (hO : Ok m) (c : Dev nD) {n : Fin 4}
  (hn : m ((0 : Dev nD).tc.loc main_arg1) (ix1 0) = BitVec.ofNat 32 n.val)

theorem coords : ∀ t : Fin grid0.N, (grid0.coords t 0).val = t.val := by decide +kernel
theorem idx0 (t : Fin (cfgM m hO).N) : ((cfgM m hO).win 0).index t = ![0, t.val, 0] :=
  (by decide +kernel : ∀ t : Fin grid0.N, cc0_transform_0 (grid0.coords t) = ![0, t.val, 0]) t
include hn in
theorem idx1 (t : Fin (cfgM m hO).N) : ((cfgM m hO).win 1).index t = ![0, t.val, n.val] := by
  refine (PlaceTable.index m (grid0.coords t)).trans ?_
  rw [hn, coords t]
  congr 3
  exact Nat.mod_eq_of_lt (lt_trans n.isLt (by decide))
include hn in
/-- Points write different blocks. -/
theorem inj1 (t t' : Fin (cfgM m hO).N) (h : ((cfgM m hO).win 1).index t = ((cfgM m hO).win 1).index t') : t = t' := by
  rw [idx1 m hO hn, idx1 m hO hn] at h
  exact Fin.ext (congrFun h 1)
include hn in
/-- So each is written back at its point. -/
theorem flush1 (t : Fin (cfgM m hO).N) : ((cfgM m hO).win 1).flush t = true := by
  unfold Pipeline.Window.flush
  rw [Bool.and_eq_true]
  refine ⟨rfl, ?_⟩
  by_cases h : t.val + 1 < (cfgM m hO).grid.N
  · rw [Bool.or_eq_true]
    exact Or.inr (decide_eq_true ⟨h, fun e => absurd (congrArg Fin.val (inj1 m hO hn _ _ e)) (by simp)⟩)
  · rw [Bool.or_eq_true]
    exact Or.inl (decide_eq_true (by have := t.isLt; change t.val < (cfgM m hO).grid.N at this; omega))

/-- Row `i` of a grid point's quarter. -/
def row (t : Fin (cfgM m hO).N) (i : Fin 256) : Fin 1024 := ⟨t.val * 256 + i.val, by have : t.val < 4 := t.isLt; omega⟩
variable (t : Fin (cfgM m hO).N) (i : Fin 256) (k : Fin 1408)

theorem blk0 : iblk m hO c 0 t (ix3 0 i k) = m ((c : Thread nD τ).loc main_arg0) (ix3 0 (row m hO t i) k) := by
  refine Eq.trans ?_ (congrFun (V_main_arg0 m c) _)
  blk_point [iblk, idx0 m hO t]
  all_goals rfl

theorem point : (dats m hO 0 c).after 1 t (ix3 0 i k) = m ((c : Thread nD τ).loc main_arg0) (ix3 0 (row m hO t i) k) := by
  rw [after0_1]
  refine Eq.trans ?_ (blk0 m hO c t i k)
  unfold outsAt0
  frame_out
  pointwise [k0_pay1]
  exact congrFun ((hs0_0 m hO t).read_unread _) _

include hn in
/-- The chip's quarter of the array is the shard's first layer. -/
theorem block : (dats m hO 0 c).arrAt 1 (cfgM m hO).N (ix3 0 (row m hO t i) (col n k)) = m ((c : Thread nD τ).loc main_arg0) (ix3 0 (row m hO t i) k) := by
  refine Eq.trans ?_ (point m hO c t i k)
  have h := congrFun ((dats m hO 0 c).read_blk_arrAt_eq_flushed 1 (fun t t' _ _ hne => ((cfgM m hO).win 1).disjoint_blk fun e => hne (inj1 m hO hn t t' e)) (cfgM m hO).N t t.isLt (flush1 m hO hn t))
    (ix3 (0 : Fin 1) i k)
  generalize (dats m hO 0 c).arrAt 1 (cfgM m hO).N = A at h ⊢
  have e : (((cfgM m hO).win 1).blk t).view.emb (ix3 (0 : Fin 1) i k) = (ix3 0 (row m hO t i) (col n k) : S1x1024x5632.Idx) := by
    blk_ext [idx1 m hO hn t]
    all_goals rfl
  rw [← e]
  exact h
include hn in
theorem final (r : Fin 1024) : (dats m hO 0 c).arrAt 1 (cfgM m hO).N (ix3 0 r (col n k)) = m ((c : Thread nD τ).loc main_arg0) (ix3 0 r k) := by
  have e : row m hO ⟨r.val / 256, (by omega : r.val / 256 < 4)⟩ ⟨r.val % 256, by omega⟩ = r := Fin.ext (show r.val / 256 * 256 + r.val % 256 = r.val by omega)
  rw [← e]
  exact block m hO c hn _ _ k

/-- The comparisons made before the call read the chip's number. -/
theorem below : V0 m c (Proc.tc.devRef main_v1) = (fun _ => IntOp.cmpi .slt (m ((c : Thread nD τ).loc main_arg1) (ix1 0)) 1#32 : IVec S_ 1)
    ∧ V0 m c (Proc.tc.devRef main_v3) = (fun _ => IntOp.cmpi .slt (m ((c : Thread nD τ).loc main_arg1) (ix1 0)) 2#32 : IVec S_ 1)
    ∧ V0 m c (Proc.tc.devRef main_v5) = (fun _ => IntOp.cmpi .slt (m ((c : Thread nD τ).loc main_arg1) (ix1 0)) 3#32 : IVec S_ 1) := by
  refine ⟨?_, ?_, ?_⟩
  all_goals
    simp only [V0, hostOps0, List.flatten_cons, List.flatten_nil, List.append_nil, List.cons_append, List.nil_append]
    after_results_simp
    funext z
    pointwise

include hn in
/-- The host's selection after the kernel keeps that quarter. -/
theorem selected (r : Fin 1024) : Pipeline.afterTail pcfgs (fun _ => adm m hO) (dats m hO) 0 (V0 m) [hostOps1] c main_v13 (ix3 0 r k)
    = m ((c : Thread nD τ).loc main_arg0) (ix3 0 r k) := by
  refine Eq.trans ?_ (final m hO c hn k r)
  unfold Pipeline.afterTail
  simp only [hostOps1, List.flatten_cons, List.flatten_nil, List.append_nil, List.cons_append, List.nil_append]
  after_results_simp
  have h6 := Pipeline.withArrays_arr (Pipeline.pin pcfgs (fun x => adm m hO) 0).spec (winFacts0.arr_inj) c (V0 m c) (fun w => (dats m hO 0 c).arrAt w (Pipeline.pin pcfgs (fun x => adm m hO) 0).N) 1
  have hb : ∀ b : Ref sig .tc, b ≠ main_arg0 → b ≠ main_v6 → _ := fun b h0 h1 =>
    Pipeline.withArrays_of_ne (Pipeline.pin pcfgs (fun x => adm m hO) 0).spec c (V0 m c) (fun w => (dats m hO 0 c).arrAt w (Pipeline.pin pcfgs (fun x => adm m hO) 0).N) b
      (fun w => match w with | 0 => h0.symm | 1 => h1.symm)
  rw [hb main_v1 (by decide) (by decide), hb main_v3 (by decide) (by decide), hb main_v5 (by decide) (by decide), (below m c).1, (below m c).2.1, (below m c).2.2]
  refine Eq.trans ?_ (congrFun h6 _)
  change _ = Pipeline.withArrays (Pipeline.pin pcfgs (fun x => adm m hO) 0).spec c (V0 m c) (fun w => (dats m hO 0 c).arrAt w (Pipeline.pin pcfgs (fun x => adm m hO) 0).N) (Proc.tc.devRef main_v6) _
  generalize Pipeline.withArrays (Pipeline.pin pcfgs (fun x => adm m hO) 0).spec c (V0 m c) (fun w => (dats m hO 0 c).arrAt w (Pipeline.pin pcfgs (fun x => adm m hO) 0).N) (Proc.tc.devRef main_v6) = A
  obtain rfl : c = 0 := Subsingleton.elim (α := Fin 1) _ _
  rw [hn]
  pointwise
  match n with
  | 0 => exact congrArg (fun k => A (ix3 0 r k)) (Fin.ext (show k.val = 0 * 1408 + k.val by omega))
  | 1 => exact congrArg (fun k => A (ix3 0 r k)) (Fin.ext (show 1408 + k.val = 1 * 1408 + k.val by omega))
  | 2 => exact congrArg (fun k => A (ix3 0 r k)) (Fin.ext (show 2816 + k.val = 2 * 1408 + k.val by omega))
  | 3 => exact congrArg (fun k => A (ix3 0 r k)) (Fin.ext (show 4224 + k.val = 3 * 1408 + k.val by omega))

end Cert.PlaceIdeal.Math
end
end
-- ==== Proof.PlaceClaim.lean ====
/- The claims about the call that rounds a chip's part of a weight and puts it in the chip's own quarter. -/
module

public import proofs.«01_k».proof.Defs
public import proofs.«01_k».proof.Proof.PlaceValue
public import proofs.«01_k».proof.Proof.Gen.PlaceRefIdeal.Run
public import proofs.«01_k».proof.Proof.Gen.PlaceRefIdeal.Read
public import Idealize.ShloMosaic.Lib.Quiescent

set_option maxRecDepth 16384

@[expose] public section
noncomputable section

open Idealize.ShloMosaic Idealize.ShloMosaic.TcCoe Idealize.SL.Sem

namespace Cert.PlaceClaim

/-- The side conditions of the precondition. -/
abbrev preFacts : Cert.Pre_place_of_four.Facts := Cert.Pre_place_of_four.Gen.facts

/-- The kernel runs and leaves its arguments as they were. -/
theorem frame : Cert.quiescent_Place (hPlace := Cert.Place.Gen.facts) (hPre_place_of_four := preFacts) :=
  fun m ρ h => Cert.Place.Gen.frame m ρ (Cert.PlaceTable.ok_bits m h)
/-- So does its idealization. -/
theorem idealFrame : Cert.quiescent_PlaceIdeal (hPlaceIdeal := Cert.PlaceIdeal.Gen.facts) (hPre_place_of_four := preFacts) :=
  fun m ρ h => Cert.PlaceIdeal.Gen.frame m ρ (Cert.PlaceTable.ok_of_pre m h)
/-- The reference runs and leaves its arguments as they were. -/
theorem refFrame : Cert.quiescent_PlaceRefIdeal (hPlaceRefIdeal := Cert.PlaceRefIdeal.Gen.facts) :=
  fun m ρ _ => (θ_run Cert.PlaceRefIdeal.defs _ _).mono
    (fun r h => ⟨fun c => (h c).2, Idealize.ShloMosaic.sem_eq_zero_of_no_sems (by decide) r.2⟩)
    (Cert.PlaceRefIdeal.Value.run (F := Ideal) m ρ)

section run
open Cert.PlaceIdeal Cert.PlaceIdeal.Gen
/-- The result: the shard's first layer. -/
def layer (x : Vec Ideal S2x1024x1408 .f32) : Vec Ideal S1x1024x1408 .bf16 := fun j => x (ix3 0 (j 1) (j 2))

/-- The run, with the result array named. -/
theorem run (m : (ℓ : Loc nD τ sig) → Buf (Elt Ideal) ℓ) (ρ : Dev nD → PrngReg) (hO : Ok m) (n : Fin 4)
    (hn : m ((0 : Dev nD).tc.loc main_arg1) (ix1 0) = BitVec.ofNat 32 n.val) :
    θ_run defs (onTc (τ := τ) (main (F := Ideal))) ⟨m, fun _ => 0, ρ⟩ fun r => ∀ c : Dev nD,
      r.2.mem ((c : Thread nD τ).loc main_v13) = layer (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨((h.1 c).2 main_v13 (Pipeline.mem_restRefs_of main_v13 (by decide) (fun w => match w with | 0 => (by decide : main_arg0 ≠ main_v13) | 1 => (by decide : main_v6 ≠ main_v13)))).trans ?_, h.2 c⟩)
    (θ_run_and (run_main m ρ hO) (unchanged m ρ hO))
  funext j
  obtain ⟨z, i, k, rfl⟩ : ∃ z i k, j = ix3 z i k := ⟨j 0, j 1, j 2, eq_ix3 j⟩
  obtain rfl : z = 0 := Subsingleton.elim _ _
  exact Math.selected m hO c hn k i
end run

/-- Kernel and reference end with the same array. -/
theorem algebraic : Cert.algebraic_PlaceIdeal_PlaceRefIdeal (hPlaceIdeal := Cert.PlaceIdeal.Gen.facts)
    (hPlaceRefIdeal := Cert.PlaceRefIdeal.Gen.facts) (hPre_place_of_four := preFacts) := by
  intro m g m' g' hpre hagree
  have hw := (Cert.PlaceTable.word _ _ (hpre 0)).1
  refine ⟨fun c => layer (m ((c.tc : Thread Cert.PlaceIdeal.nD Cert.PlaceIdeal.τ).loc Cert.PlaceIdeal.main_arg0)),
    run m g (Cert.PlaceTable.ok_of_pre m hpre) ⟨_, hw⟩ (by simp), ?_⟩
  refine (θ_run Cert.PlaceRefIdeal.defs _ _).mono (fun r h c => ⟨(h c).1.trans ?_, (h c).2⟩) (Cert.PlaceRefIdeal.Value.run (F := Ideal) m' g')
  rw [Cert.PlaceRefIdeal.Read.val_main_v1_eq, (hagree c).1]
  funext j
  obtain ⟨z, i, k, rfl⟩ : ∃ z i k, j = ix3 z i k := ⟨j 0, j 1, j 2, eq_ix3 j⟩
  obtain rfl : z = 0 := Subsingleton.elim _ _
  unfold Cert.PlaceRefIdeal.Read.val_main_v1 Cert.PlaceRefIdeal.Read.val_main_v0
  pointwise
  rfl

end Cert.PlaceClaim

end
end
-- ==== Proof.lean ====
module

public import proofs.«01_k».proof.Defs
public import proofs.«01_k».proof.Proof.MemNormClaim
public import proofs.«01_k».proof.Proof.Gen.MemNorm.Frame
public import proofs.«01_k».proof.Proof.Gen.MemNormIdeal.Frame
public import proofs.«01_k».proof.Proof.Gen.MemNormRefIdeal.Run
public import proofs.«01_k».proof.Proof.CrossClaim
public import proofs.«01_k».proof.Proof.Gen.Cross.Frame
public import proofs.«01_k».proof.Proof.Gen.CrossIdeal.Frame
public import proofs.«01_k».proof.Proof.Gen.CrossRefIdeal.Run
public import proofs.«01_k».proof.Proof.ShortConvClaim
public import proofs.«01_k».proof.Proof.Gen.ShortConv.Frame
public import proofs.«01_k».proof.Proof.Gen.ShortConvIdeal.Frame
public import proofs.«01_k».proof.Proof.Gen.ShortConvRefIdeal.Run
public import proofs.«01_k».proof.Proof.NormEvenClaim
public import proofs.«01_k».proof.Proof.Gen.NormEven.Frame
public import proofs.«01_k».proof.Proof.Gen.NormEvenIdeal.Frame
public import proofs.«01_k».proof.Proof.Gen.NormEvenRefIdeal.Run
public import proofs.«01_k».proof.Proof.NormOddClaim
public import proofs.«01_k».proof.Proof.Gen.NormOdd.Frame
public import proofs.«01_k».proof.Proof.Gen.NormOddIdeal.Frame
public import proofs.«01_k».proof.Proof.Gen.NormOddRefIdeal.Run
public import proofs.«01_k».proof.Proof.LossClaim
public import proofs.«01_k».proof.Proof.Gen.Loss.Frame
public import proofs.«01_k».proof.Proof.Gen.LossIdeal.Frame
public import proofs.«01_k».proof.Proof.Gen.LossRefIdeal.Run
public import proofs.«01_k».proof.Proof.FfnClaim
public import proofs.«01_k».proof.Proof.Gen.Ffn.Frame
public import proofs.«01_k».proof.Proof.Gen.FfnIdeal.Frame
public import proofs.«01_k».proof.Proof.Gen.FfnRefIdeal.Run
public import proofs.«01_k».proof.Proof.CrossFwdClaim
public import proofs.«01_k».proof.Proof.Gen.CrossFwd.Frame
public import proofs.«01_k».proof.Proof.Gen.CrossFwdIdeal.Frame
public import proofs.«01_k».proof.Proof.Gen.CrossFwdRefIdeal.Run
public import proofs.«01_k».proof.Proof.FfnFwdClaim
public import proofs.«01_k».proof.Proof.Gen.FfnFwd.Frame
public import proofs.«01_k».proof.Proof.Gen.FfnFwdIdeal.Frame
public import proofs.«01_k».proof.Proof.Gen.FfnFwdRefIdeal.Run
public import proofs.«01_k».proof.Proof.ShortConvFwdClaim
public import proofs.«01_k».proof.Proof.Gen.ShortConvFwd.Frame
public import proofs.«01_k».proof.Proof.Gen.ShortConvFwdIdeal.Frame
public import proofs.«01_k».proof.Proof.Gen.ShortConvFwdRefIdeal.Run
public import proofs.«01_k».proof.Proof.MemNormFwdClaim
public import proofs.«01_k».proof.Proof.Gen.MemNormFwd.Frame
public import proofs.«01_k».proof.Proof.Gen.MemNormFwdIdeal.Frame
public import proofs.«01_k».proof.Proof.Gen.MemNormFwdRefIdeal.Run
public import proofs.«01_k».proof.Proof.NormFwdClaim
public import proofs.«01_k».proof.Proof.Gen.NormFwd.Frame
public import proofs.«01_k».proof.Proof.Gen.NormFwdIdeal.Frame
public import proofs.«01_k».proof.Proof.Gen.NormFwdRefIdeal.Run
public import proofs.«01_k».proof.Proof.WindowFwdClaim
public import proofs.«01_k».proof.Proof.Gen.WindowFwd.Frame
public import proofs.«01_k».proof.Proof.Gen.WindowFwdIdeal.Frame
public import proofs.«01_k».proof.Proof.Gen.WindowFwdRefIdeal.Run
public import proofs.«01_k».proof.Proof.ProductClaim
public import proofs.«01_k».proof.Proof.Gen.Product.Frame
public import proofs.«01_k».proof.Proof.Gen.ProductIdeal.Frame
public import proofs.«01_k».proof.Proof.Gen.ProductRefIdeal.Run
public import proofs.«01_k».proof.Proof.AdamClaim
public import proofs.«01_k».proof.Proof.Gen.Adam.Frame
public import proofs.«01_k».proof.Proof.Gen.AdamIdeal.Frame
public import proofs.«01_k».proof.Proof.Gen.AdamRefIdeal.Run
public import proofs.«01_k».proof.Proof.ChipSumClaim
public import proofs.«01_k».proof.Proof.Gen.ChipSum.Frame
public import proofs.«01_k».proof.Proof.Gen.ChipSumIdeal.Frame
public import proofs.«01_k».proof.Proof.Gen.ChipSumRefIdeal.Run
public import proofs.«01_k».proof.Proof.ConvAFwdClaim
public import proofs.«01_k».proof.Proof.Gen.ConvAFwd.Frame
public import proofs.«01_k».proof.Proof.Gen.ConvAFwdIdeal.Frame
public import proofs.«01_k».proof.Proof.Gen.ConvAFwdRefIdeal.Run
public import proofs.«01_k».proof.Proof.ConvAClaim
public import proofs.«01_k».proof.Proof.Gen.ConvA.Frame
public import proofs.«01_k».proof.Proof.Gen.ConvAIdeal.Frame
public import proofs.«01_k».proof.Proof.Gen.ConvARefIdeal.Run
public import proofs.«01_k».proof.Proof.WindowClaim
public import proofs.«01_k».proof.Proof.WindowHandFrame
public import proofs.«01_k».proof.Proof.WindowIdealHandFrame
public import proofs.«01_k».proof.Proof.Gen.WindowRefIdeal.Run
public import proofs.«01_k».proof.Proof.PlaceClaim

@[expose] public section

noncomputable section

namespace Cert.Proof

open Idealize.ShloMosaic Idealize.SL.Sem

theorem claim : Cert.Claim :=
  ⟨Cert.MemNorm.Gen.facts,
    Cert.MemNormIdeal.Gen.facts,
    Cert.MemNormRefIdeal.Gen.facts,
    Cert.Cross.Gen.facts,
    Cert.CrossIdeal.Gen.facts,
    Cert.CrossRefIdeal.Gen.facts,
    Cert.ShortConv.Gen.facts,
    Cert.ShortConvIdeal.Gen.facts,
    Cert.ShortConvRefIdeal.Gen.facts,
    Cert.NormEven.Gen.facts,
    Cert.NormEvenIdeal.Gen.facts,
    Cert.NormEvenRefIdeal.Gen.facts,
    Cert.NormOdd.Gen.facts,
    Cert.NormOddIdeal.Gen.facts,
    Cert.NormOddRefIdeal.Gen.facts,
    Cert.Loss.Gen.facts,
    Cert.LossIdeal.Gen.facts,
    Cert.LossRefIdeal.Gen.facts,
    Cert.Ffn.Gen.facts,
    Cert.FfnIdeal.Gen.facts,
    Cert.FfnRefIdeal.Gen.facts,
    Cert.CrossFwd.Gen.facts,
    Cert.CrossFwdIdeal.Gen.facts,
    Cert.CrossFwdRefIdeal.Gen.facts,
    Cert.FfnFwd.Gen.facts,
    Cert.FfnFwdIdeal.Gen.facts,
    Cert.FfnFwdRefIdeal.Gen.facts,
    Cert.ShortConvFwd.Gen.facts,
    Cert.ShortConvFwdIdeal.Gen.facts,
    Cert.ShortConvFwdRefIdeal.Gen.facts,
    Cert.MemNormFwd.Gen.facts,
    Cert.MemNormFwdIdeal.Gen.facts,
    Cert.MemNormFwdRefIdeal.Gen.facts,
    Cert.NormFwd.Gen.facts,
    Cert.NormFwdIdeal.Gen.facts,
    Cert.NormFwdRefIdeal.Gen.facts,
    Cert.WindowFwd.Gen.facts,
    Cert.WindowFwdIdeal.Gen.facts,
    Cert.WindowFwdRefIdeal.Gen.facts,
    Cert.Product.Gen.facts,
    Cert.ProductIdeal.Gen.facts,
    Cert.ProductRefIdeal.Gen.facts,
    Cert.Adam.Gen.facts,
    Cert.AdamIdeal.Gen.facts,
    Cert.AdamRefIdeal.Gen.facts,
    Cert.ChipSum.Gen.facts,
    Cert.ChipSumIdeal.Gen.facts,
    Cert.ChipSumRefIdeal.Gen.facts,
    Cert.ConvAFwd.Gen.facts,
    Cert.ConvAFwdIdeal.Gen.facts,
    Cert.ConvAFwdRefIdeal.Gen.facts,
    Cert.ConvA.Gen.facts,
    Cert.ConvAIdeal.Gen.facts,
    Cert.ConvARefIdeal.Gen.facts,
    Cert.Window.Gen.facts,
    Cert.WindowIdeal.Gen.facts,
    Cert.WindowRefIdeal.Gen.facts,
    Cert.Place.Gen.facts,
    Cert.PlaceIdeal.Gen.facts,
    Cert.PlaceRefIdeal.Gen.facts,
    Cert.CrossClaim.preFacts,
    Cert.FfnClaim.preFacts,
    Cert.CrossFwdClaim.preFacts,
    Cert.WindowFwdClaim.preFacts,
    Cert.ChipSumClaim.preFacts,
    Cert.ConvAClaim.preFacts,
    Cert.PlaceClaim.preFacts,
    fun m ρ _ => Cert.MemNorm.Gen.frame m ρ,
    fun m ρ _ => Cert.MemNormIdeal.Gen.frame m ρ,
    Cert.MemNormClaim.refFrame,
    fun m ρ _ => Cert.Cross.Gen.frame m ρ,
    fun m ρ _ => Cert.CrossIdeal.Gen.frame m ρ,
    fun m ρ _ => Cert.CrossIdeal.Gen.frame m ρ,
    Cert.CrossClaim.refFrame,
    fun m ρ _ => (Cert.CrossClaim.refFrame) m ρ trivial,
    fun m ρ _ => Cert.ShortConv.Gen.frame m ρ,
    fun m ρ _ => Cert.ShortConvIdeal.Gen.frame m ρ,
    Cert.ShortConvClaim.refFrame,
    fun m ρ _ => Cert.NormEven.Gen.frame m ρ,
    fun m ρ _ => Cert.NormEvenIdeal.Gen.frame m ρ,
    Cert.NormEvenClaim.refFrame,
    fun m ρ _ => Cert.NormOdd.Gen.frame m ρ,
    fun m ρ _ => Cert.NormOddIdeal.Gen.frame m ρ,
    Cert.NormOddClaim.refFrame,
    fun m ρ _ => Cert.Loss.Gen.frame m ρ,
    fun m ρ _ => Cert.LossIdeal.Gen.frame m ρ,
    Cert.LossClaim.refFrame,
    fun m ρ _ => Cert.Ffn.Gen.frame m ρ,
    fun m ρ _ => Cert.FfnIdeal.Gen.frame m ρ,
    fun m ρ _ => Cert.FfnIdeal.Gen.frame m ρ,
    Cert.FfnClaim.refFrame,
    fun m ρ _ => (Cert.FfnClaim.refFrame) m ρ trivial,
    fun m ρ _ => Cert.CrossFwd.Gen.frame m ρ,
    fun m ρ _ => Cert.CrossFwdIdeal.Gen.frame m ρ,
    fun m ρ _ => Cert.CrossFwdIdeal.Gen.frame m ρ,
    Cert.CrossFwdClaim.refFrame,
    fun m ρ _ => (Cert.CrossFwdClaim.refFrame) m ρ trivial,
    fun m ρ _ => Cert.FfnFwd.Gen.frame m ρ,
    fun m ρ _ => Cert.FfnFwdIdeal.Gen.frame m ρ,
    Cert.FfnFwdClaim.refFrame,
    fun m ρ _ => Cert.ShortConvFwd.Gen.frame m ρ,
    fun m ρ _ => Cert.ShortConvFwdIdeal.Gen.frame m ρ,
    Cert.ShortConvFwdClaim.refFrame,
    fun m ρ _ => Cert.MemNormFwd.Gen.frame m ρ,
    fun m ρ _ => Cert.MemNormFwdIdeal.Gen.frame m ρ,
    Cert.MemNormFwdClaim.refFrame,
    fun m ρ _ => Cert.NormFwd.Gen.frame m ρ,
    fun m ρ _ => Cert.NormFwdIdeal.Gen.frame m ρ,
    Cert.NormFwdClaim.refFrame,
    fun m ρ _ => Cert.WindowFwd.Gen.frame m ρ,
    fun m ρ _ => Cert.WindowFwdIdeal.Gen.frame m ρ,
    fun m ρ _ => Cert.WindowFwdIdeal.Gen.frame m ρ,
    Cert.WindowFwdClaim.refFrame,
    fun m ρ _ => (Cert.WindowFwdClaim.refFrame) m ρ trivial,
    fun m ρ _ => Cert.Product.Gen.frame m ρ,
    fun m ρ _ => Cert.ProductIdeal.Gen.frame m ρ,
    Cert.ProductClaim.refFrame,
    fun m ρ _ => Cert.Adam.Gen.frame m ρ,
    fun m ρ _ => Cert.AdamIdeal.Gen.frame m ρ,
    Cert.AdamClaim.refFrame,
    Cert.ChipSumClaim.frame,
    Cert.ChipSumClaim.idealFrame,
    Cert.ChipSumClaim.refFrame,
    fun m ρ _ => (Cert.ChipSumClaim.refFrame) m ρ trivial,
    fun m ρ _ => Cert.ConvAFwd.Gen.frame m ρ,
    fun m ρ _ => Cert.ConvAFwdIdeal.Gen.frame m ρ,
    Cert.ConvAFwdClaim.refFrame,
    fun m ρ _ => Cert.ConvA.Gen.frame m ρ,
    fun m ρ _ => Cert.ConvAIdeal.Gen.frame m ρ,
    fun m ρ _ => Cert.ConvAIdeal.Gen.frame m ρ,
    Cert.ConvAClaim.refFrame,
    fun m ρ _ => (Cert.ConvAClaim.refFrame) m ρ trivial,
    fun m ρ _ => Cert.Window.Hand.frame m ρ,
    fun m ρ _ => Cert.WindowIdeal.Hand.frame m ρ,
    Cert.WindowClaim.refFrame,
    Cert.PlaceClaim.frame,
    Cert.PlaceClaim.idealFrame,
    Cert.PlaceClaim.refFrame,
    fun m ρ _ => (Cert.PlaceClaim.refFrame) m ρ trivial,
    trivial,
    Cert.MemNormClaim.algebraic,
    trivial,
    Cert.CrossClaim.algebraic,
    trivial,
    Cert.ShortConvClaim.algebraic,
    trivial,
    Cert.NormEvenClaim.algebraic,
    trivial,
    Cert.NormOddClaim.algebraic,
    trivial,
    Cert.LossClaim.algebraic,
    trivial,
    Cert.FfnClaim.algebraic,
    trivial,
    Cert.CrossFwdClaim.algebraic,
    trivial,
    Cert.FfnFwdClaim.algebraic,
    trivial,
    Cert.ShortConvFwdClaim.algebraic,
    trivial,
    Cert.MemNormFwdClaim.algebraic,
    trivial,
    Cert.NormFwdClaim.algebraic,
    IdealRules.named_const.statement _ _ _ _ _ rfl,
    Cert.WindowFwdClaim.algebraic,
    trivial,
    Cert.ProductClaim.algebraic,
    trivial,
    Cert.AdamClaim.algebraic,
    trivial,
    Cert.ChipSumClaim.algebraic,
    trivial,
    Cert.ConvAFwdClaim.algebraic,
    trivial,
    Cert.ConvAClaim.algebraic,
    IdealRules.named_const.statement _ _ _ _ _ rfl,
    trivial,
    Cert.PlaceClaim.algebraic⟩

end Cert.Proof

end
